-- ==== Defs.lean ====
def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_finite_norm [hPre_finite_norm : Cert.Pre_finite_norm.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_finite_norm.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4))) = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_finite_loss [hPre_finite_loss : Cert.Pre_finite_loss.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_finite_loss.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3)) (m ((c.tc : Thread Cert.LossBwdIdeal.nD Cert.LossBwdIdeal.τ).loc Cert.LossBwdIdeal.main_arg4)) (m ((c.tc : Thread Cert.LossBwdIdeal.nD Cert.LossBwdIdeal.τ).loc Cert.LossBwdIdeal.main_arg5))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_attn_fwd [hPre_finite_attn_fwd : Cert.Pre_finite_attn_fwd.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_attn_fwd.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_finite_attn_fwd [hPre_finite_attn_fwd : Cert.Pre_finite_attn_fwd.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_finite_attn_fwd.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))) = (fun _ => 1#1)

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_finite_proj [hPre_finite_proj : Cert.Pre_finite_proj.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_finite_proj.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_proj [hPre_finite_proj : Cert.Pre_finite_proj.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9))) = (fun _ => 1#1)

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_finite_gate [hPre_finite_gate : Cert.Pre_finite_gate.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_finite_gate.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3)) (m ((c.tc : Thread Cert.GateRefIdeal.nD Cert.GateRefIdeal.τ).loc Cert.GateRefIdeal.main_arg4))) = (fun _ => 1#1)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdIdeal_pre_finite_norm [hNormBwdIdeal : Cert.NormBwdIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_finite_norm m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5)
      ∧ r.2.mem ((c.tc : Thread Cert.MixBwd.nD Cert.MixBwd.τ).loc Cert.MixBwd.main_arg6) = m ((c.tc : Thread Cert.MixBwd.nD Cert.MixBwd.τ).loc Cert.MixBwd.main_arg6)
      ∧ r.2.mem ((c.tc : Thread Cert.MixBwd.nD Cert.MixBwd.τ).loc Cert.MixBwd.main_arg7) = m ((c.tc : Thread Cert.MixBwd.nD Cert.MixBwd.τ).loc Cert.MixBwd.main_arg7)
      ∧ r.2.mem ((c.tc : Thread Cert.MixBwd.nD Cert.MixBwd.τ).loc Cert.MixBwd.main_arg8) = m ((c.tc : Thread Cert.MixBwd.nD Cert.MixBwd.τ).loc Cert.MixBwd.main_arg8)
      ∧ r.2.mem ((c.tc : Thread Cert.MixBwd.nD Cert.MixBwd.τ).loc Cert.MixBwd.main_arg9) = m ((c.tc : Thread Cert.MixBwd.nD Cert.MixBwd.τ).loc Cert.MixBwd.main_arg9))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
      ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
      ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
      ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
      ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4)
      ∧ r.2.mem ((c.tc : Thread Cert.LossBwd.nD Cert.LossBwd.τ).loc Cert.LossBwd.main_arg5) = m ((c.tc : Thread Cert.LossBwd.nD Cert.LossBwd.τ).loc Cert.LossBwd.main_arg5))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossBwdIdeal_pre_finite_loss [hLossBwdIdeal : Cert.LossBwdIdeal.Facts] [hPre_finite_loss : Cert.Pre_finite_loss.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_finite_loss m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_attn_fwd [hAttnFwdIdeal : Cert.AttnFwdIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_attn_fwd m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_finite_attn_fwd [hAttnFwdRefIdeal : Cert.AttnFwdRefIdeal.Facts] [hPre_finite_attn_fwd : Cert.Pre_finite_attn_fwd.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_finite_attn_fwd m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6)
      ∧ r.2.mem ((c.tc : Thread Cert.ProjBwd.nD Cert.ProjBwd.τ).loc Cert.ProjBwd.main_arg7) = m ((c.tc : Thread Cert.ProjBwd.nD Cert.ProjBwd.τ).loc Cert.ProjBwd.main_arg7)
      ∧ r.2.mem ((c.tc : Thread Cert.ProjBwd.nD Cert.ProjBwd.τ).loc Cert.ProjBwd.main_arg8) = m ((c.tc : Thread Cert.ProjBwd.nD Cert.ProjBwd.τ).loc Cert.ProjBwd.main_arg8)
      ∧ r.2.mem ((c.tc : Thread Cert.ProjBwd.nD Cert.ProjBwd.τ).loc Cert.ProjBwd.main_arg9) = m ((c.tc : Thread Cert.ProjBwd.nD Cert.ProjBwd.τ).loc Cert.ProjBwd.main_arg9))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9))
      ∧ r.2.sem = fun _ => 0)

def quiescent_ProjBwdIdeal_pre_finite_proj [hProjBwdIdeal : Cert.ProjBwdIdeal.Facts] [hPre_finite_proj : Cert.Pre_finite_proj.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_finite_proj m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9))
      ∧ r.2.sem = fun _ => 0)

def quiescent_ProjRefIdeal_pre_finite_proj [hProjRefIdeal : Cert.ProjRefIdeal.Facts] [hPre_finite_proj : Cert.Pre_finite_proj.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_proj m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdIdeal_pre_finite_gate [hGateBwdIdeal : Cert.GateBwdIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_finite_gate m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def preserves_NormBwd_NormBwdIdeal : Prop :=
  True

def algebraic_NormBwdIdeal_NormRefIdeal_pre_finite_norm [hNormBwdIdeal : Cert.NormBwdIdeal.Facts] [hNormRefIdeal : Cert.NormRefIdeal.Facts] [hPre_finite_norm : Cert.Pre_finite_norm.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormBwdIdeal_finite_norm m →
    (∀ c : Dev Cert.NormBwdIdeal.nD,
      m' ((c.tc : Thread Cert.NormRefIdeal.nD Cert.NormRefIdeal.τ).loc Cert.NormRefIdeal.main_arg0) = m ((c.tc : Thread Cert.NormBwdIdeal.nD Cert.NormBwdIdeal.τ).loc Cert.NormBwdIdeal.main_arg0)
      ∧ m' ((c.tc : Thread Cert.NormRefIdeal.nD Cert.NormRefIdeal.τ).loc Cert.NormRefIdeal.main_arg1) = m ((c.tc : Thread Cert.NormBwdIdeal.nD Cert.NormBwdIdeal.τ).loc Cert.NormBwdIdeal.main_arg1)
      ∧ m' ((c.tc : Thread Cert.NormRefIdeal.nD Cert.NormRefIdeal.τ).loc Cert.NormRefIdeal.main_arg2) = m ((c.tc : Thread Cert.NormBwdIdeal.nD Cert.NormBwdIdeal.τ).loc Cert.NormBwdIdeal.main_arg2)
      ∧ m' ((c.tc : Thread Cert.NormRefIdeal.nD Cert.NormRefIdeal.τ).loc Cert.NormRefIdeal.main_arg3) = m ((c.tc : Thread Cert.NormBwdIdeal.nD Cert.NormBwdIdeal.τ).loc Cert.NormBwdIdeal.main_arg3)
      ∧ m' ((c.tc : Thread Cert.NormRefIdeal.nD Cert.NormRefIdeal.τ).loc Cert.NormRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v7_0)) (v1 : (c : Dev Cert.NormBwdIdeal.nD) → Buf (Elt Ideal) ((c.tc : Thread Cert.NormBwdIdeal.nD Cert.NormBwdIdeal.τ).loc Cert.NormBwdIdeal.main_v7_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v7_0) = v0 c
          ∧ r.2.mem ((c.tc : Thread Cert.NormBwdIdeal.nD Cert.NormBwdIdeal.τ).loc Cert.NormBwdIdeal.main_v7_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v43) = v0 c
          ∧ r.2.mem ((c.tc : Thread Cert.NormRefIdeal.nD Cert.NormRefIdeal.τ).loc Cert.NormRefIdeal.main_v42) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4))

def preserves_AttnBwd_AttnBwdIdeal : Prop :=
  True

def algebraic_AttnBwdIdeal_AttnRefIdeal_pre_finite_attn [hAttnBwdIdeal : Cert.AttnBwdIdeal.Facts] [hAttnRefIdeal : Cert.AttnRefIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnBwdIdeal_finite_attn m →
    (∀ c : Dev Cert.AttnBwdIdeal.nD,
      m' ((c.tc : Thread Cert.AttnRefIdeal.nD Cert.AttnRefIdeal.τ).loc Cert.AttnRefIdeal.main_arg0) = m ((c.tc : Thread Cert.AttnBwdIdeal.nD Cert.AttnBwdIdeal.τ).loc Cert.AttnBwdIdeal.main_arg0)
      ∧ m' ((c.tc : Thread Cert.AttnRefIdeal.nD Cert.AttnRefIdeal.τ).loc Cert.AttnRefIdeal.main_arg1) = m ((c.tc : Thread Cert.AttnBwdIdeal.nD Cert.AttnBwdIdeal.τ).loc Cert.AttnBwdIdeal.main_arg1)
      ∧ m' ((c.tc : Thread Cert.AttnRefIdeal.nD Cert.AttnRefIdeal.τ).loc Cert.AttnRefIdeal.main_arg2) = m ((c.tc : Thread Cert.AttnBwdIdeal.nD Cert.AttnBwdIdeal.τ).loc Cert.AttnBwdIdeal.main_arg2)
      ∧ m' ((c.tc : Thread Cert.AttnRefIdeal.nD Cert.AttnRefIdeal.τ).loc Cert.AttnRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v7_0)) (v1 : (c : Dev Cert.AttnBwdIdeal.nD) → Buf (Elt Ideal) ((c.tc : Thread Cert.AttnBwdIdeal.nD Cert.AttnBwdIdeal.τ).loc Cert.AttnBwdIdeal.main_v7_1)) (v2 : (c : Dev Cert.AttnBwdIdeal.nD) → Buf (Elt Ideal) ((c.tc : Thread Cert.AttnBwdIdeal.nD Cert.AttnBwdIdeal.τ).loc Cert.AttnBwdIdeal.main_v7_2)) (v3 : (c : Dev Cert.AttnBwdIdeal.nD) → Buf (Elt Ideal) ((c.tc : Thread Cert.AttnBwdIdeal.nD Cert.AttnBwdIdeal.τ).loc Cert.AttnBwdIdeal.main_v7_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v7_0) = v0 c
          ∧ r.2.mem ((c.tc : Thread Cert.AttnBwdIdeal.nD Cert.AttnBwdIdeal.τ).loc Cert.AttnBwdIdeal.main_v7_1) = v1 c
          ∧ r.2.mem ((c.tc : Thread Cert.AttnBwdIdeal.nD Cert.AttnBwdIdeal.τ).loc Cert.AttnBwdIdeal.main_v7_2) = v2 c
          ∧ r.2.mem ((c.tc : Thread Cert.AttnBwdIdeal.nD Cert.AttnBwdIdeal.τ).loc Cert.AttnBwdIdeal.main_v7_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v186) = v0 c
          ∧ r.2.mem ((c.tc : Thread Cert.AttnRefIdeal.nD Cert.AttnRefIdeal.τ).loc Cert.AttnRefIdeal.main_v188) = v1 c
          ∧ r.2.mem ((c.tc : Thread Cert.AttnRefIdeal.nD Cert.AttnRefIdeal.τ).loc Cert.AttnRefIdeal.main_v190) = v2 c
          ∧ r.2.mem ((c.tc : Thread Cert.AttnRefIdeal.nD Cert.AttnRefIdeal.τ).loc Cert.AttnRefIdeal.main_v192) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_MixBwd_MixBwdIdeal : Prop :=
  True

def algebraic_MixBwdIdeal_MixRefIdeal [hMixBwdIdeal : Cert.MixBwdIdeal.Facts] [hMixRefIdeal : Cert.MixRefIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)
      ∧ m' ((c.tc : Thread Cert.MixRefIdeal.nD Cert.MixRefIdeal.τ).loc Cert.MixRefIdeal.main_arg6) = m ((c.tc : Thread Cert.MixBwdIdeal.nD Cert.MixBwdIdeal.τ).loc Cert.MixBwdIdeal.main_arg6)
      ∧ m' ((c.tc : Thread Cert.MixRefIdeal.nD Cert.MixRefIdeal.τ).loc Cert.MixRefIdeal.main_arg7) = m ((c.tc : Thread Cert.MixBwdIdeal.nD Cert.MixBwdIdeal.τ).loc Cert.MixBwdIdeal.main_arg7)
      ∧ m' ((c.tc : Thread Cert.MixRefIdeal.nD Cert.MixRefIdeal.τ).loc Cert.MixRefIdeal.main_arg8) = m ((c.tc : Thread Cert.MixBwdIdeal.nD Cert.MixBwdIdeal.τ).loc Cert.MixBwdIdeal.main_arg8)
      ∧ m' ((c.tc : Thread Cert.MixRefIdeal.nD Cert.MixRefIdeal.τ).loc Cert.MixRefIdeal.main_arg9) = m ((c.tc : Thread Cert.MixBwdIdeal.nD Cert.MixBwdIdeal.τ).loc Cert.MixBwdIdeal.main_arg9)) →
    ∃ (v0 : (c : Dev Cert.MixBwdIdeal.nD) → Buf (Elt Ideal) ((c.tc : Thread Cert.MixBwdIdeal.nD Cert.MixBwdIdeal.τ).loc Cert.MixBwdIdeal.main_v95_0)) (v1 : (c : Dev Cert.MixBwdIdeal.nD) → Buf (Elt Ideal) ((c.tc : Thread Cert.MixBwdIdeal.nD Cert.MixBwdIdeal.τ).loc Cert.MixBwdIdeal.main_v95_1)) (v2 : (c : Dev Cert.MixBwdIdeal.nD) → Buf (Elt Ideal) ((c.tc : Thread Cert.MixBwdIdeal.nD Cert.MixBwdIdeal.τ).loc Cert.MixBwdIdeal.main_v95_2)) (v3 : (c : Dev Cert.MixBwdIdeal.nD) → Buf (Elt Ideal) ((c.tc : Thread Cert.MixBwdIdeal.nD Cert.MixBwdIdeal.τ).loc Cert.MixBwdIdeal.main_v95_3)) (v4 : (c : Dev Cert.MixBwdIdeal.nD) → Buf (Elt Ideal) ((c.tc : Thread Cert.MixBwdIdeal.nD Cert.MixBwdIdeal.τ).loc Cert.MixBwdIdeal.main_v95_4)) (v5 : (c : Dev Cert.MixBwdIdeal.nD) → Buf (Elt Ideal) ((c.tc : Thread Cert.MixBwdIdeal.nD Cert.MixBwdIdeal.τ).loc Cert.MixBwdIdeal.main_v95_5)) (v6 : (c : Dev Cert.MixBwdIdeal.nD) → Buf (Elt Ideal) ((c.tc : Thread Cert.MixBwdIdeal.nD Cert.MixBwdIdeal.τ).loc Cert.MixBwdIdeal.main_v95_6)) (v7 : (c : Dev Cert.MixBwdIdeal.nD) → Buf (Elt Ideal) ((c.tc : Thread Cert.MixBwdIdeal.nD Cert.MixBwdIdeal.τ).loc Cert.MixBwdIdeal.main_v95_7)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v95_0) = v0 c
          ∧ r.2.mem ((c.tc : Thread Cert.MixBwdIdeal.nD Cert.MixBwdIdeal.τ).loc Cert.MixBwdIdeal.main_v95_1) = v1 c
          ∧ r.2.mem ((c.tc : Thread Cert.MixBwdIdeal.nD Cert.MixBwdIdeal.τ).loc Cert.MixBwdIdeal.main_v95_2) = v2 c
          ∧ r.2.mem ((c.tc : Thread Cert.MixBwdIdeal.nD Cert.MixBwdIdeal.τ).loc Cert.MixBwdIdeal.main_v95_3) = v3 c
          ∧ r.2.mem ((c.tc : Thread Cert.MixBwdIdeal.nD Cert.MixBwdIdeal.τ).loc Cert.MixBwdIdeal.main_v95_4) = v4 c
          ∧ r.2.mem ((c.tc : Thread Cert.MixBwdIdeal.nD Cert.MixBwdIdeal.τ).loc Cert.MixBwdIdeal.main_v95_5) = v5 c
          ∧ r.2.mem ((c.tc : Thread Cert.MixBwdIdeal.nD Cert.MixBwdIdeal.τ).loc Cert.MixBwdIdeal.main_v95_6) = v6 c
          ∧ r.2.mem ((c.tc : Thread Cert.MixBwdIdeal.nD Cert.MixBwdIdeal.τ).loc Cert.MixBwdIdeal.main_v95_7) = v7 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5)
          ∧ r.2.mem ((c.tc : Thread Cert.MixBwdIdeal.nD Cert.MixBwdIdeal.τ).loc Cert.MixBwdIdeal.main_arg6) = m ((c.tc : Thread Cert.MixBwdIdeal.nD Cert.MixBwdIdeal.τ).loc Cert.MixBwdIdeal.main_arg6)
          ∧ r.2.mem ((c.tc : Thread Cert.MixBwdIdeal.nD Cert.MixBwdIdeal.τ).loc Cert.MixBwdIdeal.main_arg7) = m ((c.tc : Thread Cert.MixBwdIdeal.nD Cert.MixBwdIdeal.τ).loc Cert.MixBwdIdeal.main_arg7)
          ∧ r.2.mem ((c.tc : Thread Cert.MixBwdIdeal.nD Cert.MixBwdIdeal.τ).loc Cert.MixBwdIdeal.main_arg8) = m ((c.tc : Thread Cert.MixBwdIdeal.nD Cert.MixBwdIdeal.τ).loc Cert.MixBwdIdeal.main_arg8)
          ∧ r.2.mem ((c.tc : Thread Cert.MixBwdIdeal.nD Cert.MixBwdIdeal.τ).loc Cert.MixBwdIdeal.main_arg9) = m ((c.tc : Thread Cert.MixBwdIdeal.nD Cert.MixBwdIdeal.τ).loc Cert.MixBwdIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v126) = v0 c
          ∧ r.2.mem ((c.tc : Thread Cert.MixRefIdeal.nD Cert.MixRefIdeal.τ).loc Cert.MixRefIdeal.main_v128) = v1 c
          ∧ r.2.mem ((c.tc : Thread Cert.MixRefIdeal.nD Cert.MixRefIdeal.τ).loc Cert.MixRefIdeal.main_v130) = v2 c
          ∧ r.2.mem ((c.tc : Thread Cert.MixRefIdeal.nD Cert.MixRefIdeal.τ).loc Cert.MixRefIdeal.main_v132) = v3 c
          ∧ r.2.mem ((c.tc : Thread Cert.MixRefIdeal.nD Cert.MixRefIdeal.τ).loc Cert.MixRefIdeal.main_v135) = v4 c
          ∧ r.2.mem ((c.tc : Thread Cert.MixRefIdeal.nD Cert.MixRefIdeal.τ).loc Cert.MixRefIdeal.main_v136) = v5 c
          ∧ r.2.mem ((c.tc : Thread Cert.MixRefIdeal.nD Cert.MixRefIdeal.τ).loc Cert.MixRefIdeal.main_v137) = v6 c
          ∧ r.2.mem ((c.tc : Thread Cert.MixRefIdeal.nD Cert.MixRefIdeal.τ).loc Cert.MixRefIdeal.main_v122) = v7 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_LossBwd_LossBwdIdeal : Prop :=
  True

def algebraic_LossBwdIdeal_LossRefIdeal_pre_finite_loss [hLossBwdIdeal : Cert.LossBwdIdeal.Facts] [hLossRefIdeal : Cert.LossRefIdeal.Facts] [hPre_finite_loss : Cert.Pre_finite_loss.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossBwdIdeal_finite_loss m →
    (∀ c : Dev Cert.LossBwdIdeal.nD,
      m' ((c.tc : Thread Cert.LossRefIdeal.nD Cert.LossRefIdeal.τ).loc Cert.LossRefIdeal.main_arg0) = m ((c.tc : Thread Cert.LossBwdIdeal.nD Cert.LossBwdIdeal.τ).loc Cert.LossBwdIdeal.main_arg0)
      ∧ m' ((c.tc : Thread Cert.LossRefIdeal.nD Cert.LossRefIdeal.τ).loc Cert.LossRefIdeal.main_arg1) = m ((c.tc : Thread Cert.LossBwdIdeal.nD Cert.LossBwdIdeal.τ).loc Cert.LossBwdIdeal.main_arg1)
      ∧ m' ((c.tc : Thread Cert.LossRefIdeal.nD Cert.LossRefIdeal.τ).loc Cert.LossRefIdeal.main_arg2) = m ((c.tc : Thread Cert.LossBwdIdeal.nD Cert.LossBwdIdeal.τ).loc Cert.LossBwdIdeal.main_arg2)
      ∧ m' ((c.tc : Thread Cert.LossRefIdeal.nD Cert.LossRefIdeal.τ).loc Cert.LossRefIdeal.main_arg3) = m ((c.tc : Thread Cert.LossBwdIdeal.nD Cert.LossBwdIdeal.τ).loc Cert.LossBwdIdeal.main_arg3)
      ∧ m' ((c.tc : Thread Cert.LossRefIdeal.nD Cert.LossRefIdeal.τ).loc Cert.LossRefIdeal.main_arg4) = m ((c.tc : Thread Cert.LossBwdIdeal.nD Cert.LossBwdIdeal.τ).loc Cert.LossBwdIdeal.main_arg4)
      ∧ m' ((c.tc : Thread Cert.LossRefIdeal.nD Cert.LossRefIdeal.τ).loc Cert.LossRefIdeal.main_arg5) = m ((c.tc : Thread Cert.LossBwdIdeal.nD Cert.LossBwdIdeal.τ).loc Cert.LossBwdIdeal.main_arg5)) →
    ∃ (v0 : (c : Dev Cert.LossBwdIdeal.nD) → Buf (Elt Ideal) ((c.tc : Thread Cert.LossBwdIdeal.nD Cert.LossBwdIdeal.τ).loc Cert.LossBwdIdeal.main_v8_0)) (v1 : (c : Dev Cert.LossBwdIdeal.nD) → Buf (Elt Ideal) ((c.tc : Thread Cert.LossBwdIdeal.nD Cert.LossBwdIdeal.τ).loc Cert.LossBwdIdeal.main_v8_1)) (v2 : (c : Dev Cert.LossBwdIdeal.nD) → Buf (Elt Ideal) ((c.tc : Thread Cert.LossBwdIdeal.nD Cert.LossBwdIdeal.τ).loc Cert.LossBwdIdeal.main_v8_2)) (v3 : (c : Dev Cert.LossBwdIdeal.nD) → Buf (Elt Ideal) ((c.tc : Thread Cert.LossBwdIdeal.nD Cert.LossBwdIdeal.τ).loc Cert.LossBwdIdeal.main_v8_3)) (v4 : (c : Dev Cert.LossBwdIdeal.nD) → Buf (Elt Ideal) ((c.tc : Thread Cert.LossBwdIdeal.nD Cert.LossBwdIdeal.τ).loc Cert.LossBwdIdeal.main_v8_4)) (v5 : (c : Dev Cert.LossBwdIdeal.nD) → Buf (Elt Ideal) ((c.tc : Thread Cert.LossBwdIdeal.nD Cert.LossBwdIdeal.τ).loc Cert.LossBwdIdeal.main_v8_5)) (v6 : (c : Dev Cert.LossBwdIdeal.nD) → Buf (Elt Ideal) ((c.tc : Thread Cert.LossBwdIdeal.nD Cert.LossBwdIdeal.τ).loc Cert.LossBwdIdeal.main_v8_6)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v8_0) = v0 c
          ∧ r.2.mem ((c.tc : Thread Cert.LossBwdIdeal.nD Cert.LossBwdIdeal.τ).loc Cert.LossBwdIdeal.main_v8_1) = v1 c
          ∧ r.2.mem ((c.tc : Thread Cert.LossBwdIdeal.nD Cert.LossBwdIdeal.τ).loc Cert.LossBwdIdeal.main_v8_2) = v2 c
          ∧ r.2.mem ((c.tc : Thread Cert.LossBwdIdeal.nD Cert.LossBwdIdeal.τ).loc Cert.LossBwdIdeal.main_v8_3) = v3 c
          ∧ r.2.mem ((c.tc : Thread Cert.LossBwdIdeal.nD Cert.LossBwdIdeal.τ).loc Cert.LossBwdIdeal.main_v8_4) = v4 c
          ∧ r.2.mem ((c.tc : Thread Cert.LossBwdIdeal.nD Cert.LossBwdIdeal.τ).loc Cert.LossBwdIdeal.main_v8_5) = v5 c
          ∧ r.2.mem ((c.tc : Thread Cert.LossBwdIdeal.nD Cert.LossBwdIdeal.τ).loc Cert.LossBwdIdeal.main_v8_6) = v6 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
          ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v78) = v0 c
          ∧ r.2.mem ((c.tc : Thread Cert.LossRefIdeal.nD Cert.LossRefIdeal.τ).loc Cert.LossRefIdeal.main_v80) = v1 c
          ∧ r.2.mem ((c.tc : Thread Cert.LossRefIdeal.nD Cert.LossRefIdeal.τ).loc Cert.LossRefIdeal.main_v82) = v2 c
          ∧ r.2.mem ((c.tc : Thread Cert.LossRefIdeal.nD Cert.LossRefIdeal.τ).loc Cert.LossRefIdeal.main_v83) = v3 c
          ∧ r.2.mem ((c.tc : Thread Cert.LossRefIdeal.nD Cert.LossRefIdeal.τ).loc Cert.LossRefIdeal.main_v84) = v4 c
          ∧ r.2.mem ((c.tc : Thread Cert.LossRefIdeal.nD Cert.LossRefIdeal.τ).loc Cert.LossRefIdeal.main_v86) = v5 c
          ∧ r.2.mem ((c.tc : Thread Cert.LossRefIdeal.nD Cert.LossRefIdeal.τ).loc Cert.LossRefIdeal.main_v87) = v6 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_AttnFwd_AttnFwdIdeal : Prop :=
  True

def algebraic_AttnFwdIdeal_AttnFwdRefIdeal_pre_finite_attn_fwd [hAttnFwdIdeal : Cert.AttnFwdIdeal.Facts] [hAttnFwdRefIdeal : Cert.AttnFwdRefIdeal.Facts] [hPre_finite_attn_fwd : Cert.Pre_finite_attn_fwd.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_finite_attn_fwd m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v5)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v5) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v105) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_UpFwd_UpFwdIdeal : Prop :=
  True

def algebraic_UpFwdIdeal_UpRefIdeal [hUpFwdIdeal : Cert.UpFwdIdeal.Facts] [hUpRefIdeal : Cert.UpRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpFwdIdeal m →
    (∀ c : Dev Cert.UpFwdIdeal.nD,
      m' ((c.tc : Thread Cert.UpRefIdeal.nD Cert.UpRefIdeal.τ).loc Cert.UpRefIdeal.main_arg0) = m ((c.tc : Thread Cert.UpFwdIdeal.nD Cert.UpFwdIdeal.τ).loc Cert.UpFwdIdeal.main_arg0)
      ∧ m' ((c.tc : Thread Cert.UpRefIdeal.nD Cert.UpRefIdeal.τ).loc Cert.UpRefIdeal.main_arg1) = m ((c.tc : Thread Cert.UpFwdIdeal.nD Cert.UpFwdIdeal.τ).loc Cert.UpFwdIdeal.main_arg1)
      ∧ m' ((c.tc : Thread Cert.UpRefIdeal.nD Cert.UpRefIdeal.τ).loc Cert.UpRefIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v4_0)) (v1 : (c : Dev Cert.UpFwdIdeal.nD) → Buf (Elt Ideal) ((c.tc : Thread Cert.UpFwdIdeal.nD Cert.UpFwdIdeal.τ).loc Cert.UpFwdIdeal.main_v4_1)) (v2 : (c : Dev Cert.UpFwdIdeal.nD) → Buf (Elt Ideal) ((c.tc : Thread Cert.UpFwdIdeal.nD Cert.UpFwdIdeal.τ).loc Cert.UpFwdIdeal.main_v4_2)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v4_0) = v0 c
          ∧ r.2.mem ((c.tc : Thread Cert.UpFwdIdeal.nD Cert.UpFwdIdeal.τ).loc Cert.UpFwdIdeal.main_v4_1) = v1 c
          ∧ r.2.mem ((c.tc : Thread Cert.UpFwdIdeal.nD Cert.UpFwdIdeal.τ).loc Cert.UpFwdIdeal.main_v4_2) = v2 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v19) = v0 c
          ∧ r.2.mem ((c.tc : Thread Cert.UpRefIdeal.nD Cert.UpRefIdeal.τ).loc Cert.UpRefIdeal.main_v21) = v1 c
          ∧ r.2.mem ((c.tc : Thread Cert.UpRefIdeal.nD Cert.UpRefIdeal.τ).loc Cert.UpRefIdeal.main_v25) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_ProjBwd_ProjBwdIdeal : Prop :=
  True

def algebraic_ProjBwdIdeal_ProjRefIdeal_pre_finite_proj [hProjBwdIdeal : Cert.ProjBwdIdeal.Facts] [hProjRefIdeal : Cert.ProjRefIdeal.Facts] [hPre_finite_proj : Cert.Pre_finite_proj.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjBwdIdeal_finite_proj m →
    (∀ c : Dev Cert.ProjBwdIdeal.nD,
      m' ((c.tc : Thread Cert.ProjRefIdeal.nD Cert.ProjRefIdeal.τ).loc Cert.ProjRefIdeal.main_arg0) = m ((c.tc : Thread Cert.ProjBwdIdeal.nD Cert.ProjBwdIdeal.τ).loc Cert.ProjBwdIdeal.main_arg0)
      ∧ m' ((c.tc : Thread Cert.ProjRefIdeal.nD Cert.ProjRefIdeal.τ).loc Cert.ProjRefIdeal.main_arg1) = m ((c.tc : Thread Cert.ProjBwdIdeal.nD Cert.ProjBwdIdeal.τ).loc Cert.ProjBwdIdeal.main_arg1)
      ∧ m' ((c.tc : Thread Cert.ProjRefIdeal.nD Cert.ProjRefIdeal.τ).loc Cert.ProjRefIdeal.main_arg2) = m ((c.tc : Thread Cert.ProjBwdIdeal.nD Cert.ProjBwdIdeal.τ).loc Cert.ProjBwdIdeal.main_arg2)
      ∧ m' ((c.tc : Thread Cert.ProjRefIdeal.nD Cert.ProjRefIdeal.τ).loc Cert.ProjRefIdeal.main_arg3) = m ((c.tc : Thread Cert.ProjBwdIdeal.nD Cert.ProjBwdIdeal.τ).loc Cert.ProjBwdIdeal.main_arg3)
      ∧ m' ((c.tc : Thread Cert.ProjRefIdeal.nD Cert.ProjRefIdeal.τ).loc Cert.ProjRefIdeal.main_arg4) = m ((c.tc : Thread Cert.ProjBwdIdeal.nD Cert.ProjBwdIdeal.τ).loc Cert.ProjBwdIdeal.main_arg4)
      ∧ m' ((c.tc : Thread Cert.ProjRefIdeal.nD Cert.ProjRefIdeal.τ).loc Cert.ProjRefIdeal.main_arg5) = m ((c.tc : Thread Cert.ProjBwdIdeal.nD Cert.ProjBwdIdeal.τ).loc Cert.ProjBwdIdeal.main_arg5)
      ∧ m' ((c.tc : Thread Cert.ProjRefIdeal.nD Cert.ProjRefIdeal.τ).loc Cert.ProjRefIdeal.main_arg6) = m ((c.tc : Thread Cert.ProjBwdIdeal.nD Cert.ProjBwdIdeal.τ).loc Cert.ProjBwdIdeal.main_arg6)
      ∧ m' ((c.tc : Thread Cert.ProjRefIdeal.nD Cert.ProjRefIdeal.τ).loc Cert.ProjRefIdeal.main_arg7) = m ((c.tc : Thread Cert.ProjBwdIdeal.nD Cert.ProjBwdIdeal.τ).loc Cert.ProjBwdIdeal.main_arg7)
      ∧ m' ((c.tc : Thread Cert.ProjRefIdeal.nD Cert.ProjRefIdeal.τ).loc Cert.ProjRefIdeal.main_arg8) = m ((c.tc : Thread Cert.ProjBwdIdeal.nD Cert.ProjBwdIdeal.τ).loc Cert.ProjBwdIdeal.main_arg8)
      ∧ m' ((c.tc : Thread Cert.ProjRefIdeal.nD Cert.ProjRefIdeal.τ).loc Cert.ProjRefIdeal.main_arg9) = m ((c.tc : Thread Cert.ProjBwdIdeal.nD Cert.ProjBwdIdeal.τ).loc Cert.ProjBwdIdeal.main_arg9)) →
    ∃ (v0 : (c : Dev Cert.ProjBwdIdeal.nD) → Buf (Elt Ideal) ((c.tc : Thread Cert.ProjBwdIdeal.nD Cert.ProjBwdIdeal.τ).loc Cert.ProjBwdIdeal.main_v19_0)) (v1 : (c : Dev Cert.ProjBwdIdeal.nD) → Buf (Elt Ideal) ((c.tc : Thread Cert.ProjBwdIdeal.nD Cert.ProjBwdIdeal.τ).loc Cert.ProjBwdIdeal.main_v19_1)) (v2 : (c : Dev Cert.ProjBwdIdeal.nD) → Buf (Elt Ideal) ((c.tc : Thread Cert.ProjBwdIdeal.nD Cert.ProjBwdIdeal.τ).loc Cert.ProjBwdIdeal.main_v19_2)) (v3 : (c : Dev Cert.ProjBwdIdeal.nD) → Buf (Elt Ideal) ((c.tc : Thread Cert.ProjBwdIdeal.nD Cert.ProjBwdIdeal.τ).loc Cert.ProjBwdIdeal.main_v19_3)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v19_0) = v0 c
          ∧ r.2.mem ((c.tc : Thread Cert.ProjBwdIdeal.nD Cert.ProjBwdIdeal.τ).loc Cert.ProjBwdIdeal.main_v19_1) = v1 c
          ∧ r.2.mem ((c.tc : Thread Cert.ProjBwdIdeal.nD Cert.ProjBwdIdeal.τ).loc Cert.ProjBwdIdeal.main_v19_2) = v2 c
          ∧ r.2.mem ((c.tc : Thread Cert.ProjBwdIdeal.nD Cert.ProjBwdIdeal.τ).loc Cert.ProjBwdIdeal.main_v19_3) = v3 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
          ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
          ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
          ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v201) = v0 c
          ∧ r.2.mem ((c.tc : Thread Cert.ProjRefIdeal.nD Cert.ProjRefIdeal.τ).loc Cert.ProjRefIdeal.main_v202) = v1 c
          ∧ r.2.mem ((c.tc : Thread Cert.ProjRefIdeal.nD Cert.ProjRefIdeal.τ).loc Cert.ProjRefIdeal.main_v204) = v2 c
          ∧ r.2.mem ((c.tc : Thread Cert.ProjRefIdeal.nD Cert.ProjRefIdeal.τ).loc Cert.ProjRefIdeal.main_v199) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9))

def preserves_InFwd_InFwdIdeal : Prop :=
  True

def algebraic_InFwdIdeal_InRefIdeal [hInFwdIdeal : Cert.InFwdIdeal.Facts] [hInRefIdeal : Cert.InRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InRefIdeal.nD Cert.InRefIdeal.τ Cert.InRefIdeal.sig) → Buf (Elt Ideal) ℓ) (g' : Dev Cert.InRefIdeal.nD → PrngReg), Pre_InFwdIdeal m →
    (∀ c : Dev Cert.InFwdIdeal.nD,
      m' ((c.tc : Thread Cert.InRefIdeal.nD Cert.InRefIdeal.τ).loc Cert.InRefIdeal.main_arg0) = m ((c.tc : Thread Cert.InFwdIdeal.nD Cert.InFwdIdeal.τ).loc Cert.InFwdIdeal.main_arg0)
      ∧ m' ((c.tc : Thread Cert.InRefIdeal.nD Cert.InRefIdeal.τ).loc Cert.InRefIdeal.main_arg1) = m ((c.tc : Thread Cert.InFwdIdeal.nD Cert.InFwdIdeal.τ).loc Cert.InFwdIdeal.main_arg1)
      ∧ m' ((c.tc : Thread Cert.InRefIdeal.nD Cert.InRefIdeal.τ).loc Cert.InRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v4_0)) (v1 : (c : Dev Cert.InFwdIdeal.nD) → Buf (Elt Ideal) ((c.tc : Thread Cert.InFwdIdeal.nD Cert.InFwdIdeal.τ).loc Cert.InFwdIdeal.main_v4_1)) (v2 : (c : Dev Cert.InFwdIdeal.nD) → Buf (Elt Ideal) ((c.tc : Thread Cert.InFwdIdeal.nD Cert.InFwdIdeal.τ).loc Cert.InFwdIdeal.main_v4_2)) (v3 : (c : Dev Cert.InFwdIdeal.nD) → Buf (Elt Ideal) ((c.tc : Thread Cert.InFwdIdeal.nD Cert.InFwdIdeal.τ).loc Cert.InFwdIdeal.main_v4_3)) (v4 : (c : Dev Cert.InFwdIdeal.nD) → Buf (Elt Ideal) ((c.tc : Thread Cert.InFwdIdeal.nD Cert.InFwdIdeal.τ).loc Cert.InFwdIdeal.main_v4_4)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v4_0) = v0 c
          ∧ r.2.mem ((c.tc : Thread Cert.InFwdIdeal.nD Cert.InFwdIdeal.τ).loc Cert.InFwdIdeal.main_v4_1) = v1 c
          ∧ r.2.mem ((c.tc : Thread Cert.InFwdIdeal.nD Cert.InFwdIdeal.τ).loc Cert.InFwdIdeal.main_v4_2) = v2 c
          ∧ r.2.mem ((c.tc : Thread Cert.InFwdIdeal.nD Cert.InFwdIdeal.τ).loc Cert.InFwdIdeal.main_v4_3) = v3 c
          ∧ r.2.mem ((c.tc : Thread Cert.InFwdIdeal.nD Cert.InFwdIdeal.τ).loc Cert.InFwdIdeal.main_v4_4) = v4 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v21) = v0 c
          ∧ r.2.mem ((c.tc : Thread Cert.InRefIdeal.nD Cert.InRefIdeal.τ).loc Cert.InRefIdeal.main_v23) = v1 c
          ∧ r.2.mem ((c.tc : Thread Cert.InRefIdeal.nD Cert.InRefIdeal.τ).loc Cert.InRefIdeal.main_v25) = v2 c
          ∧ r.2.mem ((c.tc : Thread Cert.InRefIdeal.nD Cert.InRefIdeal.τ).loc Cert.InRefIdeal.main_v26) = v3 c
          ∧ r.2.mem ((c.tc : Thread Cert.InRefIdeal.nD Cert.InRefIdeal.τ).loc Cert.InRefIdeal.main_v28) = v4 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_GateBwd_GateBwdIdeal : Prop :=
  True

def algebraic_GateBwdIdeal_GateRefIdeal_pre_finite_gate [hGateBwdIdeal : Cert.GateBwdIdeal.Facts] [hGateRefIdeal : Cert.GateRefIdeal.Facts] [hPre_finite_gate : Cert.Pre_finite_gate.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateBwdIdeal_finite_gate m →
    (∀ c : Dev Cert.GateBwdIdeal.nD,
      m' ((c.tc : Thread Cert.GateRefIdeal.nD Cert.GateRefIdeal.τ).loc Cert.GateRefIdeal.main_arg0) = m ((c.tc : Thread Cert.GateBwdIdeal.nD Cert.GateBwdIdeal.τ).loc Cert.GateBwdIdeal.main_arg0)
      ∧ m' ((c.tc : Thread Cert.GateRefIdeal.nD Cert.GateRefIdeal.τ).loc Cert.GateRefIdeal.main_arg1) = m ((c.tc : Thread Cert.GateBwdIdeal.nD Cert.GateBwdIdeal.τ).loc Cert.GateBwdIdeal.main_arg1)
      ∧ m' ((c.tc : Thread Cert.GateRefIdeal.nD Cert.GateRefIdeal.τ).loc Cert.GateRefIdeal.main_arg2) = m ((c.tc : Thread Cert.GateBwdIdeal.nD Cert.GateBwdIdeal.τ).loc Cert.GateBwdIdeal.main_arg2)
      ∧ m' ((c.tc : Thread Cert.GateRefIdeal.nD Cert.GateRefIdeal.τ).loc Cert.GateRefIdeal.main_arg3) = m ((c.tc : Thread Cert.GateBwdIdeal.nD Cert.GateBwdIdeal.τ).loc Cert.GateBwdIdeal.main_arg3)
      ∧ m' ((c.tc : Thread Cert.GateRefIdeal.nD Cert.GateRefIdeal.τ).loc Cert.GateRefIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v22)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v22) = v0 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v32) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def Claim : Prop :=
  ∃ (hNormBwd : Cert.NormBwd.Facts) (hNormBwdIdeal : Cert.NormBwdIdeal.Facts) (hNormRefIdeal : Cert.NormRefIdeal.Facts) (hAttnBwd : Cert.AttnBwd.Facts) (hAttnBwdIdeal : Cert.AttnBwdIdeal.Facts) (hAttnRefIdeal : Cert.AttnRefIdeal.Facts) (hMixBwd : Cert.MixBwd.Facts) (hMixBwdIdeal : Cert.MixBwdIdeal.Facts) (hMixRefIdeal : Cert.MixRefIdeal.Facts) (hLossBwd : Cert.LossBwd.Facts) (hLossBwdIdeal : Cert.LossBwdIdeal.Facts) (hLossRefIdeal : Cert.LossRefIdeal.Facts) (hAttnFwd : Cert.AttnFwd.Facts) (hAttnFwdIdeal : Cert.AttnFwdIdeal.Facts) (hAttnFwdRefIdeal : Cert.AttnFwdRefIdeal.Facts) (hUpFwd : Cert.UpFwd.Facts) (hUpFwdIdeal : Cert.UpFwdIdeal.Facts) (hUpRefIdeal : Cert.UpRefIdeal.Facts) (hProjBwd : Cert.ProjBwd.Facts) (hProjBwdIdeal : Cert.ProjBwdIdeal.Facts) (hProjRefIdeal : Cert.ProjRefIdeal.Facts) (hInFwd : Cert.InFwd.Facts) (hInFwdIdeal : Cert.InFwdIdeal.Facts) (hInRefIdeal : Cert.InRefIdeal.Facts) (hGateBwd : Cert.GateBwd.Facts) (hGateBwdIdeal : Cert.GateBwdIdeal.Facts) (hGateRefIdeal : Cert.GateRefIdeal.Facts) (hPre_finite_norm : Cert.Pre_finite_norm.Facts) (hPre_finite_attn : Cert.Pre_finite_attn.Facts) (hPre_finite_loss : Cert.Pre_finite_loss.Facts) (hPre_finite_attn_fwd : Cert.Pre_finite_attn_fwd.Facts) (hPre_finite_proj : Cert.Pre_finite_proj.Facts) (hPre_finite_gate : Cert.Pre_finite_gate.Facts),
    quiescent_NormBwd (hNormBwd := hNormBwd)
    ∧ quiescent_NormBwdIdeal (hNormBwdIdeal := hNormBwdIdeal)
    ∧ quiescent_NormBwdIdeal_pre_finite_norm (hNormBwdIdeal := hNormBwdIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_MixBwd (hMixBwd := hMixBwd)
    ∧ quiescent_MixBwdIdeal (hMixBwdIdeal := hMixBwdIdeal)
    ∧ quiescent_MixRefIdeal (hMixRefIdeal := hMixRefIdeal)
    ∧ quiescent_LossBwd (hLossBwd := hLossBwd)
    ∧ quiescent_LossBwdIdeal (hLossBwdIdeal := hLossBwdIdeal)
    ∧ quiescent_LossBwdIdeal_pre_finite_loss (hLossBwdIdeal := hLossBwdIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_AttnFwd (hAttnFwd := hAttnFwd)
    ∧ quiescent_AttnFwdIdeal (hAttnFwdIdeal := hAttnFwdIdeal)
    ∧ quiescent_AttnFwdIdeal_pre_finite_attn_fwd (hAttnFwdIdeal := hAttnFwdIdeal) (hPre_finite_attn_fwd := hPre_finite_attn_fwd)
    ∧ quiescent_AttnFwdRefIdeal (hAttnFwdRefIdeal := hAttnFwdRefIdeal)
    ∧ quiescent_AttnFwdRefIdeal_pre_finite_attn_fwd (hAttnFwdRefIdeal := hAttnFwdRefIdeal) (hPre_finite_attn_fwd := hPre_finite_attn_fwd)
    ∧ quiescent_UpFwd (hUpFwd := hUpFwd)
    ∧ quiescent_UpFwdIdeal (hUpFwdIdeal := hUpFwdIdeal)
    ∧ quiescent_UpRefIdeal (hUpRefIdeal := hUpRefIdeal)
    ∧ quiescent_ProjBwd (hProjBwd := hProjBwd)
    ∧ quiescent_ProjBwdIdeal (hProjBwdIdeal := hProjBwdIdeal)
    ∧ quiescent_ProjBwdIdeal_pre_finite_proj (hProjBwdIdeal := hProjBwdIdeal) (hPre_finite_proj := hPre_finite_proj)
    ∧ quiescent_ProjRefIdeal (hProjRefIdeal := hProjRefIdeal)
    ∧ quiescent_ProjRefIdeal_pre_finite_proj (hProjRefIdeal := hProjRefIdeal) (hPre_finite_proj := hPre_finite_proj)
    ∧ quiescent_InFwd (hInFwd := hInFwd)
    ∧ quiescent_InFwdIdeal (hInFwdIdeal := hInFwdIdeal)
    ∧ quiescent_InRefIdeal (hInRefIdeal := hInRefIdeal)
    ∧ quiescent_GateBwd (hGateBwd := hGateBwd)
    ∧ quiescent_GateBwdIdeal (hGateBwdIdeal := hGateBwdIdeal)
    ∧ quiescent_GateBwdIdeal_pre_finite_gate (hGateBwdIdeal := hGateBwdIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ preserves_NormBwd_NormBwdIdeal
    ∧ algebraic_NormBwdIdeal_NormRefIdeal_pre_finite_norm (hNormBwdIdeal := hNormBwdIdeal) (hNormRefIdeal := hNormRefIdeal) (hPre_finite_norm := hPre_finite_norm)
    ∧ preserves_AttnBwd_AttnBwdIdeal
    ∧ algebraic_AttnBwdIdeal_AttnRefIdeal_pre_finite_attn (hAttnBwdIdeal := hAttnBwdIdeal) (hAttnRefIdeal := hAttnRefIdeal) (hPre_finite_attn := hPre_finite_attn)
    ∧ preserves_MixBwd_MixBwdIdeal
    ∧ algebraic_MixBwdIdeal_MixRefIdeal (hMixBwdIdeal := hMixBwdIdeal) (hMixRefIdeal := hMixRefIdeal)
    ∧ preserves_LossBwd_LossBwdIdeal
    ∧ algebraic_LossBwdIdeal_LossRefIdeal_pre_finite_loss (hLossBwdIdeal := hLossBwdIdeal) (hLossRefIdeal := hLossRefIdeal) (hPre_finite_loss := hPre_finite_loss)
    ∧ preserves_AttnFwd_AttnFwdIdeal
    ∧ algebraic_AttnFwdIdeal_AttnFwdRefIdeal_pre_finite_attn_fwd (hAttnFwdIdeal := hAttnFwdIdeal) (hAttnFwdRefIdeal := hAttnFwdRefIdeal) (hPre_finite_attn_fwd := hPre_finite_attn_fwd)
    ∧ preserves_UpFwd_UpFwdIdeal
    ∧ algebraic_UpFwdIdeal_UpRefIdeal (hUpFwdIdeal := hUpFwdIdeal) (hUpRefIdeal := hUpRefIdeal)
    ∧ preserves_ProjBwd_ProjBwdIdeal
    ∧ algebraic_ProjBwdIdeal_ProjRefIdeal_pre_finite_proj (hProjBwdIdeal := hProjBwdIdeal) (hProjRefIdeal := hProjRefIdeal) (hPre_finite_proj := hPre_finite_proj)
    ∧ preserves_InFwd_InFwdIdeal
    ∧ algebraic_InFwdIdeal_InRefIdeal (hInFwdIdeal := hInFwdIdeal) (hInRefIdeal := hInRefIdeal)
    ∧ preserves_GateBwd_GateBwdIdeal
    ∧ algebraic_GateBwdIdeal_GateRefIdeal_pre_finite_gate (hGateBwdIdeal := hGateBwdIdeal) (hGateRefIdeal := hGateRefIdeal) (hPre_finite_gate := hPre_finite_gate)
-- ==== Pre_finite_attn.lean ====
abbrev S1x8192x1024 : Shape := ⟨3, ![1, 8192, 1024]⟩
abbrev S1x8192x256 : Shape := ⟨3, ![1, 8192, 256]⟩
abbrev S1x16 : Shape := ⟨2, ![1, 16]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_v13 : IVec S_ 1) (main_v16 : IVec S1x8192x1024 1) : IVec S_ 1 :=
  let main_c_5 : IVec S_ 1 := constantI S_ 1 1#1
  let main_v17 : IVec S_ 1 := (fun x v => Host.reduce IntOp.andi x v reducesTo_S1x8192x1024_S_d0_1_2 h_S_) main_v16 main_c_5
  let main_v18 : IVec S_ 1 := andi main_v13 main_v17
  main_v18

def fn {F : FTy → Type} [FloatOps F] (main_arg0 : FVec F S1x8192x1024 .f32) (main_arg1 : FVec F S1x8192x256 .f32) (main_arg2 : FVec F S1x16 .f32) (main_arg3 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S1x8192x1024 .f32 := Host.absf main_arg3
  let main_cst_4 : FVec F S_ .f32 := constant S_ .f32 0x7F800000#32
  let main_v15 : FVec F S1x8192x1024 .f32 := broadcastInDim S1x8192x1024 ![] bcast_S_S1x8192x1024 main_cst_4
  let main_v16 : IVec S1x8192x1024 1 := cmpf .olt main_v14 main_v15
  fn_part1 (F := F) main_v13 main_v16
-- ==== Pre_finite_attn_fwd.lean ====
abbrev S1x8192x1024 : Shape := ⟨3, ![1, 8192, 1024]⟩
abbrev S1x8192x256 : Shape := ⟨3, ![1, 8192, 256]⟩
abbrev S1x16 : Shape := ⟨2, ![1, 16]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x8192x256 : S_.BroadcastsInDim S1x8192x256 (![] : Fin 0 → Fin S1x8192x256.rank)
  reducesTo_S1x8192x256_S_d0_1_2 : S1x8192x256.ReducesTo [0, 1, 2] S_
  bcast_S_S1x16 : S_.BroadcastsInDim S1x16 (![] : Fin 0 → Fin S1x16.rank)
  reducesTo_S1x16_S_d0_1 : S1x16.ReducesTo [0, 1] S_

variable [Facts]

def fn {F : FTy → Type} [FloatOps F] (main_arg0 : FVec F S1x8192x1024 .f32) (main_arg1 : FVec F S1x8192x256 .f32) (main_arg2 : FVec F S1x16 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x8192x256 .f32 := Host.absf main_arg1
  let main_cst_0 : FVec F S_ .f32 := constant S_ .f32 0x7F800000#32
  let main_v5 : FVec F S1x8192x256 .f32 := broadcastInDim S1x8192x256 ![] bcast_S_S1x8192x256 main_cst_0
  let main_v6 : IVec S1x8192x256 1 := cmpf .olt main_v4 main_v5
  let main_c_1 : IVec S_ 1 := constantI S_ 1 1#1
  let main_v7 : IVec S_ 1 := (fun x v => Host.reduce IntOp.andi x v reducesTo_S1x8192x256_S_d0_1_2 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  main_v13
-- ==== Pre_finite_gate.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_

variable [Facts]

def fn_part1 {F : FTy → Type} [FloatOps F] (main_arg4 : FVec F S1x8192x1024 .f32) (main_v13 : IVec S_ 1) (main_v16 : IVec S1x2816x1024 1) : IVec S_ 1 :=
  let main_c_5 : IVec S_ 1 := constantI S_ 1 1#1
  let main_v17 : IVec S_ 1 := (fun x v => Host.reduce IntOp.andi x v reducesTo_S1x2816x1024_S_d0_1_2 h_S_) main_v16 main_c_5
  let main_v18 : IVec S_ 1 := andi main_v13 main_v17
  let main_v19 : FVec F S1x8192x1024 .f32 := Host.absf main_arg4
  let main_cst_6 : FVec F S_ .f32 := constant S_ .f32 0x7F800000#32
  let main_v20 : FVec F S1x8192x1024 .f32 := broadcastInDim S1x8192x1024 ![] bcast_S_S1x8192x1024 main_cst_6
  let main_v21 : IVec S1x8192x1024 1 := cmpf .olt main_v19 main_v20
  let main_c_7 : IVec S_ 1 := constantI S_ 1 1#1
  let main_v22 : IVec S_ 1 := (fun x v => Host.reduce IntOp.andi x v reducesTo_S1x8192x1024_S_d0_1_2 h_S_) main_v21 main_c_7
  let main_v23 : IVec S_ 1 := andi main_v18 main_v22
  main_v23

def fn {F : FTy → Type} [FloatOps F] (main_arg0 : FVec F S1x8192x1024 .f32) (main_arg1 : FVec F S1x1024 .f32) (main_arg2 : FVec F S1x1024x5632 .f32) (main_arg3 : FVec F S1x2816x1024 .f32) (main_arg4 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x2816x1024 .f32 := Host.absf main_arg3
  let main_cst_4 : FVec F S_ .f32 := constant S_ .f32 0x7F800000#32
  let main_v15 : FVec F S1x2816x1024 .f32 := broadcastInDim S1x2816x1024 ![] bcast_S_S1x2816x1024 main_cst_4
  let main_v16 : IVec S1x2816x1024 1 := cmpf .olt main_v14 main_v15
  fn_part1 (F := F) main_arg4 main_v13 main_v16
-- ==== Pre_finite_loss.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1x8192x1024 .f32) (main_v13 : IVec S_ 1) (main_v16 : IVec S1x2816x1024 1) : IVec S_ 1 :=
  let main_c_5 : IVec S_ 1 := constantI S_ 1 1#1
  let main_v17 : IVec S_ 1 := (fun x v => Host.reduce IntOp.andi x v reducesTo_S1x2816x1024_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1x8192x1024 .f32 := Host.absf main_arg5
  let main_cst_8 : FVec F S_ .f32 := constant S_ .f32 0x7F800000#32
  let main_v25 : FVec F S1x8192x1024 .f32 := broadcastInDim S1x8192x1024 ![] bcast_S_S1x8192x1024 main_cst_8
  let main_v26 : IVec S1x8192x1024 1 := cmpf .olt main_v24 main_v25
  let main_c_9 : IVec S_ 1 := constantI S_ 1 1#1
  let main_v27 : IVec S_ 1 := (fun x v => Host.reduce IntOp.andi x v reducesTo_S1x8192x1024_S_d0_1_2 h_S_) main_v26 main_c_9
  let main_v28 : IVec S_ 1 := andi main_v23 main_v27
  main_v28

def fn {F : FTy → Type} [FloatOps F] (main_arg0 : FVec F S1x8192x1024 .f32) (main_arg1 : FVec F S1x1024 .f32) (main_arg2 : FVec F S1x1024x5632 .f32) (main_arg3 : FVec F S1x2816x1024 .f32) (main_arg4 : FVec F S1024 .f32) (main_arg5 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x2816x1024 .f32 := Host.absf main_arg3
  let main_cst_4 : FVec F S_ .f32 := constant S_ .f32 0x7F800000#32
  let main_v15 : FVec F S1x2816x1024 .f32 := broadcastInDim S1x2816x1024 ![] bcast_S_S1x2816x1024 main_cst_4
  let main_v16 : IVec S1x2816x1024 1 := cmpf .olt main_v14 main_v15
  fn_part1 (F := F) main_arg4 main_arg5 main_v13 main_v16
-- ==== Pre_finite_norm.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x8192x5632 : Shape := ⟨3, ![1, 8192, 5632]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x5632 : S_.BroadcastsInDim S1x1024x5632 (![] : Fin 0 → Fin S1x1024x5632.rank)
  reducesTo_S1x1024x5632_S_d0_1_2 : S1x1024x5632.ReducesTo [0, 1, 2] S_
  bcast_S_S1x8192x5632 : S_.BroadcastsInDim S1x8192x5632 (![] : Fin 0 → Fin S1x8192x5632.rank)
  reducesTo_S1x8192x5632_S_d0_1_2 : S1x8192x5632.ReducesTo [0, 1, 2] S_

variable [Facts]

def fn_part1 {F : FTy → Type} [FloatOps F] (main_v13 : IVec S_ 1) (main_v16 : IVec S1x8192x5632 1) : IVec S_ 1 :=
  let main_c_5 : IVec S_ 1 := constantI S_ 1 1#1
  let main_v17 : IVec S_ 1 := (fun x v => Host.reduce IntOp.andi x v reducesTo_S1x8192x5632_S_d0_1_2 h_S_) main_v16 main_c_5
  let main_v18 : IVec S_ 1 := andi main_v13 main_v17
  main_v18

def fn {F : FTy → Type} [FloatOps F] (main_arg0 : FVec F S1x8192x1024 .f32) (main_arg1 : FVec F S1x1024 .f32) (main_arg2 : FVec F S1x1024x5632 .f32) (main_arg3 : FVec F S1x8192x5632 .f32) (main_arg4 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x5632 .f32 := Host.absf main_arg2
  let main_cst_2 : FVec F S_ .f32 := constant S_ .f32 0x7F800000#32
  let main_v10 : FVec F S1x1024x5632 .f32 := broadcastInDim S1x1024x5632 ![] bcast_S_S1x1024x5632 main_cst_2
  let main_v11 : IVec S1x1024x5632 1 := cmpf .olt main_v9 main_v10
  let main_c_3 : IVec S_ 1 := constantI S_ 1 1#1
  let main_v12 : IVec S_ 1 := (fun x v => Host.reduce IntOp.andi x v reducesTo_S1x1024x5632_S_d0_1_2 h_S_) main_v11 main_c_3
  let main_v13 : IVec S_ 1 := andi main_v8 main_v12
  let main_v14 : FVec F S1x8192x5632 .f32 := Host.absf main_arg3
  let main_cst_4 : FVec F S_ .f32 := constant S_ .f32 0x7F800000#32
  let main_v15 : FVec F S1x8192x5632 .f32 := broadcastInDim S1x8192x5632 ![] bcast_S_S1x8192x5632 main_cst_4
  let main_v16 : IVec S1x8192x5632 1 := cmpf .olt main_v14 main_v15
  fn_part1 (F := F) main_v13 main_v16
-- ==== Pre_finite_proj.lean ====
abbrev S1x8192x1024 : Shape := ⟨3, ![1, 8192, 1024]⟩
abbrev S1x1024 : Shape := ⟨2, ![1, 1024]⟩
abbrev S1x1024x3840 : Shape := ⟨3, ![1, 1024, 3840]⟩
abbrev S1x64x256x2x64 : Shape := ⟨5, ![1, 64, 256, 2, 64]⟩
abbrev S1x8192x512 : Shape := ⟨3, ![1, 8192, 512]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3840 : S_.BroadcastsInDim S1x1024x3840 (![] : Fin 0 → Fin S1x1024x3840.rank)
  reducesTo_S1x1024x3840_S_d0_1_2 : S1x1024x3840.ReducesTo [0, 1, 2] S_
  bcast_S_S1x64x256x2x64 : S_.BroadcastsInDim S1x64x256x2x64 (![] : Fin 0 → Fin S1x64x256x2x64.rank)
  reducesTo_S1x64x256x2x64_S_d0_1_2_3_4 : S1x64x256x2x64.ReducesTo [0, 1, 2, 3, 4] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn_part2 {F : FTy → Type} [FloatOps F] (main_arg7 : FVec F S1x8192x1024 .f32) (main_arg8 : FVec F S1x8192x1024 .f32) (main_v33 : IVec S_ 1) : IVec S_ 1 :=
  let main_v34 : FVec F S1x8192x1024 .f32 := Host.absf main_arg7
  let main_cst_12 : FVec F S_ .f32 := constant S_ .f32 0x7F800000#32
  let main_v35 : FVec F S1x8192x1024 .f32 := broadcastInDim S1x8192x1024 ![] bcast_S_S1x8192x1024 main_cst_12
  let main_v36 : IVec S1x8192x1024 1 := cmpf .olt main_v34 main_v35
  let main_c_13 : IVec S_ 1 := constantI S_ 1 1#1
  let main_v37 : IVec S_ 1 := (fun x v => Host.reduce IntOp.andi x v reducesTo_S1x8192x1024_S_d0_1_2 h_S_) main_v36 main_c_13
  let main_v38 : IVec S_ 1 := andi main_v33 main_v37
  let main_v39 : FVec F S1x8192x1024 .f32 := Host.absf main_arg8
  let main_cst_14 : FVec F S_ .f32 := constant S_ .f32 0x7F800000#32
  let main_v40 : FVec F S1x8192x1024 .f32 := broadcastInDim S1x8192x1024 ![] bcast_S_S1x8192x1024 main_cst_14
  let main_v41 : IVec S1x8192x1024 1 := cmpf .olt main_v39 main_v40
  let main_c_15 : IVec S_ 1 := constantI S_ 1 1#1
  let main_v42 : IVec S_ 1 := (fun x v => Host.reduce IntOp.andi x v reducesTo_S1x8192x1024_S_d0_1_2 h_S_) main_v41 main_c_15
  let main_v43 : IVec S_ 1 := andi main_v38 main_v42
  main_v43

def fn_part1 {F : FTy → Type} [FloatOps F] (main_arg4 : FVec F S1x64x256x2x64 .f32) (main_arg5 : FVec F S1x64x256x2x64 .f32) (main_arg6 : FVec F S1x8192x512 .f32) (main_arg7 : FVec F S1x8192x1024 .f32) (main_arg8 : FVec F S1x8192x1024 .f32) (main_v13 : IVec S_ 1) (main_v16 : IVec S1x8192x1024 1) : IVec S_ 1 :=
  let main_c_5 : IVec S_ 1 := constantI S_ 1 1#1
  let main_v17 : IVec S_ 1 := (fun x v => Host.reduce IntOp.andi x v reducesTo_S1x8192x1024_S_d0_1_2 h_S_) main_v16 main_c_5
  let main_v18 : IVec S_ 1 := andi main_v13 main_v17
  let main_v19 : FVec F S1x64x256x2x64 .f32 := Host.absf main_arg4
  let main_cst_6 : FVec F S_ .f32 := constant S_ .f32 0x7F800000#32
  let main_v20 : FVec F S1x64x256x2x64 .f32 := broadcastInDim S1x64x256x2x64 ![] bcast_S_S1x64x256x2x64 main_cst_6
  let main_v21 : IVec S1x64x256x2x64 1 := cmpf .olt main_v19 main_v20
  let main_c_7 : IVec S_ 1 := constantI S_ 1 1#1
  let main_v22 : IVec S_ 1 := (fun x v => Host.reduce IntOp.andi x v reducesTo_S1x64x256x2x64_S_d0_1_2_3_4 h_S_) main_v21 main_c_7
  let main_v23 : IVec S_ 1 := andi main_v18 main_v22
  let main_v24 : FVec F S1x64x256x2x64 .f32 := Host.absf main_arg5
  let main_cst_8 : FVec F S_ .f32 := constant S_ .f32 0x7F800000#32
  let main_v25 : FVec F S1x64x256x2x64 .f32 := broadcastInDim S1x64x256x2x64 ![] bcast_S_S1x64x256x2x64 main_cst_8
  let main_v26 : IVec S1x64x256x2x64 1 := cmpf .olt main_v24 main_v25
  let main_c_9 : IVec S_ 1 := constantI S_ 1 1#1
  let main_v27 : IVec S_ 1 := (fun x v => Host.reduce IntOp.andi x v reducesTo_S1x64x256x2x64_S_d0_1_2_3_4 h_S_) main_v26 main_c_9
  let main_v28 : IVec S_ 1 := andi main_v23 main_v27
  let main_v29 : FVec F S1x8192x512 .f32 := Host.absf main_arg6
  let main_cst_10 : FVec F S_ .f32 := constant S_ .f32 0x7F800000#32
  let main_v30 : FVec F S1x8192x512 .f32 := broadcastInDim S1x8192x512 ![] bcast_S_S1x8192x512 main_cst_10
  let main_v31 : IVec S1x8192x512 1 := cmpf .olt main_v29 main_v30
  let main_c_11 : IVec S_ 1 := constantI S_ 1 1#1
  let main_v32 : IVec S_ 1 := (fun x v => Host.reduce IntOp.andi x v reducesTo_S1x8192x512_S_d0_1_2 h_S_) main_v31 main_c_11
  let main_v33 : IVec S_ 1 := andi main_v28 main_v32
  fn_part2 (F := F) main_arg7 main_arg8 main_v33

def fn {F : FTy → Type} [FloatOps F] (main_arg0 : FVec F S1x8192x1024 .f32) (main_arg1 : FVec F S1x1024 .f32) (main_arg2 : FVec F S1x1024x3840 .f32) (main_arg3 : FVec F S1x8192x1024 .f32) (main_arg4 : FVec F S1x64x256x2x64 .f32) (main_arg5 : FVec F S1x64x256x2x64 .f32) (main_arg6 : FVec F S1x8192x512 .f32) (main_arg7 : FVec F S1x8192x1024 .f32) (main_arg8 : FVec F S1x8192x1024 .f32) (main_arg9 : FVec F S1x8192x1024 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x3840 .f32 := Host.absf main_arg2
  let main_cst_2 : FVec F S_ .f32 := constant S_ .f32 0x7F800000#32
  let main_v10 : FVec F S1x1024x3840 .f32 := broadcastInDim S1x1024x3840 ![] bcast_S_S1x1024x3840 main_cst_2
  let main_v11 : IVec S1x1024x3840 1 := cmpf .olt main_v9 main_v10
  let main_c_3 : IVec S_ 1 := constantI S_ 1 1#1
  let main_v12 : IVec S_ 1 := (fun x v => Host.reduce IntOp.andi x v reducesTo_S1x1024x3840_S_d0_1_2 h_S_) main_v11 main_c_3
  let main_v13 : IVec S_ 1 := andi main_v8 main_v12
  let main_v14 : FVec F S1x8192x1024 .f32 := Host.absf main_arg3
  let main_cst_4 : FVec F S_ .f32 := constant S_ .f32 0x7F800000#32
  let main_v15 : FVec F S1x8192x1024 .f32 := broadcastInDim S1x8192x1024 ![] bcast_S_S1x8192x1024 main_cst_4
  let main_v16 : IVec S1x8192x1024 1 := cmpf .olt main_v14 main_v15
  fn_part1 (F := F) main_arg4 main_arg5 main_arg6 main_arg7 main_arg8 main_v13 main_v16
-- ==== NormBwd.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x8192x5632 : Shape := ⟨3, ![1, 8192, 5632]⟩
abbrev S8192x5632 : Shape := ⟨2, ![8192, 5632]⟩
abbrev S8192x1024 : Shape := ⟨2, ![8192, 1024]⟩
abbrev S1024x5632 : Shape := ⟨2, ![1024, 5632]⟩
abbrev S5632x1024 : Shape := ⟨2, ![5632, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S1x8192x5632, .f32⟩
  | .hbm, ⟨4, _⟩ => ⟨S1x8192x1024, .f32⟩
  | .hbm, ⟨5, _⟩ => ⟨S8192x5632, .f32⟩
  | .hbm, ⟨6, _⟩ => ⟨S8192x5632, .bf16⟩
  | .hbm, ⟨7, _⟩ => ⟨S8192x1024, .f32⟩
  | .hbm, ⟨8, _⟩ => ⟨S8192x1024, .f32⟩
  | .hbm, ⟨9, _⟩ => ⟨S1024x5632, .f32⟩
  | .hbm, ⟨10, _⟩ => ⟨S5632x1024, .f32⟩
  | .hbm, ⟨11, _⟩ => ⟨S5632x1024, .bf16⟩
  | .hbm, ⟨12, _⟩ => ⟨S8192x1024, .f32⟩
  | .hbm, ⟨13, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S5632x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormRefIdeal.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x8192x5632 : Shape := ⟨3, ![1, 8192, 5632]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S8192 : Shape := ⟨1, ![8192]⟩
abbrev S8192x1024 : Shape := ⟨2, ![8192, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S1x8192x5632, .f32⟩
  | .hbm, ⟨4, _⟩ => ⟨S1x8192x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S1x8192x1024, .f32⟩
  | .hbm, ⟨22, _⟩ => ⟨S1x8192x1024, .f32⟩
  | .hbm, ⟨23, _⟩ => ⟨S1x1x1024, .f32⟩
  | .hbm, ⟨24, _⟩ => ⟨S1x8192x1024, .f32⟩
  | .hbm, ⟨25, _⟩ => ⟨S1x8192x1024, .f32⟩
  | .hbm, ⟨26, _⟩ => ⟨S1024x5632, .f32⟩
  | .hbm, ⟨27, _⟩ => ⟨S1x8192x5632, .f32⟩
  | .hbm, ⟨28, _⟩ => ⟨S1x8192x1024, .f32⟩
  | .hbm, ⟨29, _⟩ => ⟨S1x8192x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1024, .f32⟩
  | .hbm, ⟨37, _⟩ => ⟨S1x8192x1024, .f32⟩
  | .hbm, ⟨38, _⟩ => ⟨S_, .f32⟩
  | .hbm, ⟨39, _⟩ => ⟨S1x8192, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S8192, .f32⟩
  | .hbm, ⟨50, _⟩ => ⟨S1x8192, .f32⟩
  | .hbm, ⟨51, _⟩ => ⟨S1x8192x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S1x8192x1024, .f32⟩
  | .hbm, ⟨56, _⟩ => ⟨S1x1024, .f32⟩
  | .hbm, ⟨57, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== AttnBwd.lean ====
abbrev S1x8192x1024 : Shape := ⟨3, ![1, 8192, 1024]⟩
abbrev S1x8192x256 : Shape := ⟨3, ![1, 8192, 256]⟩
abbrev S1x16 : Shape := ⟨2, ![1, 16]⟩
abbrev S128x128 : Shape := ⟨2, ![128, 128]⟩
abbrev S8192x1024 : Shape := ⟨2, ![8192, 1024]⟩
abbrev S8192x256 : Shape := ⟨2, ![8192, 256]⟩
abbrev S16 : Shape := ⟨1, ![16]⟩
abbrev S1x128 : Shape := ⟨2, ![1, 128]⟩
abbrev S128x1024 : Shape := ⟨2, ![128, 1024]⟩
abbrev S128x256 : Shape := ⟨2, ![128, 256]⟩
abbrev S1x16x128x128 : Shape := ⟨4, ![1, 16, 128, 128]⟩
abbrev S1x16x128x256 : Shape := ⟨4, ![1, 16, 128, 256]⟩
abbrev S256x128 : Shape := ⟨2, ![256, 128]⟩
abbrev S1x1x128x128 : Shape := ⟨4, ![1, 1, 128, 128]⟩
abbrev S1 : Shape := ⟨1, ![1]⟩
abbrev S128 : Shape := ⟨1, ![128]⟩
abbrev S128x1 : Shape := ⟨2, ![128, 1]⟩
abbrev S1x1x128x256 : Shape := ⟨4, ![1, 1, 128, 256]⟩
abbrev S1x1 : Shape := ⟨2, ![1, 1]⟩
abbrev S256x256 : Shape := ⟨2, ![256, 256]⟩

abbrev nBuf : Space → Nat
  | .hbm => 16
  | .vmem => 20
  | .smem => 1
  | _ => 0

abbrev bufTy : (tb : Table) → Fin (tcTables nBuf tb) → BufTy
  | .hbm, ⟨0, _⟩ => ⟨S1x8192x1024, .f32⟩
  | .hbm, ⟨1, _⟩ => ⟨S1x8192x256, .f32⟩
  | .hbm, ⟨2, _⟩ => ⟨S1x16, .f32⟩
  | .hbm, ⟨3, _⟩ => ⟨S1x8192x1024, .f32⟩
  | .hbm, ⟨4, _⟩ => ⟨S128x128, .f32⟩
  | .hbm, ⟨5, _⟩ => ⟨S8192x1024, .f32⟩
  | .hbm, ⟨6, _⟩ => ⟨S8192x1024, .bf16⟩
  | .hbm, ⟨7, _⟩ => ⟨S8192x256, .f32⟩
  | .hbm, ⟨8, _⟩ => ⟨S8192x256, .bf16⟩
  | .hbm, ⟨9, _⟩ => ⟨S8192x1024, .f32⟩
  | .hbm, ⟨10, _⟩ => ⟨S8192x1024, .bf16⟩
  | .hbm, ⟨11, _⟩ => ⟨S16, .f32⟩
  | .hbm, ⟨12, _⟩ => ⟨S8192x1024, .bf16⟩
  | .hbm, ⟨13, _⟩ => ⟨S8192x256, .f32⟩
  | .hbm, ⟨14, _⟩ => ⟨S8192x256, .f32⟩
  | .hbm, ⟨15, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x128, .f32⟩
  | .local _ .vmem, ⟨9, _⟩ => ⟨S128x1024, .bf16⟩
  | .local _ .vmem, ⟨10, _⟩ => ⟨S128x1024, .bf16⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S1x128, .f32⟩
  | .local _ .vmem, ⟨16, _⟩ => ⟨S1x16x128x128, .f32⟩
  | .local _ .vmem, ⟨17, _⟩ => ⟨S1x16x128x128, .f32⟩
  | .local _ .vmem, ⟨18, _⟩ => ⟨S1x16x128x256, .bf16⟩
  | .local _ .vmem, ⟨19, _⟩ => ⟨S1x16x128x256, .bf16⟩
  | .local _ .smem, ⟨0, _⟩ => ⟨S16, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.muli arg0 c1_i32
  let c1_i32_0 : BitVec 32 := 1#32
  let v1 : BitVec 32 := Scalar.subi v0 c1_i32_0
  let c0_i32 : BitVec 32 := 0#32
  let v2 : BitVec 32 := Scalar.maxsi v1 c0_i32
  let c0_i32_1 : BitVec 32 := 0#32
  let c0_i32_2 : BitVec 32 := 0#32
  ![v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== AttnRefIdeal.lean ====
abbrev S1x8192x1024 : Shape := ⟨3, ![1, 8192, 1024]⟩
abbrev S1x8192x256 : Shape := ⟨3, ![1, 8192, 256]⟩
abbrev S1x16 : Shape := ⟨2, ![1, 16]⟩
abbrev S1x8192x128 : Shape := ⟨3, ![1, 8192, 128]⟩
abbrev S_ : Shape := ⟨0, ![]⟩
abbrev S1x128x2x64 : Shape := ⟨4, ![1, 128, 2, 64]⟩
abbrev S1x8192x2x64 : Shape := ⟨4, ![1, 8192, 2, 64]⟩
abbrev S1x64x128x2x64 : Shape := ⟨5, ![1, 64, 128, 2, 64]⟩
abbrev S1x8064x2x64 : Shape := ⟨4, ![1, 8064, 2, 64]⟩
abbrev S1x64x256x2x64 : Shape := ⟨5, ![1, 64, 256, 2, 64]⟩
abbrev S16 : Shape := ⟨1, ![16]⟩
abbrev S1x64x128x2x8x64 : Shape := ⟨6, ![1, 64, 128, 2, 8, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S1 : Shape := ⟨1, ![1]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x64x1x1x128x256 : Shape := ⟨6, ![1, 64, 1, 1, 128, 256]⟩
abbrev S1x64x2x8x128 : Shape := ⟨5, ![1, 64, 2, 8, 128]⟩
abbrev S1x64x2x8x128x1 : Shape := ⟨6, ![1, 64, 2, 8, 128, 1]⟩
abbrev S1x1x2x8x1x1 : Shape := ⟨6, ![1, 1, 2, 8, 1, 1]⟩
abbrev S1x64x2x64x8x128 : Shape := ⟨6, ![1, 64, 2, 64, 8, 128]⟩
abbrev S1x64x2x64x256 : Shape := ⟨5, ![1, 64, 2, 64, 256]⟩
abbrev S1x2x8x1 : Shape := ⟨4, ![1, 2, 8, 1]⟩
abbrev S64x2x8x128 : Shape := ⟨4, ![64, 2, 8, 128]⟩
abbrev S1x64x2x128x8x64 : Shape := ⟨6, ![1, 64, 2, 128, 8, 64]⟩
abbrev S1x64x2x256x64 : Shape := ⟨5, ![1, 64, 2, 256, 64]⟩
abbrev S64x256x128 : Shape := ⟨3, ![64, 256, 128]⟩
abbrev S64x256x256 : Shape := ⟨3, ![64, 256, 256]⟩
abbrev S8192x1024 : Shape := ⟨2, ![8192, 1024]⟩
abbrev S8192x256 : Shape := ⟨2, ![8192, 256]⟩
abbrev S1x128 : Shape := ⟨2, ![1, 128]⟩

abbrev nBuf : Space → Nat
  | .hbm => 252
  | .vmem => 0
  | .smem => 0
  | _ => 0

abbrev hbmTy0_0 (i : Nat) : BufTy := match i % 128 with
  | 0 => ⟨S1x8192x1024, .f32⟩
  | 1 => ⟨S1x8192x256, .f32⟩
  | 2 => ⟨S1x16, .f32⟩
  | 3 => ⟨S1x8192x1024, .f32⟩
  | 4 => ⟨S1x8192x128, .f32⟩
  | 5 => ⟨S1x8192x128, .f32⟩
  | 6 => ⟨S_, .f32⟩
  | 7 => ⟨S1x128x2x64, .f32⟩
  | 8 => ⟨S1x8192x2x64, .f32⟩
  | 9 => ⟨S1x64x128x2x64, .f32⟩
  | 10 => ⟨S1x8064x2x64, .f32⟩
  | 11 => ⟨S1x8192x2x64, .f32⟩
  | 12 => ⟨S1x64x128x2x64, .f32⟩
  | 13 => ⟨S1x64x256x2x64, .f32⟩
  | 14 => ⟨S_, .f32⟩
  | 15 => ⟨S1x128x2x64, .f32⟩
  | 16 => ⟨S1x8192x2x64, .f32⟩
  | 17 => ⟨S1x64x128x2x64, .f32⟩
  | 18 => ⟨S1x8064x2x64, .f32⟩
  | 19 => ⟨S1x8192x2x64, .f32⟩
  | 20 => ⟨S1x64x128x2x64, .f32⟩
  | 21 => ⟨S1x64x256x2x64, .f32⟩
  | 22 => ⟨S16, .f32⟩
  | 23 => ⟨S1x64x128x2x8x64, .f32⟩
  | 24 => ⟨S1x64x2x256x128x8, .f32⟩
  | 25 => ⟨S1x64x2x8x128x256, .f32⟩
  | 26 => ⟨S_, .f32⟩
  | 27 => ⟨S1x64x2x8x128x256, .f32⟩
  | 28 => ⟨S1x64x2x8x128x256, .f32⟩
  | 29 => ⟨S128, .i32⟩
  | 30 => ⟨S128x1, .i32⟩
  | 31 => ⟨S_, .i32⟩
  | 32 => ⟨S128x1, .i32⟩
  | 33 => ⟨S128x1, .i32⟩
  | 34 => ⟨S256, .i32⟩
  | 35 => ⟨S1x256, .i32⟩
  | 36 => ⟨S128x256, .i32⟩
  | 37 => ⟨S128x256, .i32⟩
  | 38 => ⟨S128x256, .i32⟩
  | 39 => ⟨S64, .i32⟩
  | 40 => ⟨S64x1x1, .i32⟩
  | 41 => ⟨S_, .i32⟩
  | 42 => ⟨S128x256, .i32⟩
  | 43 => ⟨S128x256, .i1⟩
  | 44 => ⟨S1x128x256, .i1⟩
  | 45 => ⟨S_, .i32⟩
  | 46 => ⟨S128x256, .i32⟩
  | 47 => ⟨S128x256, .i1⟩
  | 48 => ⟨S1x128x256, .i1⟩
  | 49 => ⟨S1x128x256, .i1⟩
  | 50 => ⟨S_, .i32⟩
  | 51 => ⟨S64x1x1, .i32⟩
  | 52 => ⟨S64x1x1, .i32⟩
  | 53 => ⟨S_, .i32⟩
  | 54 => ⟨S64x1x1, .i32⟩
  | 55 => ⟨S64x1x1, .i32⟩
  | 56 => ⟨S1x1x256, .i32⟩
  | 57 => ⟨S64x1x256, .i32⟩
  | 58 => ⟨S64x1x256, .i32⟩
  | 59 => ⟨S64x1x256, .i32⟩
  | 60 => ⟨S_, .i32⟩
  | 61 => ⟨S64x1x256, .i32⟩
  | 62 => ⟨S64x1x256, .i1⟩
  | 63 => ⟨S64x128x256, .i1⟩
  | 64 => ⟨S64x128x256, .i1⟩
  | 65 => ⟨S64x128x256, .i1⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1, .f32⟩
  | 83 => ⟨S1, .f32⟩
  | 84 => ⟨S1, .f32⟩
  | 85 => ⟨S1, .f32⟩
  | 86 => ⟨S1, .f32⟩
  | 87 => ⟨S1, .f32⟩
  | 88 => ⟨S1, .f32⟩
  | 89 => ⟨S1, .f32⟩
  | 90 => ⟨S1, .f32⟩
  | 91 => ⟨S1, .f32⟩
  | 92 => ⟨S1, .f32⟩
  | 93 => ⟨S1, .f32⟩
  | 94 => ⟨S1, .f32⟩
  | 95 => ⟨S1, .f32⟩
  | 96 => ⟨S1, .f32⟩
  | 97 => ⟨S1, .f32⟩
  | 98 => ⟨S16, .f32⟩
  | 99 => ⟨S2x8, .f32⟩
  | 100 => ⟨S2x8x1x1, .f32⟩
  | 101 => ⟨S128x256, .f32⟩
  | 102 => ⟨S1x1x128x256, .f32⟩
  | 103 => ⟨S2x8x128x256, .f32⟩
  | 104 => ⟨S2x8x128x256, .f32⟩
  | 105 => ⟨S2x8x128x256, .f32⟩
  | 106 => ⟨S1x1x2x8x128x256, .f32⟩
  | 107 => ⟨S1x64x2x8x128x256, .f32⟩
  | 108 => ⟨S1x64x2x8x128x256, .f32⟩
  | 109 => ⟨S1x64x1x1x128x256, .i1⟩
  | 110 => ⟨S_, .f32⟩
  | 111 => ⟨S_, .f32⟩
  | 112 => ⟨S1x64x2x8x128x256, .i1⟩
  | 113 => ⟨S1x64x2x8x128x256, .f32⟩
  | 114 => ⟨S1x64x2x8x128x256, .f32⟩
  | 115 => ⟨S_, .f32⟩
  | 116 => ⟨S1x64x2x8x128x256, .f32⟩
  | 117 => ⟨S2x8, .f32⟩
  | 118 => ⟨S2x8x1x1, .f32⟩
  | 119 => ⟨S_, .f32⟩
  | 120 => ⟨S1x64x2x8x128, .f32⟩
  | 121 => ⟨S1x64x2x8x128x1, .f32⟩
  | 122 => ⟨S1x64x2x8x128x256, .f32⟩
  | 123 => ⟨S1x64x2x8x128x256, .i1⟩
  | 124 => ⟨S1x64x2x8x128x256, .f32⟩
  | 125 => ⟨S_, .f32⟩
  | 126 => ⟨S1x64x2x8x128, .f32⟩
  | 127 => ⟨S1x64x2x8x128x1, .f32⟩
  | _ => ⟨S1x8192x1024, .f32⟩

abbrev hbmTy0_1 (i : Nat) : BufTy := match i % 128 with
  | 0 => ⟨S1x1x2x8x1x1, .f32⟩
  | 1 => ⟨S1x64x2x8x128x1, .f32⟩
  | 2 => ⟨S1x64x2x8x128x1, .f32⟩
  | 3 => ⟨S1x64x2x8x128x1, .f32⟩
  | 4 => ⟨S1x64x2x8x128x1, .i1⟩
  | 5 => ⟨S1x64x2x8x128x1, .f32⟩
  | 6 => ⟨S1x64x2x8x128x1, .i1⟩
  | 7 => ⟨S_, .f32⟩
  | 8 => ⟨S1x64x2x8x128x1, .f32⟩
  | 9 => ⟨S_, .f32⟩
  | 10 => ⟨S1x64x2x8x128x1, .f32⟩
  | 11 => ⟨S_, .f32⟩
  | 12 => ⟨S1x64x2x8x128x1, .f32⟩
  | 13 => ⟨S1x64x2x8x128x1, .f32⟩
  | 14 => ⟨S1x64x2x8x128x1, .f32⟩
  | 15 => ⟨S1x64x2x8x128x1, .f32⟩
  | 16 => ⟨S1x64x2x8x128x1, .i1⟩
  | 17 => ⟨S1x64x2x8x128x1, .f32⟩
  | 18 => ⟨S1x64x2x8x128x1, .i1⟩
  | 19 => ⟨S_, .f32⟩
  | 20 => ⟨S1x64x2x8x128x1, .f32⟩
  | 21 => ⟨S_, .f32⟩
  | 22 => ⟨S1x64x2x8x128x1, .f32⟩
  | 23 => ⟨S_, .f32⟩
  | 24 => ⟨S1x64x2x8x128x1, .f32⟩
  | 25 => ⟨S1x64x2x8x128x1, .f32⟩
  | 26 => ⟨S1x64x2x8x128x1, .f32⟩
  | 27 => ⟨S1x64x2x8x128x256, .f32⟩
  | 28 => ⟨S1x64x2x8x128x256, .f32⟩
  | 29 => ⟨S1x64x2x8x128x256, .f32⟩
  | 30 => ⟨S_, .f32⟩
  | 31 => ⟨S1x64x2x8x128, .f32⟩
  | 32 => ⟨S1x64x2x8x128x1, .f32⟩
  | 33 => ⟨S1x1x2x8x1x1, .f32⟩
  | 34 => ⟨S1x64x2x8x128x1, .f32⟩
  | 35 => ⟨S1x64x2x8x128x1, .f32⟩
  | 36 => ⟨S1x64x2x8x128x1, .f32⟩
  | 37 => ⟨S1x64x2x8x128x1, .f32⟩
  | 38 => ⟨S1x64x2x8x128x256, .f32⟩
  | 39 => ⟨S1x64x2x8x128x256, .f32⟩
  | 40 => ⟨S1x64x2x8x128x1, .f32⟩
  | 41 => ⟨S_, .f32⟩
  | 42 => ⟨S1x64x2x8x128x1, .f32⟩
  | 43 => ⟨S1x64x2x8x128x1, .f32⟩
  | 44 => ⟨S1x64x2x64x8x128, .f32⟩
  | 45 => ⟨S1x64x128x2x8x64, .f32⟩
  | 46 => ⟨S1x8192x1024, .f32⟩
  | 47 => ⟨S1x64x128x2x8x64, .f32⟩
  | 48 => ⟨S1x64x2x64x8x128, .f32⟩
  | 49 => ⟨S1x64x2x8x128x256, .f32⟩
  | 50 => ⟨S1x64x2x64x256, .f32⟩
  | 51 => ⟨S1x64x256x2x64, .f32⟩
  | 52 => ⟨S1x64x2x8x128x256, .f32⟩
  | 53 => ⟨S1x64x2x8x128x256, .f32⟩
  | 54 => ⟨S1x64x2x8x128x256, .f32⟩
  | 55 => ⟨S_, .f32⟩
  | 56 => ⟨S1x64x2x8x128, .f32⟩
  | 57 => ⟨S1x64x2x8x128x1, .f32⟩
  | 58 => ⟨S1x64x2x8x128x1, .f32⟩
  | 59 => ⟨S1x64x2x8x128x256, .f32⟩
  | 60 => ⟨S1x64x2x8x128x256, .f32⟩
  | 61 => ⟨S1x64x2x8x128x1, .f32⟩
  | 62 => ⟨S_, .f32⟩
  | 63 => ⟨S1x2x8x1, .f32⟩
  | 64 => ⟨S1x1x2x8x1x1, .f32⟩
  | 65 => ⟨S1x64x2x8x128x1, .f32⟩
  | 66 => ⟨S_, .f32⟩
  | 67 => ⟨S2x8, .f32⟩
  | 68 => ⟨S2x8x1x1, .f32⟩
  | 69 => ⟨S_, .f32⟩
  | 70 => ⟨S64x2x8x128, .f32⟩
  | 71 => ⟨S1x64x2x8x128, .f32⟩
  | 72 => ⟨S1x64x2x8x128x256, .f32⟩
  | 73 => ⟨S1x64x2x8x128x256, .f32⟩
  | 74 => ⟨S1x64x2x8x128x256, .f32⟩
  | 75 => ⟨S1x64x2x8x128x256, .f32⟩
  | 76 => ⟨S_, .f32⟩
  | 77 => ⟨S1x64x2x8x128, .f32⟩
  | 78 => ⟨S1x64x2x8x128x1, .f32⟩
  | 79 => ⟨S1x64x2x8x128x1, .f32⟩
  | 80 => ⟨S1x64x2x8x128x1, .f32⟩
  | 81 => ⟨S_, .f32⟩
  | 82 => ⟨S1x2x8x1, .f32⟩
  | 83 => ⟨S1x1x2x8x1x1, .f32⟩
  | 84 => ⟨S1x64x2x8x128x1, .f32⟩
  | 85 => ⟨S_, .f32⟩
  | 86 => ⟨S2x8, .f32⟩
  | 87 => ⟨S2x8x1x1, .f32⟩
  | 88 => ⟨S2x8x1x1, .f32⟩
  | 89 => ⟨S_, .f32⟩
  | 90 => ⟨S64x2x8x128, .f32⟩
  | 91 => ⟨S1x64x2x8x128, .f32⟩
  | 92 => ⟨S1x64x2x8x128, .f32⟩
  | 93 => ⟨S1x64x2x8x128x256, .f32⟩
  | 94 => ⟨S1x64x2x8x128x256, .f32⟩
  | 95 => ⟨S1x64x2x8x128x256, .f32⟩
  | 96 => ⟨S_, .f32⟩
  | 97 => ⟨S2x8, .f32⟩
  | 98 => ⟨S16, .f32⟩
  | 99 => ⟨S_, .f32⟩
  | 100 => ⟨S1x64x2x8x128x256, .f32⟩
  | 101 => ⟨S1x64x2x8x128x256, .f32⟩
  | 102 => ⟨S_, .f32⟩
  | 103 => ⟨S1x64x2x8x128x256, .f32⟩
  | 104 => ⟨S1x64x2x8x128x256, .f32⟩
  | 105 => ⟨S1x64x2x256x128x8, .f32⟩
  | 106 => ⟨S1x64x2x128x8x64, .f32⟩
  | 107 => ⟨S1x64x128x2x8x64, .f32⟩
  | 108 => ⟨S1x64x2x256x64, .f32⟩
  | 109 => ⟨S1x64x256x2x64, .f32⟩
  | 110 => ⟨S1x8192x1024, .f32⟩
  | 111 => ⟨S64x256x128, .f32⟩
  | 112 => ⟨S64x256x128, .f32⟩
  | 113 => ⟨S64x256x256, .f32⟩
  | 114 => ⟨S8192x1024, .f32⟩
  | 115 => ⟨S8192x1024, .bf16⟩
  | 116 => ⟨S64x128x256, .f32⟩
  | 117 => ⟨S8192x256, .f32⟩
  | 118 => ⟨S64x128x256, .f32⟩
  | 119 => ⟨S8192x256, .f32⟩
  | 120 => ⟨S_, .i32⟩
  | 121 => ⟨S_, .f32⟩
  | 122 => ⟨S128, .f32⟩
  | 123 => ⟨S1x128, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_c_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_c_6 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_cst_8 : Ref sig .tc := ⟨.hbm, 67, rfl⟩
abbrev main_cst_9 : Ref sig .tc := ⟨.hbm, 68, rfl⟩
abbrev main_cst_10 : Ref sig .tc := ⟨.hbm, 69, rfl⟩
abbrev main_cst_11 : Ref sig .tc := ⟨.hbm, 70, rfl⟩
abbrev main_cst_12 : Ref sig .tc := ⟨.hbm, 71, rfl⟩
abbrev main_cst_13 : Ref sig .tc := ⟨.hbm, 72, rfl⟩
abbrev main_cst_14 : Ref sig .tc := ⟨.hbm, 73, rfl⟩
abbrev main_cst_15 : Ref sig .tc := ⟨.hbm, 74, rfl⟩
abbrev main_cst_16 : Ref sig .tc := ⟨.hbm, 75, rfl⟩
abbrev main_cst_17 : Ref sig .tc := ⟨.hbm, 76, rfl⟩
abbrev main_cst_18 : Ref sig .tc := ⟨.hbm, 77, rfl⟩
abbrev main_cst_19 : Ref sig .tc := ⟨.hbm, 78, rfl⟩
abbrev main_cst_20 : Ref sig .tc := ⟨.hbm, 79, rfl⟩
abbrev main_cst_21 : Ref sig .tc := ⟨.hbm, 80, rfl⟩
abbrev main_cst_22 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_23 : Ref sig .tc := ⟨.hbm, 110, rfl⟩
abbrev main_call0_v0 : Ref sig .tc := ⟨.hbm, 111, rfl⟩
abbrev main_v81_1 : Ref sig .tc := ⟨.hbm, 112, rfl⟩
abbrev main_call0_v2 : Ref sig .tc := ⟨.hbm, 113, rfl⟩
abbrev main_v81_0 : Ref sig .tc := ⟨.hbm, 114, rfl⟩
abbrev main_call0_cst : Ref sig .tc := ⟨.hbm, 115, rfl⟩
abbrev main_v81_2 : Ref sig .tc := ⟨.hbm, 116, rfl⟩
abbrev main_v82 : Ref sig .tc := ⟨.hbm, 117, rfl⟩
abbrev main_v83 : Ref sig .tc := ⟨.hbm, 118, rfl⟩
abbrev main_cst_24 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_25 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_26 : Ref sig .tc := ⟨.hbm, 135, rfl⟩
abbrev main_v98 : Ref sig .tc := ⟨.hbm, 136, rfl⟩
abbrev main_cst_27 : Ref sig .tc := ⟨.hbm, 137, rfl⟩
abbrev main_v99 : Ref sig .tc := ⟨.hbm, 138, rfl⟩
abbrev main_cst_28 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_29 : Ref sig .tc := ⟨.hbm, 147, rfl⟩
abbrev main_v107 : Ref sig .tc := ⟨.hbm, 148, rfl⟩
abbrev main_cst_30 : Ref sig .tc := ⟨.hbm, 149, rfl⟩
abbrev main_v108 : Ref sig .tc := ⟨.hbm, 150, rfl⟩
abbrev main_cst_31 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_32 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_33 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_34 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_35 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_36 : Ref sig .tc := ⟨.hbm, 194, rfl⟩
abbrev main_v147 : Ref sig .tc := ⟨.hbm, 195, rfl⟩
abbrev main_v148 : Ref sig .tc := ⟨.hbm, 196, rfl⟩
abbrev main_cst_37 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_38 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_cst_39 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_cst_40 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_cst_41 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_42 : Ref sig .tc := ⟨.hbm, 224, rfl⟩
abbrev main_v171 : Ref sig .tc := ⟨.hbm, 225, rfl⟩
abbrev main_v172 : Ref sig .tc := ⟨.hbm, 226, rfl⟩
abbrev main_call1_cst : Ref sig .tc := ⟨.hbm, 227, rfl⟩
abbrev main_call1_v0 : Ref sig .tc := ⟨.hbm, 228, rfl⟩
abbrev main_v173 : Ref sig .tc := ⟨.hbm, 229, rfl⟩
abbrev main_cst_43 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_v180 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_c_44 : Ref sig .tc := ⟨.hbm, 248, rfl⟩
abbrev main_call2_v0 : Ref sig .tc := ⟨.hbm, 249, rfl⟩
abbrev main_v191 : Ref sig .tc := ⟨.hbm, 250, rfl⟩
abbrev main_v192 : Ref sig .tc := ⟨.hbm, 251, rfl⟩

abbrev nD : Nat := 1
abbrev τ : Topo := Topo.v7x

variable {F : FTy → Type} [FloatOps F]
-- ==== MixBwd.lean ====
abbrev S1x8192x1024 : Shape := ⟨3, ![1, 8192, 1024]⟩
abbrev S1x8192x512 : Shape := ⟨3, ![1, 8192, 512]⟩
abbrev S1x1024x1024 : Shape := ⟨3, ![1, 1024, 1024]⟩
abbrev S1x4x128x128 : Shape := ⟨4, ![1, 4, 128, 128]⟩
abbrev S1x512 : Shape := ⟨2, ![1, 512]⟩
abbrev S1x512x1024 : Shape := ⟨3, ![1, 512, 1024]⟩
abbrev S8192x1024 : Shape := ⟨2, ![8192, 1024]⟩
abbrev S8192x2048 : Shape := ⟨2, ![8192, 2048]⟩
abbrev S1024x1024 : Shape := ⟨2, ![1024, 1024]⟩
abbrev S_ : Shape := ⟨0, ![]⟩
abbrev S1x1x512 : Shape := ⟨3, ![1, 1, 512]⟩
abbrev S1x8193x512 : Shape := ⟨3, ![1, 8193, 512]⟩
abbrev S8192 : Shape := ⟨1, ![8192]⟩
abbrev S1x8193x128 : Shape := ⟨3, ![1, 8193, 128]⟩
abbrev S1x1x128 : Shape := ⟨3, ![1, 1, 128]⟩
abbrev S1x8191x128 : Shape := ⟨3, ![1, 8191, 128]⟩
abbrev S1x8192x128 : Shape := ⟨3, ![1, 8192, 128]⟩
abbrev S1x8192x1 : Shape := ⟨3, ![1, 8192, 1]⟩
abbrev S1x3x128 : Shape := ⟨3, ![1, 3, 128]⟩
abbrev S1x8189x128 : Shape := ⟨3, ![1, 8189, 128]⟩
abbrev S1x7x128 : Shape := ⟨3, ![1, 7, 128]⟩
abbrev S1x8185x128 : Shape := ⟨3, ![1, 8185, 128]⟩
abbrev S1x15x128 : Shape := ⟨3, ![1, 15, 128]⟩
abbrev S1x8177x128 : Shape := ⟨3, ![1, 8177, 128]⟩
abbrev S4x128x128 : Shape := ⟨3, ![4, 128, 128]⟩
abbrev S512 : Shape := ⟨1, ![512]⟩
abbrev S1x8192x4x128 : Shape := ⟨4, ![1, 8192, 4, 128]⟩
abbrev S4x128x1x8192 : Shape := ⟨4, ![4, 128, 1, 8192]⟩
abbrev S512x1024 : Shape := ⟨2, ![512, 1024]⟩
abbrev S8192x512 : Shape := ⟨2, ![8192, 512]⟩
abbrev S1024x512 : Shape := ⟨2, ![1024, 512]⟩
abbrev S512x2048 : Shape := ⟨2, ![512, 2048]⟩
abbrev S512x512 : Shape := ⟨2, ![512, 512]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 128
  | .vmem => 29
  | .smem => 0
  | _ => 0

abbrev bufTy : (tb : Table) → Fin (tcTables nBuf tb) → BufTy
  | .hbm, ⟨0, _⟩ => ⟨S1x8192x1024, .f32⟩
  | .hbm, ⟨1, _⟩ => ⟨S1x8192x512, .f32⟩
  | .hbm, ⟨2, _⟩ => ⟨S1x8192x1024, .f32⟩
  | .hbm, ⟨3, _⟩ => ⟨S1x8192x1024, .f32⟩
  | .hbm, ⟨4, _⟩ => ⟨S1x1024x1024, .f32⟩
  | .hbm, ⟨5, _⟩ => ⟨S1x4x128x128, .f32⟩
  | .hbm, ⟨6, _⟩ => ⟨S1x512, .f32⟩
  | .hbm, ⟨7, _⟩ => ⟨S1x512x1024, .f32⟩
  | .hbm, ⟨8, _⟩ => ⟨S1x1024x1024, .f32⟩
  | .hbm, ⟨9, _⟩ => ⟨S1x8192x1024, .f32⟩
  | .hbm, ⟨10, _⟩ => ⟨S8192x1024, .f32⟩
  | .hbm, ⟨11, _⟩ => ⟨S8192x1024, .f32⟩
  | .hbm, ⟨12, _⟩ => ⟨S8192x2048, .f32⟩
  | .hbm, ⟨13, _⟩ => ⟨S1024x1024, .f32⟩
  | .hbm, ⟨14, _⟩ => ⟨S1x8192x1024, .f32⟩
  | .hbm, ⟨15, _⟩ => ⟨S_, .f32⟩
  | .hbm, ⟨16, _⟩ => ⟨S1x1x512, .f32⟩
  | .hbm, ⟨17, _⟩ => ⟨S_, .f32⟩
  | .hbm, ⟨18, _⟩ => ⟨S_, .f32⟩
  | .hbm, ⟨19, _⟩ => ⟨S1x8192x512, .f32⟩
  | .hbm, ⟨20, _⟩ => ⟨S1x8193x512, .f32⟩
  | .hbm, ⟨21, _⟩ => ⟨S8192, .i32⟩
  | .hbm, ⟨22, _⟩ => ⟨S1x8193x128, .f32⟩
  | .hbm, ⟨23, _⟩ => ⟨S_, .f32⟩
  | .hbm, ⟨24, _⟩ => ⟨S1x1x128, .f32⟩
  | .hbm, ⟨25, _⟩ => ⟨S1x8191x128, .f32⟩
  | .hbm, ⟨26, _⟩ => ⟨S1x8192x128, .f32⟩
  | .hbm, ⟨27, _⟩ => ⟨S_, .i32⟩
  | .hbm, ⟨28, _⟩ => ⟨S8192, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i32⟩
  | .hbm, ⟨33, _⟩ => ⟨S8192, .f32⟩
  | .hbm, ⟨34, _⟩ => ⟨S1x8192x1, .f32⟩
  | .hbm, ⟨35, _⟩ => ⟨S1x8192x128, .f32⟩
  | .hbm, ⟨36, _⟩ => ⟨S1x8192x128, .f32⟩
  | .hbm, ⟨37, _⟩ => ⟨S1x8192x128, .f32⟩
  | .hbm, ⟨38, _⟩ => ⟨S1x8192x128, .f32⟩
  | .hbm, ⟨39, _⟩ => ⟨S1x8193x128, .f32⟩
  | .hbm, ⟨40, _⟩ => ⟨S_, .f32⟩
  | .hbm, ⟨41, _⟩ => ⟨S1x3x128, .f32⟩
  | .hbm, ⟨42, _⟩ => ⟨S1x8189x128, .f32⟩
  | .hbm, ⟨43, _⟩ => ⟨S1x8192x128, .f32⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .f32⟩
  | .hbm, ⟨51, _⟩ => ⟨S1x8192x1, .f32⟩
  | .hbm, ⟨52, _⟩ => ⟨S1x8192x128, .f32⟩
  | .hbm, ⟨53, _⟩ => ⟨S1x8192x128, .f32⟩
  | .hbm, ⟨54, _⟩ => ⟨S1x8192x128, .f32⟩
  | .hbm, ⟨55, _⟩ => ⟨S1x8192x128, .f32⟩
  | .hbm, ⟨56, _⟩ => ⟨S1x8193x128, .f32⟩
  | .hbm, ⟨57, _⟩ => ⟨S_, .f32⟩
  | .hbm, ⟨58, _⟩ => ⟨S1x7x128, .f32⟩
  | .hbm, ⟨59, _⟩ => ⟨S1x8185x128, .f32⟩
  | .hbm, ⟨60, _⟩ => ⟨S1x8192x128, .f32⟩
  | .hbm, ⟨61, _⟩ => ⟨S_, .i32⟩
  | .hbm, ⟨62, _⟩ => ⟨S8192, .i32⟩
  | .hbm, ⟨63, _⟩ => ⟨S8192, .i32⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .f32⟩
  | .hbm, ⟨68, _⟩ => ⟨S1x8192x1, .f32⟩
  | .hbm, ⟨69, _⟩ => ⟨S1x8192x128, .f32⟩
  | .hbm, ⟨70, _⟩ => ⟨S1x8192x128, .f32⟩
  | .hbm, ⟨71, _⟩ => ⟨S1x8192x128, .f32⟩
  | .hbm, ⟨72, _⟩ => ⟨S1x8192x128, .f32⟩
  | .hbm, ⟨73, _⟩ => ⟨S1x8193x128, .f32⟩
  | .hbm, ⟨74, _⟩ => ⟨S_, .f32⟩
  | .hbm, ⟨75, _⟩ => ⟨S1x15x128, .f32⟩
  | .hbm, ⟨76, _⟩ => ⟨S1x8177x128, .f32⟩
  | .hbm, ⟨77, _⟩ => ⟨S1x8192x128, .f32⟩
  | .hbm, ⟨78, _⟩ => ⟨S_, .i32⟩
  | .hbm, ⟨79, _⟩ => ⟨S8192, .i32⟩
  | .hbm, ⟨80, _⟩ => ⟨S8192, .i32⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .f32⟩
  | .hbm, ⟨85, _⟩ => ⟨S1x8192x1, .f32⟩
  | .hbm, ⟨86, _⟩ => ⟨S1x8192x128, .f32⟩
  | .hbm, ⟨87, _⟩ => ⟨S1x8192x128, .f32⟩
  | .hbm, ⟨88, _⟩ => ⟨S1x8192x128, .f32⟩
  | .hbm, ⟨89, _⟩ => ⟨S1x8192x128, .f32⟩
  | .hbm, ⟨90, _⟩ => ⟨S1x8192x512, .f32⟩
  | .hbm, ⟨91, _⟩ => ⟨S1x8192x512, .f32⟩
  | .hbm, ⟨92, _⟩ => ⟨S4x128x128, .f32⟩
  | .hbm, ⟨93, _⟩ => ⟨S512, .f32⟩
  | .hbm, ⟨94, _⟩ => ⟨S1x8192x4x128, .f32⟩
  | .hbm, ⟨95, _⟩ => ⟨S4x128x1x8192, .f32⟩
  | .hbm, ⟨96, _⟩ => ⟨S1x8192x4x128, .f32⟩
  | .hbm, ⟨97, _⟩ => ⟨S1x8192x512, .f32⟩
  | .hbm, ⟨98, _⟩ => ⟨S1x1x512, .f32⟩
  | .hbm, ⟨99, _⟩ => ⟨S1x8192x512, .f32⟩
  | .hbm, ⟨100, _⟩ => ⟨S1x8192x512, .f32⟩
  | .hbm, ⟨101, _⟩ => ⟨S512x1024, .f32⟩
  | .hbm, ⟨102, _⟩ => ⟨S1x8192x1024, .f32⟩
  | .hbm, ⟨103, _⟩ => ⟨S8192x1024, .f32⟩
  | .hbm, ⟨104, _⟩ => ⟨S8192x2048, .bf16⟩
  | .hbm, ⟨105, _⟩ => ⟨S8192x1024, .f32⟩
  | .hbm, ⟨106, _⟩ => ⟨S8192x1024, .bf16⟩
  | .hbm, ⟨107, _⟩ => ⟨S8192x1024, .f32⟩
  | .hbm, ⟨108, _⟩ => ⟨S8192x1024, .bf16⟩
  | .hbm, ⟨109, _⟩ => ⟨S8192x512, .f32⟩
  | .hbm, ⟨110, _⟩ => ⟨S8192x512, .bf16⟩
  | .hbm, ⟨111, _⟩ => ⟨S1024x1024, .f32⟩
  | .hbm, ⟨112, _⟩ => ⟨S1024x1024, .bf16⟩
  | .hbm, ⟨113, _⟩ => ⟨S4x128x128, .f32⟩
  | .hbm, ⟨114, _⟩ => ⟨S4x128x128, .bf16⟩
  | .hbm, ⟨115, _⟩ => ⟨S512x1024, .f32⟩
  | .hbm, ⟨116, _⟩ => ⟨S1024x512, .f32⟩
  | .hbm, ⟨117, _⟩ => ⟨S1024x512, .bf16⟩
  | .hbm, ⟨118, _⟩ => ⟨S1024x1024, .f32⟩
  | .hbm, ⟨119, _⟩ => ⟨S1024x1024, .bf16⟩
  | .hbm, ⟨120, _⟩ => ⟨S8192x1024, .bf16⟩
  | .hbm, ⟨121, _⟩ => ⟨S8192x1024, .bf16⟩
  | .hbm, ⟨122, _⟩ => ⟨S8192x1024, .bf16⟩
  | .hbm, ⟨123, _⟩ => ⟨S8192x1024, .bf16⟩
  | .hbm, ⟨124, _⟩ => ⟨S8192x2048, .bf16⟩
  | .hbm, ⟨125, _⟩ => ⟨S8192x512, .f32⟩
  | .hbm, ⟨126, _⟩ => ⟨S4x128x128, .f32⟩
  | .hbm, ⟨127, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .bf16⟩
  | .local _ .vmem, ⟨9, _⟩ => ⟨S512x512, .bf16⟩
  | .local _ .vmem, ⟨10, _⟩ => ⟨S1024x1024, .bf16⟩
  | .local _ .vmem, ⟨11, _⟩ => ⟨S4x128x128, .bf16⟩
  | .local _ .vmem, ⟨12, _⟩ => ⟨S1x512, .f32⟩
  | .local _ .vmem, ⟨13, _⟩ => ⟨S1024x512, .bf16⟩
  | .local _ .vmem, ⟨14, _⟩ => ⟨S1024x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x2048, .bf16⟩
  | .local _ .vmem, ⟨24, _⟩ => ⟨S512x2048, .bf16⟩
  | .local _ .vmem, ⟨25, _⟩ => ⟨S512x512, .f32⟩
  | .local _ .vmem, ⟨26, _⟩ => ⟨S512x512, .f32⟩
  | .local _ .vmem, ⟨27, _⟩ => ⟨S4x128x128, .f32⟩
  | .local _ .vmem, ⟨28, _⟩ => ⟨S1x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_call0_call0_cst : Ref sig .tc := ⟨.hbm, 17, rfl⟩
abbrev main_call0_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_3 : Ref sig .tc := ⟨.hbm, 44, rfl⟩
abbrev main_v27 : Ref sig .tc := ⟨.hbm, 45, rfl⟩
abbrev main_v28 : Ref sig .tc := ⟨.hbm, 46, rfl⟩
abbrev main_c_4 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_c_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95_0 : Ref sig .tc := ⟨.hbm, 120, rfl⟩
abbrev main_v95_1 : Ref sig .tc := ⟨.hbm, 121, rfl⟩
abbrev main_v95_2 : Ref sig .tc := ⟨.hbm, 122, rfl⟩
abbrev main_v95_3 : Ref sig .tc := ⟨.hbm, 123, rfl⟩
abbrev main_v95_4 : Ref sig .tc := ⟨.hbm, 124, rfl⟩
abbrev main_v95_5 : Ref sig .tc := ⟨.hbm, 125, rfl⟩
abbrev main_v95_6 : Ref sig .tc := ⟨.hbm, 126, rfl⟩
abbrev main_v95_7 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MixRefIdeal.lean ====
abbrev S1x8192x1024 : Shape := ⟨3, ![1, 8192, 1024]⟩
abbrev S1x8192x512 : Shape := ⟨3, ![1, 8192, 512]⟩
abbrev S1x1024x1024 : Shape := ⟨3, ![1, 1024, 1024]⟩
abbrev S1x4x128x128 : Shape := ⟨4, ![1, 4, 128, 128]⟩
abbrev S1x512 : Shape := ⟨2, ![1, 512]⟩
abbrev S1x512x1024 : Shape := ⟨3, ![1, 512, 1024]⟩
abbrev S_ : Shape := ⟨0, ![]⟩
abbrev S1x1x512 : Shape := ⟨3, ![1, 1, 512]⟩
abbrev S1x8193x512 : Shape := ⟨3, ![1, 8193, 512]⟩
abbrev S8192 : Shape := ⟨1, ![8192]⟩
abbrev S1x8193x128 : Shape := ⟨3, ![1, 8193, 128]⟩
abbrev S1x1x128 : Shape := ⟨3, ![1, 1, 128]⟩
abbrev S1x8191x128 : Shape := ⟨3, ![1, 8191, 128]⟩
abbrev S1x8192x128 : Shape := ⟨3, ![1, 8192, 128]⟩
abbrev S1x8192x1 : Shape := ⟨3, ![1, 8192, 1]⟩
abbrev S1x3x128 : Shape := ⟨3, ![1, 3, 128]⟩
abbrev S1x8189x128 : Shape := ⟨3, ![1, 8189, 128]⟩
abbrev S1x7x128 : Shape := ⟨3, ![1, 7, 128]⟩
abbrev S1x8185x128 : Shape := ⟨3, ![1, 8185, 128]⟩
abbrev S1x15x128 : Shape := ⟨3, ![1, 15, 128]⟩
abbrev S1x8177x128 : Shape := ⟨3, ![1, 8177, 128]⟩
abbrev S1024x1024 : Shape := ⟨2, ![1024, 1024]⟩
abbrev S4x128x128 : Shape := ⟨3, ![4, 128, 128]⟩
abbrev S512 : Shape := ⟨1, ![512]⟩
abbrev S1x8192x4x128 : Shape := ⟨4, ![1, 8192, 4, 128]⟩
abbrev S4x128x1x8192 : Shape := ⟨4, ![4, 128, 1, 8192]⟩
abbrev S512x1024 : Shape := ⟨2, ![512, 1024]⟩
abbrev S4x1x8192x128 : Shape := ⟨4, ![4, 1, 8192, 128]⟩
abbrev S8192x1024 : Shape := ⟨2, ![8192, 1024]⟩
abbrev S1x8192x2048 : Shape := ⟨3, ![1, 8192, 2048]⟩
abbrev S8192x2048 : Shape := ⟨2, ![8192, 2048]⟩
abbrev S8192x512 : Shape := ⟨2, ![8192, 512]⟩

abbrev nBuf : Space → Nat
  | .hbm => 172
  | .vmem => 0
  | .smem => 0
  | _ => 0

abbrev hbmTy0_0 (i : Nat) : BufTy := match i % 128 with
  | 0 => ⟨S1x8192x1024, .f32⟩
  | 1 => ⟨S1x8192x512, .f32⟩
  | 2 => ⟨S1x8192x1024, .f32⟩
  | 3 => ⟨S1x8192x1024, .f32⟩
  | 4 => ⟨S1x1024x1024, .f32⟩
  | 5 => ⟨S1x4x128x128, .f32⟩
  | 6 => ⟨S1x512, .f32⟩
  | 7 => ⟨S1x512x1024, .f32⟩
  | 8 => ⟨S1x1024x1024, .f32⟩
  | 9 => ⟨S1x8192x1024, .f32⟩
  | 10 => ⟨S_, .f32⟩
  | 11 => ⟨S1x8192x1024, .f32⟩
  | 12 => ⟨S_, .f32⟩
  | 13 => ⟨S1x1x512, .f32⟩
  | 14 => ⟨S_, .f32⟩
  | 15 => ⟨S_, .f32⟩
  | 16 => ⟨S1x8192x512, .f32⟩
  | 17 => ⟨S1x8193x512, .f32⟩
  | 18 => ⟨S8192, .i32⟩
  | 19 => ⟨S1x8193x128, .f32⟩
  | 20 => ⟨S_, .f32⟩
  | 21 => ⟨S1x1x128, .f32⟩
  | 22 => ⟨S1x8191x128, .f32⟩
  | 23 => ⟨S1x8192x128, .f32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S8192, .f32⟩
  | 31 => ⟨S1x8192x1, .f32⟩
  | 32 => ⟨S1x8192x128, .f32⟩
  | 33 => ⟨S1x8192x128, .f32⟩
  | 34 => ⟨S1x8192x128, .f32⟩
  | 35 => ⟨S1x8192x128, .f32⟩
  | 36 => ⟨S1x8193x128, .f32⟩
  | 37 => ⟨S_, .f32⟩
  | 38 => ⟨S1x3x128, .f32⟩
  | 39 => ⟨S1x8189x128, .f32⟩
  | 40 => ⟨S1x8192x128, .f32⟩
  | 41 => ⟨S_, .i32⟩
  | 42 => ⟨S8192, .i32⟩
  | 43 => ⟨S8192, .i32⟩
  | 44 => ⟨S_, .i32⟩
  | 45 => ⟨S8192, .i32⟩
  | 46 => ⟨S8192, .i32⟩
  | 47 => ⟨S8192, .f32⟩
  | 48 => ⟨S1x8192x1, .f32⟩
  | 49 => ⟨S1x8192x128, .f32⟩
  | 50 => ⟨S1x8192x128, .f32⟩
  | 51 => ⟨S1x8192x128, .f32⟩
  | 52 => ⟨S1x8192x128, .f32⟩
  | 53 => ⟨S1x8193x128, .f32⟩
  | 54 => ⟨S_, .f32⟩
  | 55 => ⟨S1x7x128, .f32⟩
  | 56 => ⟨S1x8185x128, .f32⟩
  | 57 => ⟨S1x8192x128, .f32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S8192, .f32⟩
  | 65 => ⟨S1x8192x1, .f32⟩
  | 66 => ⟨S1x8192x128, .f32⟩
  | 67 => ⟨S1x8192x128, .f32⟩
  | 68 => ⟨S1x8192x128, .f32⟩
  | 69 => ⟨S1x8192x128, .f32⟩
  | 70 => ⟨S1x8193x128, .f32⟩
  | 71 => ⟨S_, .f32⟩
  | 72 => ⟨S1x15x128, .f32⟩
  | 73 => ⟨S1x8177x128, .f32⟩
  | 74 => ⟨S1x8192x128, .f32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S8192, .f32⟩
  | 82 => ⟨S1x8192x1, .f32⟩
  | 83 => ⟨S1x8192x128, .f32⟩
  | 84 => ⟨S1x8192x128, .f32⟩
  | 85 => ⟨S1x8192x128, .f32⟩
  | 86 => ⟨S1x8192x128, .f32⟩
  | 87 => ⟨S1x8192x512, .f32⟩
  | 88 => ⟨S1x8192x512, .f32⟩
  | 89 => ⟨S1024x1024, .f32⟩
  | 90 => ⟨S1x8192x1024, .f32⟩
  | 91 => ⟨S1x8192x1024, .f32⟩
  | 92 => ⟨S4x128x128, .f32⟩
  | 93 => ⟨S512, .f32⟩
  | 94 => ⟨S1x8192x4x128, .f32⟩
  | 95 => ⟨S4x128x1x8192, .f32⟩
  | 96 => ⟨S1x8192x4x128, .f32⟩
  | 97 => ⟨S1x8192x512, .f32⟩
  | 98 => ⟨S1x1x512, .f32⟩
  | 99 => ⟨S1x8192x512, .f32⟩
  | 100 => ⟨S1x8192x512, .f32⟩
  | 101 => ⟨S512x1024, .f32⟩
  | 102 => ⟨S1x8192x1024, .f32⟩
  | 103 => ⟨S1x8192x1024, .f32⟩
  | 104 => ⟨S1x8192x1024, .f32⟩
  | 105 => ⟨S1x8192x1024, .f32⟩
  | 106 => ⟨S_, .f32⟩
  | 107 => ⟨S1x8192x1024, .f32⟩
  | 108 => ⟨S1x8192x1024, .f32⟩
  | 109 => ⟨S_, .f32⟩
  | 110 => ⟨S1x8192x1024, .f32⟩
  | 111 => ⟨S1x8192x1024, .f32⟩
  | 112 => ⟨S_, .f32⟩
  | 113 => ⟨S1x8192x1024, .f32⟩
  | 114 => ⟨S1x8192x1024, .f32⟩
  | 115 => ⟨S1x8192x1024, .f32⟩
  | 116 => ⟨S1x8192x1024, .f32⟩
  | 117 => ⟨S1x8192x1024, .f32⟩
  | 118 => ⟨S1x8192x1024, .f32⟩
  | 119 => ⟨S_, .f32⟩
  | 120 => ⟨S1x8192x1024, .f32⟩
  | 121 => ⟨S1x8192x1024, .f32⟩
  | 122 => ⟨S_, .f32⟩
  | 123 => ⟨S1x8192x1024, .f32⟩
  | 124 => ⟨S1x8192x1024, .f32⟩
  | 125 => ⟨S_, .f32⟩
  | 126 => ⟨S1x8192x1024, .f32⟩
  | 127 => ⟨S1x8192x1024, .f32⟩
  | _ => ⟨S1x8192x1024, .f32⟩

abbrev hbmTy0_1 (i : Nat) : BufTy := match i % 128 with
  | 0 => ⟨S1x8192x1024, .f32⟩
  | 1 => ⟨S1x8192x1024, .f32⟩
  | 2 => ⟨S1x8192x1024, .f32⟩
  | 3 => ⟨S1024x1024, .f32⟩
  | 4 => ⟨S1x8192x1024, .f32⟩
  | 5 => ⟨S1x8192x1024, .f32⟩
  | 6 => ⟨S1x8192x1024, .f32⟩
  | 7 => ⟨S1x8192x1024, .f32⟩
  | 8 => ⟨S1x8192x1024, .f32⟩
  | 9 => ⟨S1x8192x1024, .f32⟩
  | 10 => ⟨S1x8192x1024, .f32⟩
  | 11 => ⟨S1x8192x1024, .f32⟩
  | 12 => ⟨S1x8192x512, .f32⟩
  | 13 => ⟨S1x8192x512, .f32⟩
  | 14 => ⟨S_, .f32⟩
  | 15 => ⟨S1x512, .f32⟩
  | 16 => ⟨S1x1x512, .f32⟩
  | 17 => ⟨S1x8192x512, .f32⟩
  | 18 => ⟨S1x8192x512, .f32⟩
  | 19 => ⟨S_, .f32⟩
  | 20 => ⟨S512, .f32⟩
  | 21 => ⟨S1x8192x4x128, .f32⟩
  | 22 => ⟨S4x128x1x8192, .f32⟩
  | 23 => ⟨S4x1x8192x128, .f32⟩
  | 24 => ⟨S1x8192x4x128, .f32⟩
  | 25 => ⟨S4x128x128, .f32⟩
  | 26 => ⟨S4x128x128, .f32⟩
  | 27 => ⟨S1x8192x512, .f32⟩
  | 28 => ⟨S1x512, .f32⟩
  | 29 => ⟨S1x4x128x128, .f32⟩
  | 30 => ⟨S1x8192x1024, .f32⟩
  | 31 => ⟨S8192x1024, .f32⟩
  | 32 => ⟨S8192x1024, .bf16⟩
  | 33 => ⟨S8192x1024, .f32⟩
  | 34 => ⟨S8192x1024, .bf16⟩
  | 35 => ⟨S8192x1024, .f32⟩
  | 36 => ⟨S8192x1024, .bf16⟩
  | 37 => ⟨S8192x1024, .f32⟩
  | 38 => ⟨S8192x1024, .bf16⟩
  | 39 => ⟨S1x8192x2048, .f32⟩
  | 40 => ⟨S8192x2048, .f32⟩
  | 41 => ⟨S8192x2048, .bf16⟩
  | 42 => ⟨S8192x512, .f32⟩
  | 43 => ⟨S4x128x128, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_call0_call0_cst : Ref sig .tc := ⟨.hbm, 14, rfl⟩
abbrev main_call0_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_12 : Ref sig .tc := ⟨.hbm, 106, rfl⟩
abbrev main_v80 : Ref sig .tc := ⟨.hbm, 107, rfl⟩
abbrev main_v81 : Ref sig .tc := ⟨.hbm, 108, rfl⟩
abbrev main_cst_13 : Ref sig .tc := ⟨.hbm, 109, rfl⟩
abbrev main_v82 : Ref sig .tc := ⟨.hbm, 110, rfl⟩
abbrev main_v83 : Ref sig .tc := ⟨.hbm, 111, rfl⟩
abbrev main_cst_14 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_15 : Ref sig .tc := ⟨.hbm, 119, rfl⟩
abbrev main_v90 : Ref sig .tc := ⟨.hbm, 120, rfl⟩
abbrev main_v91 : Ref sig .tc := ⟨.hbm, 121, rfl⟩
abbrev main_cst_16 : Ref sig .tc := ⟨.hbm, 122, rfl⟩
abbrev main_v92 : Ref sig .tc := ⟨.hbm, 123, rfl⟩
abbrev main_v93 : Ref sig .tc := ⟨.hbm, 124, rfl⟩
abbrev main_cst_17 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_cst_18 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_19 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩

abbrev nD : Nat := 1
abbrev τ : Topo := Topo.v7x

variable {F : FTy → Type} [FloatOps F]
-- ==== LossBwd.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S8192x1024 : Shape := ⟨2, ![8192, 1024]⟩
abbrev S1024x5632 : Shape := ⟨2, ![1024, 5632]⟩
abbrev S5632x1024 : Shape := ⟨2, ![5632, 1024]⟩
abbrev S2816x1024 : Shape := ⟨2, ![2816, 1024]⟩
abbrev S8192x5632 : Shape := ⟨2, ![8192, 5632]⟩
abbrev S8192x2816 : Shape := ⟨2, ![8192, 2816]⟩
abbrev S1x128 : Shape := ⟨2, ![1, 128]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1 : Shape := ⟨1, ![1]⟩
abbrev S1x1 : Shape := ⟨2, ![1, 1]⟩

abbrev nBuf : Space → Nat
  | .hbm => 21
  | .vmem => 20
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1x8192x1024, .f32⟩
  | .hbm, ⟨6, _⟩ => ⟨S8192x1024, .f32⟩
  | .hbm, ⟨7, _⟩ => ⟨S1024x5632, .f32⟩
  | .hbm, ⟨8, _⟩ => ⟨S5632x1024, .f32⟩
  | .hbm, ⟨9, _⟩ => ⟨S5632x1024, .bf16⟩
  | .hbm, ⟨10, _⟩ => ⟨S2816x1024, .f32⟩
  | .hbm, ⟨11, _⟩ => ⟨S2816x1024, .bf16⟩
  | .hbm, ⟨12, _⟩ => ⟨S1x1024, .f32⟩
  | .hbm, ⟨13, _⟩ => ⟨S8192x1024, .f32⟩
  | .hbm, ⟨14, _⟩ => ⟨S8192x5632, .bf16⟩
  | .hbm, ⟨15, _⟩ => ⟨S8192x1024, .bf16⟩
  | .hbm, ⟨16, _⟩ => ⟨S8192x2816, .bf16⟩
  | .hbm, ⟨17, _⟩ => ⟨S1x128, .f32⟩
  | .hbm, ⟨18, _⟩ => ⟨S8192x1024, .f32⟩
  | .hbm, ⟨19, _⟩ => ⟨S8192x1024, .bf16⟩
  | .hbm, ⟨20, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x5632, .bf16⟩
  | .local _ .vmem, ⟨9, _⟩ => ⟨S512x5632, .bf16⟩
  | .local _ .vmem, ⟨10, _⟩ => ⟨S512x1024, .bf16⟩
  | .local _ .vmem, ⟨11, _⟩ => ⟨S512x1024, .bf16⟩
  | .local _ .vmem, ⟨12, _⟩ => ⟨S512x2816, .bf16⟩
  | .local _ .vmem, ⟨13, _⟩ => ⟨S512x2816, .bf16⟩
  | .local _ .vmem, ⟨14, _⟩ => ⟨S1x128, .f32⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev main_v8_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LossRefIdeal.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S2816x1024 : Shape := ⟨2, ![2816, 1024]⟩
abbrev S8192 : Shape := ⟨1, ![8192]⟩
abbrev S8192x5632 : Shape := ⟨2, ![8192, 5632]⟩
abbrev S8192x1024 : Shape := ⟨2, ![8192, 1024]⟩
abbrev S8192x2816 : Shape := ⟨2, ![8192, 2816]⟩
abbrev S1x128 : Shape := ⟨2, ![1, 128]⟩

abbrev nBuf : Space → Nat
  | .hbm => 123
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1x8192x1024, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1024, .f32⟩
  | .hbm, ⟨19, _⟩ => ⟨S1x8192x1024, .f32⟩
  | .hbm, ⟨20, _⟩ => ⟨S1x1x1024, .f32⟩
  | .hbm, ⟨21, _⟩ => ⟨S1x8192x1024, .f32⟩
  | .hbm, ⟨22, _⟩ => ⟨S1x8192x1024, .f32⟩
  | .hbm, ⟨23, _⟩ => ⟨S1024x5632, .f32⟩
  | .hbm, ⟨24, _⟩ => ⟨S1x8192x5632, .f32⟩
  | .hbm, ⟨25, _⟩ => ⟨S1x8192x2816, .f32⟩
  | .hbm, ⟨26, _⟩ => ⟨S1x8192x2816, .f32⟩
  | .hbm, ⟨27, _⟩ => ⟨S1x8192x2816, .f32⟩
  | .hbm, ⟨28, _⟩ => ⟨S1x8192x2816, .f32⟩
  | .hbm, ⟨29, _⟩ => ⟨S_, .f32⟩
  | .hbm, ⟨30, _⟩ => ⟨S1x8192x2816, .f32⟩
  | .hbm, ⟨31, _⟩ => ⟨S1x8192x2816, .f32⟩
  | .hbm, ⟨32, _⟩ => ⟨S_, .f32⟩
  | .hbm, ⟨33, _⟩ => ⟨S1x8192x2816, .f32⟩
  | .hbm, ⟨34, _⟩ => ⟨S1x8192x2816, .f32⟩
  | .hbm, ⟨35, _⟩ => ⟨S1x8192x2816, .f32⟩
  | .hbm, ⟨36, _⟩ => ⟨S1x8192x2816, .f32⟩
  | .hbm, ⟨37, _⟩ => ⟨S2816x1024, .f32⟩
  | .hbm, ⟨38, _⟩ => ⟨S1x8192x1024, .f32⟩
  | .hbm, ⟨39, _⟩ => ⟨S_, .f32⟩
  | .hbm, ⟨40, _⟩ => ⟨S1x8192x1024, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S_, .f32⟩
  | .hbm, ⟨45, _⟩ => ⟨S1x8192, .f32⟩
  | .hbm, ⟨46, _⟩ => ⟨S1x8192x1, .f32⟩
  | .hbm, ⟨47, _⟩ => ⟨S_, .f32⟩
  | .hbm, ⟨48, _⟩ => ⟨S1x8192x1, .f32⟩
  | .hbm, ⟨49, _⟩ => ⟨S1x8192x1, .f32⟩
  | .hbm, ⟨50, _⟩ => ⟨S_, .f32⟩
  | .hbm, ⟨51, _⟩ => ⟨S1x8192x1, .f32⟩
  | .hbm, ⟨52, _⟩ => ⟨S1x8192x1, .f32⟩
  | .hbm, ⟨53, _⟩ => ⟨S1x8192x1, .f32⟩
  | .hbm, ⟨54, _⟩ => ⟨S1x8192x1, .f32⟩
  | .hbm, ⟨55, _⟩ => ⟨S_, .f32⟩
  | .hbm, ⟨56, _⟩ => ⟨S1x8192x1, .f32⟩
  | .hbm, ⟨57, _⟩ => ⟨S1x8192x1, .f32⟩
  | .hbm, ⟨58, _⟩ => ⟨S1x8192x1024, .f32⟩
  | .hbm, ⟨59, _⟩ => ⟨S1x8192x1024, .f32⟩
  | .hbm, ⟨60, _⟩ => ⟨S1x1x1024, .f32⟩
  | .hbm, ⟨61, _⟩ => ⟨S1x8192x1024, .f32⟩
  | .hbm, ⟨62, _⟩ => ⟨S1x8192x1024, .f32⟩
  | .hbm, ⟨63, _⟩ => ⟨S1x8192x1024, .f32⟩
  | .hbm, ⟨64, _⟩ => ⟨S1x8192x1024, .f32⟩
  | .hbm, ⟨65, _⟩ => ⟨S_, .f32⟩
  | .hbm, ⟨66, _⟩ => ⟨S1x8192x1024, .f32⟩
  | .hbm, ⟨67, _⟩ => ⟨S1x8192x1024, .f32⟩
  | .hbm, ⟨68, _⟩ => ⟨S_, .f32⟩
  | .hbm, ⟨69, _⟩ => ⟨S1x8192, .f32⟩
  | .hbm, ⟨70, _⟩ => ⟨S_, .f32⟩
  | .hbm, ⟨71, _⟩ => ⟨S1x8192, .f32⟩
  | .hbm, ⟨72, _⟩ => ⟨S1x8192, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1x8192, .f32⟩
  | .hbm, ⟨81, _⟩ => ⟨S_, .f32⟩
  | .hbm, ⟨82, _⟩ => ⟨S1x8192, .f32⟩
  | .hbm, ⟨83, _⟩ => ⟨S1x8192, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S_, .f32⟩
  | .hbm, ⟨88, _⟩ => ⟨S1x1024, .f32⟩
  | .hbm, ⟨89, _⟩ => ⟨S1x1x1024, .f32⟩
  | .hbm, ⟨90, _⟩ => ⟨S1x8192x1024, .f32⟩
  | .hbm, ⟨91, _⟩ => ⟨S1x8192x1024, .f32⟩
  | .hbm, ⟨92, _⟩ => ⟨S_, .f32⟩
  | .hbm, ⟨93, _⟩ => ⟨S1024, .f32⟩
  | .hbm, ⟨94, _⟩ => ⟨S1x8192x1024, .f32⟩
  | .hbm, ⟨95, _⟩ => ⟨S_, .f32⟩
  | .hbm, ⟨96, _⟩ => ⟨S1x8192, .f32⟩
  | .hbm, ⟨97, _⟩ => ⟨S1x8192x1, .f32⟩
  | .hbm, ⟨98, _⟩ => ⟨S1x8192x1024, .f32⟩
  | .hbm, ⟨99, _⟩ => ⟨S1x8192x1024, .f32⟩
  | .hbm, ⟨100, _⟩ => ⟨S1x8192x1, .f32⟩
  | .hbm, ⟨101, _⟩ => ⟨S_, .f32⟩
  | .hbm, ⟨102, _⟩ => ⟨S1x8192x1, .f32⟩
  | .hbm, ⟨103, _⟩ => ⟨S1x8192x1, .f32⟩
  | .hbm, ⟨104, _⟩ => ⟨S_, .f32⟩
  | .hbm, ⟨105, _⟩ => ⟨S8192, .f32⟩
  | .hbm, ⟨106, _⟩ => ⟨S1x8192, .f32⟩
  | .hbm, ⟨107, _⟩ => ⟨S1x8192x1024, .f32⟩
  | .hbm, ⟨108, _⟩ => ⟨S1x8192x1024, .f32⟩
  | .hbm, ⟨109, _⟩ => ⟨S1x8192x1024, .f32⟩
  | .hbm, ⟨110, _⟩ => ⟨S1x8192x1024, .f32⟩
  | .hbm, ⟨111, _⟩ => ⟨S1x8192x1024, .f32⟩
  | .hbm, ⟨112, _⟩ => ⟨S8192x5632, .f32⟩
  | .hbm, ⟨113, _⟩ => ⟨S8192x5632, .bf16⟩
  | .hbm, ⟨114, _⟩ => ⟨S8192x1024, .f32⟩
  | .hbm, ⟨115, _⟩ => ⟨S8192x1024, .bf16⟩
  | .hbm, ⟨116, _⟩ => ⟨S8192x2816, .f32⟩
  | .hbm, ⟨117, _⟩ => ⟨S8192x2816, .bf16⟩
  | .hbm, ⟨118, _⟩ => ⟨S1x128, .f32⟩
  | .hbm, ⟨119, _⟩ => ⟨S8192x1024, .f32⟩
  | .hbm, ⟨120, _⟩ => ⟨S8192x1024, .f32⟩
  | .hbm, ⟨121, _⟩ => ⟨S8192x1024, .bf16⟩
  | .hbm, ⟨122, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_cst_12 : Ref sig .tc := ⟨.hbm, 77, rfl⟩
abbrev main_cst_13 : Ref sig .tc := ⟨.hbm, 78, rfl⟩
abbrev main_v50 : Ref sig .tc := ⟨.hbm, 79, rfl⟩
abbrev main_v51 : Ref sig .tc := ⟨.hbm, 80, rfl⟩
abbrev main_cst_14 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_16 : Ref sig .tc := ⟨.hbm, 92, rfl⟩
abbrev main_v61 : Ref sig .tc := ⟨.hbm, 93, rfl⟩
abbrev main_v62 : Ref sig .tc := ⟨.hbm, 94, rfl⟩
abbrev main_cst_17 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_18 : Ref sig .tc := ⟨.hbm, 101, rfl⟩
abbrev main_v68 : Ref sig .tc := ⟨.hbm, 102, rfl⟩
abbrev main_v69 : Ref sig .tc := ⟨.hbm, 103, rfl⟩
abbrev main_cst_19 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]
-- ==== AttnFwd.lean ====
abbrev S1x8192x1024 : Shape := ⟨3, ![1, 8192, 1024]⟩
abbrev S1x8192x256 : Shape := ⟨3, ![1, 8192, 256]⟩
abbrev S1x16 : Shape := ⟨2, ![1, 16]⟩
abbrev S128x128 : Shape := ⟨2, ![128, 128]⟩
abbrev S8192x1024 : Shape := ⟨2, ![8192, 1024]⟩
abbrev S8192x256 : Shape := ⟨2, ![8192, 256]⟩
abbrev S16 : Shape := ⟨1, ![16]⟩
abbrev S256x1024 : Shape := ⟨2, ![256, 1024]⟩
abbrev S256x256 : Shape := ⟨2, ![256, 256]⟩
abbrev S128x256 : Shape := ⟨2, ![128, 256]⟩
abbrev S2x8x256x128 : Shape := ⟨4, ![2, 8, 256, 128]⟩
abbrev S2x8x256x256 : Shape := ⟨4, ![2, 8, 256, 256]⟩
abbrev S256x128 : Shape := ⟨2, ![256, 128]⟩
abbrev S256x1 : Shape := ⟨2, ![256, 1]⟩
abbrev S1x1x256x128 : Shape := ⟨4, ![1, 1, 256, 128]⟩
abbrev S1 : Shape := ⟨1, ![1]⟩
abbrev S256 : Shape := ⟨1, ![256]⟩
abbrev S1x1x256x256 : Shape := ⟨4, ![1, 1, 256, 256]⟩

abbrev nBuf : Space → Nat
  | .hbm => 10
  | .vmem => 11
  | .smem => 1
  | _ => 0

abbrev bufTy : (tb : Table) → Fin (tcTables nBuf tb) → BufTy
  | .hbm, ⟨0, _⟩ => ⟨S1x8192x1024, .f32⟩
  | .hbm, ⟨1, _⟩ => ⟨S1x8192x256, .f32⟩
  | .hbm, ⟨2, _⟩ => ⟨S1x16, .f32⟩
  | .hbm, ⟨3, _⟩ => ⟨S128x128, .f32⟩
  | .hbm, ⟨4, _⟩ => ⟨S8192x1024, .f32⟩
  | .hbm, ⟨5, _⟩ => ⟨S8192x1024, .bf16⟩
  | .hbm, ⟨6, _⟩ => ⟨S8192x256, .f32⟩
  | .hbm, ⟨7, _⟩ => ⟨S8192x256, .bf16⟩
  | .hbm, ⟨8, _⟩ => ⟨S16, .f32⟩
  | .hbm, ⟨9, _⟩ => ⟨S8192x1024, .bf16⟩
  | .local _ .vmem, ⟨0, _⟩ => ⟨S256x1024, .bf16⟩
  | .local _ .vmem, ⟨1, _⟩ => ⟨S256x1024, .bf16⟩
  | .local _ .vmem, ⟨2, _⟩ => ⟨S256x256, .bf16⟩
  | .local _ .vmem, ⟨3, _⟩ => ⟨S256x256, .bf16⟩
  | .local _ .vmem, ⟨4, _⟩ => ⟨S128x256, .bf16⟩
  | .local _ .vmem, ⟨5, _⟩ => ⟨S128x256, .bf16⟩
  | .local _ .vmem, ⟨6, _⟩ => ⟨S128x128, .f32⟩
  | .local _ .vmem, ⟨7, _⟩ => ⟨S256x1024, .bf16⟩
  | .local _ .vmem, ⟨8, _⟩ => ⟨S256x1024, .bf16⟩
  | .local _ .vmem, ⟨9, _⟩ => ⟨S2x8x256x128, .f32⟩
  | .local _ .vmem, ⟨10, _⟩ => ⟨S2x8x256x256, .bf16⟩
  | .local _ .smem, ⟨0, _⟩ => ⟨S16, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AttnFwdRefIdeal.lean ====
abbrev S1x8192x1024 : Shape := ⟨3, ![1, 8192, 1024]⟩
abbrev S1x8192x256 : Shape := ⟨3, ![1, 8192, 256]⟩
abbrev S1x16 : Shape := ⟨2, ![1, 16]⟩
abbrev S1x8192x128 : Shape := ⟨3, ![1, 8192, 128]⟩
abbrev S_ : Shape := ⟨0, ![]⟩
abbrev S1x128x2x64 : Shape := ⟨4, ![1, 128, 2, 64]⟩
abbrev S1x8192x2x64 : Shape := ⟨4, ![1, 8192, 2, 64]⟩
abbrev S1x64x128x2x64 : Shape := ⟨5, ![1, 64, 128, 2, 64]⟩
abbrev S1x8064x2x64 : Shape := ⟨4, ![1, 8064, 2, 64]⟩
abbrev S1x64x256x2x64 : Shape := ⟨5, ![1, 64, 256, 2, 64]⟩
abbrev S16 : Shape := ⟨1, ![16]⟩
abbrev S1x64x128x2x8x64 : Shape := ⟨6, ![1, 64, 128, 2, 8, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S1 : Shape := ⟨1, ![1]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x64x1x1x128x256 : Shape := ⟨6, ![1, 64, 1, 1, 128, 256]⟩
abbrev S1x64x2x8x128 : Shape := ⟨5, ![1, 64, 2, 8, 128]⟩
abbrev S1x64x2x8x128x1 : Shape := ⟨6, ![1, 64, 2, 8, 128, 1]⟩
abbrev S1x1x2x8x1x1 : Shape := ⟨6, ![1, 1, 2, 8, 1, 1]⟩
abbrev S1x64x2x64x8x128 : Shape := ⟨6, ![1, 64, 2, 64, 8, 128]⟩
abbrev S8192x1024 : Shape := ⟨2, ![8192, 1024]⟩

abbrev nBuf : Space → Nat
  | .hbm => 140
  | .vmem => 0
  | .smem => 0
  | _ => 0

abbrev hbmTy0_0 (i : Nat) : BufTy := match i % 128 with
  | 0 => ⟨S1x8192x1024, .f32⟩
  | 1 => ⟨S1x8192x256, .f32⟩
  | 2 => ⟨S1x16, .f32⟩
  | 3 => ⟨S1x8192x128, .f32⟩
  | 4 => ⟨S1x8192x128, .f32⟩
  | 5 => ⟨S_, .f32⟩
  | 6 => ⟨S1x128x2x64, .f32⟩
  | 7 => ⟨S1x8192x2x64, .f32⟩
  | 8 => ⟨S1x64x128x2x64, .f32⟩
  | 9 => ⟨S1x8064x2x64, .f32⟩
  | 10 => ⟨S1x8192x2x64, .f32⟩
  | 11 => ⟨S1x64x128x2x64, .f32⟩
  | 12 => ⟨S1x64x256x2x64, .f32⟩
  | 13 => ⟨S_, .f32⟩
  | 14 => ⟨S1x128x2x64, .f32⟩
  | 15 => ⟨S1x8192x2x64, .f32⟩
  | 16 => ⟨S1x64x128x2x64, .f32⟩
  | 17 => ⟨S1x8064x2x64, .f32⟩
  | 18 => ⟨S1x8192x2x64, .f32⟩
  | 19 => ⟨S1x64x128x2x64, .f32⟩
  | 20 => ⟨S1x64x256x2x64, .f32⟩
  | 21 => ⟨S16, .f32⟩
  | 22 => ⟨S1x64x128x2x8x64, .f32⟩
  | 23 => ⟨S1x64x2x256x128x8, .f32⟩
  | 24 => ⟨S1x64x2x8x128x256, .f32⟩
  | 25 => ⟨S_, .f32⟩
  | 26 => ⟨S1x64x2x8x128x256, .f32⟩
  | 27 => ⟨S1x64x2x8x128x256, .f32⟩
  | 28 => ⟨S128, .i32⟩
  | 29 => ⟨S128x1, .i32⟩
  | 30 => ⟨S_, .i32⟩
  | 31 => ⟨S128x1, .i32⟩
  | 32 => ⟨S128x1, .i32⟩
  | 33 => ⟨S256, .i32⟩
  | 34 => ⟨S1x256, .i32⟩
  | 35 => ⟨S128x256, .i32⟩
  | 36 => ⟨S128x256, .i32⟩
  | 37 => ⟨S128x256, .i32⟩
  | 38 => ⟨S64, .i32⟩
  | 39 => ⟨S64x1x1, .i32⟩
  | 40 => ⟨S_, .i32⟩
  | 41 => ⟨S128x256, .i32⟩
  | 42 => ⟨S128x256, .i1⟩
  | 43 => ⟨S1x128x256, .i1⟩
  | 44 => ⟨S_, .i32⟩
  | 45 => ⟨S128x256, .i32⟩
  | 46 => ⟨S128x256, .i1⟩
  | 47 => ⟨S1x128x256, .i1⟩
  | 48 => ⟨S1x128x256, .i1⟩
  | 49 => ⟨S_, .i32⟩
  | 50 => ⟨S64x1x1, .i32⟩
  | 51 => ⟨S64x1x1, .i32⟩
  | 52 => ⟨S_, .i32⟩
  | 53 => ⟨S64x1x1, .i32⟩
  | 54 => ⟨S64x1x1, .i32⟩
  | 55 => ⟨S1x1x256, .i32⟩
  | 56 => ⟨S64x1x256, .i32⟩
  | 57 => ⟨S64x1x256, .i32⟩
  | 58 => ⟨S64x1x256, .i32⟩
  | 59 => ⟨S_, .i32⟩
  | 60 => ⟨S64x1x256, .i32⟩
  | 61 => ⟨S64x1x256, .i1⟩
  | 62 => ⟨S64x128x256, .i1⟩
  | 63 => ⟨S64x128x256, .i1⟩
  | 64 => ⟨S64x128x256, .i1⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S1, .f32⟩
  | 82 => ⟨S1, .f32⟩
  | 83 => ⟨S1, .f32⟩
  | 84 => ⟨S1, .f32⟩
  | 85 => ⟨S1, .f32⟩
  | 86 => ⟨S1, .f32⟩
  | 87 => ⟨S1, .f32⟩
  | 88 => ⟨S1, .f32⟩
  | 89 => ⟨S1, .f32⟩
  | 90 => ⟨S1, .f32⟩
  | 91 => ⟨S1, .f32⟩
  | 92 => ⟨S1, .f32⟩
  | 93 => ⟨S1, .f32⟩
  | 94 => ⟨S1, .f32⟩
  | 95 => ⟨S1, .f32⟩
  | 96 => ⟨S1, .f32⟩
  | 97 => ⟨S16, .f32⟩
  | 98 => ⟨S2x8, .f32⟩
  | 99 => ⟨S2x8x1x1, .f32⟩
  | 100 => ⟨S128x256, .f32⟩
  | 101 => ⟨S1x1x128x256, .f32⟩
  | 102 => ⟨S2x8x128x256, .f32⟩
  | 103 => ⟨S2x8x128x256, .f32⟩
  | 104 => ⟨S2x8x128x256, .f32⟩
  | 105 => ⟨S1x1x2x8x128x256, .f32⟩
  | 106 => ⟨S1x64x2x8x128x256, .f32⟩
  | 107 => ⟨S1x64x2x8x128x256, .f32⟩
  | 108 => ⟨S1x64x1x1x128x256, .i1⟩
  | 109 => ⟨S_, .f32⟩
  | 110 => ⟨S_, .f32⟩
  | 111 => ⟨S1x64x2x8x128x256, .i1⟩
  | 112 => ⟨S1x64x2x8x128x256, .f32⟩
  | 113 => ⟨S1x64x2x8x128x256, .f32⟩
  | 114 => ⟨S2x8, .f32⟩
  | 115 => ⟨S2x8x1x1, .f32⟩
  | 116 => ⟨S_, .f32⟩
  | 117 => ⟨S1x64x2x8x128, .f32⟩
  | 118 => ⟨S1x64x2x8x128x1, .f32⟩
  | 119 => ⟨S1x1x2x8x1x1, .f32⟩
  | 120 => ⟨S1x64x2x8x128x1, .f32⟩
  | 121 => ⟨S1x64x2x8x128x1, .f32⟩
  | 122 => ⟨S1x64x2x8x128x256, .f32⟩
  | 123 => ⟨S1x64x2x8x128x256, .f32⟩
  | 124 => ⟨S1x64x2x8x128x256, .f32⟩
  | 125 => ⟨S_, .f32⟩
  | 126 => ⟨S1x64x2x8x128, .f32⟩
  | 127 => ⟨S1x64x2x8x128x1, .f32⟩
  | _ => ⟨S1x8192x1024, .f32⟩

abbrev hbmTy0_1 (i : Nat) : BufTy := match i % 128 with
  | 0 => ⟨S1x1x2x8x1x1, .f32⟩
  | 1 => ⟨S1x64x2x8x128x1, .f32⟩
  | 2 => ⟨S1x64x2x8x128x1, .f32⟩
  | 3 => ⟨S1x64x2x8x128x1, .f32⟩
  | 4 => ⟨S1x64x2x8x128x1, .f32⟩
  | 5 => ⟨S1x64x2x8x128x256, .f32⟩
  | 6 => ⟨S1x64x2x8x128x256, .f32⟩
  | 7 => ⟨S1x64x2x64x8x128, .f32⟩
  | 8 => ⟨S1x64x128x2x8x64, .f32⟩
  | 9 => ⟨S1x8192x1024, .f32⟩
  | 10 => ⟨S8192x1024, .f32⟩
  | 11 => ⟨S8192x1024, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_2 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c_4 : Ref sig .tc := ⟨.hbm, 49, rfl⟩
abbrev main_v40 : Ref sig .tc := ⟨.hbm, 50, rfl⟩
abbrev main_v41 : Ref sig .tc := ⟨.hbm, 51, rfl⟩
abbrev main_c_5 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_cst_8 : Ref sig .tc := ⟨.hbm, 66, rfl⟩
abbrev main_cst_9 : Ref sig .tc := ⟨.hbm, 67, rfl⟩
abbrev main_cst_10 : Ref sig .tc := ⟨.hbm, 68, rfl⟩
abbrev main_cst_11 : Ref sig .tc := ⟨.hbm, 69, rfl⟩
abbrev main_cst_12 : Ref sig .tc := ⟨.hbm, 70, rfl⟩
abbrev main_cst_13 : Ref sig .tc := ⟨.hbm, 71, rfl⟩
abbrev main_cst_14 : Ref sig .tc := ⟨.hbm, 72, rfl⟩
abbrev main_cst_15 : Ref sig .tc := ⟨.hbm, 73, rfl⟩
abbrev main_cst_16 : Ref sig .tc := ⟨.hbm, 74, rfl⟩
abbrev main_cst_17 : Ref sig .tc := ⟨.hbm, 75, rfl⟩
abbrev main_cst_18 : Ref sig .tc := ⟨.hbm, 76, rfl⟩
abbrev main_cst_19 : Ref sig .tc := ⟨.hbm, 77, rfl⟩
abbrev main_cst_20 : Ref sig .tc := ⟨.hbm, 78, rfl⟩
abbrev main_cst_21 : Ref sig .tc := ⟨.hbm, 79, rfl⟩
abbrev main_cst_22 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_23 : Ref sig .tc := ⟨.hbm, 109, rfl⟩
abbrev main_call0_v0 : Ref sig .tc := ⟨.hbm, 110, rfl⟩
abbrev main_call0_v1 : Ref sig .tc := ⟨.hbm, 111, rfl⟩
abbrev main_call0_v2 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_24 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_25 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩

abbrev nD : Nat := 1
abbrev τ : Topo := Topo.v7x

variable {F : FTy → Type} [FloatOps F]
-- ==== UpFwd.lean ====
abbrev S1x8192x1024 : Shape := ⟨3, ![1, 8192, 1024]⟩
abbrev S1x1024 : Shape := ⟨2, ![1, 1024]⟩
abbrev S1x1024x5632 : Shape := ⟨3, ![1, 1024, 5632]⟩
abbrev S8192x1024 : Shape := ⟨2, ![8192, 1024]⟩
abbrev S1024x5632 : Shape := ⟨2, ![1024, 5632]⟩
abbrev S5632x1024 : Shape := ⟨2, ![5632, 1024]⟩
abbrev S8192x5632 : Shape := ⟨2, ![8192, 5632]⟩
abbrev S8192x2816 : Shape := ⟨2, ![8192, 2816]⟩
abbrev S512x1024 : Shape := ⟨2, ![512, 1024]⟩
abbrev S512x5632 : Shape := ⟨2, ![512, 5632]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 10
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S8192x1024, .f32⟩
  | .hbm, ⟨4, _⟩ => ⟨S1024x5632, .f32⟩
  | .hbm, ⟨5, _⟩ => ⟨S5632x1024, .f32⟩
  | .hbm, ⟨6, _⟩ => ⟨S5632x1024, .bf16⟩
  | .hbm, ⟨7, _⟩ => ⟨S8192x1024, .bf16⟩
  | .hbm, ⟨8, _⟩ => ⟨S8192x5632, .bf16⟩
  | .hbm, ⟨9, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S512x1024, .bf16⟩
  | .local _ .vmem, ⟨5, _⟩ => ⟨S512x1024, .bf16⟩
  | .local _ .vmem, ⟨6, _⟩ => ⟨S512x5632, .bf16⟩
  | .local _ .vmem, ⟨7, _⟩ => ⟨S512x5632, .bf16⟩
  | .local _ .vmem, ⟨8, _⟩ => ⟨S512x2816, .bf16⟩
  | .local _ .vmem, ⟨9, _⟩ => ⟨S512x2816, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== UpRefIdeal.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S8192x1024 : Shape := ⟨2, ![8192, 1024]⟩
abbrev S8192x5632 : Shape := ⟨2, ![8192, 5632]⟩
abbrev S8192x2816 : Shape := ⟨2, ![8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1024x5632, .f32⟩
  | .hbm, ⟨21, _⟩ => ⟨S1x8192x5632, .f32⟩
  | .hbm, ⟨22, _⟩ => ⟨S1x8192x2816, .f32⟩
  | .hbm, ⟨23, _⟩ => ⟨S1x8192x2816, .f32⟩
  | .hbm, ⟨24, _⟩ => ⟨S8192x1024, .f32⟩
  | .hbm, ⟨25, _⟩ => ⟨S8192x1024, .bf16⟩
  | .hbm, ⟨26, _⟩ => ⟨S8192x5632, .f32⟩
  | .hbm, ⟨27, _⟩ => ⟨S8192x5632, .bf16⟩
  | .hbm, ⟨28, _⟩ => ⟨S1x8192x2816, .f32⟩
  | .hbm, ⟨29, _⟩ => ⟨S1x8192x2816, .f32⟩
  | .hbm, ⟨30, _⟩ => ⟨S_, .f32⟩
  | .hbm, ⟨31, _⟩ => ⟨S1x8192x2816, .f32⟩
  | .hbm, ⟨32, _⟩ => ⟨S1x8192x2816, .f32⟩
  | .hbm, ⟨33, _⟩ => ⟨S_, .f32⟩
  | .hbm, ⟨34, _⟩ => ⟨S1x8192x2816, .f32⟩
  | .hbm, ⟨35, _⟩ => ⟨S1x8192x2816, .f32⟩
  | .hbm, ⟨36, _⟩ => ⟨S1x8192x2816, .f32⟩
  | .hbm, ⟨37, _⟩ => ⟨S1x8192x2816, .f32⟩
  | .hbm, ⟨38, _⟩ => ⟨S8192x2816, .f32⟩
  | .hbm, ⟨39, _⟩ => ⟨S8192x2816, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== ProjBwd.lean ====
abbrev S1x8192x1024 : Shape := ⟨3, ![1, 8192, 1024]⟩
abbrev S1x1024 : Shape := ⟨2, ![1, 1024]⟩
abbrev S1x1024x3840 : Shape := ⟨3, ![1, 1024, 3840]⟩
abbrev S1x64x256x2x64 : Shape := ⟨5, ![1, 64, 256, 2, 64]⟩
abbrev S1x8192x512 : Shape := ⟨3, ![1, 8192, 512]⟩
abbrev S64x256x128 : Shape := ⟨3, ![64, 256, 128]⟩
abbrev S64x256x256 : Shape := ⟨3, ![64, 256, 256]⟩
abbrev S64x128x256 : Shape := ⟨3, ![64, 128, 256]⟩
abbrev S8192x256 : Shape := ⟨2, ![8192, 256]⟩
abbrev S8192x1024 : Shape := ⟨2, ![8192, 1024]⟩
abbrev S8192x512 : Shape := ⟨2, ![8192, 512]⟩
abbrev S8192x2048 : Shape := ⟨2, ![8192, 2048]⟩
abbrev S1024x3840 : Shape := ⟨2, ![1024, 3840]⟩
abbrev S3840x1024 : Shape := ⟨2, ![3840, 1024]⟩
abbrev S8192x3840 : Shape := ⟨2, ![8192, 3840]⟩
abbrev S512x1024 : Shape := ⟨2, ![512, 1024]⟩
abbrev S512x256 : Shape := ⟨2, ![512, 256]⟩
abbrev S128x256 : Shape := ⟨2, ![128, 256]⟩
abbrev S512x512 : Shape := ⟨2, ![512, 512]⟩
abbrev S16x512 : Shape := ⟨2, ![16, 512]⟩
abbrev S512x2048 : Shape := ⟨2, ![512, 2048]⟩
abbrev S512x3840 : Shape := ⟨2, ![512, 3840]⟩
abbrev S384x256 : Shape := ⟨2, ![384, 256]⟩
abbrev S512x128 : Shape := ⟨2, ![512, 128]⟩
abbrev S512x1 : Shape := ⟨2, ![512, 1]⟩
abbrev S16x128 : Shape := ⟨2, ![16, 128]⟩
abbrev S528x128 : Shape := ⟨2, ![528, 128]⟩
abbrev S512 : Shape := ⟨1, ![512]⟩
abbrev S1024 : Shape := ⟨1, ![1024]⟩

abbrev nBuf : Space → Nat
  | .hbm => 33
  | .vmem => 27
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x3840, .f32⟩
  | .hbm, ⟨3, _⟩ => ⟨S1x8192x1024, .f32⟩
  | .hbm, ⟨4, _⟩ => ⟨S1x64x256x2x64, .f32⟩
  | .hbm, ⟨5, _⟩ => ⟨S1x64x256x2x64, .f32⟩
  | .hbm, ⟨6, _⟩ => ⟨S1x8192x512, .f32⟩
  | .hbm, ⟨7, _⟩ => ⟨S1x8192x1024, .f32⟩
  | .hbm, ⟨8, _⟩ => ⟨S1x8192x1024, .f32⟩
  | .hbm, ⟨9, _⟩ => ⟨S1x8192x1024, .f32⟩
  | .hbm, ⟨10, _⟩ => ⟨S64x256x128, .f32⟩
  | .hbm, ⟨11, _⟩ => ⟨S64x256x128, .f32⟩
  | .hbm, ⟨12, _⟩ => ⟨S64x256x256, .f32⟩
  | .hbm, ⟨13, _⟩ => ⟨S64x128x256, .f32⟩
  | .hbm, ⟨14, _⟩ => ⟨S8192x256, .f32⟩
  | .hbm, ⟨15, _⟩ => ⟨S64x128x256, .f32⟩
  | .hbm, ⟨16, _⟩ => ⟨S8192x256, .f32⟩
  | .hbm, ⟨17, _⟩ => ⟨S8192x1024, .f32⟩
  | .hbm, ⟨18, _⟩ => ⟨S8192x1024, .bf16⟩
  | .hbm, ⟨19, _⟩ => ⟨S8192x512, .f32⟩
  | .hbm, ⟨20, _⟩ => ⟨S8192x1024, .f32⟩
  | .hbm, ⟨21, _⟩ => ⟨S8192x1024, .f32⟩
  | .hbm, ⟨22, _⟩ => ⟨S8192x2048, .f32⟩
  | .hbm, ⟨23, _⟩ => ⟨S8192x2048, .bf16⟩
  | .hbm, ⟨24, _⟩ => ⟨S8192x1024, .f32⟩
  | .hbm, ⟨25, _⟩ => ⟨S1024x3840, .f32⟩
  | .hbm, ⟨26, _⟩ => ⟨S3840x1024, .f32⟩
  | .hbm, ⟨27, _⟩ => ⟨S3840x1024, .bf16⟩
  | .hbm, ⟨28, _⟩ => ⟨S8192x1024, .f32⟩
  | .hbm, ⟨29, _⟩ => ⟨S8192x3840, .bf16⟩
  | .hbm, ⟨30, _⟩ => ⟨S8192x1024, .f32⟩
  | .hbm, ⟨31, _⟩ => ⟨S8192x1024, .bf16⟩
  | .hbm, ⟨32, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S128x256, .f32⟩
  | .local _ .vmem, ⟨7, _⟩ => ⟨S128x256, .f32⟩
  | .local _ .vmem, ⟨8, _⟩ => ⟨S512x512, .f32⟩
  | .local _ .vmem, ⟨9, _⟩ => ⟨S512x512, .f32⟩
  | .local _ .vmem, ⟨10, _⟩ => ⟨S16x512, .f32⟩
  | .local _ .vmem, ⟨11, _⟩ => ⟨S16x512, .f32⟩
  | .local _ .vmem, ⟨12, _⟩ => ⟨S512x2048, .bf16⟩
  | .local _ .vmem, ⟨13, _⟩ => ⟨S512x2048, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S3840x1024, .bf16⟩
  | .local _ .vmem, ⟨18, _⟩ => ⟨S512x1024, .f32⟩
  | .local _ .vmem, ⟨19, _⟩ => ⟨S512x1024, .f32⟩
  | .local _ .vmem, ⟨20, _⟩ => ⟨S512x3840, .bf16⟩
  | .local _ .vmem, ⟨21, _⟩ => ⟨S512x3840, .bf16⟩
  | .local _ .vmem, ⟨22, _⟩ => ⟨S512x1024, .f32⟩
  | .local _ .vmem, ⟨23, _⟩ => ⟨S512x1024, .f32⟩
  | .local _ .vmem, ⟨24, _⟩ => ⟨S512x1024, .bf16⟩
  | .local _ .vmem, ⟨25, _⟩ => ⟨S512x1024, .bf16⟩
  | .local _ .vmem, ⟨26, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3840x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3840 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ProjRefIdeal.lean ====
abbrev S1x8192x1024 : Shape := ⟨3, ![1, 8192, 1024]⟩
abbrev S1x1024 : Shape := ⟨2, ![1, 1024]⟩
abbrev S1x1024x3840 : Shape := ⟨3, ![1, 1024, 3840]⟩
abbrev S1x64x256x2x64 : Shape := ⟨5, ![1, 64, 256, 2, 64]⟩
abbrev S1x8192x512 : Shape := ⟨3, ![1, 8192, 512]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3840 : Shape := ⟨2, ![1024, 3840]⟩
abbrev S1x8192x3840 : Shape := ⟨3, ![1, 8192, 3840]⟩
abbrev S1x8192x128 : Shape := ⟨3, ![1, 8192, 128]⟩
abbrev S1x128x2x64 : Shape := ⟨4, ![1, 128, 2, 64]⟩
abbrev S1x8192x2x64 : Shape := ⟨4, ![1, 8192, 2, 64]⟩
abbrev S1x64x128x2x64 : Shape := ⟨5, ![1, 64, 128, 2, 64]⟩
abbrev S1x8064x2x64 : Shape := ⟨4, ![1, 8064, 2, 64]⟩
abbrev S1x1x512 : Shape := ⟨3, ![1, 1, 512]⟩
abbrev S1x8193x512 : Shape := ⟨3, ![1, 8193, 512]⟩
abbrev S8192 : Shape := ⟨1, ![8192]⟩
abbrev S1x8193x128 : Shape := ⟨3, ![1, 8193, 128]⟩
abbrev S1x1x128 : Shape := ⟨3, ![1, 1, 128]⟩
abbrev S1x8191x128 : Shape := ⟨3, ![1, 8191, 128]⟩
abbrev S1x3x128 : Shape := ⟨3, ![1, 3, 128]⟩
abbrev S1x8189x128 : Shape := ⟨3, ![1, 8189, 128]⟩
abbrev S1x7x128 : Shape := ⟨3, ![1, 7, 128]⟩
abbrev S1x8185x128 : Shape := ⟨3, ![1, 8185, 128]⟩
abbrev S1x15x128 : Shape := ⟨3, ![1, 15, 128]⟩
abbrev S1x8177x128 : Shape := ⟨3, ![1, 8177, 128]⟩
abbrev S8192x3840 : Shape := ⟨2, ![8192, 3840]⟩
abbrev S8192x1024 : Shape := ⟨2, ![8192, 1024]⟩

abbrev nBuf : Space → Nat
  | .hbm => 264
  | .vmem => 0
  | .smem => 0
  | _ => 0

abbrev hbmTy0_0 (i : Nat) : BufTy := match i % 128 with
  | 0 => ⟨S1x8192x1024, .f32⟩
  | 1 => ⟨S1x1024, .f32⟩
  | 2 => ⟨S1x1024x3840, .f32⟩
  | 3 => ⟨S1x8192x1024, .f32⟩
  | 4 => ⟨S1x64x256x2x64, .f32⟩
  | 5 => ⟨S1x64x256x2x64, .f32⟩
  | 6 => ⟨S1x8192x512, .f32⟩
  | 7 => ⟨S1x8192x1024, .f32⟩
  | 8 => ⟨S1x8192x1024, .f32⟩
  | 9 => ⟨S1x8192x1024, .f32⟩
  | 10 => ⟨S1024, .f32⟩
  | 11 => ⟨S1x8192x1024, .f32⟩
  | 12 => ⟨S_, .f32⟩
  | 13 => ⟨S1x8192, .f32⟩
  | 14 => ⟨S1x8192x1, .f32⟩
  | 15 => ⟨S_, .f32⟩
  | 16 => ⟨S1x8192x1, .f32⟩
  | 17 => ⟨S1x8192x1, .f32⟩
  | 18 => ⟨S_, .f32⟩
  | 19 => ⟨S1x8192x1, .f32⟩
  | 20 => ⟨S1x8192x1, .f32⟩
  | 21 => ⟨S1x8192x1, .f32⟩
  | 22 => ⟨S1x8192x1, .f32⟩
  | 23 => ⟨S_, .f32⟩
  | 24 => ⟨S1x8192x1, .f32⟩
  | 25 => ⟨S1x8192x1, .f32⟩
  | 26 => ⟨S1x8192x1024, .f32⟩
  | 27 => ⟨S1x8192x1024, .f32⟩
  | 28 => ⟨S1x1x1024, .f32⟩
  | 29 => ⟨S1x8192x1024, .f32⟩
  | 30 => ⟨S1x8192x1024, .f32⟩
  | 31 => ⟨S1024x3840, .f32⟩
  | 32 => ⟨S1x8192x3840, .f32⟩
  | 33 => ⟨S1x8192x1024, .f32⟩
  | 34 => ⟨S1x8192x128, .f32⟩
  | 35 => ⟨S1x8192x128, .f32⟩
  | 36 => ⟨S1x8192x512, .f32⟩
  | 37 => ⟨S1x8192x1024, .f32⟩
  | 38 => ⟨S1x8192x1024, .f32⟩
  | 39 => ⟨S_, .f32⟩
  | 40 => ⟨S1x128x2x64, .f32⟩
  | 41 => ⟨S1x8192x2x64, .f32⟩
  | 42 => ⟨S1x64x128x2x64, .f32⟩
  | 43 => ⟨S1x8064x2x64, .f32⟩
  | 44 => ⟨S1x8192x2x64, .f32⟩
  | 45 => ⟨S_, .f32⟩
  | 46 => ⟨S1x128x2x64, .f32⟩
  | 47 => ⟨S1x64x128x2x64, .f32⟩
  | 48 => ⟨S1x64x256x2x64, .f32⟩
  | 49 => ⟨S_, .f32⟩
  | 50 => ⟨S1x128x2x64, .f32⟩
  | 51 => ⟨S1x8192x2x64, .f32⟩
  | 52 => ⟨S1x64x128x2x64, .f32⟩
  | 53 => ⟨S1x8064x2x64, .f32⟩
  | 54 => ⟨S1x8192x2x64, .f32⟩
  | 55 => ⟨S_, .f32⟩
  | 56 => ⟨S1x128x2x64, .f32⟩
  | 57 => ⟨S1x64x128x2x64, .f32⟩
  | 58 => ⟨S1x64x256x2x64, .f32⟩
  | 59 => ⟨S_, .f32⟩
  | 60 => ⟨S1x1x512, .f32⟩
  | 61 => ⟨S_, .f32⟩
  | 62 => ⟨S_, .f32⟩
  | 63 => ⟨S1x8192x512, .f32⟩
  | 64 => ⟨S1x8193x512, .f32⟩
  | 65 => ⟨S_, .f32⟩
  | 66 => ⟨S1x1x512, .f32⟩
  | 67 => ⟨S8192, .i32⟩
  | 68 => ⟨S1x8193x128, .f32⟩
  | 69 => ⟨S_, .f32⟩
  | 70 => ⟨S1x1x128, .f32⟩
  | 71 => ⟨S1x8191x128, .f32⟩
  | 72 => ⟨S1x8192x128, .f32⟩
  | 73 => ⟨S_, .f32⟩
  | 74 => ⟨S1x1x128, .f32⟩
  | 75 => ⟨S_, .i32⟩
  | 76 => ⟨S8192, .i32⟩
  | 77 => ⟨S8192, .i32⟩
  | 78 => ⟨S_, .i32⟩
  | 79 => ⟨S8192, .i32⟩
  | 80 => ⟨S8192, .i32⟩
  | 81 => ⟨S8192, .f32⟩
  | 82 => ⟨S1x8192x1, .f32⟩
  | 83 => ⟨S1x8192x128, .f32⟩
  | 84 => ⟨S1x8192x128, .f32⟩
  | 85 => ⟨S1x8192x128, .f32⟩
  | 86 => ⟨S1x8192x128, .f32⟩
  | 87 => ⟨S1x8193x128, .f32⟩
  | 88 => ⟨S_, .f32⟩
  | 89 => ⟨S1x3x128, .f32⟩
  | 90 => ⟨S1x8189x128, .f32⟩
  | 91 => ⟨S1x8192x128, .f32⟩
  | 92 => ⟨S_, .f32⟩
  | 93 => ⟨S1x3x128, .f32⟩
  | 94 => ⟨S_, .i32⟩
  | 95 => ⟨S8192, .i32⟩
  | 96 => ⟨S8192, .i32⟩
  | 97 => ⟨S_, .i32⟩
  | 98 => ⟨S8192, .i32⟩
  | 99 => ⟨S8192, .i32⟩
  | 100 => ⟨S8192, .f32⟩
  | 101 => ⟨S1x8192x1, .f32⟩
  | 102 => ⟨S1x8192x128, .f32⟩
  | 103 => ⟨S1x8192x128, .f32⟩
  | 104 => ⟨S1x8192x128, .f32⟩
  | 105 => ⟨S1x8192x128, .f32⟩
  | 106 => ⟨S1x8193x128, .f32⟩
  | 107 => ⟨S_, .f32⟩
  | 108 => ⟨S1x7x128, .f32⟩
  | 109 => ⟨S1x8185x128, .f32⟩
  | 110 => ⟨S1x8192x128, .f32⟩
  | 111 => ⟨S_, .f32⟩
  | 112 => ⟨S1x7x128, .f32⟩
  | 113 => ⟨S_, .i32⟩
  | 114 => ⟨S8192, .i32⟩
  | 115 => ⟨S8192, .i32⟩
  | 116 => ⟨S_, .i32⟩
  | 117 => ⟨S8192, .i32⟩
  | 118 => ⟨S8192, .i32⟩
  | 119 => ⟨S8192, .f32⟩
  | 120 => ⟨S1x8192x1, .f32⟩
  | 121 => ⟨S1x8192x128, .f32⟩
  | 122 => ⟨S1x8192x128, .f32⟩
  | 123 => ⟨S1x8192x128, .f32⟩
  | 124 => ⟨S1x8192x128, .f32⟩
  | 125 => ⟨S1x8193x128, .f32⟩
  | 126 => ⟨S_, .f32⟩
  | 127 => ⟨S1x15x128, .f32⟩
  | _ => ⟨S1x8192x1024, .f32⟩

abbrev hbmTy0_1 (i : Nat) : BufTy := match i % 128 with
  | 0 => ⟨S1x8177x128, .f32⟩
  | 1 => ⟨S1x8192x128, .f32⟩
  | 2 => ⟨S_, .f32⟩
  | 3 => ⟨S1x15x128, .f32⟩
  | 4 => ⟨S_, .i32⟩
  | 5 => ⟨S8192, .i32⟩
  | 6 => ⟨S8192, .i32⟩
  | 7 => ⟨S_, .i32⟩
  | 8 => ⟨S8192, .i32⟩
  | 9 => ⟨S8192, .i32⟩
  | 10 => ⟨S8192, .f32⟩
  | 11 => ⟨S1x8192x1, .f32⟩
  | 12 => ⟨S1x8192x128, .f32⟩
  | 13 => ⟨S1x8192x128, .f32⟩
  | 14 => ⟨S1x8192x128, .f32⟩
  | 15 => ⟨S1x8192x128, .f32⟩
  | 16 => ⟨S1x8192x512, .f32⟩
  | 17 => ⟨S1x8192x512, .f32⟩
  | 18 => ⟨S1x8192x512, .f32⟩
  | 19 => ⟨S1x8192x512, .f32⟩
  | 20 => ⟨S1x8192x128, .f32⟩
  | 21 => ⟨S1x8192x128, .f32⟩
  | 22 => ⟨S1x8192x128, .f32⟩
  | 23 => ⟨S1x8192x128, .f32⟩
  | 24 => ⟨S1x8192x128, .f32⟩
  | 25 => ⟨S1x8192x128, .f32⟩
  | 26 => ⟨S1x8192x128, .f32⟩
  | 27 => ⟨S_, .f32⟩
  | 28 => ⟨S1x8193x128, .f32⟩
  | 29 => ⟨S1x15x128, .f32⟩
  | 30 => ⟨S1x8177x128, .f32⟩
  | 31 => ⟨S_, .f32⟩
  | 32 => ⟨S1x8193x128, .f32⟩
  | 33 => ⟨S1x8193x128, .f32⟩
  | 34 => ⟨S_, .f32⟩
  | 35 => ⟨S1x8193x512, .f32⟩
  | 36 => ⟨S1x8192x128, .f32⟩
  | 37 => ⟨S1x8192x128, .f32⟩
  | 38 => ⟨S1x8192x128, .f32⟩
  | 39 => ⟨S_, .f32⟩
  | 40 => ⟨S1x8193x128, .f32⟩
  | 41 => ⟨S1x7x128, .f32⟩
  | 42 => ⟨S1x8185x128, .f32⟩
  | 43 => ⟨S_, .f32⟩
  | 44 => ⟨S1x8193x128, .f32⟩
  | 45 => ⟨S1x8193x128, .f32⟩
  | 46 => ⟨S_, .f32⟩
  | 47 => ⟨S1x8193x512, .f32⟩
  | 48 => ⟨S1x8193x512, .f32⟩
  | 49 => ⟨S1x8192x128, .f32⟩
  | 50 => ⟨S1x8192x128, .f32⟩
  | 51 => ⟨S1x8192x128, .f32⟩
  | 52 => ⟨S_, .f32⟩
  | 53 => ⟨S1x8193x128, .f32⟩
  | 54 => ⟨S1x3x128, .f32⟩
  | 55 => ⟨S1x8189x128, .f32⟩
  | 56 => ⟨S_, .f32⟩
  | 57 => ⟨S1x8193x128, .f32⟩
  | 58 => ⟨S1x8193x128, .f32⟩
  | 59 => ⟨S_, .f32⟩
  | 60 => ⟨S1x8193x512, .f32⟩
  | 61 => ⟨S1x8193x512, .f32⟩
  | 62 => ⟨S1x8192x128, .f32⟩
  | 63 => ⟨S1x8192x128, .f32⟩
  | 64 => ⟨S1x8192x128, .f32⟩
  | 65 => ⟨S_, .f32⟩
  | 66 => ⟨S1x8193x128, .f32⟩
  | 67 => ⟨S1x1x128, .f32⟩
  | 68 => ⟨S1x8191x128, .f32⟩
  | 69 => ⟨S_, .f32⟩
  | 70 => ⟨S1x8193x128, .f32⟩
  | 71 => ⟨S1x8193x128, .f32⟩
  | 72 => ⟨S_, .f32⟩
  | 73 => ⟨S1x8193x512, .f32⟩
  | 74 => ⟨S1x8193x512, .f32⟩
  | 75 => ⟨S1x1x512, .f32⟩
  | 76 => ⟨S1x8192x512, .f32⟩
  | 77 => ⟨S_, .f32⟩
  | 78 => ⟨S_, .f32⟩
  | 79 => ⟨S1x8192x512, .f32⟩
  | 80 => ⟨S1x8192x512, .f32⟩
  | 81 => ⟨S1x64x128x2x64, .f32⟩
  | 82 => ⟨S1x64x128x2x64, .f32⟩
  | 83 => ⟨S1x8192x2x64, .f32⟩
  | 84 => ⟨S1x128x2x64, .f32⟩
  | 85 => ⟨S1x8064x2x64, .f32⟩
  | 86 => ⟨S_, .f32⟩
  | 87 => ⟨S1x8192x2x64, .f32⟩
  | 88 => ⟨S1x8192x2x64, .f32⟩
  | 89 => ⟨S1x8192x2x64, .f32⟩
  | 90 => ⟨S1x8192x128, .f32⟩
  | 91 => ⟨S1x64x128x2x64, .f32⟩
  | 92 => ⟨S1x64x128x2x64, .f32⟩
  | 93 => ⟨S1x8192x2x64, .f32⟩
  | 94 => ⟨S1x128x2x64, .f32⟩
  | 95 => ⟨S1x8064x2x64, .f32⟩
  | 96 => ⟨S_, .f32⟩
  | 97 => ⟨S1x8192x2x64, .f32⟩
  | 98 => ⟨S1x8192x2x64, .f32⟩
  | 99 => ⟨S1x8192x2x64, .f32⟩
  | 100 => ⟨S1x8192x128, .f32⟩
  | 101 => ⟨S1x8192x3840, .f32⟩
  | 102 => ⟨S1x8192x1024, .f32⟩
  | 103 => ⟨S1x8192x1024, .f32⟩
  | 104 => ⟨S_, .f32⟩
  | 105 => ⟨S1x1024, .f32⟩
  | 106 => ⟨S1x1x1024, .f32⟩
  | 107 => ⟨S1x8192x1024, .f32⟩
  | 108 => ⟨S1x8192x1024, .f32⟩
  | 109 => ⟨S_, .f32⟩
  | 110 => ⟨S1024, .f32⟩
  | 111 => ⟨S1x8192x1024, .f32⟩
  | 112 => ⟨S_, .f32⟩
  | 113 => ⟨S1x8192, .f32⟩
  | 114 => ⟨S1x8192x1, .f32⟩
  | 115 => ⟨S1x8192x1024, .f32⟩
  | 116 => ⟨S1x8192x1024, .f32⟩
  | 117 => ⟨S1x8192x1024, .f32⟩
  | 118 => ⟨S1x8192x1, .f32⟩
  | 119 => ⟨S_, .f32⟩
  | 120 => ⟨S1x8192x1, .f32⟩
  | 121 => ⟨S1x8192x1, .f32⟩
  | 122 => ⟨S_, .f32⟩
  | 123 => ⟨S8192, .f32⟩
  | 124 => ⟨S1x8192, .f32⟩
  | 125 => ⟨S1x8192x1024, .f32⟩
  | 126 => ⟨S1x8192x1024, .f32⟩
  | 127 => ⟨S1x8192x1024, .f32⟩
  | _ => ⟨S1x8192x1024, .f32⟩

abbrev hbmTy0_2 (i : Nat) : BufTy := match i % 128 with
  | 0 => ⟨S1x8192x1024, .f32⟩
  | 1 => ⟨S1x8192x1024, .f32⟩
  | 2 => ⟨S1x1024, .f32⟩
  | 3 => ⟨S8192x3840, .f32⟩
  | 4 => ⟨S8192x3840, .bf16⟩
  | 5 => ⟨S8192x1024, .f32⟩
  | 6 => ⟨S8192x1024, .f32⟩
  | 7 => ⟨S8192x1024, .bf16⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_call0_call0_cst : Ref sig .tc := ⟨.hbm, 61, rfl⟩
abbrev main_call0_call0_v0 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_c : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_c_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_16 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_17 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_c_19 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_20 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_21 : Ref sig .tc := ⟨.hbm, 130, rfl⟩
abbrev main_v95 : Ref sig .tc := ⟨.hbm, 131, rfl⟩
abbrev main_c_22 : Ref sig .tc := ⟨.hbm, 132, rfl⟩
abbrev main_v96 : Ref sig .tc := ⟨.hbm, 133, rfl⟩
abbrev main_v97 : Ref sig .tc := ⟨.hbm, 134, rfl⟩
abbrev main_c_23 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_24 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_25 : Ref sig .tc := ⟨.hbm, 159, rfl⟩
abbrev main_v120 : Ref sig .tc := ⟨.hbm, 160, rfl⟩
abbrev main_v121 : Ref sig .tc := ⟨.hbm, 161, rfl⟩
abbrev main_cst_26 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_cst_27 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_28 : Ref sig .tc := ⟨.hbm, 171, rfl⟩
abbrev main_v129 : Ref sig .tc := ⟨.hbm, 172, rfl⟩
abbrev main_v130 : Ref sig .tc := ⟨.hbm, 173, rfl⟩
abbrev main_cst_29 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_30 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_31 : Ref sig .tc := ⟨.hbm, 184, rfl⟩
abbrev main_v139 : Ref sig .tc := ⟨.hbm, 185, rfl⟩
abbrev main_v140 : Ref sig .tc := ⟨.hbm, 186, rfl⟩
abbrev main_cst_32 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_cst_33 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_34 : Ref sig .tc := ⟨.hbm, 197, rfl⟩
abbrev main_v149 : Ref sig .tc := ⟨.hbm, 198, rfl⟩
abbrev main_v150 : Ref sig .tc := ⟨.hbm, 199, rfl⟩
abbrev main_cst_35 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_call1_call0_cst : Ref sig .tc := ⟨.hbm, 205, rfl⟩
abbrev main_call1_call0_v0 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_cst_36 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_37 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_cst_38 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_cst_39 : Ref sig .tc := ⟨.hbm, 237, rfl⟩
abbrev main_v182 : Ref sig .tc := ⟨.hbm, 238, rfl⟩
abbrev main_v183 : Ref sig .tc := ⟨.hbm, 239, rfl⟩
abbrev main_cst_40 : Ref sig .tc := ⟨.hbm, 240, rfl⟩
abbrev main_v184 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_cst_41 : Ref sig .tc := ⟨.hbm, 247, rfl⟩
abbrev main_v190 : Ref sig .tc := ⟨.hbm, 248, rfl⟩
abbrev main_v191 : Ref sig .tc := ⟨.hbm, 249, rfl⟩
abbrev main_cst_42 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩

abbrev nD : Nat := 1
abbrev τ : Topo := Topo.v7x

variable {F : FTy → Type} [FloatOps F]
-- ==== InFwd.lean ====
abbrev S1x8192x1024 : Shape := ⟨3, ![1, 8192, 1024]⟩
abbrev S1x1024 : Shape := ⟨2, ![1, 1024]⟩
abbrev S1x1024x3840 : Shape := ⟨3, ![1, 1024, 3840]⟩
abbrev S8192x1024 : Shape := ⟨2, ![8192, 1024]⟩
abbrev S1024x3840 : Shape := ⟨2, ![1024, 3840]⟩
abbrev S3840x1024 : Shape := ⟨2, ![3840, 1024]⟩
abbrev S8192x256 : Shape := ⟨2, ![8192, 256]⟩
abbrev S8192x512 : Shape := ⟨2, ![8192, 512]⟩
abbrev S8192x2048 : Shape := ⟨2, ![8192, 2048]⟩
abbrev S512x1024 : Shape := ⟨2, ![512, 1024]⟩
abbrev S512x256 : Shape := ⟨2, ![512, 256]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S1024x1024 : Shape := ⟨2, ![1024, 1024]⟩
abbrev S256x1024 : Shape := ⟨2, ![256, 1024]⟩
abbrev S2048x1024 : Shape := ⟨2, ![2048, 1024]⟩

abbrev nBuf : Space → Nat
  | .hbm => 12
  | .vmem => 14
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x3840, .f32⟩
  | .hbm, ⟨3, _⟩ => ⟨S8192x1024, .f32⟩
  | .hbm, ⟨4, _⟩ => ⟨S1024x3840, .f32⟩
  | .hbm, ⟨5, _⟩ => ⟨S3840x1024, .f32⟩
  | .hbm, ⟨6, _⟩ => ⟨S3840x1024, .bf16⟩
  | .hbm, ⟨7, _⟩ => ⟨S8192x1024, .bf16⟩
  | .hbm, ⟨8, _⟩ => ⟨S8192x1024, .bf16⟩
  | .hbm, ⟨9, _⟩ => ⟨S8192x256, .bf16⟩
  | .hbm, ⟨10, _⟩ => ⟨S8192x512, .f32⟩
  | .hbm, ⟨11, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3840x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S512x512, .f32⟩
  | .local _ .vmem, ⟨11, _⟩ => ⟨S512x512, .f32⟩
  | .local _ .vmem, ⟨12, _⟩ => ⟨S512x2048, .bf16⟩
  | .local _ .vmem, ⟨13, _⟩ => ⟨S512x2048, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3840x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InRefIdeal.lean ====
abbrev S1x8192x1024 : Shape := ⟨3, ![1, 8192, 1024]⟩
abbrev S1x1024 : Shape := ⟨2, ![1, 1024]⟩
abbrev S1x1024x3840 : Shape := ⟨3, ![1, 1024, 3840]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x3840 : Shape := ⟨2, ![1024, 3840]⟩
abbrev S1x8192x3840 : Shape := ⟨3, ![1, 8192, 3840]⟩
abbrev S1x8192x256 : Shape := ⟨3, ![1, 8192, 256]⟩
abbrev S1x8192x512 : Shape := ⟨3, ![1, 8192, 512]⟩
abbrev S1x8192x2048 : Shape := ⟨3, ![1, 8192, 2048]⟩
abbrev S8192x1024 : Shape := ⟨2, ![8192, 1024]⟩
abbrev S8192x256 : Shape := ⟨2, ![8192, 256]⟩
abbrev S8192x512 : Shape := ⟨2, ![8192, 512]⟩
abbrev S8192x2048 : Shape := ⟨2, ![8192, 2048]⟩

abbrev nBuf : Space → Nat
  | .hbm => 35
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x3840, .f32⟩
  | .hbm, ⟨3, _⟩ => ⟨S1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1024x3840, .f32⟩
  | .hbm, ⟨21, _⟩ => ⟨S1x8192x3840, .f32⟩
  | .hbm, ⟨22, _⟩ => ⟨S1x8192x1024, .f32⟩
  | .hbm, ⟨23, _⟩ => ⟨S1x8192x256, .f32⟩
  | .hbm, ⟨24, _⟩ => ⟨S1x8192x512, .f32⟩
  | .hbm, ⟨25, _⟩ => ⟨S1x8192x2048, .f32⟩
  | .hbm, ⟨26, _⟩ => ⟨S8192x1024, .f32⟩
  | .hbm, ⟨27, _⟩ => ⟨S8192x1024, .bf16⟩
  | .hbm, ⟨28, _⟩ => ⟨S8192x1024, .f32⟩
  | .hbm, ⟨29, _⟩ => ⟨S8192x1024, .bf16⟩
  | .hbm, ⟨30, _⟩ => ⟨S8192x256, .f32⟩
  | .hbm, ⟨31, _⟩ => ⟨S8192x256, .bf16⟩
  | .hbm, ⟨32, _⟩ => ⟨S8192x512, .f32⟩
  | .hbm, ⟨33, _⟩ => ⟨S8192x2048, .f32⟩
  | .hbm, ⟨34, _⟩ => ⟨S8192x2048, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== GateBwd.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S8192x5632 : Shape := ⟨2, ![8192, 5632]⟩
abbrev S8192x1024 : Shape := ⟨2, ![8192, 1024]⟩
abbrev S2816x1024 : Shape := ⟨2, ![2816, 1024]⟩
abbrev S512x1024 : Shape := ⟨2, ![512, 1024]⟩
abbrev S512x5632 : Shape := ⟨2, ![512, 5632]⟩
abbrev S512x256 : Shape := ⟨2, ![512, 256]⟩
abbrev S256x1024 : Shape := ⟨2, ![256, 1024]⟩
abbrev S32x256 : Shape := ⟨2, ![32, 256]⟩

abbrev nBuf : Space → Nat
  | .hbm => 31
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x8192x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1024, .f32⟩
  | .hbm, ⟨18, _⟩ => ⟨S1x8192x1024, .f32⟩
  | .hbm, ⟨19, _⟩ => ⟨S1x1x1024, .f32⟩
  | .hbm, ⟨20, _⟩ => ⟨S1x8192x1024, .f32⟩
  | .hbm, ⟨21, _⟩ => ⟨S1x8192x1024, .f32⟩
  | .hbm, ⟨22, _⟩ => ⟨S1024x5632, .f32⟩
  | .hbm, ⟨23, _⟩ => ⟨S1x8192x5632, .f32⟩
  | .hbm, ⟨24, _⟩ => ⟨S8192x5632, .f32⟩
  | .hbm, ⟨25, _⟩ => ⟨S8192x1024, .f32⟩
  | .hbm, ⟨26, _⟩ => ⟨S8192x1024, .bf16⟩
  | .hbm, ⟨27, _⟩ => ⟨S8192x5632, .bf16⟩
  | .hbm, ⟨28, _⟩ => ⟨S2816x1024, .f32⟩
  | .hbm, ⟨29, _⟩ => ⟨S2816x1024, .bf16⟩
  | .hbm, ⟨30, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S512x5632, .bf16⟩
  | .local _ .vmem, ⟨3, _⟩ => ⟨S512x5632, .bf16⟩
  | .local _ .vmem, ⟨4, _⟩ => ⟨S2816x1024, .bf16⟩
  | .local _ .vmem, ⟨5, _⟩ => ⟨S512x5632, .bf16⟩
  | .local _ .vmem, ⟨6, _⟩ => ⟨S512x5632, .bf16⟩
  | .local _ .vmem, ⟨7, _⟩ => ⟨S512x256, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c32_i32 : BitVec 32 := 32#32
  let v10 : BitVec 32 := Scalar.muli c0_i32 c32_i32
  v10
def k0_off1 (c0_i32 : BitVec 32) : Fin 2 → Nat :=
  let c32_i32 : BitVec 32 := 32#32
  let v10 : BitVec 32 := Scalar.muli c0_i32 c32_i32
  let v11 : BitVec 32 := v10
  let v12 : Index := Scalar.indexCast v11
  let c0_6 : Index := 0#32
  ![v12.toNat, 0]
def k0_off2 (c0_i32 : BitVec 32) : Fin 2 → Nat :=
  let c32_i32 : BitVec 32 := 32#32
  let v10 : BitVec 32 := Scalar.muli c0_i32 c32_i32
  let v11 : BitVec 32 := v10
  let v16 : Index := Scalar.indexCast v11
  let c2816 : Index := 2816#32
  ![v16.toNat, 2816]
def k0_off3 (c0_i32 : BitVec 32) : Fin 2 → Nat :=
  let c32_i32 : BitVec 32 := 32#32
  let v10 : BitVec 32 := Scalar.muli c0_i32 c32_i32
  let v11 : BitVec 32 := v10
  let v21 : Index := Scalar.indexCast v11
  let c0_7 : Index := 0#32
  ![v21.toNat, 0]
def k0_mult2 : BitVec 32 :=
  let c1_i32 : BitVec 32 := 1#32
  let c32_i32_12 : BitVec 32 := 32#32
  let v38 : BitVec 32 := Scalar.muli c1_i32 c32_i32_12
  v38
def k0_mult3 : BitVec 32 :=
  let c2_i32 : BitVec 32 := 2#32
  let c32_i32_20 : BitVec 32 := 32#32
  let v66 : BitVec 32 := Scalar.muli c2_i32 c32_i32_20
  v66
def k0_mult4 : BitVec 32 :=
  let c3_i32 : BitVec 32 := 3#32
  let c32_i32_28 : BitVec 32 := 32#32
  let v94 : BitVec 32 := Scalar.muli c3_i32 c32_i32_28
  v94
def k0_mult5 : BitVec 32 :=
  let c4_i32 : BitVec 32 := 4#32
  let c32_i32_36 : BitVec 32 := 32#32
  let v122 : BitVec 32 := Scalar.muli c4_i32 c32_i32_36
  v122
def k0_mult6 : BitVec 32 :=
  let c5_i32 : BitVec 32 := 5#32
  let c32_i32_44 : BitVec 32 := 32#32
  let v150 : BitVec 32 := Scalar.muli c5_i32 c32_i32_44
  v150
def k0_mult7 : BitVec 32 :=
  let c6_i32 : BitVec 32 := 6#32
  let c32_i32_52 : BitVec 32 := 32#32
  let v178 : BitVec 32 := Scalar.muli c6_i32 c32_i32_52
  v178
def k0_mult8 : BitVec 32 :=
  let c7_i32 : BitVec 32 := 7#32
  let c32_i32_60 : BitVec 32 := 32#32
  let v206 : BitVec 32 := Scalar.muli c7_i32 c32_i32_60
  v206
def k0_mult9 : BitVec 32 :=
  let c8_i32 : BitVec 32 := 8#32
  let c32_i32_68 : BitVec 32 := 32#32
  let v234 : BitVec 32 := Scalar.muli c8_i32 c32_i32_68
  v234
def k0_mult10 : BitVec 32 :=
  let c9_i32 : BitVec 32 := 9#32
  let c32_i32_76 : BitVec 32 := 32#32
  let v262 : BitVec 32 := Scalar.muli c9_i32 c32_i32_76
  v262
def k0_mult11 : BitVec 32 :=
  let c10_i32 : BitVec 32 := 10#32
  let c32_i32_84 : BitVec 32 := 32#32
  let v290 : BitVec 32 := Scalar.muli c10_i32 c32_i32_84
  v290
def k0_mult12 : BitVec 32 :=
  let c11_i32 : BitVec 32 := 11#32
  let c32_i32_92 : BitVec 32 := 32#32
  let v318 : BitVec 32 := Scalar.muli c11_i32 c32_i32_92
  v318
def k0_mult13 : BitVec 32 :=
  let c12_i32 : BitVec 32 := 12#32
  let c32_i32_100 : BitVec 32 := 32#32
  let v346 : BitVec 32 := Scalar.muli c12_i32 c32_i32_100
  v346
def k0_mult14 : BitVec 32 :=
  let c13_i32 : BitVec 32 := 13#32
  let c32_i32_108 : BitVec 32 := 32#32
  let v374 : BitVec 32 := Scalar.muli c13_i32 c32_i32_108
  v374
def k0_mult15 : BitVec 32 :=
  let c14_i32 : BitVec 32 := 14#32
  let c32_i32_116 : BitVec 32 := 32#32
  let v402 : BitVec 32 := Scalar.muli c14_i32 c32_i32_116
  v402
def k0_mult16 : BitVec 32 :=
  let c15_i32 : BitVec 32 := 15#32
  let c32_i32_124 : BitVec 32 := 32#32
  let v430 : BitVec 32 := Scalar.muli c15_i32 c32_i32_124
  v430
def k0_mult17 : BitVec 32 :=
  let c0_i32_136 : BitVec 32 := 0#32
  let c32_i32_137 : BitVec 32 := 32#32
  let v464 : BitVec 32 := Scalar.muli c0_i32_136 c32_i32_137
  v464
def k0_off4 (c0_i32_136 : BitVec 32) : Fin 2 → Nat :=
  let c32_i32_137 : BitVec 32 := 32#32
  let v464 : BitVec 32 := Scalar.muli c0_i32_136 c32_i32_137
  let v465 : BitVec 32 := v464
  let v466 : Index := Scalar.indexCast v465
  let c256_138 : Index := 256#32
  ![v466.toNat, 256]
def k0_off5 (c0_i32_136 : BitVec 32) : Fin 2 → Nat :=
  let c32_i32_137 : BitVec 32 := 32#32
  let v464 : BitVec 32 := Scalar.muli c0_i32_136 c32_i32_137
  let v465 : BitVec 32 := v464
  let v470 : Index := Scalar.indexCast v465
  let c3072 : Index := 3072#32
  ![v470.toNat, 3072]
def k0_mult18 : BitVec 32 :=
  let c1_i32_144 : BitVec 32 := 1#32
  let c32_i32_145 : BitVec 32 := 32#32
  let v492 : BitVec 32 := Scalar.muli c1_i32_144 c32_i32_145
  v492
def k0_mult19 : BitVec 32 :=
  let c2_i32_153 : BitVec 32 := 2#32
  let c32_i32_154 : BitVec 32 := 32#32
  let v520 : BitVec 32 := Scalar.muli c2_i32_153 c32_i32_154
  v520
def k0_mult20 : BitVec 32 :=
  let c3_i32_162 : BitVec 32 := 3#32
  let c32_i32_163 : BitVec 32 := 32#32
  let v548 : BitVec 32 := Scalar.muli c3_i32_162 c32_i32_163
  v548
def k0_mult21 : BitVec 32 :=
  let c4_i32_171 : BitVec 32 := 4#32
  let c32_i32_172 : BitVec 32 := 32#32
  let v576 : BitVec 32 := Scalar.muli c4_i32_171 c32_i32_172
  v576
def k0_mult22 : BitVec 32 :=
  let c5_i32_180 : BitVec 32 := 5#32
  let c32_i32_181 : BitVec 32 := 32#32
  let v604 : BitVec 32 := Scalar.muli c5_i32_180 c32_i32_181
  v604
def k0_mult23 : BitVec 32 :=
  let c6_i32_189 : BitVec 32 := 6#32
  let c32_i32_190 : BitVec 32 := 32#32
  let v632 : BitVec 32 := Scalar.muli c6_i32_189 c32_i32_190
  v632
def k0_mult24 : BitVec 32 :=
  let c7_i32_198 : BitVec 32 := 7#32
  let c32_i32_199 : BitVec 32 := 32#32
  let v660 : BitVec 32 := Scalar.muli c7_i32_198 c32_i32_199
  v660
def k0_mult25 : BitVec 32 :=
  let c8_i32_207 : BitVec 32 := 8#32
  let c32_i32_208 : BitVec 32 := 32#32
  let v688 : BitVec 32 := Scalar.muli c8_i32_207 c32_i32_208
  v688
def k0_mult26 : BitVec 32 :=
  let c9_i32_216 : BitVec 32 := 9#32
  let c32_i32_217 : BitVec 32 := 32#32
  let v716 : BitVec 32 := Scalar.muli c9_i32_216 c32_i32_217
  v716
def k0_mult27 : BitVec 32 :=
  let c10_i32_225 : BitVec 32 := 10#32
  let c32_i32_226 : BitVec 32 := 32#32
  let v744 : BitVec 32 := Scalar.muli c10_i32_225 c32_i32_226
  v744
def k0_mult28 : BitVec 32 :=
  let c11_i32_234 : BitVec 32 := 11#32
  let c32_i32_235 : BitVec 32 := 32#32
  let v772 : BitVec 32 := Scalar.muli c11_i32_234 c32_i32_235
  v772
def k0_mult29 : BitVec 32 :=
  let c12_i32_243 : BitVec 32 := 12#32
  let c32_i32_244 : BitVec 32 := 32#32
  let v800 : BitVec 32 := Scalar.muli c12_i32_243 c32_i32_244
  v800
def k0_mult30 : BitVec 32 :=
  let c13_i32_252 : BitVec 32 := 13#32
  let c32_i32_253 : BitVec 32 := 32#32
  let v828 : BitVec 32 := Scalar.muli c13_i32_252 c32_i32_253
  v828
def k0_mult31 : BitVec 32 :=
  let c14_i32_261 : BitVec 32 := 14#32
  let c32_i32_262 : BitVec 32 := 32#32
  let v856 : BitVec 32 := Scalar.muli c14_i32_261 c32_i32_262
  v856
def k0_mult32 : BitVec 32 :=
  let c15_i32_270 : BitVec 32 := 15#32
  let c32_i32_271 : BitVec 32 := 32#32
  let v884 : BitVec 32 := Scalar.muli c15_i32_270 c32_i32_271
  v884
def k0_mult33 : BitVec 32 :=
  let c0_i32_284 : BitVec 32 := 0#32
  let c32_i32_285 : BitVec 32 := 32#32
  let v918 : BitVec 32 := Scalar.muli c0_i32_284 c32_i32_285
  v918
def k0_off6 (c0_i32_284 : BitVec 32) : Fin 2 → Nat :=
  let c32_i32_285 : BitVec 32 := 32#32
  let v918 : BitVec 32 := Scalar.muli c0_i32_284 c32_i32_285
  let v919 : BitVec 32 := v918
  let v920 : Index := Scalar.indexCast v919
  let c512_286 : Index := 512#32
  ![v920.toNat, 512]
def k0_off7 (c0_i32_284 : BitVec 32) : Fin 2 → Nat :=
  let c32_i32_285 : BitVec 32 := 32#32
  let v918 : BitVec 32 := Scalar.muli c0_i32_284 c32_i32_285
  let v919 : BitVec 32 := v918
  let v924 : Index := Scalar.indexCast v919
  let c3328 : Index := 3328#32
  ![v924.toNat, 3328]
def k0_mult34 : BitVec 32 :=
  let c1_i32_292 : BitVec 32 := 1#32
  let c32_i32_293 : BitVec 32 := 32#32
  let v946 : BitVec 32 := Scalar.muli c1_i32_292 c32_i32_293
  v946
def k0_mult35 : BitVec 32 :=
  let c2_i32_301 : BitVec 32 := 2#32
  let c32_i32_302 : BitVec 32 := 32#32
  let v974 : BitVec 32 := Scalar.muli c2_i32_301 c32_i32_302
  v974
def k0_mult36 : BitVec 32 :=
  let c3_i32_310 : BitVec 32 := 3#32
  let c32_i32_311 : BitVec 32 := 32#32
  let v1002 : BitVec 32 := Scalar.muli c3_i32_310 c32_i32_311
  v1002
def k0_mult37 : BitVec 32 :=
  let c4_i32_319 : BitVec 32 := 4#32
  let c32_i32_320 : BitVec 32 := 32#32
  let v1030 : BitVec 32 := Scalar.muli c4_i32_319 c32_i32_320
  v1030
def k0_mult38 : BitVec 32 :=
  let c5_i32_328 : BitVec 32 := 5#32
  let c32_i32_329 : BitVec 32 := 32#32
  let v1058 : BitVec 32 := Scalar.muli c5_i32_328 c32_i32_329
  v1058
def k0_mult39 : BitVec 32 :=
  let c6_i32_337 : BitVec 32 := 6#32
  let c32_i32_338 : BitVec 32 := 32#32
  let v1086 : BitVec 32 := Scalar.muli c6_i32_337 c32_i32_338
  v1086
def k0_mult40 : BitVec 32 :=
  let c7_i32_346 : BitVec 32 := 7#32
  let c32_i32_347 : BitVec 32 := 32#32
  let v1114 : BitVec 32 := Scalar.muli c7_i32_346 c32_i32_347
  v1114
def k0_mult41 : BitVec 32 :=
  let c8_i32_355 : BitVec 32 := 8#32
  let c32_i32_356 : BitVec 32 := 32#32
  let v1142 : BitVec 32 := Scalar.muli c8_i32_355 c32_i32_356
  v1142
def k0_mult42 : BitVec 32 :=
  let c9_i32_364 : BitVec 32 := 9#32
  let c32_i32_365 : BitVec 32 := 32#32
  let v1170 : BitVec 32 := Scalar.muli c9_i32_364 c32_i32_365
  v1170
def k0_mult43 : BitVec 32 :=
  let c10_i32_373 : BitVec 32 := 10#32
  let c32_i32_374 : BitVec 32 := 32#32
  let v1198 : BitVec 32 := Scalar.muli c10_i32_373 c32_i32_374
  v1198
def k0_mult44 : BitVec 32 :=
  let c11_i32_382 : BitVec 32 := 11#32
  let c32_i32_383 : BitVec 32 := 32#32
  let v1226 : BitVec 32 := Scalar.muli c11_i32_382 c32_i32_383
  v1226
def k0_mult45 : BitVec 32 :=
  let c12_i32_391 : BitVec 32 := 12#32
  let c32_i32_392 : BitVec 32 := 32#32
  let v1254 : BitVec 32 := Scalar.muli c12_i32_391 c32_i32_392
  v1254
def k0_mult46 : BitVec 32 :=
  let c13_i32_400 : BitVec 32 := 13#32
  let c32_i32_401 : BitVec 32 := 32#32
  let v1282 : BitVec 32 := Scalar.muli c13_i32_400 c32_i32_401
  v1282
def k0_mult47 : BitVec 32 :=
  let c14_i32_409 : BitVec 32 := 14#32
  let c32_i32_410 : BitVec 32 := 32#32
  let v1310 : BitVec 32 := Scalar.muli c14_i32_409 c32_i32_410
  v1310
def k0_mult48 : BitVec 32 :=
  let c15_i32_418 : BitVec 32 := 15#32
  let c32_i32_419 : BitVec 32 := 32#32
  let v1338 : BitVec 32 := Scalar.muli c15_i32_418 c32_i32_419
  v1338
def k0_mult49 : BitVec 32 :=
  let c0_i32_432 : BitVec 32 := 0#32
  let c32_i32_433 : BitVec 32 := 32#32
  let v1372 : BitVec 32 := Scalar.muli c0_i32_432 c32_i32_433
  v1372
def k0_off8 (c0_i32_432 : BitVec 32) : Fin 2 → Nat :=
  let c32_i32_433 : BitVec 32 := 32#32
  let v1372 : BitVec 32 := Scalar.muli c0_i32_432 c32_i32_433
  let v1373 : BitVec 32 := v1372
  let v1374 : Index := Scalar.indexCast v1373
  let c768_434 : Index := 768#32
  ![v1374.toNat, 768]
def k0_off9 (c0_i32_432 : BitVec 32) : Fin 2 → Nat :=
  let c32_i32_433 : BitVec 32 := 32#32
  let v1372 : BitVec 32 := Scalar.muli c0_i32_432 c32_i32_433
  let v1373 : BitVec 32 := v1372
  let v1378 : Index := Scalar.indexCast v1373
  let c3584 : Index := 3584#32
  ![v1378.toNat, 3584]
def k0_mult50 : BitVec 32 :=
  let c1_i32_440 : BitVec 32 := 1#32
  let c32_i32_441 : BitVec 32 := 32#32
  let v1400 : BitVec 32 := Scalar.muli c1_i32_440 c32_i32_441
  v1400
def k0_mult51 : BitVec 32 :=
  let c2_i32_449 : BitVec 32 := 2#32
  let c32_i32_450 : BitVec 32 := 32#32
  let v1428 : BitVec 32 := Scalar.muli c2_i32_449 c32_i32_450
  v1428
def k0_mult52 : BitVec 32 :=
  let c3_i32_458 : BitVec 32 := 3#32
  let c32_i32_459 : BitVec 32 := 32#32
  let v1456 : BitVec 32 := Scalar.muli c3_i32_458 c32_i32_459
  v1456
def k0_mult53 : BitVec 32 :=
  let c4_i32_467 : BitVec 32 := 4#32
  let c32_i32_468 : BitVec 32 := 32#32
  let v1484 : BitVec 32 := Scalar.muli c4_i32_467 c32_i32_468
  v1484
def k0_mult54 : BitVec 32 :=
  let c5_i32_476 : BitVec 32 := 5#32
  let c32_i32_477 : BitVec 32 := 32#32
  let v1512 : BitVec 32 := Scalar.muli c5_i32_476 c32_i32_477
  v1512
def k0_mult55 : BitVec 32 :=
  let c6_i32_485 : BitVec 32 := 6#32
  let c32_i32_486 : BitVec 32 := 32#32
  let v1540 : BitVec 32 := Scalar.muli c6_i32_485 c32_i32_486
  v1540
def k0_mult56 : BitVec 32 :=
  let c7_i32_494 : BitVec 32 := 7#32
  let c32_i32_495 : BitVec 32 := 32#32
  let v1568 : BitVec 32 := Scalar.muli c7_i32_494 c32_i32_495
  v1568
def k0_mult57 : BitVec 32 :=
  let c8_i32_503 : BitVec 32 := 8#32
  let c32_i32_504 : BitVec 32 := 32#32
  let v1596 : BitVec 32 := Scalar.muli c8_i32_503 c32_i32_504
  v1596
def k0_mult58 : BitVec 32 :=
  let c9_i32_512 : BitVec 32 := 9#32
  let c32_i32_513 : BitVec 32 := 32#32
  let v1624 : BitVec 32 := Scalar.muli c9_i32_512 c32_i32_513
  v1624
def k0_mult59 : BitVec 32 :=
  let c10_i32_521 : BitVec 32 := 10#32
  let c32_i32_522 : BitVec 32 := 32#32
  let v1652 : BitVec 32 := Scalar.muli c10_i32_521 c32_i32_522
  v1652
def k0_mult60 : BitVec 32 :=
  let c11_i32_530 : BitVec 32 := 11#32
  let c32_i32_531 : BitVec 32 := 32#32
  let v1680 : BitVec 32 := Scalar.muli c11_i32_530 c32_i32_531
  v1680
def k0_mult61 : BitVec 32 :=
  let c12_i32_539 : BitVec 32 := 12#32
  let c32_i32_540 : BitVec 32 := 32#32
  let v1708 : BitVec 32 := Scalar.muli c12_i32_539 c32_i32_540
  v1708
def k0_mult62 : BitVec 32 :=
  let c13_i32_548 : BitVec 32 := 13#32
  let c32_i32_549 : BitVec 32 := 32#32
  let v1736 : BitVec 32 := Scalar.muli c13_i32_548 c32_i32_549
  v1736
def k0_mult63 : BitVec 32 :=
  let c14_i32_557 : BitVec 32 := 14#32
  let c32_i32_558 : BitVec 32 := 32#32
  let v1764 : BitVec 32 := Scalar.muli c14_i32_557 c32_i32_558
  v1764
def k0_mult64 : BitVec 32 :=
  let c15_i32_566 : BitVec 32 := 15#32
  let c32_i32_567 : BitVec 32 := 32#32
  let v1792 : BitVec 32 := Scalar.muli c15_i32_566 c32_i32_567
  v1792
def k0_mult65 : BitVec 32 :=
  let c0_i32_580 : BitVec 32 := 0#32
  let c32_i32_581 : BitVec 32 := 32#32
  let v1826 : BitVec 32 := Scalar.muli c0_i32_580 c32_i32_581
  v1826
def k0_off10 (c0_i32_580 : BitVec 32) : Fin 2 → Nat :=
  let c32_i32_581 : BitVec 32 := 32#32
  let v1826 : BitVec 32 := Scalar.muli c0_i32_580 c32_i32_581
  let v1827 : BitVec 32 := v1826
  let v1828 : Index := Scalar.indexCast v1827
  let c1024_582 : Index := 1024#32
  ![v1828.toNat, 1024]
def k0_off11 (c0_i32_580 : BitVec 32) : Fin 2 → Nat :=
  let c32_i32_581 : BitVec 32 := 32#32
  let v1826 : BitVec 32 := Scalar.muli c0_i32_580 c32_i32_581
  let v1827 : BitVec 32 := v1826
  let v1832 : Index := Scalar.indexCast v1827
  let c3840 : Index := 3840#32
  ![v1832.toNat, 3840]
def k0_mult66 : BitVec 32 :=
  let c1_i32_588 : BitVec 32 := 1#32
  let c32_i32_589 : BitVec 32 := 32#32
  let v1854 : BitVec 32 := Scalar.muli c1_i32_588 c32_i32_589
  v1854
def k0_mult67 : BitVec 32 :=
  let c2_i32_597 : BitVec 32 := 2#32
  let c32_i32_598 : BitVec 32 := 32#32
  let v1882 : BitVec 32 := Scalar.muli c2_i32_597 c32_i32_598
  v1882
def k0_mult68 : BitVec 32 :=
  let c3_i32_606 : BitVec 32 := 3#32
  let c32_i32_607 : BitVec 32 := 32#32
  let v1910 : BitVec 32 := Scalar.muli c3_i32_606 c32_i32_607
  v1910
def k0_mult69 : BitVec 32 :=
  let c4_i32_615 : BitVec 32 := 4#32
  let c32_i32_616 : BitVec 32 := 32#32
  let v1938 : BitVec 32 := Scalar.muli c4_i32_615 c32_i32_616
  v1938
def k0_mult70 : BitVec 32 :=
  let c5_i32_624 : BitVec 32 := 5#32
  let c32_i32_625 : BitVec 32 := 32#32
  let v1966 : BitVec 32 := Scalar.muli c5_i32_624 c32_i32_625
  v1966
def k0_mult71 : BitVec 32 :=
  let c6_i32_633 : BitVec 32 := 6#32
  let c32_i32_634 : BitVec 32 := 32#32
  let v1994 : BitVec 32 := Scalar.muli c6_i32_633 c32_i32_634
  v1994
def k0_mult72 : BitVec 32 :=
  let c7_i32_642 : BitVec 32 := 7#32
  let c32_i32_643 : BitVec 32 := 32#32
  let v2022 : BitVec 32 := Scalar.muli c7_i32_642 c32_i32_643
  v2022
def k0_mult73 : BitVec 32 :=
  let c8_i32_651 : BitVec 32 := 8#32
  let c32_i32_652 : BitVec 32 := 32#32
  let v2050 : BitVec 32 := Scalar.muli c8_i32_651 c32_i32_652
  v2050
def k0_mult74 : BitVec 32 :=
  let c9_i32_660 : BitVec 32 := 9#32
  let c32_i32_661 : BitVec 32 := 32#32
  let v2078 : BitVec 32 := Scalar.muli c9_i32_660 c32_i32_661
  v2078
def k0_mult75 : BitVec 32 :=
  let c10_i32_669 : BitVec 32 := 10#32
  let c32_i32_670 : BitVec 32 := 32#32
  let v2106 : BitVec 32 := Scalar.muli c10_i32_669 c32_i32_670
  v2106
def k0_mult76 : BitVec 32 :=
  let c11_i32_678 : BitVec 32 := 11#32
  let c32_i32_679 : BitVec 32 := 32#32
  let v2134 : BitVec 32 := Scalar.muli c11_i32_678 c32_i32_679
  v2134
def k0_mult77 : BitVec 32 :=
  let c12_i32_687 : BitVec 32 := 12#32
  let c32_i32_688 : BitVec 32 := 32#32
  let v2162 : BitVec 32 := Scalar.muli c12_i32_687 c32_i32_688
  v2162
def k0_mult78 : BitVec 32 :=
  let c13_i32_696 : BitVec 32 := 13#32
  let c32_i32_697 : BitVec 32 := 32#32
  let v2190 : BitVec 32 := Scalar.muli c13_i32_696 c32_i32_697
  v2190
def k0_mult79 : BitVec 32 :=
  let c14_i32_705 : BitVec 32 := 14#32
  let c32_i32_706 : BitVec 32 := 32#32
  let v2218 : BitVec 32 := Scalar.muli c14_i32_705 c32_i32_706
  v2218
def k0_mult80 : BitVec 32 :=
  let c15_i32_714 : BitVec 32 := 15#32
  let c32_i32_715 : BitVec 32 := 32#32
  let v2246 : BitVec 32 := Scalar.muli c15_i32_714 c32_i32_715
  v2246
def k0_mult81 : BitVec 32 :=
  let c0_i32_728 : BitVec 32 := 0#32
  let c32_i32_729 : BitVec 32 := 32#32
  let v2280 : BitVec 32 := Scalar.muli c0_i32_728 c32_i32_729
  v2280
def k0_off12 (c0_i32_728 : BitVec 32) : Fin 2 → Nat :=
  let c32_i32_729 : BitVec 32 := 32#32
  let v2280 : BitVec 32 := Scalar.muli c0_i32_728 c32_i32_729
  let v2281 : BitVec 32 := v2280
  let v2282 : Index := Scalar.indexCast v2281
  let c1280_730 : Index := 1280#32
  ![v2282.toNat, 1280]
def k0_off13 (c0_i32_728 : BitVec 32) : Fin 2 → Nat :=
  let c32_i32_729 : BitVec 32 := 32#32
  let v2280 : BitVec 32 := Scalar.muli c0_i32_728 c32_i32_729
  let v2281 : BitVec 32 := v2280
  let v2286 : Index := Scalar.indexCast v2281
  let c4096 : Index := 4096#32
  ![v2286.toNat, 4096]
def k0_mult82 : BitVec 32 :=
  let c1_i32_736 : BitVec 32 := 1#32
  let c32_i32_737 : BitVec 32 := 32#32
  let v2308 : BitVec 32 := Scalar.muli c1_i32_736 c32_i32_737
  v2308
def k0_mult83 : BitVec 32 :=
  let c2_i32_745 : BitVec 32 := 2#32
  let c32_i32_746 : BitVec 32 := 32#32
  let v2336 : BitVec 32 := Scalar.muli c2_i32_745 c32_i32_746
  v2336
def k0_mult84 : BitVec 32 :=
  let c3_i32_754 : BitVec 32 := 3#32
  let c32_i32_755 : BitVec 32 := 32#32
  let v2364 : BitVec 32 := Scalar.muli c3_i32_754 c32_i32_755
  v2364
def k0_mult85 : BitVec 32 :=
  let c4_i32_763 : BitVec 32 := 4#32
  let c32_i32_764 : BitVec 32 := 32#32
  let v2392 : BitVec 32 := Scalar.muli c4_i32_763 c32_i32_764
  v2392
def k0_mult86 : BitVec 32 :=
  let c5_i32_772 : BitVec 32 := 5#32
  let c32_i32_773 : BitVec 32 := 32#32
  let v2420 : BitVec 32 := Scalar.muli c5_i32_772 c32_i32_773
  v2420
def k0_mult87 : BitVec 32 :=
  let c6_i32_781 : BitVec 32 := 6#32
  let c32_i32_782 : BitVec 32 := 32#32
  let v2448 : BitVec 32 := Scalar.muli c6_i32_781 c32_i32_782
  v2448
def k0_mult88 : BitVec 32 :=
  let c7_i32_790 : BitVec 32 := 7#32
  let c32_i32_791 : BitVec 32 := 32#32
  let v2476 : BitVec 32 := Scalar.muli c7_i32_790 c32_i32_791
  v2476
def k0_mult89 : BitVec 32 :=
  let c8_i32_799 : BitVec 32 := 8#32
  let c32_i32_800 : BitVec 32 := 32#32
  let v2504 : BitVec 32 := Scalar.muli c8_i32_799 c32_i32_800
  v2504
def k0_mult90 : BitVec 32 :=
  let c9_i32_808 : BitVec 32 := 9#32
  let c32_i32_809 : BitVec 32 := 32#32
  let v2532 : BitVec 32 := Scalar.muli c9_i32_808 c32_i32_809
  v2532
def k0_mult91 : BitVec 32 :=
  let c10_i32_817 : BitVec 32 := 10#32
  let c32_i32_818 : BitVec 32 := 32#32
  let v2560 : BitVec 32 := Scalar.muli c10_i32_817 c32_i32_818
  v2560
def k0_mult92 : BitVec 32 :=
  let c11_i32_826 : BitVec 32 := 11#32
  let c32_i32_827 : BitVec 32 := 32#32
  let v2588 : BitVec 32 := Scalar.muli c11_i32_826 c32_i32_827
  v2588
def k0_mult93 : BitVec 32 :=
  let c12_i32_835 : BitVec 32 := 12#32
  let c32_i32_836 : BitVec 32 := 32#32
  let v2616 : BitVec 32 := Scalar.muli c12_i32_835 c32_i32_836
  v2616
def k0_mult94 : BitVec 32 :=
  let c13_i32_844 : BitVec 32 := 13#32
  let c32_i32_845 : BitVec 32 := 32#32
  let v2644 : BitVec 32 := Scalar.muli c13_i32_844 c32_i32_845
  v2644
def k0_mult95 : BitVec 32 :=
  let c14_i32_853 : BitVec 32 := 14#32
  let c32_i32_854 : BitVec 32 := 32#32
  let v2672 : BitVec 32 := Scalar.muli c14_i32_853 c32_i32_854
  v2672
def k0_mult96 : BitVec 32 :=
  let c15_i32_862 : BitVec 32 := 15#32
  let c32_i32_863 : BitVec 32 := 32#32
  let v2700 : BitVec 32 := Scalar.muli c15_i32_862 c32_i32_863
  v2700
def k0_mult97 : BitVec 32 :=
  let c0_i32_876 : BitVec 32 := 0#32
  let c32_i32_877 : BitVec 32 := 32#32
  let v2734 : BitVec 32 := Scalar.muli c0_i32_876 c32_i32_877
  v2734
def k0_off14 (c0_i32_876 : BitVec 32) : Fin 2 → Nat :=
  let c32_i32_877 : BitVec 32 := 32#32
  let v2734 : BitVec 32 := Scalar.muli c0_i32_876 c32_i32_877
  let v2735 : BitVec 32 := v2734
  let v2736 : Index := Scalar.indexCast v2735
  let c1536_878 : Index := 1536#32
  ![v2736.toNat, 1536]
def k0_off15 (c0_i32_876 : BitVec 32) : Fin 2 → Nat :=
  let c32_i32_877 : BitVec 32 := 32#32
  let v2734 : BitVec 32 := Scalar.muli c0_i32_876 c32_i32_877
  let v2735 : BitVec 32 := v2734
  let v2740 : Index := Scalar.indexCast v2735
  let c4352 : Index := 4352#32
  ![v2740.toNat, 4352]
def k0_mult98 : BitVec 32 :=
  let c1_i32_884 : BitVec 32 := 1#32
  let c32_i32_885 : BitVec 32 := 32#32
  let v2762 : BitVec 32 := Scalar.muli c1_i32_884 c32_i32_885
  v2762
def k0_mult99 : BitVec 32 :=
  let c2_i32_893 : BitVec 32 := 2#32
  let c32_i32_894 : BitVec 32 := 32#32
  let v2790 : BitVec 32 := Scalar.muli c2_i32_893 c32_i32_894
  v2790
def k0_mult100 : BitVec 32 :=
  let c3_i32_902 : BitVec 32 := 3#32
  let c32_i32_903 : BitVec 32 := 32#32
  let v2818 : BitVec 32 := Scalar.muli c3_i32_902 c32_i32_903
  v2818
def k0_mult101 : BitVec 32 :=
  let c4_i32_911 : BitVec 32 := 4#32
  let c32_i32_912 : BitVec 32 := 32#32
  let v2846 : BitVec 32 := Scalar.muli c4_i32_911 c32_i32_912
  v2846
def k0_mult102 : BitVec 32 :=
  let c5_i32_920 : BitVec 32 := 5#32
  let c32_i32_921 : BitVec 32 := 32#32
  let v2874 : BitVec 32 := Scalar.muli c5_i32_920 c32_i32_921
  v2874
def k0_mult103 : BitVec 32 :=
  let c6_i32_929 : BitVec 32 := 6#32
  let c32_i32_930 : BitVec 32 := 32#32
  let v2902 : BitVec 32 := Scalar.muli c6_i32_929 c32_i32_930
  v2902
def k0_mult104 : BitVec 32 :=
  let c7_i32_938 : BitVec 32 := 7#32
  let c32_i32_939 : BitVec 32 := 32#32
  let v2930 : BitVec 32 := Scalar.muli c7_i32_938 c32_i32_939
  v2930
def k0_mult105 : BitVec 32 :=
  let c8_i32_947 : BitVec 32 := 8#32
  let c32_i32_948 : BitVec 32 := 32#32
  let v2958 : BitVec 32 := Scalar.muli c8_i32_947 c32_i32_948
  v2958
def k0_mult106 : BitVec 32 :=
  let c9_i32_956 : BitVec 32 := 9#32
  let c32_i32_957 : BitVec 32 := 32#32
  let v2986 : BitVec 32 := Scalar.muli c9_i32_956 c32_i32_957
  v2986
def k0_mult107 : BitVec 32 :=
  let c10_i32_965 : BitVec 32 := 10#32
  let c32_i32_966 : BitVec 32 := 32#32
  let v3014 : BitVec 32 := Scalar.muli c10_i32_965 c32_i32_966
  v3014
def k0_mult108 : BitVec 32 :=
  let c11_i32_974 : BitVec 32 := 11#32
  let c32_i32_975 : BitVec 32 := 32#32
  let v3042 : BitVec 32 := Scalar.muli c11_i32_974 c32_i32_975
  v3042
def k0_mult109 : BitVec 32 :=
  let c12_i32_983 : BitVec 32 := 12#32
  let c32_i32_984 : BitVec 32 := 32#32
  let v3070 : BitVec 32 := Scalar.muli c12_i32_983 c32_i32_984
  v3070
def k0_mult110 : BitVec 32 :=
  let c13_i32_992 : BitVec 32 := 13#32
  let c32_i32_993 : BitVec 32 := 32#32
  let v3098 : BitVec 32 := Scalar.muli c13_i32_992 c32_i32_993
  v3098
def k0_mult111 : BitVec 32 :=
  let c14_i32_1001 : BitVec 32 := 14#32
  let c32_i32_1002 : BitVec 32 := 32#32
  let v3126 : BitVec 32 := Scalar.muli c14_i32_1001 c32_i32_1002
  v3126
def k0_mult112 : BitVec 32 :=
  let c15_i32_1010 : BitVec 32 := 15#32
  let c32_i32_1011 : BitVec 32 := 32#32
  let v3154 : BitVec 32 := Scalar.muli c15_i32_1010 c32_i32_1011
  v3154
def k0_mult113 : BitVec 32 :=
  let c0_i32_1024 : BitVec 32 := 0#32
  let c32_i32_1025 : BitVec 32 := 32#32
  let v3188 : BitVec 32 := Scalar.muli c0_i32_1024 c32_i32_1025
  v3188
def k0_off16 (c0_i32_1024 : BitVec 32) : Fin 2 → Nat :=
  let c32_i32_1025 : BitVec 32 := 32#32
  let v3188 : BitVec 32 := Scalar.muli c0_i32_1024 c32_i32_1025
  let v3189 : BitVec 32 := v3188
  let v3190 : Index := Scalar.indexCast v3189
  let c1792_1026 : Index := 1792#32
  ![v3190.toNat, 1792]
def k0_off17 (c0_i32_1024 : BitVec 32) : Fin 2 → Nat :=
  let c32_i32_1025 : BitVec 32 := 32#32
  let v3188 : BitVec 32 := Scalar.muli c0_i32_1024 c32_i32_1025
  let v3189 : BitVec 32 := v3188
  let v3194 : Index := Scalar.indexCast v3189
  let c4608 : Index := 4608#32
  ![v3194.toNat, 4608]
def k0_mult114 : BitVec 32 :=
  let c1_i32_1032 : BitVec 32 := 1#32
  let c32_i32_1033 : BitVec 32 := 32#32
  let v3216 : BitVec 32 := Scalar.muli c1_i32_1032 c32_i32_1033
  v3216
def k0_mult115 : BitVec 32 :=
  let c2_i32_1041 : BitVec 32 := 2#32
  let c32_i32_1042 : BitVec 32 := 32#32
  let v3244 : BitVec 32 := Scalar.muli c2_i32_1041 c32_i32_1042
  v3244
def k0_mult116 : BitVec 32 :=
  let c3_i32_1050 : BitVec 32 := 3#32
  let c32_i32_1051 : BitVec 32 := 32#32
  let v3272 : BitVec 32 := Scalar.muli c3_i32_1050 c32_i32_1051
  v3272
def k0_mult117 : BitVec 32 :=
  let c4_i32_1059 : BitVec 32 := 4#32
  let c32_i32_1060 : BitVec 32 := 32#32
  let v3300 : BitVec 32 := Scalar.muli c4_i32_1059 c32_i32_1060
  v3300
def k0_mult118 : BitVec 32 :=
  let c5_i32_1068 : BitVec 32 := 5#32
  let c32_i32_1069 : BitVec 32 := 32#32
  let v3328 : BitVec 32 := Scalar.muli c5_i32_1068 c32_i32_1069
  v3328
def k0_mult119 : BitVec 32 :=
  let c6_i32_1077 : BitVec 32 := 6#32
  let c32_i32_1078 : BitVec 32 := 32#32
  let v3356 : BitVec 32 := Scalar.muli c6_i32_1077 c32_i32_1078
  v3356
def k0_mult120 : BitVec 32 :=
  let c7_i32_1086 : BitVec 32 := 7#32
  let c32_i32_1087 : BitVec 32 := 32#32
  let v3384 : BitVec 32 := Scalar.muli c7_i32_1086 c32_i32_1087
  v3384
def k0_mult121 : BitVec 32 :=
  let c8_i32_1095 : BitVec 32 := 8#32
  let c32_i32_1096 : BitVec 32 := 32#32
  let v3412 : BitVec 32 := Scalar.muli c8_i32_1095 c32_i32_1096
  v3412
def k0_mult122 : BitVec 32 :=
  let c9_i32_1104 : BitVec 32 := 9#32
  let c32_i32_1105 : BitVec 32 := 32#32
  let v3440 : BitVec 32 := Scalar.muli c9_i32_1104 c32_i32_1105
  v3440
def k0_mult123 : BitVec 32 :=
  let c10_i32_1113 : BitVec 32 := 10#32
  let c32_i32_1114 : BitVec 32 := 32#32
  let v3468 : BitVec 32 := Scalar.muli c10_i32_1113 c32_i32_1114
  v3468
def k0_mult124 : BitVec 32 :=
  let c11_i32_1122 : BitVec 32 := 11#32
  let c32_i32_1123 : BitVec 32 := 32#32
  let v3496 : BitVec 32 := Scalar.muli c11_i32_1122 c32_i32_1123
  v3496
def k0_mult125 : BitVec 32 :=
  let c12_i32_1131 : BitVec 32 := 12#32
  let c32_i32_1132 : BitVec 32 := 32#32
  let v3524 : BitVec 32 := Scalar.muli c12_i32_1131 c32_i32_1132
  v3524
def k0_mult126 : BitVec 32 :=
  let c13_i32_1140 : BitVec 32 := 13#32
  let c32_i32_1141 : BitVec 32 := 32#32
  let v3552 : BitVec 32 := Scalar.muli c13_i32_1140 c32_i32_1141
  v3552
def k0_mult127 : BitVec 32 :=
  let c14_i32_1149 : BitVec 32 := 14#32
  let c32_i32_1150 : BitVec 32 := 32#32
  let v3580 : BitVec 32 := Scalar.muli c14_i32_1149 c32_i32_1150
  v3580
def k0_mult128 : BitVec 32 :=
  let c15_i32_1158 : BitVec 32 := 15#32
  let c32_i32_1159 : BitVec 32 := 32#32
  let v3608 : BitVec 32 := Scalar.muli c15_i32_1158 c32_i32_1159
  v3608
def k0_mult129 : BitVec 32 :=
  let c0_i32_1172 : BitVec 32 := 0#32
  let c32_i32_1173 : BitVec 32 := 32#32
  let v3642 : BitVec 32 := Scalar.muli c0_i32_1172 c32_i32_1173
  v3642
def k0_off18 (c0_i32_1172 : BitVec 32) : Fin 2 → Nat :=
  let c32_i32_1173 : BitVec 32 := 32#32
  let v3642 : BitVec 32 := Scalar.muli c0_i32_1172 c32_i32_1173
  let v3643 : BitVec 32 := v3642
  let v3644 : Index := Scalar.indexCast v3643
  let c2048_1174 : Index := 2048#32
  ![v3644.toNat, 2048]
def k0_off19 (c0_i32_1172 : BitVec 32) : Fin 2 → Nat :=
  let c32_i32_1173 : BitVec 32 := 32#32
  let v3642 : BitVec 32 := Scalar.muli c0_i32_1172 c32_i32_1173
  let v3643 : BitVec 32 := v3642
  let v3648 : Index := Scalar.indexCast v3643
  let c4864 : Index := 4864#32
  ![v3648.toNat, 4864]
def k0_mult130 : BitVec 32 :=
  let c1_i32_1180 : BitVec 32 := 1#32
  let c32_i32_1181 : BitVec 32 := 32#32
  let v3670 : BitVec 32 := Scalar.muli c1_i32_1180 c32_i32_1181
  v3670
def k0_mult131 : BitVec 32 :=
  let c2_i32_1189 : BitVec 32 := 2#32
  let c32_i32_1190 : BitVec 32 := 32#32
  let v3698 : BitVec 32 := Scalar.muli c2_i32_1189 c32_i32_1190
  v3698
def k0_mult132 : BitVec 32 :=
  let c3_i32_1198 : BitVec 32 := 3#32
  let c32_i32_1199 : BitVec 32 := 32#32
  let v3726 : BitVec 32 := Scalar.muli c3_i32_1198 c32_i32_1199
  v3726
def k0_mult133 : BitVec 32 :=
  let c4_i32_1207 : BitVec 32 := 4#32
  let c32_i32_1208 : BitVec 32 := 32#32
  let v3754 : BitVec 32 := Scalar.muli c4_i32_1207 c32_i32_1208
  v3754
def k0_mult134 : BitVec 32 :=
  let c5_i32_1216 : BitVec 32 := 5#32
  let c32_i32_1217 : BitVec 32 := 32#32
  let v3782 : BitVec 32 := Scalar.muli c5_i32_1216 c32_i32_1217
  v3782
def k0_mult135 : BitVec 32 :=
  let c6_i32_1225 : BitVec 32 := 6#32
  let c32_i32_1226 : BitVec 32 := 32#32
  let v3810 : BitVec 32 := Scalar.muli c6_i32_1225 c32_i32_1226
  v3810
def k0_mult136 : BitVec 32 :=
  let c7_i32_1234 : BitVec 32 := 7#32
  let c32_i32_1235 : BitVec 32 := 32#32
  let v3838 : BitVec 32 := Scalar.muli c7_i32_1234 c32_i32_1235
  v3838
def k0_mult137 : BitVec 32 :=
  let c8_i32_1243 : BitVec 32 := 8#32
  let c32_i32_1244 : BitVec 32 := 32#32
  let v3866 : BitVec 32 := Scalar.muli c8_i32_1243 c32_i32_1244
  v3866
def k0_mult138 : BitVec 32 :=
  let c9_i32_1252 : BitVec 32 := 9#32
  let c32_i32_1253 : BitVec 32 := 32#32
  let v3894 : BitVec 32 := Scalar.muli c9_i32_1252 c32_i32_1253
  v3894
def k0_mult139 : BitVec 32 :=
  let c10_i32_1261 : BitVec 32 := 10#32
  let c32_i32_1262 : BitVec 32 := 32#32
  let v3922 : BitVec 32 := Scalar.muli c10_i32_1261 c32_i32_1262
  v3922
def k0_mult140 : BitVec 32 :=
  let c11_i32_1270 : BitVec 32 := 11#32
  let c32_i32_1271 : BitVec 32 := 32#32
  let v3950 : BitVec 32 := Scalar.muli c11_i32_1270 c32_i32_1271
  v3950
def k0_mult141 : BitVec 32 :=
  let c12_i32_1279 : BitVec 32 := 12#32
  let c32_i32_1280 : BitVec 32 := 32#32
  let v3978 : BitVec 32 := Scalar.muli c12_i32_1279 c32_i32_1280
  v3978
def k0_mult142 : BitVec 32 :=
  let c13_i32_1288 : BitVec 32 := 13#32
  let c32_i32_1289 : BitVec 32 := 32#32
  let v4006 : BitVec 32 := Scalar.muli c13_i32_1288 c32_i32_1289
  v4006
def k0_mult143 : BitVec 32 :=
  let c14_i32_1297 : BitVec 32 := 14#32
  let c32_i32_1298 : BitVec 32 := 32#32
  let v4034 : BitVec 32 := Scalar.muli c14_i32_1297 c32_i32_1298
  v4034
def k0_mult144 : BitVec 32 :=
  let c15_i32_1306 : BitVec 32 := 15#32
  let c32_i32_1307 : BitVec 32 := 32#32
  let v4062 : BitVec 32 := Scalar.muli c15_i32_1306 c32_i32_1307
  v4062
def k0_mult145 : BitVec 32 :=
  let c0_i32_1320 : BitVec 32 := 0#32
  let c32_i32_1321 : BitVec 32 := 32#32
  let v4096 : BitVec 32 := Scalar.muli c0_i32_1320 c32_i32_1321
  v4096
def k0_off20 (c0_i32_1320 : BitVec 32) : Fin 2 → Nat :=
  let c32_i32_1321 : BitVec 32 := 32#32
  let v4096 : BitVec 32 := Scalar.muli c0_i32_1320 c32_i32_1321
  let v4097 : BitVec 32 := v4096
  let v4098 : Index := Scalar.indexCast v4097
  let c2304_1322 : Index := 2304#32
  ![v4098.toNat, 2304]
def k0_off21 (c0_i32_1320 : BitVec 32) : Fin 2 → Nat :=
  let c32_i32_1321 : BitVec 32 := 32#32
  let v4096 : BitVec 32 := Scalar.muli c0_i32_1320 c32_i32_1321
  let v4097 : BitVec 32 := v4096
  let v4102 : Index := Scalar.indexCast v4097
  let c5120 : Index := 5120#32
  ![v4102.toNat, 5120]
def k0_mult146 : BitVec 32 :=
  let c1_i32_1328 : BitVec 32 := 1#32
  let c32_i32_1329 : BitVec 32 := 32#32
  let v4124 : BitVec 32 := Scalar.muli c1_i32_1328 c32_i32_1329
  v4124
def k0_mult147 : BitVec 32 :=
  let c2_i32_1337 : BitVec 32 := 2#32
  let c32_i32_1338 : BitVec 32 := 32#32
  let v4152 : BitVec 32 := Scalar.muli c2_i32_1337 c32_i32_1338
  v4152
def k0_mult148 : BitVec 32 :=
  let c3_i32_1346 : BitVec 32 := 3#32
  let c32_i32_1347 : BitVec 32 := 32#32
  let v4180 : BitVec 32 := Scalar.muli c3_i32_1346 c32_i32_1347
  v4180
def k0_mult149 : BitVec 32 :=
  let c4_i32_1355 : BitVec 32 := 4#32
  let c32_i32_1356 : BitVec 32 := 32#32
  let v4208 : BitVec 32 := Scalar.muli c4_i32_1355 c32_i32_1356
  v4208
def k0_mult150 : BitVec 32 :=
  let c5_i32_1364 : BitVec 32 := 5#32
  let c32_i32_1365 : BitVec 32 := 32#32
  let v4236 : BitVec 32 := Scalar.muli c5_i32_1364 c32_i32_1365
  v4236
def k0_mult151 : BitVec 32 :=
  let c6_i32_1373 : BitVec 32 := 6#32
  let c32_i32_1374 : BitVec 32 := 32#32
  let v4264 : BitVec 32 := Scalar.muli c6_i32_1373 c32_i32_1374
  v4264
def k0_mult152 : BitVec 32 :=
  let c7_i32_1382 : BitVec 32 := 7#32
  let c32_i32_1383 : BitVec 32 := 32#32
  let v4292 : BitVec 32 := Scalar.muli c7_i32_1382 c32_i32_1383
  v4292
def k0_mult153 : BitVec 32 :=
  let c8_i32_1391 : BitVec 32 := 8#32
  let c32_i32_1392 : BitVec 32 := 32#32
  let v4320 : BitVec 32 := Scalar.muli c8_i32_1391 c32_i32_1392
  v4320
def k0_mult154 : BitVec 32 :=
  let c9_i32_1400 : BitVec 32 := 9#32
  let c32_i32_1401 : BitVec 32 := 32#32
  let v4348 : BitVec 32 := Scalar.muli c9_i32_1400 c32_i32_1401
  v4348
def k0_mult155 : BitVec 32 :=
  let c10_i32_1409 : BitVec 32 := 10#32
  let c32_i32_1410 : BitVec 32 := 32#32
  let v4376 : BitVec 32 := Scalar.muli c10_i32_1409 c32_i32_1410
  v4376
def k0_mult156 : BitVec 32 :=
  let c11_i32_1418 : BitVec 32 := 11#32
  let c32_i32_1419 : BitVec 32 := 32#32
  let v4404 : BitVec 32 := Scalar.muli c11_i32_1418 c32_i32_1419
  v4404
def k0_mult157 : BitVec 32 :=
  let c12_i32_1427 : BitVec 32 := 12#32
  let c32_i32_1428 : BitVec 32 := 32#32
  let v4432 : BitVec 32 := Scalar.muli c12_i32_1427 c32_i32_1428
  v4432
def k0_mult158 : BitVec 32 :=
  let c13_i32_1436 : BitVec 32 := 13#32
  let c32_i32_1437 : BitVec 32 := 32#32
  let v4460 : BitVec 32 := Scalar.muli c13_i32_1436 c32_i32_1437
  v4460
def k0_mult159 : BitVec 32 :=
  let c14_i32_1445 : BitVec 32 := 14#32
  let c32_i32_1446 : BitVec 32 := 32#32
  let v4488 : BitVec 32 := Scalar.muli c14_i32_1445 c32_i32_1446
  v4488
def k0_mult160 : BitVec 32 :=
  let c15_i32_1454 : BitVec 32 := 15#32
  let c32_i32_1455 : BitVec 32 := 32#32
  let v4516 : BitVec 32 := Scalar.muli c15_i32_1454 c32_i32_1455
  v4516
def k0_mult161 : BitVec 32 :=
  let c0_i32_1468 : BitVec 32 := 0#32
  let c32_i32_1469 : BitVec 32 := 32#32
  let v4550 : BitVec 32 := Scalar.muli c0_i32_1468 c32_i32_1469
  v4550
def k0_off22 (c0_i32_1468 : BitVec 32) : Fin 2 → Nat :=
  let c32_i32_1469 : BitVec 32 := 32#32
  let v4550 : BitVec 32 := Scalar.muli c0_i32_1468 c32_i32_1469
  let v4551 : BitVec 32 := v4550
  let v4552 : Index := Scalar.indexCast v4551
  let c2560_1470 : Index := 2560#32
  ![v4552.toNat, 2560]
def k0_off23 (c0_i32_1468 : BitVec 32) : Fin 2 → Nat :=
  let c32_i32_1469 : BitVec 32 := 32#32
  let v4550 : BitVec 32 := Scalar.muli c0_i32_1468 c32_i32_1469
  let v4551 : BitVec 32 := v4550
  let v4556 : Index := Scalar.indexCast v4551
  let c5376 : Index := 5376#32
  ![v4556.toNat, 5376]
def k0_mult162 : BitVec 32 :=
  let c1_i32_1476 : BitVec 32 := 1#32
  let c32_i32_1477 : BitVec 32 := 32#32
  let v4578 : BitVec 32 := Scalar.muli c1_i32_1476 c32_i32_1477
  v4578
def k0_mult163 : BitVec 32 :=
  let c2_i32_1485 : BitVec 32 := 2#32
  let c32_i32_1486 : BitVec 32 := 32#32
  let v4606 : BitVec 32 := Scalar.muli c2_i32_1485 c32_i32_1486
  v4606
def k0_mult164 : BitVec 32 :=
  let c3_i32_1494 : BitVec 32 := 3#32
  let c32_i32_1495 : BitVec 32 := 32#32
  let v4634 : BitVec 32 := Scalar.muli c3_i32_1494 c32_i32_1495
  v4634
def k0_mult165 : BitVec 32 :=
  let c4_i32_1503 : BitVec 32 := 4#32
  let c32_i32_1504 : BitVec 32 := 32#32
  let v4662 : BitVec 32 := Scalar.muli c4_i32_1503 c32_i32_1504
  v4662
def k0_mult166 : BitVec 32 :=
  let c5_i32_1512 : BitVec 32 := 5#32
  let c32_i32_1513 : BitVec 32 := 32#32
  let v4690 : BitVec 32 := Scalar.muli c5_i32_1512 c32_i32_1513
  v4690
def k0_mult167 : BitVec 32 :=
  let c6_i32_1521 : BitVec 32 := 6#32
  let c32_i32_1522 : BitVec 32 := 32#32
  let v4718 : BitVec 32 := Scalar.muli c6_i32_1521 c32_i32_1522
  v4718
def k0_mult168 : BitVec 32 :=
  let c7_i32_1530 : BitVec 32 := 7#32
  let c32_i32_1531 : BitVec 32 := 32#32
  let v4746 : BitVec 32 := Scalar.muli c7_i32_1530 c32_i32_1531
  v4746
def k0_mult169 : BitVec 32 :=
  let c8_i32_1539 : BitVec 32 := 8#32
  let c32_i32_1540 : BitVec 32 := 32#32
  let v4774 : BitVec 32 := Scalar.muli c8_i32_1539 c32_i32_1540
  v4774
def k0_mult170 : BitVec 32 :=
  let c9_i32_1548 : BitVec 32 := 9#32
  let c32_i32_1549 : BitVec 32 := 32#32
  let v4802 : BitVec 32 := Scalar.muli c9_i32_1548 c32_i32_1549
  v4802
def k0_mult171 : BitVec 32 :=
  let c10_i32_1557 : BitVec 32 := 10#32
  let c32_i32_1558 : BitVec 32 := 32#32
  let v4830 : BitVec 32 := Scalar.muli c10_i32_1557 c32_i32_1558
  v4830
def k0_mult172 : BitVec 32 :=
  let c11_i32_1566 : BitVec 32 := 11#32
  let c32_i32_1567 : BitVec 32 := 32#32
  let v4858 : BitVec 32 := Scalar.muli c11_i32_1566 c32_i32_1567
  v4858
def k0_mult173 : BitVec 32 :=
  let c12_i32_1575 : BitVec 32 := 12#32
  let c32_i32_1576 : BitVec 32 := 32#32
  let v4886 : BitVec 32 := Scalar.muli c12_i32_1575 c32_i32_1576
  v4886
def k0_mult174 : BitVec 32 :=
  let c13_i32_1584 : BitVec 32 := 13#32
  let c32_i32_1585 : BitVec 32 := 32#32
  let v4914 : BitVec 32 := Scalar.muli c13_i32_1584 c32_i32_1585
  v4914
def k0_mult175 : BitVec 32 :=
  let c14_i32_1593 : BitVec 32 := 14#32
  let c32_i32_1594 : BitVec 32 := 32#32
  let v4942 : BitVec 32 := Scalar.muli c14_i32_1593 c32_i32_1594
  v4942
def k0_mult176 : BitVec 32 :=
  let c15_i32_1602 : BitVec 32 := 15#32
  let c32_i32_1603 : BitVec 32 := 32#32
  let v4970 : BitVec 32 := Scalar.muli c15_i32_1602 c32_i32_1603
  v4970
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateRefIdeal.lean ====
abbrev S1x8192x1024 : Shape := ⟨3, ![1, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x5632 : Shape := ⟨2, ![1024, 5632]⟩
abbrev S1x8192x5632 : Shape := ⟨3, ![1, 8192, 5632]⟩
abbrev S1x8192x2816 : Shape := ⟨3, ![1, 8192, 2816]⟩
abbrev S2816x1024 : Shape := ⟨2, ![2816, 1024]⟩
abbrev S8192x5632 : Shape := ⟨2, ![8192, 5632]⟩

abbrev nBuf : Space → Nat
  | .hbm => 58
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x8192x1024, .f32⟩
  | .hbm, ⟨5, _⟩ => ⟨S1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1024, .f32⟩
  | .hbm, ⟨18, _⟩ => ⟨S1x8192x1024, .f32⟩
  | .hbm, ⟨19, _⟩ => ⟨S1x1x1024, .f32⟩
  | .hbm, ⟨20, _⟩ => ⟨S1x8192x1024, .f32⟩
  | .hbm, ⟨21, _⟩ => ⟨S1x8192x1024, .f32⟩
  | .hbm, ⟨22, _⟩ => ⟨S1024x5632, .f32⟩
  | .hbm, ⟨23, _⟩ => ⟨S1x8192x5632, .f32⟩
  | .hbm, ⟨24, _⟩ => ⟨S1x8192x2816, .f32⟩
  | .hbm, ⟨25, _⟩ => ⟨S1x8192x2816, .f32⟩
  | .hbm, ⟨26, _⟩ => ⟨S1x8192x2816, .f32⟩
  | .hbm, ⟨27, _⟩ => ⟨S1x8192x2816, .f32⟩
  | .hbm, ⟨28, _⟩ => ⟨S_, .f32⟩
  | .hbm, ⟨29, _⟩ => ⟨S1x8192x2816, .f32⟩
  | .hbm, ⟨30, _⟩ => ⟨S1x8192x2816, .f32⟩
  | .hbm, ⟨31, _⟩ => ⟨S_, .f32⟩
  | .hbm, ⟨32, _⟩ => ⟨S1x8192x2816, .f32⟩
  | .hbm, ⟨33, _⟩ => ⟨S1x8192x2816, .f32⟩
  | .hbm, ⟨34, _⟩ => ⟨S_, .f32⟩
  | .hbm, ⟨35, _⟩ => ⟨S1x8192x2816, .f32⟩
  | .hbm, ⟨36, _⟩ => ⟨S1x8192x2816, .f32⟩
  | .hbm, ⟨37, _⟩ => ⟨S1x8192x2816, .f32⟩
  | .hbm, ⟨38, _⟩ => ⟨S1x8192x2816, .f32⟩
  | .hbm, ⟨39, _⟩ => ⟨S1x8192x2816, .f32⟩
  | .hbm, ⟨40, _⟩ => ⟨S2816x1024, .f32⟩
  | .hbm, ⟨41, _⟩ => ⟨S1x8192x1024, .f32⟩
  | .hbm, ⟨42, _⟩ => ⟨S_, .f32⟩
  | .hbm, ⟨43, _⟩ => ⟨S1x8192x1024, .f32⟩
  | .hbm, ⟨44, _⟩ => ⟨S1x8192x1024, .f32⟩
  | .hbm, ⟨45, _⟩ => ⟨S_, .f32⟩
  | .hbm, ⟨46, _⟩ => ⟨S1x8192x1024, .f32⟩
  | .hbm, ⟨47, _⟩ => ⟨S1x8192x1024, .f32⟩
  | .hbm, ⟨48, _⟩ => ⟨S1x8192x2816, .f32⟩
  | .hbm, ⟨49, _⟩ => ⟨S1x8192x2816, .f32⟩
  | .hbm, ⟨50, _⟩ => ⟨S1x8192x2816, .f32⟩
  | .hbm, ⟨51, _⟩ => ⟨S1x8192x2816, .f32⟩
  | .hbm, ⟨52, _⟩ => ⟨S1x8192x2816, .f32⟩
  | .hbm, ⟨53, _⟩ => ⟨S1x8192x2816, .f32⟩
  | .hbm, ⟨54, _⟩ => ⟨S1x8192x2816, .f32⟩
  | .hbm, ⟨55, _⟩ => ⟨S1x8192x5632, .f32⟩
  | .hbm, ⟨56, _⟩ => ⟨S1x8192x5632, .bf16⟩
  | .hbm, ⟨57, _⟩ => ⟨S8192x5632, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩

abbrev nD : Nat := 1
abbrev τ : Topo := Topo.v7x

variable {F : FTy → Type} [FloatOps F]
-- ==== Proof.Common.lean ====
/-
  Facts that every value leg of this directory uses.

  * A finiteness precondition read as facts: each array it names holds real numbers only.
  * The constants the programs print, as real numbers.
  * A host sum over several axes whose terms are named by an injective family.
  * The derivative of a root-mean-square normalisation over the reals, in the two forms the programs write it.
-/
module

public import Idealize.ShloMosaic.PureOps.Ideal.Laws
public import Idealize.ShloMosaic.Lib.ReduceAll
public import Idealize.ShloMosaic.Lib.Pipeline.Value
public import Idealize.ShloMosaic.Lib.Pointwise.Index
public import Mathlib.Algebra.BigOperators.Ring.Finset
public import Mathlib.Algebra.BigOperators.Fin
public import Mathlib.Algebra.Order.BigOperators.Group.Finset
public import Mathlib.Tactic.Ring
public import Mathlib.Tactic.Linarith
public import Mathlib.Tactic.NormNum

@[expose] public section

noncomputable section

namespace Cert.Step

open Idealize.ShloMosaic

/-! ## A finiteness precondition -/

/-- The pattern of positive infinity. -/
theorem ofBits_inf : Ideal.ofBits .f32 0x7F800000#32 = ⊤ := by simp [Ideal.ofBits, Ideal.ieee]

/-- An extended real whose absolute value compares below infinity is a real number. -/
theorem real_of_abs_lt (x : EReal) (h : Ideal.cmp .olt (max x (-x)) ⊤ = 1#1) : ∃ r : ℝ, x = (r : EReal) := by
  have h1 : max x (-x) < ⊤ := by
    by_contra hc
    simp [Ideal.cmp, hc] at h
  induction x using EReal.rec with
  | bot => simp at h1
  | top => simp at h1
  | coe r => exact ⟨r, rfl⟩

/-- A conjunction that holds, taken apart. -/
theorem and_split {s : Shape} (a b : IVec s 1) (j : s.Idx) (h : andi a b j = 1#1) : a j = 1#1 ∧ b j = 1#1 := by
  have h' : a j &&& b j = 1#1 := h
  generalize a j = x at h' ⊢
  generalize b j = y at h' ⊢
  revert x y
  decide

/-- An array the precondition names holds real numbers only. -/
theorem real_of_all {s t u : Shape} {axes : List (Fin s.rank)} (x : FVec Ideal s .f32) (y : FVec Ideal s .f32) (init : IVec u 1)
    (h : s.ReducesTo axes t) (hu : 0 < u.numel) [Subsingleton t.Idx] (hy : ∀ i, y i = Ideal.ofBits .f32 0x7F800000#32) (j : t.Idx)
    (e : Host.reduce IntOp.andi (cmpf .olt (Host.absf x) y) init h hu j = 1#1) :
    ∃ X : s.Idx → ℝ, ∀ i, x i = ((X i : ℝ) : EReal) := by
  have h1 := fun i => real_of_abs_lt (x i) (by
    have h2 := Host.reduce_andi_all _ init h hu j e i
    have h3 : cmpf .olt (Host.absf x) y i = Ideal.cmp .olt (max (x i) (-(x i))) (y i) := rfl
    rw [h3, hy, ofBits_inf] at h2
    exact h2)
  choose X hX using h1
  exact ⟨X, hX⟩

/-! ## Constants -/

/-- The number added to a mean square before its root is taken. -/
def eps : ℝ := (Ideal.ofBits .f32 0x358637BD#32).toReal

theorem ofBits_eps : Ideal.ofBits .f32 0x358637BD#32 = ((eps : ℝ) : EReal) := by
  unfold eps
  rw [show Ideal.ofBits .f32 0x358637BD#32 = ((8796093 / 2 ^ 43 : ℝ) : EReal) by
    simp [Ideal.ofBits, Ideal.ieee, -EReal.coe_mul]; norm_num]
  rfl

theorem eps_pos : 0 < eps := by
  unfold eps
  rw [show Ideal.ofBits .f32 0x358637BD#32 = ((8796093 / 2 ^ 43 : ℝ) : EReal) by
    simp [Ideal.ofBits, Ideal.ieee, -EReal.coe_mul]; norm_num]
  rw [EReal.toReal_coe]
  norm_num

theorem ofBits_1024 : Ideal.ofBits .f32 0x44800000#32 = ((1024 : ℝ) : EReal) := by
  simp [Ideal.ofBits, Ideal.ieee, -EReal.coe_mul]; norm_num

/-- Division by a printed 1024. -/
theorem div_1024 (r : ℝ) : Ideal.div ((r : ℝ) : EReal) (Ideal.ofBits .f32 0x44800000#32) = ((r / 1024 : ℝ) : EReal) := by
  rw [ofBits_1024, Ideal.div_coe (by norm_num), ← EReal.coe_mul, mul_one_div]

/-- Division of real numbers. -/
theorem div_real (r : ℝ) {y : ℝ} (hy : y ≠ 0) : Ideal.div ((r : ℝ) : EReal) ((y : ℝ) : EReal) = ((r / y : ℝ) : EReal) := by
  rw [Ideal.div_coe hy, ← EReal.coe_mul, mul_one_div]

theorem ofBits_neg_half : Ideal.ofBits .f32 0xBF000000#32 = ((-(1 / 2) : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-! ## A host sum over several axes -/

/-- A host sum at an output index, its terms named by an injective family whose range is the reduced indices. -/
theorem hostReduceAdd_of_family {s t : Shape} {axes : List (Fin s.rank)} (h : s.ReducesTo axes t) (x : s.Idx → EReal) (init : EReal)
    (j : t.Idx) {K : Type} [Fintype K] (e : K → s.Idx) (he : Function.Injective e) (hj : ∀ k, h.drop (e k) = j)
    (hs : ∀ i, h.drop i = j → ∃ k, e k = i) : Ideal.hostReduceAdd h x init j = init + ∑ k : K, x (e k) := by
  classical
  unfold Ideal.hostReduceAdd
  congr 1
  symm
  refine Finset.sum_bij (fun k _ => e k) ?_ ?_ ?_ ?_
  · intro k _
    simp [hj k]
  · intro a _ b _ hab
    exact he hab
  · intro i hi
    obtain ⟨k, hk⟩ := hs i (by simpa using hi)
    exact ⟨k, Finset.mem_univ _, hk⟩
  · intros
    rfl

/-- The same where one index alone is reduced into the output index. -/
theorem hostReduceAdd_of_unique {s t : Shape} {axes : List (Fin s.rank)} (h : s.ReducesTo axes t) (x : s.Idx → EReal) (init : EReal)
    (j : t.Idx) (e : s.Idx) (hj : h.drop e = j) (hs : ∀ i, h.drop i = j → e = i) :
    Ideal.hostReduceAdd h x init j = init + x e := by
  rw [hostReduceAdd_of_family h x init j (K := Unit) (fun _ => e) (fun _ _ _ => rfl) (fun _ => hj) (fun i hi => ⟨(), hs i hi⟩)]
  simp

/-! ## Sums -/

/-- A finite sum of real numbers, taken among the extended reals. -/
theorem coe_sum {K : Type} [Fintype K] (f : K → ℝ) : ∑ k : K, ((f k : ℝ) : EReal) = ((∑ k : K, f k : ℝ) : EReal) := by
  classical
  induction (Finset.univ : Finset K) using Finset.induction_on with
  | empty => simp
  | insert a s ha ih => rw [Finset.sum_insert ha, Finset.sum_insert ha, ih, EReal.coe_add]

/-- A sum over the first `(q + 1) * n` numbers: the first `q * n`, then a stretch of `n`. -/
theorem sum_range_stretch (f : ℕ → ℝ) (q n : ℕ) :
    ∑ k ∈ Finset.range ((q + 1) * n), f k = ∑ k ∈ Finset.range (q * n), f k + ∑ k : Fin n, f (q * n + k.val) := by
  rw [Nat.succ_mul, Finset.sum_range_add, Finset.sum_range (n := n)]

/-! ## The derivative of a root-mean-square normalisation -/

variable {K : Type} [Fintype K]

/-- The mean square of a row of 1024 numbers, kept above zero. -/
def meanSq (x : K → ℝ) : ℝ := (∑ k, x k * x k) / 1024 + eps

theorem meanSq_pos (x : K → ℝ) : 0 < meanSq x :=
  add_pos_of_nonneg_of_pos (div_nonneg (Finset.sum_nonneg fun k _ => mul_self_nonneg _) (by norm_num)) eps_pos

/-- The reciprocal of its root. -/
def invRms (x : K → ℝ) : ℝ := (Real.sqrt (meanSq x))⁻¹

theorem rsqrt_meanSq (x : K → ℝ) : Ideal.rsqrt ((meanSq x : ℝ) : EReal) = ((invRms x : ℝ) : EReal) := by
  rw [Ideal.rsqrt_coe, if_neg (not_lt.mpr (meanSq_pos x).le), if_neg (meanSq_pos x).ne']
  rfl

theorem invRms_sq (x : K → ℝ) : invRms x * invRms x = 1 / meanSq x := by
  unfold invRms
  rw [← mul_inv, Real.mul_self_sqrt (meanSq_pos x).le, one_div]

/-- The derivative with the normalised row factored out. -/
def normGrad (x a : K → ℝ) (k : K) : ℝ :=
  invRms x * (a k - x k * invRms x * ((∑ j, a j * (x j * invRms x)) / 1024))

/-- The derivative as the rules for a product, a root and a square give it. -/
theorem normGrad_eq (x a : K → ℝ) (k : K) :
    a k * invRms x + x k * (((∑ j, x j * a j) * (-(1 / 2) * (invRms x / meanSq x))) / 1024)
      + (((∑ j, x j * a j) * (-(1 / 2) * (invRms x / meanSq x))) / 1024) * x k = normGrad x a k := by
  unfold normGrad
  have h1 : ∑ j, a j * (x j * invRms x) = (∑ j, x j * a j) * invRms x := by
    rw [Finset.sum_mul]
    exact Finset.sum_congr rfl fun j _ => by ring
  have h2 : invRms x / meanSq x = invRms x * (invRms x * invRms x) := by
    rw [invRms_sq]
    ring
  rw [h1, h2]
  ring

/-! ## Arrays of real numbers as functions of their coordinates -/

/-- An array of numbers as a function of whatever names its indices apart. -/
theorem exists_of_injective {ι κ : Type} (x : ι → EReal) (hx : ∃ X : ι → ℝ, ∀ i, x i = ((X i : ℝ) : EReal)) (g : ι → κ)
    (hg : Function.Injective g) : ∃ H : κ → ℝ, ∀ i, x i = ((H (g i) : ℝ) : EReal) := by
  obtain ⟨X, hX⟩ := hx
  exact ⟨Function.extend g X 0, fun i => by rw [hg.extend_apply, hX]⟩

/-- A [1, b] array by its second coordinate. -/
theorem exists_row {b : ℕ} (x : (⟨2, ![1, b]⟩ : Shape).Idx → EReal)
    (hx : ∃ X : (⟨2, ![1, b]⟩ : Shape).Idx → ℝ, ∀ i, x i = ((X i : ℝ) : EReal)) :
    ∃ H : ℕ → ℝ, ∀ i : (⟨2, ![1, b]⟩ : Shape).Idx, x i = ((H (i 1).val : ℝ) : EReal) := by
  refine exists_of_injective x hx (fun i => (i 1).val) fun i i' h => ?_
  funext a
  apply Fin.ext
  match a with
  | ⟨0, _⟩ => exact (Nat.lt_one_iff.mp (i 0).isLt).trans (Nat.lt_one_iff.mp (i' 0).isLt).symm
  | ⟨1, _⟩ => exact h

/-- A [1, b, c] array by its last two coordinates. -/
theorem exists_slab {b c : ℕ} (x : (⟨3, ![1, b, c]⟩ : Shape).Idx → EReal)
    (hx : ∃ X : (⟨3, ![1, b, c]⟩ : Shape).Idx → ℝ, ∀ i, x i = ((X i : ℝ) : EReal)) :
    ∃ H : ℕ → ℕ → ℝ, ∀ i : (⟨3, ![1, b, c]⟩ : Shape).Idx, x i = ((H (i 1).val (i 2).val : ℝ) : EReal) := by
  obtain ⟨H, hH⟩ := exists_of_injective x hx (fun i => ((i 1).val, (i 2).val)) fun i i' h => by
    funext a
    apply Fin.ext
    match a with
    | ⟨0, _⟩ => exact (Nat.lt_one_iff.mp (i 0).isLt).trans (Nat.lt_one_iff.mp (i' 0).isLt).symm
    | ⟨1, _⟩ => exact congrArg Prod.fst h
    | ⟨2, _⟩ => exact congrArg Prod.snd h
  exact ⟨fun p q => H (p, q), hH⟩

/-- A [1, b, c] array seen as [b, c]. -/
theorem slab_apply {α : Type} {b c : ℕ} (x : (⟨3, ![1, b, c]⟩ : Shape).Idx → α)
    (h : (⟨3, ![1, b, c]⟩ : Shape).ShapeCasts ⟨2, ![b, c]⟩) (p : Fin b) (k : Fin c) :
    shapeCast ⟨2, ![b, c]⟩ x h (ix2 p k) = x (ix3 0 p k) := by
  refine shapeCast_apply x h (ix2 p k) (ix3 0 p k) ?_
  rw [Shape.rowMajor_val_three, Shape.rowMajor_val_two]
  show (0 * b + p.val) * c + k.val = p.val * c + k.val
  rw [Nat.zero_mul, Nat.zero_add]

end Cert.Step

end
-- ==== Proof.NormRef.lean ====
/-
  THE REFERENCE OF THE FIRST PAIR, read over the real numbers: the derivative of `rms_norm` followed by the product
  with `w_up`. Its two results at an index are closed terms of the arguments' entries: the derivative by the input
  (`dx_apply`) and by the gain (`dg_apply`).
-/
module

public import proofs.«01_k».proof.Proof.Common
public import proofs.«01_k».proof.Proof.Gen.NormRefIdeal.Read

@[expose] public section

set_option maxRecDepth 16384
set_option backward.isDefEq.respectTransparency false

noncomputable section

namespace Cert.NormRefIdeal.Real

open Cert.NormRefIdeal Cert.NormRefIdeal.Gen Cert.NormRefIdeal.Read Cert.Step Idealize.ShloMosaic

/-- The cotangent of the normalised row `r`: the given cotangent times the transposed weights. -/
def dn (A W : ℕ → ℕ → ℝ) (r c : ℕ) : ℝ := ∑ k : Fin 5632, A r k.val * W c k.val

/-- A row of the input. -/
abbrev row (H : ℕ → ℕ → ℝ) (r : ℕ) : Fin 1024 → ℝ := fun k => H r k.val

/-- The cotangent of the row before its gain. -/
abbrev dnG (A W : ℕ → ℕ → ℝ) (G : ℕ → ℝ) (r : ℕ) : Fin 1024 → ℝ := fun k => dn A W r k.val * G k.val

variable (H W A : ℕ → ℕ → ℝ) (G : ℕ → ℝ)
variable (x0 : (⟨S1x8192x1024, .f32⟩ : BufTy).Contents (Elt Ideal)) (x1 : (⟨S1x1024, .f32⟩ : BufTy).Contents (Elt Ideal))
variable (x2 : (⟨S1x1024x5632, .f32⟩ : BufTy).Contents (Elt Ideal)) (x3 : (⟨S1x8192x5632, .f32⟩ : BufTy).Contents (Elt Ideal))
variable (x4 : (⟨S1x8192x1024, .f32⟩ : BufTy).Contents (Elt Ideal))
variable (h0 : ∀ i : S1x8192x1024.Idx, x0 i = ((H (i 1).val (i 2).val : ℝ) : EReal))
variable (h1 : ∀ i : S1x1024.Idx, x1 i = ((G (i 1).val : ℝ) : EReal))
variable (h2 : ∀ i : S1x1024x5632.Idx, x2 i = ((W (i 1).val (i 2).val : ℝ) : EReal))
variable (h3 : ∀ i : S1x8192x5632.Idx, x3 i = ((A (i 1).val (i 2).val : ℝ) : EReal))

include h0 in
theorem v7 (i : S1x8192x1.Idx) : val_main_v7 (F := Ideal) x0 i = ((meanSq (row H (i 1).val) : ℝ) : EReal) := by
  have e2 : val_main_v2 (F := Ideal) x0 (idx_main_v3 i) = ((∑ k : Fin 1024, H (i 1).val k.val * H (i 1).val k.val : ℝ) : EReal) := by
    rw [val_main_v2_apply, val_main_cst_apply, Ideal.ofBits_def, Ideal.ofBits_zero_f32, zero_add, ← coe_sum]
    refine Finset.sum_congr rfl fun k _ => ?_
    rw [val_main_v1_apply, h0, Ideal.mulf_def, ← EReal.coe_mul]
  rw [val_main_v7_apply, val_main_v5_apply, val_main_v6_apply, val_main_cst_1_apply, val_main_v4_apply, val_main_cst_0_apply,
    val_main_v3_apply, e2, Ideal.hostDivf_def, Ideal.ofBits_def, Ideal.ofBits_def, div_1024, ofBits_eps, Ideal.addf_def, ← EReal.coe_add]
  rfl

include h0 in
theorem v8 (i : S1x8192x1.Idx) : val_main_v8 (F := Ideal) x0 i = ((invRms (row H (i 1).val) : ℝ) : EReal) := by
  rw [val_main_v8_apply, v7 H x0 h0, Ideal.hostUnary_rsqrt_def, rsqrt_meanSq]

include h0 in
theorem v11 (i : S1x8192x1.Idx) : val_main_v11 (F := Ideal) x0 i
    = ((-(1 / 2) * (invRms (row H (i 1).val) / meanSq (row H (i 1).val)) : ℝ) : EReal) := by
  rw [val_main_v11_apply, val_main_v10_apply, val_main_cst_2_apply, val_main_v9_apply, v7 H x0 h0, v8 H x0 h0, Ideal.hostDivf_def,
    div_real _ (meanSq_pos _).ne', Ideal.ofBits_def, ofBits_neg_half, Ideal.mulf_def, ← EReal.coe_mul]

include h2 in
theorem v17 (i : S1024x5632.Idx) : val_main_v17 (F := Ideal) x2 i = ((W (i 0).val (i 1).val : ℝ) : EReal) := by
  rw [val_main_v17_apply, h2]
  have a0 : (i 0).val < 1024 := (i 0).isLt
  have a1 : (i 1).val < 5632 := (i 1).isLt
  show ((W (((i 0).val * 5632 + (i 1).val) / 5632 % 1024) (((i 0).val * 5632 + (i 1).val) % 5632) : ℝ) : EReal) = _
  rw [show ((i 0).val * 5632 + (i 1).val) / 5632 % 1024 = (i 0).val by omega,
    show ((i 0).val * 5632 + (i 1).val) % 5632 = (i 1).val by omega]

include h2 h3 in
theorem v19 (i : S1x8192x1024.Idx) : val_main_v19 (F := Ideal) x2 x3 i = ((dn A W (i 1).val (i 2).val : ℝ) : EReal) := by
  rw [val_main_v19_apply]
  unfold dn
  rw [← coe_sum]
  refine Finset.sum_congr rfl fun k _ => ?_
  rw [h3, v17 W x2 h2, ← EReal.coe_mul]

include h0 h2 h3 in
theorem v20 (i : S1x8192x1024.Idx) : val_main_v20 (F := Ideal) x0 x2 x3 i
    = ((H (i 1).val (i 2).val * invRms (row H (i 1).val) * dn A W (i 1).val (i 2).val : ℝ) : EReal) := by
  rw [val_main_v20_apply, v19 W A x2 x3 h2 h3, val_main_v13_apply, h0, val_main_v12_apply, v8 H x0 h0]
  simp only [Ideal.mulf_def, EReal.coe_mul]

include h1 in
theorem v23 (i : S1x8192x1024.Idx) : val_main_v23 (F := Ideal) x1 i = ((G (i 2).val : ℝ) : EReal) := by
  rw [val_main_v23_apply, val_main_v14_apply, val_main_v0_apply, h1]
  have a2 : (i 2).val < 1024 := (i 2).isLt
  show ((G ((i 2).val % 1024) : ℝ) : EReal) = _
  rw [Nat.mod_eq_of_lt a2]

include h1 h2 h3 in
theorem v24 (i : S1x8192x1024.Idx) : val_main_v24 (F := Ideal) x1 x2 x3 i
    = ((dn A W (i 1).val (i 2).val * G (i 2).val : ℝ) : EReal) := by
  rw [val_main_v24_apply, v19 W A x2 x3 h2 h3, v23 G x1 h1, Ideal.mulf_def, ← EReal.coe_mul]

/-- The row's share of the derivative through the mean square, spread evenly. -/
def spread (r : ℕ) : ℝ :=
  ((∑ j, row H r j * dnG A W G r j) * (-(1 / 2) * (invRms (row H r) / meanSq (row H r)))) / 1024

include h0 h1 h2 h3 in
theorem v34 (i : S1x8192x1.Idx) : val_main_v34 (F := Ideal) x0 x1 x2 x3 i = ((spread H W A G (i 1).val : ℝ) : EReal) := by
  have e27 : ∀ j : S1x8192.Idx, val_main_v27 (F := Ideal) x0 x1 x2 x3 j
      = ((∑ k : Fin 1024, row H (j 1).val k * dnG A W G (j 1).val k : ℝ) : EReal) := fun j => by
    rw [val_main_v27_apply, val_main_cst_5_apply, Ideal.ofBits_def, Ideal.ofBits_zero_f32, zero_add, ← coe_sum]
    refine Finset.sum_congr rfl fun k _ => ?_
    rw [val_main_v26_apply, h0, v24 W A G x1 x2 x3 h1 h2 h3, Ideal.mulf_def, ← EReal.coe_mul]
  have a1 : (i 1).val < 8192 := (i 1).isLt
  rw [val_main_v34_apply, val_main_v33_apply, val_main_cst_6_apply, val_main_v32_apply, v11 H x0 h0, val_main_v28_apply, e27,
    Ideal.mulf_def, ← EReal.coe_mul, Ideal.hostDivf_def, Ideal.ofBits_def, div_1024]
  have e1 : (idx_main_v28 i 1).val = (i 1).val := by
    have a0 : (i 0).val < 1 := (i 0).isLt
    have a2 : (i 2).val < 1 := (i 2).isLt
    show (((i 0).val * 8192 + (i 1).val) * 1 + (i 2).val) % 8192 = (i 1).val
    omega
  rw [e1]
  rfl

include h0 h1 h2 h3 in
theorem v35 (i : S8192.Idx) : val_main_v35 (F := Ideal) x0 x1 x2 x3 i = ((spread H W A G (i 0).val : ℝ) : EReal) := by
  unfold val_main_v35
  show Ideal.hostReduceAdd _ _ (val_main_cst_7 (F := Ideal) _) i = _
  refine (hostReduceAdd_of_unique _ _ _ i (ix3 0 (i 0) 0) ?_ fun q hq => ?_).trans ?_
  · funext b
    match b with
    | ⟨0, _⟩ => rfl
  · have e1 : q 1 = i 0 := congrFun hq 0
    have b0 : (q 0).val < 1 := (q 0).isLt
    have b2 : (q 2).val < 1 := (q 2).isLt
    funext a
    match a with
    | ⟨0, _⟩ => exact Fin.ext (by show 0 = (q 0).val; omega)
    | ⟨1, _⟩ => exact e1.symm
    | ⟨2, _⟩ => exact Fin.ext (by show 0 = (q 2).val; omega)
  · rw [val_main_cst_7_apply, Ideal.ofBits_def, Ideal.ofBits_zero_f32, zero_add]
    exact v34 H W A G x0 x1 x2 x3 h0 h1 h2 h3 _

include h0 h1 h2 h3 in
theorem v37 (i : S1x8192x1024.Idx) : val_main_v37 (F := Ideal) x0 x1 x2 x3 i = ((spread H W A G (i 1).val : ℝ) : EReal) := by
  rw [val_main_v37_apply, val_main_v36_apply, v35 H W A G x0 x1 x2 x3 h0 h1 h2 h3]

include h0 h1 h2 h3 in
/-- The derivative by the input at row `r`, column `c`. -/
theorem dx_apply (i : S8192x1024.Idx) : val_main_v43 (F := Ideal) x0 x1 x2 x3 x4 i
    = x4 (ix3 0 (i 0) (i 1)) + ((normGrad (row H (i 0).val) (dnG A W G (i 0).val) (i 1) : ℝ) : EReal) := by
  have a0 : (i 0).val < 8192 := (i 0).isLt
  have a1 : (i 1).val < 1024 := (i 1).isLt
  have e : idx_main_v43 i = ix3 0 (i 0) (i 1) := by
    funext a
    match a with
    | ⟨0, _⟩ => rfl
    | ⟨1, _⟩ => exact Fin.ext (by show ((i 0).val * 1024 + (i 1).val) / 1024 % 8192 = (i 0).val; omega)
    | ⟨2, _⟩ => exact Fin.ext (by show ((i 0).val * 1024 + (i 1).val) % 1024 = (i 1).val; omega)
  rw [val_main_v43_apply, e, val_main_v41_apply, val_main_v39_apply, val_main_v40_apply, val_main_v38_apply, val_main_v31_apply,
    val_main_v30_apply, val_main_v29_apply, v37 H W A G x0 x1 x2 x3 h0 h1 h2 h3, v24 W A G x1 x2 x3 h1 h2 h3, v8 H x0 h0, h0]
  simp only [Ideal.mulf_def, Ideal.addf_def, ← EReal.coe_mul]
  rw [add_assoc, add_assoc, ← EReal.coe_add, ← EReal.coe_add, ← normGrad_eq, ← add_assoc]
  rfl

include h0 h2 h3 in
/-- The derivative by the gain at column `c`. -/
theorem dg_apply (i : S1x1024.Idx) : val_main_v42 (F := Ideal) x0 x2 x3 i
    = ((∑ r : Fin 8192, H r.val (i 1).val * invRms (row H r.val) * dn A W r.val (i 1).val : ℝ) : EReal) := by
  have a1 : (i 1).val < 1024 := (i 1).isLt
  rw [val_main_v42_apply]
  unfold val_main_v25
  show Ideal.hostReduceAdd _ _ (val_main_cst_4 (F := Ideal) _) _ = _
  refine (hostReduceAdd_of_unique _ _ _ _ (ix3 0 0 (i 1)) ?_ fun q hq => ?_).trans ?_
  · funext b
    match b with
    | ⟨0, _⟩ => rfl
  · have e1 : q 2 = i 1 := congrFun hq 0
    have b0 : (q 0).val < 1 := (q 0).isLt
    have b1 : (q 1).val < 1 := (q 1).isLt
    funext a
    match a with
    | ⟨0, _⟩ => exact Fin.ext (by show 0 = (q 0).val; omega)
    | ⟨1, _⟩ => exact Fin.ext (by show 0 = (q 1).val; omega)
    | ⟨2, _⟩ => exact e1.symm
  · rw [val_main_cst_4_apply, Ideal.ofBits_def, Ideal.ofBits_zero_f32, zero_add, val_main_v22_apply, val_main_v21_apply,
      val_main_cst_3_apply, Ideal.ofBits_def, Ideal.ofBits_zero_f32, zero_add, ← coe_sum]
    refine Finset.sum_congr rfl fun k _ => ?_
    rw [v20 H W A x0 x2 x3 h0 h2 h3]
    have e1 : (idx_main_v21 (idx_main_v22 (ix3 0 0 (i 1))) k 2).val = (i 1).val := by
      show ((0 * 1 + 0) * 1024 + (i 1).val) % 1024 = (i 1).val
      omega
    rw [e1]

end Cert.NormRefIdeal.Real

end
-- ==== Proof.NormPay.lean ====
/-
  THE KERNEL OF THE FIRST PAIR, one block of 512 rows: the values its body stores, read over the real numbers.
-/
module

public import proofs.«01_k».proof.Proof.Common
public import proofs.«01_k».proof.Proof.NormRef
public import proofs.«01_k».proof.Proof.Gen.NormBwdIdeal.Skeleton
public import Idealize.ShloMosaic.Lib.Pointwise

@[expose] public section

set_option maxRecDepth 16384
set_option backward.isDefEq.respectTransparency false

noncomputable section

namespace Cert.NormBwdIdeal.Real

open Cert.NormBwdIdeal Cert.NormBwdIdeal.Gen Cert.Step Idealize.ShloMosaic Idealize.ShloMosaic.Pointwise
open Cert.NormRefIdeal.Real (dn row dnG)

variable (H W A : ℕ → ℕ → ℝ) (G : ℕ → ℝ) (q : ℕ)
variable (v0 : Vec Ideal S512x5632 .bf16) (v2 : Vec Ideal S5632x1024 .bf16) (v5 v33 : Vec Ideal S512x1024 .f32) (v17 : Vec Ideal S1x1024 .f32)
variable (h0 : ∀ (r : Fin 512) (k : Fin 5632), v0 (ix2 r k) = ((A (q + r.val) k.val : ℝ) : EReal))
variable (h2 : ∀ (k : Fin 5632) (c : Fin 1024), v2 (ix2 k c) = ((W c.val k.val : ℝ) : EReal))
variable (h5 : ∀ (r : Fin 512) (k : Fin 1024), v5 (ix2 r k) = ((H (q + r.val) k.val : ℝ) : EReal))
variable (h17 : ∀ (c : Fin 1024), v17 (ix2 0 c) = ((G c.val : ℝ) : EReal))

include h0 h2 in
theorem pay3 (r : Fin 512) (c : Fin 1024) : k0_pay3 (F := Ideal) v0 v2 (ix2 r c) = ((dn A W (q + r.val) c.val : ℝ) : EReal) := by
  pointwise [k0_pay3]
  simp only [h0, h2, ← EReal.coe_mul, coe_sum]
  rfl

include h5 in
theorem pay5 (r : Fin 512) : k0_pay5 (F := Ideal) v5 (ix2 r 0) = ((invRms (row H (q + r.val)) : ℝ) : EReal) := by
  pointwise [k0_pay5, k0_pay4]
  simp only [h5, ← EReal.coe_mul, coe_sum, div_1024, ofBits_eps, ← EReal.coe_add]
  exact rsqrt_meanSq _

include h5 in
theorem pay6 (r : Fin 512) (c : Fin 1024) : k0_pay6 (F := Ideal) v5 (ix2 r c)
    = ((H (q + r.val) c.val * invRms (row H (q + r.val)) : ℝ) : EReal) := by
  pointwise [k0_pay6, k0_pay4]
  rw [h5, pay5 H q v5 h5, ← EReal.coe_mul]

include h0 h2 h5 in
theorem pay7 (c : Fin 1024) : k0_pay7 (F := Ideal) v0 v2 v5 (ix2 0 c)
    = ((∑ r : Fin 512, dn A W (q + r.val) c.val * (H (q + r.val) c.val * invRms (row H (q + r.val))) : ℝ) : EReal) := by
  pointwise [k0_pay7]
  simp only [pay3 W A q v0 v2 h0 h2, pay6 H q v5 h5, ← EReal.coe_mul, coe_sum]

include h0 h2 h5 h17 in
theorem pay8 (r : Fin 512) (c : Fin 1024) : k0_pay8 (F := Ideal) v0 v2 v5 v17 v33 (ix2 r c)
    = v33 (ix2 r c) + ((normGrad (row H (q + r.val)) (dnG A W G (q + r.val)) c : ℝ) : EReal) := by
  pointwise [k0_pay8]
  simp only [pay3 W A q v0 v2 h0 h2, pay6 H q v5 h5, pay5 H q v5 h5, h17, ← EReal.coe_mul, coe_sum, div_1024, ← EReal.coe_sub]
  rfl

end Cert.NormBwdIdeal.Real

end
-- ==== Proof.NormVal.lean ====
/-
  THE KERNEL OF THE FIRST PAIR, what its run leaves: what each grid point writes into its two outputs, as the
  payloads over the point's blocks.
-/
module

public import proofs.«01_k».proof.Proof.NormPay
public import proofs.«01_k».proof.Proof.Gen.NormBwdIdeal.Value
public import Idealize.ShloMosaic.Lib.Pipeline.Value
public import Idealize.ShloMosaic.Lib.Tactic

@[expose] public section

set_option maxRecDepth 16384

noncomputable section

namespace Cert.NormBwdIdeal.Real

open Cert.NormBwdIdeal Cert.NormBwdIdeal.Gen Cert.Step Idealize.ShloMosaic Idealize.ShloMosaic.TcCoe Idealize.SL.Sem

variable {F : FTy → Type} [FloatOps F]

theorem hz : (![0, 0] : Fin 2 → Nat) = fun _ => 0 := funext fun a => by fin_cases a <;> rfl

variable (c : Dev nD) (i : grid0.Coords)
variable (a1 : Memref sig .tc .vmem S512x5632 .bf16) (h1 : a1.IsWhole) (a2 : Memref sig .tc .vmem S512x1024 .f32) (h2 : a2.IsWhole)
variable (a3 : Memref sig .tc .vmem S512x1024 .f32) (h3 : a3.IsWhole) (a4 : Memref sig .tc .vmem S1x1024 .f32) (h4 : a4.IsWhole)
variable (a5 : Memref sig .tc .vmem S5632x1024 .bf16) (h5 : a5.IsWhole) (a6 : Memref sig .tc .vmem S512x1024 .f32) (h6 : a6.IsWhole)
variable (a7 : Memref sig .tc .vmem S1x1024 .f32) (h7 : a7.IsWhole)
variable (x0 : Vec F S512x5632 .bf16) (x1 x2 : Vec F S512x1024 .f32) (x3 : Vec F S1x1024 .f32) (x4 : Vec F S5632x1024 .bf16)
variable (xo : Vec F S1x1024 .f32)

/-- The rows' derivative at the first point. -/
theorem out_A_5 (hc : cond0_0 i) : out0_A_5 c i a1 h1 a2 h2 a3 h3 a4 h4 a5 h5 a6 h6 a7 h7 hc x0 x1 x2 x3 x4 = k0_pay8 x0 x4 x2 x3 x1 := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz]
  simp only [View.readAt_eq_ld, h1.read_unread, h2.read_unread, h3.read_unread, h4.read_unread, h5.read_unread,
    View.ld_unit_zero (S := S512x5632) hz, View.ld_unit_zero (S := S512x1024) hz, View.ld_unit_zero (S := S1x1024) hz,
    View.ld_unit_zero (S := S5632x1024) hz]

/-- … and at every later one. -/
theorem out_B_5 (hc : ¬cond0_0 i) : out0_B_5 c i a1 h1 a2 h2 a3 h3 a4 h4 a5 h5 a6 h6 a7 h7 hc x0 x1 x2 x3 x4 xo = k0_pay8 x0 x4 x2 x3 x1 := by
  unfold out0_B_5
  rw [View.read_writes_eq_canon _ _ _ (cover0_B_5 c i a1 h1 a2 h2 a3 h3 a4 h4 a5 h5 a6 h6 a7 h7 hc x0 x1 x2 x3 x4 xo)]
  unfold kernelRun0_B
  dsimp only
  sl_unfold_words
  rw [View.canon_unit_zero hz]
  simp only [View.readAt_eq_ld, h1.read_unread, h2.read_unread, h3.read_unread, h4.read_unread, h5.read_unread,
    View.ld_unit_zero (S := S512x5632) hz, View.ld_unit_zero (S := S512x1024) hz, View.ld_unit_zero (S := S1x1024) hz,
    View.ld_unit_zero (S := S5632x1024) hz]

/-- The gain's derivative at the first point: started from zero. -/
theorem out_A_6 (hc : cond0_0 i) : out0_A_6 c i a1 h1 a2 h2 a3 h3 a4 h4 a5 h5 a6 h6 a7 h7 hc x0 x1 x2 x3 x4
    = k0_pay2 (k0_pay7 x0 x4 x2) k0_pay1 := by
  unfold out0_A_6
  rw [View.read_writes_eq_canon _ _ _ (cover0_A_6 c i a1 h1 a2 h2 a3 h3 a4 h4 a5 h5 a6 h6 a7 h7 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread,
    View.ld_unit_zero (S := S512x5632) hz, View.ld_unit_zero (S := S512x1024) hz, View.ld_unit_zero (S := S1x1024) hz,
    View.ld_unit_zero (S := S5632x1024) hz]

/-- … and at every later one: added to what is there. -/
theorem out_B_6 (hc : ¬cond0_0 i) : out0_B_6 c i a1 h1 a2 h2 a3 h3 a4 h4 a5 h5 a6 h6 a7 h7 hc x0 x1 x2 x3 x4 xo
    = k0_pay2 (k0_pay7 x0 x4 x2) xo := by
  unfold out0_B_6
  rw [View.read_writes_eq_canon _ _ _ (cover0_B_6 c i a1 h1 a2 h2 a3 h3 a4 h4 a5 h5 a6 h6 a7 h7 hc x0 x1 x2 x3 x4 xo)]
  unfold kernelRun0_B
  dsimp only
  sl_unfold_words
  rw [View.canon_unit_zero hz]
  simp only [View.readAt_eq_ld, h1.read_unread, h2.read_unread, h3.read_unread, h4.read_unread, h5.read_unread, h7.read_unread,
    View.ld_unit_zero (S := S512x5632) hz, View.ld_unit_zero (S := S512x1024) hz, View.ld_unit_zero (S := S1x1024) hz,
    View.ld_unit_zero (S := S5632x1024) hz]

/-- What a grid point leaves in the rows' derivative block. -/
theorem after5 (m : (ℓ : Loc nD τ sig) → Buf (Elt F) ℓ) (t : Fin cfg0.N) :
    (outsAt0 m c t.val t.isLt).1 = k0_pay8 (iblk m c 0 t) (iblk m c 4 t) (iblk m c 2 t) (iblk m c 3 t) (iblk m c 1 t) := by
  by_cases h0 : t.val % 16 = 0
  · rw [outsAt0_A m c t h0]; dsimp only; rw [out_A_5]
  · rw [outsAt0_B m c t h0]; dsimp only; rw [out_B_5]

end Cert.NormBwdIdeal.Real

end
-- ==== Proof.NormBlk.lean ====
/-
  THE KERNEL OF THE FIRST PAIR, its blocks: what each input window reads at a grid point, over the arguments' entries.
-/
module

public import proofs.«01_k».proof.Proof.NormVal

@[expose] public section

set_option maxRecDepth 16384
set_option backward.isDefEq.respectTransparency false

noncomputable section

namespace Cert.NormBwdIdeal.Real

open Cert.NormBwdIdeal Cert.NormBwdIdeal.Gen Cert.Step Idealize.ShloMosaic Idealize.ShloMosaic.TcCoe Idealize.SL.Sem
open Idealize.ShloMosaic.Pointwise Idealize.ShloMosaic.StableHlo

variable (m : (ℓ : Loc nD τ sig) → Buf (Elt Ideal) ℓ) (c : Dev nD)

theorem V_v1 : V m c main_v1 = truncf (F := Ideal) .bf16 (shapeCast S8192x5632 (m ((c : Thread nD τ).loc main_arg3)) shapeCasts_S1x8192x5632_S8192x5632) bitsLt_bf16_f32 := by
  show StableHlo.after hostOps0 _ _ = _
  after_results
  rfl

theorem V_v2 : V m c main_v2 = shapeCast S8192x1024 (m ((c : Thread nD τ).loc main_arg4)) shapeCasts_S1x8192x1024_S8192x1024 := by
  show StableHlo.after hostOps0 _ _ = _
  after_results
  rfl

theorem V_v3 : V m c main_v3 = shapeCast S8192x1024 (m ((c : Thread nD τ).loc main_arg0)) shapeCasts_S1x8192x1024_S8192x1024 := by
  show StableHlo.after hostOps0 _ _ = _
  after_results
  rfl

theorem V_v6 : V m c main_v6 = truncf (F := Ideal) .bf16 (transpose S5632x1024 [1, 0] (shapeCast S1024x5632 (m ((c : Thread nD τ).loc main_arg2)) shapeCasts_S1x1024x5632_S1024x5632) transposes_S1024x5632_S5632x1024_1_0) bitsLt_bf16_f32 := by
  show StableHlo.after hostOps0 _ _ = _
  after_results
  rfl

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel

variable (t : Fin cfg0.N)

theorem N16 : t.val < 16 := by have h : cfg0.N = 16 := N_0; have := t.isLt; omega

theorem blk0 (r : Fin 512) (k : Fin 5632) : (iblk m c 0 t : Vec Ideal S512x5632 .bf16) (ix2 r k)
    = m ((c : Thread nD τ).loc main_arg3) (ix3 0 ⟨t.val * 512 + r.val, by have := N16 t; omega⟩ k) := by
  have hN := N16 t
  unfold iblk
  rw [View.read_apply]
  show V m c main_v1 _ = _
  rw [V_v1]
  refine (congrArg _ (show _ = ix2 (⟨t.val * 512 + r.val, by omega⟩ : Fin 8192) k from ?_)).trans (slab_apply _ _ _ _)
  funext a
  apply Fin.ext
  match a with
  | ⟨0, _⟩ => show win0_0.index t 0 * 512 + 1 * r.val = t.val * 512 + r.val; rw [(idx0 t).1]; omega
  | ⟨1, _⟩ => show win0_0.index t 1 * 5632 + 1 * k.val = k.val; rw [(idx0 t).2]; omega

theorem blk1 (r : Fin 512) (k : Fin 1024) : (iblk m c 1 t : Vec Ideal S512x1024 .f32) (ix2 r k)
    = m ((c : Thread nD τ).loc main_arg4) (ix3 0 ⟨t.val * 512 + r.val, by have := N16 t; omega⟩ k) := by
  have hN := N16 t
  unfold iblk
  rw [View.read_apply]
  show V m c main_v2 _ = _
  rw [V_v2]
  refine (congrArg _ (show _ = ix2 (⟨t.val * 512 + r.val, by omega⟩ : Fin 8192) k from ?_)).trans (slab_apply _ _ _ _)
  funext a
  apply Fin.ext
  match a with
  | ⟨0, _⟩ => show win0_1.index t 0 * 512 + 1 * r.val = t.val * 512 + r.val; rw [(idx1 t).1]; omega
  | ⟨1, _⟩ => show win0_1.index t 1 * 1024 + 1 * k.val = k.val; rw [(idx1 t).2]; omega

theorem blk2 (r : Fin 512) (k : Fin 1024) : (iblk m c 2 t : Vec Ideal S512x1024 .f32) (ix2 r k)
    = m ((c : Thread nD τ).loc main_arg0) (ix3 0 ⟨t.val * 512 + r.val, by have := N16 t; omega⟩ k) := by
  have hN := N16 t
  unfold iblk
  rw [View.read_apply]
  show V m c main_v3 _ = _
  rw [V_v3]
  refine (congrArg _ (show _ = ix2 (⟨t.val * 512 + r.val, by omega⟩ : Fin 8192) k from ?_)).trans (slab_apply _ _ _ _)
  funext a
  apply Fin.ext
  match a with
  | ⟨0, _⟩ => show win0_2.index t 0 * 512 + 1 * r.val = t.val * 512 + r.val; rw [(idx2 t).1]; omega
  | ⟨1, _⟩ => show win0_2.index t 1 * 1024 + 1 * k.val = k.val; rw [(idx2 t).2]; omega

theorem blk3 (k : Fin 1024) : (iblk m c 3 t : Vec Ideal S1x1024 .f32) (ix2 0 k) = m ((c : Thread nD τ).loc main_arg1) (ix2 0 k) := by
  unfold iblk
  rw [View.read_apply]
  show V m c main_arg1 _ = _
  rw [V_main_arg1]
  refine congrArg _ (show _ = ix2 (0 : Fin 1) k from ?_)
  funext a
  apply Fin.ext
  match a with
  | ⟨0, _⟩ => show win0_3.index t 0 * 1 + 1 * 0 = 0; rw [(idx3 t).1]
  | ⟨1, _⟩ => show win0_3.index t 1 * 1024 + 1 * k.val = k.val; rw [(idx3 t).2]; omega

theorem blk4 (k : Fin 5632) (l : Fin 1024) : (iblk m c 4 t : Vec Ideal S5632x1024 .bf16) (ix2 k l)
    = m ((c : Thread nD τ).loc main_arg2) (ix3 0 l k) := by
  unfold iblk
  rw [View.read_apply]
  show V m c main_v6 _ = _
  rw [V_v6]
  refine (congrArg _ (show _ = ix2 k l from ?_)).trans ?_
  · funext a
    apply Fin.ext
    match a with
    | ⟨0, _⟩ => show win0_4.index t 0 * 5632 + 1 * k.val = k.val; rw [(idx4 t).1]; omega
    | ⟨1, _⟩ => show win0_4.index t 1 * 1024 + 1 * l.val = l.val; rw [(idx4 t).2]; omega
  · refine Eq.trans ?_ (slab_apply (m ((c : Thread nD τ).loc main_arg2)) shapeCasts_S1x1024x5632_S1024x5632 l k)
    generalize shapeCast S1024x5632 (m ((c : Thread nD τ).loc main_arg2)) shapeCasts_S1x1024x5632_S1024x5632 = y
    pointwise []

end Cert.NormBwdIdeal.Real

end
-- ==== Proof.NormFinal.lean ====
/-
  THE KERNEL OF THE FIRST PAIR, its two result arrays over real arguments: every row's derivative (each grid point
  writes its own 512 rows back), and the gain's gradient (one block, to which every point adds its rows; a sum over the
  rows so far, by induction on the point).
-/
module

public import proofs.«01_k».proof.Proof.NormVal
public import proofs.«01_k».proof.Proof.NormBlk
public import Idealize.ShloMosaic.Lib.Pipeline.ValueKit.Geometry
public import Idealize.ShloMosaic.Lib.Pipeline.ValueKit.Acc

@[expose] public section

set_option maxRecDepth 16384

noncomputable section

namespace Cert.NormBwdIdeal.Real

open Cert.NormBwdIdeal Cert.NormBwdIdeal.Gen Cert.Step Idealize.ShloMosaic Idealize.ShloMosaic.TcCoe Idealize.SL.Sem
open Cert.NormRefIdeal.Real (dn dnG row)

variable (m : (ℓ : Loc nD τ sig) → Buf (Elt Ideal) ℓ) (c : Dev nD)
variable (H W A : ℕ → ℕ → ℝ) (G : ℕ → ℝ)
variable (hH : ∀ (r : Fin 8192) (k : Fin 1024), m ((c : Thread nD τ).loc main_arg0) (ix3 0 r k) = ((H r k : ℝ) : EReal))
variable (hG : ∀ k : Fin 1024, m ((c : Thread nD τ).loc main_arg1) (ix2 0 k) = ((G k : ℝ) : EReal))
variable (hW : ∀ (l : Fin 1024) (k : Fin 5632), m ((c : Thread nD τ).loc main_arg2) (ix3 0 l k) = ((W l k : ℝ) : EReal))
variable (hA : ∀ (r : Fin 8192) (k : Fin 5632), m ((c : Thread nD τ).loc main_arg3) (ix3 0 r k) = ((A r k : ℝ) : EReal))

include hA in
theorem rblk0 (t : Fin cfg0.N) (r : Fin 512) (k : Fin 5632) :
    (iblk m c 0 t : Vec Ideal S512x5632 .bf16) (ix2 r k) = ((A (t.val * 512 + r) k : ℝ) : EReal) :=
  (blk0 m c t r k).trans (hA _ _)

include hH in
theorem rblk2 (t : Fin cfg0.N) (r : Fin 512) (k : Fin 1024) :
    (iblk m c 2 t : Vec Ideal S512x1024 .f32) (ix2 r k) = ((H (t.val * 512 + r) k : ℝ) : EReal) :=
  (blk2 m c t r k).trans (hH _ _)

include hG in
theorem rblk3 (t : Fin cfg0.N) (k : Fin 1024) : (iblk m c 3 t : Vec Ideal S1x1024 .f32) (ix2 0 k) = ((G k : ℝ) : EReal) :=
  (blk3 m c t k).trans (hG _)

include hW in
theorem rblk4 (t : Fin cfg0.N) (k : Fin 5632) (l : Fin 1024) :
    (iblk m c 4 t : Vec Ideal S5632x1024 .bf16) (ix2 k l) = ((W l k : ℝ) : EReal) :=
  (blk4 m c t k l).trans (hW _ _)

/-! ## The rows' derivative -/

/-- The array of the rows' derivatives. -/
def dxArr (x4 : S1x8192x1024.Idx → EReal) (H W A : ℕ → ℕ → ℝ) (G : ℕ → ℝ) (i : S8192x1024.Idx) : EReal :=
  x4 (ix3 0 (i 0) (i 1)) + ((normGrad (row H (i 0).val) (dnG A W G (i 0).val) (i 1) : ℝ) : EReal)

theorem idx5 : ∀ t : Fin cfg0.N, win0_5.index t = ![t.val, 0] :=
  (by decide +kernel : ∀ t : Fin grid0.N, win0_5.index t = ![t.val, 0])

include hH hG hW hA in
theorem final5 : (dats m 0 c).arrAt 5 cfg0.N = dxArr (m ((c : Thread nD τ).loc main_arg4)) H W A G := by
  refine (dats m 0 c).arrAt_eq_of_covers 5 _ (by decide +kernel) fun t hf y => ?_
  have hN := N16 t
  obtain ⟨r, l, rfl⟩ : ∃ (r : Fin 512) (l : Fin 1024), y = ix2 r l := ⟨y 0, y 1, by blk_ext []⟩
  have e : (win0_5.blk t).view.emb (ix2 r l) = ix2 (⟨t.val * 512 + r.val, by omega⟩ : Fin 8192) l := by
    blk_ext [idx5 t]
  blk_simp
  rw [after0_5, after5, e]
  refine (pay8 H W A G (t.val * 512) _ _ _ _ _ (rblk0 m c A hA t) (rblk4 m c W hW t) (rblk2 m c H hH t) (rblk3 m c G hG t) _ _).trans ?_
  rw [blk1]
  rfl

/-! ## The gain's gradient -/

/-- One grid point's share of the gain's gradient. -/
def dgTerm (t : ℕ) (k : ℕ) : ℝ :=
  ∑ r : Fin 512, dn A W (t * 512 + r.val) k * (H (t * 512 + r.val) k * invRms (row H (t * 512 + r.val)))

theorem zeros (j : Fin 1024) : k0_pay1 (F := Ideal) (ix2 0 j) = 0 := by
  pointwise [k0_pay1]

theorem adds (v32 v40 : Vec Ideal S1x1024 .f32) (j : Fin 1024) : k0_pay2 (F := Ideal) v32 v40 (ix2 0 j) = v40 (ix2 0 j) + v32 (ix2 0 j) := by
  pointwise [k0_pay2]

include hH hW hA in
theorem outs6 (j : Fin 1024) : (outsAt0 m c t0_15.val t0_15.isLt).2 (ix2 0 j) = ((∑ t : Fin 16, dgTerm H W A t.val j : ℝ) : EReal) := by
  refine (Pipeline.eq_sum_fin_of_reset_step_apply_last (fun n h => (outsAt0 m c n h).2) 16 (fun _ => (0 : EReal))
    (fun t i => ((dgTerm H W A t.val (i 1).val : ℝ) : EReal)) (fun t h i => ?_) (fun t h i => ?_) (le_of_eq N_0) t0_15 rfl (ix2 0 j)).trans ?_
  · obtain ⟨l, rfl⟩ : ∃ l : Fin 1024, i = ix2 0 l := ⟨i 1, by blk_ext []⟩
    dsimp only
    rw [outsAt0_A m c t h]
    dsimp only
    rw [out_A_6, adds, zeros, pay7 H W A (t.val * 512) _ _ _ (rblk0 m c A hA t) (rblk4 m c W hW t) (rblk2 m c H hH t)]
    rfl
  · obtain ⟨l, rfl⟩ : ∃ l : Fin 1024, i = ix2 0 l := ⟨i 1, by blk_ext []⟩
    dsimp only
    rw [outsAt0_B m c t h]
    dsimp only
    rw [out_B_6, adds, pay7 H W A (t.val * 512) _ _ _ (rblk0 m c A hA t) (rblk4 m c W hW t) (rblk2 m c H hH t)]
    rfl
  · rw [zero_add]
    exact coe_sum _

/-- The array of the gain's gradient. -/
def dgArr (H W A : ℕ → ℕ → ℝ) (j : S1x1024.Idx) : EReal :=
  ((∑ r : Fin 8192, H r (j 1).val * invRms (row H r) * dn A W r (j 1).val : ℝ) : EReal)

include hH hW hA in
theorem final6 : (dats m 0 c).arrAt 6 cfg0.N = dgArr H W A := by
  refine (dats m 0 c).arrAt_eq_of_after_last 6 t0_15 (by decide +kernel) _ fun j => ?_
  obtain ⟨l, rfl⟩ : ∃ l : Fin 1024, j = ix2 0 l := ⟨j 1, by blk_ext []⟩
  blk_simp
  rw [after0_6]
  refine (outs6 m c H W A hH hW hA l).trans (congrArg _ ?_)
  refine Fin.sum_mul_add_congr fun t r hl => ?_
  exact mul_comm _ _

end Cert.NormBwdIdeal.Real
-- ==== Proof.NormClaim.lean ====
/-
  THE FIRST PAIR, put together: at arguments whose finiteness the precondition states, the kernel and the derivative
  of the plain lines both run and leave equal arrays.
-/
module

public import proofs.«01_k».proof.Defs
public import proofs.«01_k».proof.Proof.NormRef
public import proofs.«01_k».proof.Proof.NormFinal
public import proofs.«01_k».proof.Proof.Gen.NormBwd.Frame
public import proofs.«01_k».proof.Proof.Gen.NormRefIdeal.Run
public import proofs.«01_k».proof.Proof.Gen.Pre_finite_norm

@[expose] public section

set_option maxRecDepth 16384

noncomputable section

namespace Cert.NormClaim

open Cert.Step Idealize.ShloMosaic Idealize.ShloMosaic.TcCoe Idealize.SL.Sem

/-- The precondition, read: the four arguments it names are arrays of reals. -/
theorem reals (x0 : FVec Ideal Pre_finite_norm.S1x8192x1024 .f32) (x1 : FVec Ideal Pre_finite_norm.S1x1024 .f32)
    (x2 : FVec Ideal Pre_finite_norm.S1x1024x5632 .f32) (x3 : FVec Ideal Pre_finite_norm.S1x8192x5632 .f32)
    (x4 : FVec Ideal Pre_finite_norm.S1x8192x1024 .f32) (h : Pre_finite_norm.fn (F := Ideal) x0 x1 x2 x3 x4 = fun _ => 1#1) :
    (∃ H : ℕ → ℕ → ℝ, ∀ i, x0 i = ((H (i 1).val (i 2).val : ℝ) : EReal)) ∧ (∃ G : ℕ → ℝ, ∀ i, x1 i = ((G (i 1).val : ℝ) : EReal))
    ∧ (∃ W : ℕ → ℕ → ℝ, ∀ i, x2 i = ((W (i 1).val (i 2).val : ℝ) : EReal))
    ∧ (∃ A : ℕ → ℕ → ℝ, ∀ i, x3 i = ((A (i 1).val (i 2).val : ℝ) : EReal)) := by
  have e := congrFun h (fun a => a.elim0)
  unfold Pre_finite_norm.fn Pre_finite_norm.fn_part1 at e
  dsimp only at e
  obtain ⟨e, e3⟩ := and_split _ _ _ e
  obtain ⟨e, e2⟩ := and_split _ _ _ e
  obtain ⟨e0, e1⟩ := and_split _ _ _ e
  haveI : Subsingleton Pre_finite_norm.S_.Idx := ⟨fun a b => funext fun i => i.elim0⟩
  exact ⟨exists_slab _ (real_of_all _ _ _ _ _ (fun _ => rfl) _ e0), exists_row _ (real_of_all _ _ _ _ _ (fun _ => rfl) _ e1),
    exists_slab _ (real_of_all _ _ _ _ _ (fun _ => rfl) _ e2), exists_slab _ (real_of_all _ _ _ _ _ (fun _ => rfl) _ e3)⟩

theorem algebraic : Cert.algebraic_NormBwdIdeal_NormRefIdeal_pre_finite_norm := by
  intro m g m' g' hpre harg
  refine ⟨fun c => (Cert.NormBwdIdeal.Gen.dats m 0 c).arrAt 5 Cert.NormBwdIdeal.cfg0.N,
    fun c => (Cert.NormBwdIdeal.Gen.dats m 0 c).arrAt 6 Cert.NormBwdIdeal.cfg0.N, Cert.NormBwdIdeal.Value.run_blocks m g, ?_⟩
  refine (θ_run _ _ _).mono (fun r h c => ?_) (Cert.NormRefIdeal.Value.run m' g')
  obtain ⟨⟨H, h0⟩, ⟨G, h1⟩, ⟨W, h2⟩, ⟨A, h3⟩⟩ := reals _ _ _ _ _ (hpre c)
  obtain ⟨a0, a1, a2, a3, a4⟩ := harg c
  obtain ⟨r0, r1, rest⟩ := h c
  refine ⟨r0.trans ?_, r1.trans ?_, rest⟩
  · rw [Cert.NormRefIdeal.Read.val_main_v43_eq, a0, a1, a2, a3, a4]
    refine Eq.trans ?_ (Cert.NormBwdIdeal.Real.final5 m c H W A G (fun _ _ => h0 _) (fun _ => h1 _) (fun _ _ => h2 _) (fun _ _ => h3 _)).symm
    funext i
    exact Cert.NormRefIdeal.Real.dx_apply H W A G _ _ _ _ _ h0 h1 h2 h3 i
  · rw [Cert.NormRefIdeal.Read.val_main_v42_eq, a0, a2, a3]
    refine Eq.trans ?_ (Cert.NormBwdIdeal.Real.final6 m c H W A (fun _ _ => h0 _) (fun _ _ => h2 _) (fun _ _ => h3 _)).symm
    funext i
    exact Cert.NormRefIdeal.Real.dg_apply H W A _ _ _ h0 h2 h3 i

/-- The reference runs, leaves its arguments as they were, and uses no semaphore. -/
theorem frameRef : Cert.quiescent_NormRefIdeal := fun m ρ _ =>
  (θ_run Cert.NormRefIdeal.defs _ _).mono
    (fun r h => ⟨fun c => (h c).2.2, Idealize.ShloMosaic.sem_eq_zero_of_no_sems (by decide) r.2⟩)
    (Cert.NormRefIdeal.Value.run (F := Ideal) m ρ)

end Cert.NormClaim
-- ==== Proof.AttnSpec.lean ====
/-
  ATTENTION WITH SINKS OVER A WINDOW, in real numbers: one head's rows of one block of 128, the keys a band of 256 rows
  (the block before's, then the own), and its gradients. A row's window is 128 keys wide, so the 128 columns of a folded
  row hold all of it; a softmax over extended reals whose masked scores are −∞ is the one over the reals that leaves
  them out.
-/
module

public import Idealize.ShloMosaic.PureOps.Ideal
public import Idealize.ShloMosaic.Lib.IdealHost
public import Mathlib.Algebra.BigOperators.Fin
public import Mathlib.Tactic.Ring
public import Mathlib.Tactic.FieldSimp
public import Mathlib.Tactic.Positivity

@[expose] public section

noncomputable section

namespace Cert.Attn

open Idealize.ShloMosaic

/-- Column `c` of the band is in row `r`'s window; in the first block (`f`) only the own keys are. -/
def ok (f : Bool) (r : Fin 128) (c : Fin 256) : Prop := r.val < c.val ∧ c.val ≤ r.val + 128 ∧ (f = true → 128 ≤ c.val)

instance (f : Bool) (r : Fin 128) (c : Fin 256) : Decidable (ok f r c) := by unfold ok; infer_instance

/-- The band's column that a folded row holds at `j`. -/
def fc (r j : Fin 128) : Fin 256 := if j.val ≤ r.val then ⟨128 + j.val, by omega⟩ else ⟨j.val, by omega⟩

theorem ok_fc (f : Bool) (r j : Fin 128) : ok f r (fc r j) ↔ (j.val ≤ r.val ∨ f = false) := by
  unfold ok fc
  cases f <;> split <;> simp <;> omega

/-- A sum over the band of terms that are zero outside the window is the sum over the folded row. -/
theorem sum_fc (r : Fin 128) (g : Fin 256 → ℝ) (h : ∀ c, ¬ (r.val < c.val ∧ c.val ≤ r.val + 128) → g c = 0) :
    ∑ j, g (fc r j) = ∑ c, g c := by
  have e : ∑ c, g c = ∑ j : Fin 128, (g ⟨j.val, by omega⟩ + g ⟨128 + j.val, by omega⟩) := by
    rw [Finset.sum_add_distrib]
    exact Fin.sum_univ_add (a := 128) (b := 128) g
  rw [e]
  refine Finset.sum_congr rfl fun j _ => ?_
  unfold fc
  split
  · rw [h ⟨j.val, by omega⟩ (by simp; omega), zero_add]
  · rw [h ⟨128 + j.val, by omega⟩ (by simp; omega), add_zero]

section Head

variable (f : Bool) (T D : Fin 128 → Fin 256 → ℝ) (k : ℝ)

/-- The weights before they are divided. -/
def w (r : Fin 128) (c : Fin 256) : ℝ := if ok f r c then Real.exp (T r c) else 0

/-- What they are divided by. -/
def Zs (r : Fin 128) : ℝ := (∑ c, w f T r c) + Real.exp k

/-- The probabilities. -/
def P (r : Fin 128) (c : Fin 256) : ℝ := w f T r c / Zs f T k r

/-- The probabilities' cotangents weighted with them. -/
def rd (r : Fin 128) : ℝ := ∑ c, P f T k r c * D r c

/-- The scores' cotangents. -/
def dS (r : Fin 128) (c : Fin 256) : ℝ := P f T k r c * (D r c - rd f T D k r)

/-- The sink's cotangent from one row. -/
def dK (r : Fin 128) : ℝ := -(Real.exp k / Zs f T k r) * rd f T D k r

theorem w_nonneg (r c) : 0 ≤ w f T r c := by unfold w; split <;> positivity

theorem Zs_pos (r) : 0 < Zs f T k r := by
  have : 0 ≤ ∑ c, w f T r c := Finset.sum_nonneg fun c _ => w_nonneg f T r c
  unfold Zs; positivity

theorem w_out (r c) (h : ¬ ok f r c) : w f T r c = 0 := if_neg h

theorem P_out (r c) (h : ¬ ok f r c) : P f T k r c = 0 := by unfold P; rw [w_out f T r c h, zero_div]

theorem dS_out (r c) (h : ¬ ok f r c) : dS f T D k r c = 0 := by unfold dS; rw [P_out f T k r c h, zero_mul]

theorem not_ok (r c) (h : ¬ (r.val < c.val ∧ c.val ≤ r.val + 128)) : ¬ ok f r c := fun q => h ⟨q.1, q.2.1⟩

/-- Only the columns of the window count. -/
theorem P_congr (T' : Fin 128 → Fin 256 → ℝ) (h : ∀ r c, ok f r c → T r c = T' r c) : P f T k = P f T' k := by
  have e : w f T = w f T' := by
    funext r c
    unfold w
    split
    · next q => rw [h r c q]
    · rfl
  unfold P Zs
  rw [e]

theorem rd_congr (T' D' : Fin 128 → Fin 256 → ℝ) (h : ∀ r c, ok f r c → T r c = T' r c) (h' : ∀ r c, ok f r c → D r c = D' r c) :
    rd f T D k = rd f T' D' k := by
  funext r
  unfold rd
  rw [P_congr f T k T' h]
  refine Finset.sum_congr rfl fun c _ => ?_
  by_cases q : ok f r c
  · rw [h' r c q]
  · rw [P_out f T' k r c q, zero_mul, zero_mul]

theorem dS_congr (T' D' : Fin 128 → Fin 256 → ℝ) (h : ∀ r c, ok f r c → T r c = T' r c) (h' : ∀ r c, ok f r c → D r c = D' r c) :
    dS f T D k = dS f T' D' k := by
  funext r c
  unfold dS
  rw [P_congr f T k T' h, rd_congr f T D k T' D' h h']
  by_cases q : ok f r c
  · rw [h' r c q]
  · rw [P_out f T' k r c q, zero_mul, zero_mul]

theorem dK_congr (T' D' : Fin 128 → Fin 256 → ℝ) (h : ∀ r c, ok f r c → T r c = T' r c) (h' : ∀ r c, ok f r c → D r c = D' r c) :
    dK f T D k = dK f T' D' k := by
  have e : Zs f T k = Zs f T' k := by
    funext r
    unfold Zs w
    refine congrArg (· + Real.exp k) (Finset.sum_congr rfl fun c _ => ?_)
    split
    · next q => rw [h r c q]
    · rfl
  funext r
  unfold dK
  rw [e, rd_congr f T D k T' D' h h']

end Head

/-! ## One block: sixteen heads, eight to a key/value head, 64 lanes each -/

/-- The band: the block before's rows, then the own. -/
def band (pv kv : Fin 128 → ℕ → ℝ) (c : Fin 256) (l : ℕ) : ℝ :=
  if h : c.val < 128 then pv ⟨c.val, h⟩ l else kv ⟨c.val - 128, by omega⟩ l

section Block

variable (f : Bool) (q kv pv o : Fin 128 → ℕ → ℝ) (sl sk : ℕ → ℝ)

/-- The scores of head `h`. -/
def T (h : ℕ) (r : Fin 128) (c : Fin 256) : ℝ :=
  (∑ d : Fin 64, q r (64 * h + d.val) * band pv kv c (64 * (h / 8) + d.val)) / 8 - sl h * ((r.val : ℝ) + 128 - c.val)

/-- The cotangents of its probabilities. -/
def D (h : ℕ) (r : Fin 128) (c : Fin 256) : ℝ := ∑ d : Fin 64, o r (64 * h + d.val) * band pv kv c (128 + 64 * (h / 8) + d.val)

/-- Its probabilities. -/
def PP (h : ℕ) : Fin 128 → Fin 256 → ℝ := P f (T q kv pv sl h) (sk h)

/-- Its scores' cotangents. -/
def dSS (h : ℕ) : Fin 128 → Fin 256 → ℝ := dS f (T q kv pv sl h) (D kv pv o h) (sk h)

/-- Its sink's cotangent. -/
def dKK (h : ℕ) : ℝ := ∑ r, dK f (T q kv pv sl h) (D kv pv o h) (sk h) r

/-- The gradient of its queries. -/
def dQ (h : ℕ) (r : Fin 128) (d : Fin 64) : ℝ := (∑ c, dSS f q kv pv o sl sk h r c * band pv kv c (64 * (h / 8) + d.val)) / 8

/-- The gradient of the keys of key/value head `k` over the band. -/
def dKb (k : ℕ) (c : Fin 256) (d : Fin 64) : ℝ :=
  ∑ n ∈ Finset.range 8, ∑ r, q r (64 * (8 * k + n) + d.val) * (1 / 8) * dSS f q kv pv o sl sk (8 * k + n) r c

/-- The gradient of the values of key/value head `k` over the band. -/
def dVb (k : ℕ) (c : Fin 256) (d : Fin 64) : ℝ :=
  ∑ n ∈ Finset.range 8, ∑ r, o r (64 * (8 * k + n) + d.val) * PP f q kv pv sl sk (8 * k + n) r c

end Block

/-! ## The same over extended reals -/

/-- The greatest of finitely many scores, none of them `+∞`, and a real number is real. -/
theorem max_real {n : ℕ} (s : Fin n → EReal) (hs : ∀ j, s j ≠ ⊤) (k : ℝ) :
    ∃ M : ℝ, max (Finset.univ.fold max (⊥ : EReal) s) (k : EReal) = M := by
  have h1 : max (Finset.univ.fold max (⊥ : EReal) s) (k : EReal) ≠ ⊤ := by
    refine ne_of_lt (max_lt ?_ (EReal.coe_lt_top k))
    exact (Finset.fold_max_lt _).2 ⟨bot_lt_top, fun j _ => lt_top_iff_ne_top.2 (hs j)⟩
  have h2 : max (Finset.univ.fold max (⊥ : EReal) s) (k : EReal) ≠ ⊥ :=
    ne_of_gt (lt_of_lt_of_le (EReal.bot_lt_coe k) (le_max_right _ _))
  exact ⟨_, (EReal.coe_toReal h1 h2).symm⟩

/-- A weight with the greatest score taken off first. -/
theorem exp_sub (p : Prop) [Decidable p] (t M : ℝ) :
    Ideal.exp ((if p then (t : EReal) else ⊥) - (M : EReal)) = (((if p then Real.exp t else 0) * Real.exp (-M) : ℝ) : EReal) := by
  split
  · rw [← EReal.coe_sub, Ideal.exp_coe, sub_eq_add_neg, Real.exp_add]
  · rw [EReal.bot_sub, zero_mul]
    simp

end Cert.Attn
-- ==== Proof.AttnDist.lean ====
/-
  THE ATTENTION'S TABLE OF DISTANCES: its entry at row `r` and column `j` is the number of positions from the folded
  row's key to its query.
-/
module

public import proofs.«01_k».proof.Proof.AttnSpec
public import proofs.«01_k».proof.AttnBwdIdeal

@[expose] public section

set_option maxRecDepth 16384

noncomputable section

namespace Cert.AttnBwdIdeal.Real

open Cert.AttnBwdIdeal Cert.Attn Idealize.ShloMosaic

/-- A pattern of the natural number `k`, as its fields show it. -/
def isNat (b : BitVec 32) (k : ℕ) : Prop :=
  (b.extractLsb' 31 1 == 1#1) = false ∧ (b.extractLsb' 23 8).toNat ≤ 150 ∧ (b.extractLsb' 23 8).toNat ≠ 0
    ∧ 2 ^ 23 + (b.extractLsb' 0 23).toNat = k * 2 ^ (150 - (b.extractLsb' 23 8).toNat)

instance (b : BitVec 32) (k : ℕ) : Decidable (isNat b k) := by unfold isNat; infer_instance

theorem ofBits_isNat (b : BitVec 32) (k : ℕ) (h : isNat b k) : Ideal.ofBits .f32 b = ((k : ℝ) : EReal) := by
  obtain ⟨h1, h2, h3, h4⟩ := h
  show Ideal.ieee 8 23 b = _
  unfold Ideal.ieee
  dsimp only
  rw [if_neg (by omega), if_neg h3, h1]
  refine congrArg _ ?_
  rw [h4]
  generalize (b.extractLsb' 23 8).toNat = e at h2
  have e1 : ((e : ℤ) - (2 ^ (8 - 1) - 1) - ((23 : ℕ) : ℤ)) = -((150 - e : ℕ) : ℤ) := by
    push_cast [h2]
    norm_num
    ring
  rw [e1, zpow_neg, zpow_natCast]
  push_cast
  have : (2 : ℝ) ^ (150 - e) ≠ 0 := by positivity
  field_simp

/-- How far the folded row's key is from its query. -/
def away (r j : ℕ) : ℕ := if j ≤ r then r - j else r + 128 - j

theorem row_isNat : ∀ k : Fin 128, k.val = 0 ∨ isNat (lit0t0_127 (127 - k.val)) k.val := by decide +kernel

theorem table : ∀ r j : Fin 128, lit0t (r.val * 128 + j.val) = lit0t0_127 (127 - away r.val j.val) := by decide +kernel

theorem dist_lit (r j : Fin 128) : Ideal.ofBits .f32 (lit0t (r.val * 128 + j.val)) = (((r.val : ℝ) + 128 - (fc r j).val : ℝ) : EReal) := by
  have hr := r.isLt
  have hj := j.isLt
  have hk : away r.val j.val < 128 := by unfold away; split <;> omega
  have e : ((away r.val j.val : ℕ) : ℝ) = (r.val : ℝ) + 128 - (fc r j).val := by
    unfold away fc
    split
    · next h => push_cast [h]; ring
    · next h => push_cast [show j.val ≤ r.val + 128 by omega]; ring
  rw [table, ← e]
  rcases row_isNat ⟨away r.val j.val, hk⟩ with h | h
  · have h' : away r.val j.val = 0 := h
    rw [h']
    simp [lit0t0_127]
  · exact ofBits_isNat _ _ h

end Cert.AttnBwdIdeal.Real
-- ==== Proof.AttnParts.lean ====
/-
  THE ATTENTION'S BACKWARD KERNEL, HEAD BY HEAD: the kernel's body written once for a head, as functions of the
  tiles a grid point loads. The unrolled body repeats these sixteen times.
-/
module

public import proofs.«01_k».proof.Proof.Gen.AttnBwdIdeal.Skeleton
public import Idealize.ShloMosaic.Lib.Pointwise.Index

@[expose] public section

set_option maxRecDepth 16384

noncomputable section

namespace Cert.AttnBwdIdeal.Real

open Cert.AttnBwdIdeal Cert.AttnBwdIdeal.Gen Idealize.ShloMosaic Idealize.ShloMosaic.TcCoe

variable {F : FTy → Type} [FloatOps F]

/-- The lanes of a head within its pair's 128: the low 64 for an even head, the high 64 for an odd one. -/
def lanes (odd : Bool) : IVec S128x128 1 :=
  bif odd then
    xori (cmpi .slt (iota .tc S128x128 32 [1] iota_S128x128_d1_w32) (broadcast S128x128 64#32)) (constantI S128x128 1 1#1)
  else cmpi .slt (iota .tc S128x128 32 [1] iota_S128x128_d1_w32) (broadcast S128x128 64#32)

/-- The same lanes after the transpose: rows. -/
def rowsOf (odd : Bool) : IVec S128x128 1 :=
  xori (xori (cmpi .slt (iota .tc S128x128 32 [0] iota_S128x128_d0_w32) (broadcast S128x128 64#32))
    (broadcastTo S128x128 (broadcast S128x128 (bif odd then 0#1 else 1#1)) broadcasts_S128x128_S128x128))
    (constantI S128x128 1 1#1)

/-- The heads' slopes, as the bits the kernel writes them with. -/
def slopeBits (h : ℕ) : BitVec 32 :=
  [0x3F3504F3#32, 0x3F000000#32, 0x3EB504F3#32, 0x3E800000#32, 0x3E3504F3#32, 0x3E000000#32, 0x3DB504F3#32, 0x3D800000#32,
   0x3D3504F3#32, 0x3D000000#32, 0x3CB504F3#32, 0x3C800000#32, 0x3C3504F3#32, 0x3C000000#32, 0x3BB504F3#32, 0x3B800000#32].getD h 0#32

/-- One head's tile kept, the other's lanes zero. -/
def keep (odd : Bool) (x : Vec F S128x128 .bf16) : FVec F S128x128 .bf16 :=
  select (lanes odd) (shapeCast S128x128 x shapeCasts_S128x128_S128x128) (broadcast S128x128 (Scalar.ofBits .bf16 0x0000#16))

/-- A head's folded scores: the own block's keys on and below the diagonal, the block before's above it. -/
def score (odd : Bool) (b : BitVec 32) (dist : Vec F S128x128 .f32) (kk : FVec F S256x128 .bf16) (first : BitVec 1)
    (x : Vec F S128x128 .bf16) : FVec F S1x1x128x128 .f32 :=
  have w : FVec F S128x256 .f32 := matmul dot_S128x128_S256x128_S128x256_1_1_0_0_n_n none
    (mulf (keep odd x) (broadcast S128x128 (Scalar.ofBits .bf16 0x3E00#16))) kk (constant S128x256 .f32 0x00000000#32)
  shapeCast S1x1x128x128
    (subf (select k0_pay6 (extractStridedSlice S128x128 ![0, 128] w slices_S128x256_o0_128_S128x128)
      (Scalar.select first (broadcast S128x128 (Scalar.ofBits .f32 0xFF800000#32))
        (extractStridedSlice S128x128 ![0, 0] w slices_S128x256_o0_0_S128x128)))
      (mulf (broadcast S128x128 (Scalar.ofBits .f32 b)) dist)) shapeCasts_S128x128_S1x1x128x128

/-- A head's folded cotangents of the probabilities. -/
def dprob (odd : Bool) (vv : FVec F S256x128 .bf16) (x : Vec F S128x128 .bf16) : FVec F S1x1x128x128 .f32 :=
  have w : FVec F S128x256 .f32 := matmul dot_S128x128_S256x128_S128x256_1_1_0_0_n_n none
    (keep odd x) vv (constant S128x256 .f32 0x00000000#32)
  shapeCast S1x1x128x128
    (select k0_pay6 (extractStridedSlice S128x128 ![0, 128] w slices_S128x256_o0_128_S128x128)
      (extractStridedSlice S128x128 ![0, 0] w slices_S128x256_o0_0_S128x128)) shapeCasts_S128x128_S1x1x128x128

/-- The folded columns put back at their places in the band of 256. -/
def unfolded (x : FVec F S128x128 .f32) : FVec F S1x1x128x256 .bf16 :=
  have y : FVec F S128x128 .bf16 := truncf .bf16 x bitsLt_bf16_f32
  have z : FVec F S128x128 .bf16 := broadcast S128x128 (Scalar.ofBits .bf16 0x0000#16)
  shapeCast S1x1x128x256 (concatenate S128x256 1 [⟨S128x128, select k0_pay6 z y⟩, ⟨S128x128, select k0_pay6 y z⟩]
    concatenates_S128x128_S128x128_S128x256_d1) shapeCasts_S128x256_S1x1x128x256

/-- What a head stores of its probabilities. -/
def probsOf (s : Vec F S1x1x128x128 .f32) (k : Elt F .f32) : FVec F S1x1x128x256 .bf16 := unfolded (k0_pay60 s k)

/-- What a head stores of its scores' cotangents. -/
def dscoreOf (s : Vec F S1x1x128x128 .f32) (k : Elt F .f32) (d : Vec F S1x1x128x128 .f32) : FVec F S1x1x128x256 .bf16 :=
  unfolded (k0_pay65 s k d)

/-- The sinks' cotangents with one head's added at its lane. -/
def dsinkStep (n : ℕ) (acc : FVec F S1x128 .f32) (s : Vec F S1x1x128x128 .f32) (k : Elt F .f32)
    (d : Vec F S1x1x128x128 .f32) : FVec F S1x128 .f32 :=
  addf acc (select (cmpi .eq (iota .tc S1x128 32 [1] iota_S1x128_d1_w32) (broadcast S1x128 (BitVec.ofNat 32 n)))
    (broadcastTo S1x128 (shapeCast S1x1 (shapeCast S1x1 (multiReduction .add [0] S1
      (mulf (subf (broadcast S128x1 (Scalar.ofBits .f32 0x00000000#32)) (k0_pay61 s k)) (k0_pay63 s k d))
      0x00000000#32 reduces_S128x1_S1 (.inl rfl) rfl) shapeCasts_S1_S1x1) shapeCasts_S1x1_S1x1) broadcasts_S1x1_S1x128)
    (broadcast S1x128 (Scalar.ofBits .f32 0x00000000#32)))

/-- One head added to a key/value head's transposed gradient. -/
def bandStep (odd : Bool) (acc : FVec F S128x256 .f32) (xT : FVec F S128x128 .bf16) (p : Vec F S1x1x128x256 .bf16) :
    FVec F S128x256 .f32 :=
  addf acc (matmul dot_S128x128_S128x256_S128x256_1_0_0_1_n_n none
    (select (rowsOf odd) xT (broadcast S128x128 (Scalar.ofBits .bf16 0x0000#16)))
    (shapeCast S128x256 p shapeCasts_S1x1x128x256_S128x256) (constant S128x256 .f32 0x00000000#32))

/-- The first `n` heads of a key/value head added up, from nothing. -/
def bandSum (x : ℕ → FVec F S128x128 .bf16) (p : ℕ → Vec F S1x1x128x256 .bf16) : ℕ → FVec F S128x256 .f32
  | 0 => broadcast S128x256 (Scalar.ofBits .f32 0x00000000#32)
  | n + 1 => bandStep (n % 2 == 1) (bandSum x p n) (x n) (p n)

/-- The queries' tile, scaled and transposed. -/
def qT (x : Vec F S128x128 .bf16) : FVec F S128x128 .bf16 :=
  transpose S128x128 [1, 0] (mulf (shapeCast S128x128 x shapeCasts_S128x128_S128x128)
    (broadcast S128x128 (Scalar.ofBits .bf16 0x3E00#16))) transposes_S128x128_p1_0_S128x128

/-- The cotangent's tile, transposed. -/
def doT (x : Vec F S128x128 .bf16) : FVec F S128x128 .bf16 :=
  transpose S128x128 [1, 0] (shapeCast S128x128 x shapeCasts_S128x128_S128x128) transposes_S128x128_p1_0_S128x128

/-- One head's gradient of the queries, before the scale. -/
def dqHead (kk : FVec F S256x128 .bf16) (p : Vec F S1x1x128x256 .bf16) : FVec F S128x128 .f32 :=
  matmul dot_S128x256_S256x128_S128x128_1_0_0_1_n_n none (shapeCast S128x256 p shapeCasts_S1x1x128x256_S128x256) kk
    (constant S128x128 .f32 0x00000000#32)

/-- A pair of heads' gradient of the queries: the even one's lanes low, the odd one's high. -/
def dqPair (kk : FVec F S256x128 .bf16) (p q : Vec F S1x1x128x256 .bf16) : FVec F S128x128 .bf16 :=
  truncf .bf16 (mulf (select (cmpi .slt (iota .tc S128x128 32 [1] iota_S128x128_d1_w32) (broadcast S128x128 64#32))
    (dqHead kk p) (dqHead kk q)) (broadcast S128x128 (Scalar.ofBits .f32 0x3E000000#32))) bitsLt_bf16_f32

/-- A transposed gradient turned back, its two halves of lanes added together in both. -/
def folded (x : FVec F S128x256 .f32) : FVec F S256x128 .f32 :=
  have y : FVec F S256x128 .f32 := transpose S256x128 [1, 0] x transposes_S128x256_p1_0_S256x128
  addf y (dynamicRotate 1 64#32 none y rotates_S256x128_d1)

/-- The tile of 128 lanes from lane `o` on. -/
def tile (x : Vec F S128x1024 .bf16) (o : ℕ) : Vec F S128x128 .bf16 :=
  fun y => x (ix2 (y 0) ⟨(o + (y 1).val) % 1024, Nat.mod_lt _ (by decide)⟩)

/-- The 128 lanes of the key/value columns from lane `o` on. -/
def kvTile (x : Vec F S128x256 .bf16) (o : ℕ) : Vec F S128x128 .bf16 :=
  fun y => x (ix2 (y 0) ⟨(o + (y 1).val) % 256, Nat.mod_lt _ (by decide)⟩)

/-- The sink of head `n`. -/
def sinkAt (x : Vec F S16 .f32) (n : ℕ) : Elt F .f32 := x (ix1 ⟨n % 16, Nat.mod_lt _ (by decide)⟩)

section Block

variable (first : BitVec 1) (x0 : Vec F S128x1024 .bf16) (x1 x2 : Vec F S128x256 .bf16) (x3 : Vec F S128x1024 .bf16)
    (x4 : Vec F S128x128 .f32) (x5 : Vec F S16 .f32)

/-- The band's keys for a key/value head (the block before's, then the own), in both halves of the lanes. -/
def kBand (hk : Bool) : FVec F S256x128 .bf16 := bif hk then k0_pay11 x2 (kvTile x1 0) else k0_pay10 x2 (kvTile x1 0)

/-- The band's values for a key/value head. -/
def vBand (hk : Bool) : FVec F S256x128 .bf16 := bif hk then k0_pay13 x2 (kvTile x1 128) else k0_pay12 x2 (kvTile x1 128)

/-- The scores of head `h`. -/
def sOf (h : ℕ) : Vec F S1x1x128x128 .f32 :=
  score (h % 2 == 1) (slopeBits h) x4 (kBand x1 x2 (h / 8 == 1)) first (tile x0 (128 * (h / 2)))

/-- The cotangents of the probabilities of head `h`. -/
def dpOf (h : ℕ) : Vec F S1x1x128x128 .f32 := dprob (h % 2 == 1) (vBand x1 x2 (h / 8 == 1)) (tile x3 (128 * (h / 2)))

/-- The probabilities of head `h`. -/
def pOf (h : ℕ) : Vec F S1x1x128x256 .bf16 := probsOf (sOf first x0 x1 x2 x4 h) (sinkAt x5 h)

/-- The cotangents of the scores of head `h`. -/
def dsOf (h : ℕ) : Vec F S1x1x128x256 .bf16 := dscoreOf (sOf first x0 x1 x2 x4 h) (sinkAt x5 h) (dpOf x1 x2 x3 h)

/-- The first `n` heads' cotangents of their sinks. -/
def dsinkOf : ℕ → FVec F S1x128 .f32
  | 0 => k0_pay54
  | n + 1 => dsinkStep n (dsinkOf n) (sOf first x0 x1 x2 x4 n) (sinkAt x5 n) (dpOf x1 x2 x3 n)

/-- The keys' gradient over the band for key/value head `k`. -/
def dkOf (k : ℕ) : FVec F S256x128 .f32 :=
  folded (bandSum (fun n => qT (tile x0 (128 * ((8 * k + n) / 2)))) (fun n => dsOf first x0 x1 x2 x3 x4 x5 (8 * k + n)) 8)

/-- The values' gradient over the band for key/value head `k`. -/
def dvOf (k : ℕ) : FVec F S256x128 .f32 :=
  folded (bandSum (fun n => doT (tile x3 (128 * ((8 * k + n) / 2)))) (fun n => pOf first x0 x1 x2 x4 x5 (8 * k + n)) 8)

/-- The queries' gradient for the pair of heads `n`. -/
def dqOf (n : ℕ) : FVec F S128x128 .bf16 :=
  dqPair (kBand x1 x2 (n / 4 == 1)) (dsOf first x0 x1 x2 x3 x4 x5 (2 * n)) (dsOf first x0 x1 x2 x3 x4 x5 (2 * n + 1))

end Block

end Cert.AttnBwdIdeal.Real
-- ==== Proof.AttnBlk.lean ====
/-
  THE ATTENTION'S BACKWARD KERNEL, its blocks: what each input window reads at a grid point, over real arguments.
-/
module

public import proofs.«01_k».proof.Proof.AttnDist
public import proofs.«01_k».proof.Proof.AttnParts
public import proofs.«01_k».proof.Proof.Common
public import proofs.«01_k».proof.Proof.Gen.AttnBwdIdeal.Value
public import Idealize.ShloMosaic.Lib.ValueLayout

@[expose] public section

set_option maxRecDepth 16384
set_option backward.isDefEq.respectTransparency false

noncomputable section

namespace Cert.AttnBwdIdeal.Real

open Cert.AttnBwdIdeal Cert.AttnBwdIdeal.Gen Cert.Step Cert.Attn Idealize.ShloMosaic Idealize.ShloMosaic.TcCoe Idealize.SL.Sem
open Idealize.ShloMosaic.StableHlo
open Idealize.ShloMosaic.ValueIdx (shapeCast_1a_a_apply)

variable (m : (ℓ : Loc nD τ sig) → Buf (Elt Ideal) ℓ) (c : Dev nD)

theorem V_v1 : V m c main_v1 = truncf (F := Ideal) .bf16 (shapeCast S8192x1024 (m ((c : Thread nD τ).loc main_arg0)) shapeCasts_S1x8192x1024_S8192x1024) bitsLt_bf16_f32 := by
  show StableHlo.after hostOps0 _ _ = _
  after_results
  rfl

theorem V_v3 : V m c main_v3 = truncf (F := Ideal) .bf16 (shapeCast S8192x256 (m ((c : Thread nD τ).loc main_arg1)) shapeCasts_S1x8192x256_S8192x256) bitsLt_bf16_f32 := by
  show StableHlo.after hostOps0 _ _ = _
  after_results
  rfl

theorem V_v5 : V m c main_v5 = truncf (F := Ideal) .bf16 (shapeCast S8192x1024 (m ((c : Thread nD τ).loc main_arg3)) shapeCasts_S1x8192x1024_S8192x1024) bitsLt_bf16_f32 := by
  show StableHlo.after hostOps0 _ _ = _
  after_results
  rfl

theorem V_v6 : V m c main_v6 = shapeCast S16 (m ((c : Thread nD τ).loc main_arg2)) shapeCasts_S1x16_S16 := by
  show StableHlo.after hostOps0 _ _ = _
  after_results
  rfl

theorem V_cst : V m c main_cst = fun i => FloatOps.ofBits (F := Ideal) .f32 (lit0 (S128x128.rowMajor i)) := by
  show StableHlo.after hostOps0 _ _ = _
  after_results
  rfl

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val - 1 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 := by decide +kernel

theorem first_bits : ∀ t : Fin cfg0.N, kernelRun0_B.sl.v39 (grid0.coords t) = bif t.val == 0 then 1#1 else 0#1 :=
  (by decide +kernel : ∀ t : Fin grid0.N, kernelRun0_B.sl.v39 (grid0.coords t) = bif t.val == 0 then 1#1 else 0#1)

variable (t : Fin cfg0.N)

theorem N64 : t.val < 64 := by have h : cfg0.N = 64 := N_0; have := t.isLt; omega

variable (A0 A1 A3 : ℕ → ℕ → ℝ) (SK : ℕ → ℝ)
variable (hA0 : ∀ (r : Fin 8192) (k : Fin 1024), m ((c : Thread nD τ).loc main_arg0) (ix3 0 r k) = ((A0 r.val k.val : ℝ) : EReal))
variable (hA1 : ∀ (r : Fin 8192) (k : Fin 256), m ((c : Thread nD τ).loc main_arg1) (ix3 0 r k) = ((A1 r.val k.val : ℝ) : EReal))
variable (hA3 : ∀ (r : Fin 8192) (k : Fin 1024), m ((c : Thread nD τ).loc main_arg3) (ix3 0 r k) = ((A3 r.val k.val : ℝ) : EReal))
variable (hSK : ∀ k : Fin 16, m ((c : Thread nD τ).loc main_arg2) (ix2 0 k) = ((SK k.val : ℝ) : EReal))

/-- The rows of block `n`. -/
def rowsAt (A : ℕ → ℕ → ℝ) (n : ℕ) (r : Fin 128) (l : ℕ) : ℝ := A (n * 128 + r.val) l

include hA0 in
theorem blk0 (r : Fin 128) (k : Fin 1024) : (iblk m c 0 t : Vec Ideal S128x1024 .bf16) (ix2 r k) = ((rowsAt A0 (t.val) r k.val : ℝ) : EReal) := by
  have hN := N64 t
  unfold iblk
  rw [View.read_apply]
  show V m c main_v1 _ = _
  rw [V_v1]
  refine (congrArg _ (show _ = ix2 (⟨(t.val) * 128 + r.val, by omega⟩ : Fin 8192) k from ?_)).trans ((slab_apply _ _ _ _).trans (hA0 _ _))
  funext a
  apply Fin.ext
  match a with
  | ⟨0, _⟩ => show win0_0.index t 0 * 128 + 1 * r.val = (t.val) * 128 + r.val; rw [(idx0 t).1]; omega
  | ⟨1, _⟩ => show win0_0.index t 1 * 1024 + 1 * k.val = k.val; rw [(idx0 t).2]; omega

include hA1 in
theorem blk1 (r : Fin 128) (k : Fin 256) : (iblk m c 1 t : Vec Ideal S128x256 .bf16) (ix2 r k) = ((rowsAt A1 (t.val) r k.val : ℝ) : EReal) := by
  have hN := N64 t
  unfold iblk
  rw [View.read_apply]
  show V m c main_v3 _ = _
  rw [V_v3]
  refine (congrArg _ (show _ = ix2 (⟨(t.val) * 128 + r.val, by omega⟩ : Fin 8192) k from ?_)).trans ((slab_apply _ _ _ _).trans (hA1 _ _))
  funext a
  apply Fin.ext
  match a with
  | ⟨0, _⟩ => show win0_1.index t 0 * 128 + 1 * r.val = (t.val) * 128 + r.val; rw [(idx1 t).1]; omega
  | ⟨1, _⟩ => show win0_1.index t 1 * 256 + 1 * k.val = k.val; rw [(idx1 t).2]; omega

include hA1 in
theorem blk2 (r : Fin 128) (k : Fin 256) : (iblk m c 2 t : Vec Ideal S128x256 .bf16) (ix2 r k) = ((rowsAt A1 (t.val - 1) r k.val : ℝ) : EReal) := by
  have hN := N64 t
  unfold iblk
  rw [View.read_apply]
  show V m c main_v3 _ = _
  rw [V_v3]
  refine (congrArg _ (show _ = ix2 (⟨(t.val - 1) * 128 + r.val, by omega⟩ : Fin 8192) k from ?_)).trans ((slab_apply _ _ _ _).trans (hA1 _ _))
  funext a
  apply Fin.ext
  match a with
  | ⟨0, _⟩ => show win0_2.index t 0 * 128 + 1 * r.val = (t.val - 1) * 128 + r.val; rw [(idx2 t).1]; omega
  | ⟨1, _⟩ => show win0_2.index t 1 * 256 + 1 * k.val = k.val; rw [(idx2 t).2]; omega

include hA3 in
theorem blk3 (r : Fin 128) (k : Fin 1024) : (iblk m c 3 t : Vec Ideal S128x1024 .bf16) (ix2 r k) = ((rowsAt A3 (t.val) r k.val : ℝ) : EReal) := by
  have hN := N64 t
  unfold iblk
  rw [View.read_apply]
  show V m c main_v5 _ = _
  rw [V_v5]
  refine (congrArg _ (show _ = ix2 (⟨(t.val) * 128 + r.val, by omega⟩ : Fin 8192) k from ?_)).trans ((slab_apply _ _ _ _).trans (hA3 _ _))
  funext a
  apply Fin.ext
  match a with
  | ⟨0, _⟩ => show win0_3.index t 0 * 128 + 1 * r.val = (t.val) * 128 + r.val; rw [(idx3 t).1]; omega
  | ⟨1, _⟩ => show win0_3.index t 1 * 1024 + 1 * k.val = k.val; rw [(idx3 t).2]; omega

theorem blk4 (r j : Fin 128) : (iblk m c 4 t : Vec Ideal S128x128 .f32) (ix2 r j) = (((r.val : ℝ) + 128 - (fc r j).val : ℝ) : EReal) := by
  unfold iblk
  rw [View.read_apply]
  show V m c main_cst _ = _
  rw [V_cst]
  refine (congrArg (fun i => FloatOps.ofBits (F := Ideal) .f32 (lit0 (S128x128.rowMajor i))) (show _ = ix2 r j from ?_)).trans ?_
  · funext a
    apply Fin.ext
    match a with
    | ⟨0, _⟩ => show win0_4.index t 0 * 128 + 1 * r.val = r.val; rw [(idx4 t).1]; omega
    | ⟨1, _⟩ => show win0_4.index t 1 * 128 + 1 * j.val = j.val; rw [(idx4 t).2]; omega
  · refine Eq.trans (congrArg (Ideal.ofBits .f32) ?_) (dist_lit r j)
    show lit0t (S128x128.rowMajor (ix2 r j)).val = _
    rw [Shape.rowMajor_val_two]
    rfl

include hSK in
theorem blk5 (h : ℕ) (hh : h < 16) : sinkAt (iblk m c 5 t : Vec Ideal S16 .f32) h = ((SK h : ℝ) : EReal) := by
  unfold sinkAt iblk
  rw [View.read_apply]
  show V m c main_v6 _ = _
  rw [V_v6]
  refine (congrArg _ (show _ = ix1 (⟨h, hh⟩ : Fin 16) from ?_)).trans ((shapeCast_1a_a_apply _ _ _).trans (hSK ⟨h, hh⟩))
  funext a
  apply Fin.ext
  match a with
  | ⟨0, _⟩ => show win0_5.index t 0 * 16 + 1 * (h % 16) = h; rw [idx5 t]; omega

end Cert.AttnBwdIdeal.Real
-- ==== Proof.AttnReal.lean ====
/-
  THE ATTENTION'S BACKWARD KERNEL over the reals: its softmax with a sink, the gradients of one head's scores, and the
  products over the lanes, from a block's real entries.
-/
module

public import proofs.«01_k».proof.Proof.AttnParts
public import proofs.«01_k».proof.Proof.AttnSpec
public import proofs.«01_k».proof.Proof.Common
public import Idealize.ShloMosaic.Lib.Pointwise

@[expose] public section

set_option maxRecDepth 16384
set_option backward.isDefEq.respectTransparency false

noncomputable section

namespace Cert.AttnBwdIdeal.Real

open Cert.AttnBwdIdeal Cert.AttnBwdIdeal.Gen Cert.Step Cert.Attn Idealize.ShloMosaic Idealize.ShloMosaic.TcCoe Idealize.SL.Sem
open Idealize.ShloMosaic.Pointwise

/-! ## The masks -/

theorem sle_bits : ∀ r j : Fin 128, IntOp.cmpi CmpIPredicate.sle (BitVec.ofNat 32 j.val) (BitVec.ofNat 32 r.val) = if j.val ≤ r.val then 1#1 else 0#1 := by
  decide +kernel

theorem slt_bits : ∀ l : Fin 128, IntOp.cmpi CmpIPredicate.slt (BitVec.ofNat 32 l.val) 64#32 = if l.val < 64 then 1#1 else 0#1 := by
  decide +kernel

theorem eq_bits : ∀ l n : Fin 128, IntOp.cmpi CmpIPredicate.eq (BitVec.ofNat 32 l.val) (BitVec.ofNat 32 n.val) = if l.val = n.val then 1#1 else 0#1 := by
  decide +kernel

theorem select_ite {A : Type} (p : Prop) [Decidable p] (a b : A) : Scalar.select (if p then 1#1 else 0#1) a b = if p then a else b := by
  split <;> rfl

theorem select_xor {A : Type} (p : Prop) [Decidable p] (a b : A) :
    Scalar.select (IntOp.xori (if p then 1#1 else 0#1) 1#1) a b = if p then b else a := by
  split <;> rfl

theorem ofBits_bot : Ideal.ofBits .f32 0xFF800000#32 = ⊥ := by simp [Ideal.ofBits, Ideal.ieee]

theorem ofBits_eighth : Ideal.ofBits .bf16 0x3E00#16 = (((1 : ℝ) / 8 : ℝ) : EReal) := by
  simp [Ideal.ofBits, Ideal.ieee, -EReal.coe_mul]; norm_num

theorem ofBits_eighth_f32 : Ideal.ofBits .f32 0x3E000000#32 = (((1 : ℝ) / 8 : ℝ) : EReal) := by
  simp [Ideal.ofBits, Ideal.ieee, -EReal.coe_mul]; norm_num

/-! ## One head's softmax -/

section Softmax

variable (f : Bool) (T D : Fin 128 → Fin 256 → ℝ) (k : ℝ)
variable (s : Vec Ideal S1x1x128x128 .f32) (d : Vec Ideal S1x1x128x128 .f32)
variable (hs : ∀ r j : Fin 128, s (ix4 0 0 r j) = if ok f r (fc r j) then ((T r (fc r j) : ℝ) : EReal) else ⊥)
variable (hd : ∀ r j : Fin 128, d (ix4 0 0 r j) = ((D r (fc r j) : ℝ) : EReal))

include hs in
theorem pay56 (r : Fin 128) : ∃ M : ℝ, k0_pay56 s (k : EReal) (ix2 r 0) = (M : EReal) := by
  unfold k0_pay56 k0_pay55
  pointwise []
  rw [ofBits_bot]
  exact max_real _ (fun j => by rw [hs]; split <;> simp) k

include hs in
theorem pay57 (r j : Fin 128) (M : ℝ) (hM : k0_pay56 s (k : EReal) (ix2 r 0) = (M : EReal)) :
    k0_pay57 s (k : EReal) (ix2 r j) = ((w f T r (fc r j) * Real.exp (-M) : ℝ) : EReal) := by
  unfold k0_pay57 k0_pay55
  revert hM
  generalize k0_pay56 s (k : EReal) = m
  intro hM
  pointwise []
  rw [hs, hM, exp_sub]
  rfl

theorem pay58 (r : Fin 128) (M : ℝ) (hM : k0_pay56 s (k : EReal) (ix2 r 0) = (M : EReal)) :
    k0_pay58 s (k : EReal) (ix2 r 0) = ((Real.exp k * Real.exp (-M) : ℝ) : EReal) := by
  unfold k0_pay58
  revert hM
  generalize k0_pay56 s (k : EReal) = m
  intro hM
  pointwise []
  rw [hM, ← EReal.coe_sub, Ideal.exp_coe, sub_eq_add_neg, Real.exp_add]

include hs in
theorem pay59 (r : Fin 128) (M : ℝ) (hM : k0_pay56 s (k : EReal) (ix2 r 0) = (M : EReal)) :
    k0_pay59 s (k : EReal) (ix2 r 0) = ((1 / (Zs f T k r * Real.exp (-M)) : ℝ) : EReal) := by
  have h57 := fun j => pay57 f T k s hs r j M hM
  have h58 := pay58 k s r M hM
  unfold k0_pay59
  revert h57 h58
  generalize k0_pay57 s (k : EReal) = a
  generalize k0_pay58 s (k : EReal) = b
  intro h57 h58
  pointwise []
  simp only [h57, h58, coe_sum, ← EReal.coe_add]
  have e : (∑ j, w f T r (fc r j) * Real.exp (-M)) + Real.exp k * Real.exp (-M) = Zs f T k r * Real.exp (-M) := by
    rw [← Finset.sum_mul, ← add_mul, sum_fc r (w f T r) fun c h => w_out f T r c (not_ok f r c h)]
    rfl
  rw [e, ← EReal.coe_one, Ideal.div_coe (ne_of_gt (mul_pos (Zs_pos f T k r) (Real.exp_pos _)))]
  rw [← EReal.coe_mul, one_mul, one_div]

include hs in
/-- The probabilities at a folded row. -/
theorem pay60 (r j : Fin 128) : k0_pay60 s (k : EReal) (ix2 r j) = ((P f T k r (fc r j) : ℝ) : EReal) := by
  obtain ⟨M, hM⟩ := pay56 f T k s hs r
  have h57 := pay57 f T k s hs r j M hM
  have h59 := pay59 f T k s hs r M hM
  unfold k0_pay60
  revert h57 h59
  generalize k0_pay57 s (k : EReal) = a
  generalize k0_pay59 s (k : EReal) = b
  intro h57 h59
  pointwise []
  rw [h57, h59, ← EReal.coe_mul]
  refine congrArg _ ?_
  have h1 := Zs_pos f T k r
  have h2 := Real.exp_pos (-M)
  unfold P
  field_simp

include hs in
/-- The sink's share. -/
theorem pay61 (r : Fin 128) : k0_pay61 s (k : EReal) (ix2 r 0) = ((Real.exp k / Zs f T k r : ℝ) : EReal) := by
  obtain ⟨M, hM⟩ := pay56 f T k s hs r
  have h58 := pay58 k s r M hM
  have h59 := pay59 f T k s hs r M hM
  unfold k0_pay61
  revert h58 h59
  generalize k0_pay58 s (k : EReal) = a
  generalize k0_pay59 s (k : EReal) = b
  intro h58 h59
  pointwise []
  rw [h58, h59, ← EReal.coe_mul]
  refine congrArg _ ?_
  have h1 := Zs_pos f T k r
  have h2 := Real.exp_pos (-M)
  field_simp

include hs hd in
theorem pay63 (r : Fin 128) : k0_pay63 s (k : EReal) d (ix2 r 0) = ((rd f T D k r : ℝ) : EReal) := by
  have h60 := fun j => pay60 f T k s hs r j
  unfold k0_pay63 k0_pay62
  revert h60
  generalize k0_pay60 s (k : EReal) = a
  intro h60
  pointwise []
  simp only [h60, hd, ← EReal.coe_mul, coe_sum]
  exact congrArg _ (sum_fc r (fun c => P f T k r c * D r c) fun c h => by rw [P_out f T k r c (not_ok f r c h), zero_mul])

include hs hd in
/-- The scores' cotangents at a folded row. -/
theorem pay65 (r j : Fin 128) : k0_pay65 s (k : EReal) d (ix2 r j) = ((dS f T D k r (fc r j) : ℝ) : EReal) := by
  have h60 := fun j => pay60 f T k s hs r j
  have h63 := pay63 f T D k s d hs hd r
  unfold k0_pay65 k0_pay62
  revert h60 h63
  generalize k0_pay60 s (k : EReal) = a
  generalize k0_pay63 s (k : EReal) d = b
  intro h60 h63
  pointwise []
  rw [h60, hd, h63, ← EReal.coe_sub, ← EReal.coe_mul]
  rfl

/-- A folded row put back at the band's columns. -/
theorem unfolded_apply (x : FVec Ideal S128x128 .f32) (g : Fin 128 → Fin 256 → ℝ) (hg : ∀ r c, ¬ (r.val < c.val ∧ c.val ≤ r.val + 128) → g r c = 0)
    (hx : ∀ r j, x (ix2 r j) = ((g r (fc r j) : ℝ) : EReal)) (r : Fin 128) (c : Fin 256) : unfolded x (ix4 0 0 r c) = ((g r c : ℝ) : EReal) := by
  unfold unfolded k0_pay6
  pointwise []
  have hr := r.isLt
  have hc := c.isLt
  split
  · next h =>
    have q := sle_bits r ⟨c.val, h⟩
    rw [show (BitVec.ofNat 32 c.val) = BitVec.ofNat 32 (⟨c.val, h⟩ : Fin 128).val from rfl, q, select_ite]
    split
    · next h' => rw [hg r c (by dsimp only at h'; omega)]; rfl
    · next h' =>
      rw [hx]
      unfold fc
      rw [if_neg h']
  · next h =>
    have q := sle_bits r ⟨c.val - 128, by omega⟩
    rw [show (BitVec.ofNat 32 (c.val - 128)) = BitVec.ofNat 32 (⟨c.val - 128, by omega⟩ : Fin 128).val from rfl, q, select_ite]
    split
    · next h' =>
      rw [hx]
      unfold fc
      rw [if_pos h']
      refine congrArg (fun t => ((g r t : ℝ) : EReal)) (Fin.ext ?_)
      show 128 + (c.val - 128) = c.val
      omega
    · next h' => rw [hg r c (by dsimp only at h'; omega)]; rfl

include hs in
theorem probsOf_apply (r : Fin 128) (c : Fin 256) : probsOf s (k : EReal) (ix4 0 0 r c) = ((P f T k r c : ℝ) : EReal) :=
  unfolded_apply _ (P f T k) (fun r c h => P_out f T k r c (not_ok f r c h)) (fun r j => pay60 f T k s hs r j) r c

include hs hd in
theorem dscoreOf_apply (r : Fin 128) (c : Fin 256) : dscoreOf s (k : EReal) d (ix4 0 0 r c) = ((dS f T D k r c : ℝ) : EReal) :=
  unfolded_apply _ (dS f T D k) (fun r c h => dS_out f T D k r c (not_ok f r c h)) (fun r j => pay65 f T D k s d hs hd r j) r c

include hs hd in
/-- The sinks' cotangents with this head's added. -/
theorem dsinkStep_apply (n : ℕ) (hn : n < 16) (acc : FVec Ideal S1x128 .f32) (l : Fin 128) :
    dsinkStep n acc s (k : EReal) d (ix2 0 l) = acc (ix2 0 l) + (if l.val = n then ((∑ r, dK f T D k r : ℝ) : EReal) else 0) := by
  have h61 := fun r => pay61 f T k s hs r
  have h63 := fun r => pay63 f T D k s d hs hd r
  unfold dsinkStep
  revert h61 h63
  generalize k0_pay61 s (k : EReal) = a
  generalize k0_pay63 s (k : EReal) d = b
  intro h61 h63
  pointwise []
  have q := eq_bits l ⟨n, by omega⟩
  dsimp only at q
  rw [q, select_ite]
  refine congrArg _ (if_congr Iff.rfl ?_ rfl)
  simp only [h61, h63, ← EReal.coe_zero, ← EReal.coe_sub, ← EReal.coe_mul, coe_sum, zero_sub]
  rfl

end Softmax

end Cert.AttnBwdIdeal.Real
-- ==== Proof.AttnLane.lean ====
/-
  THE ATTENTION'S BACKWARD KERNEL over the reals, its products over the lanes: two heads lie side by side in 128 lanes,
  and a head's product keeps its own 64.
-/
module

public import proofs.«01_k».proof.Proof.AttnReal

@[expose] public section

set_option maxRecDepth 16384
set_option backward.isDefEq.respectTransparency false

noncomputable section

namespace Cert.AttnBwdIdeal.Real

open Cert.AttnBwdIdeal Cert.AttnBwdIdeal.Gen Cert.Step Cert.Attn Idealize.ShloMosaic Idealize.ShloMosaic.TcCoe Idealize.SL.Sem
open Idealize.ShloMosaic.Pointwise

/-- Lane `d` of the even or the odd head. -/
def lane (odd : Bool) (d : Fin 64) : Fin 128 := ⟨(bif odd then 64 else 0) + d.val, by cases odd <;> simp <;> omega⟩

/-- A lane's place among its head's 64. -/
def half (l : Fin 128) : Fin 64 := ⟨l.val % 64, Nat.mod_lt _ (by decide)⟩

theorem half_lane (odd : Bool) (d : Fin 64) : half (lane odd d) = d := by
  cases odd <;> apply Fin.ext <;> simp [half, lane] <;> omega

theorem sum_halves {A : Type} [AddCommMonoid A] (g : Fin 128 → A) : ∑ x, g x = ∑ d, g (lane false d) + ∑ d, g (lane true d) := by
  rw [show ∑ x, g x = _ from Fin.sum_univ_add (a := 64) (b := 64) g]
  refine congrArg₂ (· + ·) (Finset.sum_congr rfl fun d _ => congrArg g (Fin.ext ?_)) (Finset.sum_congr rfl fun d _ => congrArg g (Fin.ext ?_))
  · simp [lane]
  · simp [lane, Nat.add_comm]

theorem sum_low {A : Type} [AddCommMonoid A] (g : Fin 128 → A) : (∑ x : Fin 128, if x.val < 64 then g x else 0) = ∑ d, g (lane false d) := by
  rw [sum_halves, Finset.sum_congr rfl (fun (d : Fin 64) _ => if_pos (show (lane false d).val < 64 by simp [lane])),
    Finset.sum_congr rfl (fun (d : Fin 64) _ => if_neg (show ¬ (lane true d).val < 64 by simp [lane])), Finset.sum_const_zero, add_zero]

theorem sum_high {A : Type} [AddCommMonoid A] (g : Fin 128 → A) : (∑ x : Fin 128, if x.val < 64 then 0 else g x) = ∑ d, g (lane true d) := by
  rw [sum_halves, Finset.sum_congr rfl (fun (d : Fin 64) _ => if_pos (show (lane false d).val < 64 by simp [lane])),
    Finset.sum_congr rfl (fun (d : Fin 64) _ => if_neg (show ¬ (lane true d).val < 64 by simp [lane])), Finset.sum_const_zero, zero_add]

variable (odd : Bool) (x : Vec Ideal S128x128 .bf16) (kk : FVec Ideal S256x128 .bf16)
variable (a : Fin 128 → Fin 64 → ℝ) (K : Fin 256 → Fin 64 → ℝ)
variable (hx : ∀ r d, x (ix2 r (lane odd d)) = ((a r d : ℝ) : EReal)) (hk : ∀ c l, kk (ix2 c l) = ((K c (half l) : ℝ) : EReal))

include hx hk in
/-- A head's folded scores. -/
theorem score_apply (f : Bool) (b : BitVec 32) (dist : Vec Ideal S128x128 .f32) (sl : ℝ) (hsl : Ideal.ofBits .f32 b = ((sl : ℝ) : EReal))
    (hdist : ∀ r j : Fin 128, dist (ix2 r j) = (((r.val : ℝ) + 128 - (fc r j).val : ℝ) : EReal)) (r j : Fin 128) :
    score odd b dist kk (bif f then 1#1 else 0#1) x (ix4 0 0 r j)
      = if ok f r (fc r j) then (((∑ d, a r d * K (fc r j) d) / 8 - sl * ((r.val : ℝ) + 128 - (fc r j).val) : ℝ) : EReal) else ⊥ := by
  have key : ∀ c : Fin 256, (∑ d, x (ix2 r (lane odd d)) * Ideal.ofBits .bf16 0x3E00#16 * kk (ix2 c (lane odd d)))
      = (((∑ d, a r d * K c d) / 8 : ℝ) : EReal) := by
    intro c
    simp only [hx, hk, half_lane, ofBits_eighth, ← EReal.coe_mul, coe_sum]
    refine congrArg _ ?_
    rw [Finset.sum_div]
    exact Finset.sum_congr rfl fun d _ => by ring
  have e1 : score odd b dist kk (bif f then 1#1 else 0#1) x (ix4 0 0 r j)
      = (if j.val ≤ r.val then ∑ d, x (ix2 r (lane odd d)) * Ideal.ofBits .bf16 0x3E00#16 * kk (ix2 (⟨128 + j.val, by omega⟩ : Fin 256) (lane odd d))
        else (if f = true then ⊥ else ∑ d, x (ix2 r (lane odd d)) * Ideal.ofBits .bf16 0x3E00#16 * kk (ix2 (⟨j.val, by omega⟩ : Fin 256) (lane odd d))))
        - Ideal.ofBits .f32 b * dist (ix2 r j) := by
    unfold score keep lanes k0_pay6
    cases odd <;> dsimp only [cond]
    · pointwise []
      simp only [sle_bits, slt_bits, select_ite, select_xor, ofBits_bot]
      rw [sum_low, sum_low]
      cases f <;> rfl
    · pointwise []
      simp only [sle_bits, slt_bits, select_ite, select_xor, ofBits_bot]
      rw [sum_high, sum_high]
      cases f <;> rfl
  rw [e1, hsl, hdist, ← EReal.coe_mul]
  have hok := ok_fc f r j
  by_cases h : j.val ≤ r.val
  · rw [if_pos h, if_pos (hok.2 (Or.inl h)), key, ← EReal.coe_sub]
    unfold fc
    rw [if_pos h]
  · rw [if_neg h]
    cases f
    · rw [if_neg (by simp), if_pos (hok.2 (Or.inr rfl)), key, ← EReal.coe_sub]
      unfold fc
      rw [if_neg h]
    · rw [if_pos rfl, if_neg (fun q => (hok.1 q).elim h (by simp)), EReal.bot_sub]

include hx hk in
/-- A head's folded cotangents of the probabilities. -/
theorem dprob_apply (r j : Fin 128) : dprob odd kk x (ix4 0 0 r j) = ((∑ d, a r d * K (fc r j) d : ℝ) : EReal) := by
  have key : ∀ c : Fin 256, (∑ d, x (ix2 r (lane odd d)) * kk (ix2 c (lane odd d))) = ((∑ d, a r d * K c d : ℝ) : EReal) := by
    intro c
    simp only [hx, hk, half_lane, ← EReal.coe_mul, coe_sum]
  have e1 : dprob odd kk x (ix4 0 0 r j)
      = if j.val ≤ r.val then ∑ d, x (ix2 r (lane odd d)) * kk (ix2 (⟨128 + j.val, by omega⟩ : Fin 256) (lane odd d))
        else ∑ d, x (ix2 r (lane odd d)) * kk (ix2 (⟨j.val, by omega⟩ : Fin 256) (lane odd d)) := by
    unfold dprob keep lanes k0_pay6
    cases odd <;> dsimp only [cond]
    · pointwise []
      simp only [sle_bits, slt_bits, select_ite, select_xor]
      rw [sum_low, sum_low]
    · pointwise []
      simp only [sle_bits, slt_bits, select_ite, select_xor]
      rw [sum_high, sum_high]
  rw [e1]
  unfold fc
  split
  · exact key _
  · exact key _

/-- One head added to a transposed gradient: only its own rows grow. -/
theorem bandStep_apply (acc : FVec Ideal S128x256 .f32) (xT : FVec Ideal S128x128 .bf16) (p : Vec Ideal S1x1x128x256 .bf16)
    (l : Fin 128) (c : Fin 256) : bandStep odd acc xT p (ix2 l c)
      = acc (ix2 l c) + if (64 ≤ l.val) = (odd = true) then ∑ r, xT (ix2 l r) * p (ix4 0 0 r c) else 0 := by
  unfold bandStep rowsOf
  cases odd <;> dsimp only [cond]
  · pointwise []
    refine congrArg _ ?_
    simp only [slt_bits]
    by_cases h : l.val < 64
    · rw [if_pos h, if_pos (by simp; omega)]; exact Finset.sum_congr rfl fun _ _ => rfl
    · rw [if_neg h, if_neg (by simp; omega)]; exact Finset.sum_const_zero
  · pointwise []
    refine congrArg _ ?_
    simp only [slt_bits]
    by_cases h : l.val < 64
    · rw [if_pos h, if_neg (by simp; omega)]; exact Finset.sum_const_zero
    · rw [if_neg h, if_pos (by simp; omega)]; exact Finset.sum_congr rfl fun _ _ => rfl

/-- The heads of a key/value head added up, over the reals. -/
theorem bandSum_apply (X : ℕ → FVec Ideal S128x128 .bf16) (p : ℕ → Vec Ideal S1x1x128x256 .bf16) (A : ℕ → Fin 128 → Fin 64 → ℝ)
    (B : ℕ → Fin 128 → Fin 256 → ℝ) (N : ℕ)
    (hX : ∀ n < N, ∀ (d : Fin 64) (r : Fin 128), X n (ix2 (lane (n % 2 == 1) d) r) = ((A n r d : ℝ) : EReal))
    (hp : ∀ n < N, ∀ (r : Fin 128) (c : Fin 256), p n (ix4 0 0 r c) = ((B n r c : ℝ) : EReal)) (odd : Bool) (d : Fin 64) (c : Fin 256) :
    bandSum X p N (ix2 (lane odd d) c)
      = ((∑ n ∈ Finset.range N, if (n % 2 == 1) = odd then ∑ r, A n r d * B n r c else 0 : ℝ) : EReal) := by
  induction N with
  | zero =>
    show bandSum X p 0 _ = _
    unfold bandSum
    pointwise []
    simp
  | succ N ih =>
    unfold bandSum
    rw [bandStep_apply, ih (fun n hn => hX n (by omega)) (fun n hn => hp n (by omega)), Finset.sum_range_succ, EReal.coe_add]
    refine congrArg _ ?_
    have hl : ((64 ≤ (lane odd d).val) = ((N % 2 == 1) = true)) ↔ (N % 2 == 1) = odd := by
      cases odd <;> cases hh : (N % 2 == 1) <;> simp [lane]
    rw [if_congr hl rfl rfl]
    by_cases h : (N % 2 == 1) = odd
    · rw [if_pos h, if_pos h]
      simp only [hp N (by omega)]
      rw [← h]
      simp only [hX N (by omega), ← EReal.coe_mul, coe_sum]
    · rw [if_neg h, if_neg h, EReal.coe_zero]

/-- The two halves added: every head of the key/value head, at the lane's place among 64. -/
theorem folded_apply (x : FVec Ideal S128x256 .f32) (g : Bool → Fin 64 → Fin 256 → ℝ)
    (hx : ∀ odd d c, x (ix2 (lane odd d) c) = ((g odd d c : ℝ) : EReal)) (l : Fin 128) (c : Fin 256) :
    folded x (ix2 c l) = ((g false (half l) c + g true (half l) c : ℝ) : EReal) := by
  unfold folded
  pointwise []
  by_cases h : l.val < 64
  · have e1 : l = lane false (half l) := Fin.ext (by simp [lane, half]; omega)
    have e2 : (⟨(l.val + 128 - 64) % 128, Nat.mod_lt _ (by decide)⟩ : Fin 128) = lane true (half l) := Fin.ext (by simp [lane, half]; omega)
    rw [e2, hx, EReal.coe_add]
    refine congrArg (· + _) ?_
    conv_lhs => rw [e1]
    exact hx _ _ _
  · have e1 : l = lane true (half l) := Fin.ext (by simp [lane, half]; omega)
    have e2 : (⟨(l.val + 128 - 64) % 128, Nat.mod_lt _ (by decide)⟩ : Fin 128) = lane false (half l) := Fin.ext (by simp [lane, half]; omega)
    rw [e2, hx, add_comm (g _ _ _), EReal.coe_add]
    refine congrArg (· + _) ?_
    conv_lhs => rw [e1]
    exact hx _ _ _

/-- A key/value head's gradient from its eight heads. -/
theorem folded_bandSum (X : ℕ → FVec Ideal S128x128 .bf16) (p : ℕ → Vec Ideal S1x1x128x256 .bf16) (A : ℕ → Fin 128 → Fin 64 → ℝ)
    (B : ℕ → Fin 128 → Fin 256 → ℝ) (N : ℕ)
    (hX : ∀ n < N, ∀ (d : Fin 64) (r : Fin 128), X n (ix2 (lane (n % 2 == 1) d) r) = ((A n r d : ℝ) : EReal))
    (hp : ∀ n < N, ∀ (r : Fin 128) (c : Fin 256), p n (ix4 0 0 r c) = ((B n r c : ℝ) : EReal)) (l : Fin 128) (c : Fin 256) :
    folded (bandSum X p N) (ix2 c l) = ((∑ n ∈ Finset.range N, ∑ r, A n r (half l) * B n r c : ℝ) : EReal) := by
  rw [folded_apply _ _ (bandSum_apply X p A B N hX hp), ← Finset.sum_add_distrib]
  refine congrArg _ (Finset.sum_congr rfl fun n _ => ?_)
  cases hh : (n % 2 == 1) <;> simp

theorem qT_apply (x : Vec Ideal S128x128 .bf16) (l r : Fin 128) : qT x (ix2 l r) = x (ix2 r l) * (((1 : ℝ) / 8 : ℝ) : EReal) := by
  unfold qT
  pointwise []
  rw [ofBits_eighth]

theorem doT_apply (x : Vec Ideal S128x128 .bf16) (l r : Fin 128) : doT x (ix2 l r) = x (ix2 r l) := by
  unfold doT
  pointwise []

include hk in
/-- A pair of heads' gradient of the queries. -/
theorem dqPair_apply (p q : Vec Ideal S1x1x128x256 .bf16) (g : Bool → Fin 128 → Fin 256 → ℝ)
    (hp : ∀ r c, p (ix4 0 0 r c) = ((g false r c : ℝ) : EReal)) (hq : ∀ r c, q (ix4 0 0 r c) = ((g true r c : ℝ) : EReal)) (r : Fin 128) (d : Fin 64) :
    dqPair kk p q (ix2 r (lane odd d)) = (((∑ c, g odd r c * K c d) / 8 : ℝ) : EReal) := by
  unfold dqPair dqHead
  pointwise []
  simp only [slt_bits, select_ite, hp, hq, hk, half_lane, ofBits_eighth_f32, ← EReal.coe_mul, coe_sum]
  cases odd
  · rw [if_pos (by simp [lane]), ← EReal.coe_mul]
    exact congrArg _ (by ring)
  · rw [if_neg (by simp [lane]), ← EReal.coe_mul]
    exact congrArg _ (by ring)

end Cert.AttnBwdIdeal.Real
-- ==== Proof.AttnWords.lean ====
/-
  THE ATTENTION'S BACKWARD KERNEL, what its body reads back from its scratch buffers: head by head the functions of
  AttnParts.lean at the blocks the grid point holds.
-/
module

public import proofs.«01_k».proof.Proof.AttnParts
public import proofs.«01_k».proof.Proof.Gen.AttnBwdIdeal.Frame.RunA
public import proofs.«01_k».proof.Proof.Gen.AttnBwdIdeal.Frame.RunB
public import Idealize.ShloMosaic.Lib.Pipeline.Value
public import Idealize.ShloMosaic.Lib.Tactic

@[expose] public section

set_option maxRecDepth 16384

noncomputable section

namespace Cert.AttnBwdIdeal.Real

open Cert.AttnBwdIdeal Cert.AttnBwdIdeal.Gen Cert.AttnBwdIdeal.Gen.kernelRun0_B.sl Idealize.ShloMosaic Idealize.ShloMosaic.TcCoe Idealize.SL.Sem

theorem hz2 : (![0, 0] : Fin 2 → Nat) = fun _ => 0 := funext fun a => by fin_cases a <;> rfl

/-- A box read from a scratch buffer whose last store went to another one. -/
theorem readCov_skip {F : FTy → Type} [FloatOps F] {e : EltTy} {s : Shape} {κ : Kind} {sp : Space} {sig : RefSig} (v : View sig κ sp s e)
    {off off' size : Fin s.rank → ℕ} (inb inb') (w : (Rect.unit off size inb).shape.Idx → Elt F e) (L : List (View.Piece (Elt F) s e))
    (h : ∃ a, off' a + size a ≤ off a ∨ off a + size a ≤ off' a) :
    v.readCov (⟨Rect.unit off size inb, w⟩ :: L) (Rect.unit off' size inb').toLoadRect = v.readCov L (Rect.unit off' size inb').toLoadRect :=
  View.readCov_cons_of_disjoint _ _ _ _ (Rect.unit_disjoint (inb := inb) (inb' := inb') h.choose (by exact h.choose_spec.symm))
variable {F : FTy → Type} [FloatOps F]
variable {c : Dev nD} {i : grid0.Coords}
variable {arg1 : Memref sig .tc .vmem S128x1024 .bf16} {harg1 : arg1.IsWhole} {arg2 : Memref sig .tc .vmem S128x256 .bf16} {harg2 : arg2.IsWhole}
  {arg3 : Memref sig .tc .vmem S128x256 .bf16} {harg3 : arg3.IsWhole} {arg4 : Memref sig .tc .vmem S128x1024 .bf16} {harg4 : arg4.IsWhole}
  {arg5 : Memref sig .tc .vmem S128x128 .f32} {harg5 : arg5.IsWhole} {arg6 : Memref sig .tc .smem S16 .f32} {harg6 : arg6.IsWhole}
  {arg11 : Memref sig .tc .vmem S1x16x128x128 .f32} {arg12 : Memref sig .tc .vmem S1x16x128x128 .f32}
  {arg13 : Memref sig .tc .vmem S1x16x128x256 .bf16} {arg14 : Memref sig .tc .vmem S1x16x128x256 .bf16}
  {x0 : Vec F S128x1024 .bf16} {x1 x2 : Vec F S128x256 .bf16} {x3 : Vec F S128x1024 .bf16} {x4 : Vec F S128x128 .f32} {x5 : Vec F S16 .f32}

/-- Columns of a block: 128 lanes from lane `off 1` on. -/
theorem ld_cols {w : ℕ} {e : EltTy} (x : Shape.Idx ⟨2, ![128, w]⟩ → Elt F e) (off : Fin 2 → ℕ) (inb) (h : off 0 = 0) (y : S128x128.Idx) :
    View.ld x (Rect.unit (s := ⟨2, ![128, w]⟩) off S128x128.size inb) y
      = x (ix2 (y 0) ⟨(off 1 + (y 1).val) % w, Nat.mod_lt _ (by have := inb 1; simp [S128x128] at this; omega)⟩) := by
  have h1 : off 1 + 128 ≤ w := by have := inb 1; simpa [S128x128] using this
  have hy : (y 1).val < 128 := (y 1).isLt
  rw [View.ld_unit]
  refine extractStridedSlice_apply _ _ _ _ _ fun a => ?_
  match a with
  | 0 => show (y 0).val = off 0 + (y 0).val; omega
  | 1 => show (off 1 + (y 1).val) % w = off 1 + (y 1).val; exact Nat.mod_eq_of_lt (by omega)

theorem ld_q (off : Fin 2 → ℕ) (inb) (h : off 0 = 0) :
    View.readAt (Elt F) arg1.view (Rect.unit (s := S128x1024) off S128x128.size inb).toLoadRect (harg1.unread x0)
      = tile x0 (off 1) := by
  rw [View.readAt_eq_ld, harg1.read_unread]
  exact funext fun y => ld_cols x0 off inb h y

theorem ld_kv (off : Fin 2 → ℕ) (inb) (h : off 0 = 0) :
    View.readAt (Elt F) arg2.view (Rect.unit (s := S128x256) off S128x128.size inb).toLoadRect (harg2.unread x1)
      = kvTile x1 (off 1) := by
  rw [View.readAt_eq_ld, harg2.read_unread]
  exact funext fun y => ld_cols x1 off inb h y

theorem ld_prev (inb) :
    View.readAt (Elt F) arg3.view (Rect.unit (s := S128x256) ![0, 0] S128x256.size inb).toLoadRect (harg3.unread x2) = x2 := by
  rw [View.readAt_eq_ld, harg3.read_unread, View.ld_unit_zero (S := S128x256) hz2]

theorem ld_dist (inb) :
    View.readAt (Elt F) arg5.view (Rect.unit (s := S128x128) ![0, 0] S128x128.size inb).toLoadRect (harg5.unread x4) = x4 := by
  rw [View.readAt_eq_ld, harg5.read_unread, View.ld_unit_zero (S := S128x128) hz2]

theorem ld_sink (off : Fin 1 → ℕ) (inb) :
    View.readAt (Elt F) arg6.view (Rect.unit (s := S16) off S1.size inb).toLoadRect (harg6.unread x5)
      = fun _ => sinkAt x5 (off 0) := by
  rw [View.readAt_eq_ld, harg6.read_unread]
  have h1 : off 0 + 1 ≤ 16 := inb 0
  rw [View.ld_unit]
  refine funext fun y => extractStridedSlice_apply _ _ _ _ _ fun a => ?_
  have hy : (y 0).val < 1 := (y 0).isLt
  match a with
  | 0 => show off 0 % 16 = off 0 + (y 0).val; omega

/-- The sinks, head by head. -/
theorem sink_words :
    r_13 c arg6 harg6 x5 = sinkAt x5 0
    ∧ r_17 c arg6 harg6 x5 = sinkAt x5 1
    ∧ r_22 c arg6 harg6 x5 = sinkAt x5 2
    ∧ r_26 c arg6 harg6 x5 = sinkAt x5 3
    ∧ r_32 c arg6 harg6 x5 = sinkAt x5 4
    ∧ r_39 c arg6 harg6 x5 = sinkAt x5 5
    ∧ r_46 c arg6 harg6 x5 = sinkAt x5 6
    ∧ r_51 c arg6 harg6 x5 = sinkAt x5 7
    ∧ r_58 c arg6 harg6 x5 = sinkAt x5 8
    ∧ r_64 c arg6 harg6 x5 = sinkAt x5 9
    ∧ r_68 c arg6 harg6 x5 = sinkAt x5 10
    ∧ r_74 c arg6 harg6 x5 = sinkAt x5 11
    ∧ r_80 c arg6 harg6 x5 = sinkAt x5 12
    ∧ r_88 c arg6 harg6 x5 = sinkAt x5 13
    ∧ r_93 c arg6 harg6 x5 = sinkAt x5 14
    ∧ r_100 c arg6 harg6 x5 = sinkAt x5 15 := by
  refine ⟨?_, ?_, ?_, ?_, ?_, ?_, ?_, ?_, ?_, ?_, ?_, ?_, ?_, ?_, ?_, ?_⟩ <;> exact congrFun (ld_sink _ _) _

/-- The scores, as the softmax's loop reads them back. -/
theorem s_words :
    v617 c i arg1 harg1 arg2 harg2 arg3 harg3 arg5 harg5 arg11 x0 x1 x2 x4 = sOf (v39 i) x0 x1 x2 x4 0
    ∧ v674 c i arg1 harg1 arg2 harg2 arg3 harg3 arg5 harg5 arg11 x0 x1 x2 x4 = sOf (v39 i) x0 x1 x2 x4 1
    ∧ v731 c i arg1 harg1 arg2 harg2 arg3 harg3 arg5 harg5 arg11 x0 x1 x2 x4 = sOf (v39 i) x0 x1 x2 x4 2
    ∧ v788 c i arg1 harg1 arg2 harg2 arg3 harg3 arg5 harg5 arg11 x0 x1 x2 x4 = sOf (v39 i) x0 x1 x2 x4 3
    ∧ v845 c i arg1 harg1 arg2 harg2 arg3 harg3 arg5 harg5 arg11 x0 x1 x2 x4 = sOf (v39 i) x0 x1 x2 x4 4
    ∧ v902 c i arg1 harg1 arg2 harg2 arg3 harg3 arg5 harg5 arg11 x0 x1 x2 x4 = sOf (v39 i) x0 x1 x2 x4 5
    ∧ v959 c i arg1 harg1 arg2 harg2 arg3 harg3 arg5 harg5 arg11 x0 x1 x2 x4 = sOf (v39 i) x0 x1 x2 x4 6
    ∧ v1016 c i arg1 harg1 arg2 harg2 arg3 harg3 arg5 harg5 arg11 x0 x1 x2 x4 = sOf (v39 i) x0 x1 x2 x4 7
    ∧ v1073 c i arg1 harg1 arg2 harg2 arg3 harg3 arg5 harg5 arg11 x0 x1 x2 x4 = sOf (v39 i) x0 x1 x2 x4 8
    ∧ v1130 c i arg1 harg1 arg2 harg2 arg3 harg3 arg5 harg5 arg11 x0 x1 x2 x4 = sOf (v39 i) x0 x1 x2 x4 9
    ∧ v1187 c i arg1 harg1 arg2 harg2 arg3 harg3 arg5 harg5 arg11 x0 x1 x2 x4 = sOf (v39 i) x0 x1 x2 x4 10
    ∧ v1244 c i arg1 harg1 arg2 harg2 arg3 harg3 arg5 harg5 arg11 x0 x1 x2 x4 = sOf (v39 i) x0 x1 x2 x4 11
    ∧ v1301 c i arg1 harg1 arg2 harg2 arg3 harg3 arg5 harg5 arg11 x0 x1 x2 x4 = sOf (v39 i) x0 x1 x2 x4 12
    ∧ v1358 c i arg1 harg1 arg2 harg2 arg3 harg3 arg5 harg5 arg11 x0 x1 x2 x4 = sOf (v39 i) x0 x1 x2 x4 13
    ∧ v1415 c i arg1 harg1 arg2 harg2 arg3 harg3 arg5 harg5 arg11 x0 x1 x2 x4 = sOf (v39 i) x0 x1 x2 x4 14
    ∧ v1472 c i arg1 harg1 arg2 harg2 arg3 harg3 arg5 harg5 arg11 x0 x1 x2 x4 = sOf (v39 i) x0 x1 x2 x4 15 := by
  refine ⟨?_, ?_, ?_, ?_, ?_, ?_, ?_, ?_, ?_, ?_, ?_, ?_, ?_, ?_, ?_, ?_⟩ <;>
    simp (disch := decide) only [v617, v674, v731, v788, v845, v902, v959, v1016, v1073, v1130, v1187, v1244, v1301, v1358, v1415, v1472, HS0_16, readCov_skip] <;>
    rw [View.readCov_cons_toLoadRect] <;>
    simp only [r, r_1, r_2] <;>
    rw [ld_q _ _ rfl, ld_kv _ _ rfl, ld_prev, ld_dist] <;>
    rfl

/-- The probabilities' cotangents, as the softmax's loop reads them back. -/
theorem dp_words :
    v638 c arg2 harg2 arg3 harg3 arg4 harg4 arg12 x1 x2 x3 = dpOf x1 x2 x3 0
    ∧ v695 c arg2 harg2 arg3 harg3 arg4 harg4 arg12 x1 x2 x3 = dpOf x1 x2 x3 1
    ∧ v752 c arg2 harg2 arg3 harg3 arg4 harg4 arg12 x1 x2 x3 = dpOf x1 x2 x3 2
    ∧ v809 c arg2 harg2 arg3 harg3 arg4 harg4 arg12 x1 x2 x3 = dpOf x1 x2 x3 3
    ∧ v866 c arg2 harg2 arg3 harg3 arg4 harg4 arg12 x1 x2 x3 = dpOf x1 x2 x3 4
    ∧ v923 c arg2 harg2 arg3 harg3 arg4 harg4 arg12 x1 x2 x3 = dpOf x1 x2 x3 5
    ∧ v980 c arg2 harg2 arg3 harg3 arg4 harg4 arg12 x1 x2 x3 = dpOf x1 x2 x3 6
    ∧ v1037 c arg2 harg2 arg3 harg3 arg4 harg4 arg12 x1 x2 x3 = dpOf x1 x2 x3 7
    ∧ v1094 c arg2 harg2 arg3 harg3 arg4 harg4 arg12 x1 x2 x3 = dpOf x1 x2 x3 8
    ∧ v1151 c arg2 harg2 arg3 harg3 arg4 harg4 arg12 x1 x2 x3 = dpOf x1 x2 x3 9
    ∧ v1208 c arg2 harg2 arg3 harg3 arg4 harg4 arg12 x1 x2 x3 = dpOf x1 x2 x3 10
    ∧ v1265 c arg2 harg2 arg3 harg3 arg4 harg4 arg12 x1 x2 x3 = dpOf x1 x2 x3 11
    ∧ v1322 c arg2 harg2 arg3 harg3 arg4 harg4 arg12 x1 x2 x3 = dpOf x1 x2 x3 12
    ∧ v1379 c arg2 harg2 arg3 harg3 arg4 harg4 arg12 x1 x2 x3 = dpOf x1 x2 x3 13
    ∧ v1436 c arg2 harg2 arg3 harg3 arg4 harg4 arg12 x1 x2 x3 = dpOf x1 x2 x3 14
    ∧ v1493 c arg2 harg2 arg3 harg3 arg4 harg4 arg12 x1 x2 x3 = dpOf x1 x2 x3 15 := by
  refine ⟨?_, ?_, ?_, ?_, ?_, ?_, ?_, ?_, ?_, ?_, ?_, ?_, ?_, ?_, ?_, ?_⟩ <;>
    simp (disch := decide) only [v638, v695, v752, v809, v866, v923, v980, v1037, v1094, v1151, v1208, v1265, v1322, v1379, v1436, v1493, HS1_16, readCov_skip] <;>
    rw [View.readCov_cons_toLoadRect] <;>
    simp only [r_3, r_4, r_5, r_6, r_7, r_8, r_9, r_10, r_11, r_12] <;>
    rw [ld_q _ _ rfl, ld_kv _ _ rfl, ld_prev] <;>
    rfl

/-- The probabilities, as the gradients' loop reads them back. -/
theorem p_words :
    v1548 c i arg1 harg1 arg2 harg2 arg3 harg3 arg5 harg5 arg6 harg6 arg11 arg13 x0 x1 x2 x4 x5 = pOf (v39 i) x0 x1 x2 x4 x5 0
    ∧ v1570 c i arg1 harg1 arg2 harg2 arg3 harg3 arg5 harg5 arg6 harg6 arg11 arg13 x0 x1 x2 x4 x5 = pOf (v39 i) x0 x1 x2 x4 x5 1
    ∧ v1608 c i arg1 harg1 arg2 harg2 arg3 harg3 arg5 harg5 arg6 harg6 arg11 arg13 x0 x1 x2 x4 x5 = pOf (v39 i) x0 x1 x2 x4 x5 2
    ∧ v1630 c i arg1 harg1 arg2 harg2 arg3 harg3 arg5 harg5 arg6 harg6 arg11 arg13 x0 x1 x2 x4 x5 = pOf (v39 i) x0 x1 x2 x4 x5 3
    ∧ v1668 c i arg1 harg1 arg2 harg2 arg3 harg3 arg5 harg5 arg6 harg6 arg11 arg13 x0 x1 x2 x4 x5 = pOf (v39 i) x0 x1 x2 x4 x5 4
    ∧ v1690 c i arg1 harg1 arg2 harg2 arg3 harg3 arg5 harg5 arg6 harg6 arg11 arg13 x0 x1 x2 x4 x5 = pOf (v39 i) x0 x1 x2 x4 x5 5
    ∧ v1728 c i arg1 harg1 arg2 harg2 arg3 harg3 arg5 harg5 arg6 harg6 arg11 arg13 x0 x1 x2 x4 x5 = pOf (v39 i) x0 x1 x2 x4 x5 6
    ∧ v1750 c i arg1 harg1 arg2 harg2 arg3 harg3 arg5 harg5 arg6 harg6 arg11 arg13 x0 x1 x2 x4 x5 = pOf (v39 i) x0 x1 x2 x4 x5 7
    ∧ v1796 c i arg1 harg1 arg2 harg2 arg3 harg3 arg5 harg5 arg6 harg6 arg11 arg13 x0 x1 x2 x4 x5 = pOf (v39 i) x0 x1 x2 x4 x5 8
    ∧ v1818 c i arg1 harg1 arg2 harg2 arg3 harg3 arg5 harg5 arg6 harg6 arg11 arg13 x0 x1 x2 x4 x5 = pOf (v39 i) x0 x1 x2 x4 x5 9
    ∧ v1856 c i arg1 harg1 arg2 harg2 arg3 harg3 arg5 harg5 arg6 harg6 arg11 arg13 x0 x1 x2 x4 x5 = pOf (v39 i) x0 x1 x2 x4 x5 10
    ∧ v1878 c i arg1 harg1 arg2 harg2 arg3 harg3 arg5 harg5 arg6 harg6 arg11 arg13 x0 x1 x2 x4 x5 = pOf (v39 i) x0 x1 x2 x4 x5 11
    ∧ v1916 c i arg1 harg1 arg2 harg2 arg3 harg3 arg5 harg5 arg6 harg6 arg11 arg13 x0 x1 x2 x4 x5 = pOf (v39 i) x0 x1 x2 x4 x5 12
    ∧ v1938 c i arg1 harg1 arg2 harg2 arg3 harg3 arg5 harg5 arg6 harg6 arg11 arg13 x0 x1 x2 x4 x5 = pOf (v39 i) x0 x1 x2 x4 x5 13
    ∧ v1976 c i arg1 harg1 arg2 harg2 arg3 harg3 arg5 harg5 arg6 harg6 arg11 arg13 x0 x1 x2 x4 x5 = pOf (v39 i) x0 x1 x2 x4 x5 14
    ∧ v1998 c i arg1 harg1 arg2 harg2 arg3 harg3 arg5 harg5 arg6 harg6 arg11 arg13 x0 x1 x2 x4 x5 = pOf (v39 i) x0 x1 x2 x4 x5 15 := by
  refine ⟨?_, ?_, ?_, ?_, ?_, ?_, ?_, ?_, ?_, ?_, ?_, ?_, ?_, ?_, ?_, ?_⟩ <;>
    simp (disch := decide) only [v1548, v1570, v1608, v1630, v1668, v1690, v1728, v1750, v1796, v1818, v1856, v1878, v1916, v1938, v1976, v1998, HS2_16, readCov_skip] <;>
    rw [View.readCov_cons_toLoadRect] <;>
    simp (disch := rfl) only [r_5, r_6, r_7, r_8, r_9, r_10, r_11, r_12, r_14, r_15, r_16, r_18, r_19, r_20, r_21, r_23, r_24, r_25, r_27, r_28, r_29, r_30, r_31, r_33, r_34, r_35, r_36, r_37, r_38, r_40, r_41, r_42, r_43, r_44, r_45, r_47, r_48, r_49, r_50, r_52, r_53, r_54, r_55, r_56, r_57, r_59, r_60, r_61, r_62, r_63, r_65, r_66, r_67, r_69, r_70, r_71, r_72, r_73, r_75, r_76, r_77, r_78, r_79, r_81, r_82, r_83, r_84, r_85, r_86, r_87, r_89, r_90, r_91, r_92, r_94, r_95, r_96, r_97, r_98, r_99, r_101, r_102, r_103, r_104, r_105, sink_words, s_words] <;>
    rfl

set_option maxHeartbeats 8000000 in
/-- The scores' cotangents, as the gradients' loop reads them back. -/
theorem ds_words :
    v1554 c i arg1 harg1 arg2 harg2 arg3 harg3 arg4 harg4 arg5 harg5 arg6 harg6 arg11 arg12 arg14 x0 x1 x2 x3 x4 x5 = dsOf (v39 i) x0 x1 x2 x3 x4 x5 0
    ∧ v1576 c i arg1 harg1 arg2 harg2 arg3 harg3 arg4 harg4 arg5 harg5 arg6 harg6 arg11 arg12 arg14 x0 x1 x2 x3 x4 x5 = dsOf (v39 i) x0 x1 x2 x3 x4 x5 1
    ∧ v1614 c i arg1 harg1 arg2 harg2 arg3 harg3 arg4 harg4 arg5 harg5 arg6 harg6 arg11 arg12 arg14 x0 x1 x2 x3 x4 x5 = dsOf (v39 i) x0 x1 x2 x3 x4 x5 2
    ∧ v1636 c i arg1 harg1 arg2 harg2 arg3 harg3 arg4 harg4 arg5 harg5 arg6 harg6 arg11 arg12 arg14 x0 x1 x2 x3 x4 x5 = dsOf (v39 i) x0 x1 x2 x3 x4 x5 3
    ∧ v1674 c i arg1 harg1 arg2 harg2 arg3 harg3 arg4 harg4 arg5 harg5 arg6 harg6 arg11 arg12 arg14 x0 x1 x2 x3 x4 x5 = dsOf (v39 i) x0 x1 x2 x3 x4 x5 4
    ∧ v1696 c i arg1 harg1 arg2 harg2 arg3 harg3 arg4 harg4 arg5 harg5 arg6 harg6 arg11 arg12 arg14 x0 x1 x2 x3 x4 x5 = dsOf (v39 i) x0 x1 x2 x3 x4 x5 5
    ∧ v1734 c i arg1 harg1 arg2 harg2 arg3 harg3 arg4 harg4 arg5 harg5 arg6 harg6 arg11 arg12 arg14 x0 x1 x2 x3 x4 x5 = dsOf (v39 i) x0 x1 x2 x3 x4 x5 6
    ∧ v1756 c i arg1 harg1 arg2 harg2 arg3 harg3 arg4 harg4 arg5 harg5 arg6 harg6 arg11 arg12 arg14 x0 x1 x2 x3 x4 x5 = dsOf (v39 i) x0 x1 x2 x3 x4 x5 7
    ∧ v1802 c i arg1 harg1 arg2 harg2 arg3 harg3 arg4 harg4 arg5 harg5 arg6 harg6 arg11 arg12 arg14 x0 x1 x2 x3 x4 x5 = dsOf (v39 i) x0 x1 x2 x3 x4 x5 8
    ∧ v1824 c i arg1 harg1 arg2 harg2 arg3 harg3 arg4 harg4 arg5 harg5 arg6 harg6 arg11 arg12 arg14 x0 x1 x2 x3 x4 x5 = dsOf (v39 i) x0 x1 x2 x3 x4 x5 9
    ∧ v1862 c i arg1 harg1 arg2 harg2 arg3 harg3 arg4 harg4 arg5 harg5 arg6 harg6 arg11 arg12 arg14 x0 x1 x2 x3 x4 x5 = dsOf (v39 i) x0 x1 x2 x3 x4 x5 10
    ∧ v1884 c i arg1 harg1 arg2 harg2 arg3 harg3 arg4 harg4 arg5 harg5 arg6 harg6 arg11 arg12 arg14 x0 x1 x2 x3 x4 x5 = dsOf (v39 i) x0 x1 x2 x3 x4 x5 11
    ∧ v1922 c i arg1 harg1 arg2 harg2 arg3 harg3 arg4 harg4 arg5 harg5 arg6 harg6 arg11 arg12 arg14 x0 x1 x2 x3 x4 x5 = dsOf (v39 i) x0 x1 x2 x3 x4 x5 12
    ∧ v1944 c i arg1 harg1 arg2 harg2 arg3 harg3 arg4 harg4 arg5 harg5 arg6 harg6 arg11 arg12 arg14 x0 x1 x2 x3 x4 x5 = dsOf (v39 i) x0 x1 x2 x3 x4 x5 13
    ∧ v1982 c i arg1 harg1 arg2 harg2 arg3 harg3 arg4 harg4 arg5 harg5 arg6 harg6 arg11 arg12 arg14 x0 x1 x2 x3 x4 x5 = dsOf (v39 i) x0 x1 x2 x3 x4 x5 14
    ∧ v2004 c i arg1 harg1 arg2 harg2 arg3 harg3 arg4 harg4 arg5 harg5 arg6 harg6 arg11 arg12 arg14 x0 x1 x2 x3 x4 x5 = dsOf (v39 i) x0 x1 x2 x3 x4 x5 15 := by
  refine ⟨?_, ?_, ?_, ?_, ?_, ?_, ?_, ?_, ?_, ?_, ?_, ?_, ?_, ?_, ?_, ?_⟩ <;>
    simp (disch := decide) only [v1554, v1576, v1614, v1636, v1674, v1696, v1734, v1756, v1802, v1824, v1862, v1884, v1922, v1944, v1982, v2004, HS3_16, readCov_skip] <;>
    rw [View.readCov_cons_toLoadRect] <;>
    simp (disch := rfl) only [r_5, r_6, r_7, r_8, r_9, r_10, r_11, r_12, r_14, r_15, r_16, r_18, r_19, r_20, r_21, r_23, r_24, r_25, r_27, r_28, r_29, r_30, r_31, r_33, r_34, r_35, r_36, r_37, r_38, r_40, r_41, r_42, r_43, r_44, r_45, r_47, r_48, r_49, r_50, r_52, r_53, r_54, r_55, r_56, r_57, r_59, r_60, r_61, r_62, r_63, r_65, r_66, r_67, r_69, r_70, r_71, r_72, r_73, r_75, r_76, r_77, r_78, r_79, r_81, r_82, r_83, r_84, r_85, r_86, r_87, r_89, r_90, r_91, r_92, r_94, r_95, r_96, r_97, r_98, r_99, r_101, r_102, r_103, r_104, r_105] <;>
    simp only [s_words, dp_words, sink_words] <;>
    rfl

end Cert.AttnBwdIdeal.Real
-- ==== Proof.AttnVal.lean ====
/-
  THE ATTENTION'S BACKWARD KERNEL, what a grid point writes into its four outputs.
-/
module

public import proofs.«01_k».proof.Proof.AttnWords
public import proofs.«01_k».proof.Proof.Gen.AttnBwdIdeal.Frame

@[expose] public section

set_option maxRecDepth 16384

noncomputable section

namespace Cert.AttnBwdIdeal.Real

open Cert.AttnBwdIdeal Cert.AttnBwdIdeal.Gen Cert.AttnBwdIdeal.Gen.kernelRun0_B.sl Idealize.ShloMosaic Idealize.ShloMosaic.TcCoe Idealize.SL.Sem

variable {F : FTy → Type} [FloatOps F]
variable {c : Dev nD} {i : grid0.Coords}
variable {arg1 : Memref sig .tc .vmem S128x1024 .bf16} {harg1 : arg1.IsWhole} {arg2 : Memref sig .tc .vmem S128x256 .bf16} {harg2 : arg2.IsWhole}
  {arg3 : Memref sig .tc .vmem S128x256 .bf16} {harg3 : arg3.IsWhole} {arg4 : Memref sig .tc .vmem S128x1024 .bf16} {harg4 : arg4.IsWhole}
  {arg5 : Memref sig .tc .vmem S128x128 .f32} {harg5 : arg5.IsWhole} {arg6 : Memref sig .tc .smem S16 .f32} {harg6 : arg6.IsWhole}
  {arg11 : Memref sig .tc .vmem S1x16x128x128 .f32} {arg12 : Memref sig .tc .vmem S1x16x128x128 .f32}
  {arg13 : Memref sig .tc .vmem S1x16x128x256 .bf16} {arg14 : Memref sig .tc .vmem S1x16x128x256 .bf16}
  {x0 : Vec F S128x1024 .bf16} {x1 x2 : Vec F S128x256 .bf16} {x3 : Vec F S128x1024 .bf16} {x4 : Vec F S128x128 .f32} {x5 : Vec F S16 .f32}

/-- The gradients over the band, key/value head by key/value head. -/
theorem band_words :
    r_137 c i arg1 harg1 arg2 harg2 arg3 harg3 arg4 harg4 arg5 harg5 arg6 harg6 arg11 arg12 arg14 x0 x1 x2 x3 x4 x5 = dkOf (v39 i) x0 x1 x2 x3 x4 x5 0
    ∧ r_138 c i arg1 harg1 arg2 harg2 arg3 harg3 arg4 harg4 arg5 harg5 arg6 harg6 arg11 arg13 x0 x1 x2 x3 x4 x5 = dvOf (v39 i) x0 x1 x2 x3 x4 x5 0
    ∧ r_166 c i arg1 harg1 arg2 harg2 arg3 harg3 arg4 harg4 arg5 harg5 arg6 harg6 arg11 arg12 arg14 x0 x1 x2 x3 x4 x5 = dkOf (v39 i) x0 x1 x2 x3 x4 x5 1
    ∧ r_167 c i arg1 harg1 arg2 harg2 arg3 harg3 arg4 harg4 arg5 harg5 arg6 harg6 arg11 arg13 x0 x1 x2 x3 x4 x5 = dvOf (v39 i) x0 x1 x2 x3 x4 x5 1 := by
  refine ⟨?_, ?_, ?_, ?_⟩ <;>
    simp only [r_106, r_107, r_108, r_109, r_110, r_111, r_112, r_113, r_114, r_115, r_116, r_117, r_118, r_119, r_120, r_121, r_122, r_123, r_124, r_125, r_126, r_127, r_128, r_129, r_130, r_131, r_132, r_133, r_134, r_135, r_136, r_137, r_138, r_139, r_140, r_141, r_142, r_143, r_144, r_145, r_146, r_147, r_148, r_149, r_150, r_151, r_152, r_153, r_154, r_155, r_156, r_157, r_158, r_159, r_160, r_161, r_162, r_163, r_164, r_165, r_166, r_167] <;>
    simp only [p_words, ds_words] <;>
    (repeat rw [ld_q _ _ rfl]) <;>
    rfl

/-- The sinks' gradients of a block. -/
theorem dsink_words : r_105 c i arg1 harg1 arg2 harg2 arg3 harg3 arg4 harg4 arg5 harg5 arg6 harg6 arg11 arg12 x0 x1 x2 x3 x4 x5 = dsinkOf (v39 i) x0 x1 x2 x3 x4 x5 16 := by
  simp only [r_14, r_15, r_16, r_18, r_19, r_20, r_21, r_23, r_24, r_25, r_27, r_28, r_29, r_30, r_31, r_33, r_34, r_35, r_36, r_37, r_38, r_40, r_41, r_42, r_43, r_44, r_45, r_47, r_48, r_49, r_50, r_52, r_53, r_54, r_55, r_56, r_57, r_59, r_60, r_61, r_62, r_63, r_65, r_66, r_67, r_69, r_70, r_71, r_72, r_73, r_75, r_76, r_77, r_78, r_79, r_81, r_82, r_83, r_84, r_85, r_86, r_87, r_89, r_90, r_91, r_92, r_94, r_95, r_96, r_97, r_98, r_99, r_101, r_102, r_103, r_104, r_105]
  simp only [s_words, dp_words, sink_words]
  rfl

/-- The queries' gradients, pair of heads by pair of heads. -/
theorem dq_words :
    k0_pay272 (r_1 c arg2 harg2 arg3 harg3 x1 x2) (r_110 c i arg1 harg1 arg2 harg2 arg3 harg3 arg4 harg4 arg5 harg5 arg6 harg6 arg11 arg12 arg14 x0 x1 x2 x3 x4 x5) (v1576 c i arg1 harg1 arg2 harg2 arg3 harg3 arg4 harg4 arg5 harg5 arg6 harg6 arg11 arg12 arg14 x0 x1 x2 x3 x4 x5) = dqOf (v39 i) x0 x1 x2 x3 x4 x5 0
    ∧ k0_pay284 (r_1 c arg2 harg2 arg3 harg3 x1 x2) (r_118 c i arg1 harg1 arg2 harg2 arg3 harg3 arg4 harg4 arg5 harg5 arg6 harg6 arg11 arg12 arg14 x0 x1 x2 x3 x4 x5) (v1636 c i arg1 harg1 arg2 harg2 arg3 harg3 arg4 harg4 arg5 harg5 arg6 harg6 arg11 arg12 arg14 x0 x1 x2 x3 x4 x5) = dqOf (v39 i) x0 x1 x2 x3 x4 x5 1
    ∧ k0_pay296 (r_1 c arg2 harg2 arg3 harg3 x1 x2) (r_125 c i arg1 harg1 arg2 harg2 arg3 harg3 arg4 harg4 arg5 harg5 arg6 harg6 arg11 arg12 arg14 x0 x1 x2 x3 x4 x5) (v1696 c i arg1 harg1 arg2 harg2 arg3 harg3 arg4 harg4 arg5 harg5 arg6 harg6 arg11 arg12 arg14 x0 x1 x2 x3 x4 x5) = dqOf (v39 i) x0 x1 x2 x3 x4 x5 2
    ∧ k0_pay307 (r_1 c arg2 harg2 arg3 harg3 x1 x2) (r_133 c i arg1 harg1 arg2 harg2 arg3 harg3 arg4 harg4 arg5 harg5 arg6 harg6 arg11 arg12 arg14 x0 x1 x2 x3 x4 x5) (v1756 c i arg1 harg1 arg2 harg2 arg3 harg3 arg4 harg4 arg5 harg5 arg6 harg6 arg11 arg12 arg14 x0 x1 x2 x3 x4 x5) = dqOf (v39 i) x0 x1 x2 x3 x4 x5 3
    ∧ k0_pay321 (r_2 c arg2 harg2 arg3 harg3 x1 x2) (r_142 c i arg1 harg1 arg2 harg2 arg3 harg3 arg4 harg4 arg5 harg5 arg6 harg6 arg11 arg12 arg14 x0 x1 x2 x3 x4 x5) (v1824 c i arg1 harg1 arg2 harg2 arg3 harg3 arg4 harg4 arg5 harg5 arg6 harg6 arg11 arg12 arg14 x0 x1 x2 x3 x4 x5) = dqOf (v39 i) x0 x1 x2 x3 x4 x5 4
    ∧ k0_pay330 (r_2 c arg2 harg2 arg3 harg3 x1 x2) (r_149 c i arg1 harg1 arg2 harg2 arg3 harg3 arg4 harg4 arg5 harg5 arg6 harg6 arg11 arg12 arg14 x0 x1 x2 x3 x4 x5) (v1884 c i arg1 harg1 arg2 harg2 arg3 harg3 arg4 harg4 arg5 harg5 arg6 harg6 arg11 arg12 arg14 x0 x1 x2 x3 x4 x5) = dqOf (v39 i) x0 x1 x2 x3 x4 x5 5
    ∧ k0_pay342 (r_159 c i arg1 harg1 arg2 harg2 arg3 harg3 arg4 harg4 arg5 harg5 arg6 harg6 arg11 arg12 arg14 x0 x1 x2 x3 x4 x5) k0_pay341 = dqOf (v39 i) x0 x1 x2 x3 x4 x5 6
    ∧ k0_pay351 (r_2 c arg2 harg2 arg3 harg3 x1 x2) (r_164 c i arg1 harg1 arg2 harg2 arg3 harg3 arg4 harg4 arg5 harg5 arg6 harg6 arg11 arg12 arg14 x0 x1 x2 x3 x4 x5) cst_1135 (v2004 c i arg1 harg1 arg2 harg2 arg3 harg3 arg4 harg4 arg5 harg5 arg6 harg6 arg11 arg12 arg14 x0 x1 x2 x3 x4 x5) = dqOf (v39 i) x0 x1 x2 x3 x4 x5 7 := by
  refine ⟨?_, ?_, ?_, ?_, ?_, ?_, ?_, ?_⟩ <;>
    simp only [r_1, r_2, r_110, r_118, r_125, r_133, r_142, r_149, r_159, r_164] <;>
    simp only [ds_words] <;>
    rw [ld_kv _ _ rfl, ld_prev] <;>
    rfl

/-- Eight tiles side by side. -/
def dqBlock (g : ℕ → Vec F S128x128 .bf16) : Vec F S128x1024 .bf16 :=
  fun y : S128x1024.Idx => g ((y 1).val / 128) (ix2 (y 0) ⟨(y 1).val % 128, Nat.mod_lt _ (by decide)⟩)

/-- Reading one of them at its place. -/
theorem dq_piece (g : ℕ → Vec F S128x128 .bf16) (n : ℕ) (off : Fin 2 → ℕ) (inb) (h0 : off 0 = 0) (h1 : off 1 = 128 * n) (x : S128x128.Idx) :
    g n x = dqBlock g ((Rect.unit (s := S128x1024) off S128x128.size inb).emb x) := by
  have hx : (x 1).val < 128 := (x 1).isLt
  have e0 : ((Rect.unit (s := S128x1024) off S128x128.size inb).emb x 0).val = (x 0).val := by
    show off 0 + 1 * (x 0).val = _; omega
  have e1 : ((Rect.unit (s := S128x1024) off S128x128.size inb).emb x 1).val = 128 * n + (x 1).val := by
    show off 1 + 1 * (x 1).val = _; omega
  have key : ∀ (v : ℕ) (a : Fin 128), v = 128 * n + (x 1).val → a.val = (x 0).val →
      g n x = g (v / 128) (ix2 a ⟨v % 128, Nat.mod_lt _ (by decide)⟩) := by
    rintro v a rfl ha
    rw [show (128 * n + (x 1).val) / 128 = n by omega]
    refine congrArg (g n) (funext fun b => Fin.ext ?_)
    match b with
    | 0 => exact ha.symm
    | 1 =>
      show (x 1).val = (128 * n + (x 1).val) % 128
      omega
  exact key _ _ e1 e0

/-- Eight stores of 128 lanes side by side are one block. -/
theorem canon_dq (g : ℕ → Vec F S128x128 .bf16) (inb0 inb1 inb2 inb3 inb4 inb5 inb6 inb7) :
    View.canon (Val := Elt F) (s := S128x1024) (e := .bf16) [⟨Rect.unit ![0, 896] S128x128.size inb7, g 7⟩, ⟨Rect.unit ![0, 768] S128x128.size inb6, g 6⟩,
      ⟨Rect.unit ![0, 640] S128x128.size inb5, g 5⟩, ⟨Rect.unit ![0, 512] S128x128.size inb4, g 4⟩,
      ⟨Rect.unit ![0, 384] S128x128.size inb3, g 3⟩, ⟨Rect.unit ![0, 256] S128x128.size inb2, g 2⟩,
      ⟨Rect.unit ![0, 128] S128x128.size inb1, g 1⟩, ⟨Rect.unit ![0, 0] S128x128.size inb0, g 0⟩]
      = dqBlock g := by
  funext y
  refine View.canon_apply_of_pieces (Val := Elt F) (e := .bf16) (dqBlock g) _ (fun p hp x => ?_) y ?_
  · simp only [List.mem_cons, List.not_mem_nil, or_false] at hp
    rcases hp with rfl | rfl | rfl | rfl | rfl | rfl | rfl | rfl
    exacts [dq_piece g 7 _ inb7 rfl rfl x, dq_piece g 6 _ inb6 rfl rfl x, dq_piece g 5 _ inb5 rfl rfl x, dq_piece g 4 _ inb4 rfl rfl x,
      dq_piece g 3 _ inb3 rfl rfl x, dq_piece g 2 _ inb2 rfl rfl x, dq_piece g 1 _ inb1 rfl rfl x, dq_piece g 0 _ inb0 rfl rfl x]
  · exact View.cover_of_tiledL (Val := Elt F) (s := S128x1024) (e := .bf16) _ S128x128.size (by sl_kernel_rfl) y

end Cert.AttnBwdIdeal.Real
-- ==== Proof.AttnOut.lean ====
/-
  THE ATTENTION'S BACKWARD KERNEL, its four output blocks after a grid point, at the first point and at every later one.
-/
module

public import proofs.«01_k».proof.Proof.AttnVal

@[expose] public section

set_option maxRecDepth 16384

noncomputable section

namespace Cert.AttnBwdIdeal.Real

open Cert.AttnBwdIdeal Cert.AttnBwdIdeal.Gen Idealize.ShloMosaic Idealize.ShloMosaic.TcCoe Idealize.SL.Sem

variable {F : FTy → Type} [FloatOps F]

/-- Whether the grid point is the first. -/
def isFirst (i : grid0.Coords) : BitVec 1 := kernelRun0_B.sl.v39 i

/-- The keys' and values' gradients over the band's 256 rows. -/
def dkvOf (pay : FVec F S256x128 .f32 → FVec F S256x128 .f32 → FVec F S256x128 .f32 → FVec F S256x128 .f32 → IVec S256x128 32 → FVec F S128x256 .f32)
    (first : BitVec 1) (x0 : Vec F S128x1024 .bf16) (x1 x2 : Vec F S128x256 .bf16) (x3 : Vec F S128x1024 .bf16)
    (x4 : Vec F S128x128 .f32) (x5 : Vec F S16 .f32) : FVec F S128x256 .f32 :=
  pay (dkOf first x0 x1 x2 x3 x4 x5 0) (dvOf first x0 x1 x2 x3 x4 x5 0) (dkOf first x0 x1 x2 x3 x4 x5 1) (dvOf first x0 x1 x2 x3 x4 x5 1)
    (iota .tc S256x128 32 [1] iota_S256x128_d1_w32)

section

variable {c : Dev nD} {i : grid0.Coords}
variable {arg1 : Memref sig .tc .vmem S128x1024 .bf16} {harg1 : arg1.IsWhole} {arg2 : Memref sig .tc .vmem S128x256 .bf16} {harg2 : arg2.IsWhole}
  {arg3 : Memref sig .tc .vmem S128x256 .bf16} {harg3 : arg3.IsWhole} {arg4 : Memref sig .tc .vmem S128x1024 .bf16} {harg4 : arg4.IsWhole}
  {arg5 : Memref sig .tc .vmem S128x128 .f32} {harg5 : arg5.IsWhole} {arg6 : Memref sig .tc .smem S16 .f32} {harg6 : arg6.IsWhole}
  {arg11 : Memref sig .tc .vmem S1x16x128x128 .f32} {arg12 : Memref sig .tc .vmem S1x16x128x128 .f32}
  {arg13 : Memref sig .tc .vmem S1x16x128x256 .bf16} {arg14 : Memref sig .tc .vmem S1x16x128x256 .bf16}
  {x0 : Vec F S128x1024 .bf16} {x1 x2 : Vec F S128x256 .bf16} {x3 : Vec F S128x1024 .bf16} {x4 : Vec F S128x128 .f32} {x5 : Vec F S16 .f32}

theorem bandA :
    kernelRun0_A.sl.r_137 c i arg1 harg1 arg2 harg2 arg3 harg3 arg4 harg4 arg5 harg5 arg6 harg6 arg11 arg12 arg14 x0 x1 x2 x3 x4 x5 = dkOf (isFirst i) x0 x1 x2 x3 x4 x5 0
    ∧ kernelRun0_A.sl.r_138 c i arg1 harg1 arg2 harg2 arg3 harg3 arg4 harg4 arg5 harg5 arg6 harg6 arg11 arg13 x0 x1 x2 x3 x4 x5 = dvOf (isFirst i) x0 x1 x2 x3 x4 x5 0
    ∧ kernelRun0_A.sl.r_166 c i arg1 harg1 arg2 harg2 arg3 harg3 arg4 harg4 arg5 harg5 arg6 harg6 arg11 arg12 arg14 x0 x1 x2 x3 x4 x5 = dkOf (isFirst i) x0 x1 x2 x3 x4 x5 1
    ∧ kernelRun0_A.sl.r_167 c i arg1 harg1 arg2 harg2 arg3 harg3 arg4 harg4 arg5 harg5 arg6 harg6 arg11 arg13 x0 x1 x2 x3 x4 x5 = dvOf (isFirst i) x0 x1 x2 x3 x4 x5 1 :=
  band_words

theorem dsinkA : kernelRun0_A.sl.r_105 c i arg1 harg1 arg2 harg2 arg3 harg3 arg4 harg4 arg5 harg5 arg6 harg6 arg11 arg12 x0 x1 x2 x3 x4 x5 = dsinkOf (isFirst i) x0 x1 x2 x3 x4 x5 16 := dsink_words

theorem dqA :
    k0_pay272 (kernelRun0_A.sl.r_1 c arg2 harg2 arg3 harg3 x1 x2) (kernelRun0_A.sl.r_110 c i arg1 harg1 arg2 harg2 arg3 harg3 arg4 harg4 arg5 harg5 arg6 harg6 arg11 arg12 arg14 x0 x1 x2 x3 x4 x5) (kernelRun0_A.sl.v1576 c i arg1 harg1 arg2 harg2 arg3 harg3 arg4 harg4 arg5 harg5 arg6 harg6 arg11 arg12 arg14 x0 x1 x2 x3 x4 x5) = dqOf (isFirst i) x0 x1 x2 x3 x4 x5 0
    ∧ k0_pay284 (kernelRun0_A.sl.r_1 c arg2 harg2 arg3 harg3 x1 x2) (kernelRun0_A.sl.r_118 c i arg1 harg1 arg2 harg2 arg3 harg3 arg4 harg4 arg5 harg5 arg6 harg6 arg11 arg12 arg14 x0 x1 x2 x3 x4 x5) (kernelRun0_A.sl.v1636 c i arg1 harg1 arg2 harg2 arg3 harg3 arg4 harg4 arg5 harg5 arg6 harg6 arg11 arg12 arg14 x0 x1 x2 x3 x4 x5) = dqOf (isFirst i) x0 x1 x2 x3 x4 x5 1
    ∧ k0_pay296 (kernelRun0_A.sl.r_1 c arg2 harg2 arg3 harg3 x1 x2) (kernelRun0_A.sl.r_125 c i arg1 harg1 arg2 harg2 arg3 harg3 arg4 harg4 arg5 harg5 arg6 harg6 arg11 arg12 arg14 x0 x1 x2 x3 x4 x5) (kernelRun0_A.sl.v1696 c i arg1 harg1 arg2 harg2 arg3 harg3 arg4 harg4 arg5 harg5 arg6 harg6 arg11 arg12 arg14 x0 x1 x2 x3 x4 x5) = dqOf (isFirst i) x0 x1 x2 x3 x4 x5 2
    ∧ k0_pay307 (kernelRun0_A.sl.r_1 c arg2 harg2 arg3 harg3 x1 x2) (kernelRun0_A.sl.r_133 c i arg1 harg1 arg2 harg2 arg3 harg3 arg4 harg4 arg5 harg5 arg6 harg6 arg11 arg12 arg14 x0 x1 x2 x3 x4 x5) (kernelRun0_A.sl.v1756 c i arg1 harg1 arg2 harg2 arg3 harg3 arg4 harg4 arg5 harg5 arg6 harg6 arg11 arg12 arg14 x0 x1 x2 x3 x4 x5) = dqOf (isFirst i) x0 x1 x2 x3 x4 x5 3
    ∧ k0_pay321 (kernelRun0_A.sl.r_2 c arg2 harg2 arg3 harg3 x1 x2) (kernelRun0_A.sl.r_142 c i arg1 harg1 arg2 harg2 arg3 harg3 arg4 harg4 arg5 harg5 arg6 harg6 arg11 arg12 arg14 x0 x1 x2 x3 x4 x5) (kernelRun0_A.sl.v1824 c i arg1 harg1 arg2 harg2 arg3 harg3 arg4 harg4 arg5 harg5 arg6 harg6 arg11 arg12 arg14 x0 x1 x2 x3 x4 x5) = dqOf (isFirst i) x0 x1 x2 x3 x4 x5 4
    ∧ k0_pay330 (kernelRun0_A.sl.r_2 c arg2 harg2 arg3 harg3 x1 x2) (kernelRun0_A.sl.r_149 c i arg1 harg1 arg2 harg2 arg3 harg3 arg4 harg4 arg5 harg5 arg6 harg6 arg11 arg12 arg14 x0 x1 x2 x3 x4 x5) (kernelRun0_A.sl.v1884 c i arg1 harg1 arg2 harg2 arg3 harg3 arg4 harg4 arg5 harg5 arg6 harg6 arg11 arg12 arg14 x0 x1 x2 x3 x4 x5) = dqOf (isFirst i) x0 x1 x2 x3 x4 x5 5
    ∧ k0_pay342 (kernelRun0_A.sl.r_159 c i arg1 harg1 arg2 harg2 arg3 harg3 arg4 harg4 arg5 harg5 arg6 harg6 arg11 arg12 arg14 x0 x1 x2 x3 x4 x5) k0_pay341 = dqOf (isFirst i) x0 x1 x2 x3 x4 x5 6
    ∧ k0_pay351 (kernelRun0_A.sl.r_2 c arg2 harg2 arg3 harg3 x1 x2) (kernelRun0_A.sl.r_164 c i arg1 harg1 arg2 harg2 arg3 harg3 arg4 harg4 arg5 harg5 arg6 harg6 arg11 arg12 arg14 x0 x1 x2 x3 x4 x5) kernelRun0_A.sl.cst_1135 (kernelRun0_A.sl.v2004 c i arg1 harg1 arg2 harg2 arg3 harg3 arg4 harg4 arg5 harg5 arg6 harg6 arg11 arg12 arg14 x0 x1 x2 x3 x4 x5) = dqOf (isFirst i) x0 x1 x2 x3 x4 x5 7 :=
  dq_words

end

variable (c : Dev nD) (i : grid0.Coords)
variable (arg1 : Memref sig .tc .vmem S128x1024 .bf16) (harg1 : arg1.IsWhole) (arg2 : Memref sig .tc .vmem S128x256 .bf16) (harg2 : arg2.IsWhole) (arg3 : Memref sig .tc .vmem S128x256 .bf16) (harg3 : arg3.IsWhole) (arg4 : Memref sig .tc .vmem S128x1024 .bf16) (harg4 : arg4.IsWhole) (arg5 : Memref sig .tc .vmem S128x128 .f32) (harg5 : arg5.IsWhole) (arg6 : Memref sig .tc .smem S16 .f32) (harg6 : arg6.IsWhole) (arg7 : Memref sig .tc .vmem S128x1024 .bf16) (harg7 : arg7.IsWhole) (arg8 : Memref sig .tc .vmem S128x256 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x16x128x128 .f32) (harg11 : arg11.IsWhole) (arg12 : Memref sig .tc .vmem S1x16x128x128 .f32) (harg12 : arg12.IsWhole) (arg13 : Memref sig .tc .vmem S1x16x128x256 .bf16) (harg13 : arg13.IsWhole) (arg14 : Memref sig .tc .vmem S1x16x128x256 .bf16) (harg14 : arg14.IsWhole)
    (x0 : Vec F S128x1024 .bf16) (x1 : Vec F S128x256 .bf16) (x2 : Vec F S128x256 .bf16) (x3 : Vec F S128x1024 .bf16) (x4 : Vec F S128x128 .f32) (x5 : Vec F S16 .f32) (xo : Vec F S1x128 .f32)

theorem out_A_6 (hc : cond0_0 i) : out0_A_6 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 = dqBlock (dqOf (isFirst i) x0 x1 x2 x3 x4 x5) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5)]
  unfold kernelRun0_A
  dsimp only
  obtain ⟨e0, e1, e2, e3, e4, e5, e6, e7⟩ := dqA (c := c) (i := i) (arg1 := arg1) (harg1 := harg1) (arg2 := arg2) (harg2 := harg2) (arg3 := arg3) (harg3 := harg3)
    (arg4 := arg4) (harg4 := harg4) (arg5 := arg5) (harg5 := harg5) (arg6 := arg6) (harg6 := harg6) (arg11 := arg11) (arg12 := arg12)
    (arg14 := arg14) (x0 := x0) (x1 := x1) (x2 := x2) (x3 := x3) (x4 := x4) (x5 := x5)
  rw [e0, e1, e2, e3, e4, e5, e6, e7]
  exact canon_dq (dqOf (isFirst i) x0 x1 x2 x3 x4 x5) _ _ _ _ _ _ _ _

theorem out_A_7 (hc : cond0_0 i) : out0_A_7 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 = dkvOf k0_pay3 (isFirst i) x0 x1 x2 x3 x4 x5 := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5)]
  unfold kernelRun0_A
  dsimp only
  rw [View.canon_unit_zero (S := S128x256) hz2, (bandA (arg12 := arg12) (arg13 := arg13) (arg14 := arg14)).1, (bandA (arg12 := arg12) (arg13 := arg13) (arg14 := arg14)).2.1, (bandA (arg12 := arg12) (arg13 := arg13) (arg14 := arg14)).2.2.1, (bandA (arg12 := arg12) (arg13 := arg13) (arg14 := arg14)).2.2.2]
  rfl

theorem out_A_8 (hc : cond0_0 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 = dkvOf k0_pay2 (isFirst i) x0 x1 x2 x3 x4 x5 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5)]
  unfold kernelRun0_A
  dsimp only
  rw [View.canon_unit_zero (S := S128x256) hz2, (bandA (arg12 := arg12) (arg13 := arg13) (arg14 := arg14)).1, (bandA (arg12 := arg12) (arg13 := arg13) (arg14 := arg14)).2.1, (bandA (arg12 := arg12) (arg13 := arg13) (arg14 := arg14)).2.2.1, (bandA (arg12 := arg12) (arg13 := arg13) (arg14 := arg14)).2.2.2]
  rfl

theorem out_B_6 (hc : ¬cond0_0 i) : out0_B_6 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 xo = dqBlock (dqOf (isFirst i) x0 x1 x2 x3 x4 x5) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 xo)]
  unfold kernelRun0_B
  dsimp only
  obtain ⟨e0, e1, e2, e3, e4, e5, e6, e7⟩ := dq_words (c := c) (i := i) (arg1 := arg1) (harg1 := harg1) (arg2 := arg2) (harg2 := harg2) (arg3 := arg3) (harg3 := harg3)
    (arg4 := arg4) (harg4 := harg4) (arg5 := arg5) (harg5 := harg5) (arg6 := arg6) (harg6 := harg6) (arg11 := arg11) (arg12 := arg12)
    (arg14 := arg14) (x0 := x0) (x1 := x1) (x2 := x2) (x3 := x3) (x4 := x4) (x5 := x5)
  rw [e0, e1, e2, e3, e4, e5, e6, e7]
  exact canon_dq (dqOf (isFirst i) x0 x1 x2 x3 x4 x5) _ _ _ _ _ _ _ _

theorem out_B_7 (hc : ¬cond0_0 i) : out0_B_7 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 xo = dkvOf k0_pay3 (isFirst i) x0 x1 x2 x3 x4 x5 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 xo)]
  unfold kernelRun0_B
  dsimp only
  rw [View.canon_unit_zero (S := S128x256) hz2, (band_words (arg12 := arg12) (arg13 := arg13) (arg14 := arg14)).1, (band_words (arg12 := arg12) (arg13 := arg13) (arg14 := arg14)).2.1, (band_words (arg12 := arg12) (arg13 := arg13) (arg14 := arg14)).2.2.1, (band_words (arg12 := arg12) (arg13 := arg13) (arg14 := arg14)).2.2.2]
  rfl

theorem out_B_8 (hc : ¬cond0_0 i) : out0_B_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 xo = dkvOf k0_pay2 (isFirst i) x0 x1 x2 x3 x4 x5 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 xo)]
  unfold kernelRun0_B
  dsimp only
  rw [View.canon_unit_zero (S := S128x256) hz2, (band_words (arg12 := arg12) (arg13 := arg13) (arg14 := arg14)).1, (band_words (arg12 := arg12) (arg13 := arg13) (arg14 := arg14)).2.1, (band_words (arg12 := arg12) (arg13 := arg13) (arg14 := arg14)).2.2.1, (band_words (arg12 := arg12) (arg13 := arg13) (arg14 := arg14)).2.2.2]
  rfl

theorem out_A_9 (hc : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 = k0_pay4 (dsinkOf (isFirst i) x0 x1 x2 x3 x4 x5 16) k0_pay5 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5)]
  unfold kernelRun0_A
  dsimp only
  rw [View.canon_cons_unit_zero (S := S1x128) hz2, dsinkA]
  unfold kernelRun0_A.sl.v2035 kernelRun0_A.sl.H9_1
  rw [View.readCov_unit_zero (S := S1x128) _ hz2]

theorem out_B_9 (hc : ¬cond0_0 i) : out0_B_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 xo = k0_pay4 (dsinkOf (isFirst i) x0 x1 x2 x3 x4 x5 16) xo := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc x0 x1 x2 x3 x4 x5 xo)]
  unfold kernelRun0_B
  dsimp only
  rw [View.canon_unit_zero (S := S1x128) hz2, dsink_words, View.readAt_eq_ld, harg10.read_unread, View.ld_unit_zero (S := S1x128) hz2]
  rfl

end Cert.AttnBwdIdeal.Real
-- ==== Proof.AttnBlock.lean ====
/-
  THE ATTENTION'S BACKWARD KERNEL over the reals, one grid point: its four output blocks from its input blocks' entries.
-/
module

public import proofs.«01_k».proof.Proof.AttnLane
public import proofs.«01_k».proof.Proof.AttnOut

@[expose] public section

set_option maxRecDepth 16384
set_option backward.isDefEq.respectTransparency false

noncomputable section

namespace Cert.AttnBwdIdeal.Real

open Cert.AttnBwdIdeal Cert.AttnBwdIdeal.Gen Cert.Step Cert.Attn Idealize.ShloMosaic Idealize.ShloMosaic.TcCoe Idealize.SL.Sem
open Idealize.ShloMosaic.Pointwise

/-- The heads' slopes. -/
def slope (h : ℕ) : ℝ := (Ideal.ofBits .f32 (slopeBits h)).toReal

theorem slope_real (h : ℕ) (hh : h < 16) : Ideal.ofBits .f32 (slopeBits h) = ((slope h : ℝ) : EReal) := by
  refine (EReal.coe_toReal ?_ ?_).symm <;> interval_cases h <;> simp [slopeBits, Ideal.ofBits, Ideal.ieee, -EReal.coe_mul]

variable (f : Bool) (x0 : Vec Ideal S128x1024 .bf16) (x1 x2 : Vec Ideal S128x256 .bf16) (x3 : Vec Ideal S128x1024 .bf16)
    (x4 : Vec Ideal S128x128 .f32) (x5 : Vec Ideal S16 .f32)
variable (q kv pv o : Fin 128 → ℕ → ℝ) (sk : ℕ → ℝ)
variable (h0 : ∀ (r : Fin 128) (l : Fin 1024), x0 (ix2 r l) = ((q r l.val : ℝ) : EReal))
variable (h1 : ∀ (r : Fin 128) (l : Fin 256), x1 (ix2 r l) = ((kv r l.val : ℝ) : EReal))
variable (h2 : ∀ (r : Fin 128) (l : Fin 256), x2 (ix2 r l) = ((pv r l.val : ℝ) : EReal))
variable (h3 : ∀ (r : Fin 128) (l : Fin 1024), x3 (ix2 r l) = ((o r l.val : ℝ) : EReal))
variable (h4 : ∀ r j : Fin 128, x4 (ix2 r j) = (((r.val : ℝ) + 128 - (fc r j).val : ℝ) : EReal))
variable (h5 : ∀ h < 16, sinkAt x5 h = ((sk h : ℝ) : EReal))

theorem tile_apply (x : Vec Ideal S128x1024 .bf16) (q : Fin 128 → ℕ → ℝ)
    (hx : ∀ (r : Fin 128) (l : Fin 1024), x (ix2 r l) = ((q r l.val : ℝ) : EReal)) (h : ℕ) (hh : h < 16) (r : Fin 128) (d : Fin 64) :
    tile x (128 * (h / 2)) (ix2 r (lane (h % 2 == 1) d)) = ((q r (64 * h + d.val) : ℝ) : EReal) := by
  unfold tile
  refine (hx r _).trans (congrArg (fun t => ((q r t : ℝ) : EReal)) ?_)
  have e : (h % 2 == 1) = true ↔ h % 2 = 1 := by simp
  show (128 * (h / 2) + (lane (h % 2 == 1) d).val) % 1024 = _
  unfold lane
  cases hb : (h % 2 == 1)
  · have : h % 2 = 0 := by rw [hb] at e; simp at e; exact e
    show (128 * (h / 2) + (0 + d.val)) % 1024 = _
    omega
  · have : h % 2 = 1 := e.1 hb
    show (128 * (h / 2) + (64 + d.val)) % 1024 = _
    omega

include h1 h2 in
theorem kBand_apply (hk : Bool) (c : Fin 256) (l : Fin 128) :
    kBand x1 x2 hk (ix2 c l) = ((band pv kv c (64 * (bif hk then 1 else 0) + (half l).val) : ℝ) : EReal) := by
  have hl := l.isLt
  have hc := c.isLt
  have g2 : ∀ (r : Fin 128) (n : ℕ) (hn : n < 256), x2 (ix2 r ⟨n, hn⟩) = ((pv r n : ℝ) : EReal) := fun r n hn => h2 r ⟨n, hn⟩
  have g1 : ∀ (r : Fin 128) (l : Fin 128), kvTile x1 0 (ix2 r l) = ((kv r l.val : ℝ) : EReal) := by
    intro r l
    unfold kvTile
    refine (h1 r _).trans (congrArg (fun t => ((kv r t : ℝ) : EReal)) ?_)
    show (0 + l.val) % 256 = _
    omega
  revert g1
  unfold kBand
  generalize kvTile x1 0 = y
  intro g1
  cases hk <;> dsimp only [cond]
  · unfold k0_pay10 k0_pay8 k0_pay7
    pointwise []
    rw [slt_bits, select_ite]
    unfold band half
    by_cases h : l.val < 64
    · rw [if_pos h]
      have e : 64 * 0 + l.val % 64 = l.val := by omega
      split
      · exact (g2 _ _ _).trans (congrArg (fun t => ((pv _ t : ℝ) : EReal)) (by dsimp only; omega))
      · exact (g1 _ _).trans (congrArg (fun t => ((kv _ t : ℝ) : EReal)) (by dsimp only; omega))
    · rw [if_neg h]
      have e : 64 * 0 + l.val % 64 = (l.val + 128 - 64) % 128 := by omega
      split
      · exact (g2 _ _ _).trans (congrArg (fun t => ((pv _ t : ℝ) : EReal)) (by dsimp only; omega))
      · exact (g1 _ _).trans (congrArg (fun t => ((kv _ t : ℝ) : EReal)) (by dsimp only; omega))
  · unfold k0_pay11 k0_pay8 k0_pay7
    pointwise []
    rw [slt_bits, select_ite]
    unfold band half
    by_cases h : l.val < 64
    · rw [if_pos h]
      have e : 64 * 1 + l.val % 64 = (l.val + 128 - 64) % 128 := by omega
      split
      · exact (g2 _ _ _).trans (congrArg (fun t => ((pv _ t : ℝ) : EReal)) (by dsimp only; omega))
      · exact (g1 _ _).trans (congrArg (fun t => ((kv _ t : ℝ) : EReal)) (by dsimp only; omega))
    · rw [if_neg h]
      have e : 64 * 1 + l.val % 64 = l.val := by omega
      split
      · exact (g2 _ _ _).trans (congrArg (fun t => ((pv _ t : ℝ) : EReal)) (by dsimp only; omega))
      · exact (g1 _ _).trans (congrArg (fun t => ((kv _ t : ℝ) : EReal)) (by dsimp only; omega))

include h1 h2 in
theorem vBand_apply (hk : Bool) (c : Fin 256) (l : Fin 128) :
    vBand x1 x2 hk (ix2 c l) = ((band pv kv c (128 + 64 * (bif hk then 1 else 0) + (half l).val) : ℝ) : EReal) := by
  have hl := l.isLt
  have hc := c.isLt
  have g2 : ∀ (r : Fin 128) (n : ℕ) (hn : n < 256), x2 (ix2 r ⟨n, hn⟩) = ((pv r n : ℝ) : EReal) := fun r n hn => h2 r ⟨n, hn⟩
  have g1 : ∀ (r : Fin 128) (l : Fin 128), kvTile x1 128 (ix2 r l) = ((kv r (128 + l.val) : ℝ) : EReal) := by
    intro r l
    unfold kvTile
    refine (h1 r _).trans (congrArg (fun t => ((kv r t : ℝ) : EReal)) ?_)
    show (128 + l.val) % 256 = _
    omega
  revert g1
  unfold vBand
  generalize kvTile x1 128 = y
  intro g1
  cases hk <;> dsimp only [cond]
  · unfold k0_pay12 k0_pay9 k0_pay7
    pointwise []
    rw [slt_bits, select_ite]
    unfold band half
    by_cases h : l.val < 64
    · rw [if_pos h]
      have e : 128 + 64 * 0 + l.val % 64 = 128 + l.val := by omega
      split
      · exact (g2 _ _ _).trans (congrArg (fun t => ((pv _ t : ℝ) : EReal)) (by dsimp only; omega))
      · exact (g1 _ _).trans (congrArg (fun t => ((kv _ t : ℝ) : EReal)) (by dsimp only; omega))
    · rw [if_neg h]
      have e : 128 + 64 * 0 + l.val % 64 = 128 + (l.val + 128 - 64) % 128 := by omega
      split
      · exact (g2 _ _ _).trans (congrArg (fun t => ((pv _ t : ℝ) : EReal)) (by dsimp only; omega))
      · exact (g1 _ _).trans (congrArg (fun t => ((kv _ t : ℝ) : EReal)) (by dsimp only; omega))
  · unfold k0_pay13 k0_pay9 k0_pay7
    pointwise []
    rw [slt_bits, select_ite]
    unfold band half
    by_cases h : l.val < 64
    · rw [if_pos h]
      have e : 128 + 64 * 1 + l.val % 64 = 128 + (l.val + 128 - 64) % 128 := by omega
      split
      · exact (g2 _ _ _).trans (congrArg (fun t => ((pv _ t : ℝ) : EReal)) (by dsimp only; omega))
      · exact (g1 _ _).trans (congrArg (fun t => ((kv _ t : ℝ) : EReal)) (by dsimp only; omega))
    · rw [if_neg h]
      have e : 128 + 64 * 1 + l.val % 64 = 128 + l.val := by omega
      split
      · exact (g2 _ _ _).trans (congrArg (fun t => ((pv _ t : ℝ) : EReal)) (by dsimp only; omega))
      · exact (g1 _ _).trans (congrArg (fun t => ((kv _ t : ℝ) : EReal)) (by dsimp only; omega))

theorem kvHead (h : ℕ) (hh : h < 16) : (bif h / 8 == 1 then 1 else 0) = h / 8 := by
  interval_cases h <;> rfl

include h0 h1 h2 h4 in
theorem sOf_apply (h : ℕ) (hh : h < 16) (r j : Fin 128) : sOf (bif f then 1#1 else 0#1) x0 x1 x2 x4 h (ix4 0 0 r j)
    = if ok f r (fc r j) then ((T q kv pv slope h r (fc r j) : ℝ) : EReal) else ⊥ :=
  score_apply (h % 2 == 1) (tile x0 (128 * (h / 2))) (kBand x1 x2 (h / 8 == 1)) (fun r d => q r (64 * h + d.val))
    (fun c d => band pv kv c (64 * (h / 8) + d.val)) (tile_apply x0 q h0 h hh)
    (fun c l => by rw [kBand_apply x1 x2 kv pv h1 h2, kvHead h hh]) f (slopeBits h) x4 (slope h) (slope_real h hh) h4 r j

include h1 h2 h3 in
theorem dpOf_apply (h : ℕ) (hh : h < 16) (r j : Fin 128) : dpOf x1 x2 x3 h (ix4 0 0 r j) = ((D kv pv o h r (fc r j) : ℝ) : EReal) :=
  dprob_apply (h % 2 == 1) (tile x3 (128 * (h / 2))) (vBand x1 x2 (h / 8 == 1)) (fun r d => o r (64 * h + d.val))
    (fun c d => band pv kv c (128 + 64 * (h / 8) + d.val)) (tile_apply x3 o h3 h hh)
    (fun c l => by rw [vBand_apply x1 x2 kv pv h1 h2, kvHead h hh]) r j

include h0 h1 h2 h4 h5 in
theorem pOf_apply (h : ℕ) (hh : h < 16) (r : Fin 128) (c : Fin 256) :
    pOf (bif f then 1#1 else 0#1) x0 x1 x2 x4 x5 h (ix4 0 0 r c) = ((PP f q kv pv slope sk h r c : ℝ) : EReal) := by
  unfold pOf
  rw [h5 h hh]
  exact probsOf_apply f _ (sk h) _ (sOf_apply f x0 x1 x2 x4 q kv pv h0 h1 h2 h4 h hh) r c

include h0 h1 h2 h3 h4 h5 in
theorem dsOf_apply (h : ℕ) (hh : h < 16) (r : Fin 128) (c : Fin 256) :
    dsOf (bif f then 1#1 else 0#1) x0 x1 x2 x3 x4 x5 h (ix4 0 0 r c) = ((dSS f q kv pv o slope sk h r c : ℝ) : EReal) := by
  unfold dsOf
  rw [h5 h hh]
  exact dscoreOf_apply f _ _ (sk h) _ _ (sOf_apply f x0 x1 x2 x4 q kv pv h0 h1 h2 h4 h hh) (dpOf_apply x1 x2 x3 kv pv o h1 h2 h3 h hh) r c

include h0 h1 h2 h3 h4 h5 in
theorem dsinkOf_apply (N : ℕ) (hN : N ≤ 16) (l : Fin 128) :
    dsinkOf (bif f then 1#1 else 0#1) x0 x1 x2 x3 x4 x5 N (ix2 0 l)
      = ((if l.val < N then dKK f q kv pv o slope sk l.val else 0 : ℝ) : EReal) := by
  induction N with
  | zero =>
    unfold dsinkOf k0_pay54
    pointwise []
    simp
  | succ N ih =>
    unfold dsinkOf
    rw [h5 N (by omega), dsinkStep_apply f _ _ (sk N) _ _ (sOf_apply f x0 x1 x2 x4 q kv pv h0 h1 h2 h4 N (by omega))
      (dpOf_apply x1 x2 x3 kv pv o h1 h2 h3 N (by omega)) N (by omega), ih (by omega)]
    rcases lt_trichotomy l.val N with h | h | h
    · rw [if_pos h, if_neg (by omega), if_pos (by omega), add_zero]
    · rw [if_neg (by omega), if_pos h, if_pos (by omega), EReal.coe_zero, zero_add]
      unfold dKK
      rw [h]
    · rw [if_neg (by omega), if_neg (by omega), if_neg (by omega), EReal.coe_zero, zero_add]

include h0 h1 h2 h3 h4 h5 in
theorem dkOf_apply (k : ℕ) (hk : k < 2) (c : Fin 256) (l : Fin 128) :
    dkOf (bif f then 1#1 else 0#1) x0 x1 x2 x3 x4 x5 k (ix2 c l) = ((dKb f q kv pv o slope sk k c (half l) : ℝ) : EReal) := by
  unfold dkOf
  refine folded_bandSum _ _ (fun n r d => q r (64 * (8 * k + n) + d.val) * (1 / 8)) (fun n => dSS f q kv pv o slope sk (8 * k + n)) 8 ?_ ?_ l c
  · intro n hn d r
    rw [qT_apply]
    have := tile_apply x0 q h0 (8 * k + n) (by omega) r d
    rw [show (8 * k + n) % 2 = n % 2 by omega] at this
    rw [this, ← EReal.coe_mul]
  · intro n hn r c
    exact dsOf_apply f x0 x1 x2 x3 x4 x5 q kv pv o sk h0 h1 h2 h3 h4 h5 (8 * k + n) (by omega) r c

include h0 h1 h2 h3 h4 h5 in
theorem dvOf_apply (k : ℕ) (hk : k < 2) (c : Fin 256) (l : Fin 128) :
    dvOf (bif f then 1#1 else 0#1) x0 x1 x2 x3 x4 x5 k (ix2 c l) = ((dVb f q kv pv o slope sk k c (half l) : ℝ) : EReal) := by
  unfold dvOf
  refine folded_bandSum _ _ (fun n r d => o r (64 * (8 * k + n) + d.val)) (fun n => PP f q kv pv slope sk (8 * k + n)) 8 ?_ ?_ l c
  · intro n hn d r
    rw [doT_apply]
    have := tile_apply x3 o h3 (8 * k + n) (by omega) r d
    rw [show (8 * k + n) % 2 = n % 2 by omega] at this
    exact this
  · intro n hn r c
    exact pOf_apply f x0 x1 x2 x4 x5 q kv pv sk h0 h1 h2 h4 h5 (8 * k + n) (by omega) r c

include h0 h1 h2 h3 h4 h5 in
/-- The queries' gradient, at head `h`. -/
theorem dqOf_apply (h : ℕ) (hh : h < 16) (r : Fin 128) (d : Fin 64) :
    dqOf (bif f then 1#1 else 0#1) x0 x1 x2 x3 x4 x5 (h / 2) (ix2 r (lane (h % 2 == 1) d)) = ((dQ f q kv pv o slope sk h r d : ℝ) : EReal) := by
  unfold dqOf
  have e := dqPair_apply (h % 2 == 1) (kBand x1 x2 (h / 2 / 4 == 1)) (fun c d => band pv kv c (64 * (h / 8) + d.val))
    (fun c l => by rw [kBand_apply x1 x2 kv pv h1 h2, show h / 2 / 4 = h / 8 by omega, kvHead h hh])
    (dsOf (bif f then 1#1 else 0#1) x0 x1 x2 x3 x4 x5 (2 * (h / 2))) (dsOf (bif f then 1#1 else 0#1) x0 x1 x2 x3 x4 x5 (2 * (h / 2) + 1))
    (fun b => dSS f q kv pv o slope sk (2 * (h / 2) + bif b then 1 else 0))
    (fun r c => dsOf_apply f x0 x1 x2 x3 x4 x5 q kv pv o sk h0 h1 h2 h3 h4 h5 (2 * (h / 2)) (by omega) r c)
    (fun r c => dsOf_apply f x0 x1 x2 x3 x4 x5 q kv pv o sk h0 h1 h2 h3 h4 h5 (2 * (h / 2) + 1) (by omega) r c) r d
  rw [e]
  have e' : (2 * (h / 2) + bif h % 2 == 1 then 1 else 0) = h := by
    cases hb : (h % 2 == 1)
    · have : h % 2 = 0 := by simp at hb; exact hb
      show 2 * (h / 2) + 0 = h
      omega
    · have : h % 2 = 1 := by simp at hb; exact hb
      show 2 * (h / 2) + 1 = h
      omega
  rw [e']
  rfl

end Cert.AttnBwdIdeal.Real
-- ==== Proof.AttnRefIn.lean ====
/-
  THE REFERENCE OF THE SECOND PAIR, its inputs: the banded keys and values, the queries, the window and the scores,
  each at an index as a real number (or, outside the window, minus infinity).
-/
module

public import proofs.«01_k».proof.Proof.Gen.AttnRefIdeal.Read
public import proofs.«01_k».proof.Proof.AttnBlk
public import proofs.«01_k».proof.Proof.AttnBlock
public import Idealize.ShloMosaic.Lib.Pointwise

@[expose] public section

set_option maxRecDepth 16384

noncomputable section

namespace Cert.AttnRefIdeal.Real

open Cert.AttnRefIdeal Cert.AttnRefIdeal.Read Cert.Step Cert.Attn Idealize.ShloMosaic Idealize.ShloMosaic.Pointwise
open Cert.AttnBwdIdeal.Real (rowsAt slope slope_real slopeBits select_ite ofBits_bot ofBits_eighth_f32)

/-! ## Words -/

theorem sub_nat (a b : ℕ) : BitVec.ofNat 32 a - BitVec.ofNat 32 b = BitVec.ofInt 32 ((a : ℤ) - b) := by
  apply BitVec.eq_of_toInt_eq
  simp [BitVec.toInt_sub, BitVec.toInt_ofInt, BitVec.toInt_ofNat']

theorem sge_zero (z : ℤ) (h : -1000000 ≤ z) (h' : z ≤ 1000000) :
    IntOp.cmpi CmpIPredicate.sge (BitVec.ofInt 32 z) 0#32 = if 0 ≤ z then 1#1 else 0#1 := by
  have e : (BitVec.ofInt 32 z).toInt = z := by
    rw [BitVec.toInt_ofInt, Int.bmod_eq_of_le (by norm_num; omega) (by norm_num; omega)]
  unfold IntOp.cmpi BitVec.sle
  rw [e]
  by_cases q : 0 ≤ z <;> simp [q]

theorem slt_128 (z : ℤ) (h : -1000000 ≤ z) (h' : z ≤ 1000000) :
    IntOp.cmpi CmpIPredicate.slt (BitVec.ofInt 32 z) 128#32 = if z < 128 then 1#1 else 0#1 := by
  have e : (BitVec.ofInt 32 z).toInt = z := by
    rw [BitVec.toInt_ofInt, Int.bmod_eq_of_le (by norm_num; omega) (by norm_num; omega)]
  unfold IntOp.cmpi BitVec.slt
  rw [e]
  by_cases q : z < 128 <;> simp [q]

theorem and_ite (p q : Prop) [Decidable p] [Decidable q] :
    IntOp.andi (if p then 1#1 else 0#1) (if q then 1#1 else 0#1) = if p ∧ q then 1#1 else 0#1 := by
  by_cases hp : p <;> by_cases hq : q <;> simp [hp, hq, IntOp.andi]

/-- The distance of a row's query from a column's key. -/
theorem dist_bits (r : Fin 128) (c : Fin 256) :
    IntOp.subi (IntOp.addi (BitVec.ofNat 32 r.val) 128#32) (BitVec.ofNat 32 c.val) = BitVec.ofInt 32 ((r.val : ℤ) + 128 - c.val) := by
  show BitVec.ofNat 32 r.val + BitVec.ofNat 32 128 - BitVec.ofNat 32 c.val = _
  rw [← BitVec.ofNat_add, sub_nat]
  push_cast
  rfl

theorem key_bits (n : Fin 64) (c : Fin 256) :
    IntOp.addi (IntOp.subi (IntOp.muli (BitVec.ofNat 32 n.val) 128#32) 128#32) (BitVec.ofNat 32 c.val)
      = BitVec.ofInt 32 ((n.val : ℤ) * 128 - 128 + c.val) := by
  show BitVec.ofNat 32 n.val * BitVec.ofNat 32 128 - BitVec.ofNat 32 128 + BitVec.ofNat 32 c.val = _
  rw [← BitVec.ofNat_mul, sub_nat, BitVec.ofInt_add, BitVec.ofInt_natCast]
  push_cast
  rfl

/-- The window's mask. -/
theorem v52 (n : Fin 64) (r : Fin 128) (c : Fin 256) :
    val_main_v52 (F := Ideal) (ix3 n r c) = if ok (n.val == 0) r c then 1#1 else 0#1 := by
  unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_c val_main_c_2 val_main_c_3 val_main_c_4 val_main_c_5 val_main_c_6
  pointwise []
  have hn := n.isLt
  have hr := r.isLt
  have hc := c.isLt
  rw [dist_bits, key_bits, sge_zero _ (by omega) (by omega), sge_zero _ (by omega) (by omega), slt_128 _ (by omega) (by omega),
    and_ite, and_ite]
  refine if_congr ?_ rfl rfl
  unfold ok
  rw [beq_iff_eq]
  omega

/-- The distance as a number. -/
theorem v30 (r : Fin 128) (c : Fin 256) :
    FloatOps.sitofp (F := Ideal) .f32 (val_main_v30 (F := Ideal) (ix2 r c)) = (((r.val : ℝ) + 128 - c.val : ℝ) : EReal) := by
  unfold val_main_v30 val_main_v29 val_main_v28 val_main_v27 val_main_v26 val_main_v25 val_main_v24 val_main_v23 val_main_v22 val_main_c
  pointwise []
  have hr := r.isLt
  have hc := c.isLt
  rw [dist_bits]
  show (((BitVec.ofInt 32 ((r.val : ℤ) + 128 - c.val)).toInt : ℝ) : EReal) = _
  rw [BitVec.toInt_ofInt, Int.bmod_eq_of_le (by norm_num; omega) (by norm_num; omega)]
  push_cast
  rfl

theorem v69_bits {F : FTy → Type} [FloatOps F] (h : Fin 16) : val_main_v69 (F := F) (ix1 h) = FloatOps.ofBits .f32 (slopeBits h.val) := by
  unfold val_main_v69
  fin_cases h <;> rfl

theorem v69 (h : Fin 16) : val_main_v69 (F := Ideal) (ix1 h) = ((slope h.val : ℝ) : EReal) := by
  rw [v69_bits, ← slope_real h.val h.isLt]
  rfl

/-! ## The arguments -/

variable (A0 A1 A3 : ℕ → ℕ → ℝ) (SK : ℕ → ℝ)
variable (x0 x3 : (⟨S1x8192x1024, .f32⟩ : BufTy).Contents (Elt Ideal)) (x1 : (⟨S1x8192x256, .f32⟩ : BufTy).Contents (Elt Ideal))
  (x2 : (⟨S1x16, .f32⟩ : BufTy).Contents (Elt Ideal))
variable (h0 : ∀ (r : Fin 8192) (k : Fin 1024), x0 (ix3 0 r k) = ((A0 r.val k.val : ℝ) : EReal))
variable (h1 : ∀ (r : Fin 8192) (k : Fin 256), x1 (ix3 0 r k) = ((A1 r.val k.val : ℝ) : EReal))
variable (h3 : ∀ (r : Fin 8192) (k : Fin 1024), x3 (ix3 0 r k) = ((A3 r.val k.val : ℝ) : EReal))
variable (h2 : ∀ k : Fin 16, x2 (ix2 0 k) = ((SK k.val : ℝ) : EReal))

/-- The rows of the block before, zero before the first. -/
def pvR (n : ℕ) (r : Fin 128) (l : ℕ) : ℝ := if n = 0 then 0 else rowsAt A1 (n - 1) r l

/-- The scores of head `h` in block `n`. -/
def TR (n h : ℕ) : Fin 128 → Fin 256 → ℝ := T (rowsAt A0 n) (rowsAt A1 n) (pvR A1 n) slope h

/-- The cotangents of its probabilities. -/
def DR (n h : ℕ) : Fin 128 → Fin 256 → ℝ := D (rowsAt A1 n) (pvR A1 n) (rowsAt A3 n) h

include h0 in
theorem v17 (n : Fin 64) (r : Fin 128) (k : Fin 2) (g : Fin 8) (d : Fin 64) :
    val_main_v17 (F := Ideal) x0 (ix6 0 n r k g d) = ((rowsAt A0 n.val r (64 * (k.val * 8 + g.val) + d.val) : ℝ) : EReal) := by
  pointwise [val_main_v17]
  refine (h0 _ _).trans (congrArg (fun x => ((A0 (n.val * 128 + r.val) x : ℝ) : EReal)) ?_)
  dsimp only
  omega

include h3 in
theorem v130 (n : Fin 64) (r : Fin 128) (k : Fin 2) (g : Fin 8) (d : Fin 64) :
    val_main_v130 (F := Ideal) x3 (ix6 0 n r k g d) = ((rowsAt A3 n.val r (64 * (k.val * 8 + g.val) + d.val) : ℝ) : EReal) := by
  pointwise [val_main_v130]
  refine (h3 _ _).trans (congrArg (fun x => ((A3 (n.val * 128 + r.val) x : ℝ) : EReal)) ?_)
  dsimp only
  omega

include h1 in
theorem v8 (n : Fin 64) (c : Fin 256) (k : Fin 2) (d : Fin 64) :
    val_main_v8 (F := Ideal) x1 (ix5 0 n c k d) = ((band (pvR A1 n.val) (rowsAt A1 n.val) c (64 * k.val + d.val) : ℝ) : EReal) := by
  unfold val_main_v8 val_main_v7 val_main_v6 val_main_v5 val_main_v4 val_main_v3 val_main_v2 val_main_v0 val_main_cst
  pointwise []
  unfold band pvR rowsAt
  have hc := c.isLt
  have hn := n.isLt
  by_cases q : c.val < 128
  · rw [dif_pos q, dif_pos q]
    by_cases p : n.val = 0
    · rw [dif_pos (by omega), if_pos p]
      simp
    · rw [dif_neg (by omega), if_neg p]
      refine (h1 _ _).trans (congrArg₂ (fun x y => ((A1 x y : ℝ) : EReal)) ?_ ?_) <;> dsimp only <;> omega
  · rw [dif_neg q, dif_neg q]
    refine (h1 _ _).trans (congrArg₂ (fun x y => ((A1 x y : ℝ) : EReal)) ?_ ?_) <;> dsimp only <;> omega

include h1 in
theorem v15 (n : Fin 64) (c : Fin 256) (k : Fin 2) (d : Fin 64) :
    val_main_v15 (F := Ideal) x1 (ix5 0 n c k d) = ((band (pvR A1 n.val) (rowsAt A1 n.val) c (128 + 64 * k.val + d.val) : ℝ) : EReal) := by
  unfold val_main_v15 val_main_v14 val_main_v13 val_main_v12 val_main_v11 val_main_v10 val_main_v9 val_main_v1 val_main_cst_0
  pointwise []
  unfold band pvR rowsAt
  have hc := c.isLt
  have hn := n.isLt
  by_cases q : c.val < 128
  · rw [dif_pos q, dif_pos q]
    by_cases p : n.val = 0
    · rw [dif_pos (by omega), if_pos p]
      simp
    · rw [dif_neg (by omega), if_neg p]
      refine (h1 _ _).trans (congrArg₂ (fun x y => ((A1 x y : ℝ) : EReal)) ?_ ?_) <;> dsimp only <;> omega
  · rw [dif_neg q, dif_neg q]
    refine (h1 _ _).trans (congrArg₂ (fun x y => ((A1 x y : ℝ) : EReal)) ?_ ?_) <;> dsimp only <;> omega

theorem v78 (n : Fin 64) (r : Fin 128) (k : Fin 2) (g : Fin 8) (c : Fin 256) : val_main_v78 (F := Ideal) (ix6 0 n k g r c)
    = ((AttnBwdIdeal.Real.slope (k.val * 8 + g.val) * ((r.val : ℝ) + 128 - c.val) : ℝ) : EReal) := by
  have g69 := v69
  have g30 := v30 r c
  unfold val_main_v78 val_main_v77 val_main_v76 val_main_v75 val_main_v74 val_main_v73 val_main_v72 val_main_v71 val_main_v70
  revert g69 g30
  generalize val_main_v69 (F := Ideal) = a
  generalize val_main_v30 (F := Ideal) = b
  intro g69 g30
  pointwise []
  rw [g30, g69, ← EReal.coe_mul]

include h0 h1 in
theorem v81 (n : Fin 64) (r : Fin 128) (k : Fin 2) (g : Fin 8) (c : Fin 256) : val_main_v81_0 (F := Ideal) x0 x1 (ix6 0 n k g r c)
    = if ok (n.val == 0) r c then ((TR A0 A1 n.val (k.val * 8 + g.val) r c : ℝ) : EReal) else ⊥ := by
  have g17 := v17 A0 x0 h0 n r k g
  have g8 := v8 A1 x1 h1 n c k
  have g78 := v78 n r k g c
  have g52 := v52 n r c
  unfold val_main_v81_0 val_main_v81_1 val_main_v80 val_main_v79 val_main_v21 val_main_v20 val_main_v19 val_main_v18 val_main_cst_1
    val_main_call0_v2 val_main_call0_v0 val_main_cst_23
  revert g17 g8 g78 g52
  generalize val_main_v17 (F := Ideal) x0 = a
  generalize val_main_v8 (F := Ideal) x1 = b
  generalize val_main_v78 (F := Ideal) = e
  generalize val_main_v52 (F := Ideal) = o
  intro g17 g8 g78 g52
  pointwise []
  simp only [g17, g8, g78, g52, select_ite, ofBits_bot, ofBits_eighth_f32, ← EReal.coe_mul, coe_sum, ← EReal.coe_sub]
  refine if_congr Iff.rfl (congrArg _ ?_) rfl
  unfold TR Attn.T
  have e : (k.val * 8 + g.val) / 8 = k.val := by omega
  rw [e, mul_one_div]
  simp only [mul_comm]

end Cert.AttnRefIdeal.Real
-- ==== Proof.AttnRefSoft.lean ====
/-
  THE REFERENCE OF THE SECOND PAIR, its softmax with a sink and what the derivative makes of it: the weights, the
  probabilities, and the cotangents of the scores and of the sinks. The greatest score of a row is some real number that
  cancels; the cotangent that reaches it is zero.
-/
module

public import proofs.«01_k».proof.Proof.AttnRefIn

@[expose] public section

set_option maxRecDepth 16384

noncomputable section

namespace Cert.AttnRefIdeal.Real

open Cert.AttnRefIdeal Cert.AttnRefIdeal.Gen Cert.AttnRefIdeal.Read Cert.Step Cert.Attn Idealize.ShloMosaic Idealize.ShloMosaic.Pointwise
open Cert.AttnBwdIdeal.Real (rowsAt slope slope_real slopeBits select_ite ofBits_bot ofBits_eighth_f32)

/-- The host's greatest element along the band. -/
theorem max_apply (x : FVec Ideal S1x64x2x8x128x256 .f32) (init : FVec Ideal S_ .f32) (hi : init (Shape.Idx.first h_S_) = (⊥ : EReal))
    (n : Fin 64) (k : Fin 2) (g : Fin 8) (r : Fin 128) :
    (Host.reduce (FloatOps.maximumf (F := Ideal) (φ := .f32)) x init reducesTo_S1x64x2x8x128x256_S1x64x2x8x128_d5 h_S_ (ix5 0 n k g r) : EReal)
      = (Finset.univ : Finset (Fin 256)).fold max (⊥ : EReal) fun c => x (ix6 0 n k g r c) := by
  have h : S1x64x2x8x128x256.Reduces [5] S1x64x2x8x128 := by decide
  refine (Host.reduce_eq_fold_single (max : EReal → EReal → EReal) x init _ h h_S_ _).trans ?_
  rw [hi]
  refine congrArg (fun f => Finset.fold max ⊥ f Finset.univ) (funext fun c => ?_)
  refine congrArg x (funext fun a => ?_)
  fin_cases a <;> rfl

/-- The host's sum along the band. -/
theorem sum_apply (x : FVec Ideal S1x64x2x8x128x256 .f32) (init : FVec Ideal S_ .f32) (hi : init (Shape.Idx.first h_S_) = (0 : EReal))
    (n : Fin 64) (k : Fin 2) (g : Fin 8) (r : Fin 128) :
    (Host.reduceAdd x init reducesTo_S1x64x2x8x128x256_S1x64x2x8x128_d5 h_S_ (ix5 0 n k g r) : EReal) = ∑ c : Fin 256, x (ix6 0 n k g r c) := by
  simp only [Host.reduceAdd, Ideal.hostReduceAdd_def]
  rw [Ideal.hostReduceAdd_single reducesTo_S1x64x2x8x128x256_S1x64x2x8x128_d5 (by decide), hi, zero_add]
  refine Finset.sum_congr rfl fun c _ => congrArg x (funext fun a => ?_)
  fin_cases a <;> rfl

theorem zero_25 : val_main_cst_25 (F := Ideal) (Shape.Idx.first h_S_) = (0 : EReal) := Ideal.ofBits_zero_f32
theorem zero_32 : val_main_cst_32 (F := Ideal) (Shape.Idx.first h_S_) = (0 : EReal) := Ideal.ofBits_zero_f32
theorem zero_34 : val_main_cst_34 (F := Ideal) (Shape.Idx.first h_S_) = (0 : EReal) := Ideal.ofBits_zero_f32
theorem zero_38 : val_main_cst_38 (F := Ideal) (Shape.Idx.first h_S_) = (0 : EReal) := Ideal.ofBits_zero_f32

variable (A0 A1 A3 : ℕ → ℕ → ℝ) (SK : ℕ → ℝ)
variable (x0 x3 : (⟨S1x8192x1024, .f32⟩ : BufTy).Contents (Elt Ideal)) (x1 : (⟨S1x8192x256, .f32⟩ : BufTy).Contents (Elt Ideal))
  (x2 : (⟨S1x16, .f32⟩ : BufTy).Contents (Elt Ideal))
variable (h0 : ∀ (r : Fin 8192) (k : Fin 1024), x0 (ix3 0 r k) = ((A0 r.val k.val : ℝ) : EReal))
variable (h1 : ∀ (r : Fin 8192) (k : Fin 256), x1 (ix3 0 r k) = ((A1 r.val k.val : ℝ) : EReal))
variable (h3 : ∀ (r : Fin 8192) (k : Fin 1024), x3 (ix3 0 r k) = ((A3 r.val k.val : ℝ) : EReal))
variable (h2 : ∀ k : Fin 16, x2 (ix2 0 k) = ((SK k.val : ℝ) : EReal))
variable (n : Fin 64) (k : Fin 2) (g : Fin 8) (r : Fin 128)

/-- A row's greatest score. -/
theorem v84 : (val_main_v84 (F := Ideal) x0 x1 (ix5 0 n k g r) : EReal)
    = (Finset.univ : Finset (Fin 256)).fold max (⊥ : EReal) fun c => val_main_v81_0 (F := Ideal) x0 x1 (ix6 0 n k g r c) := by
  have e : val_main_cst_24 (F := Ideal) (Shape.Idx.first h_S_) = (⊥ : EReal) := ofBits_bot
  unfold val_main_v84
  revert e
  generalize val_main_v81_0 (F := Ideal) x0 x1 = a
  generalize val_main_cst_24 (F := Ideal) = i
  intro e
  exact max_apply a i e n k g r

theorem v90 : val_main_v90 (F := Ideal) x0 x1 (ix6 0 n k g r 0) = val_main_v84 (F := Ideal) x0 x1 (ix5 0 n k g r) := by
  unfold val_main_v90
  generalize val_main_v84 (F := Ideal) x0 x1 = a
  pointwise []

theorem v92 : val_main_v92 (F := Ideal) x2 (ix6 0 n k g r 0) = x2 (ix2 0 ⟨k.val * 8 + g.val, by omega⟩) := by
  unfold val_main_v92 val_main_v91 val_main_v83 val_main_v82 val_main_v16
  pointwise []

theorem v93_max : val_main_v93 (F := Ideal) x0 x1 x2 (ix6 0 n k g r 0)
    = FloatOps.maximumf (F := Ideal) (φ := .f32) (val_main_v84 (F := Ideal) x0 x1 (ix5 0 n k g r)) (x2 (ix2 0 ⟨k.val * 8 + g.val, by omega⟩)) := by
  rw [val_main_v93_apply, v90, v92]

theorem maximumf_eq (u v : EReal) : FloatOps.maximumf (F := Ideal) (φ := .f32) u v = max u v := rfl

theorem v93 : (val_main_v93 (F := Ideal) x0 x1 x2 (ix6 0 n k g r 0) : EReal)
    = max (val_main_v84 (F := Ideal) x0 x1 (ix5 0 n k g r) : EReal) (x2 (ix2 0 ⟨k.val * 8 + g.val, by omega⟩) : EReal) :=
  (v93_max x0 x1 x2 n k g r).trans (maximumf_eq _ _)

include h0 h1 h2 in
/-- The number that is taken off a row's scores is real. -/
theorem exists_max : ∃ M : ℝ, val_main_v93 (F := Ideal) x0 x1 x2 (ix6 0 n k g r 0) = (M : EReal) := by
  rw [v93, v84, h2]
  refine max_real _ (fun c => ?_) _
  rw [v81 A0 A1 x0 x1 h0 h1]
  split
  · exact EReal.coe_ne_top _
  · exact bot_ne_top

/-- Some column holds the row's greatest score, so their count is not zero. -/
theorem v89_ne : val_main_v89 (F := Ideal) x0 x1 (ix5 0 n k g r) ≠ 0 := by
  obtain ⟨c, -, hc⟩ := Finset.exists_mem_eq_sup (Finset.univ : Finset (Fin 256)) ⟨0, Finset.mem_univ _⟩
    (fun c => val_main_v81_0 (F := Ideal) x0 x1 (ix6 0 n k g r c))
  have e : val_main_v81_0 (F := Ideal) x0 x1 (ix6 0 n k g r c) = val_main_v84 (F := Ideal) x0 x1 (ix5 0 n k g r) := by
    rw [v84]
    exact hc.symm
  revert e
  unfold val_main_v89 val_main_v88 val_main_v87 val_main_v86 val_main_v85
  generalize val_main_v84 (F := Ideal) x0 x1 = a
  generalize val_main_v81_0 (F := Ideal) x0 x1 = b
  intro e
  rw [sum_apply _ _ zero_25 n k g r]
  have h1 : (1 : EReal) ≤ ∑ c : Fin 256, uitofp (F := Ideal) .f32 (cmpf (F := Ideal) (φ := .f32) .oeq b (broadcastInDim S1x64x2x8x128x256 ![0, 1, 2, 3, 4, 5] bcast_S1x64x2x8x128x1_S1x64x2x8x128x256_0_1_2_3_4_5 (shapeCast _ a shapeCasts_S1x64x2x8x128_S1x64x2x8x128x1))) (ix6 0 n k g r c) := by
    pointwise []
    have h2 : ∀ x : Fin 256, (0 : EReal) ≤ FloatOps.uitofp (F := Ideal) .f32 (BitVec.ofBool (decide (b (ix6 0 n k g r x) = a (ix5 0 n k g r)))) := by
      intro x
      show (0 : EReal) ≤ (((BitVec.ofBool _).toNat : ℝ) : EReal)
      exact_mod_cast Nat.zero_le _
    refine le_trans ?_ (Finset.single_le_sum (fun x _ => h2 x) (Finset.mem_univ c))
    rw [e, decide_eq_true rfl]
    show (1 : EReal) ≤ (((1 : ℕ) : ℝ) : EReal)
    simp
  exact ne_of_gt (lt_of_lt_of_le zero_lt_one h1)

section Row

variable (M : ℝ) (hM : val_main_v93 (F := Ideal) x0 x1 x2 (ix6 0 n k g r 0) = (M : EReal))

/-- The head's number. -/
abbrev hd (k : Fin 2) (g : Fin 8) : ℕ := k.val * 8 + g.val

include h0 h1 hM in
theorem v114 (c : Fin 256) : val_main_v114 (F := Ideal) x0 x1 x2 (ix6 0 n k g r c)
    = ((w (n.val == 0) (TR A0 A1 n.val (hd k g)) r c * Real.exp (-M) : ℝ) : EReal) := by
  have g81 := v81 A0 A1 x0 x1 h0 h1 n r k g c
  unfold val_main_v114 val_main_v113 val_main_v112
  revert g81 hM
  generalize val_main_v93 (F := Ideal) x0 x1 x2 = a
  generalize val_main_v81_0 (F := Ideal) x0 x1 = b
  intro hM g81
  pointwise []
  rw [g81, hM, exp_sub]
  rfl

include h2 hM in
theorem v120 : val_main_v120 (F := Ideal) x0 x1 x2 (ix6 0 n k g r 0) = ((Real.exp (SK (hd k g)) * Real.exp (-M) : ℝ) : EReal) := by
  unfold val_main_v120 val_main_v119 val_main_v118 val_main_v117 val_main_v83 val_main_v82 val_main_v16
  revert hM
  generalize val_main_v93 (F := Ideal) x0 x1 x2 = a
  intro hM
  pointwise []
  rw [h2, hM, ← EReal.coe_sub, Ideal.exp_coe, sub_eq_add_neg, Real.exp_add]

include h0 h1 hM in
theorem v115 : val_main_v115 (F := Ideal) x0 x1 x2 (ix5 0 n k g r)
    = (((∑ c, w (n.val == 0) (TR A0 A1 n.val (hd k g)) r c) * Real.exp (-M) : ℝ) : EReal) := by
  have g114 := v114 A0 A1 x0 x1 x2 h0 h1 n k g r M hM
  unfold val_main_v115
  revert g114
  generalize val_main_v114 (F := Ideal) x0 x1 x2 = a
  intro g114
  rw [sum_apply _ _ zero_32 n k g r]
  simp only [g114, coe_sum, ← Finset.sum_mul]

include h0 h1 h2 hM in
theorem v121 : val_main_v121 (F := Ideal) x0 x1 x2 (ix6 0 n k g r 0)
    = ((Zs (n.val == 0) (TR A0 A1 n.val (hd k g)) (SK (hd k g)) r * Real.exp (-M) : ℝ) : EReal) := by
  have g115 := v115 A0 A1 x0 x1 x2 h0 h1 n k g r M hM
  have g120 := v120 SK x0 x1 x2 h2 n k g r M hM
  unfold val_main_v121 val_main_v116
  revert g115 g120
  generalize val_main_v115 (F := Ideal) x0 x1 x2 = a
  generalize val_main_v120 (F := Ideal) x0 x1 x2 = b
  intro g115 g120
  pointwise []
  rw [g115, g120, ← EReal.coe_add, ← add_mul]
  rfl

include h0 h1 h2 hM in
theorem v123 (c : Fin 256) : val_main_v123 (F := Ideal) x0 x1 x2 (ix6 0 n k g r c)
    = ((P (n.val == 0) (TR A0 A1 n.val (hd k g)) (SK (hd k g)) r c : ℝ) : EReal) := by
  have g114 := v114 A0 A1 x0 x1 x2 h0 h1 n k g r M hM c
  have g121 := v121 A0 A1 SK x0 x1 x2 h0 h1 h2 n k g r M hM
  have hZ := Zs_pos (n.val == 0) (TR A0 A1 n.val (hd k g)) (SK (hd k g)) r
  unfold val_main_v123 val_main_v122
  revert g114 g121
  generalize val_main_v114 (F := Ideal) x0 x1 x2 = a
  generalize val_main_v121 (F := Ideal) x0 x1 x2 = b
  intro g114 g121
  pointwise []
  rw [g114, g121, div_real _ (mul_pos hZ (Real.exp_pos _)).ne', mul_div_mul_right _ _ (Real.exp_pos _).ne']
  rfl

include h0 h1 h2 hM in
theorem v126 : val_main_v126 (F := Ideal) x0 x1 x2 (ix6 0 n k g r 0)
    = ((1 / ((Zs (n.val == 0) (TR A0 A1 n.val (hd k g)) (SK (hd k g)) r * Real.exp (-M)) * (Zs (n.val == 0) (TR A0 A1 n.val (hd k g)) (SK (hd k g)) r * Real.exp (-M))) : ℝ) : EReal) := by
  have g121 := v121 A0 A1 SK x0 x1 x2 h0 h1 h2 n k g r M hM
  have hZ := mul_pos (Zs_pos (n.val == 0) (TR A0 A1 n.val (hd k g)) (SK (hd k g)) r) (Real.exp_pos (-M))
  unfold val_main_v126 val_main_v125 val_main_v124 val_main_cst_33
  revert g121
  generalize val_main_v121 (F := Ideal) x0 x1 x2 = b
  intro g121
  pointwise []
  rw [g121, ← EReal.coe_mul, show (1 : EReal) = ((1 : ℝ) : EReal) from rfl, div_real _ (mul_pos hZ hZ).ne']

include h1 h3 in
omit n g r in
theorem v132 (n : Fin 64) (g : Fin 8) (r : Fin 128) (c : Fin 256) : val_main_v132 (F := Ideal) x1 x3 (ix6 0 n k g r c) = ((DR A1 A3 n.val (hd k g) r c : ℝ) : EReal) := by
  have g130 := v130 A3 x3 h3 n r k g
  have g15 := v15 A1 x1 h1 n c k
  unfold val_main_v132 val_main_v131
  revert g130 g15
  generalize val_main_v130 (F := Ideal) x3 = a
  generalize val_main_v15 (F := Ideal) x1 = b
  intro g130 g15
  pointwise []
  simp only [g130, g15, ← EReal.coe_mul, coe_sum]
  refine congrArg _ ?_
  unfold DR D hd
  have e : (k.val * 8 + g.val) / 8 = k.val := by omega
  rw [e]

include h0 h1 h2 h3 hM in
theorem v140 : val_main_v140 (F := Ideal) x0 x1 x2 x3 (ix6 0 n k g r 0)
    = ((-(rd (n.val == 0) (TR A0 A1 n.val (hd k g)) (DR A1 A3 n.val (hd k g)) (SK (hd k g)) r
        / (Zs (n.val == 0) (TR A0 A1 n.val (hd k g)) (SK (hd k g)) r * Real.exp (-M))) : ℝ) : EReal) := by
  have g114 := v114 A0 A1 x0 x1 x2 h0 h1 n k g r M hM
  have g126 := v126 A0 A1 SK x0 x1 x2 h0 h1 h2 n k g r M hM
  have g132 := v132 A1 A3 x3 x1 h1 h3 k n g r
  have hZ := (Zs_pos (n.val == 0) (TR A0 A1 n.val (hd k g)) (SK (hd k g)) r).ne'
  have hE := (Real.exp_pos (-M)).ne'
  unfold val_main_v140 val_main_v139 val_main_v138
  have g137 : ∀ c, val_main_v137 (F := Ideal) x0 x1 x2 x3 (ix6 0 n k g r c)
      = ((P (n.val == 0) (TR A0 A1 n.val (hd k g)) (SK (hd k g)) r c * DR A1 A3 n.val (hd k g) r c
        / (Zs (n.val == 0) (TR A0 A1 n.val (hd k g)) (SK (hd k g)) r * Real.exp (-M)) : ℝ) : EReal) := by
    intro c
    unfold val_main_v137 val_main_v136 val_main_v135
    revert g114 g126 g132
    generalize val_main_v114 (F := Ideal) x0 x1 x2 = a
    generalize val_main_v126 (F := Ideal) x0 x1 x2 = b
    generalize val_main_v132 (F := Ideal) x1 x3 = d
    intro g114 g126 g132
    pointwise []
    rw [g114, g126, g132, ← EReal.coe_mul, ← EReal.coe_mul]
    refine congrArg _ ?_
    unfold P
    field_simp
  revert g137
  generalize val_main_v137 (F := Ideal) x0 x1 x2 x3 = a
  intro g137
  have gs := sum_apply a _ zero_34 n k g r
  simp only [g137, coe_sum, ← Finset.sum_div] at gs
  revert gs
  generalize Host.reduceAdd (F := Ideal) (φ := .f32) a (val_main_cst_34 (F := Ideal)) reducesTo_S1x64x2x8x128x256_S1x64x2x8x128_d5 h_S_ = b
  intro gs
  pointwise []
  rw [gs, ← EReal.coe_neg]
  rfl

include h0 h1 h2 h3 hM in
theorem v143_of : val_main_v143 (F := Ideal) x0 x1 x2 x3 (ix6 0 n k g r 0)
    = ((dK (n.val == 0) (TR A0 A1 n.val (hd k g)) (DR A1 A3 n.val (hd k g)) (SK (hd k g)) r : ℝ) : EReal) := by
  have g140 := v140 A0 A1 A3 SK x0 x3 x1 x2 h0 h1 h3 h2 n k g r M hM
  have g120 := v120 SK x0 x1 x2 h2 n k g r M hM
  have hZ := (Zs_pos (n.val == 0) (TR A0 A1 n.val (hd k g)) (SK (hd k g)) r).ne'
  have hE := (Real.exp_pos (-M)).ne'
  unfold val_main_v143
  revert g140 g120
  generalize val_main_v140 (F := Ideal) x0 x1 x2 x3 = a
  generalize val_main_v120 (F := Ideal) x0 x1 x2 = b
  intro g140 g120
  pointwise []
  rw [g140, g120, ← EReal.coe_mul]
  refine congrArg _ ?_
  unfold dK
  field_simp

/-- A host sum over two axes of extent one. -/
theorem unit_apply (x : FVec Ideal S1x64x2x8x128x1 .f32) (init : FVec Ideal S_ .f32) (hi : init (Shape.Idx.first h_S_) = (0 : EReal)) :
    (Host.reduceAdd x init reducesTo_S1x64x2x8x128x1_S64x2x8x128_d0_5 h_S_ (ix4 n k g r) : EReal) = x (ix6 0 n k g r 0) := by
  show Ideal.hostReduceAdd _ _ (init _) _ = _
  refine (hostReduceAdd_of_unique _ _ _ _ (ix6 0 n k g r 0) ?_ fun q hq => ?_).trans ?_
  · funext b
    fin_cases b <;> rfl
  · have e1 : q 1 = n := congrFun hq 0
    have e2 : q 2 = k := congrFun hq 1
    have e3 : q 3 = g := congrFun hq 2
    have e4 : q 4 = r := congrFun hq 3
    have b0 : (q 0).val < 1 := (q 0).isLt
    have b5 : (q 5).val < 1 := (q 5).isLt
    funext a
    match a with
    | ⟨0, _⟩ => exact Fin.ext (by show 0 = (q 0).val; omega)
    | ⟨1, _⟩ => exact e1.symm
    | ⟨2, _⟩ => exact e2.symm
    | ⟨3, _⟩ => exact e3.symm
    | ⟨4, _⟩ => exact e4.symm
    | ⟨5, _⟩ => exact Fin.ext (by show 0 = (q 5).val; omega)
  · rw [hi, zero_add]

theorem zero_37 : val_main_cst_37 (F := Ideal) (Shape.Idx.first h_S_) = (0 : EReal) := Ideal.ofBits_zero_f32
theorem zero_41 : val_main_cst_41 (F := Ideal) (Shape.Idx.first h_S_) = (0 : EReal) := Ideal.ofBits_zero_f32

include h0 h1 h2 h3 hM in
theorem v153_of (c : Fin 256) : val_main_v153 (F := Ideal) x0 x1 x2 x3 (ix6 0 n k g r c)
    = ((dS (n.val == 0) (TR A0 A1 n.val (hd k g)) (DR A1 A3 n.val (hd k g)) (SK (hd k g)) r c : ℝ) : EReal) := by
  have g140 := v140 A0 A1 A3 SK x0 x3 x1 x2 h0 h1 h3 h2 n k g r M hM
  have g114 := v114 A0 A1 x0 x1 x2 h0 h1 n k g r M hM c
  have g121 := v121 A0 A1 SK x0 x1 x2 h0 h1 h2 n k g r M hM
  have g132 := v132 A1 A3 x3 x1 h1 h3 k n g r c
  have hZ := Zs_pos (n.val == 0) (TR A0 A1 n.val (hd k g)) (SK (hd k g)) r
  have hE := Real.exp_pos (-M)
  have g149 : val_main_v149 (F := Ideal) x0 x1 x2 x3 (ix4 n k g r) = _ := unit_apply n k g r _ _ zero_37
  rw [g140] at g149
  unfold val_main_v153 val_main_v152 val_main_v151 val_main_v150 val_main_v142 val_main_v141
  revert g149 g114 g121 g132
  generalize val_main_v149 (F := Ideal) x0 x1 x2 x3 = a
  generalize val_main_v114 (F := Ideal) x0 x1 x2 = b
  generalize val_main_v121 (F := Ideal) x0 x1 x2 = d
  generalize val_main_v132 (F := Ideal) x1 x3 = e
  intro g149 g114 g121 g132
  pointwise []
  rw [g149, g114, g121, g132, div_real _ (mul_pos hZ hE).ne', ← EReal.coe_add, ← EReal.coe_mul]
  refine congrArg _ ?_
  have hZ' := hZ.ne'
  have hE' := hE.ne'
  unfold dS P
  field_simp
  ring

end Row

end Cert.AttnRefIdeal.Real
-- ==== Proof.AttnAfter.lean ====
/-
  THE ATTENTION'S BACKWARD KERNEL, what each grid point leaves in its four output blocks, over the point's input blocks.
-/
module

public import proofs.«01_k».proof.Proof.AttnOut
public import proofs.«01_k».proof.Proof.Gen.AttnBwdIdeal.Value

@[expose] public section

set_option maxRecDepth 16384

noncomputable section

namespace Cert.AttnBwdIdeal.Real

open Cert.AttnBwdIdeal Cert.AttnBwdIdeal.Gen Idealize.ShloMosaic Idealize.ShloMosaic.TcCoe Idealize.SL.Sem

variable {F : FTy → Type} [FloatOps F] (c : Dev nD) (m : (ℓ : Loc nD τ sig) → Buf (Elt F) ℓ) (t : Fin cfg0.N)

theorem after6 : (outsAt0 m c t.val t.isLt).1
    = dqBlock (dqOf (isFirst (grid0.coords t)) (iblk m c 0 t) (iblk m c 1 t) (iblk m c 2 t) (iblk m c 3 t) (iblk m c 4 t) (iblk m c 5 t)) := by
  by_cases h0 : t.val % 64 = 0
  · rw [outsAt0_A m c t h0]; dsimp only; rw [out_A_6]
  · rw [outsAt0_B m c t h0]; dsimp only; rw [out_B_6]

theorem after7 : (outsAt0 m c t.val t.isLt).2.1
    = dkvOf k0_pay3 (isFirst (grid0.coords t)) (iblk m c 0 t) (iblk m c 1 t) (iblk m c 2 t) (iblk m c 3 t) (iblk m c 4 t) (iblk m c 5 t) := by
  by_cases h0 : t.val % 64 = 0
  · rw [outsAt0_A m c t h0]; dsimp only; rw [out_A_7]
  · rw [outsAt0_B m c t h0]; dsimp only; rw [out_B_7]

theorem after8 : (outsAt0 m c t.val t.isLt).2.2.1
    = dkvOf k0_pay2 (isFirst (grid0.coords t)) (iblk m c 0 t) (iblk m c 1 t) (iblk m c 2 t) (iblk m c 3 t) (iblk m c 4 t) (iblk m c 5 t) := by
  by_cases h0 : t.val % 64 = 0
  · rw [outsAt0_A m c t h0]; dsimp only; rw [out_A_8]
  · rw [outsAt0_B m c t h0]; dsimp only; rw [out_B_8]

theorem after9_A (h0 : t.val % 64 = 0) : (outsAt0 m c t.val t.isLt).2.2.2
    = k0_pay4 (dsinkOf (isFirst (grid0.coords t)) (iblk m c 0 t) (iblk m c 1 t) (iblk m c 2 t) (iblk m c 3 t) (iblk m c 4 t) (iblk m c 5 t) 16) k0_pay5 := by
  rw [outsAt0_A m c t h0]; dsimp only; rw [out_A_9]

theorem after9_B (h0 : ¬ t.val % 64 = 0) : (outsAt0 m c t.val t.isLt).2.2.2
    = k0_pay4 (dsinkOf (isFirst (grid0.coords t)) (iblk m c 0 t) (iblk m c 1 t) (iblk m c 2 t) (iblk m c 3 t) (iblk m c 4 t) (iblk m c 5 t) 16)
        (outsAt0 m c (t.val - 1) (Nat.lt_of_le_of_lt (Nat.sub_le _ _) t.isLt)).2.2.2 := by
  rw [outsAt0_B m c t h0]; dsimp only; rw [out_B_9]

end Cert.AttnBwdIdeal.Real
-- ==== Proof.AttnFinal.lean ====
/-
  THE ATTENTION'S BACKWARD KERNEL, its four result arrays over real arguments: the queries' gradients and the keys' and
  values' gradients (each grid point writes its own block of rows back), and the sinks' gradients (one block, to which
  every point adds).
-/
module

public import proofs.«01_k».proof.Proof.AttnAfter
public import proofs.«01_k».proof.Proof.AttnBlk
public import proofs.«01_k».proof.Proof.AttnBlock
public import Idealize.ShloMosaic.Lib.Pipeline.ValueKit.Geometry
public import Idealize.ShloMosaic.Lib.Pipeline.ValueKit.Acc

@[expose] public section

set_option maxRecDepth 16384
set_option backward.isDefEq.respectTransparency false

noncomputable section

namespace Cert.AttnBwdIdeal.Real

open Cert.AttnBwdIdeal Cert.AttnBwdIdeal.Gen Cert.Step Cert.Attn Idealize.ShloMosaic Idealize.ShloMosaic.TcCoe Idealize.SL.Sem
open Idealize.ShloMosaic.Pointwise

variable (m : (ℓ : Loc nD τ sig) → Buf (Elt Ideal) ℓ) (c : Dev nD)
variable (A0 A1 A3 : ℕ → ℕ → ℝ) (SK : ℕ → ℝ)
variable (hA0 : ∀ (r : Fin 8192) (k : Fin 1024), m ((c : Thread nD τ).loc main_arg0) (ix3 0 r k) = ((A0 r.val k.val : ℝ) : EReal))
variable (hA1 : ∀ (r : Fin 8192) (k : Fin 256), m ((c : Thread nD τ).loc main_arg1) (ix3 0 r k) = ((A1 r.val k.val : ℝ) : EReal))
variable (hA3 : ∀ (r : Fin 8192) (k : Fin 1024), m ((c : Thread nD τ).loc main_arg3) (ix3 0 r k) = ((A3 r.val k.val : ℝ) : EReal))
variable (hSK : ∀ k : Fin 16, m ((c : Thread nD τ).loc main_arg2) (ix2 0 k) = ((SK k.val : ℝ) : EReal))

/-! ## One block of rows -/

/-- The queries' gradients of block `n`. -/
def bQ (n h : ℕ) (r : Fin 128) (d : Fin 64) : ℝ :=
  dQ (n == 0) (rowsAt A0 n) (rowsAt A1 n) (rowsAt A1 (n - 1)) (rowsAt A3 n) slope SK h r d

/-- The keys' and values' gradients of block `n` over its band, keys in the lanes below 128. -/
def bKV (n : ℕ) (r : Fin 256) (l : ℕ) : ℝ :=
  if l < 128 then dKb (n == 0) (rowsAt A0 n) (rowsAt A1 n) (rowsAt A1 (n - 1)) (rowsAt A3 n) slope SK (l / 64) r ⟨l % 64, Nat.mod_lt _ (by decide)⟩
  else dVb (n == 0) (rowsAt A0 n) (rowsAt A1 n) (rowsAt A1 (n - 1)) (rowsAt A3 n) slope SK ((l - 128) / 64) r ⟨l % 64, Nat.mod_lt _ (by decide)⟩

/-- The sinks' gradients from block `n`. -/
def bS (n : ℕ) (l : ℕ) : ℝ :=
  if l < 16 then dKK (n == 0) (rowsAt A0 n) (rowsAt A1 n) (rowsAt A1 (n - 1)) (rowsAt A3 n) slope SK l else 0

variable (t : Fin cfg0.N)

theorem isFirst_at : isFirst (grid0.coords t) = bif (t.val == 0) then 1#1 else 0#1 := first_bits t

include hA0 hA1 hA3 hSK in
theorem q_block (r : Fin 128) (l : Fin 1024) :
    dqBlock (dqOf (isFirst (grid0.coords t)) (iblk m c 0 t) (iblk m c 1 t) (iblk m c 2 t) (iblk m c 3 t) (iblk m c 4 t) (iblk m c 5 t)) (ix2 r l)
      = ((bQ A0 A1 A3 SK t.val (l.val / 64) r ⟨l.val % 64, Nat.mod_lt _ (by decide)⟩ : ℝ) : EReal) := by
  have hl := l.isLt
  rw [isFirst_at]
  refine Eq.trans ?_ (dqOf_apply (t.val == 0) _ _ _ _ _ _ _ _ _ _ SK (blk0 m c t A0 hA0) (blk1 m c t A1 hA1) (blk2 m c t A1 hA1) (blk3 m c t A3 hA3)
    (blk4 m c t) (blk5 m c t SK hSK) (l.val / 64) (by omega) r ⟨l.val % 64, Nat.mod_lt _ (by decide)⟩)
  unfold dqBlock
  show dqOf _ _ _ _ _ _ _ (l.val / 128) (ix2 r ⟨l.val % 128, _⟩) = _
  rw [show l.val / 64 / 2 = l.val / 128 by omega]
  refine congrArg _ (congrArg (ix2 r) (Fin.ext ?_))
  show l.val % 128 = (bif (l.val / 64 % 2 == 1) then 64 else 0) + l.val % 64
  cases hb : (l.val / 64 % 2 == 1)
  · have : l.val / 64 % 2 ≠ 1 := by simpa using hb
    show _ = 0 + _
    omega
  · have : l.val / 64 % 2 = 1 := by simpa using hb
    show _ = 64 + _
    omega

theorem kv_rows (b : ℕ) (hb : b + 128 ≤ 256) (pay : FVec Ideal S256x128 .f32 → FVec Ideal S256x128 .f32 → FVec Ideal S256x128 .f32 → FVec Ideal S256x128 .f32 → IVec S256x128 32 → FVec Ideal S128x256 .f32)
    (hpay : ∀ (p q s u : FVec Ideal S256x128 .f32) (r : Fin 128) (l : Fin 256),
      pay p q s u (iota .tc S256x128 32 [1] iota_S256x128_d1_w32) (ix2 r l)
        = if h : l.val < 128 then (if l.val < 64 then p else s) (ix2 (⟨b + r.val, by omega⟩ : Fin 256) (⟨l.val, h⟩ : Fin 128))
          else (if l.val - 128 < 64 then q else u) (ix2 (⟨b + r.val, by omega⟩ : Fin 256) (⟨l.val - 128, by omega⟩ : Fin 128)))
    (f : Bool) (q kv pv o : Fin 128 → ℕ → ℝ) (sk : ℕ → ℝ)
    (x0 : Vec Ideal S128x1024 .bf16) (x1 x2 : Vec Ideal S128x256 .bf16) (x3 : Vec Ideal S128x1024 .bf16)
    (x4 : Vec Ideal S128x128 .f32) (x5 : Vec Ideal S16 .f32)
    (h0 : ∀ (r : Fin 128) (l : Fin 1024), x0 (ix2 r l) = ((q r l.val : ℝ) : EReal))
    (h1 : ∀ (r : Fin 128) (l : Fin 256), x1 (ix2 r l) = ((kv r l.val : ℝ) : EReal))
    (h2 : ∀ (r : Fin 128) (l : Fin 256), x2 (ix2 r l) = ((pv r l.val : ℝ) : EReal))
    (h3 : ∀ (r : Fin 128) (l : Fin 1024), x3 (ix2 r l) = ((o r l.val : ℝ) : EReal))
    (h4 : ∀ r j : Fin 128, x4 (ix2 r j) = (((r.val : ℝ) + 128 - (fc r j).val : ℝ) : EReal))
    (h5 : ∀ h < 16, sinkAt x5 h = ((sk h : ℝ) : EReal)) (r : Fin 128) (l : Fin 256) :
    dkvOf pay (bif f then 1#1 else 0#1) x0 x1 x2 x3 x4 x5 (ix2 r l)
      = (((if l.val < 128 then dKb f q kv pv o slope sk (l.val / 64) ⟨b + r.val, by omega⟩ ⟨l.val % 64, Nat.mod_lt _ (by decide)⟩
        else dVb f q kv pv o slope sk ((l.val - 128) / 64) ⟨b + r.val, by omega⟩ ⟨l.val % 64, Nat.mod_lt _ (by decide)⟩ : ℝ)) : EReal) := by
  have hl := l.isLt
  unfold dkvOf
  rw [hpay]
  have hk := fun k hk c l => dkOf_apply f x0 x1 x2 x3 x4 x5 q kv pv o sk h0 h1 h2 h3 h4 h5 k hk c l
  have hv := fun k hk c l => dvOf_apply f x0 x1 x2 x3 x4 x5 q kv pv o sk h0 h1 h2 h3 h4 h5 k hk c l
  by_cases h : l.val < 128
  · rw [dif_pos h, if_pos h]
    by_cases h' : l.val < 64
    · rw [if_pos h', hk 0 (by decide), show l.val / 64 = 0 by omega]
      rfl
    · rw [if_neg h', hk 1 (by decide), show l.val / 64 = 1 by omega]
      rfl
  · rw [dif_neg h, if_neg h]
    have e : half (⟨l.val - 128, by omega⟩ : Fin 128) = ⟨l.val % 64, Nat.mod_lt _ (by decide)⟩ := Fin.ext (by show (l.val - 128) % 64 = l.val % 64; omega)
    by_cases h' : l.val - 128 < 64
    · rw [if_pos h', hv 0 (by decide), show (l.val - 128) / 64 = 0 by omega, e]
    · rw [if_neg h', hv 1 (by decide), show (l.val - 128) / 64 = 1 by omega, e]

theorem select_slt (n : ℕ) (hn : n < 128) (a b : EReal) :
    Scalar.select (IntOp.cmpi CmpIPredicate.slt (BitVec.ofNat 32 n) 64#32) a b = if n < 64 then a else b := by
  rw [slt_bits ⟨n, hn⟩, select_ite]

theorem pay3_apply (p q s u : FVec Ideal S256x128 .f32) (r : Fin 128) (l : Fin 256) :
    k0_pay3 p q s u (iota .tc S256x128 32 [1] iota_S256x128_d1_w32) (ix2 r l)
      = if h : l.val < 128 then (if l.val < 64 then p else s) (ix2 (⟨128 + r.val, by omega⟩ : Fin 256) (⟨l.val, h⟩ : Fin 128))
        else (if l.val - 128 < 64 then q else u) (ix2 (⟨128 + r.val, by omega⟩ : Fin 256) (⟨l.val - 128, by omega⟩ : Fin 128)) := by
  unfold k0_pay3 k0_pay1
  pointwise []
  by_cases h : l.val < 128
  · rw [dif_pos h, dif_pos h, select_slt l.val h]
    split <;> rfl
  · rw [dif_neg h, dif_neg h, select_slt (l.val - 128) (by omega)]
    split <;> rfl

theorem pay2_apply (p q s u : FVec Ideal S256x128 .f32) (r : Fin 128) (l : Fin 256) :
    k0_pay2 p q s u (iota .tc S256x128 32 [1] iota_S256x128_d1_w32) (ix2 r l)
      = if h : l.val < 128 then (if l.val < 64 then p else s) (ix2 (⟨0 + r.val, by omega⟩ : Fin 256) (⟨l.val, h⟩ : Fin 128))
        else (if l.val - 128 < 64 then q else u) (ix2 (⟨0 + r.val, by omega⟩ : Fin 256) (⟨l.val - 128, by omega⟩ : Fin 128)) := by
  unfold k0_pay2 k0_pay1
  pointwise []
  by_cases h : l.val < 128
  · rw [dif_pos h, dif_pos h, select_slt l.val h]
    split <;> rfl
  · rw [dif_neg h, dif_neg h, select_slt (l.val - 128) (by omega)]
    split <;> rfl

include hA0 hA1 hA3 hSK in
theorem own_block (r : Fin 128) (l : Fin 256) :
    dkvOf k0_pay3 (isFirst (grid0.coords t)) (iblk m c 0 t) (iblk m c 1 t) (iblk m c 2 t) (iblk m c 3 t) (iblk m c 4 t) (iblk m c 5 t) (ix2 r l)
      = ((bKV A0 A1 A3 SK t.val ⟨128 + r.val, by omega⟩ l.val : ℝ) : EReal) := by
  rw [isFirst_at]
  exact kv_rows 128 (by decide) k0_pay3 pay3_apply (t.val == 0) _ _ _ _ SK _ _ _ _ _ _ (blk0 m c t A0 hA0) (blk1 m c t A1 hA1) (blk2 m c t A1 hA1)
    (blk3 m c t A3 hA3) (blk4 m c t) (blk5 m c t SK hSK) r l

include hA0 hA1 hA3 hSK in
theorem prev_block (r : Fin 128) (l : Fin 256) :
    dkvOf k0_pay2 (isFirst (grid0.coords t)) (iblk m c 0 t) (iblk m c 1 t) (iblk m c 2 t) (iblk m c 3 t) (iblk m c 4 t) (iblk m c 5 t) (ix2 r l)
      = ((bKV A0 A1 A3 SK t.val ⟨r.val, by omega⟩ l.val : ℝ) : EReal) := by
  rw [isFirst_at]
  refine (kv_rows 0 (by decide) k0_pay2 pay2_apply (t.val == 0) _ _ _ _ SK _ _ _ _ _ _ (blk0 m c t A0 hA0) (blk1 m c t A1 hA1) (blk2 m c t A1 hA1)
    (blk3 m c t A3 hA3) (blk4 m c t) (blk5 m c t SK hSK) r l).trans ?_
  have e : (⟨0 + r.val, by omega⟩ : Fin 256) = ⟨r.val, by omega⟩ := Fin.ext (Nat.zero_add _)
  rw [e]
  rfl

include hA0 hA1 hA3 hSK in
theorem sink_block (l : Fin 128) :
    dsinkOf (isFirst (grid0.coords t)) (iblk m c 0 t) (iblk m c 1 t) (iblk m c 2 t) (iblk m c 3 t) (iblk m c 4 t) (iblk m c 5 t) 16 (ix2 0 l)
      = ((bS A0 A1 A3 SK t.val l.val : ℝ) : EReal) := by
  rw [isFirst_at]
  exact dsinkOf_apply (t.val == 0) _ _ _ _ _ _ _ _ _ _ SK (blk0 m c t A0 hA0) (blk1 m c t A1 hA1) (blk2 m c t A1 hA1) (blk3 m c t A3 hA3)
    (blk4 m c t) (blk5 m c t SK hSK) 16 (le_refl _) l

/-! ## The arrays -/

def dqArr (i : S8192x1024.Idx) : EReal :=
  ((bQ A0 A1 A3 SK ((i 0).val / 128) ((i 1).val / 64) ⟨(i 0).val % 128, Nat.mod_lt _ (by decide)⟩ ⟨(i 1).val % 64, Nat.mod_lt _ (by decide)⟩ : ℝ) : EReal)

def ownArr (i : S8192x256.Idx) : EReal :=
  ((bKV A0 A1 A3 SK ((i 0).val / 128) ⟨128 + (i 0).val % 128, by omega⟩ (i 1).val : ℝ) : EReal)

def prevArr (i : S8192x256.Idx) : EReal :=
  ((bKV A0 A1 A3 SK ((i 0).val / 128) ⟨(i 0).val % 128, by omega⟩ (i 1).val : ℝ) : EReal)

def sinkArr (i : S1x128.Idx) : EReal := ((∑ n : Fin 64, bS A0 A1 A3 SK n.val (i 1).val : ℝ) : EReal)

theorem idx6 : ∀ t : Fin cfg0.N, win0_6.index t = ![t.val, 0] := (by decide +kernel : ∀ t : Fin grid0.N, win0_6.index t = ![t.val, 0])
theorem idx7 : ∀ t : Fin cfg0.N, win0_7.index t = ![t.val, 0] := (by decide +kernel : ∀ t : Fin grid0.N, win0_7.index t = ![t.val, 0])
theorem idx8 : ∀ t : Fin cfg0.N, win0_8.index t = ![t.val, 0] := (by decide +kernel : ∀ t : Fin grid0.N, win0_8.index t = ![t.val, 0])

include hA0 hA1 hA3 hSK in
theorem final6 : (dats m 0 c).arrAt 6 cfg0.N = dqArr A0 A1 A3 SK := by
  refine (dats m 0 c).arrAt_eq_of_covers 6 _ (by decide +kernel) fun t hf y => ?_
  have hN := N64 t
  obtain ⟨r, l, rfl⟩ : ∃ (r : Fin 128) (l : Fin 1024), y = ix2 r l := ⟨y 0, y 1, by blk_ext []⟩
  have e : (win0_6.blk t).view.emb (ix2 r l) = ix2 (⟨t.val * 128 + r.val, by omega⟩ : Fin 8192) l := by
    blk_ext [idx6 t]
  blk_simp
  rw [after0_6, after6, e]
  refine (q_block m c A0 A1 A3 SK hA0 hA1 hA3 hSK t r l).trans ?_
  unfold dqArr
  refine congrArg _ ?_
  show bQ A0 A1 A3 SK t.val (l.val / 64) r _ = bQ A0 A1 A3 SK ((t.val * 128 + r.val) / 128) (l.val / 64) ⟨(t.val * 128 + r.val) % 128, _⟩ _
  rw [show (t.val * 128 + r.val) / 128 = t.val by omega]
  exact congrArg (fun r' => bQ A0 A1 A3 SK t.val (l.val / 64) r' _) (Fin.ext (by show r.val = (t.val * 128 + r.val) % 128; omega))

include hA0 hA1 hA3 hSK in
theorem final7 : (dats m 0 c).arrAt 7 cfg0.N = ownArr A0 A1 A3 SK := by
  refine (dats m 0 c).arrAt_eq_of_covers 7 _ (by decide +kernel) fun t hf y => ?_
  have hN := N64 t
  obtain ⟨r, l, rfl⟩ : ∃ (r : Fin 128) (l : Fin 256), y = ix2 r l := ⟨y 0, y 1, by blk_ext []⟩
  have e : (win0_7.blk t).view.emb (ix2 r l) = ix2 (⟨t.val * 128 + r.val, by omega⟩ : Fin 8192) l := by
    blk_ext [idx7 t]
  blk_simp
  rw [after0_7, after7, e]
  refine (own_block m c A0 A1 A3 SK hA0 hA1 hA3 hSK t r l).trans ?_
  unfold ownArr
  refine congrArg _ ?_
  show bKV A0 A1 A3 SK t.val _ l.val = bKV A0 A1 A3 SK ((t.val * 128 + r.val) / 128) ⟨128 + (t.val * 128 + r.val) % 128, _⟩ l.val
  rw [show (t.val * 128 + r.val) / 128 = t.val by omega]
  exact congrArg (fun r' => bKV A0 A1 A3 SK t.val r' _) (Fin.ext (by show 128 + r.val = 128 + (t.val * 128 + r.val) % 128; omega))

include hA0 hA1 hA3 hSK in
theorem final8 : (dats m 0 c).arrAt 8 cfg0.N = prevArr A0 A1 A3 SK := by
  refine (dats m 0 c).arrAt_eq_of_covers 8 _ (by decide +kernel) fun t hf y => ?_
  have hN := N64 t
  obtain ⟨r, l, rfl⟩ : ∃ (r : Fin 128) (l : Fin 256), y = ix2 r l := ⟨y 0, y 1, by blk_ext []⟩
  have e : (win0_8.blk t).view.emb (ix2 r l) = ix2 (⟨t.val * 128 + r.val, by omega⟩ : Fin 8192) l := by
    blk_ext [idx8 t]
  blk_simp
  rw [after0_8, after8, e]
  refine (prev_block m c A0 A1 A3 SK hA0 hA1 hA3 hSK t r l).trans ?_
  unfold prevArr
  refine congrArg _ ?_
  show bKV A0 A1 A3 SK t.val _ l.val = bKV A0 A1 A3 SK ((t.val * 128 + r.val) / 128) ⟨(t.val * 128 + r.val) % 128, _⟩ l.val
  rw [show (t.val * 128 + r.val) / 128 = t.val by omega]
  exact congrArg (fun r' => bKV A0 A1 A3 SK t.val r' _) (Fin.ext (by show r.val = (t.val * 128 + r.val) % 128; omega))

theorem zeros (j : Fin 128) : k0_pay5 (F := Ideal) (ix2 0 j) = 0 := by
  pointwise [k0_pay5]

theorem adds (v x : Vec Ideal S1x128 .f32) (j : Fin 128) : k0_pay4 (F := Ideal) v x (ix2 0 j) = x (ix2 0 j) + v (ix2 0 j) := by
  pointwise [k0_pay4]

/-- The last grid point. -/
def tEnd : Fin cfg0.N := ⟨63, by rw [show cfg0.N = 64 from N_0]; decide⟩

include hA0 hA1 hA3 hSK in
theorem outs9 (j : Fin 128) : (outsAt0 m c tEnd.val tEnd.isLt).2.2.2 (ix2 0 j) = ((∑ t : Fin 64, bS A0 A1 A3 SK t.val j.val : ℝ) : EReal) := by
  refine (Pipeline.eq_sum_fin_of_reset_step_apply_last (fun n h => (outsAt0 m c n h).2.2.2) 64 (fun _ => (0 : EReal))
    (fun t i => ((bS A0 A1 A3 SK t.val (i 1).val : ℝ) : EReal)) (fun t h i => ?_) (fun t h i => ?_) (le_of_eq N_0) tEnd rfl (ix2 0 j)).trans ?_
  · obtain ⟨l, rfl⟩ : ∃ l : Fin 128, i = ix2 0 l := ⟨i 1, by blk_ext []⟩
    dsimp only
    rw [after9_A c m t h, adds, zeros, sink_block m c A0 A1 A3 SK hA0 hA1 hA3 hSK]
    rfl
  · obtain ⟨l, rfl⟩ : ∃ l : Fin 128, i = ix2 0 l := ⟨i 1, by blk_ext []⟩
    dsimp only
    rw [after9_B c m t h, adds, sink_block m c A0 A1 A3 SK hA0 hA1 hA3 hSK]
    rfl
  · rw [zero_add]
    exact coe_sum _

include hA0 hA1 hA3 hSK in
theorem final9 : (dats m 0 c).arrAt 9 cfg0.N = sinkArr A0 A1 A3 SK := by
  refine (dats m 0 c).arrAt_eq_of_after_last 9 tEnd (by decide +kernel) _ fun j => ?_
  obtain ⟨l, rfl⟩ : ∃ l : Fin 128, j = ix2 0 l := ⟨j 1, by blk_ext []⟩
  blk_simp
  rw [after0_9]
  exact outs9 m c A0 A1 A3 SK hA0 hA1 hA3 hSK l

end Cert.AttnBwdIdeal.Real
-- ==== Proof.AttnRefOut.lean ====
/-
  THE REFERENCE OF THE SECOND PAIR, its four results: the gradients of the queries, of the keys and values (as the own
  block's and the block before's), and of the sinks, each an array of the same real numbers as the kernel's.
-/
module

public import proofs.«01_k».proof.Proof.AttnRefSoft
public import proofs.«01_k».proof.Proof.AttnFinal

@[expose] public section

set_option maxRecDepth 16384

noncomputable section

namespace Cert.AttnRefIdeal.Real

open Cert.AttnRefIdeal Cert.AttnRefIdeal.Gen Cert.AttnRefIdeal.Read Cert.Step Cert.Attn Idealize.ShloMosaic Idealize.ShloMosaic.Pointwise
open Cert.AttnBwdIdeal.Real (rowsAt slope slope_real slopeBits select_ite ofBits_bot ofBits_eighth_f32 bQ bKV bS)

variable (A0 A1 A3 : ℕ → ℕ → ℝ) (SK : ℕ → ℝ)
variable (x0 x3 : (⟨S1x8192x1024, .f32⟩ : BufTy).Contents (Elt Ideal)) (x1 : (⟨S1x8192x256, .f32⟩ : BufTy).Contents (Elt Ideal))
  (x2 : (⟨S1x16, .f32⟩ : BufTy).Contents (Elt Ideal))
variable (h0 : ∀ (r : Fin 8192) (k : Fin 1024), x0 (ix3 0 r k) = ((A0 r.val k.val : ℝ) : EReal))
variable (h1 : ∀ (r : Fin 8192) (k : Fin 256), x1 (ix3 0 r k) = ((A1 r.val k.val : ℝ) : EReal))
variable (h3 : ∀ (r : Fin 8192) (k : Fin 1024), x3 (ix3 0 r k) = ((A3 r.val k.val : ℝ) : EReal))
variable (h2 : ∀ k : Fin 16, x2 (ix2 0 k) = ((SK k.val : ℝ) : EReal))

/-! ## The cotangents without the row's greatest score -/

/-- The probabilities. -/
abbrev PR (n h : ℕ) : Fin 128 → Fin 256 → ℝ := P (n == 0) (TR A0 A1 n h) (SK h)

/-- The scores' cotangents. -/
abbrev SR (n h : ℕ) : Fin 128 → Fin 256 → ℝ := dS (n == 0) (TR A0 A1 n h) (DR A1 A3 n h) (SK h)

/-- The sink's cotangent from one row. -/
abbrev KR (n h : ℕ) : Fin 128 → ℝ := dK (n == 0) (TR A0 A1 n h) (DR A1 A3 n h) (SK h)

section Row

variable (n : Fin 64) (k : Fin 2) (g : Fin 8) (r : Fin 128)

include h0 h1 h2 in
theorem v123' (c : Fin 256) : val_main_v123 (F := Ideal) x0 x1 x2 (ix6 0 n k g r c) = ((PR A0 A1 SK n.val (hd k g) r c : ℝ) : EReal) := by
  obtain ⟨M, hM⟩ := exists_max A0 A1 SK x0 x1 x2 h0 h1 h2 n k g r
  exact v123 A0 A1 SK x0 x1 x2 h0 h1 h2 n k g r M hM c

include h0 h1 h2 h3 in
theorem v143 : val_main_v143 (F := Ideal) x0 x1 x2 x3 (ix6 0 n k g r 0) = ((KR A0 A1 A3 SK n.val (hd k g) r : ℝ) : EReal) := by
  obtain ⟨M, hM⟩ := exists_max A0 A1 SK x0 x1 x2 h0 h1 h2 n k g r
  exact v143_of A0 A1 A3 SK x0 x3 x1 x2 h0 h1 h3 h2 n k g r M hM

include h0 h1 h2 h3 in
theorem v153 (c : Fin 256) : val_main_v153 (F := Ideal) x0 x1 x2 x3 (ix6 0 n k g r c) = ((SR A0 A1 A3 SK n.val (hd k g) r c : ℝ) : EReal) := by
  obtain ⟨M, hM⟩ := exists_max A0 A1 SK x0 x1 x2 h0 h1 h2 n k g r
  exact v153_of A0 A1 A3 SK x0 x3 x1 x2 h0 h1 h3 h2 n k g r M hM c

/-- A row's cotangents of its scores and of its sink add up to zero: the softmax does not change when the same number is
    taken off all of them. -/
theorem cancel (f : Bool) (T D : Fin 128 → Fin 256 → ℝ) (s : ℝ) (r : Fin 128) : -dK f T D s r + -∑ c, dS f T D s r c = 0 := by
  have hZ := (Zs_pos f T s r).ne'
  have e1 : ∑ c, P f T s r c = 1 - Real.exp s / Zs f T s r := by
    unfold P
    rw [← Finset.sum_div, eq_sub_iff_add_eq, ← add_div]
    exact div_self hZ
  have e2 : ∑ c, dS f T D s r c = rd f T D s r - (∑ c, P f T s r c) * rd f T D s r := by
    unfold dS
    simp only [mul_sub, Finset.sum_sub_distrib, ← Finset.sum_mul]
    rfl
  rw [e2, e1]
  unfold dK
  ring

include h0 h1 h2 h3 in
/-- The cotangent that reaches the row's greatest score is zero. -/
theorem v157 : val_main_v157 (F := Ideal) x0 x1 x2 x3 (ix6 0 n k g r 0) = (0 : EReal) := by
  have g143 := v143 A0 A1 A3 SK x0 x3 x1 x2 h0 h1 h3 h2 n k g r
  have g153 := v153 A0 A1 A3 SK x0 x3 x1 x2 h0 h1 h3 h2 n k g r
  have g154 : ∀ c, val_main_v154 (F := Ideal) x0 x1 x2 x3 (ix6 0 n k g r c) = ((-SR A0 A1 A3 SK n.val (hd k g) r c : ℝ) : EReal) := by
    intro c
    rw [val_main_v154_apply, g153, EReal.coe_neg]
    rfl
  have g155 : val_main_v155 (F := Ideal) x0 x1 x2 x3 (ix5 0 n k g r) = ((-∑ c, SR A0 A1 A3 SK n.val (hd k g) r c : ℝ) : EReal) := by
    refine (sum_apply _ _ zero_38 n k g r).trans ?_
    simp only [g154, coe_sum, Finset.sum_neg_distrib]
  unfold val_main_v157 val_main_v156 val_main_v146
  revert g143 g155
  generalize val_main_v155 (F := Ideal) x0 x1 x2 x3 = a
  generalize val_main_v143 (F := Ideal) x0 x1 x2 x3 = b
  intro g143 g155
  pointwise []
  rw [g143, g155, ← EReal.coe_neg, ← EReal.coe_add, cancel]
  rfl

include h0 h1 h2 h3 in
theorem v167 : val_main_v167 (F := Ideal) x0 x1 x2 x3 (ix5 0 n k g r) = (0 : EReal) := by
  have g157 := v157 A0 A1 A3 SK x0 x3 x1 x2 h0 h1 h3 h2 n k g r
  have g161 : val_main_v161 (F := Ideal) x0 x1 x2 x3 (ix6 0 n k g r 0) = (0 : EReal) := by
    rw [val_main_v161_apply, g157]
    exact zero_mul _
  have g165 : val_main_v165 (F := Ideal) x0 x1 x2 x3 (ix4 n k g r) = (0 : EReal) := (unit_apply n k g r _ _ zero_41).trans g161
  have g89 := v89_ne x0 x1 n k g r
  unfold val_main_v167 val_main_v166
  revert g165 g89
  generalize val_main_v165 (F := Ideal) x0 x1 x2 x3 = a
  generalize val_main_v89 (F := Ideal) x0 x1 = b
  intro g165 g89
  pointwise []
  rw [g165]
  unfold Ideal.div
  rw [if_neg g89, zero_mul]

include h0 h1 h2 h3 in
/-- The cotangents of the products of queries and keys, with their scale. -/
theorem v175 (c : Fin 256) : val_main_v175 (F := Ideal) x0 x1 x2 x3 (ix6 0 n k g r c) = ((SR A0 A1 A3 SK n.val (hd k g) r c * (1 / 8) : ℝ) : EReal) := by
  have g153 := v153 A0 A1 A3 SK x0 x3 x1 x2 h0 h1 h3 h2 n k g r c
  have g167 := v167 A0 A1 A3 SK x0 x3 x1 x2 h0 h1 h3 h2 n k g r
  have g52 := v52 n r c
  unfold val_main_v175 val_main_v174 val_main_v173 val_main_v170 val_main_v169 val_main_v168 val_main_v81_1 val_main_v80 val_main_call1_v0
    val_main_call1_cst val_main_cst_43
  revert g153 g167 g52
  generalize val_main_v153 (F := Ideal) x0 x1 x2 x3 = a
  generalize val_main_v167 (F := Ideal) x0 x1 x2 x3 = b
  generalize val_main_v88 (F := Ideal) x0 x1 = d
  generalize val_main_v52 (F := Ideal) = e
  intro g153 g167 g52
  pointwise []
  rw [g153, g167, g52, select_ite, zero_mul, add_zero, ofBits_eighth_f32]
  split
  · rw [← EReal.coe_mul]
  · next q =>
    rw [show SR A0 A1 A3 SK n.val (hd k g) r c = 0 from dS_out _ _ _ _ r c q, zero_mul]
    rfl

end Row

/-! ## The sums over rows and heads -/

section Sums

variable (n : Fin 64) (k : Fin 2)

include h0 h1 h2 h3 in
theorem v178 (g : Fin 8) (r : Fin 128) (d : Fin 64) : val_main_v178 (F := Ideal) x0 x1 x2 x3 (ix6 0 n r k g d)
    = ((∑ c, SR A0 A1 A3 SK n.val (hd k g) r c * (1 / 8) * band (pvR A1 n.val) (rowsAt A1 n.val) c (64 * k.val + d.val) : ℝ) : EReal) := by
  have g175 := v175 A0 A1 A3 SK x0 x3 x1 x2 h0 h1 h3 h2 n k g r
  have g8 := fun c => v8 A1 x1 h1 n c k d
  unfold val_main_v178 val_main_v177 val_main_v176
  revert g175 g8
  generalize val_main_v175 (F := Ideal) x0 x1 x2 x3 = a
  generalize val_main_v8 (F := Ideal) x1 = b
  intro g175 g8
  pointwise []
  simp only [g175, g8, ← EReal.coe_mul, coe_sum]

include h0 h1 h2 h3 in
theorem v180 (c : Fin 256) (d : Fin 64) : val_main_v180 (F := Ideal) x0 x1 x2 x3 (ix5 0 n c k d)
    = ((∑ r, ∑ g, SR A0 A1 A3 SK n.val (hd k g) r c * (1 / 8) * rowsAt A0 n.val r (64 * hd k g + d.val) : ℝ) : EReal) := by
  have g175 := fun g r => v175 A0 A1 A3 SK x0 x3 x1 x2 h0 h1 h3 h2 n k g r c
  have g17 := fun r g => v17 A0 x0 h0 n r k g d
  unfold val_main_v180 val_main_v179 val_main_v176
  revert g175 g17
  generalize val_main_v175 (F := Ideal) x0 x1 x2 x3 = a
  generalize val_main_v17 (F := Ideal) x0 = b
  intro g175 g17
  pointwise []
  simp only [g175, g17, ← EReal.coe_mul, coe_sum]

include h0 h1 h2 h3 in
theorem v134 (c : Fin 256) (d : Fin 64) : val_main_v134 (F := Ideal) x0 x1 x2 x3 (ix5 0 n c k d)
    = ((∑ g, ∑ r, rowsAt A3 n.val r (64 * hd k g + d.val) * PR A0 A1 SK n.val (hd k g) r c : ℝ) : EReal) := by
  have g130 := fun g r => v130 A3 x3 h3 n r k g d
  have g123 := fun r g => v123' A0 A1 SK x0 x1 x2 h0 h1 h2 n k g r c
  unfold val_main_v134 val_main_v133 val_main_v131
  revert g130 g123
  generalize val_main_v130 (F := Ideal) x3 = a
  generalize val_main_v123 (F := Ideal) x0 x1 x2 = b
  intro g130 g123
  pointwise []
  simp only [g130, g123, ← EReal.coe_mul, coe_sum]

end Sums

/-! ## Against the kernel's numbers: only the columns of the window count -/

theorem pvR_ok (n : ℕ) (r : Fin 128) (c : Fin 256) (h : ok (n == 0) r c) (l : ℕ) :
    band (pvR A1 n) (rowsAt A1 n) c l = band (rowsAt A1 (n - 1)) (rowsAt A1 n) c l := by
  unfold band
  split
  · next q =>
    unfold pvR
    by_cases z : n = 0
    · have := h.2.2 (by simp [z])
      omega
    · rw [if_neg z]
  · rfl

theorem TR_ok (n h : ℕ) (r : Fin 128) (c : Fin 256) (q : ok (n == 0) r c) :
    TR A0 A1 n h r c = Attn.T (rowsAt A0 n) (rowsAt A1 n) (rowsAt A1 (n - 1)) AttnBwdIdeal.Real.slope h r c := by
  unfold TR Attn.T
  simp only [pvR_ok A1 n r c q]

theorem DR_ok (n h : ℕ) (r : Fin 128) (c : Fin 256) (q : ok (n == 0) r c) :
    DR A1 A3 n h r c = D (rowsAt A1 n) (rowsAt A1 (n - 1)) (rowsAt A3 n) h r c := by
  unfold DR D
  simp only [pvR_ok A1 n r c q]

theorem PR_eq (n h : ℕ) : PR A0 A1 SK n h = PP (n == 0) (rowsAt A0 n) (rowsAt A1 n) (rowsAt A1 (n - 1)) AttnBwdIdeal.Real.slope SK h :=
  P_congr _ _ _ _ (TR_ok A0 A1 n h)

theorem SR_eq (n h : ℕ) :
    SR A0 A1 A3 SK n h = dSS (n == 0) (rowsAt A0 n) (rowsAt A1 n) (rowsAt A1 (n - 1)) (rowsAt A3 n) AttnBwdIdeal.Real.slope SK h :=
  dS_congr _ _ _ _ _ _ (TR_ok A0 A1 n h) (DR_ok A1 A3 n h)

theorem KR_eq (n h : ℕ) :
    ∑ r, KR A0 A1 A3 SK n h r = dKK (n == 0) (rowsAt A0 n) (rowsAt A1 n) (rowsAt A1 (n - 1)) (rowsAt A3 n) AttnBwdIdeal.Real.slope SK h :=
  Finset.sum_congr rfl fun r _ => congrFun (dK_congr _ _ _ _ _ _ (TR_ok A0 A1 n h) (DR_ok A1 A3 n h)) r

theorem bQ_eq (n : ℕ) (k : Fin 2) (g : Fin 8) (r : Fin 128) (d : Fin 64) :
    ∑ c, SR A0 A1 A3 SK n (hd k g) r c * (1 / 8) * band (pvR A1 n) (rowsAt A1 n) c (64 * k.val + d.val) = bQ A0 A1 A3 SK n (hd k g) r d := by
  unfold bQ dQ
  rw [Finset.sum_div]
  refine Finset.sum_congr rfl fun c _ => ?_
  have e : hd k g / 8 = k.val := by unfold hd; omega
  rw [e, ← SR_eq]
  by_cases q : ok (n == 0) r c
  · rw [pvR_ok A1 n r c q]
    ring
  · rw [show SR A0 A1 A3 SK n (hd k g) r c = 0 from dS_out _ _ _ _ r c q]
    ring

theorem dKb_eq (n : ℕ) (k : Fin 2) (c : Fin 256) (d : Fin 64) :
    ∑ r, ∑ g : Fin 8, SR A0 A1 A3 SK n (hd k g) r c * (1 / 8) * rowsAt A0 n r (64 * hd k g + d.val)
      = dKb (n == 0) (rowsAt A0 n) (rowsAt A1 n) (rowsAt A1 (n - 1)) (rowsAt A3 n) AttnBwdIdeal.Real.slope SK k.val c d := by
  unfold dKb
  rw [Finset.sum_comm, Finset.sum_range]
  refine Finset.sum_congr rfl fun g _ => Finset.sum_congr rfl fun r _ => ?_
  rw [SR_eq]
  unfold hd
  rw [mul_comm k.val 8]
  ring

theorem dVb_eq (n : ℕ) (k : Fin 2) (c : Fin 256) (d : Fin 64) :
    ∑ g : Fin 8, ∑ r, rowsAt A3 n r (64 * hd k g + d.val) * PR A0 A1 SK n (hd k g) r c
      = dVb (n == 0) (rowsAt A0 n) (rowsAt A1 n) (rowsAt A1 (n - 1)) (rowsAt A3 n) AttnBwdIdeal.Real.slope SK k.val c d := by
  unfold dVb
  rw [Finset.sum_range]
  refine Finset.sum_congr rfl fun g _ => Finset.sum_congr rfl fun r _ => ?_
  rw [PR_eq]
  unfold hd
  rw [mul_comm k.val 8]

/-! ## The four results -/

include h0 h1 h2 h3 in
theorem dq_apply (R : Fin 8192) (l : Fin 1024) : val_main_v186 (F := Ideal) x0 x1 x2 x3 (ix2 R l)
    = ((bQ A0 A1 A3 SK (R.val / 128) (l.val / 64) ⟨R.val % 128, Nat.mod_lt _ (by decide)⟩ ⟨l.val % 64, Nat.mod_lt _ (by decide)⟩ : ℝ) : EReal) := by
  have g178 := v178 A0 A1 A3 SK x0 x3 x1 x2 h0 h1 h3 h2
  unfold val_main_v186 val_main_v185 val_main_v181
  revert g178
  generalize val_main_v178 (F := Ideal) x0 x1 x2 x3 = a
  intro g178
  pointwise []
  rw [g178, bQ_eq]
  have e : hd ⟨l.val / 512, by omega⟩ ⟨l.val / 64 % 8, by omega⟩ = l.val / 64 := by
    show l.val / 512 * 8 + l.val / 64 % 8 = l.val / 64
    omega
  rw [e]

include h0 h1 h2 h3 in
theorem kv_apply (n : Fin 64) (c : Fin 256) (l : Fin 256) :
    (if h : l.val < 128 then val_main_v180 (F := Ideal) x0 x1 x2 x3 (ix5 0 n c ⟨l.val / 64, by omega⟩ ⟨l.val % 64, by omega⟩)
      else val_main_v134 (F := Ideal) x0 x1 x2 x3 (ix5 0 n c ⟨(l.val - 128) / 64, by omega⟩ ⟨(l.val - 128) % 64, by omega⟩))
      = ((bKV A0 A1 A3 SK n.val c l.val : ℝ) : EReal) := by
  unfold bKV
  split
  · rw [v180 A0 A1 A3 SK x0 x3 x1 x2 h0 h1 h3 h2, dKb_eq]
  · next q =>
    rw [v134 A0 A1 A3 SK x0 x3 x1 x2 h0 h1 h3 h2, dVb_eq]
    have e : (⟨(l.val - 128) % 64, Nat.mod_lt _ (by decide)⟩ : Fin 64) = ⟨l.val % 64, Nat.mod_lt _ (by decide)⟩ :=
      Fin.ext (by show (l.val - 128) % 64 = l.val % 64; omega)
    rw [e]

include h0 h1 h2 h3 in
theorem own_apply (R : Fin 8192) (l : Fin 256) : val_main_v188 (F := Ideal) x0 x1 x2 x3 (ix2 R l)
    = ((bKV A0 A1 A3 SK (R.val / 128) ⟨128 + R.val % 128, by omega⟩ l.val : ℝ) : EReal) := by
  rw [← kv_apply A0 A1 A3 SK x0 x3 x1 x2 h0 h1 h3 h2 ⟨R.val / 128, by omega⟩ ⟨128 + R.val % 128, by omega⟩ l]
  unfold val_main_v188 val_main_v187 val_main_v184 val_main_v183 val_main_v182
  generalize val_main_v180 (F := Ideal) x0 x1 x2 x3 = a
  generalize val_main_v134 (F := Ideal) x0 x1 x2 x3 = b
  pointwise []

include h0 h1 h2 h3 in
theorem prev_apply (R : Fin 8192) (l : Fin 256) : val_main_v190 (F := Ideal) x0 x1 x2 x3 (ix2 R l)
    = ((bKV A0 A1 A3 SK (R.val / 128) ⟨R.val % 128, by omega⟩ l.val : ℝ) : EReal) := by
  rw [← kv_apply A0 A1 A3 SK x0 x3 x1 x2 h0 h1 h3 h2 ⟨R.val / 128, by omega⟩ ⟨R.val % 128, by omega⟩ l]
  unfold val_main_v190 val_main_v189 val_main_v184 val_main_v183 val_main_v182
  generalize val_main_v180 (F := Ideal) x0 x1 x2 x3 = a
  generalize val_main_v134 (F := Ideal) x0 x1 x2 x3 = b
  pointwise []

/-- A host sum over the blocks and their rows. -/
theorem rows_apply (x : FVec Ideal S1x64x2x8x128x1 .f32) (init : FVec Ideal S_ .f32) (hi : init (Shape.Idx.first h_S_) = (0 : EReal))
    (k : Fin 2) (g : Fin 8) :
    (Host.reduceAdd x init reducesTo_S1x64x2x8x128x1_S1x2x8x1_d1_4 h_S_ (ix4 0 k g 0) : EReal)
      = ∑ n : Fin 64, ∑ r : Fin 128, x (ix6 0 n k g r 0) := by
  show Ideal.hostReduceAdd _ _ (init _) _ = _
  refine (hostReduceAdd_of_family _ _ _ _ (K := Fin 64 × Fin 128) (fun p => ix6 0 p.1 k g p.2 0) ?_ ?_ fun q hq => ?_).trans ?_
  · intro p p' h
    exact Prod.ext (congrFun h 1) (congrFun h 4)
  · intro p
    funext b
    fin_cases b <;> rfl
  · have e2 : q 2 = k := congrFun hq 1
    have e3 : q 3 = g := congrFun hq 2
    have b0 : (q 0).val < 1 := (q 0).isLt
    have b5 : (q 5).val < 1 := (q 5).isLt
    refine ⟨(q 1, q 4), ?_⟩
    funext a
    match a with
    | ⟨0, _⟩ => exact Fin.ext (by show 0 = (q 0).val; omega)
    | ⟨1, _⟩ => rfl
    | ⟨2, _⟩ => exact e2.symm
    | ⟨3, _⟩ => exact e3.symm
    | ⟨4, _⟩ => rfl
    | ⟨5, _⟩ => exact Fin.ext (by show 0 = (q 5).val; omega)
  · rw [hi, zero_add]
    exact Fintype.sum_prod_type' fun n r => x (ix6 0 n k g r 0)

/-- A host sum over four axes of extent one. -/
theorem units_apply (x : FVec Ideal S1x1x2x8x1x1 .f32) (init : FVec Ideal S_ .f32) (hi : init (Shape.Idx.first h_S_) = (0 : EReal))
    (k : Fin 2) (g : Fin 8) :
    (Host.reduceAdd x init reducesTo_S1x1x2x8x1x1_S2x8_d0_1_4_5 h_S_ (ix2 k g) : EReal) = x (ix6 0 0 k g 0 0) := by
  show Ideal.hostReduceAdd _ _ (init _) _ = _
  refine (hostReduceAdd_of_unique _ _ _ _ (ix6 0 0 k g 0 0) ?_ fun q hq => ?_).trans ?_
  · funext b
    fin_cases b <;> rfl
  · have e2 : q 2 = k := congrFun hq 0
    have e3 : q 3 = g := congrFun hq 1
    have b0 : (q 0).val < 1 := (q 0).isLt
    have b1 : (q 1).val < 1 := (q 1).isLt
    have b4 : (q 4).val < 1 := (q 4).isLt
    have b5 : (q 5).val < 1 := (q 5).isLt
    funext a
    match a with
    | ⟨0, _⟩ => exact Fin.ext (by show 0 = (q 0).val; omega)
    | ⟨1, _⟩ => exact Fin.ext (by show 0 = (q 1).val; omega)
    | ⟨2, _⟩ => exact e2.symm
    | ⟨3, _⟩ => exact e3.symm
    | ⟨4, _⟩ => exact Fin.ext (by show 0 = (q 4).val; omega)
    | ⟨5, _⟩ => exact Fin.ext (by show 0 = (q 5).val; omega)
  · rw [hi, zero_add]

theorem zero_35 : val_main_cst_35 (F := Ideal) (Shape.Idx.first h_S_) = (0 : EReal) := Ideal.ofBits_zero_f32
theorem zero_36 : val_main_cst_36 (F := Ideal) (Shape.Idx.first h_S_) = (0 : EReal) := Ideal.ofBits_zero_f32
theorem zero_39 : val_main_cst_39 (F := Ideal) (Shape.Idx.first h_S_) = (0 : EReal) := Ideal.ofBits_zero_f32
theorem zero_40 : val_main_cst_40 (F := Ideal) (Shape.Idx.first h_S_) = (0 : EReal) := Ideal.ofBits_zero_f32

theorem v145 (k : Fin 2) (g : Fin 8) : val_main_v145 (F := Ideal) x0 x1 x2 x3 (ix6 0 0 k g 0 0) = val_main_v144 (F := Ideal) x0 x1 x2 x3 (ix4 0 k g 0) := by
  unfold val_main_v145
  generalize val_main_v144 (F := Ideal) x0 x1 x2 x3 = a
  pointwise []

theorem v160 (k : Fin 2) (g : Fin 8) : val_main_v160 (F := Ideal) x0 x1 x2 x3 (ix6 0 0 k g 0 0) = val_main_v159 (F := Ideal) x0 x1 x2 x3 (ix4 0 k g 0) := by
  unfold val_main_v160
  generalize val_main_v159 (F := Ideal) x0 x1 x2 x3 = a
  pointwise []

include h0 h1 h2 h3 in
theorem v147 (k : Fin 2) (g : Fin 8) : val_main_v147 (F := Ideal) x0 x1 x2 x3 (ix2 k g)
    = ((∑ n : Fin 64, ∑ r, KR A0 A1 A3 SK n.val (hd k g) r : ℝ) : EReal) := by
  refine (units_apply _ _ zero_36 k g).trans ((v145 x0 x3 x1 x2 k g).trans ((rows_apply _ _ zero_35 k g).trans ?_))
  simp only [v143 A0 A1 A3 SK x0 x3 x1 x2 h0 h1 h3 h2, coe_sum]

include h0 h1 h2 h3 in
theorem v162 (k : Fin 2) (g : Fin 8) : val_main_v162 (F := Ideal) x0 x1 x2 x3 (ix2 k g) = (0 : EReal) := by
  refine (units_apply _ _ zero_40 k g).trans ((v160 x0 x3 x1 x2 k g).trans ((rows_apply _ _ zero_39 k g).trans ?_))
  refine Finset.sum_eq_zero fun n _ => Finset.sum_eq_zero fun r _ => ?_
  rw [val_main_v158_apply, v157 A0 A1 A3 SK x0 x3 x1 x2 h0 h1 h3 h2]
  exact zero_mul _

include h0 h1 h2 h3 in
theorem sink_apply (l : Fin 128) : val_main_v192 (F := Ideal) x0 x1 x2 x3 (ix2 0 l) = ((∑ n : Fin 64, bS A0 A1 A3 SK n.val l.val : ℝ) : EReal) := by
  have g147 := v147 A0 A1 A3 SK x0 x3 x1 x2 h0 h1 h3 h2
  have g162 := v162 A0 A1 A3 SK x0 x3 x1 x2 h0 h1 h3 h2
  unfold val_main_v192 val_main_v191 val_main_v172 val_main_v171 val_main_v164 val_main_v163 val_main_v148 val_main_cst_42 val_main_call2_v0 val_main_c_44
  revert g147 g162
  generalize val_main_v147 (F := Ideal) x0 x1 x2 x3 = a
  generalize val_main_v162 (F := Ideal) x0 x1 x2 x3 = b
  intro g147 g162
  pointwise []
  unfold bS
  split
  · next h =>
    simp only [g147, g162, add_zero, Finset.univ_unique, Finset.sum_singleton]
    refine congrArg _ (Finset.sum_congr rfl fun n _ => ?_)
    rw [KR_eq]
    have e : hd ⟨l.val / 8, by omega⟩ ⟨l.val % 8, by omega⟩ = l.val := by
      show l.val / 8 * 8 + l.val % 8 = l.val
      omega
    rw [e]
  · rw [Finset.sum_const_zero]
    show (((0#32).toInt : ℝ) : EReal) = _
    simp

end Cert.AttnRefIdeal.Real
-- ==== Proof.AttnClaim.lean ====
/-
  THE SECOND PAIR, put together: at finite arguments the attention's backward kernel and the derivative of the plain
  banded attention both run and leave equal arrays.
-/
module

public import proofs.«01_k».proof.Defs
public import proofs.«01_k».proof.Proof.AttnRefOut
public import proofs.«01_k».proof.Proof.AttnFinal
public import proofs.«01_k».proof.Proof.Gen.AttnBwd.Frame
public import proofs.«01_k».proof.Proof.Gen.AttnRefIdeal.Run
public import proofs.«01_k».proof.Proof.Gen.Pre_finite_attn

@[expose] public section

set_option maxRecDepth 16384

noncomputable section

namespace Cert.AttnClaim

open Cert.Step Idealize.ShloMosaic Idealize.ShloMosaic.TcCoe Idealize.SL.Sem

/-- The precondition, read: the four arguments are arrays of reals. -/
theorem reals (x0 : FVec Ideal Pre_finite_attn.S1x8192x1024 .f32) (x1 : FVec Ideal Pre_finite_attn.S1x8192x256 .f32)
    (x2 : FVec Ideal Pre_finite_attn.S1x16 .f32) (x3 : FVec Ideal Pre_finite_attn.S1x8192x1024 .f32)
    (h : Pre_finite_attn.fn (F := Ideal) x0 x1 x2 x3 = fun _ => 1#1) :
    (∃ H : ℕ → ℕ → ℝ, ∀ i, x0 i = ((H (i 1).val (i 2).val : ℝ) : EReal)) ∧ (∃ W : ℕ → ℕ → ℝ, ∀ i, x1 i = ((W (i 1).val (i 2).val : ℝ) : EReal))
    ∧ (∃ G : ℕ → ℝ, ∀ i, x2 i = ((G (i 1).val : ℝ) : EReal)) ∧ (∃ A : ℕ → ℕ → ℝ, ∀ i, x3 i = ((A (i 1).val (i 2).val : ℝ) : EReal)) := by
  have e := congrFun h (fun a => a.elim0)
  unfold Pre_finite_attn.fn Pre_finite_attn.fn_part1 at e
  dsimp only at e
  obtain ⟨e, e3⟩ := and_split _ _ _ e
  obtain ⟨e, e2⟩ := and_split _ _ _ e
  obtain ⟨e0, e1⟩ := and_split _ _ _ e
  haveI : Subsingleton Pre_finite_attn.S_.Idx := ⟨fun a b => funext fun i => i.elim0⟩
  exact ⟨exists_slab _ (real_of_all _ _ _ _ _ (fun _ => rfl) _ e0), exists_slab _ (real_of_all _ _ _ _ _ (fun _ => rfl) _ e1),
    exists_row _ (real_of_all _ _ _ _ _ (fun _ => rfl) _ e2), exists_slab _ (real_of_all _ _ _ _ _ (fun _ => rfl) _ e3)⟩

/-- An index of a matrix is the pair of its coordinates. -/
theorem eq_ix2 {a b : ℕ} (i : (⟨2, ![a, b]⟩ : Shape).Idx) : i = ix2 (i 0) (i 1) := by
  funext t
  fin_cases t <;> rfl

/-- The same of a single row. -/
theorem eq_row {b : ℕ} (i : (⟨2, ![1, b]⟩ : Shape).Idx) : i = ix2 0 (i 1) := by
  refine (eq_ix2 i).trans (congrArg (fun z : Fin 1 => (ix2 z (i 1) : (⟨2, ![1, b]⟩ : Shape).Idx)) (Fin.ext ?_))
  exact Nat.lt_one_iff.mp (i 0).isLt

theorem algebraic : Cert.algebraic_AttnBwdIdeal_AttnRefIdeal_pre_finite_attn := by
  intro m g m' g' hpre harg
  refine ⟨fun c => (Cert.AttnBwdIdeal.Gen.dats m 0 c).arrAt 6 Cert.AttnBwdIdeal.cfg0.N,
    fun c => (Cert.AttnBwdIdeal.Gen.dats m 0 c).arrAt 7 Cert.AttnBwdIdeal.cfg0.N,
    fun c => (Cert.AttnBwdIdeal.Gen.dats m 0 c).arrAt 8 Cert.AttnBwdIdeal.cfg0.N,
    fun c => (Cert.AttnBwdIdeal.Gen.dats m 0 c).arrAt 9 Cert.AttnBwdIdeal.cfg0.N, Cert.AttnBwdIdeal.Value.run_blocks m g, ?_⟩
  refine (θ_run _ _ _).mono (fun r h c => ?_) (Cert.AttnRefIdeal.Value.run m' g')
  obtain ⟨⟨A0, h0⟩, ⟨A1, h1⟩, ⟨SK, h2⟩, ⟨A3, h3⟩⟩ := reals _ _ _ _ (hpre c)
  obtain ⟨a0, a1, a2, a3⟩ := harg c
  have b0 : StableHlo.launchContents m' c (Proc.tc.devRef Cert.AttnRefIdeal.main_arg0) = _ := a0
  have b1 : StableHlo.launchContents m' c (Proc.tc.devRef Cert.AttnRefIdeal.main_arg1) = _ := a1
  have b2 : StableHlo.launchContents m' c (Proc.tc.devRef Cert.AttnRefIdeal.main_arg2) = _ := a2
  have b3 : StableHlo.launchContents m' c (Proc.tc.devRef Cert.AttnRefIdeal.main_arg3) = _ := a3
  obtain ⟨r0, r1, r2, r3, rest⟩ := h c
  refine ⟨r0.trans ?_, r1.trans ?_, r2.trans ?_, r3.trans ?_, rest⟩
  · rw [Cert.AttnRefIdeal.Read.val_main_v186_eq, b0, b1, b2, b3]
    refine Eq.trans ?_ (Cert.AttnBwdIdeal.Real.final6 m c A0 A1 A3 SK (fun _ _ => h0 _) (fun _ _ => h1 _) (fun _ _ => h3 _) (fun _ => h2 _)).symm
    funext i
    rw [eq_ix2 i]
    exact Cert.AttnRefIdeal.Real.dq_apply A0 A1 A3 SK _ _ _ _ (fun _ _ => h0 _) (fun _ _ => h1 _) (fun _ _ => h3 _) (fun _ => h2 _) _ _
  · rw [Cert.AttnRefIdeal.Read.val_main_v188_eq, b0, b1, b2, b3]
    refine Eq.trans ?_ (Cert.AttnBwdIdeal.Real.final7 m c A0 A1 A3 SK (fun _ _ => h0 _) (fun _ _ => h1 _) (fun _ _ => h3 _) (fun _ => h2 _)).symm
    funext i
    rw [eq_ix2 i]
    exact Cert.AttnRefIdeal.Real.own_apply A0 A1 A3 SK _ _ _ _ (fun _ _ => h0 _) (fun _ _ => h1 _) (fun _ _ => h3 _) (fun _ => h2 _) _ _
  · rw [Cert.AttnRefIdeal.Read.val_main_v190_eq, b0, b1, b2, b3]
    refine Eq.trans ?_ (Cert.AttnBwdIdeal.Real.final8 m c A0 A1 A3 SK (fun _ _ => h0 _) (fun _ _ => h1 _) (fun _ _ => h3 _) (fun _ => h2 _)).symm
    funext i
    rw [eq_ix2 i]
    exact Cert.AttnRefIdeal.Real.prev_apply A0 A1 A3 SK _ _ _ _ (fun _ _ => h0 _) (fun _ _ => h1 _) (fun _ _ => h3 _) (fun _ => h2 _) _ _
  · rw [Cert.AttnRefIdeal.Read.val_main_v192_eq, b0, b1, b2, b3]
    refine Eq.trans ?_ (Cert.AttnBwdIdeal.Real.final9 m c A0 A1 A3 SK (fun _ _ => h0 _) (fun _ _ => h1 _) (fun _ _ => h3 _) (fun _ => h2 _)).symm
    funext i
    rw [eq_row i]
    exact Cert.AttnRefIdeal.Real.sink_apply A0 A1 A3 SK _ _ _ _ (fun _ _ => h0 _) (fun _ _ => h1 _) (fun _ _ => h3 _) (fun _ => h2 _) _

/-- The reference runs, leaves its arguments as they were, and uses no semaphore. -/
theorem frameRef : Cert.quiescent_AttnRefIdeal := fun m ρ _ =>
  (θ_run Cert.AttnRefIdeal.defs _ _).mono
    (fun r h => ⟨fun c => (h c).2.2.2.2, Idealize.ShloMosaic.sem_eq_zero_of_no_sems (by decide) r.2⟩)
    (Cert.AttnRefIdeal.Value.run (F := Ideal) m ρ)

end Cert.AttnClaim
-- ==== Proof.MixSpec.lean ====
/-
  THE THIRD PAIR, the mathematics of the mixing's output and of its derivative, over extended reals: the attention's and
  the pool's branches, each with its sigmoid gate, and the product with `w_out`. Arrays are functions of a row and a
  column (the grouped weights: of a group, a row and a column); nothing is assumed finite.
-/
module

public import proofs.«01_k».proof.Proof.Common

@[expose] public section

noncomputable section

namespace Cert.Mix

open Idealize.ShloMosaic

variable (T Z GA GP WA WP WO D : ℕ → ℕ → EReal) (WM : ℕ → ℕ → ℕ → EReal) (S : ℕ → EReal)

/-- The attention's branch before its gate. -/
def upA (r c : ℕ) : EReal := ∑ k : Fin 1024, T r k * WA k c

/-- The pooled rows mixed within their groups of 128. -/
def mixed (r j : ℕ) : EReal := ∑ k : Fin 128, Z r (j / 128 * 128 + k) * WM (j / 128) k (j % 128)

/-- The pool's branch before its gate. -/
def upP (r c : ℕ) : EReal := ∑ j : Fin 512, mixed Z WM r j * S j * WP j c

/-- The cotangent of the gated sum. -/
def dm (r c : ℕ) : EReal := ∑ k : Fin 1024, D r k * WO c k

/-- A branch's cotangent: through its gate. -/
def dBranch (G : ℕ → ℕ → EReal) (r c : ℕ) : EReal := dm WO D r c * Ideal.logistic (G r c)

/-- A gate's cotangent: its branch and the sigmoid's slope. -/
def dGate (G U : ℕ → ℕ → EReal) (r c : ℕ) : EReal :=
  dm WO D r c * U r c * (Ideal.logistic (G r c) * (1 - Ideal.logistic (G r c)))

/-- The attention's cotangent. -/
def dAttn (r k : ℕ) : EReal := ∑ c : Fin 1024, dBranch WO D GA r c * WA k c

/-- The cotangent of the mixed rows after their scale. -/
def dms (r j : ℕ) : EReal := ∑ c : Fin 1024, dBranch WO D GP r c * WP j c

/-- … and before it. -/
def dmx (r j : ℕ) : EReal := dms GP WP WO D r j * S j

/-- The pooled rows' cotangent. -/
def dPooled (r j : ℕ) : EReal := ∑ e : Fin 128, dmx GP WP WO D S r (j / 128 * 128 + e) * WM (j / 128) (j % 128) e

/-- One row's share of the grouped weights' gradient. -/
def dwRow (g k e r : ℕ) : EReal := Z r (g * 128 + k) * dmx GP WP WO D S r (g * 128 + e)

/-- One row's share of the scale's gradient. -/
def dscaleRow (j r : ℕ) : EReal := dms GP WP WO D r j * mixed Z WM r j

end Cert.Mix

end
-- ==== Proof.MixRef.lean ====
/-
  THE REFERENCE OF THE THIRD PAIR: each result of the derivative of the plain lines at an index, as the terms of
  `Proof.MixSpec` over the arguments' entries and the pooled rows.
-/
module

public import proofs.«01_k».proof.Proof.MixSpec
public import proofs.«01_k».proof.Proof.Gen.MixRefIdeal.Read
public import Idealize.ShloMosaic.Lib.Pointwise

@[expose] public section

set_option maxRecDepth 16384
set_option backward.isDefEq.respectTransparency false

noncomputable section

namespace Cert.MixRefIdeal.Real

open Cert.MixRefIdeal Cert.MixRefIdeal.Gen Cert.MixRefIdeal.Read Cert.Step Cert.Mix Idealize.ShloMosaic Idealize.ShloMosaic.Pointwise

variable (T Z GA GP WA WP WO D : ℕ → ℕ → EReal) (WM : ℕ → ℕ → ℕ → EReal) (S : ℕ → EReal)
variable (x0 x2 x3 x9 : (⟨S1x8192x1024, .f32⟩ : BufTy).Contents (Elt Ideal)) (x1 : (⟨S1x8192x512, .f32⟩ : BufTy).Contents (Elt Ideal))
variable (x4 x8 : (⟨S1x1024x1024, .f32⟩ : BufTy).Contents (Elt Ideal)) (x5 : (⟨S1x4x128x128, .f32⟩ : BufTy).Contents (Elt Ideal))
variable (x6 : (⟨S1x512, .f32⟩ : BufTy).Contents (Elt Ideal)) (x7 : (⟨S1x512x1024, .f32⟩ : BufTy).Contents (Elt Ideal))
variable (h0 : ∀ (r : Fin 8192) (k : Fin 1024), x0 (ix3 0 r k) = T r k)
variable (hz : ∀ (r : Fin 8192) (j : Fin 512), val_main_v62 (F := Ideal) x1 (ix3 0 r j) = Z r j)
variable (h2 : ∀ (r : Fin 8192) (k : Fin 1024), x2 (ix3 0 r k) = GA r k)
variable (h3 : ∀ (r : Fin 8192) (k : Fin 1024), x3 (ix3 0 r k) = GP r k)
variable (h4 : ∀ (k c : Fin 1024), x4 (ix3 0 k c) = WA k c)
variable (h5 : ∀ (g : Fin 4) (k e : Fin 128), x5 (ix4 0 g k e) = WM g k e)
variable (h6 : ∀ j : Fin 512, x6 (ix2 0 j) = S j)
variable (h7 : ∀ (j : Fin 512) (c : Fin 1024), x7 (ix3 0 j c) = WP j c)
variable (h8 : ∀ (k c : Fin 1024), x8 (ix3 0 k c) = WO k c)
variable (h9 : ∀ (r : Fin 8192) (k : Fin 1024), x9 (ix3 0 r k) = D r k)
variable (r : Fin 8192) (c : Fin 1024) (j : Fin 512)

include h0 h4 in
theorem v65 : val_main_v65 (F := Ideal) x0 x4 (ix3 0 r c) = upA T WA r c := by
  unfold val_main_v65 val_main_v64 val_main_v63 val_main_v0 val_main_cst
  pointwise []
  simp only [h0, h4]
  rfl

include hz h5 in
theorem v71 : val_main_v71 (F := Ideal) x1 x5 (ix3 0 r j) = mixed Z WM r j := by
  unfold val_main_v71 val_main_v70 val_main_v69 val_main_v68 val_main_v66
  revert hz
  generalize val_main_v62 (F := Ideal) x1 = z
  intro hz
  pointwise []
  simp only [hz, h5]
  exact Finset.sum_congr rfl fun k _ => mul_comm _ _

theorem v83 : val_main_v83 (F := Ideal) x2 (ix3 0 r c) = Ideal.logistic (x2 (ix3 0 r c)) := by
  unfold val_main_v83 val_main_v82 val_main_v81 val_main_v80 val_main_v79 val_main_v78 val_main_cst_12 val_main_cst_13
  pointwise []
  rfl

theorem v93 : val_main_v93 (F := Ideal) x3 (ix3 0 r c) = Ideal.logistic (x3 (ix3 0 r c)) := by
  unfold val_main_v93 val_main_v92 val_main_v91 val_main_v90 val_main_v89 val_main_v88 val_main_cst_15 val_main_cst_16
  pointwise []
  rfl

include h6 in
theorem v72 : val_main_v72 (F := Ideal) x6 (ix3 0 0 j) = S j := by
  unfold val_main_v72 val_main_v67
  pointwise []
  exact h6 j

include hz h5 h6 h7 in
theorem v77 : val_main_v77 (F := Ideal) x1 x5 x6 x7 (ix3 0 r c) = upP Z WP WM S r c := by
  have g71 := v71 Z WM x1 x5 hz h5
  have g72 := v72 S x6 h6
  unfold val_main_v77 val_main_v76 val_main_v75 val_main_v74 val_main_v73 val_main_v0 val_main_cst
  revert g71 g72
  generalize val_main_v71 (F := Ideal) x1 x5 = a
  generalize val_main_v72 (F := Ideal) x6 = b
  intro g71 g72
  pointwise []
  simp only [g71, g72, h7]
  rfl

include h8 h9 in
theorem v101 : val_main_v101 (F := Ideal) x8 x9 (ix3 0 r c) = dm WO D r c := by
  unfold val_main_v101 val_main_v99
  pointwise []
  simp only [h8, h9]
  rfl

include h3 h8 h9 in
theorem v102 : val_main_v102 (F := Ideal) x3 x8 x9 (ix3 0 r c) = dBranch WO D GP r c := by
  have g93 := v93 x3 r c
  have g101 := v101 WO D x9 x8 h8 h9 r c
  rw [val_main_v102_apply, g93, g101, h3]
  exact mul_comm _ _

include h2 h8 h9 in
theorem v105 : val_main_v105 (F := Ideal) x2 x8 x9 (ix3 0 r c) = dBranch WO D GA r c := by
  have g83 := v83 x2 r c
  have g101 := v101 WO D x9 x8 h8 h9 r c
  rw [val_main_v105_apply, g83, g101, h2]
  exact mul_comm _ _

include h0 h2 h4 h8 h9 in
theorem v107 : val_main_v107 (F := Ideal) x0 x2 x4 x8 x9 (ix3 0 r c) = dGate WO D GA (upA T WA) r c := by
  have g83 := v83 x2 r c
  have g101 := v101 WO D x9 x8 h8 h9 r c
  have g65 := v65 T WA x0 x4 h0 h4 r c
  unfold val_main_v107 val_main_v106 val_main_v86 val_main_v85 val_main_v84 val_main_cst_14
  revert g83 g101 g65
  generalize val_main_v83 (F := Ideal) x2 = a
  generalize val_main_v101 (F := Ideal) x8 x9 = b
  generalize val_main_v65 (F := Ideal) x0 x4 = d
  intro g83 g101 g65
  pointwise []
  rw [g83, g101, g65, h2]
  rfl

include hz h3 h5 h6 h7 h8 h9 in
theorem v104 : val_main_v104 (F := Ideal) x1 x3 x5 x6 x7 x8 x9 (ix3 0 r c) = dGate WO D GP (upP Z WP WM S) r c := by
  have g93 := v93 x3 r c
  have g101 := v101 WO D x9 x8 h8 h9 r c
  have g77 := v77 Z WP WM S x1 x5 x6 x7 hz h5 h6 h7 r c
  unfold val_main_v104 val_main_v103 val_main_v96 val_main_v95 val_main_v94 val_main_cst_17
  revert g93 g101 g77
  generalize val_main_v93 (F := Ideal) x3 = a
  generalize val_main_v101 (F := Ideal) x8 x9 = b
  generalize val_main_v77 (F := Ideal) x1 x5 x6 x7 = d
  intro g93 g101 g77
  pointwise []
  rw [g93, g101, g77, h3]
  rfl

include h3 h7 h8 h9 in
theorem v108 : val_main_v108 (F := Ideal) x3 x7 x8 x9 (ix3 0 r j) = dms GP WP WO D r j := by
  have g102 := v102 GP WO D x3 x9 x8 h3 h8 h9
  unfold val_main_v108 val_main_v75
  revert g102
  generalize val_main_v102 (F := Ideal) x3 x8 x9 = a
  intro g102
  pointwise []
  simp only [g102, h7]
  rfl

include h3 h6 h7 h8 h9 in
theorem v113 : val_main_v113 (F := Ideal) x3 x6 x7 x8 x9 (ix3 0 r j) = dmx GP WP WO D S r j := by
  have g108 := v108 GP WP WO D x3 x9 x8 x7 h3 h7 h8 h9 r j
  have g72 := v72 S x6 h6 j
  unfold val_main_v113 val_main_v112
  revert g108 g72
  generalize val_main_v108 (F := Ideal) x3 x7 x8 x9 = a
  generalize val_main_v72 (F := Ideal) x6 = b
  intro g108 g72
  pointwise []
  rw [g108, g72]
  rfl

/-! ## The eight results -/

include h9 in
theorem dh_apply : val_main_v126 (F := Ideal) x9 (ix2 r c) = D r c := by
  unfold val_main_v126 val_main_v125
  pointwise []
  exact h9 r c

include h2 h8 h9 in
theorem da_apply : val_main_v128 (F := Ideal) x2 x8 x9 (ix2 r c) = dBranch WO D GA r c := by
  have g := v105 GA WO D x2 x9 x8 h2 h8 h9 r c
  unfold val_main_v128 val_main_v127
  revert g
  generalize val_main_v105 (F := Ideal) x2 x8 x9 = a
  intro g
  pointwise []
  exact g

include h3 h8 h9 in
theorem dp_apply : val_main_v130 (F := Ideal) x3 x8 x9 (ix2 r c) = dBranch WO D GP r c := by
  have g := v102 GP WO D x3 x9 x8 h3 h8 h9 r c
  unfold val_main_v130 val_main_v129
  revert g
  generalize val_main_v102 (F := Ideal) x3 x8 x9 = a
  intro g
  pointwise []
  exact g

include h2 h4 h8 h9 in
theorem dattn_apply : val_main_v132 (F := Ideal) x2 x4 x8 x9 (ix2 r c) = dAttn GA WA WO D r c := by
  have g := v105 GA WO D x2 x9 x8 h2 h8 h9
  unfold val_main_v132 val_main_v131 val_main_v124 val_main_v63
  revert g
  generalize val_main_v105 (F := Ideal) x2 x8 x9 = a
  intro g
  pointwise []
  simp only [g, h4]
  rfl

include h0 hz h2 h3 h4 h5 h6 h7 h8 h9 in
theorem dgate_apply (l : Fin 2048) : val_main_v135 (F := Ideal) x0 x1 x2 x3 x4 x5 x6 x7 x8 x9 (ix2 r l)
    = if l.val < 1024 then dGate WO D GA (upA T WA) r l else dGate WO D GP (upP Z WP WM S) r (l - 1024) := by
  have gA := v107 T GA WA WO D x0 x2 x9 x4 x8 h0 h2 h4 h8 h9 r
  have gP := v104 Z GP WP WO D WM S x3 x9 x1 x8 x5 x6 x7 hz h3 h5 h6 h7 h8 h9 r
  unfold val_main_v135 val_main_v134 val_main_v133
  revert gA gP
  generalize val_main_v107 (F := Ideal) x0 x2 x4 x8 x9 = a
  generalize val_main_v104 (F := Ideal) x1 x3 x5 x6 x7 x8 x9 = b
  intro gA gP
  pointwise []
  simp only [gA, gP]
  split_ifs <;> rfl

include h3 h5 h6 h7 h8 h9 in
theorem dpooled_apply : val_main_v136 (F := Ideal) x3 x5 x6 x7 x8 x9 (ix2 r j) = dPooled GP WP WO D WM S r j := by
  have g := v113 GP WP WO D S x3 x9 x8 x6 x7 h3 h6 h7 h8 h9
  unfold val_main_v136 val_main_v121 val_main_v118 val_main_v117 val_main_v116 val_main_v115 val_main_v66
  revert g
  generalize val_main_v113 (F := Ideal) x3 x6 x7 x8 x9 = a
  intro g
  pointwise []
  simp only [g, h5]
  rfl

include hz h3 h6 h7 h8 h9 in
theorem dw_apply (g : Fin 4) (k e : Fin 128) : val_main_v137 (F := Ideal) x1 x3 x6 x7 x8 x9 (ix3 g k e)
    = ∑ r : Fin 8192, dwRow Z GP WP WO D S g k e r := by
  have g113 := v113 GP WP WO D S x3 x9 x8 x6 x7 h3 h6 h7 h8 h9
  unfold val_main_v137 val_main_v123 val_main_v120 val_main_v119 val_main_v116 val_main_v115 val_main_v68
  revert g113 hz
  generalize val_main_v113 (F := Ideal) x3 x6 x7 x8 x9 = a
  generalize val_main_v62 (F := Ideal) x1 = z
  intro hz g113
  pointwise []
  simp only [g113, hz, Fin.sum_univ_one]
  exact Finset.sum_congr rfl fun r _ => mul_comm _ _

include hz h3 h5 h7 h8 h9 in
theorem dscale_apply : val_main_v122 (F := Ideal) x1 x3 x5 x7 x8 x9 (ix2 0 j) = ∑ r : Fin 8192, dscaleRow Z GP WP WO D WM j r := by
  have g71 := v71 Z WM x1 x5 hz h5
  have g108 := v108 GP WP WO D x3 x9 x8 x7 h3 h7 h8 h9
  have g110 : val_main_v110 (F := Ideal) x1 x3 x5 x7 x8 x9 (ix2 0 j) = ∑ r : Fin 8192, dscaleRow Z GP WP WO D WM j r := by
    unfold val_main_v110 val_main_v109 val_main_cst_18
    revert g71 g108
    generalize val_main_v71 (F := Ideal) x1 x5 = a
    generalize val_main_v108 (F := Ideal) x3 x7 x8 x9 = b
    intro g71 g108
    pointwise []
    simp only [g71, g108]
    exact Finset.sum_congr rfl fun r _ => mul_comm _ _
  have g111 : val_main_v111 (F := Ideal) x1 x3 x5 x7 x8 x9 (ix3 0 0 j) = ∑ r : Fin 8192, dscaleRow Z GP WP WO D WM j r := by
    unfold val_main_v111
    revert g110
    generalize val_main_v110 (F := Ideal) x1 x3 x5 x7 x8 x9 = a
    intro g110
    pointwise []
    exact g110
  have g114 : val_main_v114 (F := Ideal) x1 x3 x5 x7 x8 x9 (ix1 j) = ∑ r : Fin 8192, dscaleRow Z GP WP WO D WM j r := by
    unfold val_main_v114
    show Ideal.hostReduceAdd _ _ (val_main_cst_19 (F := Ideal) _) _ = _
    refine (hostReduceAdd_of_unique _ _ _ _ (ix3 0 0 j) ?_ fun q hq => ?_).trans ?_
    · funext b
      match b with
      | ⟨0, _⟩ => rfl
    · have e1 : q 2 = j := congrFun hq 0
      have b0 : (q 0).val < 1 := (q 0).isLt
      have b1 : (q 1).val < 1 := (q 1).isLt
      funext a
      match a with
      | ⟨0, _⟩ => exact Fin.ext (by show 0 = (q 0).val; omega)
      | ⟨1, _⟩ => exact Fin.ext (by show 0 = (q 1).val; omega)
      | ⟨2, _⟩ => exact e1.symm
    · rw [val_main_cst_19_apply, Ideal.ofBits_def, Ideal.ofBits_zero_f32, zero_add, g111]
  unfold val_main_v122
  revert g114
  generalize val_main_v114 (F := Ideal) x1 x3 x5 x7 x8 x9 = a
  intro g114
  pointwise []
  exact g114

end Cert.MixRefIdeal.Real

end
-- ==== Proof.MixPay.lean ====
/-
  THE KERNEL OF THE THIRD PAIR, one block of 512 rows: the values its body stores, as the terms of `Proof.MixSpec`. The
  four groups of 128 columns are read side by side, each group's four values in one statement.
-/
module

public import proofs.«01_k».proof.Proof.MixSpec
public import proofs.«01_k».proof.Proof.Gen.MixBwdIdeal.Skeleton
public import Idealize.ShloMosaic.Lib.Pointwise

@[expose] public section

set_option maxRecDepth 16384
set_option backward.isDefEq.respectTransparency false

noncomputable section

namespace Cert.MixBwdIdeal.Real

open Cert.MixBwdIdeal Cert.MixBwdIdeal.Gen Cert.Step Cert.Mix Idealize.ShloMosaic Idealize.ShloMosaic.Pointwise

variable (U Z GA GP WA WP WO D : ℕ → ℕ → EReal) (WM : ℕ → ℕ → ℕ → EReal) (S : ℕ → EReal) (q : ℕ)
variable (v3 : Vec Ideal S512x1024 .f32) (v7 : Vec Ideal S1024x1024 .bf16) (v10 v14 v24 : Vec Ideal S512x1024 .bf16)
variable (h3 : ∀ (r : Fin 512) (k : Fin 1024), v3 (ix2 r k) = D (q + r) k)
variable (h7 : ∀ (c k : Fin 1024), v7 (ix2 c k) = WO c k)
variable (h10 : ∀ (r : Fin 512) (k : Fin 1024), v10 (ix2 r k) = GA (q + r) k)
variable (h14 : ∀ (r : Fin 512) (k : Fin 1024), v14 (ix2 r k) = GP (q + r) k)
variable (h24 : ∀ (r : Fin 512) (k : Fin 1024), v24 (ix2 r k) = U (q + r) k)
variable (r : Fin 512) (c : Fin 1024)

include h3 in
theorem pay6 : k0_pay6 (F := Ideal) v3 (ix2 r c) = D (q + r) c := by
  pointwise [k0_pay6]
  exact h3 r c

include h3 h7 in
theorem pay7 : k0_pay7 (F := Ideal) v3 v7 (ix2 r c) = dm WO D (q + r) c := by
  pointwise [k0_pay7, k0_pay6]
  simp only [h3, h7]
  rfl

include h3 h7 h10 in
theorem pay10 : k0_pay10 (F := Ideal) v3 v7 v10 (ix2 r c) = dBranch WO D GA (q + r) c := by
  pointwise [k0_pay10, k0_pay8]
  rw [pay7 WO D q v3 v7 h3 h7, h10]
  rfl

include h3 h7 h14 in
theorem pay11 : k0_pay11 (F := Ideal) v3 v7 v14 (ix2 r c) = dBranch WO D GP (q + r) c := by
  pointwise [k0_pay11, k0_pay9]
  rw [pay7 WO D q v3 v7 h3 h7, h14]
  rfl

include h3 h7 h10 h24 in
theorem pay12 : k0_pay12 (F := Ideal) v3 v7 v10 v24 (ix2 r c) = dGate WO D GA U (q + r) c := by
  pointwise [k0_pay12, k0_pay8]
  rw [pay7 WO D q v3 v7 h3 h7, h10, h24]
  rfl

include h3 h7 h14 h24 in
theorem pay13 : k0_pay13 (F := Ideal) (k0_pay7 v3 v7) (k0_pay9 v14) v24 (ix2 r c) = dGate WO D GP U (q + r) c := by
  pointwise [k0_pay13, k0_pay9]
  rw [pay7 WO D q v3 v7 h3 h7, h14, h24]
  rfl

theorem pay14 (v19 : Vec Ideal S512x1024 .bf16) (v44 : Vec Ideal S1024x1024 .bf16)
    (h19 : ∀ (r : Fin 512) (c : Fin 1024), v19 (ix2 r c) = dBranch WO D GA (q + r) c) (h44 : ∀ k c : Fin 1024, v44 (ix2 k c) = WA k c) :
    k0_pay14 (F := Ideal) v19 v44 (ix2 r c) = dAttn GA WA WO D (q + r) c := by
  pointwise [k0_pay14]
  simp only [h19, h44]
  rfl

theorem pay15 (v21 : Vec Ideal S512x1024 .bf16) (v49 : Vec Ideal S1024x512 .bf16) (j : Fin 512)
    (h21 : ∀ (r : Fin 512) (c : Fin 1024), v21 (ix2 r c) = dBranch WO D GP (q + r) c) (h49 : ∀ (c : Fin 1024) (j : Fin 512), v49 (ix2 c j) = WP j c) :
    k0_pay15 (F := Ideal) v21 v49 (ix2 r j) = dms GP WP WO D (q + r) j := by
  pointwise [k0_pay15]
  simp only [h21, h49]
  rfl

/-! ## The groups -/

/-- The group's own numbers are those of the whole array. -/
theorem grp {g : ℕ} (e : Fin 128) : (g * 128 + e.val) / 128 = g ∧ (g * 128 + e.val) % 128 = e.val := by omega

theorem zero4 (g : Fin 4) (k e : Fin 128) : k0_pay4 (F := Ideal) (ix3 g k e) = 0 := by pointwise [k0_pay4]

theorem zero5 (j : Fin 512) : k0_pay5 (F := Ideal) (ix2 0 j) = 0 := by pointwise [k0_pay5]

section Groups

variable (v51 : Vec Ideal S512x512 .f32) (z : Fin 4 → Vec Ideal S512x128 .bf16) (s : Fin 4 → Vec Ideal S1x128 .f32) (w : Fin 4 → Vec Ideal S1x128x128 .bf16)
variable (h51 : ∀ (r : Fin 512) (j : Fin 512), v51 (ix2 r j) = dms GP WP WO D (q + r) j)
variable (hz : ∀ (g : Fin 4) (r : Fin 512) (k : Fin 128), z g (ix2 r k) = Z (q + r) (g * 128 + k))
variable (hs : ∀ (g : Fin 4) (e : Fin 128), s g (ix2 0 e) = S (g * 128 + e))
variable (hw : ∀ (g : Fin 4) (k e : Fin 128), w g (ix3 0 k e) = WM g k e)

include h51 hs in
/-- The mixed rows' cotangents. -/
theorem dmxs (r : Fin 512) (e : Fin 128) : k0_pay18 (F := Ideal) v51 (s 0) (ix2 r e) = dmx GP WP WO D S (q + r) (0 * 128 + e)
    ∧ k0_pay24 (F := Ideal) (k0_pay23 v51) (s 1) (ix2 r e) = dmx GP WP WO D S (q + r) (1 * 128 + e)
    ∧ k0_pay30 (F := Ideal) (k0_pay29 v51) (s 2) (ix2 r e) = dmx GP WP WO D S (q + r) (2 * 128 + e)
    ∧ k0_pay1 (F := Ideal) (k0_pay35 v51 (s 3)) (ix2 r e) = dmx GP WP WO D S (q + r) (3 * 128 + e) := by
  refine ⟨?_, ?_, ?_, ?_⟩ <;> pointwise [k0_pay18, k0_pay24, k0_pay23, k0_pay30, k0_pay29, k0_pay1, k0_pay35] <;> simp only [h51, hs, Fin.val_zero, Nat.zero_mul, Nat.zero_add] <;> rfl

include hz hw in
/-- The mixed rows, again. -/
theorem mix_of (g : Fin 4) (r : Fin 512) (e : Fin 128) : (∑ k : Fin 128, z g (ix2 r k) * w g (ix3 0 k e)) = mixed Z WM (q + r) (g * 128 + e) := by
  simp only [hz, hw, mixed, (grp e).1, (grp e).2]

include h51 hz hw in
/-- The block's part of the scale's gradient, on top of what was there. -/
theorem dscales (v21 : Vec Ideal S512x1024 .bf16) (v49 : Vec Ideal S1024x512 .bf16) (h : k0_pay15 (F := Ideal) v21 v49 = v51) (a : Vec Ideal S1x128 .f32) (e : Fin 128) :
    k0_pay17 (F := Ideal) v21 v49 (z 0) (w 0) a (ix2 0 e) = a (ix2 0 e) + ∑ r : Fin 512, dscaleRow Z GP WP WO D WM (0 * 128 + e) (q + r)
    ∧ k0_pay22 (F := Ideal) v51 (z 1) (w 1) a (ix2 0 e) = a (ix2 0 e) + ∑ r : Fin 512, dscaleRow Z GP WP WO D WM (1 * 128 + e) (q + r)
    ∧ k0_pay28 (F := Ideal) v51 (z 2) (w 2) a (ix2 0 e) = a (ix2 0 e) + ∑ r : Fin 512, dscaleRow Z GP WP WO D WM (2 * 128 + e) (q + r)
    ∧ k0_pay34 (F := Ideal) v51 (z 3) (w 3) a (ix2 0 e) = a (ix2 0 e) + ∑ r : Fin 512, dscaleRow Z GP WP WO D WM (3 * 128 + e) (q + r) := by
  have hm := mix_of Z WM q z w hz hw
  refine ⟨?_, ?_, ?_, ?_⟩ <;>
    pointwise [k0_pay17, h, k0_pay16, k0_pay21, k0_pay22, k0_pay27, k0_pay28, k0_pay33, k0_pay34] <;> simp only [h51, hm, Fin.val_zero, Nat.zero_mul, Nat.zero_add] <;> rfl

include h51 hs hz in
/-- The block's part of the mixing weights' gradient, on top of what was there. -/
theorem dws (a : Vec Ideal S1x128x128 .f32) (k e : Fin 128) :
    k0_pay19 (F := Ideal) v51 (k0_pay16 (z 0)) (s 0) a (ix3 0 k e) = a (ix3 0 k e) + ∑ r : Fin 512, dwRow Z GP WP WO D S 0 k e (q + r)
    ∧ k0_pay25 (F := Ideal) (k0_pay21 (z 1)) (k0_pay23 v51) (s 1) a (ix3 0 k e) = a (ix3 0 k e) + ∑ r : Fin 512, dwRow Z GP WP WO D S 1 k e (q + r)
    ∧ k0_pay31 (F := Ideal) (k0_pay27 (z 2)) (k0_pay29 v51) (s 2) a (ix3 0 k e) = a (ix3 0 k e) + ∑ r : Fin 512, dwRow Z GP WP WO D S 2 k e (q + r)
    ∧ k0_pay2 (F := Ideal) (k0_pay33 (z 3)) (k0_pay35 v51 (s 3)) a (ix3 0 k e) = a (ix3 0 k e) + ∑ r : Fin 512, dwRow Z GP WP WO D S 3 k e (q + r) := by
  have hd := dmxs GP WP WO D S q v51 s h51 hs
  refine ⟨?_, ?_, ?_, ?_⟩ <;>
    pointwise [k0_pay19, k0_pay16, k0_pay21, k0_pay25, k0_pay27, k0_pay31, k0_pay33, k0_pay2] <;>
    simp only [dwRow, hz, (hd _ _).1, (hd _ _).2.1, (hd _ _).2.2.1, (hd _ _).2.2.2, Fin.val_zero, Nat.zero_mul, Nat.zero_add] <;> rfl

theorem dPooled_at (g : ℕ) (r : ℕ) (k : Fin 128) :
    dPooled GP WP WO D WM S r (g * 128 + k) = ∑ e : Fin 128, dmx GP WP WO D S r (g * 128 + e) * WM g k e := by
  simp only [dPooled, (grp k).1, (grp k).2]

include h51 hs hw in
/-- The pooled rows' cotangents. -/
theorem dpooleds (r : Fin 512) (k : Fin 128) :
    k0_pay20 (F := Ideal) v51 (s 0) (w 0) (ix2 r k) = dPooled GP WP WO D WM S (q + r) (0 * 128 + k)
    ∧ k0_pay26 (F := Ideal) (k0_pay23 v51) (s 1) (w 1) (ix2 r k) = dPooled GP WP WO D WM S (q + r) (1 * 128 + k)
    ∧ k0_pay32 (F := Ideal) (k0_pay29 v51) (s 2) (w 2) (ix2 r k) = dPooled GP WP WO D WM S (q + r) (2 * 128 + k)
    ∧ k0_pay3 (F := Ideal) (k0_pay35 v51 (s 3)) (w 3) (ix2 r k) = dPooled GP WP WO D WM S (q + r) (3 * 128 + k) := by
  have hd := dmxs GP WP WO D S q v51 s h51 hs
  rw [dPooled_at, dPooled_at, dPooled_at, dPooled_at]
  refine ⟨?_, ?_, ?_, ?_⟩ <;>
    pointwise [k0_pay20, k0_pay26, k0_pay32, k0_pay3] <;>
    simp only [hw, (hd _ _).1, (hd _ _).2.1, (hd _ _).2.2.1, (hd _ _).2.2.2, Fin.val_zero, Nat.zero_mul, Nat.zero_add] <;> rfl

end Groups

end Cert.MixBwdIdeal.Real

end
-- ==== Proof.MixBlk.lean ====
/-
  THE KERNEL OF THE THIRD PAIR, its blocks: what each input window reads at a grid point, over the arguments' entries
  and the pooled rows. The branches' outputs and the pooled rows are computed by the plain forward lines before the
  call, by the same lines as in the reference.
-/
module

public import proofs.«01_k».proof.Proof.MixRef
public import proofs.«01_k».proof.Proof.Common
public import proofs.«01_k».proof.Proof.Gen.MixBwdIdeal.Frame.Runs
public import Idealize.ShloMosaic.Lib.Pipeline.Value

@[expose] public section

set_option maxRecDepth 16384
set_option backward.isDefEq.respectTransparency false

noncomputable section

namespace Cert.MixBwdIdeal.Real

open Cert.MixBwdIdeal Cert.MixBwdIdeal.Gen Cert.Step Cert.Mix Idealize.ShloMosaic Idealize.ShloMosaic.TcCoe Idealize.SL.Sem
open Idealize.ShloMosaic.Pointwise Idealize.ShloMosaic.StableHlo

variable (m : (ℓ : Loc nD τ sig) → Buf (Elt Ideal) ℓ) (c : Dev nD)

/-- The branches' outputs and the pooled rows, as the reference's lines give them. -/
abbrev aOf : Vec Ideal S1x8192x1024 .f32 :=
  Cert.MixRefIdeal.Read.val_main_v64 (F := Ideal) (m ((c : Thread nD τ).loc main_arg0)) (m ((c : Thread nD τ).loc main_arg4))

abbrev pOf : Vec Ideal S1x8192x1024 .f32 :=
  Cert.MixRefIdeal.Read.val_main_v76 (F := Ideal) (m ((c : Thread nD τ).loc main_arg1)) (m ((c : Thread nD τ).loc main_arg5))
    (m ((c : Thread nD τ).loc main_arg6)) (m ((c : Thread nD τ).loc main_arg7))

abbrev zOf : Vec Ideal S1x8192x512 .f32 := Cert.MixRefIdeal.Read.val_main_v62 (F := Ideal) (m ((c : Thread nD τ).loc main_arg1))

theorem V_v78 : V m c main_v78 = shapeCast S8192x1024 (m ((c : Thread nD τ).loc main_arg9)) shapeCasts_S1x8192x1024_S8192x1024 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

theorem V_v79 : V m c main_v79 = truncf (F := Ideal) .bf16 (concatenate S8192x2048 1 [⟨S8192x1024, shapeCast S8192x1024 (m ((c : Thread nD τ).loc main_arg2)) shapeCasts_S1x8192x1024_S8192x1024⟩, ⟨S8192x1024, shapeCast S8192x1024 (m ((c : Thread nD τ).loc main_arg3)) shapeCasts_S1x8192x1024_S8192x1024⟩] concatenates_S8192x1024_S8192x1024_S8192x2048_d1) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

theorem V_v81 : V m c main_v81 = truncf (F := Ideal) .bf16 (shapeCast S8192x1024 (aOf m c) shapeCasts_S1x8192x1024_S8192x1024) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

set_option maxHeartbeats 4000000 in
theorem V_v83 : V m c main_v83 = truncf (F := Ideal) .bf16 (shapeCast S8192x1024 (pOf m c) shapeCasts_S1x8192x1024_S8192x1024) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

set_option maxHeartbeats 4000000 in
theorem V_v85 : V m c main_v85 = truncf (F := Ideal) .bf16 (shapeCast S8192x512 (zOf m c) shapeCasts_S1x8192x512_S8192x512) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

theorem V_v87 : V m c main_v87 = truncf (F := Ideal) .bf16 (shapeCast S1024x1024 (m ((c : Thread nD τ).loc main_arg4)) shapeCasts_S1x1024x1024_S1024x1024) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

theorem V_v89 : V m c main_v89 = truncf (F := Ideal) .bf16 (shapeCast S4x128x128 (m ((c : Thread nD τ).loc main_arg5)) shapeCasts_S1x4x128x128_S4x128x128) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

theorem V_v92 : V m c main_v92 = truncf (F := Ideal) .bf16 (transpose S1024x512 [1, 0] (shapeCast S512x1024 (m ((c : Thread nD τ).loc main_arg7)) shapeCasts_S1x512x1024_S512x1024) transposes_S512x1024_S1024x512_1_0) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

theorem V_v94 : V m c main_v94 = truncf (F := Ideal) .bf16 (shapeCast S1024x1024 (m ((c : Thread nD τ).loc main_arg8)) shapeCasts_S1x1024x1024_S1024x1024) bitsLt_bf16_f32 := by
  show StableHlo.after (List.flatten [hostOps0, hostOps0_1, hostOps0_2]) _ _ = _
  simp only [hostOps0, hostOps0_1, hostOps0_2, List.flatten_cons, List.flatten_nil, List.append_nil, List.cons_append, List.nil_append]
  after_results_simp
  rfl

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 ∧ win0_6.index t 2 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel

theorem ix2_of {a b : ℕ} (i : (⟨2, ![a, b]⟩ : Shape).Idx) (p : Fin a) (k : Fin b) (h0 : (i 0).val = p.val) (h1 : (i 1).val = k.val) : i = ix2 p k := by
  funext x
  apply Fin.ext
  match x with
  | ⟨0, _⟩ => exact h0
  | ⟨1, _⟩ => exact h1

variable (T Z GA GP WA WP WO D : ℕ → ℕ → EReal) (WM : ℕ → ℕ → ℕ → EReal) (S : ℕ → EReal)
variable (h0 : ∀ (r : Fin 8192) (k : Fin 1024), m ((c : Thread nD τ).loc main_arg0) (ix3 0 r k) = T r k)
variable (hz : ∀ (r : Fin 8192) (j : Fin 512), zOf m c (ix3 0 r j) = Z r j)
variable (h2 : ∀ (r : Fin 8192) (k : Fin 1024), m ((c : Thread nD τ).loc main_arg2) (ix3 0 r k) = GA r k)
variable (h3 : ∀ (r : Fin 8192) (k : Fin 1024), m ((c : Thread nD τ).loc main_arg3) (ix3 0 r k) = GP r k)
variable (h4 : ∀ (k c' : Fin 1024), m ((c : Thread nD τ).loc main_arg4) (ix3 0 k c') = WA k c')
variable (h5 : ∀ (g : Fin 4) (k e : Fin 128), m ((c : Thread nD τ).loc main_arg5) (ix4 0 g k e) = WM g k e)
variable (h6 : ∀ j : Fin 512, m ((c : Thread nD τ).loc main_arg6) (ix2 0 j) = S j)
variable (h7 : ∀ (j : Fin 512) (c' : Fin 1024), m ((c : Thread nD τ).loc main_arg7) (ix3 0 j c') = WP j c')
variable (h8 : ∀ (k c' : Fin 1024), m ((c : Thread nD τ).loc main_arg8) (ix3 0 k c') = WO k c')
variable (h9 : ∀ (r : Fin 8192) (k : Fin 1024), m ((c : Thread nD τ).loc main_arg9) (ix3 0 r k) = D r k)
variable (t : Fin cfg0.N)

theorem N16 : t.val < 16 := by have h : cfg0.N = 16 := N_0; have := t.isLt; omega

/-- Two branches' gates side by side. -/
theorem gates_apply (x y : Vec Ideal S1x8192x1024 .f32) (r : Fin 8192) (k : Fin 2048) :
    truncf (F := Ideal) .bf16 (concatenate S8192x2048 1 [⟨S8192x1024, shapeCast S8192x1024 x shapeCasts_S1x8192x1024_S8192x1024⟩, ⟨S8192x1024, shapeCast S8192x1024 y shapeCasts_S1x8192x1024_S8192x1024⟩] concatenates_S8192x1024_S8192x1024_S8192x2048_d1) bitsLt_bf16_f32 (ix2 r k)
      = if h : k.val < 1024 then x (ix3 0 r ⟨k.val, h⟩) else y (ix3 0 r ⟨k.val - 1024, by omega⟩) := by
  pointwise []

theorem flip_apply (x : Vec Ideal S1x512x1024 .f32) (r : Fin 1024) (k : Fin 512) :
    truncf (F := Ideal) .bf16 (transpose S1024x512 [1, 0] (shapeCast S512x1024 x shapeCasts_S1x512x1024_S512x1024) transposes_S512x1024_S1024x512_1_0) bitsLt_bf16_f32 (ix2 r k)
      = x (ix3 0 k r) := by
  pointwise []

theorem four_apply (x : Vec Ideal S1x4x128x128 .f32) (g : Fin 4) (k e : Fin 128) :
    truncf (F := Ideal) .bf16 (shapeCast S4x128x128 x shapeCasts_S1x4x128x128_S4x128x128) bitsLt_bf16_f32 (ix3 g k e) = x (ix4 0 g k e) := by
  pointwise []

include h0 h4 in
theorem aOf_apply (r : Fin 8192) (k : Fin 1024) : aOf m c (ix3 0 r k) = upA T WA r k := by
  unfold aOf Cert.MixRefIdeal.Read.val_main_v64 Cert.MixRefIdeal.Read.val_main_v63
  pointwise []
  simp only [h0, h4]
  rfl

include hz h5 h6 h7 in
theorem pOf_apply (r : Fin 8192) (k : Fin 1024) : pOf m c (ix3 0 r k) = upP Z WP WM S r k := by
  have g71 := Cert.MixRefIdeal.Real.v71 Z WM _ _ hz h5
  have g72 := Cert.MixRefIdeal.Real.v72 S _ h6
  unfold pOf Cert.MixRefIdeal.Read.val_main_v76 Cert.MixRefIdeal.Read.val_main_v75 Cert.MixRefIdeal.Read.val_main_v74 Cert.MixRefIdeal.Read.val_main_v73
  revert g71 g72
  generalize Cert.MixRefIdeal.Read.val_main_v71 (F := Ideal) _ _ = a
  generalize Cert.MixRefIdeal.Read.val_main_v72 (F := Ideal) _ = b
  intro g71 g72
  pointwise []
  simp only [g71, g72, h7]
  rfl

include h9 in
theorem blk0 (r : Fin 512) (k : Fin 1024) : (iblk m c 0 t : Vec Ideal S512x1024 .f32) (ix2 r k) = D (t.val * 512 + r.val) k := by
  have hN := N16 t
  unfold iblk
  rw [View.read_apply]
  show V m c main_v78 _ = _
  rw [V_v78]
  refine (congrArg _ (ix2_of _ (⟨t.val * 512 + r.val, by omega⟩ : Fin 8192) k (show win0_0.index t 0 * 512 + 1 * r.val = _ by rw [(idx0 t).1]; show t.val * 512 + 1 * r.val = t.val * 512 + r.val; omega)
    (show win0_0.index t 1 * 1024 + 1 * k.val = k.val by rw [(idx0 t).2]; omega))).trans ?_
  exact (slab_apply _ _ _ _).trans (h9 _ _)

include h2 h3 in
theorem blk1 (r : Fin 512) (k : Fin 2048) : (iblk m c 1 t : Vec Ideal S512x2048 .bf16) (ix2 r k) = if k.val < 1024 then GA (t.val * 512 + r.val) k else GP (t.val * 512 + r.val) (k.val - 1024) := by
  have hN := N16 t
  unfold iblk
  rw [View.read_apply]
  show V m c main_v79 _ = _
  rw [V_v79]
  refine (congrArg _ (ix2_of _ (⟨t.val * 512 + r.val, by omega⟩ : Fin 8192) k (show win0_1.index t 0 * 512 + 1 * r.val = _ by rw [(idx1 t).1]; show t.val * 512 + 1 * r.val = t.val * 512 + r.val; omega)
    (show win0_1.index t 1 * 2048 + 1 * k.val = k.val by rw [(idx1 t).2]; omega))).trans ?_
  rw [gates_apply]
  split_ifs <;> simp only [h2, h3]

include h0 h4 in
theorem blk2 (r : Fin 512) (k : Fin 1024) : (iblk m c 2 t : Vec Ideal S512x1024 .bf16) (ix2 r k) = upA T WA (t.val * 512 + r.val) k := by
  have hN := N16 t
  unfold iblk
  rw [View.read_apply]
  show V m c main_v81 _ = _
  rw [V_v81]
  refine (congrArg _ (ix2_of _ (⟨t.val * 512 + r.val, by omega⟩ : Fin 8192) k (show win0_2.index t 0 * 512 + 1 * r.val = _ by rw [(idx2 t).1]; show t.val * 512 + 1 * r.val = t.val * 512 + r.val; omega)
    (show win0_2.index t 1 * 1024 + 1 * k.val = k.val by rw [(idx2 t).2]; omega))).trans ?_
  exact (slab_apply _ _ _ _).trans (aOf_apply m c T WA h0 h4 _ _)

include hz h5 h6 h7 in
theorem blk3 (r : Fin 512) (k : Fin 1024) : (iblk m c 3 t : Vec Ideal S512x1024 .bf16) (ix2 r k) = upP Z WP WM S (t.val * 512 + r.val) k := by
  have hN := N16 t
  unfold iblk
  rw [View.read_apply]
  show V m c main_v83 _ = _
  rw [V_v83]
  refine (congrArg _ (ix2_of _ (⟨t.val * 512 + r.val, by omega⟩ : Fin 8192) k (show win0_3.index t 0 * 512 + 1 * r.val = _ by rw [(idx3 t).1]; show t.val * 512 + 1 * r.val = t.val * 512 + r.val; omega)
    (show win0_3.index t 1 * 1024 + 1 * k.val = k.val by rw [(idx3 t).2]; omega))).trans ?_
  exact (slab_apply _ _ _ _).trans (pOf_apply m c Z WP WM S hz h5 h6 h7 _ _)

include hz in
theorem blk4 (r : Fin 512) (k : Fin 512) : (iblk m c 4 t : Vec Ideal S512x512 .bf16) (ix2 r k) = Z (t.val * 512 + r.val) k := by
  have hN := N16 t
  unfold iblk
  rw [View.read_apply]
  show V m c main_v85 _ = _
  rw [V_v85]
  refine (congrArg _ (ix2_of _ (⟨t.val * 512 + r.val, by omega⟩ : Fin 8192) k (show win0_4.index t 0 * 512 + 1 * r.val = _ by rw [(idx4 t).1]; show t.val * 512 + 1 * r.val = t.val * 512 + r.val; omega)
    (show win0_4.index t 1 * 512 + 1 * k.val = k.val by rw [(idx4 t).2]; omega))).trans ?_
  exact (slab_apply _ _ _ _).trans (hz _ _)

include h4 in
theorem blk5 (r : Fin 1024) (k : Fin 1024) : (iblk m c 5 t : Vec Ideal S1024x1024 .bf16) (ix2 r k) = WA r k := by
  have hN := N16 t
  unfold iblk
  rw [View.read_apply]
  show V m c main_v87 _ = _
  rw [V_v87]
  refine (congrArg _ (ix2_of _ (r : Fin 1024) k (show win0_5.index t 0 * 1024 + 1 * r.val = _ by rw [(idx5 t).1]; omega)
    (show win0_5.index t 1 * 1024 + 1 * k.val = k.val by rw [(idx5 t).2]; omega))).trans ?_
  exact (slab_apply _ _ _ _).trans (h4 _ _)

include h7 in
theorem blk8 (r : Fin 1024) (k : Fin 512) : (iblk m c 8 t : Vec Ideal S1024x512 .bf16) (ix2 r k) = WP k r := by
  have hN := N16 t
  unfold iblk
  rw [View.read_apply]
  show V m c main_v92 _ = _
  rw [V_v92]
  refine (congrArg _ (ix2_of _ (r : Fin 1024) k (show win0_8.index t 0 * 1024 + 1 * r.val = _ by rw [(idx8 t).1]; omega)
    (show win0_8.index t 1 * 512 + 1 * k.val = k.val by rw [(idx8 t).2]; omega))).trans ?_
  exact (flip_apply _ _ _).trans (h7 _ _)

include h8 in
theorem blk9 (r : Fin 1024) (k : Fin 1024) : (iblk m c 9 t : Vec Ideal S1024x1024 .bf16) (ix2 r k) = WO r k := by
  have hN := N16 t
  unfold iblk
  rw [View.read_apply]
  show V m c main_v94 _ = _
  rw [V_v94]
  refine (congrArg _ (ix2_of _ (r : Fin 1024) k (show win0_9.index t 0 * 1024 + 1 * r.val = _ by rw [(idx9 t).1]; omega)
    (show win0_9.index t 1 * 1024 + 1 * k.val = k.val by rw [(idx9 t).2]; omega))).trans ?_
  exact (slab_apply _ _ _ _).trans (h8 _ _)

include h5 in
theorem blk6 (g : Fin 4) (k e : Fin 128) : (iblk m c 6 t : Vec Ideal S4x128x128 .bf16) (ix3 g k e) = WM g k e := by
  unfold iblk
  rw [View.read_apply]
  show V m c main_v89 _ = _
  rw [V_v89]
  refine (congrArg _ (show _ = ix3 g k e from ?_)).trans ?_
  · funext a
    apply Fin.ext
    match a with
    | ⟨0, _⟩ => show win0_6.index t 0 * 4 + 1 * g.val = g.val; rw [(idx6 t).1]; omega
    | ⟨1, _⟩ => show win0_6.index t 1 * 128 + 1 * k.val = k.val; rw [(idx6 t).2.1]; omega
    | ⟨2, _⟩ => show win0_6.index t 2 * 128 + 1 * e.val = e.val; rw [(idx6 t).2.2]; omega
  · exact (four_apply _ _ _ _).trans (h5 _ _ _)

include h6 in
theorem blk7 (j : Fin 512) : (iblk m c 7 t : Vec Ideal S1x512 .f32) (ix2 0 j) = S j := by
  unfold iblk
  rw [View.read_apply]
  show V m c main_arg6 _ = _
  rw [V_main_arg6]
  refine (congrArg _ (ix2_of _ (0 : Fin 1) j (show win0_7.index t 0 * 1 + 1 * 0 = 0 by rw [(idx7 t).1])
    (show win0_7.index t 1 * 512 + 1 * j.val = j.val by rw [(idx7 t).2]; omega))).trans (h6 j)

end Cert.MixBwdIdeal.Real

end
-- ==== Proof.MixVal.lean ====
/-
  THE KERNEL OF THE THIRD PAIR, what a grid point leaves in each of its outputs, over the arguments' entries.
-/
module

public import proofs.«01_k».proof.Proof.MixPay
public import proofs.«01_k».proof.Proof.MixBlk
public import proofs.«01_k».proof.Proof.Gen.MixBwdIdeal.Value
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

set_option maxRecDepth 16384
set_option backward.isDefEq.respectTransparency false

noncomputable section

namespace Cert.MixBwdIdeal.Real

open Cert.MixBwdIdeal Cert.MixBwdIdeal.Gen Cert.Step Cert.Mix Idealize.ShloMosaic Idealize.ShloMosaic.TcCoe Idealize.SL.Sem

theorem hz2 : (![0, 0] : Fin 2 → Nat) = fun _ => 0 := funext fun a => by fin_cases a <;> rfl

/-! ## Pieces of a block -/

theorem ix3_of {a b d : ℕ} (i : (⟨3, ![a, b, d]⟩ : Shape).Idx) (p : Fin a) (k : Fin b) (e : Fin d) (h0 : (i 0).val = p.val) (h1 : (i 1).val = k.val)
    (h2 : (i 2).val = e.val) : i = ix3 p k e := by
  funext x
  apply Fin.ext
  match x with
  | ⟨0, _⟩ => exact h0
  | ⟨1, _⟩ => exact h1
  | ⟨2, _⟩ => exact h2

/-- Some columns of a block agree with the block when their entries do. -/
theorem piece2 {α : Type} {a B b : ℕ} (G : (⟨2, ![a, B]⟩ : Shape).Idx → α) (off : Fin 2 → ℕ) (inb : ∀ x, off x + (![a, b] : Fin 2 → ℕ) x ≤ (⟨2, ![a, B]⟩ : Shape).size x)
    (n : ℕ) (hn : n + b ≤ B) (h0 : off 0 = 0) (h1 : off 1 = n) (w : (⟨2, ![a, b]⟩ : Shape).Idx → α)
    (hw : ∀ (r : Fin a) (k : Fin b), w (ix2 r k) = G (ix2 r ⟨n + k, by omega⟩)) (x : (⟨2, ![a, b]⟩ : Shape).Idx) :
    w x = G ((Rect.unit (s := ⟨2, ![a, B]⟩) off ![a, b] inb).emb x) := by
  obtain ⟨r, k, rfl⟩ : ∃ r k, x = ix2 r k := ⟨x 0, x 1, ix2_of _ _ _ rfl rfl⟩
  rw [hw]
  refine congrArg G (ix2_of _ _ _ ?_ ?_).symm
  · show off 0 + 1 * r.val = r.val
    omega
  · show off 1 + 1 * k.val = n + k.val
    omega

/-- One layer of a stack agrees with the stack when its entries do. -/
theorem piece3 {α : Type} {A b d : ℕ} (G : (⟨3, ![A, b, d]⟩ : Shape).Idx → α) (off : Fin 3 → ℕ) (inb : ∀ x, off x + (![1, b, d] : Fin 3 → ℕ) x ≤ (⟨3, ![A, b, d]⟩ : Shape).size x)
    (g : Fin A) (h0 : off 0 = g.val) (h1 : off 1 = 0) (h2 : off 2 = 0) (w : (⟨3, ![1, b, d]⟩ : Shape).Idx → α)
    (hw : ∀ (k : Fin b) (e : Fin d), w (ix3 0 k e) = G (ix3 g k e)) (x : (⟨3, ![1, b, d]⟩ : Shape).Idx) :
    w x = G ((Rect.unit (s := ⟨3, ![A, b, d]⟩) off ![1, b, d] inb).emb x) := by
  have hx : (x 0).val = 0 := by have : (x 0).val < 1 := (x 0).isLt; omega
  obtain ⟨k, e, rfl⟩ : ∃ k e, x = ix3 0 k e := ⟨x 1, x 2, ix3_of _ _ _ _ hx rfl rfl⟩
  rw [hw]
  refine congrArg G (ix3_of _ _ _ _ ?_ ?_ ?_).symm
  · show off 0 + 1 * 0 = g.val
    omega
  · show off 1 + 1 * k.val = k.val
    omega
  · show off 2 + 1 * e.val = e.val
    omega

/-- A part of a block read at its place. -/
theorem ld2 {e : EltTy} {A B a b : ℕ} (X : (⟨2, ![A, B]⟩ : Shape).Idx → Elt Ideal e) (off : Fin 2 → ℕ) (inb) (r : Fin a) (k : Fin b) (r' : Fin A) (k' : Fin B)
    (hr : r'.val = off 0 + r.val) (hk : k'.val = off 1 + k.val) :
    View.ld (Val := Elt Ideal) X (Rect.unit (s := ⟨2, ![A, B]⟩) off ![a, b] inb) (ix2 r k) = X (ix2 r' k') :=
  View.ld_unit_apply_of (Val := Elt Ideal) X off _ inb _ _ fun x => by
    match x with
    | ⟨0, _⟩ => exact hr
    | ⟨1, _⟩ => exact hk

theorem ld3 {e : EltTy} {A B C b d : ℕ} (X : (⟨3, ![A, B, C]⟩ : Shape).Idx → Elt Ideal e) (off : Fin 3 → ℕ) (inb) (k : Fin b) (l : Fin d) (g' : Fin A) (k' : Fin B) (l' : Fin C)
    (hg : g'.val = off 0) (hk : k'.val = off 1 + k.val) (hl : l'.val = off 2 + l.val) :
    View.ld (Val := Elt Ideal) X (Rect.unit (s := ⟨3, ![A, B, C]⟩) off ![1, b, d] inb) (ix3 0 k l) = X (ix3 g' k' l') :=
  View.ld_unit_apply_of (Val := Elt Ideal) X off _ inb _ _ fun x => by
    match x with
    | ⟨0, _⟩ => exact hg
    | ⟨1, _⟩ => exact hk
    | ⟨2, _⟩ => exact hl

/-! ## The loads -/

/-- The halves of the gates' block. -/
def gA (X : Vec Ideal S512x2048 .bf16) : Vec Ideal S512x1024 .bf16 := View.ld (Val := Elt Ideal) X (Rect.unit (s := S512x2048) ![0, 0] S512x1024.size inb_S512x2048_S512x1024_0_0)
def gP (X : Vec Ideal S512x2048 .bf16) : Vec Ideal S512x1024 .bf16 := View.ld (Val := Elt Ideal) X (Rect.unit (s := S512x2048) ![0, 1024] S512x1024.size inb_S512x2048_S512x1024_0_1024)

theorem gA_apply (X : Vec Ideal S512x2048 .bf16) (r : Fin 512) (k : Fin 1024) : gA X (ix2 r k) = X (ix2 r ⟨k.val, by omega⟩) :=
  ld2 _ _ _ r k r _ (by simp) (by simp)

theorem gP_apply (X : Vec Ideal S512x2048 .bf16) (r : Fin 512) (k : Fin 1024) : gP X (ix2 r k) = X (ix2 r ⟨1024 + k.val, by omega⟩) :=
  ld2 _ _ _ r k r _ (by simp) (by simp)

/-- The groups of the pooled rows, of the scale and of the mixing weights. -/
def zs (X : Vec Ideal S512x512 .bf16) : Fin 4 → Vec Ideal S512x128 .bf16 :=
  ![View.ld (Val := Elt Ideal) X (Rect.unit (s := S512x512) ![0, 0] S512x128.size inb_S512x512_S512x128_0_0),
    View.ld (Val := Elt Ideal) X (Rect.unit (s := S512x512) ![0, 128] S512x128.size inb_S512x512_S512x128_0_128),
    View.ld (Val := Elt Ideal) X (Rect.unit (s := S512x512) ![0, 256] S512x128.size inb_S512x512_S512x128_0_256),
    View.ld (Val := Elt Ideal) X (Rect.unit (s := S512x512) ![0, 384] S512x128.size inb_S512x512_S512x128_0_384)]

def ss (X : Vec Ideal S1x512 .f32) : Fin 4 → Vec Ideal S1x128 .f32 :=
  ![View.ld (Val := Elt Ideal) X (Rect.unit (s := S1x512) ![0, 0] S1x128.size inb_S1x512_S1x128_0_0),
    View.ld (Val := Elt Ideal) X (Rect.unit (s := S1x512) ![0, 128] S1x128.size inb_S1x512_S1x128_0_128),
    View.ld (Val := Elt Ideal) X (Rect.unit (s := S1x512) ![0, 256] S1x128.size inb_S1x512_S1x128_0_256),
    View.ld (Val := Elt Ideal) X (Rect.unit (s := S1x512) ![0, 384] S1x128.size inb_S1x512_S1x128_0_384)]

def ws (X : Vec Ideal S4x128x128 .bf16) : Fin 4 → Vec Ideal S1x128x128 .bf16 :=
  ![View.ld (Val := Elt Ideal) X (Rect.unit (s := S4x128x128) ![0, 0, 0] S1x128x128.size inb_S4x128x128_S1x128x128_0_0_0),
    View.ld (Val := Elt Ideal) X (Rect.unit (s := S4x128x128) ![1, 0, 0] S1x128x128.size inb_S4x128x128_S1x128x128_1_0_0),
    View.ld (Val := Elt Ideal) X (Rect.unit (s := S4x128x128) ![2, 0, 0] S1x128x128.size inb_S4x128x128_S1x128x128_2_0_0),
    View.ld (Val := Elt Ideal) X (Rect.unit (s := S4x128x128) ![3, 0, 0] S1x128x128.size inb_S4x128x128_S1x128x128_3_0_0)]

theorem zs_apply (X : Vec Ideal S512x512 .bf16) (g : Fin 4) (r : Fin 512) (k : Fin 128) : zs X g (ix2 r k) = X (ix2 r ⟨g.val * 128 + k.val, by omega⟩) := by
  fin_cases g <;> exact ld2 _ _ _ r k r _ (by simp) (by simp)

theorem ss_apply (X : Vec Ideal S1x512 .f32) (g : Fin 4) (e : Fin 128) : ss X g (ix2 0 e) = X (ix2 0 ⟨g.val * 128 + e.val, by omega⟩) := by
  fin_cases g <;> exact ld2 _ _ _ 0 e 0 _ (by simp) (by simp)

theorem ws_apply (X : Vec Ideal S4x128x128 .bf16) (g : Fin 4) (k e : Fin 128) : ws X g (ix3 0 k e) = X (ix3 g k e) := by
  fin_cases g <;> exact ld3 _ _ _ k e _ k e rfl (by simp) (by simp)

variable (m : (ℓ : Loc nD τ sig) → Buf (Elt Ideal) ℓ) (c : Dev nD)
variable (T Z GA GP WA WP WO D : ℕ → ℕ → EReal) (WM : ℕ → ℕ → ℕ → EReal) (S : ℕ → EReal)
variable (h0 : ∀ (r : Fin 8192) (k : Fin 1024), m ((c : Thread nD τ).loc main_arg0) (ix3 0 r k) = T r k)
variable (hz : ∀ (r : Fin 8192) (j : Fin 512), zOf m c (ix3 0 r j) = Z r j)
variable (h2 : ∀ (r : Fin 8192) (k : Fin 1024), m ((c : Thread nD τ).loc main_arg2) (ix3 0 r k) = GA r k)
variable (h3 : ∀ (r : Fin 8192) (k : Fin 1024), m ((c : Thread nD τ).loc main_arg3) (ix3 0 r k) = GP r k)
variable (h4 : ∀ (k c' : Fin 1024), m ((c : Thread nD τ).loc main_arg4) (ix3 0 k c') = WA k c')
variable (h5 : ∀ (g : Fin 4) (k e : Fin 128), m ((c : Thread nD τ).loc main_arg5) (ix4 0 g k e) = WM g k e)
variable (h6 : ∀ j : Fin 512, m ((c : Thread nD τ).loc main_arg6) (ix2 0 j) = S j)
variable (h7 : ∀ (j : Fin 512) (c' : Fin 1024), m ((c : Thread nD τ).loc main_arg7) (ix3 0 j c') = WP j c')
variable (h8 : ∀ (k c' : Fin 1024), m ((c : Thread nD τ).loc main_arg8) (ix3 0 k c') = WO k c')
variable (h9 : ∀ (r : Fin 8192) (k : Fin 1024), m ((c : Thread nD τ).loc main_arg9) (ix3 0 r k) = D r k)
variable (t : Fin cfg0.N)

include h2 h3 in
theorem gA_blk (r : Fin 512) (k : Fin 1024) : gA (iblk m c 1 t) (ix2 r k) = GA (t.val * 512 + r.val) k := by
  rw [gA_apply, blk1 m c GA GP h2 h3 t, if_pos k.isLt]

include h2 h3 in
theorem gP_blk (r : Fin 512) (k : Fin 1024) : gP (iblk m c 1 t) (ix2 r k) = GP (t.val * 512 + r.val) k := by
  rw [gP_apply, blk1 m c GA GP h2 h3 t, if_neg (by simp), Nat.add_sub_cancel_left]

include hz in
theorem zs_blk (g : Fin 4) (r : Fin 512) (k : Fin 128) : zs (iblk m c 4 t) g (ix2 r k) = Z (t.val * 512 + r.val) (g * 128 + k) := by
  rw [zs_apply, blk4 m c Z hz t]

include h6 in
theorem ss_blk (g : Fin 4) (e : Fin 128) : ss (iblk m c 7 t) g (ix2 0 e) = S (g * 128 + e) := by
  rw [ss_apply, blk7 m c S h6 t]

include h5 in
theorem ws_blk (g : Fin 4) (k e : Fin 128) : ws (iblk m c 6 t) g (ix3 0 k e) = WM g k e := by
  rw [ws_apply, blk6 m c WM h5 t]

/-! ## The values -/

/-- The rows' block of the pooling branch, and the mixed and scaled rows' cotangents. -/
abbrev bp : Vec Ideal S512x1024 .bf16 := k0_pay11 (F := Ideal) (iblk m c 0 t) (iblk m c 9 t) (gP (iblk m c 1 t))
abbrev dmsB : Vec Ideal S512x512 .f32 := k0_pay15 (F := Ideal) (bp m c t) (iblk m c 8 t)

include h2 h3 h8 h9 in
theorem bp_apply (r : Fin 512) (k : Fin 1024) : bp m c t (ix2 r k) = dBranch WO D GP (t.val * 512 + r.val) k :=
  pay11 GP WO D (t.val * 512) _ _ _ (blk0 m c D h9 t) (blk9 m c WO h8 t) (gP_blk m c GA GP h2 h3 t) r k

include h2 h3 h7 h8 h9 in
theorem dmsB_apply (r j : Fin 512) : dmsB m c t (ix2 r j) = dms GP WP WO D (t.val * 512 + r.val) j :=
  pay15 GP WP WO D (t.val * 512) r _ _ j (bp_apply m c GA GP WO D h2 h3 h8 h9 t) (fun k j => blk8 m c WP h7 t k j)

end Cert.MixBwdIdeal.Real

end
-- ==== Proof.MixSum.lean ====
/-
  THE KERNEL OF THE THIRD PAIR, the two outputs it adds up over the grid: a grid point adds its block's part to what the
  point before left, the first point to zero.
-/
module

public import proofs.«01_k».proof.Proof.MixVal

@[expose] public section

set_option maxRecDepth 16384
set_option backward.isDefEq.respectTransparency false

noncomputable section

namespace Cert.MixBwdIdeal.Real

open Cert.MixBwdIdeal Cert.MixBwdIdeal.Gen Cert.Step Cert.Mix Idealize.ShloMosaic Idealize.ShloMosaic.TcCoe Idealize.SL.Sem

variable (m : (ℓ : Loc nD τ sig) → Buf (Elt Ideal) ℓ) (c : Dev nD)
variable (T Z GA GP WA WP WO D : ℕ → ℕ → EReal) (WM : ℕ → ℕ → ℕ → EReal) (S : ℕ → EReal)
variable (h0 : ∀ (r : Fin 8192) (k : Fin 1024), m ((c : Thread nD τ).loc main_arg0) (ix3 0 r k) = T r k)
variable (hz : ∀ (r : Fin 8192) (j : Fin 512), zOf m c (ix3 0 r j) = Z r j)
variable (h2 : ∀ (r : Fin 8192) (k : Fin 1024), m ((c : Thread nD τ).loc main_arg2) (ix3 0 r k) = GA r k)
variable (h3 : ∀ (r : Fin 8192) (k : Fin 1024), m ((c : Thread nD τ).loc main_arg3) (ix3 0 r k) = GP r k)
variable (h4 : ∀ (k c' : Fin 1024), m ((c : Thread nD τ).loc main_arg4) (ix3 0 k c') = WA k c')
variable (h5 : ∀ (g : Fin 4) (k e : Fin 128), m ((c : Thread nD τ).loc main_arg5) (ix4 0 g k e) = WM g k e)
variable (h6 : ∀ j : Fin 512, m ((c : Thread nD τ).loc main_arg6) (ix2 0 j) = S j)
variable (h7 : ∀ (j : Fin 512) (c' : Fin 1024), m ((c : Thread nD τ).loc main_arg7) (ix3 0 j c') = WP j c')
variable (h8 : ∀ (k c' : Fin 1024), m ((c : Thread nD τ).loc main_arg8) (ix3 0 k c') = WO k c')
variable (h9 : ∀ (r : Fin 8192) (k : Fin 1024), m ((c : Thread nD τ).loc main_arg9) (ix3 0 r k) = D r k)
variable (t : Fin cfg0.N)

include h2 h3 hz h6 h7 h8 h9 in
/-- The four groups' stores of the mixing weights' gradient. -/
theorem canon16 (Q : Vec Ideal S4x128x128 .f32) (L : List (View.Piece (Elt Ideal) S4x128x128 .f32)) (g : Fin 4) (k e : Fin 128) :
    View.canon (Val := Elt Ideal) (e := .f32) ([⟨Rect.unit (s := S4x128x128) ![3, 0, 0] S1x128x128.size inb_S4x128x128_S1x128x128_3_0_0, k0_pay2 (F := Ideal) (k0_pay33 (zs (iblk m c 4 t) 3)) (k0_pay35 (dmsB m c t) (ss (iblk m c 7 t) 3)) (View.ld (Val := Elt Ideal) Q (Rect.unit (s := S4x128x128) ![3, 0, 0] S1x128x128.size inb_S4x128x128_S1x128x128_3_0_0))⟩,
      ⟨Rect.unit (s := S4x128x128) ![2, 0, 0] S1x128x128.size inb_S4x128x128_S1x128x128_2_0_0, k0_pay31 (F := Ideal) (k0_pay27 (zs (iblk m c 4 t) 2)) (k0_pay29 (dmsB m c t)) (ss (iblk m c 7 t) 2) (View.ld (Val := Elt Ideal) Q (Rect.unit (s := S4x128x128) ![2, 0, 0] S1x128x128.size inb_S4x128x128_S1x128x128_2_0_0))⟩,
      ⟨Rect.unit (s := S4x128x128) ![1, 0, 0] S1x128x128.size inb_S4x128x128_S1x128x128_1_0_0, k0_pay25 (F := Ideal) (k0_pay21 (zs (iblk m c 4 t) 1)) (k0_pay23 (dmsB m c t)) (ss (iblk m c 7 t) 1) (View.ld (Val := Elt Ideal) Q (Rect.unit (s := S4x128x128) ![1, 0, 0] S1x128x128.size inb_S4x128x128_S1x128x128_1_0_0))⟩,
      ⟨Rect.unit (s := S4x128x128) ![0, 0, 0] S1x128x128.size inb_S4x128x128_S1x128x128_0_0_0, k0_pay19 (F := Ideal) (dmsB m c t) (k0_pay16 (zs (iblk m c 4 t) 0)) (ss (iblk m c 7 t) 0) (View.ld (Val := Elt Ideal) Q (Rect.unit (s := S4x128x128) ![0, 0, 0] S1x128x128.size inb_S4x128x128_S1x128x128_0_0_0))⟩] ++ L) (ix3 g k e)
    = Q (ix3 g k e) + ∑ r : Fin 512, dwRow Z GP WP WO D S g k e (t.val * 512 + r.val) := by
  have hd := dws Z GP WP WO D S (t.val * 512) (dmsB m c t) (zs (iblk m c 4 t)) (ss (iblk m c 7 t))
    (dmsB_apply m c GA GP WP WO D h2 h3 h7 h8 h9 t) (zs_blk m c Z hz t) (ss_blk m c S h6 t)
  obtain ⟨G, hG⟩ : ∃ G : S4x128x128.Idx → EReal, G = fun y =>
      (Q y : EReal) + ∑ r : Fin 512, dwRow Z GP WP WO D S (y 0).val (y 1).val (y 2).val (t.val * 512 + r.val) := ⟨_, rfl⟩
  refine Eq.trans (b := G (ix3 g k e)) ?_ (by rw [hG]; rfl)
  refine View.canon_append_of_piecesOf (Val := Elt Ideal) (e := .f32) G L _ ?_ _ (View.cover_of_tiledBy _ ![1, 128, 128] (by sl_kernel_rfl) _)
  refine ⟨?_, ?_, ?_, ?_, trivial⟩
  · refine piece3 (A := 4) (b := 128) (d := 128) G ![3, 0, 0] (by decide) 3 rfl rfl rfl _ fun k e => ((hd _ k e).2.2.2).trans ?_
    rw [hG, ld3 Q _ _ k e 3 k e rfl (by simp) (by simp)]
    rfl
  · refine piece3 (A := 4) (b := 128) (d := 128) G ![2, 0, 0] (by decide) 2 rfl rfl rfl _ fun k e => ((hd _ k e).2.2.1).trans ?_
    rw [hG, ld3 Q _ _ k e 2 k e rfl (by simp) (by simp)]
    rfl
  · refine piece3 (A := 4) (b := 128) (d := 128) G ![1, 0, 0] (by decide) 1 rfl rfl rfl _ fun k e => ((hd _ k e).2.1).trans ?_
    rw [hG, ld3 Q _ _ k e 1 k e rfl (by simp) (by simp)]
    rfl
  · refine piece3 (A := 4) (b := 128) (d := 128) G ![0, 0, 0] (by decide) 0 rfl rfl rfl _ fun k e => ((hd _ k e).1).trans ?_
    rw [hG, ld3 Q _ _ k e 0 k e rfl (by simp) (by simp)]
    rfl

include h2 h3 hz h5 h7 h8 h9 in
/-- The four groups' stores of the scale's gradient. -/
theorem canon17 (Q : Vec Ideal S1x512 .f32) (L : List (View.Piece (Elt Ideal) S1x512 .f32)) (j : Fin 512) :
    View.canon (Val := Elt Ideal) (e := .f32) ([⟨Rect.unit (s := S1x512) ![0, 384] S1x128.size inb_S1x512_S1x128_0_384, k0_pay34 (F := Ideal) (dmsB m c t) (zs (iblk m c 4 t) 3) (ws (iblk m c 6 t) 3) (View.ld (Val := Elt Ideal) Q (Rect.unit (s := S1x512) ![0, 384] S1x128.size inb_S1x512_S1x128_0_384))⟩,
      ⟨Rect.unit (s := S1x512) ![0, 256] S1x128.size inb_S1x512_S1x128_0_256, k0_pay28 (F := Ideal) (dmsB m c t) (zs (iblk m c 4 t) 2) (ws (iblk m c 6 t) 2) (View.ld (Val := Elt Ideal) Q (Rect.unit (s := S1x512) ![0, 256] S1x128.size inb_S1x512_S1x128_0_256))⟩,
      ⟨Rect.unit (s := S1x512) ![0, 128] S1x128.size inb_S1x512_S1x128_0_128, k0_pay22 (F := Ideal) (dmsB m c t) (zs (iblk m c 4 t) 1) (ws (iblk m c 6 t) 1) (View.ld (Val := Elt Ideal) Q (Rect.unit (s := S1x512) ![0, 128] S1x128.size inb_S1x512_S1x128_0_128))⟩,
      ⟨Rect.unit (s := S1x512) ![0, 0] S1x128.size inb_S1x512_S1x128_0_0, k0_pay17 (F := Ideal) (bp m c t) (iblk m c 8 t) (zs (iblk m c 4 t) 0) (ws (iblk m c 6 t) 0) (View.ld (Val := Elt Ideal) Q (Rect.unit (s := S1x512) ![0, 0] S1x128.size inb_S1x512_S1x128_0_0))⟩] ++ L) (ix2 0 j)
    = Q (ix2 0 j) + ∑ r : Fin 512, dscaleRow Z GP WP WO D WM j (t.val * 512 + r.val) := by
  have hd := dscales Z GP WP WO D WM (t.val * 512) (dmsB m c t) (zs (iblk m c 4 t)) (ws (iblk m c 6 t))
    (dmsB_apply m c GA GP WP WO D h2 h3 h7 h8 h9 t) (zs_blk m c Z hz t) (ws_blk m c WM h5 t) (bp m c t) (iblk m c 8 t) rfl
  obtain ⟨G, hG⟩ : ∃ G : S1x512.Idx → EReal, G = fun y =>
      (Q y : EReal) + ∑ r : Fin 512, dscaleRow Z GP WP WO D WM (y 1).val (t.val * 512 + r.val) := ⟨_, rfl⟩
  refine Eq.trans (b := G (ix2 0 j)) ?_ (by rw [hG]; rfl)
  refine View.canon_append_of_piecesOf (Val := Elt Ideal) (e := .f32) G L _ ?_ _ (View.cover_of_tiledBy _ ![1, 128] (by sl_kernel_rfl) _)
  refine ⟨?_, ?_, ?_, ?_, trivial⟩
  · refine piece2 (a := 1) (B := 512) (b := 128) G ![0, 384] (by decide) (3 * 128) (by decide) rfl rfl _ fun r e => ?_
    obtain rfl : r = 0 := Subsingleton.elim _ _
    refine ((hd _ e).2.2.2).trans ?_
    rw [hG, ld2 Q _ _ 0 e 0 ⟨3 * 128 + e.val, by omega⟩ (by simp) (by simp)]
    rfl
  · refine piece2 (a := 1) (B := 512) (b := 128) G ![0, 256] (by decide) (2 * 128) (by decide) rfl rfl _ fun r e => ?_
    obtain rfl : r = 0 := Subsingleton.elim _ _
    refine ((hd _ e).2.2.1).trans ?_
    rw [hG, ld2 Q _ _ 0 e 0 ⟨2 * 128 + e.val, by omega⟩ (by simp) (by simp)]
    rfl
  · refine piece2 (a := 1) (B := 512) (b := 128) G ![0, 128] (by decide) (1 * 128) (by decide) rfl rfl _ fun r e => ?_
    obtain rfl : r = 0 := Subsingleton.elim _ _
    refine ((hd _ e).2.1).trans ?_
    rw [hG, ld2 Q _ _ 0 e 0 ⟨1 * 128 + e.val, by omega⟩ (by simp) (by simp)]
    rfl
  · refine piece2 (a := 1) (B := 512) (b := 128) G ![0, 0] (by decide) (0 * 128) (by decide) rfl rfl _ fun r e => ?_
    obtain rfl : r = 0 := Subsingleton.elim _ _
    refine ((hd _ e).1).trans ?_
    rw [hG, ld2 Q _ _ 0 e 0 ⟨0 * 128 + e.val, by omega⟩ (by simp) (by simp)]
    rfl

include h2 h3 hz h6 h7 h8 h9 in
theorem after16 (g : Fin 4) (k e : Fin 128) : (outsAt0 m c t.val t.isLt).2.2.2.2.2.2.1 (ix3 g k e)
    = (if t.val % 16 = 0 then 0 else (outsAt0 m c (t.val - 1) (Nat.lt_of_le_of_lt (Nat.sub_le _ _) t.isLt)).2.2.2.2.2.2.1 (ix3 g k e))
      + ∑ r : Fin 512, dwRow Z GP WP WO D S g k e (t.val * 512 + r.val) := by
  have hL := canon16 m c Z GA GP WP WO D S hz h2 h3 h6 h7 h8 h9 t
  simp only [zs, ss, ws, dmsB, bp, gP, Matrix.cons_val] at hL
  by_cases ht : t.val % 16 = 0
  · rw [if_pos ht, outsAt0_A m c t ht]
    dsimp only
    unfold out0_A_16
    rw [View.read_writes_eq_canon]
    swap
    · exact fun _ => cover0_A_16 ..
    unfold kernelRun0_A
    dsimp only
    sl_unfold_words
    simp only [View.readAt_eq_ld, Memref.IsWhole.read_unread, View.ld_unit_zero (S := S512x1024) hz2, View.ld_unit_zero (S := S1024x1024) hz2, View.ld_unit_zero (S := S1024x512) hz2]
    simp (disch := decide) only [View.readCov_skip, View.readCov_fill]
    have hQ := hL (k0_pay4 (F := Ideal)) [⟨Rect.unit (s := S4x128x128) ![0, 0, 0] S4x128x128.size inb_S4x128x128_S4x128x128_0_0_0, k0_pay4 (F := Ideal)⟩] g k e
    rw [zero4] at hQ
    exact hQ
  · rw [if_neg ht, outsAt0_B m c t ht]
    dsimp only
    unfold out0_B_16
    rw [View.read_writes_eq_canon]
    swap
    · exact fun _ => cover0_B_16 ..
    unfold kernelRun0_B
    dsimp only
    sl_unfold_words
    simp only [View.readAt_eq_ld, Memref.IsWhole.read_unread, View.ld_unit_zero (S := S512x1024) hz2, View.ld_unit_zero (S := S1024x1024) hz2, View.ld_unit_zero (S := S1024x512) hz2]
    exact hL _ [] g k e

include h2 h3 hz h5 h7 h8 h9 in
theorem after17 (j : Fin 512) : (outsAt0 m c t.val t.isLt).2.2.2.2.2.2.2 (ix2 0 j)
    = (if t.val % 16 = 0 then 0 else (outsAt0 m c (t.val - 1) (Nat.lt_of_le_of_lt (Nat.sub_le _ _) t.isLt)).2.2.2.2.2.2.2 (ix2 0 j))
      + ∑ r : Fin 512, dscaleRow Z GP WP WO D WM j (t.val * 512 + r.val) := by
  have hL := canon17 m c Z GA GP WP WO D WM hz h2 h3 h5 h7 h8 h9 t
  simp only [zs, ss, ws, dmsB, bp, gP, Matrix.cons_val] at hL
  by_cases ht : t.val % 16 = 0
  · rw [if_pos ht, outsAt0_A m c t ht]
    dsimp only
    unfold out0_A_17
    rw [View.read_writes_eq_canon]
    swap
    · exact fun _ => cover0_A_17 ..
    unfold kernelRun0_A
    dsimp only
    sl_unfold_words
    simp only [View.readAt_eq_ld, Memref.IsWhole.read_unread, View.ld_unit_zero (S := S512x1024) hz2, View.ld_unit_zero (S := S1024x1024) hz2, View.ld_unit_zero (S := S1024x512) hz2]
    simp (disch := decide) only [View.readCov_skip, View.readCov_fill]
    have hQ := hL (k0_pay5 (F := Ideal)) [⟨Rect.unit (s := S1x512) ![0, 0] S1x512.size inb_S1x512_S1x512_0_0, k0_pay5 (F := Ideal)⟩] j
    rw [zero5] at hQ
    exact hQ
  · rw [if_neg ht, outsAt0_B m c t ht]
    dsimp only
    unfold out0_B_17
    rw [View.read_writes_eq_canon]
    swap
    · exact fun _ => cover0_B_17 ..
    unfold kernelRun0_B
    dsimp only
    sl_unfold_words
    simp only [View.readAt_eq_ld, Memref.IsWhole.read_unread, View.ld_unit_zero (S := S512x1024) hz2, View.ld_unit_zero (S := S1024x1024) hz2, View.ld_unit_zero (S := S1024x512) hz2]
    exact hL _ [] j

end Cert.MixBwdIdeal.Real

end
-- ==== Proof.MixAfter.lean ====
/-
  THE KERNEL OF THE THIRD PAIR, the six outputs a grid point stores for its own rows.
-/
module

public import proofs.«01_k».proof.Proof.MixVal

@[expose] public section

set_option maxRecDepth 16384
set_option backward.isDefEq.respectTransparency false

noncomputable section

namespace Cert.MixBwdIdeal.Real

open Cert.MixBwdIdeal Cert.MixBwdIdeal.Gen Cert.Step Cert.Mix Idealize.ShloMosaic Idealize.ShloMosaic.TcCoe Idealize.SL.Sem

variable (m : (ℓ : Loc nD τ sig) → Buf (Elt Ideal) ℓ) (c : Dev nD)
variable (T Z GA GP WA WP WO D : ℕ → ℕ → EReal) (WM : ℕ → ℕ → ℕ → EReal) (S : ℕ → EReal)
variable (h0 : ∀ (r : Fin 8192) (k : Fin 1024), m ((c : Thread nD τ).loc main_arg0) (ix3 0 r k) = T r k)
variable (hz : ∀ (r : Fin 8192) (j : Fin 512), zOf m c (ix3 0 r j) = Z r j)
variable (h2 : ∀ (r : Fin 8192) (k : Fin 1024), m ((c : Thread nD τ).loc main_arg2) (ix3 0 r k) = GA r k)
variable (h3 : ∀ (r : Fin 8192) (k : Fin 1024), m ((c : Thread nD τ).loc main_arg3) (ix3 0 r k) = GP r k)
variable (h4 : ∀ (k c' : Fin 1024), m ((c : Thread nD τ).loc main_arg4) (ix3 0 k c') = WA k c')
variable (h5 : ∀ (g : Fin 4) (k e : Fin 128), m ((c : Thread nD τ).loc main_arg5) (ix4 0 g k e) = WM g k e)
variable (h6 : ∀ j : Fin 512, m ((c : Thread nD τ).loc main_arg6) (ix2 0 j) = S j)
variable (h7 : ∀ (j : Fin 512) (c' : Fin 1024), m ((c : Thread nD τ).loc main_arg7) (ix3 0 j c') = WP j c')
variable (h8 : ∀ (k c' : Fin 1024), m ((c : Thread nD τ).loc main_arg8) (ix3 0 k c') = WO k c')
variable (h9 : ∀ (r : Fin 8192) (k : Fin 1024), m ((c : Thread nD τ).loc main_arg9) (ix3 0 r k) = D r k)
variable (t : Fin cfg0.N)

include h9 in
theorem after10 (r : Fin 512) (k : Fin 1024) : (outsAt0 m c t.val t.isLt).1 (ix2 r k) = D (t.val * 512 + r.val) k := by
  by_cases ht : t.val % 16 = 0
  · rw [outsAt0_A m c t ht]
    dsimp only
    unfold out0_A_10
    rw [View.read_writes_eq_canon]
    swap
    · exact fun _ => cover0_A_10 ..
    unfold kernelRun0_A
    dsimp only
    sl_unfold_words
    simp only [View.readAt_eq_ld, Memref.IsWhole.read_unread, View.ld_unit_zero (S := S512x1024) hz2, View.ld_unit_zero (S := S1024x1024) hz2, View.ld_unit_zero (S := S1024x512) hz2]
    rw [View.canon_unit_zero hz2]
    exact pay6 D (t.val * 512) _ (blk0 m c D h9 t) r k
  · rw [outsAt0_B m c t ht]
    dsimp only
    unfold out0_B_10
    rw [View.read_writes_eq_canon]
    swap
    · exact fun _ => cover0_B_10 ..
    unfold kernelRun0_B
    dsimp only
    sl_unfold_words
    simp only [View.readAt_eq_ld, Memref.IsWhole.read_unread, View.ld_unit_zero (S := S512x1024) hz2, View.ld_unit_zero (S := S1024x1024) hz2, View.ld_unit_zero (S := S1024x512) hz2]
    rw [View.canon_unit_zero hz2]
    exact pay6 D (t.val * 512) _ (blk0 m c D h9 t) r k

include h2 h3 h8 h9 in
theorem after11 (r : Fin 512) (k : Fin 1024) : (outsAt0 m c t.val t.isLt).2.1 (ix2 r k) = dBranch WO D GA (t.val * 512 + r.val) k := by
  by_cases ht : t.val % 16 = 0
  · rw [outsAt0_A m c t ht]
    dsimp only
    unfold out0_A_11
    rw [View.read_writes_eq_canon]
    swap
    · exact fun _ => cover0_A_11 ..
    unfold kernelRun0_A
    dsimp only
    sl_unfold_words
    simp only [View.readAt_eq_ld, Memref.IsWhole.read_unread, View.ld_unit_zero (S := S512x1024) hz2, View.ld_unit_zero (S := S1024x1024) hz2, View.ld_unit_zero (S := S1024x512) hz2]
    rw [View.canon_unit_zero hz2]
    exact pay10 GA WO D (t.val * 512) _ _ _ (blk0 m c D h9 t) (blk9 m c WO h8 t) (gA_blk m c GA GP h2 h3 t) r k
  · rw [outsAt0_B m c t ht]
    dsimp only
    unfold out0_B_11
    rw [View.read_writes_eq_canon]
    swap
    · exact fun _ => cover0_B_11 ..
    unfold kernelRun0_B
    dsimp only
    sl_unfold_words
    simp only [View.readAt_eq_ld, Memref.IsWhole.read_unread, View.ld_unit_zero (S := S512x1024) hz2, View.ld_unit_zero (S := S1024x1024) hz2, View.ld_unit_zero (S := S1024x512) hz2]
    rw [View.canon_unit_zero hz2]
    exact pay10 GA WO D (t.val * 512) _ _ _ (blk0 m c D h9 t) (blk9 m c WO h8 t) (gA_blk m c GA GP h2 h3 t) r k

include h2 h3 h8 h9 in
theorem after12 (r : Fin 512) (k : Fin 1024) : (outsAt0 m c t.val t.isLt).2.2.1 (ix2 r k) = dBranch WO D GP (t.val * 512 + r.val) k := by
  by_cases ht : t.val % 16 = 0
  · rw [outsAt0_A m c t ht]
    dsimp only
    unfold out0_A_12
    rw [View.read_writes_eq_canon]
    swap
    · exact fun _ => cover0_A_12 ..
    unfold kernelRun0_A
    dsimp only
    sl_unfold_words
    simp only [View.readAt_eq_ld, Memref.IsWhole.read_unread, View.ld_unit_zero (S := S512x1024) hz2, View.ld_unit_zero (S := S1024x1024) hz2, View.ld_unit_zero (S := S1024x512) hz2]
    rw [View.canon_unit_zero hz2]
    exact pay11 GP WO D (t.val * 512) _ _ _ (blk0 m c D h9 t) (blk9 m c WO h8 t) (gP_blk m c GA GP h2 h3 t) r k
  · rw [outsAt0_B m c t ht]
    dsimp only
    unfold out0_B_12
    rw [View.read_writes_eq_canon]
    swap
    · exact fun _ => cover0_B_12 ..
    unfold kernelRun0_B
    dsimp only
    sl_unfold_words
    simp only [View.readAt_eq_ld, Memref.IsWhole.read_unread, View.ld_unit_zero (S := S512x1024) hz2, View.ld_unit_zero (S := S1024x1024) hz2, View.ld_unit_zero (S := S1024x512) hz2]
    rw [View.canon_unit_zero hz2]
    exact pay11 GP WO D (t.val * 512) _ _ _ (blk0 m c D h9 t) (blk9 m c WO h8 t) (gP_blk m c GA GP h2 h3 t) r k

include h2 h3 h4 h8 h9 in
theorem after13 (r : Fin 512) (k : Fin 1024) : (outsAt0 m c t.val t.isLt).2.2.2.1 (ix2 r k) = dAttn GA WA WO D (t.val * 512 + r.val) k := by
  by_cases ht : t.val % 16 = 0
  · rw [outsAt0_A m c t ht]
    dsimp only
    unfold out0_A_13
    rw [View.read_writes_eq_canon]
    swap
    · exact fun _ => cover0_A_13 ..
    unfold kernelRun0_A
    dsimp only
    sl_unfold_words
    simp only [View.readAt_eq_ld, Memref.IsWhole.read_unread, View.ld_unit_zero (S := S512x1024) hz2, View.ld_unit_zero (S := S1024x1024) hz2, View.ld_unit_zero (S := S1024x512) hz2]
    rw [View.canon_unit_zero hz2]
    exact pay14 GA WA WO D (t.val * 512) r k _ _ (pay10 GA WO D (t.val * 512) _ _ _ (blk0 m c D h9 t) (blk9 m c WO h8 t) (gA_blk m c GA GP h2 h3 t)) (blk5 m c WA h4 t)
  · rw [outsAt0_B m c t ht]
    dsimp only
    unfold out0_B_13
    rw [View.read_writes_eq_canon]
    swap
    · exact fun _ => cover0_B_13 ..
    unfold kernelRun0_B
    dsimp only
    sl_unfold_words
    simp only [View.readAt_eq_ld, Memref.IsWhole.read_unread, View.ld_unit_zero (S := S512x1024) hz2, View.ld_unit_zero (S := S1024x1024) hz2, View.ld_unit_zero (S := S1024x512) hz2]
    rw [View.canon_unit_zero hz2]
    exact pay14 GA WA WO D (t.val * 512) r k _ _ (pay10 GA WO D (t.val * 512) _ _ _ (blk0 m c D h9 t) (blk9 m c WO h8 t) (gA_blk m c GA GP h2 h3 t)) (blk5 m c WA h4 t)

/-- The two halves of the gates' cotangent. -/
theorem canon14 (UA UP : ℕ → ℕ → EReal) (q : ℕ) (v3 : Vec Ideal S512x1024 .f32) (v7 : Vec Ideal S1024x1024 .bf16) (v10 v14 v24 v34 : Vec Ideal S512x1024 .bf16)
    (e3 : ∀ (r : Fin 512) (k : Fin 1024), v3 (ix2 r k) = D (q + r) k) (e7 : ∀ (c k : Fin 1024), v7 (ix2 c k) = WO c k)
    (e10 : ∀ (r : Fin 512) (k : Fin 1024), v10 (ix2 r k) = GA (q + r) k) (e14 : ∀ (r : Fin 512) (k : Fin 1024), v14 (ix2 r k) = GP (q + r) k)
    (e24 : ∀ (r : Fin 512) (k : Fin 1024), v24 (ix2 r k) = UA (q + r) k) (e34 : ∀ (r : Fin 512) (k : Fin 1024), v34 (ix2 r k) = UP (q + r) k)
    (L : List (View.Piece (Elt Ideal) S512x2048 .bf16)) (r : Fin 512) (l : Fin 2048) :
    View.canon (Val := Elt Ideal) (e := .bf16) ([⟨Rect.unit (s := S512x2048) ![0, 1024] S512x1024.size inb_S512x2048_S512x1024_0_1024, k0_pay13 (F := Ideal) (k0_pay7 v3 v7) (k0_pay9 v14) v34⟩,
      ⟨Rect.unit (s := S512x2048) ![0, 0] S512x1024.size inb_S512x2048_S512x1024_0_0, k0_pay12 (F := Ideal) v3 v7 v10 v24⟩] ++ L) (ix2 r l)
    = if l.val < 1024 then dGate WO D GA UA (q + r.val) l else dGate WO D GP UP (q + r.val) (l.val - 1024) := by
  obtain ⟨G, hG⟩ : ∃ G : S512x2048.Idx → EReal, ∀ (r : Fin 512) (l : Fin 2048), G (ix2 r l) =
      if l.val < 1024 then dGate WO D GA UA (q + r.val) l.val else dGate WO D GP UP (q + r.val) (l.val - 1024) :=
    ⟨fun y => if (y 1).val < 1024 then dGate WO D GA UA (q + (y 0).val) (y 1).val else dGate WO D GP UP (q + (y 0).val) ((y 1).val - 1024), fun r l => rfl⟩
  refine Eq.trans (b := G (ix2 r l)) ?_ (hG r l)
  refine View.canon_append_of_piecesOf (Val := Elt Ideal) (e := .bf16) G L _ ?_ _ (View.cover_of_tiledBy _ ![512, 1024] (by sl_kernel_rfl) _)
  refine ⟨?_, ?_, trivial⟩
  · refine piece2 (a := 512) (B := 2048) (b := 1024) G ![0, 1024] (by decide) 1024 (by decide) rfl rfl _ fun r e => ?_
    refine (pay13 UP GP WO D q v3 v7 v14 v34 e3 e7 e14 e34 r e).trans ?_
    rw [hG, if_neg (by show ¬ (1024 + e.val < 1024); omega)]
    show _ = dGate WO D GP UP (q + r.val) (1024 + e.val - 1024)
    rw [Nat.add_sub_cancel_left]
  · refine piece2 (a := 512) (B := 2048) (b := 1024) G ![0, 0] (by decide) 0 (by decide) rfl rfl _ fun r e => ?_
    refine (pay12 UA GA WO D q v3 v7 v10 v24 e3 e7 e10 e24 r e).trans ?_
    rw [hG, if_pos (by show 0 + e.val < 1024; omega)]
    show _ = dGate WO D GA UA (q + r.val) (0 + e.val)
    rw [Nat.zero_add]

include h0 hz h2 h3 h4 h5 h6 h7 h8 h9 in
theorem after14 (r : Fin 512) (k : Fin 2048) : (outsAt0 m c t.val t.isLt).2.2.2.2.1 (ix2 r k) = if k.val < 1024 then dGate WO D GA (upA T WA) (t.val * 512 + r.val) k else dGate WO D GP (upP Z WP WM S) (t.val * 512 + r.val) (k.val - 1024) := by
  have hL := canon14 GA GP WO D (upA T WA) (upP Z WP WM S) (t.val * 512) _ _ _ _ _ _ (blk0 m c D h9 t) (blk9 m c WO h8 t)
    (gA_blk m c GA GP h2 h3 t) (gP_blk m c GA GP h2 h3 t) (blk2 m c T WA h0 h4 t) (blk3 m c Z WP WM S hz h5 h6 h7 t)
  simp only [gA, gP] at hL
  by_cases ht : t.val % 16 = 0
  · rw [outsAt0_A m c t ht]
    dsimp only
    unfold out0_A_14
    rw [View.read_writes_eq_canon]
    swap
    · exact fun _ => cover0_A_14 ..
    unfold kernelRun0_A
    dsimp only
    sl_unfold_words
    simp only [View.readAt_eq_ld, Memref.IsWhole.read_unread, View.ld_unit_zero (S := S512x1024) hz2, View.ld_unit_zero (S := S1024x1024) hz2, View.ld_unit_zero (S := S1024x512) hz2]
    exact hL [] r k
  · rw [outsAt0_B m c t ht]
    dsimp only
    unfold out0_B_14
    rw [View.read_writes_eq_canon]
    swap
    · exact fun _ => cover0_B_14 ..
    unfold kernelRun0_B
    dsimp only
    sl_unfold_words
    simp only [View.readAt_eq_ld, Memref.IsWhole.read_unread, View.ld_unit_zero (S := S512x1024) hz2, View.ld_unit_zero (S := S1024x1024) hz2, View.ld_unit_zero (S := S1024x512) hz2]
    exact hL [] r k

include h2 h3 h5 h6 h7 h8 h9 in
/-- The four groups of the pooled rows' cotangent. -/
theorem canon15 (L : List (View.Piece (Elt Ideal) S512x512 .f32)) (r j : Fin 512) :
    View.canon (Val := Elt Ideal) (e := .f32) ([⟨Rect.unit (s := S512x512) ![0, 384] S512x128.size inb_S512x512_S512x128_0_384, k0_pay3 (F := Ideal) (k0_pay35 (dmsB m c t) (ss (iblk m c 7 t) 3)) (ws (iblk m c 6 t) 3)⟩,
      ⟨Rect.unit (s := S512x512) ![0, 256] S512x128.size inb_S512x512_S512x128_0_256, k0_pay32 (F := Ideal) (k0_pay29 (dmsB m c t)) (ss (iblk m c 7 t) 2) (ws (iblk m c 6 t) 2)⟩,
      ⟨Rect.unit (s := S512x512) ![0, 128] S512x128.size inb_S512x512_S512x128_0_128, k0_pay26 (F := Ideal) (k0_pay23 (dmsB m c t)) (ss (iblk m c 7 t) 1) (ws (iblk m c 6 t) 1)⟩,
      ⟨Rect.unit (s := S512x512) ![0, 0] S512x128.size inb_S512x512_S512x128_0_0, k0_pay20 (F := Ideal) (dmsB m c t) (ss (iblk m c 7 t) 0) (ws (iblk m c 6 t) 0)⟩] ++ L) (ix2 r j)
    = dPooled GP WP WO D WM S (t.val * 512 + r.val) j := by
  have hd := dpooleds GP WP WO D WM S (t.val * 512) (dmsB m c t) (ss (iblk m c 7 t)) (ws (iblk m c 6 t))
    (dmsB_apply m c GA GP WP WO D h2 h3 h7 h8 h9 t) (ss_blk m c S h6 t) (ws_blk m c WM h5 t)
  obtain ⟨G, hG⟩ : ∃ G : S512x512.Idx → EReal, G = fun y => dPooled GP WP WO D WM S (t.val * 512 + (y 0).val) (y 1).val := ⟨_, rfl⟩
  refine Eq.trans (b := G (ix2 r j)) ?_ (by rw [hG]; rfl)
  refine View.canon_append_of_piecesOf (Val := Elt Ideal) (e := .f32) G L _ ?_ _ (View.cover_of_tiledBy _ ![512, 128] (by sl_kernel_rfl) _)
  refine ⟨?_, ?_, ?_, ?_, trivial⟩
  · refine piece2 (a := 512) (B := 512) (b := 128) G ![0, 384] (by decide) (3 * 128) (by decide) rfl rfl _ fun r e => ((hd r e).2.2.2).trans ?_
    rw [hG]
    rfl
  · refine piece2 (a := 512) (B := 512) (b := 128) G ![0, 256] (by decide) (2 * 128) (by decide) rfl rfl _ fun r e => ((hd r e).2.2.1).trans ?_
    rw [hG]
    rfl
  · refine piece2 (a := 512) (B := 512) (b := 128) G ![0, 128] (by decide) (1 * 128) (by decide) rfl rfl _ fun r e => ((hd r e).2.1).trans ?_
    rw [hG]
    rfl
  · refine piece2 (a := 512) (B := 512) (b := 128) G ![0, 0] (by decide) (0 * 128) (by decide) rfl rfl _ fun r e => ((hd r e).1).trans ?_
    rw [hG]
    rfl

include h2 h3 h5 h6 h7 h8 h9 in
theorem after15 (r : Fin 512) (k : Fin 512) : (outsAt0 m c t.val t.isLt).2.2.2.2.2.1 (ix2 r k) = dPooled GP WP WO D WM S (t.val * 512 + r.val) k := by
  have hL := canon15 m c GA GP WP WO D WM S h2 h3 h5 h6 h7 h8 h9 t
  simp only [ss, ws, dmsB, bp, gP, Matrix.cons_val] at hL
  by_cases ht : t.val % 16 = 0
  · rw [outsAt0_A m c t ht]
    dsimp only
    unfold out0_A_15
    rw [View.read_writes_eq_canon]
    swap
    · exact fun _ => cover0_A_15 ..
    unfold kernelRun0_A
    dsimp only
    sl_unfold_words
    simp only [View.readAt_eq_ld, Memref.IsWhole.read_unread, View.ld_unit_zero (S := S512x1024) hz2, View.ld_unit_zero (S := S1024x1024) hz2, View.ld_unit_zero (S := S1024x512) hz2]
    exact hL [] r k
  · rw [outsAt0_B m c t ht]
    dsimp only
    unfold out0_B_15
    rw [View.read_writes_eq_canon]
    swap
    · exact fun _ => cover0_B_15 ..
    unfold kernelRun0_B
    dsimp only
    sl_unfold_words
    simp only [View.readAt_eq_ld, Memref.IsWhole.read_unread, View.ld_unit_zero (S := S512x1024) hz2, View.ld_unit_zero (S := S1024x1024) hz2, View.ld_unit_zero (S := S1024x512) hz2]
    exact hL [] r k

end Cert.MixBwdIdeal.Real

end
-- ==== Proof.MixFinal.lean ====
/-
  THE KERNEL OF THE THIRD PAIR, its eight results as whole arrays.
-/
module

public import proofs.«01_k».proof.Proof.MixSum
public import proofs.«01_k».proof.Proof.MixAfter
public import Idealize.ShloMosaic.Lib.Pipeline.ValueKit.Geometry
public import Idealize.ShloMosaic.Lib.Pipeline.ValueKit.Acc

@[expose] public section

set_option maxRecDepth 16384
set_option backward.isDefEq.respectTransparency false

noncomputable section

namespace Cert.MixBwdIdeal.Real

open Cert.MixBwdIdeal Cert.MixBwdIdeal.Gen Cert.Step Cert.Mix Idealize.ShloMosaic Idealize.ShloMosaic.TcCoe Idealize.SL.Sem

variable (m : (ℓ : Loc nD τ sig) → Buf (Elt Ideal) ℓ) (c : Dev nD)
variable (T Z GA GP WA WP WO D : ℕ → ℕ → EReal) (WM : ℕ → ℕ → ℕ → EReal) (S : ℕ → EReal)
variable (h0 : ∀ (r : Fin 8192) (k : Fin 1024), m ((c : Thread nD τ).loc main_arg0) (ix3 0 r k) = T r k)
variable (hz : ∀ (r : Fin 8192) (j : Fin 512), zOf m c (ix3 0 r j) = Z r j)
variable (h2 : ∀ (r : Fin 8192) (k : Fin 1024), m ((c : Thread nD τ).loc main_arg2) (ix3 0 r k) = GA r k)
variable (h3 : ∀ (r : Fin 8192) (k : Fin 1024), m ((c : Thread nD τ).loc main_arg3) (ix3 0 r k) = GP r k)
variable (h4 : ∀ (k c' : Fin 1024), m ((c : Thread nD τ).loc main_arg4) (ix3 0 k c') = WA k c')
variable (h5 : ∀ (g : Fin 4) (k e : Fin 128), m ((c : Thread nD τ).loc main_arg5) (ix4 0 g k e) = WM g k e)
variable (h6 : ∀ j : Fin 512, m ((c : Thread nD τ).loc main_arg6) (ix2 0 j) = S j)
variable (h7 : ∀ (j : Fin 512) (c' : Fin 1024), m ((c : Thread nD τ).loc main_arg7) (ix3 0 j c') = WP j c')
variable (h8 : ∀ (k c' : Fin 1024), m ((c : Thread nD τ).loc main_arg8) (ix3 0 k c') = WO k c')
variable (h9 : ∀ (r : Fin 8192) (k : Fin 1024), m ((c : Thread nD τ).loc main_arg9) (ix3 0 r k) = D r k)

/-- Result 0. -/
def dhArr (i : S8192x1024.Idx) : EReal := D (i 0).val (i 1).val

theorem idx10 : ∀ t : Fin cfg0.N, win0_10.index t = ![t.val, 0] :=
  (by decide +kernel : ∀ t : Fin grid0.N, win0_10.index t = ![t.val, 0])

include h9 in
theorem final10 : (dats m 0 c).arrAt 10 cfg0.N = dhArr D := by
  refine (dats m 0 c).arrAt_eq_of_covers 10 _ (by decide +kernel) fun t hf y => ?_
  have hN := N16 t
  obtain ⟨r, l, rfl⟩ : ∃ (r : Fin 512) (l : Fin 1024), y = ix2 r l := ⟨y 0, y 1, by blk_ext []⟩
  have e : (win0_10.blk t).view.emb (ix2 r l) = ix2 (⟨t.val * 512 + r.val, by omega⟩ : Fin 8192) l := by
    blk_ext [idx10 t]
  blk_simp
  rw [after0_10, e]
  exact after10 m c D h9 t r l

/-- Result 1. -/
def daArr (i : S8192x1024.Idx) : EReal := dBranch WO D GA (i 0).val (i 1).val

theorem idx11 : ∀ t : Fin cfg0.N, win0_11.index t = ![t.val, 0] :=
  (by decide +kernel : ∀ t : Fin grid0.N, win0_11.index t = ![t.val, 0])

include h2 h3 h8 h9 in
theorem final11 : (dats m 0 c).arrAt 11 cfg0.N = daArr GA WO D := by
  refine (dats m 0 c).arrAt_eq_of_covers 11 _ (by decide +kernel) fun t hf y => ?_
  have hN := N16 t
  obtain ⟨r, l, rfl⟩ : ∃ (r : Fin 512) (l : Fin 1024), y = ix2 r l := ⟨y 0, y 1, by blk_ext []⟩
  have e : (win0_11.blk t).view.emb (ix2 r l) = ix2 (⟨t.val * 512 + r.val, by omega⟩ : Fin 8192) l := by
    blk_ext [idx11 t]
  blk_simp
  rw [after0_11, e]
  exact after11 m c GA GP WO D h2 h3 h8 h9 t r l

/-- Result 2. -/
def dpArr (i : S8192x1024.Idx) : EReal := dBranch WO D GP (i 0).val (i 1).val

theorem idx12 : ∀ t : Fin cfg0.N, win0_12.index t = ![t.val, 0] :=
  (by decide +kernel : ∀ t : Fin grid0.N, win0_12.index t = ![t.val, 0])

include h2 h3 h8 h9 in
theorem final12 : (dats m 0 c).arrAt 12 cfg0.N = dpArr GP WO D := by
  refine (dats m 0 c).arrAt_eq_of_covers 12 _ (by decide +kernel) fun t hf y => ?_
  have hN := N16 t
  obtain ⟨r, l, rfl⟩ : ∃ (r : Fin 512) (l : Fin 1024), y = ix2 r l := ⟨y 0, y 1, by blk_ext []⟩
  have e : (win0_12.blk t).view.emb (ix2 r l) = ix2 (⟨t.val * 512 + r.val, by omega⟩ : Fin 8192) l := by
    blk_ext [idx12 t]
  blk_simp
  rw [after0_12, e]
  exact after12 m c GA GP WO D h2 h3 h8 h9 t r l

/-- Result 3. -/
def dattnArr (i : S8192x1024.Idx) : EReal := dAttn GA WA WO D (i 0).val (i 1).val

theorem idx13 : ∀ t : Fin cfg0.N, win0_13.index t = ![t.val, 0] :=
  (by decide +kernel : ∀ t : Fin grid0.N, win0_13.index t = ![t.val, 0])

include h2 h3 h4 h8 h9 in
theorem final13 : (dats m 0 c).arrAt 13 cfg0.N = dattnArr GA WA WO D := by
  refine (dats m 0 c).arrAt_eq_of_covers 13 _ (by decide +kernel) fun t hf y => ?_
  have hN := N16 t
  obtain ⟨r, l, rfl⟩ : ∃ (r : Fin 512) (l : Fin 1024), y = ix2 r l := ⟨y 0, y 1, by blk_ext []⟩
  have e : (win0_13.blk t).view.emb (ix2 r l) = ix2 (⟨t.val * 512 + r.val, by omega⟩ : Fin 8192) l := by
    blk_ext [idx13 t]
  blk_simp
  rw [after0_13, e]
  exact after13 m c GA GP WA WO D h2 h3 h4 h8 h9 t r l

/-- Result 4. -/
def dgateArr (i : S8192x2048.Idx) : EReal := if (i 1).val < 1024 then dGate WO D GA (upA T WA) (i 0).val (i 1).val else dGate WO D GP (upP Z WP WM S) (i 0).val ((i 1).val - 1024)

theorem idx14 : ∀ t : Fin cfg0.N, win0_14.index t = ![t.val, 0] :=
  (by decide +kernel : ∀ t : Fin grid0.N, win0_14.index t = ![t.val, 0])

include h0 hz h2 h3 h4 h5 h6 h7 h8 h9 in
theorem final14 : (dats m 0 c).arrAt 14 cfg0.N = dgateArr T Z GA GP WA WP WO D WM S := by
  refine (dats m 0 c).arrAt_eq_of_covers 14 _ (by decide +kernel) fun t hf y => ?_
  have hN := N16 t
  obtain ⟨r, l, rfl⟩ : ∃ (r : Fin 512) (l : Fin 2048), y = ix2 r l := ⟨y 0, y 1, by blk_ext []⟩
  have e : (win0_14.blk t).view.emb (ix2 r l) = ix2 (⟨t.val * 512 + r.val, by omega⟩ : Fin 8192) l := by
    blk_ext [idx14 t]
  blk_simp
  rw [after0_14, e]
  exact after14 m c T Z GA GP WA WP WO D WM S h0 hz h2 h3 h4 h5 h6 h7 h8 h9 t r l

/-- Result 5. -/
def dpooledArr (i : S8192x512.Idx) : EReal := dPooled GP WP WO D WM S (i 0).val (i 1).val

theorem idx15 : ∀ t : Fin cfg0.N, win0_15.index t = ![t.val, 0] :=
  (by decide +kernel : ∀ t : Fin grid0.N, win0_15.index t = ![t.val, 0])

include h2 h3 h5 h6 h7 h8 h9 in
theorem final15 : (dats m 0 c).arrAt 15 cfg0.N = dpooledArr GP WP WO D WM S := by
  refine (dats m 0 c).arrAt_eq_of_covers 15 _ (by decide +kernel) fun t hf y => ?_
  have hN := N16 t
  obtain ⟨r, l, rfl⟩ : ∃ (r : Fin 512) (l : Fin 512), y = ix2 r l := ⟨y 0, y 1, by blk_ext []⟩
  have e : (win0_15.blk t).view.emb (ix2 r l) = ix2 (⟨t.val * 512 + r.val, by omega⟩ : Fin 8192) l := by
    blk_ext [idx15 t]
  blk_simp
  rw [after0_15, e]
  exact after15 m c GA GP WP WO D WM S h2 h3 h5 h6 h7 h8 h9 t r l

/-- Result 6. -/
def dwArr (i : S4x128x128.Idx) : EReal := ∑ r : Fin 8192, dwRow Z GP WP WO D S (i 0).val (i 1).val (i 2).val r.val

include hz h2 h3 h6 h7 h8 h9 in
theorem final16 : (dats m 0 c).arrAt 16 cfg0.N = dwArr Z GP WP WO D S := by
  refine (dats m 0 c).arrAt_eq_of_after_last 16 t0_15 (by decide +kernel) _ fun i => ?_
  obtain ⟨g, k, e, rfl⟩ : ∃ (g : Fin 4) (k e : Fin 128), i = ix3 g k e := ⟨i 0, i 1, i 2, by blk_ext []⟩
  blk_simp
  rw [after0_16]
  refine (Pipeline.eq_sum_fin_of_reset_step_apply_last (fun n h => (outsAt0 m c n h).2.2.2.2.2.2.1) 16 (fun _ => (0 : EReal))
    (fun t i => ∑ r : Fin 512, dwRow Z GP WP WO D S (i 0).val (i 1).val (i 2).val (t.val * 512 + r.val)) (fun t h i => ?_) (fun t h i => ?_) (le_of_eq N_0) t0_15 rfl (ix3 g k e)).trans ?_
  · obtain ⟨g, k, e, rfl⟩ : ∃ (g : Fin 4) (k e : Fin 128), i = ix3 g k e := ⟨i 0, i 1, i 2, by blk_ext []⟩
    refine (after16 m c Z GA GP WP WO D S hz h2 h3 h6 h7 h8 h9 t g k e).trans ?_
    rw [if_pos h]
    rfl
  · obtain ⟨g, k, e, rfl⟩ : ∃ (g : Fin 4) (k e : Fin 128), i = ix3 g k e := ⟨i 0, i 1, i 2, by blk_ext []⟩
    refine (after16 m c Z GA GP WP WO D S hz h2 h3 h6 h7 h8 h9 t g k e).trans ?_
    rw [if_neg h]
    rfl
  · rw [zero_add]
    exact Fin.sum_mul_add_congr fun t r hl => rfl

/-- Result 7. -/
def dscaleArr (i : S1x512.Idx) : EReal := ∑ r : Fin 8192, dscaleRow Z GP WP WO D WM (i 1).val r.val

include hz h2 h3 h5 h7 h8 h9 in
theorem final17 : (dats m 0 c).arrAt 17 cfg0.N = dscaleArr Z GP WP WO D WM := by
  refine (dats m 0 c).arrAt_eq_of_after_last 17 t0_15 (by decide +kernel) _ fun i => ?_
  obtain ⟨j, rfl⟩ : ∃ j : Fin 512, i = ix2 0 j := ⟨i 1, by blk_ext []⟩
  blk_simp
  rw [after0_17]
  refine (Pipeline.eq_sum_fin_of_reset_step_apply_last (fun n h => (outsAt0 m c n h).2.2.2.2.2.2.2) 16 (fun _ => (0 : EReal))
    (fun t i => ∑ r : Fin 512, dscaleRow Z GP WP WO D WM (i 1).val (t.val * 512 + r.val)) (fun t h i => ?_) (fun t h i => ?_) (le_of_eq N_0) t0_15 rfl (ix2 0 j)).trans ?_
  · obtain ⟨j, rfl⟩ : ∃ j : Fin 512, i = ix2 0 j := ⟨i 1, by blk_ext []⟩
    refine (after17 m c Z GA GP WP WO D WM hz h2 h3 h5 h7 h8 h9 t j).trans ?_
    rw [if_pos h]
    rfl
  · obtain ⟨j, rfl⟩ : ∃ j : Fin 512, i = ix2 0 j := ⟨i 1, by blk_ext []⟩
    refine (after17 m c Z GA GP WP WO D WM hz h2 h3 h5 h7 h8 h9 t j).trans ?_
    rw [if_neg h]
    rfl
  · rw [zero_add]
    exact Fin.sum_mul_add_congr fun t r hl => rfl

end Cert.MixBwdIdeal.Real

end
-- ==== Proof.MixClaim.lean ====
/-
  THE THIRD PAIR, put together: at any arguments at all the kernel and the derivative of the plain lines both run and
  leave equal arrays.
-/
module

public import proofs.«01_k».proof.Defs
public import proofs.«01_k».proof.Proof.MixRef
public import proofs.«01_k».proof.Proof.MixFinal
public import proofs.«01_k».proof.Proof.Gen.MixBwd.Frame
public import proofs.«01_k».proof.Proof.Gen.MixRefIdeal.Run

@[expose] public section

set_option maxRecDepth 16384

noncomputable section

namespace Cert.MixClaim

open Cert.Step Idealize.ShloMosaic Idealize.ShloMosaic.TcCoe Idealize.SL.Sem

/-- An index of a matrix is the pair of its coordinates. -/
theorem eq_ix2 {a b : ℕ} (i : (⟨2, ![a, b]⟩ : Shape).Idx) : i = ix2 (i 0) (i 1) := by
  funext t
  fin_cases t <;> rfl

/-- The same of a single row. -/
theorem eq_row {b : ℕ} (i : (⟨2, ![1, b]⟩ : Shape).Idx) : i = ix2 0 (i 1) := by
  refine (eq_ix2 i).trans (congrArg (fun z : Fin 1 => (ix2 z (i 1) : (⟨2, ![1, b]⟩ : Shape).Idx)) (Fin.ext ?_))
  exact Nat.lt_one_iff.mp (i 0).isLt

/-- … and of a stack of matrices. -/
theorem eq_ix3 {a b d : ℕ} (i : (⟨3, ![a, b, d]⟩ : Shape).Idx) : i = ix3 (i 0) (i 1) (i 2) := by
  funext t
  fin_cases t <;> rfl

/-- A matrix behind a leading axis of one, numbered by all natural numbers. -/
theorem slab {a b : ℕ} (x : (⟨3, ![1, a, b]⟩ : Shape).Idx → EReal) : ∃ T : ℕ → ℕ → EReal, ∀ (r : Fin a) (k : Fin b), x (ix3 0 r k) = T r k :=
  ⟨fun r k => if h : r < a ∧ k < b then x (ix3 0 ⟨r, h.1⟩ ⟨k, h.2⟩) else 0, fun r k => by simp [r.isLt, k.isLt]⟩

/-- A single row, the same. -/
theorem line {b : ℕ} (x : (⟨2, ![1, b]⟩ : Shape).Idx → EReal) : ∃ T : ℕ → EReal, ∀ k : Fin b, x (ix2 0 k) = T k :=
  ⟨fun k => if h : k < b then x (ix2 0 ⟨k, h⟩) else 0, fun k => by simp [k.isLt]⟩

/-- A stack of matrices, the same. -/
theorem stack {a b d : ℕ} (x : (⟨4, ![1, a, b, d]⟩ : Shape).Idx → EReal) :
    ∃ T : ℕ → ℕ → ℕ → EReal, ∀ (g : Fin a) (r : Fin b) (k : Fin d), x (ix4 0 g r k) = T g r k :=
  ⟨fun g r k => if h : g < a ∧ r < b ∧ k < d then x (ix4 0 ⟨g, h.1⟩ ⟨r, h.2.1⟩ ⟨k, h.2.2⟩) else 0,
    fun g r k => by simp [g.isLt, r.isLt, k.isLt]⟩

variable (m : (ℓ : Loc Cert.MixBwdIdeal.nD Cert.MixBwdIdeal.τ Cert.MixBwdIdeal.sig) → Buf (Elt Ideal) ℓ) (c : Dev Cert.MixBwdIdeal.nD)
variable (x0 x2 x3 x9 : (⟨Cert.MixRefIdeal.S1x8192x1024, .f32⟩ : BufTy).Contents (Elt Ideal)) (x1 : (⟨Cert.MixRefIdeal.S1x8192x512, .f32⟩ : BufTy).Contents (Elt Ideal))
variable (x4 x8 : (⟨Cert.MixRefIdeal.S1x1024x1024, .f32⟩ : BufTy).Contents (Elt Ideal)) (x5 : (⟨Cert.MixRefIdeal.S1x4x128x128, .f32⟩ : BufTy).Contents (Elt Ideal))
variable (x6 : (⟨Cert.MixRefIdeal.S1x512, .f32⟩ : BufTy).Contents (Elt Ideal)) (x7 : (⟨Cert.MixRefIdeal.S1x512x1024, .f32⟩ : BufTy).Contents (Elt Ideal))
variable (a0 : x0 = m ((c : Thread Cert.MixBwdIdeal.nD Cert.MixBwdIdeal.τ).loc Cert.MixBwdIdeal.main_arg0))
variable (a1 : x1 = m ((c : Thread Cert.MixBwdIdeal.nD Cert.MixBwdIdeal.τ).loc Cert.MixBwdIdeal.main_arg1))
variable (a2 : x2 = m ((c : Thread Cert.MixBwdIdeal.nD Cert.MixBwdIdeal.τ).loc Cert.MixBwdIdeal.main_arg2))
variable (a3 : x3 = m ((c : Thread Cert.MixBwdIdeal.nD Cert.MixBwdIdeal.τ).loc Cert.MixBwdIdeal.main_arg3))
variable (a4 : x4 = m ((c : Thread Cert.MixBwdIdeal.nD Cert.MixBwdIdeal.τ).loc Cert.MixBwdIdeal.main_arg4))
variable (a5 : x5 = m ((c : Thread Cert.MixBwdIdeal.nD Cert.MixBwdIdeal.τ).loc Cert.MixBwdIdeal.main_arg5))
variable (a6 : x6 = m ((c : Thread Cert.MixBwdIdeal.nD Cert.MixBwdIdeal.τ).loc Cert.MixBwdIdeal.main_arg6))
variable (a7 : x7 = m ((c : Thread Cert.MixBwdIdeal.nD Cert.MixBwdIdeal.τ).loc Cert.MixBwdIdeal.main_arg7))
variable (a8 : x8 = m ((c : Thread Cert.MixBwdIdeal.nD Cert.MixBwdIdeal.τ).loc Cert.MixBwdIdeal.main_arg8))
variable (a9 : x9 = m ((c : Thread Cert.MixBwdIdeal.nD Cert.MixBwdIdeal.τ).loc Cert.MixBwdIdeal.main_arg9))

include a9 in
theorem eq10 : Cert.MixRefIdeal.Read.val_main_v126 (F := Ideal) x9
    = (Cert.MixBwdIdeal.Gen.dats m 0 c).arrAt 10 Cert.MixBwdIdeal.cfg0.N := by
  subst a9
  obtain ⟨D, h9⟩ := slab (m ((c : Thread Cert.MixBwdIdeal.nD Cert.MixBwdIdeal.τ).loc Cert.MixBwdIdeal.main_arg9))
  refine Eq.trans ?_ (Cert.MixBwdIdeal.Real.final10 m c D h9).symm
  funext i
  rw [eq_ix2 i]
  exact Cert.MixRefIdeal.Real.dh_apply D _ h9 _ _

include a2 a8 a9 in
theorem eq11 : Cert.MixRefIdeal.Read.val_main_v128 (F := Ideal) x2 x8 x9
    = (Cert.MixBwdIdeal.Gen.dats m 0 c).arrAt 11 Cert.MixBwdIdeal.cfg0.N := by
  subst a2 a8 a9
  obtain ⟨GA, h2⟩ := slab (m ((c : Thread Cert.MixBwdIdeal.nD Cert.MixBwdIdeal.τ).loc Cert.MixBwdIdeal.main_arg2))
  obtain ⟨GP, h3⟩ := slab (m ((c : Thread Cert.MixBwdIdeal.nD Cert.MixBwdIdeal.τ).loc Cert.MixBwdIdeal.main_arg3))
  obtain ⟨WO, h8⟩ := slab (m ((c : Thread Cert.MixBwdIdeal.nD Cert.MixBwdIdeal.τ).loc Cert.MixBwdIdeal.main_arg8))
  obtain ⟨D, h9⟩ := slab (m ((c : Thread Cert.MixBwdIdeal.nD Cert.MixBwdIdeal.τ).loc Cert.MixBwdIdeal.main_arg9))
  refine Eq.trans ?_ (Cert.MixBwdIdeal.Real.final11 m c GA GP WO D h2 h3 h8 h9).symm
  funext i
  rw [eq_ix2 i]
  exact Cert.MixRefIdeal.Real.da_apply GA WO D _ _ _ h2 h8 h9 _ _

include a3 a8 a9 in
theorem eq12 : Cert.MixRefIdeal.Read.val_main_v130 (F := Ideal) x3 x8 x9
    = (Cert.MixBwdIdeal.Gen.dats m 0 c).arrAt 12 Cert.MixBwdIdeal.cfg0.N := by
  subst a3 a8 a9
  obtain ⟨GA, h2⟩ := slab (m ((c : Thread Cert.MixBwdIdeal.nD Cert.MixBwdIdeal.τ).loc Cert.MixBwdIdeal.main_arg2))
  obtain ⟨GP, h3⟩ := slab (m ((c : Thread Cert.MixBwdIdeal.nD Cert.MixBwdIdeal.τ).loc Cert.MixBwdIdeal.main_arg3))
  obtain ⟨WO, h8⟩ := slab (m ((c : Thread Cert.MixBwdIdeal.nD Cert.MixBwdIdeal.τ).loc Cert.MixBwdIdeal.main_arg8))
  obtain ⟨D, h9⟩ := slab (m ((c : Thread Cert.MixBwdIdeal.nD Cert.MixBwdIdeal.τ).loc Cert.MixBwdIdeal.main_arg9))
  refine Eq.trans ?_ (Cert.MixBwdIdeal.Real.final12 m c GA GP WO D h2 h3 h8 h9).symm
  funext i
  rw [eq_ix2 i]
  exact Cert.MixRefIdeal.Real.dp_apply GP WO D _ _ _ h3 h8 h9 _ _

include a2 a4 a8 a9 in
theorem eq13 : Cert.MixRefIdeal.Read.val_main_v132 (F := Ideal) x2 x4 x8 x9
    = (Cert.MixBwdIdeal.Gen.dats m 0 c).arrAt 13 Cert.MixBwdIdeal.cfg0.N := by
  subst a2 a4 a8 a9
  obtain ⟨GA, h2⟩ := slab (m ((c : Thread Cert.MixBwdIdeal.nD Cert.MixBwdIdeal.τ).loc Cert.MixBwdIdeal.main_arg2))
  obtain ⟨GP, h3⟩ := slab (m ((c : Thread Cert.MixBwdIdeal.nD Cert.MixBwdIdeal.τ).loc Cert.MixBwdIdeal.main_arg3))
  obtain ⟨WA, h4⟩ := slab (m ((c : Thread Cert.MixBwdIdeal.nD Cert.MixBwdIdeal.τ).loc Cert.MixBwdIdeal.main_arg4))
  obtain ⟨WO, h8⟩ := slab (m ((c : Thread Cert.MixBwdIdeal.nD Cert.MixBwdIdeal.τ).loc Cert.MixBwdIdeal.main_arg8))
  obtain ⟨D, h9⟩ := slab (m ((c : Thread Cert.MixBwdIdeal.nD Cert.MixBwdIdeal.τ).loc Cert.MixBwdIdeal.main_arg9))
  refine Eq.trans ?_ (Cert.MixBwdIdeal.Real.final13 m c GA GP WA WO D h2 h3 h4 h8 h9).symm
  funext i
  rw [eq_ix2 i]
  exact Cert.MixRefIdeal.Real.dattn_apply GA WA WO D _ _ _ _ h2 h4 h8 h9 _ _

include a0 a1 a2 a3 a4 a5 a6 a7 a8 a9 in
theorem eq14 : Cert.MixRefIdeal.Read.val_main_v135 (F := Ideal) x0 x1 x2 x3 x4 x5 x6 x7 x8 x9
    = (Cert.MixBwdIdeal.Gen.dats m 0 c).arrAt 14 Cert.MixBwdIdeal.cfg0.N := by
  subst a0 a1 a2 a3 a4 a5 a6 a7 a8 a9
  obtain ⟨T, h0⟩ := slab (m ((c : Thread Cert.MixBwdIdeal.nD Cert.MixBwdIdeal.τ).loc Cert.MixBwdIdeal.main_arg0))
  obtain ⟨Z, hz⟩ := slab (Cert.MixBwdIdeal.Real.zOf m c)
  obtain ⟨GA, h2⟩ := slab (m ((c : Thread Cert.MixBwdIdeal.nD Cert.MixBwdIdeal.τ).loc Cert.MixBwdIdeal.main_arg2))
  obtain ⟨GP, h3⟩ := slab (m ((c : Thread Cert.MixBwdIdeal.nD Cert.MixBwdIdeal.τ).loc Cert.MixBwdIdeal.main_arg3))
  obtain ⟨WA, h4⟩ := slab (m ((c : Thread Cert.MixBwdIdeal.nD Cert.MixBwdIdeal.τ).loc Cert.MixBwdIdeal.main_arg4))
  obtain ⟨WP, h7⟩ := slab (m ((c : Thread Cert.MixBwdIdeal.nD Cert.MixBwdIdeal.τ).loc Cert.MixBwdIdeal.main_arg7))
  obtain ⟨WO, h8⟩ := slab (m ((c : Thread Cert.MixBwdIdeal.nD Cert.MixBwdIdeal.τ).loc Cert.MixBwdIdeal.main_arg8))
  obtain ⟨D, h9⟩ := slab (m ((c : Thread Cert.MixBwdIdeal.nD Cert.MixBwdIdeal.τ).loc Cert.MixBwdIdeal.main_arg9))
  obtain ⟨WM, h5⟩ := stack (m ((c : Thread Cert.MixBwdIdeal.nD Cert.MixBwdIdeal.τ).loc Cert.MixBwdIdeal.main_arg5))
  obtain ⟨S, h6⟩ := line (m ((c : Thread Cert.MixBwdIdeal.nD Cert.MixBwdIdeal.τ).loc Cert.MixBwdIdeal.main_arg6))
  refine Eq.trans ?_ (Cert.MixBwdIdeal.Real.final14 m c T Z GA GP WA WP WO D WM S h0 hz h2 h3 h4 h5 h6 h7 h8 h9).symm
  funext i
  rw [eq_ix2 i]
  exact Cert.MixRefIdeal.Real.dgate_apply T Z GA GP WA WP WO D WM S _ _ _ _ _ _ _ _ _ _ h0 hz h2 h3 h4 h5 h6 h7 h8 h9 _ _

include a3 a5 a6 a7 a8 a9 in
theorem eq15 : Cert.MixRefIdeal.Read.val_main_v136 (F := Ideal) x3 x5 x6 x7 x8 x9
    = (Cert.MixBwdIdeal.Gen.dats m 0 c).arrAt 15 Cert.MixBwdIdeal.cfg0.N := by
  subst a3 a5 a6 a7 a8 a9
  obtain ⟨GA, h2⟩ := slab (m ((c : Thread Cert.MixBwdIdeal.nD Cert.MixBwdIdeal.τ).loc Cert.MixBwdIdeal.main_arg2))
  obtain ⟨GP, h3⟩ := slab (m ((c : Thread Cert.MixBwdIdeal.nD Cert.MixBwdIdeal.τ).loc Cert.MixBwdIdeal.main_arg3))
  obtain ⟨WP, h7⟩ := slab (m ((c : Thread Cert.MixBwdIdeal.nD Cert.MixBwdIdeal.τ).loc Cert.MixBwdIdeal.main_arg7))
  obtain ⟨WO, h8⟩ := slab (m ((c : Thread Cert.MixBwdIdeal.nD Cert.MixBwdIdeal.τ).loc Cert.MixBwdIdeal.main_arg8))
  obtain ⟨D, h9⟩ := slab (m ((c : Thread Cert.MixBwdIdeal.nD Cert.MixBwdIdeal.τ).loc Cert.MixBwdIdeal.main_arg9))
  obtain ⟨WM, h5⟩ := stack (m ((c : Thread Cert.MixBwdIdeal.nD Cert.MixBwdIdeal.τ).loc Cert.MixBwdIdeal.main_arg5))
  obtain ⟨S, h6⟩ := line (m ((c : Thread Cert.MixBwdIdeal.nD Cert.MixBwdIdeal.τ).loc Cert.MixBwdIdeal.main_arg6))
  refine Eq.trans ?_ (Cert.MixBwdIdeal.Real.final15 m c GA GP WP WO D WM S h2 h3 h5 h6 h7 h8 h9).symm
  funext i
  rw [eq_ix2 i]
  exact Cert.MixRefIdeal.Real.dpooled_apply GP WP WO D WM S _ _ _ _ _ _ h3 h5 h6 h7 h8 h9 _ _

include a1 a3 a6 a7 a8 a9 in
theorem eq16 : Cert.MixRefIdeal.Read.val_main_v137 (F := Ideal) x1 x3 x6 x7 x8 x9
    = (Cert.MixBwdIdeal.Gen.dats m 0 c).arrAt 16 Cert.MixBwdIdeal.cfg0.N := by
  subst a1 a3 a6 a7 a8 a9
  obtain ⟨Z, hz⟩ := slab (Cert.MixBwdIdeal.Real.zOf m c)
  obtain ⟨GA, h2⟩ := slab (m ((c : Thread Cert.MixBwdIdeal.nD Cert.MixBwdIdeal.τ).loc Cert.MixBwdIdeal.main_arg2))
  obtain ⟨GP, h3⟩ := slab (m ((c : Thread Cert.MixBwdIdeal.nD Cert.MixBwdIdeal.τ).loc Cert.MixBwdIdeal.main_arg3))
  obtain ⟨WP, h7⟩ := slab (m ((c : Thread Cert.MixBwdIdeal.nD Cert.MixBwdIdeal.τ).loc Cert.MixBwdIdeal.main_arg7))
  obtain ⟨WO, h8⟩ := slab (m ((c : Thread Cert.MixBwdIdeal.nD Cert.MixBwdIdeal.τ).loc Cert.MixBwdIdeal.main_arg8))
  obtain ⟨D, h9⟩ := slab (m ((c : Thread Cert.MixBwdIdeal.nD Cert.MixBwdIdeal.τ).loc Cert.MixBwdIdeal.main_arg9))
  obtain ⟨S, h6⟩ := line (m ((c : Thread Cert.MixBwdIdeal.nD Cert.MixBwdIdeal.τ).loc Cert.MixBwdIdeal.main_arg6))
  refine Eq.trans ?_ (Cert.MixBwdIdeal.Real.final16 m c Z GA GP WP WO D S hz h2 h3 h6 h7 h8 h9).symm
  funext i
  rw [eq_ix3 i]
  exact Cert.MixRefIdeal.Real.dw_apply Z GP WP WO D S _ _ _ _ _ _ hz h3 h6 h7 h8 h9 _ _ _

include a1 a3 a5 a7 a8 a9 in
theorem eq17 : Cert.MixRefIdeal.Read.val_main_v122 (F := Ideal) x1 x3 x5 x7 x8 x9
    = (Cert.MixBwdIdeal.Gen.dats m 0 c).arrAt 17 Cert.MixBwdIdeal.cfg0.N := by
  subst a1 a3 a5 a7 a8 a9
  obtain ⟨Z, hz⟩ := slab (Cert.MixBwdIdeal.Real.zOf m c)
  obtain ⟨GA, h2⟩ := slab (m ((c : Thread Cert.MixBwdIdeal.nD Cert.MixBwdIdeal.τ).loc Cert.MixBwdIdeal.main_arg2))
  obtain ⟨GP, h3⟩ := slab (m ((c : Thread Cert.MixBwdIdeal.nD Cert.MixBwdIdeal.τ).loc Cert.MixBwdIdeal.main_arg3))
  obtain ⟨WP, h7⟩ := slab (m ((c : Thread Cert.MixBwdIdeal.nD Cert.MixBwdIdeal.τ).loc Cert.MixBwdIdeal.main_arg7))
  obtain ⟨WO, h8⟩ := slab (m ((c : Thread Cert.MixBwdIdeal.nD Cert.MixBwdIdeal.τ).loc Cert.MixBwdIdeal.main_arg8))
  obtain ⟨D, h9⟩ := slab (m ((c : Thread Cert.MixBwdIdeal.nD Cert.MixBwdIdeal.τ).loc Cert.MixBwdIdeal.main_arg9))
  obtain ⟨WM, h5⟩ := stack (m ((c : Thread Cert.MixBwdIdeal.nD Cert.MixBwdIdeal.τ).loc Cert.MixBwdIdeal.main_arg5))
  refine Eq.trans ?_ (Cert.MixBwdIdeal.Real.final17 m c Z GA GP WP WO D WM hz h2 h3 h5 h7 h8 h9).symm
  funext i
  rw [eq_row i]
  exact Cert.MixRefIdeal.Real.dscale_apply Z GP WP WO D WM _ _ _ _ _ _ hz h3 h5 h7 h8 h9 _

set_option maxHeartbeats 4000000 in
theorem algebraic : Cert.algebraic_MixBwdIdeal_MixRefIdeal := by
  intro m g m' g' hpre harg
  refine ⟨fun c => (Cert.MixBwdIdeal.Gen.dats m 0 c).arrAt 10 Cert.MixBwdIdeal.cfg0.N,
    fun c => (Cert.MixBwdIdeal.Gen.dats m 0 c).arrAt 11 Cert.MixBwdIdeal.cfg0.N,
    fun c => (Cert.MixBwdIdeal.Gen.dats m 0 c).arrAt 12 Cert.MixBwdIdeal.cfg0.N,
    fun c => (Cert.MixBwdIdeal.Gen.dats m 0 c).arrAt 13 Cert.MixBwdIdeal.cfg0.N,
    fun c => (Cert.MixBwdIdeal.Gen.dats m 0 c).arrAt 14 Cert.MixBwdIdeal.cfg0.N,
    fun c => (Cert.MixBwdIdeal.Gen.dats m 0 c).arrAt 15 Cert.MixBwdIdeal.cfg0.N,
    fun c => (Cert.MixBwdIdeal.Gen.dats m 0 c).arrAt 16 Cert.MixBwdIdeal.cfg0.N,
    fun c => (Cert.MixBwdIdeal.Gen.dats m 0 c).arrAt 17 Cert.MixBwdIdeal.cfg0.N, Cert.MixBwdIdeal.Value.run_blocks m g, ?_⟩
  refine (θ_run _ _ _).mono (fun r h c => ?_) (Cert.MixRefIdeal.Value.run m' g')
  obtain ⟨a0, a1, a2, a3, a4, a5, a6, a7, a8, a9⟩ := harg c
  obtain ⟨r0, r1, r2, r3, r4, r5, r6, r7, rest⟩ := h c
  refine ⟨r0.trans ?_, r1.trans ?_, r2.trans ?_, r3.trans ?_, r4.trans ?_, r5.trans ?_, r6.trans ?_, r7.trans ?_, rest⟩
  · exact (Cert.MixRefIdeal.Read.val_main_v126_eq _).trans (eq10 m c _ a9)
  · exact (Cert.MixRefIdeal.Read.val_main_v128_eq _ _ _).trans (eq11 m c _ _ _ a2 a8 a9)
  · exact (Cert.MixRefIdeal.Read.val_main_v130_eq _ _ _).trans (eq12 m c _ _ _ a3 a8 a9)
  · exact (Cert.MixRefIdeal.Read.val_main_v132_eq _ _ _ _).trans (eq13 m c _ _ _ _ a2 a4 a8 a9)
  · exact (Cert.MixRefIdeal.Read.val_main_v135_eq m' c).trans (eq14 m c _ _ _ _ _ _ _ _ _ _ a0 a1 a2 a3 a4 a5 a6 a7 a8 a9)
  · exact (Cert.MixRefIdeal.Read.val_main_v136_eq _ _ _ _ _ _).trans (eq15 m c _ _ _ _ _ _ a3 a5 a6 a7 a8 a9)
  · exact (Cert.MixRefIdeal.Read.val_main_v137_eq m' c).trans (eq16 m c _ _ _ _ _ _ a1 a3 a6 a7 a8 a9)
  · exact (Cert.MixRefIdeal.Read.val_main_v122_eq m' c).trans (eq17 m c _ _ _ _ _ _ a1 a3 a5 a7 a8 a9)

/-- The reference runs, leaves its arguments as they were, and uses no semaphore. -/
theorem frameRef : Cert.quiescent_MixRefIdeal := fun m ρ _ =>
  (θ_run Cert.MixRefIdeal.defs _ _).mono
    (fun r h => ⟨fun c => (h c).2.2.2.2.2.2.2.2, Idealize.ShloMosaic.sem_eq_zero_of_no_sems (by decide) r.2⟩)
    (Cert.MixRefIdeal.Value.run (F := Ideal) m ρ)

end Cert.MixClaim

end
-- ==== Proof.LossSpec.lean ====
/-
  THE FOURTH PAIR over the real numbers: the last feed-forward layer, the final normalisation and the squared error as
  functions of the arguments' entries, with the derivatives by the layer's output and by the final gain.
-/
module

public import proofs.«01_k».proof.Proof.Common

@[expose] public section

noncomputable section

namespace Cert.Loss

open Cert.Step Idealize.ShloMosaic

/-- A row of an array. -/
abbrev row (H : ℕ → ℕ → ℝ) (r : ℕ) : Fin 1024 → ℝ := fun k => H r k.val

/-- The logistic function. -/
def lgs (x : ℝ) : ℝ := (1 + Real.exp (-x))⁻¹

variable (H W P T : ℕ → ℕ → ℝ) (G F : ℕ → ℝ)

/-- The normalised input. -/
def nrm (r c : ℕ) : ℝ := H r c * invRms (row H r) * G c

/-- Its product with the upward weights: the gate's half, then the other half. -/
def up (r j : ℕ) : ℝ := ∑ k : Fin 1024, nrm H G r k * W k j

/-- The gated unit. -/
def act (r j : ℕ) : ℝ := up H W G r j * lgs (up H W G r j) * up H W G r (2816 + j)

/-- The layer's output. -/
def out (r c : ℕ) : ℝ := H r c + 1 / 2 * ∑ j : Fin 2816, act H W G r j * P j c

/-- The normalised output less the target. -/
def err (r c : ℕ) : ℝ := out H W P G r c * invRms (row (out H W P G) r) * F c - T r c

/-- A row's share of the loss. -/
def rowLoss (r : ℕ) : ℝ := (∑ k : Fin 1024, err H W P T G F r k * err H W P T G F r k) / 1024

/-- The cotangent of the normalised row before its gain. -/
def dErr (r c : ℕ) : ℝ := err H W P T G F r c * (1 / 1024) * F c

/-- The derivative by the layer's output. -/
def dOut (r : ℕ) (c : Fin 1024) : ℝ := normGrad (row (out H W P G) r) (row (dErr H W P T G F) r) c

/-- A row's share of the derivative by the final gain. -/
def rowGain (r c : ℕ) : ℝ := err H W P T G F r c * (1 / 1024) * (out H W P G r c * invRms (row (out H W P G) r))

/-! ## Constants -/

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_inv1024 : Ideal.ofBits .f32 0x3A800000#32 = ((1 / 1024 : ℝ) : EReal) := by
  simp [Ideal.ofBits, Ideal.ieee, -EReal.coe_mul]; norm_num

theorem logistic_real (x : ℝ) : Ideal.logistic ((x : ℝ) : EReal) = ((lgs x : ℝ) : EReal) := Ideal.logistic_coe x

end Cert.Loss

end
-- ==== Proof.LossRef.lean ====
/-
  THE REFERENCE OF THE FOURTH PAIR, read over the real numbers: its seven results at an index.
-/
module

public import proofs.«01_k».proof.Proof.LossSpec
public import proofs.«01_k».proof.Proof.Gen.LossRefIdeal.Read

@[expose] public section

set_option maxRecDepth 16384
set_option backward.isDefEq.respectTransparency false

noncomputable section

namespace Cert.LossRefIdeal.Real

open Cert.LossRefIdeal Cert.LossRefIdeal.Gen Cert.LossRefIdeal.Read Cert.Step Cert.Loss Idealize.ShloMosaic

variable (H W P T : ℕ → ℕ → ℝ) (G F : ℕ → ℝ)
variable (x0 : (⟨S1x8192x1024, .f32⟩ : BufTy).Contents (Elt Ideal)) (x1 : (⟨S1x1024, .f32⟩ : BufTy).Contents (Elt Ideal))
variable (x2 : (⟨S1x1024x5632, .f32⟩ : BufTy).Contents (Elt Ideal)) (x3 : (⟨S1x2816x1024, .f32⟩ : BufTy).Contents (Elt Ideal))
variable (x4 : (⟨S1024, .f32⟩ : BufTy).Contents (Elt Ideal)) (x5 : (⟨S1x8192x1024, .f32⟩ : BufTy).Contents (Elt Ideal))
variable (h0 : ∀ i : S1x8192x1024.Idx, x0 i = ((H (i 1).val (i 2).val : ℝ) : EReal))
variable (h1 : ∀ i : S1x1024.Idx, x1 i = ((G (i 1).val : ℝ) : EReal))
variable (h2 : ∀ i : S1x1024x5632.Idx, x2 i = ((W (i 1).val (i 2).val : ℝ) : EReal))
variable (h3 : ∀ i : S1x2816x1024.Idx, x3 i = ((P (i 1).val (i 2).val : ℝ) : EReal))
variable (h4 : ∀ i : S1024.Idx, x4 i = ((F (i 0).val : ℝ) : EReal))
variable (h5 : ∀ i : S1x8192x1024.Idx, x5 i = ((T (i 1).val (i 2).val : ℝ) : EReal))

/-! ## The layer -/

include h0 in
theorem v8 (i : S1x8192x1.Idx) : val_main_v8 (F := Ideal) x0 i = ((invRms (row H (i 1).val) : ℝ) : EReal) := by
  have e2 : val_main_v2 (F := Ideal) x0 (idx_main_v3 i) = ((∑ k : Fin 1024, H (i 1).val k.val * H (i 1).val k.val : ℝ) : EReal) := by
    rw [val_main_v2_apply, val_main_cst_apply, Ideal.ofBits_def, Ideal.ofBits_zero_f32, zero_add, ← coe_sum]
    refine Finset.sum_congr rfl fun k _ => ?_
    rw [val_main_v1_apply, h0, Ideal.mulf_def, ← EReal.coe_mul]
  rw [val_main_v8_apply, val_main_v7_apply, val_main_v5_apply, val_main_v6_apply, val_main_cst_1_apply, val_main_v4_apply, val_main_cst_0_apply,
    val_main_v3_apply, e2, Ideal.hostDivf_def, Ideal.ofBits_def, Ideal.ofBits_def, div_1024, ofBits_eps, Ideal.addf_def, ← EReal.coe_add,
    Ideal.hostUnary_rsqrt_def]
  exact rsqrt_meanSq _

include h0 h1 in
theorem v13 (i : S1x8192x1024.Idx) : val_main_v13 (F := Ideal) x0 x1 i = ((nrm H G (i 1).val (i 2).val : ℝ) : EReal) := by
  rw [val_main_v13_apply, val_main_v12_apply, val_main_v11_apply, val_main_v0_apply, h1, val_main_v10_apply, val_main_v9_apply, h0, v8 H x0 h0]
  have a2 : (i 2).val < 1024 := (i 2).isLt
  simp only [Ideal.mulf_def, ← EReal.coe_mul]
  show ((H (i 1).val (i 2).val * invRms (row H (i 1).val) * G ((i 2).val % 1024) : ℝ) : EReal) = _
  rw [Nat.mod_eq_of_lt a2]
  rfl

include h2 in
theorem v14 (i : S1024x5632.Idx) : val_main_v14 (F := Ideal) x2 i = ((W (i 0).val (i 1).val : ℝ) : EReal) := by
  rw [val_main_v14_apply, h2]
  have a0 : (i 0).val < 1024 := (i 0).isLt
  have a1 : (i 1).val < 5632 := (i 1).isLt
  show ((W (((i 0).val * 5632 + (i 1).val) / 5632 % 1024) (((i 0).val * 5632 + (i 1).val) % 5632) : ℝ) : EReal) = _
  rw [show ((i 0).val * 5632 + (i 1).val) / 5632 % 1024 = (i 0).val by omega,
    show ((i 0).val * 5632 + (i 1).val) % 5632 = (i 1).val by omega]

include h0 h1 h2 in
theorem v15 (i : S1x8192x5632.Idx) : val_main_v15 (F := Ideal) x0 x1 x2 i = ((up H W G (i 1).val (i 2).val : ℝ) : EReal) := by
  rw [val_main_v15_apply]
  unfold up
  rw [← coe_sum]
  refine Finset.sum_congr rfl fun k _ => ?_
  rw [v13 H G x0 x1 h0 h1, v14 W x2 h2, ← EReal.coe_mul]

include h0 h1 h2 in
theorem v19 (i : S1x8192x2816.Idx) : val_main_v19 (F := Ideal) x0 x1 x2 i = ((act H W G (i 1).val (i 2).val : ℝ) : EReal) := by
  have e16 : val_main_v16 (F := Ideal) x0 x1 x2 i = ((up H W G (i 1).val (i 2).val : ℝ) : EReal) := by
    rw [val_main_v16_apply, v15 H W G x0 x1 x2 h0 h1 h2]
  have e17 : val_main_v17 (F := Ideal) x0 x1 x2 i = ((up H W G (i 1).val (2816 + (i 2).val) : ℝ) : EReal) := by
    rw [val_main_v17_apply, v15 H W G x0 x1 x2 h0 h1 h2]
  have e5 : val_main_call0_v5 (F := Ideal) x0 x1 x2 i = ((lgs (up H W G (i 1).val (i 2).val) : ℝ) : EReal) := by
    rw [val_main_call0_v5_apply, val_main_call0_v4_apply, val_main_call0_v3_apply, val_main_call0_v2_apply, val_main_call0_v1_apply,
      val_main_call0_v0_apply, e16, val_main_call0_cst_apply, val_main_call0_cst_0_apply, Ideal.ofBits_def, ofBits_one, ← logistic_real]
    rfl
  rw [val_main_v19_apply, val_main_v18_apply, e16, e17, e5]
  simp only [Ideal.mulf_def, ← EReal.coe_mul]
  rfl

include h3 in
theorem v20 (i : S2816x1024.Idx) : val_main_v20 (F := Ideal) x3 i = ((P (i 0).val (i 1).val : ℝ) : EReal) := by
  rw [val_main_v20_apply, h3]
  have a0 : (i 0).val < 2816 := (i 0).isLt
  have a1 : (i 1).val < 1024 := (i 1).isLt
  show ((P (((i 0).val * 1024 + (i 1).val) / 1024 % 2816) (((i 0).val * 1024 + (i 1).val) % 1024) : ℝ) : EReal) = _
  rw [show ((i 0).val * 1024 + (i 1).val) / 1024 % 2816 = (i 0).val by omega,
    show ((i 0).val * 1024 + (i 1).val) % 1024 = (i 1).val by omega]

include h0 h1 h2 h3 in
theorem v24 (i : S1x8192x1024.Idx) : val_main_v24 (F := Ideal) x0 x1 x2 x3 i = ((out H W P G (i 1).val (i 2).val : ℝ) : EReal) := by
  have e21 : val_main_v21 (F := Ideal) x0 x1 x2 x3 i = ((∑ j : Fin 2816, act H W G (i 1).val j * P j (i 2).val : ℝ) : EReal) := by
    rw [val_main_v21_apply, ← coe_sum]
    refine Finset.sum_congr rfl fun k _ => ?_
    rw [v19 H W G x0 x1 x2 h0 h1 h2, v20 P x3 h3, ← EReal.coe_mul]
  rw [val_main_v24_apply, val_main_v23_apply, val_main_v22_apply, val_main_cst_2_apply, e21, h0, Ideal.ofBits_def, ofBits_half]
  simp only [Ideal.mulf_def, Ideal.addf_def, ← EReal.coe_mul, ← EReal.coe_add]
  rfl

/-! ## The final normalisation and the error -/

include h0 h1 h2 h3 in
theorem v31 (i : S1x8192x1.Idx) : val_main_v31 (F := Ideal) x0 x1 x2 x3 i = ((meanSq (row (out H W P G) (i 1).val) : ℝ) : EReal) := by
  have e2 : val_main_v26 (F := Ideal) x0 x1 x2 x3 (idx_main_v27 i)
      = ((∑ k : Fin 1024, out H W P G (i 1).val k.val * out H W P G (i 1).val k.val : ℝ) : EReal) := by
    rw [val_main_v26_apply, val_main_cst_3_apply, Ideal.ofBits_def, Ideal.ofBits_zero_f32, zero_add, ← coe_sum]
    refine Finset.sum_congr rfl fun k _ => ?_
    rw [val_main_v25_apply, v24 H W P G x0 x1 x2 x3 h0 h1 h2 h3, Ideal.mulf_def, ← EReal.coe_mul]
  rw [val_main_v31_apply, val_main_v29_apply, val_main_v30_apply, val_main_cst_5_apply, val_main_v28_apply, val_main_cst_4_apply,
    val_main_v27_apply, e2, Ideal.hostDivf_def, Ideal.ofBits_def, Ideal.ofBits_def, div_1024, ofBits_eps, Ideal.addf_def, ← EReal.coe_add]
  rfl

include h0 h1 h2 h3 in
theorem v32 (i : S1x8192x1.Idx) : val_main_v32 (F := Ideal) x0 x1 x2 x3 i = ((invRms (row (out H W P G) (i 1).val) : ℝ) : EReal) := by
  rw [val_main_v32_apply, v31 H W P G x0 x1 x2 x3 h0 h1 h2 h3, Ideal.hostUnary_rsqrt_def, rsqrt_meanSq]

include h0 h1 h2 h3 in
theorem v35 (i : S1x8192x1.Idx) : val_main_v35 (F := Ideal) x0 x1 x2 x3 i
    = ((-(1 / 2) * (invRms (row (out H W P G) (i 1).val) / meanSq (row (out H W P G) (i 1).val)) : ℝ) : EReal) := by
  rw [val_main_v35_apply, val_main_v34_apply, val_main_cst_6_apply, val_main_v33_apply, v31 H W P G x0 x1 x2 x3 h0 h1 h2 h3,
    v32 H W P G x0 x1 x2 x3 h0 h1 h2 h3, Ideal.hostDivf_def,
    div_real _ (meanSq_pos _).ne', Ideal.ofBits_def, ofBits_neg_half, Ideal.mulf_def, ← EReal.coe_mul]

include h0 h1 h2 h3 in
theorem v37 (i : S1x8192x1024.Idx) : val_main_v37 (F := Ideal) x0 x1 x2 x3 i
    = ((out H W P G (i 1).val (i 2).val * invRms (row (out H W P G) (i 1).val) : ℝ) : EReal) := by
  rw [val_main_v37_apply, val_main_v36_apply, v24 H W P G x0 x1 x2 x3 h0 h1 h2 h3, v32 H W P G x0 x1 x2 x3 h0 h1 h2 h3, Ideal.mulf_def, ← EReal.coe_mul]

include h0 h1 h2 h3 h4 h5 in
theorem v41 (i : S1x8192x1024.Idx) : val_main_v41 (F := Ideal) x0 x1 x2 x3 x4 x5 i = ((err H W P T G F (i 1).val (i 2).val : ℝ) : EReal) := by
  rw [val_main_v41_apply, val_main_v40_apply, val_main_v39_apply, val_main_v38_apply, h4, h5, v37 H W P G x0 x1 x2 x3 h0 h1 h2 h3]
  simp only [Ideal.mulf_def, Ideal.subf_def, ← EReal.coe_mul, ← EReal.coe_sub]
  rfl

include h0 h1 h2 h3 h4 h5 in
theorem v55 (i : S1x8192x1024.Idx) : val_main_v55 (F := Ideal) x0 x1 x2 x3 x4 x5 i
    = ((err H W P T G F (i 1).val (i 2).val * (1 / 1024) : ℝ) : EReal) := by
  rw [val_main_v55_apply, val_main_v54_apply, val_main_v53_apply, val_main_v52_apply, val_main_v51_apply, val_main_v50_apply,
    val_main_cst_14_apply, val_main_cst_13_apply, val_main_cst_12_apply, val_main_v44_apply, val_main_v43_apply, val_main_cst_7_apply,
    v41 H W P T G F x0 x1 x2 x3 x4 x5 h0 h1 h2 h3 h4 h5]
  simp only [Ideal.ofBits_def, ofBits_half, ofBits_one, ofBits_two, Ideal.mulf_def, ← EReal.coe_mul, Ideal.hostDivf_def, div_1024]
  congr 1
  ring

include h0 h1 h2 h3 h4 h5 in
theorem v60 (i : S1x8192x1024.Idx) : val_main_v60 (F := Ideal) x0 x1 x2 x3 x4 x5 i
    = ((dErr H W P T G F (i 1).val (i 2).val : ℝ) : EReal) := by
  rw [val_main_v60_apply, val_main_v59_apply, val_main_v38_apply, h4, v55 H W P T G F x0 x1 x2 x3 x4 x5 h0 h1 h2 h3 h4 h5,
    Ideal.mulf_def, ← EReal.coe_mul]
  rfl

/-- The row's share of the derivative through the mean square, spread evenly. -/
def spread (r : ℕ) : ℝ :=
  ((∑ j, row (out H W P G) r j * row (dErr H W P T G F) r j) * (-(1 / 2) * (invRms (row (out H W P G) r) / meanSq (row (out H W P G) r)))) / 1024

include h0 h1 h2 h3 h4 h5 in
theorem v69 (i : S1x8192x1.Idx) : val_main_v69 (F := Ideal) x0 x1 x2 x3 x4 x5 i = ((spread H W P T G F (i 1).val : ℝ) : EReal) := by
  have e63 : ∀ j : S1x8192.Idx, val_main_v63 (F := Ideal) x0 x1 x2 x3 x4 x5 j
      = ((∑ k : Fin 1024, row (out H W P G) (j 1).val k * row (dErr H W P T G F) (j 1).val k : ℝ) : EReal) := fun j => by
    rw [val_main_v63_apply, val_main_cst_17_apply, Ideal.ofBits_def, Ideal.ofBits_zero_f32, zero_add, ← coe_sum]
    refine Finset.sum_congr rfl fun k _ => ?_
    rw [val_main_v62_apply, v24 H W P G x0 x1 x2 x3 h0 h1 h2 h3, v60 H W P T G F x0 x1 x2 x3 x4 x5 h0 h1 h2 h3 h4 h5, Ideal.mulf_def, ← EReal.coe_mul]
  have a1 : (i 1).val < 8192 := (i 1).isLt
  rw [val_main_v69_apply, val_main_v68_apply, val_main_cst_18_apply, val_main_v67_apply, v35 H W P G x0 x1 x2 x3 h0 h1 h2 h3, val_main_v64_apply, e63,
    Ideal.mulf_def, ← EReal.coe_mul, Ideal.hostDivf_def, Ideal.ofBits_def, div_1024]
  have e1 : (idx_main_v64 i 1).val = (i 1).val := by
    have a0 : (i 0).val < 1 := (i 0).isLt
    have a2 : (i 2).val < 1 := (i 2).isLt
    show (((i 0).val * 8192 + (i 1).val) * 1 + (i 2).val) % 8192 = (i 1).val
    omega
  rw [e1]
  rfl

include h0 h1 h2 h3 h4 h5 in
theorem v72 (i : S1x8192x1024.Idx) : val_main_v72 (F := Ideal) x0 x1 x2 x3 x4 x5 i = ((spread H W P T G F (i 1).val : ℝ) : EReal) := by
  rw [val_main_v72_apply, val_main_v71_apply]
  unfold val_main_v70
  show Ideal.hostReduceAdd _ _ (val_main_cst_19 (F := Ideal) _) _ = _
  refine (hostReduceAdd_of_unique _ _ _ _ (ix3 0 (i 1) 0) ?_ fun q hq => ?_).trans ?_
  · funext b
    match b with
    | ⟨0, _⟩ => rfl
  · have e1 : q 1 = i 1 := congrFun hq 0
    have b0 : (q 0).val < 1 := (q 0).isLt
    have b2 : (q 2).val < 1 := (q 2).isLt
    funext a
    match a with
    | ⟨0, _⟩ => exact Fin.ext (by show 0 = (q 0).val; omega)
    | ⟨1, _⟩ => exact e1.symm
    | ⟨2, _⟩ => exact Fin.ext (by show 0 = (q 2).val; omega)
  · rw [val_main_cst_19_apply, Ideal.ofBits_def, Ideal.ofBits_zero_f32, zero_add]
    exact v69 H W P T G F x0 x1 x2 x3 x4 x5 h0 h1 h2 h3 h4 h5 _

include h0 h1 h2 h3 h4 h5 in
theorem v76 (i : S1x8192x1024.Idx) : val_main_v76 (F := Ideal) x0 x1 x2 x3 x4 x5 i = ((dOut H W P T G F (i 1).val (i 2) : ℝ) : EReal) := by
  rw [val_main_v76_apply, val_main_v75_apply, val_main_v74_apply, val_main_v73_apply, val_main_v66_apply, val_main_v65_apply,
    v72 H W P T G F x0 x1 x2 x3 x4 x5 h0 h1 h2 h3 h4 h5, v60 H W P T G F x0 x1 x2 x3 x4 x5 h0 h1 h2 h3 h4 h5, v32 H W P G x0 x1 x2 x3 h0 h1 h2 h3,
    v24 H W P G x0 x1 x2 x3 h0 h1 h2 h3]
  simp only [Ideal.mulf_def, Ideal.addf_def, ← EReal.coe_mul, ← EReal.coe_add]
  unfold dOut
  rw [← normGrad_eq]
  rfl

/-! ## The results -/

/-- A [1, b, c] index named by the row-major number of a [b, c] index. -/
theorem slab_idx {b c : ℕ} (p k : ℕ) (hp : p < b) (hk : k < c) : (p * c + k) / c % b = p ∧ (p * c + k) % c = k := by
  have hc : 0 < c := by omega
  constructor
  · rw [Nat.add_comm, Nat.add_mul_div_right _ _ hc, Nat.div_eq_of_lt hk, Nat.zero_add, Nat.mod_eq_of_lt hp]
  · rw [Nat.add_comm, Nat.add_mul_mod_self_right, Nat.mod_eq_of_lt hk]

include h0 h1 h2 in
theorem ab_apply (i : S8192x5632.Idx) : val_main_v78 (F := Ideal) x0 x1 x2 i = ((up H W G (i 0).val (i 1).val : ℝ) : EReal) := by
  obtain ⟨e1, e2⟩ := slab_idx (i 0).val (i 1).val (show (i 0).val < 8192 from (i 0).isLt) (show (i 1).val < 5632 from (i 1).isLt)
  rw [val_main_v78_apply, val_main_v77_apply, v15 H W G x0 x1 x2 h0 h1 h2]
  show ((up H W G (((i 0).val * 5632 + (i 1).val) / 5632 % 8192) (((i 0).val * 5632 + (i 1).val) % 5632) : ℝ) : EReal) = _
  rw [e1, e2]

include h0 h1 in
theorem n_apply (i : S8192x1024.Idx) : val_main_v80 (F := Ideal) x0 x1 i = ((nrm H G (i 0).val (i 1).val : ℝ) : EReal) := by
  obtain ⟨e1, e2⟩ := slab_idx (i 0).val (i 1).val (show (i 0).val < 8192 from (i 0).isLt) (show (i 1).val < 1024 from (i 1).isLt)
  rw [val_main_v80_apply, val_main_v79_apply, v13 H G x0 x1 h0 h1]
  show ((nrm H G (((i 0).val * 1024 + (i 1).val) / 1024 % 8192) (((i 0).val * 1024 + (i 1).val) % 1024) : ℝ) : EReal) = _
  rw [e1, e2]

include h0 h1 h2 in
theorem act_apply (i : S8192x2816.Idx) : val_main_v82 (F := Ideal) x0 x1 x2 i = ((act H W G (i 0).val (i 1).val : ℝ) : EReal) := by
  obtain ⟨e1, e2⟩ := slab_idx (i 0).val (i 1).val (show (i 0).val < 8192 from (i 0).isLt) (show (i 1).val < 2816 from (i 1).isLt)
  rw [val_main_v82_apply, val_main_v81_apply, v19 H W G x0 x1 x2 h0 h1 h2]
  show ((act H W G (((i 0).val * 2816 + (i 1).val) / 2816 % 8192) (((i 0).val * 2816 + (i 1).val) % 2816) : ℝ) : EReal) = _
  rw [e1, e2]

include h0 h1 h2 h3 h4 h5 in
theorem dh_apply (i : S8192x1024.Idx) : val_main_v84 (F := Ideal) x0 x1 x2 x3 x4 x5 i = ((dOut H W P T G F (i 0).val (i 1) : ℝ) : EReal) := by
  obtain ⟨e1, e2⟩ := slab_idx (i 0).val (i 1).val (show (i 0).val < 8192 from (i 0).isLt) (show (i 1).val < 1024 from (i 1).isLt)
  rw [val_main_v84_apply, v76 H W P T G F x0 x1 x2 x3 x4 x5 h0 h1 h2 h3 h4 h5]
  have e3 : (idx_main_v84 i 1).val = (i 0).val := e1
  have e4 : idx_main_v84 i 2 = i 1 := Fin.ext e2
  rw [e3, e4]

include h0 h1 h2 h3 h4 h5 in
theorem dhb_apply (i : S8192x1024.Idx) : val_main_v86 (F := Ideal) x0 x1 x2 x3 x4 x5 i = ((dOut H W P T G F (i 0).val (i 1) : ℝ) : EReal) := by
  obtain ⟨e1, e2⟩ := slab_idx (i 0).val (i 1).val (show (i 0).val < 8192 from (i 0).isLt) (show (i 1).val < 1024 from (i 1).isLt)
  rw [val_main_v86_apply, val_main_v85_apply, v76 H W P T G F x0 x1 x2 x3 x4 x5 h0 h1 h2 h3 h4 h5]
  have e3 : (idx_main_v85 i 1).val = (i 0).val := e1
  have e4 : idx_main_v85 i 2 = i 1 := Fin.ext e2
  rw [e3, e4]
  rfl

include h0 h1 h2 h3 h4 h5 in
theorem dg_apply (i : S1x1024.Idx) : val_main_v87 (F := Ideal) x0 x1 x2 x3 x4 x5 i
    = ((∑ r : Fin 8192, rowGain H W P T G F r (i 1).val : ℝ) : EReal) := by
  have a0 : (i 0).val < 1 := (i 0).isLt
  have a1 : (i 1).val < 1024 := (i 1).isLt
  have e0 : (idx_main_v87 i 0).val = (i 1).val := by
    show (i 0).val * 1024 + (i 1).val = (i 1).val
    omega
  rw [val_main_v87_apply]
  unfold val_main_v61
  show Ideal.hostReduceAdd _ _ (val_main_cst_16 (F := Ideal) _) _ = _
  refine (hostReduceAdd_of_unique _ _ _ _ (ix3 0 0 (i 1)) ?_ fun q hq => ?_).trans ?_
  · funext b
    match b with
    | ⟨0, _⟩ => exact Fin.ext e0.symm
  · have e1 : (q 2).val = (idx_main_v87 i 0).val := congrArg Fin.val (congrFun hq 0)
    rw [e0] at e1
    have b0 : (q 0).val < 1 := (q 0).isLt
    have b1 : (q 1).val < 1 := (q 1).isLt
    funext a
    match a with
    | ⟨0, _⟩ => exact Fin.ext (by show 0 = (q 0).val; omega)
    | ⟨1, _⟩ => exact Fin.ext (by show 0 = (q 1).val; omega)
    | ⟨2, _⟩ => exact Fin.ext e1.symm
  · rw [val_main_cst_16_apply, Ideal.ofBits_def, Ideal.ofBits_zero_f32, zero_add, val_main_v58_apply, val_main_v57_apply,
      val_main_cst_15_apply, Ideal.ofBits_def, Ideal.ofBits_zero_f32, zero_add, ← coe_sum]
    refine Finset.sum_congr rfl fun k _ => ?_
    rw [val_main_v56_apply, v55 H W P T G F x0 x1 x2 x3 x4 x5 h0 h1 h2 h3 h4 h5, v37 H W P G x0 x1 x2 x3 h0 h1 h2 h3, Ideal.mulf_def, ← EReal.coe_mul]
    have e1 : (idx_main_v57 (idx_main_v58 (ix3 0 0 (i 1))) k 2).val = (i 1).val := by
      show ((0 * 1 + 0) * 1024 + (i 1).val) % 1024 = (i 1).val
      omega
    rw [e1]
    exact congrArg _ (mul_comm _ _)

include h0 h1 h2 h3 h4 h5 in
theorem loss_apply (i : S1x128.Idx) : val_main_v83 (F := Ideal) x0 x1 x2 x3 x4 x5 i
    = ((1 / 2 * ∑ r : Fin 8192, rowLoss H W P T G F r : ℝ) : EReal) := by
  have e47 : ∀ j : S1x8192.Idx, val_main_v47 (F := Ideal) x0 x1 x2 x3 x4 x5 j = ((rowLoss H W P T G F (j 1).val : ℝ) : EReal) := fun j => by
    rw [val_main_v47_apply, val_main_v46_apply, val_main_cst_9_apply, val_main_v45_apply, val_main_cst_8_apply, Ideal.ofBits_def, Ideal.ofBits_def,
      Ideal.ofBits_zero_f32, zero_add, Ideal.hostDivf_def]
    unfold rowLoss
    rw [← div_1024, ← coe_sum]
    refine congrArg (Ideal.div · _) (Finset.sum_congr rfl fun k _ => ?_)
    rw [val_main_v42_apply, v41 H W P T G F x0 x1 x2 x3 x4 x5 h0 h1 h2 h3 h4 h5, Ideal.mulf_def, ← EReal.coe_mul]
  have e48 : ∀ j : S_.Idx, val_main_v48 (F := Ideal) x0 x1 x2 x3 x4 x5 j = ((∑ r : Fin 8192, rowLoss H W P T G F r : ℝ) : EReal) := fun j => by
    unfold val_main_v48
    show Ideal.hostReduceAdd _ _ (val_main_cst_10 (F := Ideal) _) _ = _
    rw [hostReduceAdd_of_family _ _ _ j (K := Fin 8192) (fun r => (ix2 (0 : Fin 1) r : S1x8192.Idx)) (fun a b hab => congrFun hab 1) (fun k => funext fun a => a.elim0)
      (fun q _ => ⟨q 1, by
        have b0 : (q 0).val < 1 := (q 0).isLt
        funext a
        match a with
        | ⟨0, _⟩ => exact Fin.ext (by show 0 = (q 0).val; omega)
        | ⟨1, _⟩ => rfl⟩), val_main_cst_10_apply, Ideal.ofBits_def, Ideal.ofBits_zero_f32, zero_add, ← coe_sum]
    exact Finset.sum_congr rfl fun k _ => e47 _
  rw [val_main_v83_apply, val_main_v49_apply, val_main_cst_11_apply, e48, Ideal.ofBits_def, ofBits_half, Ideal.mulf_def, ← EReal.coe_mul]

end Cert.LossRefIdeal.Real

end
-- ==== Proof.LossPay.lean ====
/-
  THE KERNEL OF THE FOURTH PAIR, one block of 512 rows: the values its body stores, read over the real numbers.
-/
module

public import proofs.«01_k».proof.Proof.LossSpec
public import proofs.«01_k».proof.Proof.Gen.LossBwdIdeal.Skeleton
public import Idealize.ShloMosaic.Lib.Pointwise

@[expose] public section

set_option maxRecDepth 16384
set_option backward.isDefEq.respectTransparency false

noncomputable section

namespace Cert.LossBwdIdeal.Real

open Cert.LossBwdIdeal Cert.LossBwdIdeal.Gen Cert.Step Cert.Loss Idealize.ShloMosaic Idealize.ShloMosaic.Pointwise

variable (H W P T : ℕ → ℕ → ℝ) (G F : ℕ → ℝ) (q o : ℕ)
variable (v0 : Vec Ideal S512x1024 .f32) (v12 : Vec Ideal S1x1024 .f32)
variable (h0 : ∀ (r : Fin 512) (k : Fin 1024), v0 (ix2 r k) = ((H (q + r.val) k.val : ℝ) : EReal))
variable (h12 : ∀ k : Fin 1024, v12 (ix2 0 k) = ((G k.val : ℝ) : EReal))

theorem pay7 : k0_pay7 (F := Ideal) v0 = v0 := by
  funext i
  obtain ⟨r, k, rfl⟩ : ∃ r k, i = ix2 r k := ⟨i 0, i 1, by funext a; match a with | ⟨0, _⟩ => rfl | ⟨1, _⟩ => rfl⟩
  pointwise [k0_pay7]

include h0 h12 in
theorem pay8 (r : Fin 512) (k : Fin 1024) : k0_pay8 (F := Ideal) v0 v12 (ix2 r k) = ((nrm H G (q + r.val) k.val : ℝ) : EReal) := by
  pointwise [k0_pay8, k0_pay7]
  simp only [h0, h12, ← EReal.coe_mul, coe_sum, div_1024, ofBits_eps, ← EReal.coe_add]
  rw [show Ideal.rsqrt (((∑ k : Fin 1024, H (q + r.val) k.val * H (q + r.val) k.val) / 1024 + eps : ℝ) : EReal) = _ from rsqrt_meanSq (row H (q + r.val)),
    ← EReal.coe_mul, ← EReal.coe_mul]
  rfl

variable (v15 : FVec Ideal S512x1024 .bf16) (wa wb : Vec Ideal S256x1024 .bf16)
variable (h15 : ∀ (r : Fin 512) (k : Fin 1024), v15 (ix2 r k) = ((nrm H G (q + r.val) k.val : ℝ) : EReal))
variable (ha : ∀ (e : Fin 256) (k : Fin 1024), wa (ix2 e k) = ((W k.val (o + e.val) : ℝ) : EReal))
variable (hb : ∀ (e : Fin 256) (k : Fin 1024), wb (ix2 e k) = ((W k.val (2816 + (o + e.val)) : ℝ) : EReal))

include h15 ha in
theorem pay14 (r : Fin 512) (e : Fin 256) : k0_pay14 (F := Ideal) v15 wa (ix2 r e) = ((up H W G (q + r.val) (o + e.val) : ℝ) : EReal) := by
  pointwise [k0_pay14]
  simp only [h15, ha, ← EReal.coe_mul, coe_sum]
  rfl

include h15 hb in
theorem pay15 (r : Fin 512) (e : Fin 256) : k0_pay15 (F := Ideal) v15 wb (ix2 r e) = ((up H W G (q + r.val) (2816 + (o + e.val)) : ℝ) : EReal) := by
  pointwise [k0_pay15]
  simp only [h15, hb, ← EReal.coe_mul, coe_sum]
  rfl

include h15 ha in
theorem pay16 (r : Fin 512) (e : Fin 256) : k0_pay16 (F := Ideal) v15 wa (ix2 r e) = ((up H W G (q + r.val) (o + e.val) : ℝ) : EReal) := by
  pointwise [k0_pay16]
  exact pay14 H W G q o v15 wa h15 ha r e

include h15 hb in
theorem pay17 (r : Fin 512) (e : Fin 256) : k0_pay17 (F := Ideal) v15 wb (ix2 r e) = ((up H W G (q + r.val) (2816 + (o + e.val)) : ℝ) : EReal) := by
  pointwise [k0_pay17]
  exact pay15 H W G q o v15 wb h15 hb r e

include h15 ha hb in
theorem pay18 (r : Fin 512) (e : Fin 256) : k0_pay18 (F := Ideal) v15 wa wb (ix2 r e) = ((act H W G (q + r.val) (o + e.val) : ℝ) : EReal) := by
  pointwise [k0_pay18]
  rw [pay14 H W G q o v15 wa h15 ha r e, pay15 H W G q o v15 wb h15 hb r e]
  simp only [logistic_real, ← EReal.coe_mul]
  rfl

variable (va : Vec Ideal S512x2816 .bf16) (vp : Vec Ideal S2816x1024 .bf16) (vf : Vec Ideal S1x1024 .f32) (vt : Vec Ideal S512x1024 .f32)
variable (hva : ∀ (r : Fin 512) (j : Fin 2816), va (ix2 r j) = ((act H W G (q + r.val) j.val : ℝ) : EReal))
variable (hp : ∀ (j : Fin 2816) (c : Fin 1024), vp (ix2 j c) = ((P j.val c.val : ℝ) : EReal))
variable (hf : ∀ k : Fin 1024, vf (ix2 0 k) = ((F k.val : ℝ) : EReal))
variable (ht : ∀ (r : Fin 512) (k : Fin 1024), vt (ix2 r k) = ((T (q + r.val) k.val : ℝ) : EReal))

include h0 hva hp in
theorem pay64 (r : Fin 512) (c : Fin 1024) : k0_pay64 (F := Ideal) v0 va vp (ix2 r c) = ((out H W P G (q + r.val) c.val : ℝ) : EReal) := by
  pointwise [k0_pay64]
  simp only [h0, hva, hp, ofBits_half, ← EReal.coe_mul, coe_sum, ← EReal.coe_add]
  rfl

include h0 hva hp in
theorem pay65 (r : Fin 512) : k0_pay65 (F := Ideal) v0 va vp (ix2 r 0) = ((invRms (row (out H W P G) (q + r.val)) : ℝ) : EReal) := by
  pointwise [k0_pay65]
  simp only [pay64 H W P G q v0 h0 va vp hva hp, ← EReal.coe_mul, coe_sum, div_1024, ofBits_eps, ← EReal.coe_add]
  exact rsqrt_meanSq (row (out H W P G) (q + r.val))

include h0 hva hp in
theorem pay66 (r : Fin 512) (c : Fin 1024) : k0_pay66 (F := Ideal) v0 va vp (ix2 r c)
    = ((out H W P G (q + r.val) c.val * invRms (row (out H W P G) (q + r.val)) : ℝ) : EReal) := by
  pointwise [k0_pay66]
  rw [pay64 H W P G q v0 h0 va vp hva hp, pay65 H W P G q v0 h0 va vp hva hp, ← EReal.coe_mul]

include h0 hva hp hf ht in
theorem pay67 (r : Fin 512) (c : Fin 1024) : k0_pay67 (F := Ideal) v0 va vp vf vt (ix2 r c) = ((err H W P T G F (q + r.val) c.val : ℝ) : EReal) := by
  pointwise [k0_pay67]
  rw [pay66 H W P G q v0 h0 va vp hva hp, hf, ht, ← EReal.coe_mul, ← EReal.coe_sub]
  rfl

include h0 hva hp hf ht in
theorem pay68 : k0_pay68 (F := Ideal) v0 va vp vf vt (ix2 0 0) = ((1 / 2 * ∑ r : Fin 512, rowLoss H W P T G F (q + r.val) : ℝ) : EReal) := by
  pointwise [k0_pay68]
  simp only [pay67 H W P T G F q v0 h0 va vp vf vt hva hp hf ht, ofBits_half, ← EReal.coe_mul, coe_sum, div_1024]
  rfl

include h0 hva hp hf ht in
theorem pay69 (r : Fin 512) (c : Fin 1024) : k0_pay69 (F := Ideal) v0 va vp vf vt (ix2 r c) = ((err H W P T G F (q + r.val) c.val * (1 / 1024) : ℝ) : EReal) := by
  pointwise [k0_pay69]
  rw [pay67 H W P T G F q v0 h0 va vp vf vt hva hp hf ht, ofBits_inv1024, ← EReal.coe_mul]

include h0 hva hp hf ht in
theorem pay70 (r : Fin 512) (c : Fin 1024) : k0_pay70 (F := Ideal) v0 va vp vf vt vf (ix2 r c) = ((dErr H W P T G F (q + r.val) c.val : ℝ) : EReal) := by
  pointwise [k0_pay70]
  rw [pay69 H W P T G F q v0 h0 va vp vf vt hva hp hf ht, hf, ← EReal.coe_mul]
  rfl

include h0 hva hp hf ht in
theorem pay71 (r : Fin 512) (c : Fin 1024) : k0_pay71 (F := Ideal) v0 va vp vf vt vf (ix2 r c)
    = ((dErr H W P T G F (q + r.val) c.val * (out H W P G (q + r.val) c.val * invRms (row (out H W P G) (q + r.val))) : ℝ) : EReal) := by
  pointwise [k0_pay71]
  rw [pay70 H W P T G F q v0 h0 va vp vf vt hva hp hf ht, pay66 H W P G q v0 h0 va vp hva hp, ← EReal.coe_mul]

include h0 hva hp hf ht in
/-- The derivative by the layer's output. -/
theorem pay1 (r : Fin 512) (c : Fin 1024) : k0_pay1 (F := Ideal) (k0_pay65 v0 va vp) (k0_pay66 v0 va vp) (k0_pay70 v0 va vp vf vt vf) (k0_pay71 v0 va vp vf vt vf) (ix2 r c)
    = ((dOut H W P T G F (q + r.val) c : ℝ) : EReal) := by
  have g1 := pay65 H W P G q v0 h0 va vp hva hp
  have g2 := pay66 H W P G q v0 h0 va vp hva hp
  have g3 := pay70 H W P T G F q v0 h0 va vp vf vt hva hp hf ht
  have g4 := pay71 H W P T G F q v0 h0 va vp vf vt hva hp hf ht
  revert g1 g2 g3 g4
  generalize k0_pay65 (F := Ideal) v0 va vp = a
  generalize k0_pay66 (F := Ideal) v0 va vp = b
  generalize k0_pay70 (F := Ideal) v0 va vp vf vt vf = d
  generalize k0_pay71 (F := Ideal) v0 va vp vf vt vf = e
  intro g1 g2 g3 g4
  pointwise [k0_pay1]
  simp only [g1, g2, g3, g4, ← EReal.coe_mul, coe_sum, div_1024, ← EReal.coe_sub]
  rfl

include h0 hva hp hf ht in
theorem pay2 (r : Fin 512) (c : Fin 1024) : k0_pay2 (F := Ideal) (k0_pay65 v0 va vp) (k0_pay66 v0 va vp) (k0_pay70 v0 va vp vf vt vf) (k0_pay71 v0 va vp vf vt vf) (ix2 r c)
    = ((dOut H W P T G F (q + r.val) c : ℝ) : EReal) := by
  have g := pay1 H W P T G F q v0 h0 va vp vf vt hva hp hf ht r c
  revert g
  generalize k0_pay65 (F := Ideal) v0 va vp = a
  generalize k0_pay66 (F := Ideal) v0 va vp = b
  generalize k0_pay70 (F := Ideal) v0 va vp vf vt vf = d
  generalize k0_pay71 (F := Ideal) v0 va vp vf vt vf = e
  intro g
  pointwise [k0_pay2]
  exact g

include h0 hva hp hf ht in
/-- What a block adds to the final gain's gradient. -/
theorem pay5 (w : Vec Ideal S1x1024 .f32) (c : Fin 1024) : k0_pay5 (F := Ideal) (k0_pay66 v0 va vp) (k0_pay69 v0 va vp vf vt) w (ix2 0 c)
    = w (ix2 0 c) + ((∑ r : Fin 512, rowGain H W P T G F (q + r.val) c.val : ℝ) : EReal) := by
  have g2 := pay66 H W P G q v0 h0 va vp hva hp
  have g3 := pay69 H W P T G F q v0 h0 va vp vf vt hva hp hf ht
  revert g2 g3
  generalize k0_pay66 (F := Ideal) v0 va vp = b
  generalize k0_pay69 (F := Ideal) v0 va vp vf vt = d
  intro g2 g3
  pointwise [k0_pay5]
  simp only [g2, g3, ← EReal.coe_mul, coe_sum]
  rfl

include h0 hva hp hf ht in
/-- What a block adds to the loss. -/
theorem pay6 (w : Vec Ideal S1x128 .f32) (c : Fin 128) : k0_pay6 (F := Ideal) (k0_pay68 v0 va vp vf vt) w (ix2 0 c)
    = w (ix2 0 c) + ((1 / 2 * ∑ r : Fin 512, rowLoss H W P T G F (q + r.val) : ℝ) : EReal) := by
  have g := pay68 H W P T G F q v0 h0 va vp vf vt hva hp hf ht
  revert g
  generalize k0_pay68 (F := Ideal) v0 va vp vf vt = b
  intro g
  pointwise [k0_pay6]
  rw [g]

theorem pay3 (c : Fin 1024) : k0_pay3 (F := Ideal) (ix2 0 c) = 0 := by
  pointwise [k0_pay3]

theorem pay4 (c : Fin 128) : k0_pay4 (F := Ideal) (ix2 0 c) = 0 := by
  pointwise [k0_pay4]

end Cert.LossBwdIdeal.Real

end
-- ==== Proof.LossBlk.lean ====
/-
  THE KERNEL OF THE FOURTH PAIR, its blocks: what each input window reads at a grid point, over the arguments' entries.
-/
module

public import proofs.«01_k».proof.Proof.LossPay
public import proofs.«01_k».proof.Proof.MixVal
public import proofs.«01_k».proof.Proof.Gen.LossBwdIdeal.Value

@[expose] public section

set_option maxRecDepth 16384
set_option backward.isDefEq.respectTransparency false

noncomputable section

namespace Cert.LossBwdIdeal.Real

open Cert.LossBwdIdeal Cert.LossBwdIdeal.Gen Cert.Step Cert.Loss Idealize.ShloMosaic Idealize.ShloMosaic.TcCoe Idealize.SL.Sem
open Idealize.ShloMosaic.Pointwise Idealize.ShloMosaic.StableHlo
open Cert.MixBwdIdeal.Real (ix2_of)

variable (m : (ℓ : Loc nD τ sig) → Buf (Elt Ideal) ℓ) (c : Dev nD)

theorem V_v0 : V m c main_v0 = shapeCast S8192x1024 (m ((c : Thread nD τ).loc main_arg0)) shapeCasts_S1x8192x1024_S8192x1024 := by
  show StableHlo.after hostOps0 _ _ = _
  after_results
  rfl

theorem V_v3 : V m c main_v3 = truncf (F := Ideal) .bf16 (transpose S5632x1024 [1, 0] (shapeCast S1024x5632 (m ((c : Thread nD τ).loc main_arg2)) shapeCasts_S1x1024x5632_S1024x5632) transposes_S1024x5632_S5632x1024_1_0) bitsLt_bf16_f32 := by
  show StableHlo.after hostOps0 _ _ = _
  after_results
  rfl

theorem V_v5 : V m c main_v5 = truncf (F := Ideal) .bf16 (shapeCast S2816x1024 (m ((c : Thread nD τ).loc main_arg3)) shapeCasts_S1x2816x1024_S2816x1024) bitsLt_bf16_f32 := by
  show StableHlo.after hostOps0 _ _ = _
  after_results
  rfl

theorem V_v6 : V m c main_v6 = shapeCast S1x1024 (m ((c : Thread nD τ).loc main_arg4)) shapeCasts_S1024_S1x1024 := by
  show StableHlo.after hostOps0 _ _ = _
  after_results
  rfl

theorem V_v7 : V m c main_v7 = shapeCast S8192x1024 (m ((c : Thread nD τ).loc main_arg5)) shapeCasts_S1x8192x1024_S8192x1024 := by
  show StableHlo.after hostOps0 _ _ = _
  after_results
  rfl

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = t.val ∧ win0_5.index t 1 = 0 := by decide +kernel

variable (H W P T : ℕ → ℕ → ℝ) (G F : ℕ → ℝ)
variable (h0 : ∀ (r : Fin 8192) (k : Fin 1024), m ((c : Thread nD τ).loc main_arg0) (ix3 0 r k) = ((H r k : ℝ) : EReal))
variable (h1 : ∀ k : Fin 1024, m ((c : Thread nD τ).loc main_arg1) (ix2 0 k) = ((G k : ℝ) : EReal))
variable (h2 : ∀ (k : Fin 1024) (j : Fin 5632), m ((c : Thread nD τ).loc main_arg2) (ix3 0 k j) = ((W k j : ℝ) : EReal))
variable (h3 : ∀ (j : Fin 2816) (k : Fin 1024), m ((c : Thread nD τ).loc main_arg3) (ix3 0 j k) = ((P j k : ℝ) : EReal))
variable (h4 : ∀ k : Fin 1024, m ((c : Thread nD τ).loc main_arg4) (ix1 k) = ((F k : ℝ) : EReal))
variable (h5 : ∀ (r : Fin 8192) (k : Fin 1024), m ((c : Thread nD τ).loc main_arg5) (ix3 0 r k) = ((T r k : ℝ) : EReal))
variable (t : Fin cfg0.N)

theorem N16 : t.val < 16 := by have h : cfg0.N = 16 := N_0; have := t.isLt; omega

include h0 in
theorem blk0 (r : Fin 512) (k : Fin 1024) : (iblk m c 0 t : Vec Ideal S512x1024 .f32) (ix2 r k) = ((H (t.val * 512 + r.val) k : ℝ) : EReal) := by
  have hN := N16 t
  unfold iblk
  rw [View.read_apply]
  show V m c main_v0 _ = _
  rw [V_v0]
  refine (congrArg _ (ix2_of _ (⟨t.val * 512 + r.val, by omega⟩ : Fin 8192) k ?_ ?_)).trans ((slab_apply _ _ _ _).trans (h0 _ _))
  · show win0_0.index t 0 * 512 + 1 * r.val = t.val * 512 + r.val; rw [(idx0 t).1]; omega
  · show win0_0.index t 1 * 1024 + 1 * k.val = k.val; rw [(idx0 t).2]; omega

include h1 in
theorem blk1 (k : Fin 1024) : (iblk m c 1 t : Vec Ideal S1x1024 .f32) (ix2 0 k) = ((G k : ℝ) : EReal) := by
  unfold iblk
  rw [View.read_apply]
  show V m c main_arg1 _ = _
  rw [V_main_arg1]
  refine (congrArg _ (ix2_of _ (0 : Fin 1) k ?_ ?_)).trans (h1 _)
  · show win0_1.index t 0 * 1 + 1 * 0 = 0; rw [(idx1 t).1]
  · show win0_1.index t 1 * 1024 + 1 * k.val = k.val; rw [(idx1 t).2]; omega

include h2 in
theorem blk2 (j : Fin 5632) (k : Fin 1024) : (iblk m c 2 t : Vec Ideal S5632x1024 .bf16) (ix2 j k) = ((W k j : ℝ) : EReal) := by
  unfold iblk
  rw [View.read_apply]
  show V m c main_v3 _ = _
  rw [V_v3]
  refine (congrArg _ (ix2_of _ j k ?_ ?_)).trans ?_
  · show win0_2.index t 0 * 5632 + 1 * j.val = j.val; rw [(idx2 t).1]; omega
  · show win0_2.index t 1 * 1024 + 1 * k.val = k.val; rw [(idx2 t).2]; omega
  · refine Eq.trans ?_ ((slab_apply (m ((c : Thread nD τ).loc main_arg2)) shapeCasts_S1x1024x5632_S1024x5632 k j).trans (h2 k j))
    generalize shapeCast S1024x5632 (m ((c : Thread nD τ).loc main_arg2)) shapeCasts_S1x1024x5632_S1024x5632 = y
    pointwise []

include h3 in
theorem blk3 (j : Fin 2816) (k : Fin 1024) : (iblk m c 3 t : Vec Ideal S2816x1024 .bf16) (ix2 j k) = ((P j k : ℝ) : EReal) := by
  unfold iblk
  rw [View.read_apply]
  show V m c main_v5 _ = _
  rw [V_v5]
  refine (congrArg _ (ix2_of _ j k ?_ ?_)).trans ((slab_apply _ _ _ _).trans (h3 _ _))
  · show win0_3.index t 0 * 2816 + 1 * j.val = j.val; rw [(idx3 t).1]; omega
  · show win0_3.index t 1 * 1024 + 1 * k.val = k.val; rw [(idx3 t).2]; omega

include h4 in
theorem blk4 (k : Fin 1024) : (iblk m c 4 t : Vec Ideal S1x1024 .f32) (ix2 0 k) = ((F k : ℝ) : EReal) := by
  unfold iblk
  rw [View.read_apply]
  show V m c main_v6 _ = _
  rw [V_v6]
  refine (congrArg _ (ix2_of _ (0 : Fin 1) k ?_ ?_)).trans (Eq.trans ?_ (h4 k))
  · show win0_4.index t 0 * 1 + 1 * 0 = 0; rw [(idx4 t).1]
  · show win0_4.index t 1 * 1024 + 1 * k.val = k.val; rw [(idx4 t).2]; omega
  · refine shapeCast_apply _ _ _ (ix1 k) ?_
    rw [Shape.rowMajor_val_two, Shape.rowMajor_val_one]
    show k.val = 0 * 1024 + k.val
    omega

include h5 in
theorem blk5 (r : Fin 512) (k : Fin 1024) : (iblk m c 5 t : Vec Ideal S512x1024 .f32) (ix2 r k) = ((T (t.val * 512 + r.val) k : ℝ) : EReal) := by
  have hN := N16 t
  unfold iblk
  rw [View.read_apply]
  show V m c main_v7 _ = _
  rw [V_v7]
  refine (congrArg _ (ix2_of _ (⟨t.val * 512 + r.val, by omega⟩ : Fin 8192) k ?_ ?_)).trans ((slab_apply _ _ _ _).trans (h5 _ _))
  · show win0_5.index t 0 * 512 + 1 * r.val = t.val * 512 + r.val; rw [(idx5 t).1]; omega
  · show win0_5.index t 1 * 1024 + 1 * k.val = k.val; rw [(idx5 t).2]; omega

/-! ## The weights' rows in stretches of 256 -/

/-- Rows `o` to `o + 255` of the upward weights. -/
theorem rows_ld (X : Vec Ideal S5632x1024 .bf16) (hX : ∀ (j : Fin 5632) (k : Fin 1024), X (ix2 j k) = ((W k j : ℝ) : EReal)) (off : Fin 2 → ℕ) (inb) (o : ℕ)
    (ho : o + 256 ≤ 5632) (e0 : off 0 = o) (e1 : off 1 = 0) (e : Fin 256) (k : Fin 1024) :
    View.ld (Val := Elt Ideal) X (Rect.unit (s := S5632x1024) off S256x1024.size inb) (ix2 e k) = ((W k (o + e.val) : ℝ) : EReal) := by
  refine (Cert.MixBwdIdeal.Real.ld2 X off inb e k (⟨o + e.val, by omega⟩ : Fin 5632) k ?_ ?_).trans (hX _ _)
  · show o + e.val = off 0 + e.val
    rw [e0]
  · show k.val = off 1 + k.val
    rw [e1, Nat.zero_add]

end Cert.LossBwdIdeal.Real

end
-- ==== Proof.LossVal.lean ====
/-
  THE KERNEL OF THE FOURTH PAIR, the two blocks it writes in stretches of 256 columns: the upward product and the
  activation. The stretches are listed by recursion, the last one first.
-/
module

public import proofs.«01_k».proof.Proof.LossBlk
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

set_option maxRecDepth 16384
set_option backward.isDefEq.respectTransparency false

noncomputable section

namespace Cert.LossBwdIdeal.Real

open Cert.LossBwdIdeal Cert.LossBwdIdeal.Gen Cert.Step Cert.Loss Idealize.ShloMosaic Idealize.ShloMosaic.TcCoe Idealize.SL.Sem
open Cert.MixBwdIdeal.Real (hz2 piece2 ld2)

/-! ## The stretches -/

theorem inbW {o : ℕ} (h : o + 256 ≤ 5632) : ∀ x, (![o, 0] : Fin 2 → ℕ) x + S256x1024.size x ≤ S5632x1024.size x
  | ⟨0, _⟩ => h
  | ⟨1, _⟩ => le_refl _

theorem inbAct {o : ℕ} (h : o + 256 ≤ 2816) : ∀ x, (![0, o] : Fin 2 → ℕ) x + S512x256.size x ≤ S512x2816.size x
  | ⟨0, _⟩ => le_refl _
  | ⟨1, _⟩ => h

theorem inbAb {o : ℕ} (h : o + 256 ≤ 5632) : ∀ x, (![0, o] : Fin 2 → ℕ) x + S512x256.size x ≤ S512x5632.size x
  | ⟨0, _⟩ => le_refl _
  | ⟨1, _⟩ => h

/-- Rows `o` to `o + 255` of the weights. -/
def wRows (X : Vec Ideal S5632x1024 .bf16) (o : ℕ) (h : o + 256 ≤ 5632) : Vec Ideal S256x1024 .bf16 :=
  View.ld (Val := Elt Ideal) X (Rect.unit (s := S5632x1024) ![o, 0] S256x1024.size (inbW h))

/-- The first `n` stretches of the activation. -/
def actPieces (N : FVec Ideal S512x1024 .bf16) (X : Vec Ideal S5632x1024 .bf16) : (n : ℕ) → n ≤ 11 → List (View.Piece (Elt Ideal) S512x2816 .bf16)
  | 0, _ => []
  | n + 1, h => ⟨Rect.unit (s := S512x2816) ![0, n * 256] S512x256.size (inbAct (by omega)),
      k0_pay18 (F := Ideal) N (wRows X (n * 256) (by omega)) (wRows X (2816 + n * 256) (by omega))⟩ :: actPieces N X n (by omega)

/-- The first `n` stretches of the two halves of the upward product. -/
def abPieces (N : FVec Ideal S512x1024 .bf16) (X : Vec Ideal S5632x1024 .bf16) : (n : ℕ) → n ≤ 11 → List (View.Piece (Elt Ideal) S512x5632 .bf16)
  | 0, _ => []
  | n + 1, h => ⟨Rect.unit (s := S512x5632) ![0, 2816 + n * 256] S512x256.size (inbAb (by omega)), k0_pay17 (F := Ideal) N (wRows X (2816 + n * 256) (by omega))⟩
      :: ⟨Rect.unit (s := S512x5632) ![0, n * 256] S512x256.size (inbAb (by omega)), k0_pay16 (F := Ideal) N (wRows X (n * 256) (by omega))⟩
      :: abPieces N X n (by omega)

variable (H W : ℕ → ℕ → ℝ) (G : ℕ → ℝ) (q : ℕ)
variable (N : FVec Ideal S512x1024 .bf16) (X : Vec Ideal S5632x1024 .bf16)
variable (hN : ∀ (r : Fin 512) (k : Fin 1024), N (ix2 r k) = ((nrm H G (q + r.val) k.val : ℝ) : EReal))
variable (hX : ∀ (j : Fin 5632) (k : Fin 1024), X (ix2 j k) = ((W k j : ℝ) : EReal))

include hX in
theorem wRows_apply (o : ℕ) (h : o + 256 ≤ 5632) (e : Fin 256) (k : Fin 1024) : wRows X o h (ix2 e k) = ((W k (o + e.val) : ℝ) : EReal) :=
  rows_ld W X hX _ _ o h rfl rfl e k

/-- The activation's block. -/
def actBlk (i : S512x2816.Idx) : EReal := ((act H W G (q + (i 0).val) (i 1).val : ℝ) : EReal)

/-- The upward product's block. -/
def abBlk (i : S512x5632.Idx) : EReal := ((up H W G (q + (i 0).val) (i 1).val : ℝ) : EReal)

include hN hX in
theorem actPieces_of : ∀ (n : ℕ) (h : n ≤ 11), View.PiecesOf (Val := Elt Ideal) (e := .bf16) (actBlk H W G q) (actPieces N X n h)
  | 0, _ => trivial
  | n + 1, h => by
    obtain ⟨B, hB⟩ : ∃ B, B = actBlk H W G q := ⟨_, rfl⟩
    have ih := actPieces_of n (by omega)
    rw [← hB] at ih ⊢
    refine ⟨?_, ih⟩
    refine piece2 (a := 512) (B := 2816) (b := 256) B ![0, n * 256] (inbAct (by omega)) (n * 256) (by omega) rfl rfl _ fun r e => ?_
    rw [hB]
    refine pay18 H W G q (n * 256) N _ _ hN (wRows_apply W X hX _ _) (fun e k => ?_) r e
    rw [← Nat.add_assoc]
    exact wRows_apply W X hX _ _ e k

include hN hX in
theorem abPieces_of : ∀ (n : ℕ) (h : n ≤ 11), View.PiecesOf (Val := Elt Ideal) (e := .bf16) (abBlk H W G q) (abPieces N X n h)
  | 0, _ => trivial
  | n + 1, h => by
    obtain ⟨B, hB⟩ : ∃ B, B = abBlk H W G q := ⟨_, rfl⟩
    have ih := abPieces_of n (by omega)
    rw [← hB] at ih ⊢
    refine ⟨?_, ?_, ih⟩
    · refine piece2 (a := 512) (B := 5632) (b := 256) B ![0, 2816 + n * 256] (inbAb (by omega)) (2816 + n * 256) (by omega) rfl rfl _ fun r e => ?_
      rw [hB]
      refine (pay17 H W G q (n * 256) N _ hN (fun e k => ?_) r e).trans ?_
      · rw [← Nat.add_assoc]
        exact wRows_apply W X hX _ _ e k
      · rw [← Nat.add_assoc]
        rfl
    · refine piece2 (a := 512) (B := 5632) (b := 256) B ![0, n * 256] (inbAb (by omega)) (n * 256) (by omega) rfl rfl _ fun r e => ?_
      rw [hB]
      exact pay16 H W G q (n * 256) N _ hN (wRows_apply W X hX _ _) r e

theorem act_cover : ∀ y : S512x2816.Idx, ∃ p ∈ actPieces N X 11 (le_refl _), y ∈ p.1.set :=
  View.cover_of_tiledBy _ ![512, 256] (by sl_kernel_rfl)

theorem ab_cover : ∀ y : S512x5632.Idx, ∃ p ∈ abPieces N X 11 (le_refl _), y ∈ p.1.set :=
  View.cover_of_tiledBy _ ![512, 256] (by sl_kernel_rfl)

include hN hX in
theorem act_canon (y : S512x2816.Idx) : View.canon (actPieces N X 11 (le_refl _)) y = actBlk H W G q y := by
  have h := View.canon_append_of_piecesOf (Val := Elt Ideal) (e := .bf16) (actBlk H W G q) [] _ (actPieces_of H W G q N X hN hX 11 (le_refl _)) y (act_cover N X y)
  rw [List.append_nil] at h
  exact h

include hN hX in
theorem ab_canon (y : S512x5632.Idx) : View.canon (abPieces N X 11 (le_refl _)) y = abBlk H W G q y := by
  have h := View.canon_append_of_piecesOf (Val := Elt Ideal) (e := .bf16) (abBlk H W G q) [] _ (abPieces_of H W G q N X hN hX 11 (le_refl _)) y (ab_cover N X y)
  rw [List.append_nil] at h
  exact h

/-- The activation read back as a whole. -/
theorem act_readCov {sig : RefSig} {κ : Kind} {sp : Space} (v : View sig κ sp S512x2816 .bf16) (L : List (View.Piece (Elt Ideal) S512x2816 .bf16))
    (inb : ∀ x, (![0, 0] : Fin 2 → ℕ) x + S512x2816.size x ≤ S512x2816.size x)
    (hL : ∀ y, View.canon (Val := Elt Ideal) L y = actBlk H W G q y) (r : Fin 512) (j : Fin 2816) :
    v.readCov L (Rect.unit (s := S512x2816) ![0, 0] S512x2816.size inb).toLoadRect (ix2 r j) = ((act H W G (q + r.val) j.val : ℝ) : EReal) := by
  rw [View.readCov_eq_canon']
  refine (hL _).trans ?_
  show ((act H W G (q + (0 + 1 * r.val)) (0 + 1 * j.val) : ℝ) : EReal) = _
  rw [one_mul, one_mul, zero_add, zero_add]

end Cert.LossBwdIdeal.Real

end
-- ==== Proof.LossAfter.lean ====
/-
  THE KERNEL OF THE FOURTH PAIR, what a grid point leaves in each of its outputs, over the arguments' entries.
-/
module

public import proofs.«01_k».proof.Proof.LossVal
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

set_option maxRecDepth 16384
set_option backward.isDefEq.respectTransparency false

noncomputable section

namespace Cert.LossBwdIdeal.Real

open Cert.LossBwdIdeal Cert.LossBwdIdeal.Gen Cert.Step Cert.Loss Idealize.ShloMosaic Idealize.ShloMosaic.TcCoe Idealize.SL.Sem
open Cert.MixBwdIdeal.Real (hz2 piece2 ld2)

variable (m : (ℓ : Loc nD τ sig) → Buf (Elt Ideal) ℓ) (c : Dev nD)
variable (H W P T : ℕ → ℕ → ℝ) (G F : ℕ → ℝ)
variable (h0 : ∀ (r : Fin 8192) (k : Fin 1024), m ((c : Thread nD τ).loc main_arg0) (ix3 0 r k) = ((H r k : ℝ) : EReal))
variable (h1 : ∀ k : Fin 1024, m ((c : Thread nD τ).loc main_arg1) (ix2 0 k) = ((G k : ℝ) : EReal))
variable (h2 : ∀ (k : Fin 1024) (j : Fin 5632), m ((c : Thread nD τ).loc main_arg2) (ix3 0 k j) = ((W k j : ℝ) : EReal))
variable (h3 : ∀ (j : Fin 2816) (k : Fin 1024), m ((c : Thread nD τ).loc main_arg3) (ix3 0 j k) = ((P j k : ℝ) : EReal))
variable (h4 : ∀ k : Fin 1024, m ((c : Thread nD τ).loc main_arg4) (ix1 k) = ((F k : ℝ) : EReal))
variable (h5 : ∀ (r : Fin 8192) (k : Fin 1024), m ((c : Thread nD τ).loc main_arg5) (ix3 0 r k) = ((T r k : ℝ) : EReal))
variable (t : Fin cfg0.N)

/-- The rows' norm at a grid point. -/
def nBlk : FVec Ideal S512x1024 .bf16 := k0_pay8 (F := Ideal) (iblk m c 0 t) (iblk m c 1 t)

include h0 h1 in
theorem nBlk_apply (r : Fin 512) (k : Fin 1024) : nBlk m c t (ix2 r k) = ((nrm H G (t.val * 512 + r.val) k.val : ℝ) : EReal) :=
  pay8 H G (t.val * 512) _ _ (blk0 m c H h0 t) (blk1 m c G h1 t) r k

include h0 h1 in
theorem after7 (r : Fin 512) (k : Fin 1024) : (outsAt0 m c t.val t.isLt).2.1 (ix2 r k) = ((nrm H G (t.val * 512 + r.val) k : ℝ) : EReal) := by
  by_cases ht : t.val % 16 = 0
  · rw [outsAt0_A m c t ht]
    dsimp only
    unfold out0_A_7
    rw [View.read_writes_eq_canon]
    swap
    · exact fun _ => cover0_A_7 ..
    unfold kernelRun0_A
    dsimp only
    sl_unfold_words
    simp only [View.readAt_eq_ld, Memref.IsWhole.read_unread, View.ld_unit_zero (S := S512x1024) hz2, View.ld_unit_zero (S := S1x1024) hz2]
    rw [View.canon_unit_zero hz2]
    exact pay8 H G (t.val * 512) _ _ (blk0 m c H h0 t) (blk1 m c G h1 t) r k
  · rw [outsAt0_B m c t ht]
    dsimp only
    unfold out0_B_7
    rw [View.read_writes_eq_canon]
    swap
    · exact fun _ => cover0_B_7 ..
    unfold kernelRun0_B
    dsimp only
    sl_unfold_words
    simp only [View.readAt_eq_ld, Memref.IsWhole.read_unread, View.ld_unit_zero (S := S512x1024) hz2, View.ld_unit_zero (S := S1x1024) hz2]
    rw [View.canon_unit_zero hz2]
    exact pay8 H G (t.val * 512) _ _ (blk0 m c H h0 t) (blk1 m c G h1 t) r k

include h0 h1 h2 in
theorem after6 (r : Fin 512) (k : Fin 5632) : (outsAt0 m c t.val t.isLt).1 (ix2 r k) = ((up H W G (t.val * 512 + r.val) k : ℝ) : EReal) := by
  by_cases ht : t.val % 16 = 0
  · rw [outsAt0_A m c t ht]
    dsimp only
    unfold out0_A_6
    rw [View.read_writes_eq_canon]
    swap
    · exact fun _ => cover0_A_6 ..
    unfold kernelRun0_A
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    exact ab_canon H W G (t.val * 512) (nBlk m c t) (iblk m c 2 t) (nBlk_apply m c H G h0 h1 t) (blk2 m c W h2 t) (ix2 r k)
  · rw [outsAt0_B m c t ht]
    dsimp only
    unfold out0_B_6
    rw [View.read_writes_eq_canon]
    swap
    · exact fun _ => cover0_B_6 ..
    unfold kernelRun0_B
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    exact ab_canon H W G (t.val * 512) (nBlk m c t) (iblk m c 2 t) (nBlk_apply m c H G h0 h1 t) (blk2 m c W h2 t) (ix2 r k)

include h0 h1 h2 in
theorem after8 (r : Fin 512) (k : Fin 2816) : (outsAt0 m c t.val t.isLt).2.2.1 (ix2 r k) = ((act H W G (t.val * 512 + r.val) k : ℝ) : EReal) := by
  by_cases ht : t.val % 16 = 0
  · rw [outsAt0_A m c t ht]
    dsimp only
    unfold out0_A_8
    rw [View.read_writes_eq_canon]
    swap
    · exact fun _ => cover0_A_8 ..
    unfold kernelRun0_A
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    exact act_canon H W G (t.val * 512) (nBlk m c t) (iblk m c 2 t) (nBlk_apply m c H G h0 h1 t) (blk2 m c W h2 t) (ix2 r k)
  · rw [outsAt0_B m c t ht]
    dsimp only
    unfold out0_B_8
    rw [View.read_writes_eq_canon]
    swap
    · exact fun _ => cover0_B_8 ..
    unfold kernelRun0_B
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    exact act_canon H W G (t.val * 512) (nBlk m c t) (iblk m c 2 t) (nBlk_apply m c H G h0 h1 t) (blk2 m c W h2 t) (ix2 r k)

include h0 h1 h2 h3 h4 h5 in
theorem after10 (r : Fin 512) (k : Fin 1024) : (outsAt0 m c t.val t.isLt).2.2.2.2.1 (ix2 r k) = ((dOut H W P T G F (t.val * 512 + r.val) k : ℝ) : EReal) := by
  have hL := act_canon H W G (t.val * 512) (nBlk m c t) (iblk m c 2 t) (nBlk_apply m c H G h0 h1 t) (blk2 m c W h2 t)
  by_cases ht : t.val % 16 = 0
  · rw [outsAt0_A m c t ht]
    dsimp only
    unfold out0_A_10
    rw [View.read_writes_eq_canon]
    swap
    · exact fun _ => cover0_A_10 ..
    unfold kernelRun0_A
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    rw [View.canon_unit_zero hz2]
    simp only [pay7]
    exact pay1 H W P T G F (t.val * 512) _ (blk0 m c H h0 t) _ _ _ _ (act_readCov H W G (t.val * 512) _ _ _ hL) (blk3 m c P h3 t) (blk4 m c F h4 t) (blk5 m c T h5 t) r k
  · rw [outsAt0_B m c t ht]
    dsimp only
    unfold out0_B_10
    rw [View.read_writes_eq_canon]
    swap
    · exact fun _ => cover0_B_10 ..
    unfold kernelRun0_B
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    rw [View.canon_unit_zero hz2]
    simp only [pay7]
    exact pay1 H W P T G F (t.val * 512) _ (blk0 m c H h0 t) _ _ _ _ (act_readCov H W G (t.val * 512) _ _ _ hL) (blk3 m c P h3 t) (blk4 m c F h4 t) (blk5 m c T h5 t) r k

include h0 h1 h2 h3 h4 h5 in
theorem after11 (r : Fin 512) (k : Fin 1024) : (outsAt0 m c t.val t.isLt).2.2.2.2.2.1 (ix2 r k) = ((dOut H W P T G F (t.val * 512 + r.val) k : ℝ) : EReal) := by
  have hL := act_canon H W G (t.val * 512) (nBlk m c t) (iblk m c 2 t) (nBlk_apply m c H G h0 h1 t) (blk2 m c W h2 t)
  by_cases ht : t.val % 16 = 0
  · rw [outsAt0_A m c t ht]
    dsimp only
    unfold out0_A_11
    rw [View.read_writes_eq_canon]
    swap
    · exact fun _ => cover0_A_11 ..
    unfold kernelRun0_A
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    rw [View.canon_unit_zero hz2]
    simp only [pay7]
    exact pay2 H W P T G F (t.val * 512) _ (blk0 m c H h0 t) _ _ _ _ (act_readCov H W G (t.val * 512) _ _ _ hL) (blk3 m c P h3 t) (blk4 m c F h4 t) (blk5 m c T h5 t) r k
  · rw [outsAt0_B m c t ht]
    dsimp only
    unfold out0_B_11
    rw [View.read_writes_eq_canon]
    swap
    · exact fun _ => cover0_B_11 ..
    unfold kernelRun0_B
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    rw [View.canon_unit_zero hz2]
    simp only [pay7]
    exact pay2 H W P T G F (t.val * 512) _ (blk0 m c H h0 t) _ _ _ _ (act_readCov H W G (t.val * 512) _ _ _ hL) (blk3 m c P h3 t) (blk4 m c F h4 t) (blk5 m c T h5 t) r k

include h0 h1 h2 h3 h4 h5 in
theorem after9 (j : Fin 128) : (outsAt0 m c t.val t.isLt).2.2.2.1 (ix2 0 j)
    = (if t.val % 16 = 0 then 0 else (outsAt0 m c (t.val - 1) (Nat.lt_of_le_of_lt (Nat.sub_le _ _) t.isLt)).2.2.2.1 (ix2 0 j))
      + ((1 / 2 * ∑ r : Fin 512, rowLoss H W P T G F (t.val * 512 + r.val) : ℝ) : EReal) := by
  have hL := act_canon H W G (t.val * 512) (nBlk m c t) (iblk m c 2 t) (nBlk_apply m c H G h0 h1 t) (blk2 m c W h2 t)
  by_cases ht : t.val % 16 = 0
  · rw [if_pos ht, outsAt0_A m c t ht]
    dsimp only
    unfold out0_A_9
    rw [View.read_writes_eq_canon]
    swap
    · exact fun _ => cover0_A_9 ..
    unfold kernelRun0_A
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    simp (disch := decide) only [View.readCov_skip, View.readCov_fill]
    rw [View.canon_cons_unit_zero hz2]
    simp only [pay7]
    refine (pay6 H W P T G F (t.val * 512) _ (blk0 m c H h0 t) _ _ _ _ (act_readCov H W G (t.val * 512) _ _ _ hL) (blk3 m c P h3 t) (blk4 m c F h4 t) (blk5 m c T h5 t) _ j).trans ?_
    rw [View.ld_unit_zero (S := S1x128) hz2, pay4]
  · rw [if_neg ht, outsAt0_B m c t ht]
    dsimp only
    unfold out0_B_9
    rw [View.read_writes_eq_canon]
    swap
    · exact fun _ => cover0_B_9 ..
    unfold kernelRun0_B
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    rw [View.canon_unit_zero hz2]
    simp only [pay7]
    exact pay6 H W P T G F (t.val * 512) _ (blk0 m c H h0 t) _ _ _ _ (act_readCov H W G (t.val * 512) _ _ _ hL) (blk3 m c P h3 t) (blk4 m c F h4 t) (blk5 m c T h5 t) _ j

include h0 h1 h2 h3 h4 h5 in
theorem after12 (j : Fin 1024) : (outsAt0 m c t.val t.isLt).2.2.2.2.2.2 (ix2 0 j)
    = (if t.val % 16 = 0 then 0 else (outsAt0 m c (t.val - 1) (Nat.lt_of_le_of_lt (Nat.sub_le _ _) t.isLt)).2.2.2.2.2.2 (ix2 0 j))
      + ((∑ r : Fin 512, rowGain H W P T G F (t.val * 512 + r.val) j.val : ℝ) : EReal) := by
  have hL := act_canon H W G (t.val * 512) (nBlk m c t) (iblk m c 2 t) (nBlk_apply m c H G h0 h1 t) (blk2 m c W h2 t)
  by_cases ht : t.val % 16 = 0
  · rw [if_pos ht, outsAt0_A m c t ht]
    dsimp only
    unfold out0_A_12
    rw [View.read_writes_eq_canon]
    swap
    · exact fun _ => cover0_A_12 ..
    unfold kernelRun0_A
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    simp (disch := decide) only [View.readCov_skip, View.readCov_fill]
    rw [View.canon_cons_unit_zero hz2]
    simp only [pay7]
    refine (pay5 H W P T G F (t.val * 512) _ (blk0 m c H h0 t) _ _ _ _ (act_readCov H W G (t.val * 512) _ _ _ hL) (blk3 m c P h3 t) (blk4 m c F h4 t) (blk5 m c T h5 t) _ j).trans ?_
    rw [View.ld_unit_zero (S := S1x1024) hz2, pay3]
  · rw [if_neg ht, outsAt0_B m c t ht]
    dsimp only
    unfold out0_B_12
    rw [View.read_writes_eq_canon]
    swap
    · exact fun _ => cover0_B_12 ..
    unfold kernelRun0_B
    dsimp only
    sl_unfold_words
    simp only [View.readAt_eq_ld, Memref.IsWhole.read_unread, View.ld_unit_zero (S := S512x1024) hz2, View.ld_unit_zero (S := S1x1024) hz2, View.ld_unit_zero (S := S2816x1024) hz2, View.ld_unit_zero (S := S1x128) hz2]
    rw [View.canon_unit_zero hz2]
    simp only [pay7]
    exact pay5 H W P T G F (t.val * 512) _ (blk0 m c H h0 t) _ _ _ _ (act_readCov H W G (t.val * 512) _ _ _ hL) (blk3 m c P h3 t) (blk4 m c F h4 t) (blk5 m c T h5 t) _ j

end Cert.LossBwdIdeal.Real

end
-- ==== Proof.LossFinal.lean ====
/-
  THE KERNEL OF THE FOURTH PAIR, its seven results as whole arrays.
-/
module

public import proofs.«01_k».proof.Proof.LossAfter
public import Idealize.ShloMosaic.Lib.Pipeline.ValueKit.Geometry
public import Idealize.ShloMosaic.Lib.Pipeline.ValueKit.Acc

@[expose] public section

set_option maxRecDepth 16384
set_option backward.isDefEq.respectTransparency false

noncomputable section

namespace Cert.LossBwdIdeal.Real

open Cert.LossBwdIdeal Cert.LossBwdIdeal.Gen Cert.Step Cert.Loss Idealize.ShloMosaic Idealize.ShloMosaic.TcCoe Idealize.SL.Sem
open Cert.MixBwdIdeal.Real (hz2 piece2 ld2)

variable (m : (ℓ : Loc nD τ sig) → Buf (Elt Ideal) ℓ) (c : Dev nD)
variable (H W P T : ℕ → ℕ → ℝ) (G F : ℕ → ℝ)
variable (h0 : ∀ (r : Fin 8192) (k : Fin 1024), m ((c : Thread nD τ).loc main_arg0) (ix3 0 r k) = ((H r k : ℝ) : EReal))
variable (h1 : ∀ k : Fin 1024, m ((c : Thread nD τ).loc main_arg1) (ix2 0 k) = ((G k : ℝ) : EReal))
variable (h2 : ∀ (k : Fin 1024) (j : Fin 5632), m ((c : Thread nD τ).loc main_arg2) (ix3 0 k j) = ((W k j : ℝ) : EReal))
variable (h3 : ∀ (j : Fin 2816) (k : Fin 1024), m ((c : Thread nD τ).loc main_arg3) (ix3 0 j k) = ((P j k : ℝ) : EReal))
variable (h4 : ∀ k : Fin 1024, m ((c : Thread nD τ).loc main_arg4) (ix1 k) = ((F k : ℝ) : EReal))
variable (h5 : ∀ (r : Fin 8192) (k : Fin 1024), m ((c : Thread nD τ).loc main_arg5) (ix3 0 r k) = ((T r k : ℝ) : EReal))
/-- The upward product. -/
def abArr (i : S8192x5632.Idx) : EReal := ((up H W G (i 0).val (i 1).val : ℝ) : EReal)

theorem idx6 : ∀ t : Fin cfg0.N, win0_6.index t = ![t.val, 0] :=
  (by decide +kernel : ∀ t : Fin grid0.N, win0_6.index t = ![t.val, 0])

include h0 h1 h2 in
theorem final6 : (dats m 0 c).arrAt 6 cfg0.N = abArr H W G := by
  refine (dats m 0 c).arrAt_eq_of_covers 6 _ (by decide +kernel) fun t hf y => ?_
  have hN := N16 t
  obtain ⟨r, l, rfl⟩ : ∃ (r : Fin 512) (l : Fin 5632), y = ix2 r l := ⟨y 0, y 1, by blk_ext []⟩
  have e : (win0_6.blk t).view.emb (ix2 r l) = ix2 (⟨t.val * 512 + r.val, by omega⟩ : Fin 8192) l := by
    blk_ext [idx6 t]
  blk_simp
  rw [after0_6, e]
  exact after6 m c H W G h0 h1 h2 t r l

/-- The rows' norm. -/
def nArr (i : S8192x1024.Idx) : EReal := ((nrm H G (i 0).val (i 1).val : ℝ) : EReal)

theorem idx7 : ∀ t : Fin cfg0.N, win0_7.index t = ![t.val, 0] :=
  (by decide +kernel : ∀ t : Fin grid0.N, win0_7.index t = ![t.val, 0])

include h0 h1 in
theorem final7 : (dats m 0 c).arrAt 7 cfg0.N = nArr H G := by
  refine (dats m 0 c).arrAt_eq_of_covers 7 _ (by decide +kernel) fun t hf y => ?_
  have hN := N16 t
  obtain ⟨r, l, rfl⟩ : ∃ (r : Fin 512) (l : Fin 1024), y = ix2 r l := ⟨y 0, y 1, by blk_ext []⟩
  have e : (win0_7.blk t).view.emb (ix2 r l) = ix2 (⟨t.val * 512 + r.val, by omega⟩ : Fin 8192) l := by
    blk_ext [idx7 t]
  blk_simp
  rw [after0_7, e]
  exact after7 m c H G h0 h1 t r l

/-- The activation. -/
def actArr (i : S8192x2816.Idx) : EReal := ((act H W G (i 0).val (i 1).val : ℝ) : EReal)

theorem idx8 : ∀ t : Fin cfg0.N, win0_8.index t = ![t.val, 0] :=
  (by decide +kernel : ∀ t : Fin grid0.N, win0_8.index t = ![t.val, 0])

include h0 h1 h2 in
theorem final8 : (dats m 0 c).arrAt 8 cfg0.N = actArr H W G := by
  refine (dats m 0 c).arrAt_eq_of_covers 8 _ (by decide +kernel) fun t hf y => ?_
  have hN := N16 t
  obtain ⟨r, l, rfl⟩ : ∃ (r : Fin 512) (l : Fin 2816), y = ix2 r l := ⟨y 0, y 1, by blk_ext []⟩
  have e : (win0_8.blk t).view.emb (ix2 r l) = ix2 (⟨t.val * 512 + r.val, by omega⟩ : Fin 8192) l := by
    blk_ext [idx8 t]
  blk_simp
  rw [after0_8, e]
  exact after8 m c H W G h0 h1 h2 t r l

/-- The derivative by the layer's output. -/
def dhArr (i : S8192x1024.Idx) : EReal := ((dOut H W P T G F (i 0).val (i 1) : ℝ) : EReal)

theorem idx10 : ∀ t : Fin cfg0.N, win0_10.index t = ![t.val, 0] :=
  (by decide +kernel : ∀ t : Fin grid0.N, win0_10.index t = ![t.val, 0])

include h0 h1 h2 h3 h4 h5 in
theorem final10 : (dats m 0 c).arrAt 10 cfg0.N = dhArr H W P T G F := by
  refine (dats m 0 c).arrAt_eq_of_covers 10 _ (by decide +kernel) fun t hf y => ?_
  have hN := N16 t
  obtain ⟨r, l, rfl⟩ : ∃ (r : Fin 512) (l : Fin 1024), y = ix2 r l := ⟨y 0, y 1, by blk_ext []⟩
  have e : (win0_10.blk t).view.emb (ix2 r l) = ix2 (⟨t.val * 512 + r.val, by omega⟩ : Fin 8192) l := by
    blk_ext [idx10 t]
  blk_simp
  rw [after0_10, e]
  exact after10 m c H W P T G F h0 h1 h2 h3 h4 h5 t r l

/-- The same in the narrow type. -/
def dhbArr (i : S8192x1024.Idx) : EReal := ((dOut H W P T G F (i 0).val (i 1) : ℝ) : EReal)

theorem idx11 : ∀ t : Fin cfg0.N, win0_11.index t = ![t.val, 0] :=
  (by decide +kernel : ∀ t : Fin grid0.N, win0_11.index t = ![t.val, 0])

include h0 h1 h2 h3 h4 h5 in
theorem final11 : (dats m 0 c).arrAt 11 cfg0.N = dhbArr H W P T G F := by
  refine (dats m 0 c).arrAt_eq_of_covers 11 _ (by decide +kernel) fun t hf y => ?_
  have hN := N16 t
  obtain ⟨r, l, rfl⟩ : ∃ (r : Fin 512) (l : Fin 1024), y = ix2 r l := ⟨y 0, y 1, by blk_ext []⟩
  have e : (win0_11.blk t).view.emb (ix2 r l) = ix2 (⟨t.val * 512 + r.val, by omega⟩ : Fin 8192) l := by
    blk_ext [idx11 t]
  blk_simp
  rw [after0_11, e]
  exact after11 m c H W P T G F h0 h1 h2 h3 h4 h5 t r l

/-- The loss, in every lane. -/
def lossArr (i : S1x128.Idx) : EReal := ((1 / 2 * ∑ r : Fin 8192, rowLoss H W P T G F r.val : ℝ) : EReal)

include h0 h1 h2 h3 h4 h5 in
theorem final9 : (dats m 0 c).arrAt 9 cfg0.N = lossArr H W P T G F := by
  refine (dats m 0 c).arrAt_eq_of_after_last 9 t0_15 (by decide +kernel) _ fun i => ?_
  obtain ⟨j, rfl⟩ : ∃ j : Fin 128, i = ix2 0 j := ⟨i 1, by blk_ext []⟩
  blk_simp
  rw [after0_9]
  refine (Pipeline.eq_sum_fin_of_reset_step_apply_last (fun n h => (outsAt0 m c n h).2.2.2.1) 16 (fun _ => (0 : EReal))
    (fun t i => ((1 / 2 * ∑ r : Fin 512, rowLoss H W P T G F (t * 512 + r.val) : ℝ) : EReal)) (fun t h i => ?_) (fun t h i => ?_) (le_of_eq N_0) t0_15 rfl (ix2 0 j)).trans ?_
  · obtain ⟨j, rfl⟩ : ∃ j : Fin 128, i = ix2 0 j := ⟨i 1, by blk_ext []⟩
    refine (after9 m c H W P T G F h0 h1 h2 h3 h4 h5 t j).trans ?_
    rw [if_pos h]
  · obtain ⟨j, rfl⟩ : ∃ j : Fin 128, i = ix2 0 j := ⟨i 1, by blk_ext []⟩
    refine (after9 m c H W P T G F h0 h1 h2 h3 h4 h5 t j).trans ?_
    rw [if_neg h]
  · rw [zero_add, coe_sum]
    refine congrArg (fun x : ℝ => (x : EReal)) ?_
    rw [← Finset.mul_sum]
    exact congrArg (1 / 2 * ·) (Fin.sum_mul_add_congr fun t r hl => rfl)

/-- The derivative by the last norm's gain. -/
def dgArr (i : S1x1024.Idx) : EReal := ((∑ r : Fin 8192, rowGain H W P T G F r.val (i 1).val : ℝ) : EReal)

include h0 h1 h2 h3 h4 h5 in
theorem final12 : (dats m 0 c).arrAt 12 cfg0.N = dgArr H W P T G F := by
  refine (dats m 0 c).arrAt_eq_of_after_last 12 t0_15 (by decide +kernel) _ fun i => ?_
  obtain ⟨j, rfl⟩ : ∃ j : Fin 1024, i = ix2 0 j := ⟨i 1, by blk_ext []⟩
  blk_simp
  rw [after0_12]
  refine (Pipeline.eq_sum_fin_of_reset_step_apply_last (fun n h => (outsAt0 m c n h).2.2.2.2.2.2) 16 (fun _ => (0 : EReal))
    (fun t i => ((∑ r : Fin 512, rowGain H W P T G F (t * 512 + r.val) (i 1).val : ℝ) : EReal)) (fun t h i => ?_) (fun t h i => ?_) (le_of_eq N_0) t0_15 rfl (ix2 0 j)).trans ?_
  · obtain ⟨j, rfl⟩ : ∃ j : Fin 1024, i = ix2 0 j := ⟨i 1, by blk_ext []⟩
    refine (after12 m c H W P T G F h0 h1 h2 h3 h4 h5 t j).trans ?_
    rw [if_pos h]
    rfl
  · obtain ⟨j, rfl⟩ : ∃ j : Fin 1024, i = ix2 0 j := ⟨i 1, by blk_ext []⟩
    refine (after12 m c H W P T G F h0 h1 h2 h3 h4 h5 t j).trans ?_
    rw [if_neg h]
    rfl
  · rw [zero_add, coe_sum]
    refine congrArg (fun x : ℝ => (x : EReal)) ?_
    exact Fin.sum_mul_add_congr fun t r hl => rfl

end Cert.LossBwdIdeal.Real

end
-- ==== Proof.LossClaim.lean ====
/-
  THE FOURTH PAIR, put together: at arguments whose finiteness the precondition states, the kernel and the derivative
  of the plain lines both run and leave equal arrays.
-/
module

public import proofs.«01_k».proof.Defs
public import proofs.«01_k».proof.Proof.LossRef
public import proofs.«01_k».proof.Proof.LossFinal
public import proofs.«01_k».proof.Proof.Gen.LossBwd.Frame
public import proofs.«01_k».proof.Proof.Gen.LossRefIdeal.Run
public import proofs.«01_k».proof.Proof.Gen.Pre_finite_loss

@[expose] public section

set_option maxRecDepth 16384

noncomputable section

namespace Cert.LossClaim

open Cert.Step Cert.Loss Idealize.ShloMosaic Idealize.ShloMosaic.TcCoe Idealize.SL.Sem

theorem exists_line {n : ℕ} (x : (⟨1, ![n]⟩ : Shape).Idx → EReal) (hx : ∃ X : (⟨1, ![n]⟩ : Shape).Idx → ℝ, ∀ i, x i = ((X i : ℝ) : EReal)) :
    ∃ F : ℕ → ℝ, ∀ i, x i = ((F (i 0).val : ℝ) : EReal) :=
  exists_of_injective x hx (fun i => (i 0).val) fun i i' h => by
    funext a
    match a with
    | ⟨0, _⟩ => exact Fin.ext h

/-- The precondition, read: all six arguments are arrays of reals. -/
theorem reals (x0 : FVec Ideal Pre_finite_loss.S1x8192x1024 .f32) (x1 : FVec Ideal Pre_finite_loss.S1x1024 .f32)
    (x2 : FVec Ideal Pre_finite_loss.S1x1024x5632 .f32) (x3 : FVec Ideal Pre_finite_loss.S1x2816x1024 .f32)
    (x4 : FVec Ideal Pre_finite_loss.S1024 .f32) (x5 : FVec Ideal Pre_finite_loss.S1x8192x1024 .f32)
    (h : Pre_finite_loss.fn (F := Ideal) x0 x1 x2 x3 x4 x5 = fun _ => 1#1) :
    (∃ H : ℕ → ℕ → ℝ, ∀ i, x0 i = ((H (i 1).val (i 2).val : ℝ) : EReal)) ∧ (∃ G : ℕ → ℝ, ∀ i, x1 i = ((G (i 1).val : ℝ) : EReal))
    ∧ (∃ W : ℕ → ℕ → ℝ, ∀ i, x2 i = ((W (i 1).val (i 2).val : ℝ) : EReal))
    ∧ (∃ P : ℕ → ℕ → ℝ, ∀ i, x3 i = ((P (i 1).val (i 2).val : ℝ) : EReal))
    ∧ (∃ F : ℕ → ℝ, ∀ i, x4 i = ((F (i 0).val : ℝ) : EReal))
    ∧ (∃ T : ℕ → ℕ → ℝ, ∀ i, x5 i = ((T (i 1).val (i 2).val : ℝ) : EReal)) := by
  have e := congrFun h (fun a => a.elim0)
  unfold Pre_finite_loss.fn Pre_finite_loss.fn_part1 at e
  dsimp only at e
  obtain ⟨e, e5⟩ := and_split _ _ _ e
  obtain ⟨e, e4⟩ := and_split _ _ _ e
  obtain ⟨e, e3⟩ := and_split _ _ _ e
  obtain ⟨e, e2⟩ := and_split _ _ _ e
  obtain ⟨e0, e1⟩ := and_split _ _ _ e
  haveI : Subsingleton Pre_finite_loss.S_.Idx := ⟨fun a b => funext fun i => i.elim0⟩
  exact ⟨exists_slab _ (real_of_all _ _ _ _ _ (fun _ => rfl) _ e0), exists_row _ (real_of_all _ _ _ _ _ (fun _ => rfl) _ e1),
    exists_slab _ (real_of_all _ _ _ _ _ (fun _ => rfl) _ e2), exists_slab _ (real_of_all _ _ _ _ _ (fun _ => rfl) _ e3),
    exists_line _ (real_of_all _ _ _ _ _ (fun _ => rfl) _ e4), exists_slab _ (real_of_all _ _ _ _ _ (fun _ => rfl) _ e5)⟩

variable (m : (ℓ : Loc Cert.LossBwdIdeal.nD Cert.LossBwdIdeal.τ Cert.LossBwdIdeal.sig) → Buf (Elt Ideal) ℓ) (c : Dev Cert.LossBwdIdeal.nD)
variable (x0 x5 : (⟨Cert.LossRefIdeal.S1x8192x1024, .f32⟩ : BufTy).Contents (Elt Ideal)) (x1 : (⟨Cert.LossRefIdeal.S1x1024, .f32⟩ : BufTy).Contents (Elt Ideal))
variable (x2 : (⟨Cert.LossRefIdeal.S1x1024x5632, .f32⟩ : BufTy).Contents (Elt Ideal)) (x3 : (⟨Cert.LossRefIdeal.S1x2816x1024, .f32⟩ : BufTy).Contents (Elt Ideal))
variable (x4 : (⟨Cert.LossRefIdeal.S1024, .f32⟩ : BufTy).Contents (Elt Ideal))
variable (a0 : x0 = m ((c : Thread Cert.LossBwdIdeal.nD Cert.LossBwdIdeal.τ).loc Cert.LossBwdIdeal.main_arg0))
variable (a1 : x1 = m ((c : Thread Cert.LossBwdIdeal.nD Cert.LossBwdIdeal.τ).loc Cert.LossBwdIdeal.main_arg1))
variable (a2 : x2 = m ((c : Thread Cert.LossBwdIdeal.nD Cert.LossBwdIdeal.τ).loc Cert.LossBwdIdeal.main_arg2))
variable (a3 : x3 = m ((c : Thread Cert.LossBwdIdeal.nD Cert.LossBwdIdeal.τ).loc Cert.LossBwdIdeal.main_arg3))
variable (a4 : x4 = m ((c : Thread Cert.LossBwdIdeal.nD Cert.LossBwdIdeal.τ).loc Cert.LossBwdIdeal.main_arg4))
variable (a5 : x5 = m ((c : Thread Cert.LossBwdIdeal.nD Cert.LossBwdIdeal.τ).loc Cert.LossBwdIdeal.main_arg5))
variable (H W P T : ℕ → ℕ → ℝ) (G F : ℕ → ℝ)
variable (h0 : ∀ i, (m ((c : Thread Cert.LossBwdIdeal.nD Cert.LossBwdIdeal.τ).loc Cert.LossBwdIdeal.main_arg0) : Cert.LossRefIdeal.S1x8192x1024.Idx → EReal) i = ((H (i 1).val (i 2).val : ℝ) : EReal))
variable (h1 : ∀ i, (m ((c : Thread Cert.LossBwdIdeal.nD Cert.LossBwdIdeal.τ).loc Cert.LossBwdIdeal.main_arg1) : Cert.LossRefIdeal.S1x1024.Idx → EReal) i = ((G (i 1).val : ℝ) : EReal))
variable (h2 : ∀ i, (m ((c : Thread Cert.LossBwdIdeal.nD Cert.LossBwdIdeal.τ).loc Cert.LossBwdIdeal.main_arg2) : Cert.LossRefIdeal.S1x1024x5632.Idx → EReal) i = ((W (i 1).val (i 2).val : ℝ) : EReal))
variable (h3 : ∀ i, (m ((c : Thread Cert.LossBwdIdeal.nD Cert.LossBwdIdeal.τ).loc Cert.LossBwdIdeal.main_arg3) : Cert.LossRefIdeal.S1x2816x1024.Idx → EReal) i = ((P (i 1).val (i 2).val : ℝ) : EReal))
variable (h4 : ∀ i, (m ((c : Thread Cert.LossBwdIdeal.nD Cert.LossBwdIdeal.τ).loc Cert.LossBwdIdeal.main_arg4) : Cert.LossRefIdeal.S1024.Idx → EReal) i = ((F (i 0).val : ℝ) : EReal))
variable (h5 : ∀ i, (m ((c : Thread Cert.LossBwdIdeal.nD Cert.LossBwdIdeal.τ).loc Cert.LossBwdIdeal.main_arg5) : Cert.LossRefIdeal.S1x8192x1024.Idx → EReal) i = ((T (i 1).val (i 2).val : ℝ) : EReal))

include a0 a1 a2 h0 h1 h2 in
theorem eq6 : Cert.LossRefIdeal.Read.val_main_v78 (F := Ideal) x0 x1 x2 = (Cert.LossBwdIdeal.Gen.dats m 0 c).arrAt 6 Cert.LossBwdIdeal.cfg0.N := by
  subst a0 a1 a2
  refine Eq.trans ?_ (Cert.LossBwdIdeal.Real.final6 m c H W G (fun _ _ => h0 _) (fun _ => h1 _) (fun _ _ => h2 _)).symm
  funext i
  exact Cert.LossRefIdeal.Real.ab_apply H W G _ _ _ h0 h1 h2 i

include a0 a1 h0 h1 in
theorem eq7 : Cert.LossRefIdeal.Read.val_main_v80 (F := Ideal) x0 x1 = (Cert.LossBwdIdeal.Gen.dats m 0 c).arrAt 7 Cert.LossBwdIdeal.cfg0.N := by
  subst a0 a1
  refine Eq.trans ?_ (Cert.LossBwdIdeal.Real.final7 m c H G (fun _ _ => h0 _) (fun _ => h1 _)).symm
  funext i
  exact Cert.LossRefIdeal.Real.n_apply H G _ _ h0 h1 i

include a0 a1 a2 h0 h1 h2 in
theorem eq8 : Cert.LossRefIdeal.Read.val_main_v82 (F := Ideal) x0 x1 x2 = (Cert.LossBwdIdeal.Gen.dats m 0 c).arrAt 8 Cert.LossBwdIdeal.cfg0.N := by
  subst a0 a1 a2
  refine Eq.trans ?_ (Cert.LossBwdIdeal.Real.final8 m c H W G (fun _ _ => h0 _) (fun _ => h1 _) (fun _ _ => h2 _)).symm
  funext i
  exact Cert.LossRefIdeal.Real.act_apply H W G _ _ _ h0 h1 h2 i

include a0 a1 a2 a3 a4 a5 h0 h1 h2 h3 h4 h5 in
theorem eq9 : Cert.LossRefIdeal.Read.val_main_v83 (F := Ideal) x0 x1 x2 x3 x4 x5 = (Cert.LossBwdIdeal.Gen.dats m 0 c).arrAt 9 Cert.LossBwdIdeal.cfg0.N := by
  subst a0 a1 a2 a3 a4 a5
  refine Eq.trans ?_ (Cert.LossBwdIdeal.Real.final9 m c H W P T G F (fun _ _ => h0 _) (fun _ => h1 _) (fun _ _ => h2 _) (fun _ _ => h3 _) (fun _ => h4 _) (fun _ _ => h5 _)).symm
  funext i
  exact Cert.LossRefIdeal.Real.loss_apply H W P T G F _ _ _ _ _ _ h0 h1 h2 h3 h4 h5 i

include a0 a1 a2 a3 a4 a5 h0 h1 h2 h3 h4 h5 in
theorem eq10 : Cert.LossRefIdeal.Read.val_main_v84 (F := Ideal) x0 x1 x2 x3 x4 x5 = (Cert.LossBwdIdeal.Gen.dats m 0 c).arrAt 10 Cert.LossBwdIdeal.cfg0.N := by
  subst a0 a1 a2 a3 a4 a5
  refine Eq.trans ?_ (Cert.LossBwdIdeal.Real.final10 m c H W P T G F (fun _ _ => h0 _) (fun _ => h1 _) (fun _ _ => h2 _) (fun _ _ => h3 _) (fun _ => h4 _) (fun _ _ => h5 _)).symm
  funext i
  exact Cert.LossRefIdeal.Real.dh_apply H W P T G F _ _ _ _ _ _ h0 h1 h2 h3 h4 h5 i

include a0 a1 a2 a3 a4 a5 h0 h1 h2 h3 h4 h5 in
theorem eq11 : Cert.LossRefIdeal.Read.val_main_v86 (F := Ideal) x0 x1 x2 x3 x4 x5 = (Cert.LossBwdIdeal.Gen.dats m 0 c).arrAt 11 Cert.LossBwdIdeal.cfg0.N := by
  subst a0 a1 a2 a3 a4 a5
  refine Eq.trans ?_ (Cert.LossBwdIdeal.Real.final11 m c H W P T G F (fun _ _ => h0 _) (fun _ => h1 _) (fun _ _ => h2 _) (fun _ _ => h3 _) (fun _ => h4 _) (fun _ _ => h5 _)).symm
  funext i
  exact Cert.LossRefIdeal.Real.dhb_apply H W P T G F _ _ _ _ _ _ h0 h1 h2 h3 h4 h5 i

include a0 a1 a2 a3 a4 a5 h0 h1 h2 h3 h4 h5 in
theorem eq12 : Cert.LossRefIdeal.Read.val_main_v87 (F := Ideal) x0 x1 x2 x3 x4 x5 = (Cert.LossBwdIdeal.Gen.dats m 0 c).arrAt 12 Cert.LossBwdIdeal.cfg0.N := by
  subst a0 a1 a2 a3 a4 a5
  refine Eq.trans ?_ (Cert.LossBwdIdeal.Real.final12 m c H W P T G F (fun _ _ => h0 _) (fun _ => h1 _) (fun _ _ => h2 _) (fun _ _ => h3 _) (fun _ => h4 _) (fun _ _ => h5 _)).symm
  funext i
  exact Cert.LossRefIdeal.Real.dg_apply H W P T G F _ _ _ _ _ _ h0 h1 h2 h3 h4 h5 i

set_option maxHeartbeats 4000000 in
theorem algebraic : Cert.algebraic_LossBwdIdeal_LossRefIdeal_pre_finite_loss := by
  intro m g m' g' hpre harg
  refine ⟨fun c => (Cert.LossBwdIdeal.Gen.dats m 0 c).arrAt 6 Cert.LossBwdIdeal.cfg0.N,
    fun c => (Cert.LossBwdIdeal.Gen.dats m 0 c).arrAt 7 Cert.LossBwdIdeal.cfg0.N,
    fun c => (Cert.LossBwdIdeal.Gen.dats m 0 c).arrAt 8 Cert.LossBwdIdeal.cfg0.N,
    fun c => (Cert.LossBwdIdeal.Gen.dats m 0 c).arrAt 9 Cert.LossBwdIdeal.cfg0.N,
    fun c => (Cert.LossBwdIdeal.Gen.dats m 0 c).arrAt 10 Cert.LossBwdIdeal.cfg0.N,
    fun c => (Cert.LossBwdIdeal.Gen.dats m 0 c).arrAt 11 Cert.LossBwdIdeal.cfg0.N,
    fun c => (Cert.LossBwdIdeal.Gen.dats m 0 c).arrAt 12 Cert.LossBwdIdeal.cfg0.N, Cert.LossBwdIdeal.Value.run_blocks m g, ?_⟩
  refine (θ_run _ _ _).mono (fun r h c => ?_) (Cert.LossRefIdeal.Value.run m' g')
  obtain ⟨⟨H, h0⟩, ⟨G, h1⟩, ⟨W, h2⟩, ⟨P, h3⟩, ⟨F, h4⟩, ⟨T, h5⟩⟩ := reals _ _ _ _ _ _ (hpre c)
  obtain ⟨a0, a1, a2, a3, a4, a5⟩ := harg c
  obtain ⟨r0, r1, r2, r3, r4, r5, r6, rest⟩ := h c
  refine ⟨r0.trans ?_, r1.trans ?_, r2.trans ?_, r3.trans ?_, r4.trans ?_, r5.trans ?_, r6.trans ?_, rest⟩
  · exact (Cert.LossRefIdeal.Read.val_main_v78_eq _ _ _).trans (eq6 m c _ _ _ a0 a1 a2 H W G h0 h1 h2)
  · exact (Cert.LossRefIdeal.Read.val_main_v80_eq _ _).trans (eq7 m c _ _ a0 a1 H G h0 h1)
  · exact (Cert.LossRefIdeal.Read.val_main_v82_eq _ _ _).trans (eq8 m c _ _ _ a0 a1 a2 H W G h0 h1 h2)
  · exact (Cert.LossRefIdeal.Read.val_main_v83_eq m' c).trans (eq9 m c _ _ _ _ _ _ a0 a1 a2 a3 a4 a5 H W P T G F h0 h1 h2 h3 h4 h5)
  · exact (Cert.LossRefIdeal.Read.val_main_v84_eq m' c).trans (eq10 m c _ _ _ _ _ _ a0 a1 a2 a3 a4 a5 H W P T G F h0 h1 h2 h3 h4 h5)
  · exact (Cert.LossRefIdeal.Read.val_main_v86_eq m' c).trans (eq11 m c _ _ _ _ _ _ a0 a1 a2 a3 a4 a5 H W P T G F h0 h1 h2 h3 h4 h5)
  · exact (Cert.LossRefIdeal.Read.val_main_v87_eq m' c).trans (eq12 m c _ _ _ _ _ _ a0 a1 a2 a3 a4 a5 H W P T G F h0 h1 h2 h3 h4 h5)

/-- The reference runs, leaves its arguments as they were, and uses no semaphore. -/
theorem frameRef : Cert.quiescent_LossRefIdeal := fun m ρ _ =>
  (θ_run Cert.LossRefIdeal.defs _ _).mono
    (fun r h => ⟨fun c => (h c).2.2.2.2.2.2.2, Idealize.ShloMosaic.sem_eq_zero_of_no_sems (by decide) r.2⟩)
    (Cert.LossRefIdeal.Value.run (F := Ideal) m ρ)

end Cert.LossClaim

end
-- ==== Proof.AttnFwdRefSame.lean ====
/-
  THE REFERENCE OF THE FIFTH PAIR, its probabilities: the forward lines are those of the second pair's reference, so its
  arrays up to the probabilities are that reference's.
-/
module

public import proofs.«01_k».proof.Proof.AttnRefSoft
public import proofs.«01_k».proof.Proof.Gen.AttnFwdRefIdeal.Read

@[expose] public section

set_option maxRecDepth 16384

noncomputable section

namespace Cert.AttnFwdRefIdeal.Real

open Cert.AttnFwdRefIdeal Cert.AttnFwdRefIdeal.Read Cert.Step Cert.Attn Idealize.ShloMosaic Idealize.ShloMosaic.Pointwise

variable (x0 : (⟨S1x8192x1024, .f32⟩ : BufTy).Contents (Elt Ideal)) (x1 : (⟨S1x8192x256, .f32⟩ : BufTy).Contents (Elt Ideal))
  (x2 : (⟨S1x16, .f32⟩ : BufTy).Contents (Elt Ideal))

theorem e15 : val_main_v15 (F := Ideal) x1 = Cert.AttnRefIdeal.Read.val_main_v15 (F := Ideal) x1 := rfl

theorem e21 : val_main_v21 (F := Ideal) x0 x1 = Cert.AttnRefIdeal.Read.val_main_v21 (F := Ideal) x0 x1 := rfl

theorem e80 : val_main_v80 (F := Ideal) = Cert.AttnRefIdeal.Read.val_main_v80 (F := Ideal) := rfl

theorem e78 : val_main_v78 (F := Ideal) = Cert.AttnRefIdeal.Read.val_main_v78 (F := Ideal) := rfl

theorem e81 : val_main_v81 (F := Ideal) x0 x1 = Cert.AttnRefIdeal.Read.val_main_v81_0 (F := Ideal) x0 x1 := by
  unfold val_main_v81 val_main_call0_v1 val_main_v79 Cert.AttnRefIdeal.Read.val_main_v81_0
  rw [e80, e78, e21]
  rfl

theorem e88 : val_main_v88 (F := Ideal) x0 x1 x2 = Cert.AttnRefIdeal.Read.val_main_v93 (F := Ideal) x0 x1 x2 := by
  unfold val_main_v88 val_main_v85 val_main_v84
  rw [e81]
  rfl

theorem e91 : val_main_v91 (F := Ideal) x0 x1 x2 = Cert.AttnRefIdeal.Read.val_main_v114 (F := Ideal) x0 x1 x2 := by
  unfold val_main_v91 val_main_v90 val_main_v89
  rw [e81, e88]
  rfl

theorem e98 : val_main_v98 (F := Ideal) x0 x1 x2 = Cert.AttnRefIdeal.Read.val_main_v121 (F := Ideal) x0 x1 x2 := by
  unfold val_main_v98 val_main_v97 val_main_v96 val_main_v93 val_main_v92
  rw [e91, e88]
  rfl

theorem e100 : val_main_v100 (F := Ideal) x0 x1 x2 = Cert.AttnRefIdeal.Read.val_main_v123 (F := Ideal) x0 x1 x2 := by
  unfold val_main_v100 val_main_v99
  rw [e91, e98]
  rfl

end Cert.AttnFwdRefIdeal.Real
-- ==== Proof.AttnFwdParts.lean ====
/-
  THE ATTENTION'S FORWARD KERNEL, its parts: what a pair of heads reads and makes in one of a grid point's two blocks of
  128 rows, as functions of the blocks the grid point holds. The two heads of a pair lie side by side in 128 lanes of the
  queries, and one above the other in the rows of the scores and of the probabilities.
-/
module

public import proofs.«01_k».proof.Proof.AttnBlock
public import proofs.«01_k».proof.Proof.Gen.AttnFwdIdeal.Skeleton

@[expose] public section

set_option maxRecDepth 16384

noncomputable section

namespace Cert.AttnFwdIdeal.Real

open Cert.AttnFwdIdeal Cert.AttnFwdIdeal.Gen Idealize.ShloMosaic Idealize.ShloMosaic.TcCoe Idealize.SL.Sem
open Cert.AttnBwdIdeal.Real (slopeBits)

variable {F : FTy → Type} [FloatOps F]

/-- A pair's folded scores, from its queries' tile `x` and the keys' band; `a` and `b` are its heads' slopes. -/
def scores (first : BitVec 1) (a b : BitVec 32) (dist : Vec F S128x128 .f32) (kk : FVec F S256x128 .bf16) (x : Vec F S128x128 .bf16) :
    FVec F S1x1x256x128 .f32 :=
  shapeCast S1x1x256x128
    (subf (select k0_pay2 (extractStridedSlice S256x128 ![0, 128] (k0_pay19 kk x) slices_S256x256_o0_128_S256x128)
      (Scalar.select first (broadcast S256x128 (Scalar.ofBits .f32 0xFF800000#32))
        (extractStridedSlice S256x128 ![0, 0] (k0_pay19 kk x) slices_S256x256_o0_0_S256x128)))
      (mulf (broadcastTo S256x128 (select (cmpi .slt (iota .tc S256x1 32 [0] iota_S256x1_d0_w32) (broadcast S256x1 128#32))
        (broadcast S256x1 (Scalar.ofBits .f32 a)) (broadcast S256x1 (Scalar.ofBits .f32 b))) broadcasts_S256x1_S256x128) (k0_pay3 dist)))
    shapeCasts_S256x128_S1x1x256x128

/-- A pair's probabilities, from its scores and its heads' sinks. -/
def probsOf (s : Vec F S1x1x256x128 .f32) (e o : Elt F .f32) : FVec F S1x1x256x256 .bf16 :=
  k0_pay63 k0_pay2 (k0_pay61 s e o) (k0_pay62 s e o) (Scalar.ofBits .f32 0x3F800000#32)

/-- 128 rows and 128 lanes of the queries, from row `b` and lane `o` on. -/
def tile (x : Vec F S256x1024 .bf16) (b o : ℕ) : Vec F S128x128 .bf16 :=
  fun y => x (ix2 ⟨(b + (y 0).val) % 256, Nat.mod_lt _ (by decide)⟩ ⟨(o + (y 1).val) % 1024, Nat.mod_lt _ (by decide)⟩)

/-- 128 rows and 128 lanes of the keys and values, from row `b` and lane `o` on. -/
def kvTile (x : Vec F S256x256 .bf16) (b o : ℕ) : Vec F S128x128 .bf16 :=
  fun y => x (ix2 ⟨(b + (y 0).val) % 256, Nat.mod_lt _ (by decide)⟩ ⟨(o + (y 1).val) % 256, Nat.mod_lt _ (by decide)⟩)

/-- The first 128 rows of the keys and values. -/
def firstRows (x : Vec F S256x256 .bf16) : Vec F S128x256 .bf16 :=
  fun y => x (ix2 ⟨(y 0).val, lt_trans (y 0).isLt (by decide)⟩ (y 1))

/-- The sink of head `n`. -/
def sinkAt (x : Vec F S16 .f32) (n : ℕ) : Elt F .f32 := x (ix1 ⟨n % 16, Nat.mod_lt _ (by decide)⟩)

section Block

variable (first : BitVec 1) (x0 : Vec F S256x1024 .bf16) (x1 : Vec F S256x256 .bf16) (x2 : Vec F S128x256 .bf16)
    (x3 : Vec F S128x128 .f32) (x4 : Vec F S16 .f32)

/-- The rows before block `s`. -/
def prevOf (s : Bool) : Vec F S128x256 .bf16 := bif s then firstRows x1 else x2

/-- The first row of block `s`. -/
def rowOf (s : Bool) : ℕ := bif s then 128 else 0

/-- The keys of block `s`'s band for a key/value head, in both halves of the lanes. -/
def kBand (s hk : Bool) : FVec F S256x128 .bf16 :=
  bif hk then k0_pay8 (prevOf x1 x2 s) (kvTile x1 (rowOf s) 0) else k0_pay7 (prevOf x1 x2 s) (kvTile x1 (rowOf s) 0)

/-- The values of block `s`'s band for a key/value head, in both halves of the lanes. -/
def vBand (s hk : Bool) : FVec F S256x128 .bf16 :=
  bif hk then k0_pay10 (prevOf x1 x2 s) (kvTile x1 (rowOf s) 128) else k0_pay9 (prevOf x1 x2 s) (kvTile x1 (rowOf s) 128)

/-- The scores of pair `p` in block `s`. -/
def sOf (s : Bool) (p : ℕ) : Vec F S1x1x256x128 .f32 :=
  scores first (slopeBits (2 * p)) (slopeBits (2 * p + 1)) x3 (kBand x1 x2 s (p / 4 == 1)) (tile x0 (rowOf s) (128 * p))

/-- The probabilities of pair `p` in block `s`. -/
def pOf (s : Bool) (p : ℕ) : Vec F S1x1x256x256 .bf16 :=
  probsOf (sOf first x0 x1 x2 x3 s p) (sinkAt x4 (2 * p)) (sinkAt x4 (2 * p + 1))

/-- What pair `p` stores in block `s`. -/
def oOf (s : Bool) (p : ℕ) : FVec F S128x128 .bf16 :=
  k0_pay1 (vBand x1 x2 s (p / 4 == 1)) (pOf first x0 x1 x2 x3 x4 s p)

end Block

end Cert.AttnFwdIdeal.Real
-- ==== Proof.AttnFwdReal.lean ====
/-
  THE ATTENTION'S FORWARD KERNEL over the reals: a pair's scores, its softmax with sinks, and its product with the
  values, from a block's real entries.
-/
module

public import proofs.«01_k».proof.Proof.AttnFwdParts

@[expose] public section

set_option maxRecDepth 16384
set_option backward.isDefEq.respectTransparency false

noncomputable section

namespace Cert.AttnFwdIdeal.Real

open Cert.AttnFwdIdeal Cert.AttnFwdIdeal.Gen Cert.Step Cert.Attn Idealize.ShloMosaic Idealize.ShloMosaic.TcCoe Idealize.SL.Sem
open Idealize.ShloMosaic.Pointwise
open Cert.AttnBwdIdeal.Real (lane half half_lane sum_low sum_high sle_bits slt_bits select_ite ofBits_bot ofBits_eighth)

/-! ## The rows of a pair -/

/-- Row `r` of the even or the odd head. -/
def row (odd : Bool) (r : Fin 128) : Fin 256 := ⟨(bif odd then 128 else 0) + r.val, by cases odd <;> simp <;> omega⟩

theorem row_false (r : Fin 128) : row false r = ⟨r.val, by omega⟩ := Fin.ext (Nat.zero_add _)

theorem row_true (r : Fin 128) : row true r = ⟨128 + r.val, by omega⟩ := rfl

theorem slt_rows : ∀ (odd : Bool) (r : Fin 128), IntOp.cmpi CmpIPredicate.slt (BitVec.ofNat 32 (row odd r).val) 128#32 = bif odd then 0#1 else 1#1 := by
  decide +kernel

theorem own_apply (odd : Bool) (r j : Fin 128) : k0_pay2 (ix2 (row odd r) j) = if j.val ≤ r.val then 1#1 else 0#1 := by
  unfold k0_pay2
  cases odd
  · rw [row_false]
    pointwise []
    exact sle_bits r j
  · rw [row_true]
    pointwise []
    exact sle_bits r j

theorem dist_apply (odd : Bool) (x : Vec Ideal S128x128 .f32) (r j : Fin 128) : k0_pay3 x (ix2 (row odd r) j) = x (ix2 r j) := by
  unfold k0_pay3
  cases odd
  · rw [row_false]
    pointwise []
  · rw [row_true]
    pointwise []

/-! ## The scores -/

section Scores

variable (odd : Bool) (x : Vec Ideal S128x128 .bf16) (kk : FVec Ideal S256x128 .bf16)
variable (a : Fin 128 → Fin 64 → ℝ) (K : Fin 256 → Fin 64 → ℝ)
variable (hx : ∀ r d, x (ix2 r (lane odd d)) = ((a r d : ℝ) : EReal)) (hk : ∀ c l, kk (ix2 c l) = ((K c (half l) : ℝ) : EReal))

include hx hk in
/-- A pair's queries with its keys. -/
theorem qk_apply (r : Fin 128) (c : Fin 256) : k0_pay19 kk x (ix2 (row odd r) c) = (((∑ d, a r d * K c d) / 8 : ℝ) : EReal) := by
  have key : (∑ d, x (ix2 r (lane odd d)) * Ideal.ofBits .bf16 0x3E00#16 * kk (ix2 c (lane odd d)))
      = (((∑ d, a r d * K c d) / 8 : ℝ) : EReal) := by
    simp only [hx, hk, half_lane, ofBits_eighth, ← EReal.coe_mul, coe_sum]
    refine congrArg _ ?_
    rw [Finset.sum_div]
    exact Finset.sum_congr rfl fun d _ => by ring
  rw [← key]
  unfold k0_pay19
  cases odd
  · rw [row_false]
    pointwise []
    simp only [slt_bits, select_ite]
    rw [sum_low]
  · rw [row_true]
    pointwise []
    simp only [slt_bits, select_ite]
    rw [sum_high]

include hx hk in
/-- A head's folded scores. -/
theorem scores_apply (f : Bool) (b0 b1 : BitVec 32) (dist : Vec Ideal S128x128 .f32) (sl : ℝ)
    (hsl : Ideal.ofBits .f32 (bif odd then b1 else b0) = ((sl : ℝ) : EReal))
    (hdist : ∀ r j : Fin 128, dist (ix2 r j) = (((r.val : ℝ) + 128 - (fc r j).val : ℝ) : EReal)) (r j : Fin 128) :
    scores (bif f then 1#1 else 0#1) b0 b1 dist kk x (ix4 0 0 (row odd r) j)
      = if ok f r (fc r j) then (((∑ d, a r d * K (fc r j) d) / 8 - sl * ((r.val : ℝ) + 128 - (fc r j).val) : ℝ) : EReal) else ⊥ := by
  have h1 := qk_apply odd x kk a K hx hk r
  have h2 := own_apply odd r j
  have h3 := dist_apply odd dist r j
  have h4 := slt_rows odd r
  have e1 : scores (bif f then 1#1 else 0#1) b0 b1 dist kk x (ix4 0 0 (row odd r) j)
      = (if j.val ≤ r.val then k0_pay19 kk x (ix2 (row odd r) (⟨128 + j.val, by omega⟩ : Fin 256))
        else (if f = true then ⊥ else k0_pay19 kk x (ix2 (row odd r) (⟨j.val, by omega⟩ : Fin 256))))
        - Ideal.ofBits .f32 (bif odd then b1 else b0) * dist (ix2 r j) := by
    unfold scores
    revert h2 h3 h4
    generalize k0_pay19 kk x = y
    generalize k0_pay2 = own
    generalize k0_pay3 dist = y3
    generalize row odd r = ρ
    intro h2 h3 h4
    pointwise []
    rw [h2, h3, h4, ofBits_bot, select_ite]
    cases f <;> cases odd <;> rfl
  rw [e1, hsl, hdist, h1, h1, ← EReal.coe_mul]
  have hok := ok_fc f r j
  by_cases h : j.val ≤ r.val
  · rw [if_pos h, if_pos (hok.2 (Or.inl h)), ← EReal.coe_sub]
    unfold fc
    rw [if_pos h]
  · rw [if_neg h]
    cases f
    · rw [if_neg (by simp), if_pos (hok.2 (Or.inr rfl)), ← EReal.coe_sub]
      unfold fc
      rw [if_neg h]
    · rw [if_pos rfl, if_neg (fun q => (hok.1 q).elim h (by simp)), EReal.bot_sub]

end Scores

/-! ## The softmax -/

section Softmax

variable (f odd : Bool) (T : Fin 128 → Fin 256 → ℝ) (k : ℝ) (r : Fin 128)
variable (s : Vec Ideal S1x1x256x128 .f32) (e o : EReal)
variable (hs : ∀ j : Fin 128, s (ix4 0 0 (row odd r) j) = if ok f r (fc r j) then ((T r (fc r j) : ℝ) : EReal) else ⊥)
variable (hk : (bif odd then o else e) = (k : EReal))

include hk in
theorem pay59 : k0_pay59 (F := Ideal) e o (ix2 (row odd r) 0) = (k : EReal) := by
  have h4 := slt_rows odd r
  rw [← hk]
  unfold k0_pay59
  revert h4
  generalize row odd r = ρ
  intro h4
  pointwise []
  rw [h4]
  cases odd <;> rfl

include hs hk in
theorem pay60 : ∃ M : ℝ, k0_pay60 (F := Ideal) s e o (ix2 (row odd r) 0) = (M : EReal) := by
  have h := pay59 odd k r e o hk
  unfold k0_pay60 k0_pay58
  revert h
  generalize k0_pay59 (F := Ideal) e o = y
  intro h
  pointwise []
  rw [ofBits_bot, h]
  exact max_real _ (fun j => by rw [hs]; split <;> simp) k

include hs in
theorem pay61 (j : Fin 128) (M : ℝ) (hM : k0_pay60 (F := Ideal) s e o (ix2 (row odd r) 0) = (M : EReal)) :
    k0_pay61 (F := Ideal) s e o (ix2 (row odd r) j) = ((w f T r (fc r j) * Real.exp (-M) : ℝ) : EReal) := by
  unfold k0_pay61 k0_pay58
  revert hM
  generalize k0_pay60 (F := Ideal) s e o = m
  intro hM
  pointwise []
  rw [hs, hM, exp_sub]
  rfl

include hs hk in
theorem pay62 (M : ℝ) (hM : k0_pay60 (F := Ideal) s e o (ix2 (row odd r) 0) = (M : EReal)) :
    k0_pay62 (F := Ideal) s e o (ix2 (row odd r) 0) = ((Zs f T k r * Real.exp (-M) : ℝ) : EReal) := by
  have h61 := fun j => pay61 f odd T r s e o hs j M hM
  have h59 := pay59 odd k r e o hk
  unfold k0_pay62
  revert h61 h59 hM
  generalize k0_pay61 (F := Ideal) s e o = a
  generalize k0_pay60 (F := Ideal) s e o = b
  generalize k0_pay59 (F := Ideal) e o = y
  intro h59 h61 hM
  pointwise []
  simp only [h61, h59, hM, coe_sum]
  rw [← EReal.coe_sub, Ideal.exp_coe, ← EReal.coe_add]
  refine congrArg _ ?_
  rw [← Finset.sum_mul, sum_fc r (w f T r) fun c h => w_out f T r c (not_ok f r c h), sub_eq_add_neg, Real.exp_add, ← add_mul]
  rfl

include hs hk in
/-- The probabilities, put back at the band's columns. -/
theorem probsOf_apply (c : Fin 256) : probsOf (F := Ideal) s e o (ix4 0 0 (row odd r) c) = ((P f T k r c : ℝ) : EReal) := by
  obtain ⟨M, hM⟩ := pay60 f odd T k r s e o hs hk
  have h61 := fun j => pay61 f odd T r s e o hs j M hM
  have h62 := pay62 f odd T k r s e o hs hk M hM
  have h2 := own_apply odd r
  have key : ∀ j, k0_pay61 (F := Ideal) s e o (ix2 (row odd r) j) * Ideal.div 1 (k0_pay62 (F := Ideal) s e o (ix2 (row odd r) 0))
      = ((P f T k r (fc r j) : ℝ) : EReal) := by
    intro j
    rw [h61, h62, ← EReal.coe_one, Ideal.div_coe (ne_of_gt (mul_pos (Zs_pos f T k r) (Real.exp_pos _))), ← EReal.coe_mul, ← EReal.coe_mul]
    refine congrArg _ ?_
    have h1 := Zs_pos f T k r
    have h2 := Real.exp_pos (-M)
    unfold P
    field_simp
  unfold probsOf k0_pay63
  revert key h2
  generalize k0_pay61 (F := Ideal) s e o = a
  generalize k0_pay62 (F := Ideal) s e o = b
  generalize k0_pay2 = own
  generalize row odd r = ρ
  intro h2 key
  pointwise []
  have hr := r.isLt
  have hc := c.isLt
  split
  · next h =>
    have q := h2 ⟨c.val, h⟩
    rw [q, select_ite]
    split
    · next h' => rw [P_out f T k r c (not_ok f r c (by dsimp only at h'; omega))]; rfl
    · next h' =>
      refine (key ⟨c.val, h⟩).trans ?_
      unfold fc
      rw [if_neg h']
  · next h =>
    have q := h2 ⟨c.val - 128, by omega⟩
    rw [q, select_ite]
    split
    · next h' =>
      refine (key ⟨c.val - 128, by omega⟩).trans ?_
      unfold fc
      rw [if_pos h']
      refine congrArg (fun t => ((P f T k r t : ℝ) : EReal)) (Fin.ext ?_)
      show 128 + (c.val - 128) = c.val
      omega
    · next h' => rw [P_out f T k r c (not_ok f r c (by dsimp only at h'; omega))]; rfl

end Softmax

/-- A pair's product with the values: the even head's lanes low, the odd one's high. -/
theorem out_apply (odd : Bool) (vv : FVec Ideal S256x128 .bf16) (p : Vec Ideal S1x1x256x256 .bf16) (K : Fin 256 → Fin 64 → ℝ) (g : Fin 128 → Fin 256 → ℝ)
    (hk : ∀ c l, vv (ix2 c l) = ((K c (half l) : ℝ) : EReal)) (hp : ∀ r c, p (ix4 0 0 (row odd r) c) = ((g r c : ℝ) : EReal)) (r : Fin 128) (d : Fin 64) :
    k0_pay1 vv p (ix2 r (lane odd d)) = ((∑ c, g r c * K c d : ℝ) : EReal) := by
  have key : (∑ c, p (ix4 0 0 (row odd r) c) * vv (ix2 c (lane odd d))) = ((∑ c, g r c * K c d : ℝ) : EReal) := by
    simp only [hp, hk, half_lane, ← EReal.coe_mul, coe_sum]
  rw [← key]
  unfold k0_pay1
  cases odd
  · rw [row_false]
    pointwise []
    rw [slt_bits, select_ite, if_pos (by simp [lane])]
  · rw [row_true]
    pointwise []
    rw [slt_bits, select_ite, if_neg (by simp [lane])]

end Cert.AttnFwdIdeal.Real
-- ==== Proof.AttnFwdBlock.lean ====
/-
  THE ATTENTION'S FORWARD KERNEL over the reals: one block of 128 rows, from the entries of the blocks a grid point holds.
-/
module

public import proofs.«01_k».proof.Proof.AttnFwdReal
public import proofs.«01_k».proof.Proof.AttnFwdParts

@[expose] public section

set_option maxRecDepth 16384
set_option backward.isDefEq.respectTransparency false

noncomputable section

namespace Cert.AttnFwdIdeal.Real

open Cert.AttnFwdIdeal Cert.AttnFwdIdeal.Gen Cert.Step Cert.Attn Idealize.ShloMosaic Idealize.ShloMosaic.TcCoe Idealize.SL.Sem
open Cert.AttnBwdIdeal.Real (lane half slopeBits slope slope_real kvHead)

/-- Row `r` of block `s`. -/
def rowIn (s : Bool) (r : Fin 128) : Fin 256 := ⟨(rowOf s + r.val) % 256, Nat.mod_lt _ (by decide)⟩

/-- The own rows of block `s`. -/
def ownRows {F : FTy → Type} [FloatOps F] (x : Vec F S256x256 .bf16) (s : Bool) : Vec F S128x256 .bf16 := fun y => x (ix2 (rowIn s (y 0)) (y 1))

theorem kBand_eq {F : FTy → Type} [FloatOps F] (x1 : Vec F S256x256 .bf16) (x2 : Vec F S128x256 .bf16) (s hk : Bool) :
    kBand x1 x2 s hk = Cert.AttnBwdIdeal.Real.kBand (ownRows x1 s) (prevOf x1 x2 s) hk := by
  cases hk <;> rfl

theorem vBand_eq {F : FTy → Type} [FloatOps F] (x1 : Vec F S256x256 .bf16) (x2 : Vec F S128x256 .bf16) (s hk : Bool) :
    vBand x1 x2 s hk = Cert.AttnBwdIdeal.Real.vBand (ownRows x1 s) (prevOf x1 x2 s) hk := by
  cases hk <;> rfl

/-- A head is the even or the odd one of its pair. -/
theorem of_pair {α : Type} (g : ℕ → α) (h : ℕ) : (bif h % 2 == 1 then g (2 * (h / 2) + 1) else g (2 * (h / 2))) = g h := by
  cases hb : (h % 2 == 1)
  · have : h % 2 ≠ 1 := by simpa using hb
    exact congrArg g (by omega)
  · have : h % 2 = 1 := by simpa using hb
    exact congrArg g (by omega)

variable (f s : Bool) (x0 : Vec Ideal S256x1024 .bf16) (x1 : Vec Ideal S256x256 .bf16) (x2 : Vec Ideal S128x256 .bf16)
    (x3 : Vec Ideal S128x128 .f32) (x4 : Vec Ideal S16 .f32)
variable (q kv pv : Fin 128 → ℕ → ℝ) (sk : ℕ → ℝ)
variable (h0 : ∀ (r : Fin 128) (l : Fin 1024), x0 (ix2 (rowIn s r) l) = ((q r l.val : ℝ) : EReal))
variable (h1 : ∀ (r : Fin 128) (l : Fin 256), ownRows x1 s (ix2 r l) = ((kv r l.val : ℝ) : EReal))
variable (h2 : ∀ (r : Fin 128) (l : Fin 256), prevOf x1 x2 s (ix2 r l) = ((pv r l.val : ℝ) : EReal))
variable (h3 : ∀ r j : Fin 128, x3 (ix2 r j) = (((r.val : ℝ) + 128 - (fc r j).val : ℝ) : EReal))
variable (h4 : ∀ h < 16, sinkAt x4 h = ((sk h : ℝ) : EReal))

include h0 in
theorem tile_apply (h : ℕ) (hh : h < 16) (r : Fin 128) (d : Fin 64) :
    tile x0 (rowOf s) (128 * (h / 2)) (ix2 r (lane (h % 2 == 1) d)) = ((q r (64 * h + d.val) : ℝ) : EReal) := by
  unfold tile
  refine (h0 r _).trans (congrArg (fun t => ((q r t : ℝ) : EReal)) ?_)
  have e : (h % 2 == 1) = true ↔ h % 2 = 1 := by simp
  show (128 * (h / 2) + (lane (h % 2 == 1) d).val) % 1024 = _
  unfold lane
  cases hb : (h % 2 == 1)
  · have : h % 2 = 0 := by rw [hb] at e; simp at e; exact e
    show (128 * (h / 2) + (0 + d.val)) % 1024 = _
    omega
  · have : h % 2 = 1 := e.1 hb
    show (128 * (h / 2) + (64 + d.val)) % 1024 = _
    omega

include h0 h1 h2 h3 in
theorem sOf_apply (h : ℕ) (hh : h < 16) (r j : Fin 128) :
    sOf (bif f then 1#1 else 0#1) x0 x1 x2 x3 s (h / 2) (ix4 0 0 (row (h % 2 == 1) r) j)
      = if ok f r (fc r j) then ((T q kv pv slope h r (fc r j) : ℝ) : EReal) else ⊥ := by
  unfold sOf
  rw [kBand_eq]
  refine scores_apply (h % 2 == 1) (tile x0 (rowOf s) (128 * (h / 2))) _ (fun r d => q r (64 * h + d.val))
    (fun c d => band pv kv c (64 * (h / 8) + d.val)) (tile_apply s x0 q h0 h hh) (fun c l => ?_) f _ _ x3 (slope h) ?_ h3 r j
  · rw [Cert.AttnBwdIdeal.Real.kBand_apply _ _ kv pv h1 h2, show h / 2 / 4 = h / 8 by omega, kvHead h hh]
  · rw [of_pair slopeBits h, slope_real h hh]

include h0 h1 h2 h3 h4 in
theorem pOf_apply (h : ℕ) (hh : h < 16) (r : Fin 128) (c : Fin 256) :
    pOf (bif f then 1#1 else 0#1) x0 x1 x2 x3 x4 s (h / 2) (ix4 0 0 (row (h % 2 == 1) r) c) = ((PP f q kv pv slope sk h r c : ℝ) : EReal) := by
  unfold pOf
  refine probsOf_apply f (h % 2 == 1) _ (sk h) r _ _ _ (fun j => sOf_apply f s x0 x1 x2 x3 q kv pv h0 h1 h2 h3 h hh r j) ?_ c
  rw [of_pair (sinkAt x4) h, h4 h hh]

/-- The attention's output of one block: head `h`, row `r`, lane `d`. -/
def out (f : Bool) (q kv pv : Fin 128 → ℕ → ℝ) (sk : ℕ → ℝ) (h : ℕ) (r : Fin 128) (d : Fin 64) : ℝ :=
  ∑ c, PP f q kv pv slope sk h r c * band pv kv c (128 + 64 * (h / 8) + d.val)

include h0 h1 h2 h3 h4 in
theorem oOf_apply (h : ℕ) (hh : h < 16) (r : Fin 128) (d : Fin 64) :
    oOf (bif f then 1#1 else 0#1) x0 x1 x2 x3 x4 s (h / 2) (ix2 r (lane (h % 2 == 1) d)) = ((out f q kv pv sk h r d : ℝ) : EReal) := by
  unfold oOf
  rw [vBand_eq]
  refine out_apply (h % 2 == 1) _ _ (fun c d => band pv kv c (128 + 64 * (h / 8) + d.val)) (PP f q kv pv slope sk h) (fun c l => ?_)
    (fun r c => pOf_apply f s x0 x1 x2 x3 x4 q kv pv sk h0 h1 h2 h3 h4 h hh r c) r d
  rw [Cert.AttnBwdIdeal.Real.vBand_apply _ _ kv pv h1 h2, show h / 2 / 4 = h / 8 by omega, kvHead h hh]

end Cert.AttnFwdIdeal.Real

end
-- ==== Proof.AttnFwdRef.lean ====
/-
  THE REFERENCE OF THE FIFTH PAIR over real arguments: the probabilities times the values, in the rows' layout.
-/
module

public import proofs.«01_k».proof.Proof.AttnFwdRefSame
public import proofs.«01_k».proof.Proof.AttnFwdBlock
public import proofs.«01_k».proof.Proof.AttnRefOut

@[expose] public section

set_option maxRecDepth 16384

noncomputable section

namespace Cert.AttnFwdRefIdeal.Real

open Cert.AttnFwdRefIdeal Cert.AttnFwdRefIdeal.Read Cert.Step Cert.Attn Idealize.ShloMosaic Idealize.ShloMosaic.Pointwise
open Cert.AttnRefIdeal.Real (pvR hd PR PR_eq pvR_ok v15 v123')
open Cert.AttnBwdIdeal.Real (rowsAt slope)
open Cert.AttnFwdIdeal.Real (out)

variable (A0 A1 : ℕ → ℕ → ℝ) (SK : ℕ → ℝ)
variable (x0 : (⟨S1x8192x1024, .f32⟩ : BufTy).Contents (Elt Ideal)) (x1 : (⟨S1x8192x256, .f32⟩ : BufTy).Contents (Elt Ideal))
  (x2 : (⟨S1x16, .f32⟩ : BufTy).Contents (Elt Ideal))
variable (h0 : ∀ (r : Fin 8192) (k : Fin 1024), x0 (ix3 0 r k) = ((A0 r.val k.val : ℝ) : EReal))
variable (h1 : ∀ (r : Fin 8192) (k : Fin 256), x1 (ix3 0 r k) = ((A1 r.val k.val : ℝ) : EReal))
variable (h2 : ∀ k : Fin 16, x2 (ix2 0 k) = ((SK k.val : ℝ) : EReal))

/-- A column outside the window counts for nothing, so the rows before the first block may be any. -/
theorem out_eq (n : ℕ) (k : Fin 2) (g : Fin 8) (r : Fin 128) (d : Fin 64) :
    ∑ c, band (pvR A1 n) (rowsAt A1 n) c (128 + 64 * k.val + d.val) * PR A0 A1 SK n (hd k g) r c
      = out (n == 0) (rowsAt A0 n) (rowsAt A1 n) (rowsAt A1 (n - 1)) SK (hd k g) r d := by
  unfold out
  refine Finset.sum_congr rfl fun c _ => ?_
  have e : hd k g / 8 = k.val := by unfold hd; omega
  rw [e, ← PR_eq]
  by_cases q : ok (n == 0) r c
  · rw [pvR_ok A1 n r c q]
    ring
  · rw [show PR A0 A1 SK n (hd k g) r c = 0 from P_out _ _ _ _ _ q]
    ring

include h0 h1 h2 in
theorem v101 (n : Fin 64) (k : Fin 2) (d : Fin 64) (g : Fin 8) (r : Fin 128) : val_main_v101 (F := Ideal) x0 x1 x2 (ix6 0 n k d g r)
    = ((out (n.val == 0) (rowsAt A0 n.val) (rowsAt A1 n.val) (rowsAt A1 (n.val - 1)) SK (hd k g) r d : ℝ) : EReal) := by
  have g15 := fun c => v15 A1 x1 h1 n c k d
  have g100 := fun c => v123' A0 A1 SK x0 x1 x2 h0 h1 h2 n k g r c
  unfold val_main_v101
  rw [e15, e100, ← out_eq]
  revert g15 g100
  generalize Cert.AttnRefIdeal.Read.val_main_v123 (F := Ideal) x0 x1 x2 = a
  generalize Cert.AttnRefIdeal.Read.val_main_v15 (F := Ideal) x1 = b
  intro g15 g100
  pointwise []
  simp only [g15, g100, ← EReal.coe_mul, coe_sum]

include h0 h1 h2 in
theorem out_apply (R : Fin 8192) (l : Fin 1024) : val_main_v105 (F := Ideal) x0 x1 x2 (ix2 R l)
    = ((out (R.val / 128 == 0) (rowsAt A0 (R.val / 128)) (rowsAt A1 (R.val / 128)) (rowsAt A1 (R.val / 128 - 1)) SK (l.val / 64)
        ⟨R.val % 128, Nat.mod_lt _ (by decide)⟩ ⟨l.val % 64, Nat.mod_lt _ (by decide)⟩ : ℝ) : EReal) := by
  have g101 := v101 A0 A1 SK x0 x1 x2 h0 h1 h2
  unfold val_main_v105 val_main_v104 val_main_v103 val_main_v102
  revert g101
  generalize val_main_v101 (F := Ideal) x0 x1 x2 = a
  intro g101
  pointwise []
  rw [g101]
  have e : hd ⟨l.val / 512, by omega⟩ ⟨l.val / 64 % 8, by omega⟩ = l.val / 64 := by
    show l.val / 512 * 8 + l.val / 64 % 8 = l.val / 64
    omega
  rw [e]

end Cert.AttnFwdRefIdeal.Real
-- ==== Proof.AttnFwdDist.lean ====
/-
  THE FORWARD KERNEL'S TABLE OF DISTANCES is the backward kernel's.
-/
module

public import proofs.«01_k».proof.Proof.AttnDist
public import proofs.«01_k».proof.AttnFwdIdeal

@[expose] public section

set_option maxRecDepth 16384

noncomputable section

namespace Cert.AttnFwdIdeal.Real

theorem table_eq : Cert.AttnFwdIdeal.lit0t = Cert.AttnBwdIdeal.lit0t := rfl

end Cert.AttnFwdIdeal.Real
-- ==== Proof.AttnFwdWords.lean ====
/-
  THE ATTENTION'S FORWARD KERNEL, what its body reads back from its two scratch buffers: pair by pair of heads, in both of a
  grid point's blocks of 128 rows, the functions of AttnFwdParts.lean at the blocks the grid point holds.
-/
module

public import proofs.«01_k».proof.Proof.AttnFwdParts
public import proofs.«01_k».proof.Proof.AttnWords
public import proofs.«01_k».proof.Proof.Gen.AttnFwdIdeal.Frame.RunA

@[expose] public section

set_option maxRecDepth 16384

noncomputable section

namespace Cert.AttnFwdIdeal.Real

open Cert.AttnFwdIdeal Cert.AttnFwdIdeal.Gen Cert.AttnFwdIdeal.Gen.kernelRun0_A.sl Idealize.ShloMosaic Idealize.ShloMosaic.TcCoe Idealize.SL.Sem
open Cert.AttnBwdIdeal.Real (hz2 readCov_skip)

variable {F : FTy → Type} [FloatOps F]
variable {c : Dev nD} {i : grid0.Coords}
variable {arg1 : Memref sig .tc .vmem S256x1024 .bf16} {harg1 : arg1.IsWhole} {arg2 : Memref sig .tc .vmem S256x256 .bf16} {harg2 : arg2.IsWhole}
  {arg3 : Memref sig .tc .vmem S128x256 .bf16} {harg3 : arg3.IsWhole} {arg4 : Memref sig .tc .vmem S128x128 .f32} {harg4 : arg4.IsWhole}
  {arg5 : Memref sig .tc .smem S16 .f32} {harg5 : arg5.IsWhole}
  {arg7 : Memref sig .tc .vmem S2x8x256x128 .f32} {arg8 : Memref sig .tc .vmem S2x8x256x256 .bf16}
  {x0 : Vec F S256x1024 .bf16} {x1 : Vec F S256x256 .bf16} {x2 : Vec F S128x256 .bf16} {x3 : Vec F S128x128 .f32} {x4 : Vec F S16 .f32}

/-- 128 rows and 128 lanes of a block of 256 rows. -/
theorem ld_tile {w : ℕ} {e : EltTy} (x : Shape.Idx ⟨2, ![256, w]⟩ → Elt F e) (off : Fin 2 → ℕ) (inb) (y : S128x128.Idx) :
    View.ld x (Rect.unit (s := ⟨2, ![256, w]⟩) off S128x128.size inb) y
      = x (ix2 ⟨(off 0 + (y 0).val) % 256, Nat.mod_lt _ (by decide)⟩
          ⟨(off 1 + (y 1).val) % w, Nat.mod_lt _ (by have := inb 1; simp [S128x128] at this; omega)⟩) := by
  have h0 : off 0 + 128 ≤ 256 := by have := inb 0; simpa [S128x128] using this
  have h1 : off 1 + 128 ≤ w := by have := inb 1; simpa [S128x128] using this
  have hy0 : (y 0).val < 128 := (y 0).isLt
  have hy : (y 1).val < 128 := (y 1).isLt
  rw [View.ld_unit]
  refine extractStridedSlice_apply _ _ _ _ _ fun a => ?_
  match a with
  | 0 => show (off 0 + (y 0).val) % 256 = off 0 + (y 0).val; exact Nat.mod_eq_of_lt (by omega)
  | 1 => show (off 1 + (y 1).val) % w = off 1 + (y 1).val; exact Nat.mod_eq_of_lt (by omega)

theorem ld_q (off : Fin 2 → ℕ) (inb) :
    View.readAt (Elt F) arg1.view (Rect.unit (s := S256x1024) off S128x128.size inb).toLoadRect (harg1.unread x0)
      = tile x0 (off 0) (off 1) := by
  rw [View.readAt_eq_ld, harg1.read_unread]
  exact funext fun y => ld_tile x0 off inb y

theorem ld_kv (off : Fin 2 → ℕ) (inb) :
    View.readAt (Elt F) arg2.view (Rect.unit (s := S256x256) off S128x128.size inb).toLoadRect (harg2.unread x1)
      = kvTile x1 (off 0) (off 1) := by
  rw [View.readAt_eq_ld, harg2.read_unread]
  exact funext fun y => ld_tile x1 off inb y

theorem ld_first (inb) :
    View.readAt (Elt F) arg2.view (Rect.unit (s := S256x256) ![0, 0] S128x256.size inb).toLoadRect (harg2.unread x1) = firstRows x1 := by
  rw [View.readAt_eq_ld, harg2.read_unread]
  rw [View.ld_unit]
  refine funext fun y => extractStridedSlice_apply _ _ _ _ _ fun a => ?_
  match a with
  | 0 => show (y 0).val = 0 + (y 0).val; omega
  | 1 => show (y 1).val = 0 + (y 1).val; omega

theorem ld_prev (inb) :
    View.readAt (Elt F) arg3.view (Rect.unit (s := S128x256) ![0, 0] S128x256.size inb).toLoadRect (harg3.unread x2) = x2 := by
  rw [View.readAt_eq_ld, harg3.read_unread, View.ld_unit_zero (S := S128x256) hz2]

theorem ld_dist (inb) :
    View.readAt (Elt F) arg4.view (Rect.unit (s := S128x128) ![0, 0] S128x128.size inb).toLoadRect (harg4.unread x3) = x3 := by
  rw [View.readAt_eq_ld, harg4.read_unread, View.ld_unit_zero (S := S128x128) hz2]

theorem ld_sink (off : Fin 1 → ℕ) (inb) :
    View.readAt (Elt F) arg5.view (Rect.unit (s := S16) off S1.size inb).toLoadRect (harg5.unread x4)
      = fun _ => sinkAt x4 (off 0) := by
  rw [View.readAt_eq_ld, harg5.read_unread]
  have h1 : off 0 + 1 ≤ 16 := inb 0
  rw [View.ld_unit]
  refine funext fun y => extractStridedSlice_apply _ _ _ _ _ fun a => ?_
  have hy : (y 0).val < 1 := (y 0).isLt
  match a with
  | 0 => show off 0 % 16 = off 0 + (y 0).val; omega

/-- The bands of the first block. -/
theorem band_words :
    v20 c arg2 harg2 arg3 harg3 x1 x2 = kBand x1 x2 false false
    ∧ v25 c arg2 harg2 arg3 harg3 x1 x2 = kBand x1 x2 false true
    ∧ v30 c arg2 harg2 arg3 harg3 x1 x2 = vBand x1 x2 false false
    ∧ v35 c arg2 harg2 arg3 harg3 x1 x2 = vBand x1 x2 false true := by
  refine ⟨?_, ?_, ?_, ?_⟩ <;>
    simp only [v20, v25, v30, v35, v11, v19, v15, v29, v8, v10, v12, v14, v7] <;>
    (repeat first | rw [ld_kv] | rw [ld_prev]) <;>
    rfl

/-- The keys' bands of the second block. -/
theorem next_words (x2 : Vec F S128x256 .bf16) :
    r c arg2 harg2 x1 = kBand x1 x2 true false ∧ r_1 c arg2 harg2 x1 = kBand x1 x2 true true := by
  refine ⟨?_, ?_⟩ <;>
    simp only [r, r_1, v38, v37] <;>
    (repeat first | rw [ld_kv] | rw [ld_first]) <;>
    rfl

set_option maxHeartbeats 1000000 in
/-- The scores, as the softmax reads them back. -/
theorem s_words :
    v534 c i arg1 harg1 arg2 harg2 arg3 harg3 arg4 harg4 arg7 x0 x1 x2 x3 = sOf (v67 i) x0 x1 x2 x3 false 0
    ∧ v567 c i arg1 harg1 arg2 harg2 arg3 harg3 arg4 harg4 arg7 x0 x1 x2 x3 = sOf (v67 i) x0 x1 x2 x3 false 1
    ∧ v600 c i arg1 harg1 arg2 harg2 arg3 harg3 arg4 harg4 arg7 x0 x1 x2 x3 = sOf (v67 i) x0 x1 x2 x3 false 2
    ∧ v633 c i arg1 harg1 arg2 harg2 arg3 harg3 arg4 harg4 arg7 x0 x1 x2 x3 = sOf (v67 i) x0 x1 x2 x3 false 3
    ∧ v666 c i arg1 harg1 arg2 harg2 arg3 harg3 arg4 harg4 arg7 x0 x1 x2 x3 = sOf (v67 i) x0 x1 x2 x3 false 4
    ∧ v699 c i arg1 harg1 arg2 harg2 arg3 harg3 arg4 harg4 arg7 x0 x1 x2 x3 = sOf (v67 i) x0 x1 x2 x3 false 5
    ∧ v732 c i arg1 harg1 arg2 harg2 arg3 harg3 arg4 harg4 arg7 x0 x1 x2 x3 = sOf (v67 i) x0 x1 x2 x3 false 6
    ∧ v765 c i arg1 harg1 arg2 harg2 arg3 harg3 arg4 harg4 arg7 x0 x1 x2 x3 = sOf (v67 i) x0 x1 x2 x3 false 7
    ∧ v798 c i arg1 harg1 arg2 harg2 arg3 harg3 arg4 harg4 arg7 x0 x1 x2 x3 = sOf (v301 i) x0 x1 x2 x3 true 0
    ∧ v831 c i arg1 harg1 arg2 harg2 arg3 harg3 arg4 harg4 arg7 x0 x1 x2 x3 = sOf (v301 i) x0 x1 x2 x3 true 1
    ∧ v864 c i arg1 harg1 arg2 harg2 arg3 harg3 arg4 harg4 arg7 x0 x1 x2 x3 = sOf (v301 i) x0 x1 x2 x3 true 2
    ∧ v897 c i arg1 harg1 arg2 harg2 arg3 harg3 arg4 harg4 arg7 x0 x1 x2 x3 = sOf (v301 i) x0 x1 x2 x3 true 3
    ∧ v930 c i arg1 harg1 arg2 harg2 arg3 harg3 arg4 harg4 arg7 x0 x1 x2 x3 = sOf (v301 i) x0 x1 x2 x3 true 4
    ∧ v963 c i arg1 harg1 arg2 harg2 arg3 harg3 arg4 harg4 arg7 x0 x1 x2 x3 = sOf (v301 i) x0 x1 x2 x3 true 5
    ∧ v c i arg1 harg1 arg2 harg2 arg3 harg3 arg4 harg4 arg7 x0 x1 x2 x3 = sOf (v301 i) x0 x1 x2 x3 true 6
    ∧ v1029 c i arg1 harg1 arg2 harg2 arg3 harg3 arg4 harg4 arg7 x0 x1 x2 x3 = sOf (v301 i) x0 x1 x2 x3 true 7 := by
  refine ⟨?_, ?_, ?_, ?_, ?_, ?_, ?_, ?_, ?_, ?_, ?_, ?_, ?_, ?_, ?_, ?_⟩ <;>
    simp (disch := decide) only [v534, v567, v600, v633, v666, v699, v732, v765, v798, v831, v864, v897, v930, v963, v, v1029, HS0_16, readCov_skip] <;>
    rw [View.readCov_cons_toLoadRect] <;>
    simp only [r_2, r_3, r_4, r_5, r_6, r_7, r_8, r_9, r_10, r_11, r_12, r_13, r_14, r_15, r_16, r_17, r_18, r_19, r_20, r_21, v5, band_words, next_words x2] <;>
    (repeat first | rw [ld_q] | rw [ld_dist]) <;>
    rfl

set_option maxHeartbeats 4000000 in
/-- The probabilities, as the last product reads them back. -/
theorem p_words :
    v1062 c i arg1 harg1 arg2 harg2 arg3 harg3 arg4 harg4 arg5 harg5 arg7 arg8 x0 x1 x2 x3 x4 = pOf (v67 i) x0 x1 x2 x3 x4 false 0
    ∧ v1073 c i arg1 harg1 arg2 harg2 arg3 harg3 arg4 harg4 arg5 harg5 arg7 arg8 x0 x1 x2 x3 x4 = pOf (v67 i) x0 x1 x2 x3 x4 false 1
    ∧ v1084 c i arg1 harg1 arg2 harg2 arg3 harg3 arg4 harg4 arg5 harg5 arg7 arg8 x0 x1 x2 x3 x4 = pOf (v67 i) x0 x1 x2 x3 x4 false 2
    ∧ v1095 c i arg1 harg1 arg2 harg2 arg3 harg3 arg4 harg4 arg5 harg5 arg7 arg8 x0 x1 x2 x3 x4 = pOf (v67 i) x0 x1 x2 x3 x4 false 3
    ∧ v1106 c i arg1 harg1 arg2 harg2 arg3 harg3 arg4 harg4 arg5 harg5 arg7 arg8 x0 x1 x2 x3 x4 = pOf (v67 i) x0 x1 x2 x3 x4 false 4
    ∧ v1117 c i arg1 harg1 arg2 harg2 arg3 harg3 arg4 harg4 arg5 harg5 arg7 arg8 x0 x1 x2 x3 x4 = pOf (v67 i) x0 x1 x2 x3 x4 false 5
    ∧ v1128 c i arg1 harg1 arg2 harg2 arg3 harg3 arg4 harg4 arg5 harg5 arg7 arg8 x0 x1 x2 x3 x4 = pOf (v67 i) x0 x1 x2 x3 x4 false 6
    ∧ v1139 c i arg1 harg1 arg2 harg2 arg3 harg3 arg4 harg4 arg5 harg5 arg7 arg8 x0 x1 x2 x3 x4 = pOf (v67 i) x0 x1 x2 x3 x4 false 7
    ∧ v1150 c i arg1 harg1 arg2 harg2 arg3 harg3 arg4 harg4 arg5 harg5 arg7 arg8 x0 x1 x2 x3 x4 = pOf (v301 i) x0 x1 x2 x3 x4 true 0
    ∧ v1161 c i arg1 harg1 arg2 harg2 arg3 harg3 arg4 harg4 arg5 harg5 arg7 arg8 x0 x1 x2 x3 x4 = pOf (v301 i) x0 x1 x2 x3 x4 true 1
    ∧ v1172 c i arg1 harg1 arg2 harg2 arg3 harg3 arg4 harg4 arg5 harg5 arg7 arg8 x0 x1 x2 x3 x4 = pOf (v301 i) x0 x1 x2 x3 x4 true 2
    ∧ v1183 c i arg1 harg1 arg2 harg2 arg3 harg3 arg4 harg4 arg5 harg5 arg7 arg8 x0 x1 x2 x3 x4 = pOf (v301 i) x0 x1 x2 x3 x4 true 3
    ∧ v1194 c i arg1 harg1 arg2 harg2 arg3 harg3 arg4 harg4 arg5 harg5 arg7 arg8 x0 x1 x2 x3 x4 = pOf (v301 i) x0 x1 x2 x3 x4 true 4
    ∧ v1205 c i arg1 harg1 arg2 harg2 arg3 harg3 arg4 harg4 arg5 harg5 arg7 arg8 x0 x1 x2 x3 x4 = pOf (v301 i) x0 x1 x2 x3 x4 true 5
    ∧ v1216 c i arg1 harg1 arg2 harg2 arg3 harg3 arg4 harg4 arg5 harg5 arg7 arg8 x0 x1 x2 x3 x4 = pOf (v301 i) x0 x1 x2 x3 x4 true 6
    ∧ v1227 c i arg1 harg1 arg2 harg2 arg3 harg3 arg4 harg4 arg5 harg5 arg7 arg8 x0 x1 x2 x3 x4 = pOf (v301 i) x0 x1 x2 x3 x4 true 7 := by
  refine ⟨?_, ?_, ?_, ?_, ?_, ?_, ?_, ?_, ?_, ?_, ?_, ?_, ?_, ?_, ?_, ?_⟩ <;>
    simp (disch := decide) only [v1062, v1073, v1084, v1095, v1106, v1117, v1128, v1139, v1150, v1161, v1172, v1183, v1194, v1205, v1216, v1227, HS1_16, readCov_skip] <;>
    rw [View.readCov_cons_toLoadRect] <;>
    simp only [r_22, r_23, r_24, r_25, r_26, r_27, r_28, r_29, r_30, r_31, r_32, r_33, r_34, r_35, r_36, r_37, r_38, r_39, r_40, r_41, r_42, r_43, r_44, r_45, r_46, r_47, r_48, r_49, r_50, r_51, r_52, r_53, r_54, r_55, r_56] <;>
    simp only [s_words] <;>
    (repeat rw [ld_sink]) <;>
    rfl

end Cert.AttnFwdIdeal.Real
-- ==== Proof.AttnFwdOut.lean ====
/-
  THE ATTENTION'S FORWARD KERNEL, what a grid point leaves in its output block: sixteen tiles, two blocks of 128 rows of
  eight pairs of heads.
-/
module

public import proofs.«01_k».proof.Proof.AttnFwdWords
public import proofs.«01_k».proof.Proof.Gen.AttnFwdIdeal.Value

@[expose] public section

set_option maxRecDepth 16384

noncomputable section

namespace Cert.AttnFwdIdeal.Real

open Cert.AttnFwdIdeal Cert.AttnFwdIdeal.Gen Cert.AttnFwdIdeal.Gen.kernelRun0_A.sl Idealize.ShloMosaic Idealize.ShloMosaic.TcCoe Idealize.SL.Sem
open Cert.AttnBwdIdeal.Real (hz2 readCov_skip)

variable {F : FTy → Type} [FloatOps F]

/-- Sixteen tiles, two rows of eight. -/
def oBlock (g : Bool → ℕ → Vec F S128x128 .bf16) : Vec F S256x1024 .bf16 :=
  fun y : S256x1024.Idx => g ((y 0).val / 128 == 1) ((y 1).val / 128)
    (ix2 ⟨(y 0).val % 128, Nat.mod_lt _ (by decide)⟩ ⟨(y 1).val % 128, Nat.mod_lt _ (by decide)⟩)

/-- Reading one of them at its place. -/
theorem o_piece (g : Bool → ℕ → Vec F S128x128 .bf16) (s : Bool) (n : ℕ) (off : Fin 2 → ℕ) (inb) (h0 : off 0 = bif s then 128 else 0)
    (h1 : off 1 = 128 * n) (x : S128x128.Idx) :
    g s n x = oBlock g ((Rect.unit (s := S256x1024) off S128x128.size inb).emb x) := by
  have hx0 : (x 0).val < 128 := (x 0).isLt
  have hx : (x 1).val < 128 := (x 1).isLt
  have e0 : ((Rect.unit (s := S256x1024) off S128x128.size inb).emb x 0).val = (bif s then 128 else 0) + (x 0).val := by
    show off 0 + 1 * (x 0).val = _; omega
  have e1 : ((Rect.unit (s := S256x1024) off S128x128.size inb).emb x 1).val = 128 * n + (x 1).val := by
    show off 1 + 1 * (x 1).val = _; omega
  have key : ∀ u v : ℕ, u = (bif s then 128 else 0) + (x 0).val → v = 128 * n + (x 1).val →
      g s n x = g (u / 128 == 1) (v / 128) (ix2 ⟨u % 128, Nat.mod_lt _ (by decide)⟩ ⟨v % 128, Nat.mod_lt _ (by decide)⟩) := by
    rintro u v rfl rfl
    rw [show (128 * n + (x 1).val) / 128 = n by omega]
    have es : (((bif s then 128 else 0) + (x 0).val) / 128 == 1) = s := by
      cases s
      · show ((0 + (x 0).val) / 128 == 1) = false
        rw [show (0 + (x 0).val) / 128 = 0 by omega]; rfl
      · show ((128 + (x 0).val) / 128 == 1) = true
        rw [show (128 + (x 0).val) / 128 = 1 by omega]; rfl
    rw [es]
    refine congrArg (g s n) (funext fun b => Fin.ext ?_)
    match b with
    | 0 =>
      show (x 0).val = ((bif s then 128 else 0) + (x 0).val) % 128
      cases s
      · show (x 0).val = (0 + (x 0).val) % 128; omega
      · show (x 0).val = (128 + (x 0).val) % 128; omega
    | 1 =>
      show (x 1).val = (128 * n + (x 1).val) % 128
      omega
  exact key _ _ e0 e1

variable (c : Dev nD) (i : grid0.Coords)
variable (arg1 : Memref sig .tc .vmem S256x1024 .bf16) (harg1 : arg1.IsWhole) (arg2 : Memref sig .tc .vmem S256x256 .bf16) (harg2 : arg2.IsWhole)
  (arg3 : Memref sig .tc .vmem S128x256 .bf16) (harg3 : arg3.IsWhole) (arg4 : Memref sig .tc .vmem S128x128 .f32) (harg4 : arg4.IsWhole)
  (arg5 : Memref sig .tc .smem S16 .f32) (harg5 : arg5.IsWhole) (arg6 : Memref sig .tc .vmem S256x1024 .bf16) (harg6 : arg6.IsWhole)
  (arg7 : Memref sig .tc .vmem S2x8x256x128 .f32) (harg7 : arg7.IsWhole) (arg8 : Memref sig .tc .vmem S2x8x256x256 .bf16) (harg8 : arg8.IsWhole)
  (x0 : Vec F S256x1024 .bf16) (x1 : Vec F S256x256 .bf16) (x2 : Vec F S128x256 .bf16) (x3 : Vec F S128x128 .f32) (x4 : Vec F S16 .f32)

/-- Whether a block is the sequence's first. -/
def isFirst (i : grid0.Coords) (s : Bool) : BitVec 1 := bif s then v301 i else v67 i

/-- What pair `p` stores in block `s` of the grid point. -/
def oAt (s : Bool) (p : ℕ) : Vec F S128x128 .bf16 := oOf (isFirst i s) x0 x1 x2 x3 x4 s p

/-- The values' bands of the second block. -/
theorem nextv_words {arg2 : Memref sig .tc .vmem S256x256 .bf16} {harg2 : arg2.IsWhole} {x1 : Vec F S256x256 .bf16} (x2 : Vec F S128x256 .bf16) :
    r_2 c arg2 harg2 x1 = vBand x1 x2 true false ∧ r_3 c arg2 harg2 x1 = vBand x1 x2 true true := by
  refine ⟨?_, ?_⟩ <;>
    simp only [r_2, r_3, v38, v37] <;>
    (repeat first | rw [ld_kv] | rw [ld_first]) <;>
    rfl

theorem out_A_5 : out0_A_5 c i arg1 harg1 arg2 harg2 arg3 harg3 arg4 harg4 arg5 harg5 arg6 harg6 arg7 harg7 arg8 harg8 x0 x1 x2 x3 x4
    = oBlock (oAt i x0 x1 x2 x3 x4) := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  obtain ⟨b0, b1⟩ := nextv_words c (arg2 := arg2) (harg2 := harg2) (x1 := x1) x2
  simp only [r_57, r_58, r_59, r_60, r_61, r_62, p_words, band_words, b0, b1]
  funext y
  refine View.canon_apply_of_pieces (Val := Elt F) (e := .bf16) (oBlock (oAt i x0 x1 x2 x3 x4)) _ (fun p hp x => ?_) y ?_
  · simp only [List.mem_cons, List.not_mem_nil, or_false] at hp
    rcases hp with rfl | rfl | rfl | rfl | rfl | rfl | rfl | rfl | rfl | rfl | rfl | rfl | rfl | rfl | rfl | rfl
    exacts [o_piece (oAt i x0 x1 x2 x3 x4) true 7 _ inb_S256x1024_S128x128_128_896 rfl rfl x, o_piece (oAt i x0 x1 x2 x3 x4) true 6 _ inb_S256x1024_S128x128_128_768 rfl rfl x, o_piece (oAt i x0 x1 x2 x3 x4) true 5 _ inb_S256x1024_S128x128_128_640 rfl rfl x, o_piece (oAt i x0 x1 x2 x3 x4) true 4 _ inb_S256x1024_S128x128_128_512 rfl rfl x, o_piece (oAt i x0 x1 x2 x3 x4) true 3 _ inb_S256x1024_S128x128_128_384 rfl rfl x, o_piece (oAt i x0 x1 x2 x3 x4) true 2 _ inb_S256x1024_S128x128_128_256 rfl rfl x, o_piece (oAt i x0 x1 x2 x3 x4) true 1 _ inb_S256x1024_S128x128_128_128 rfl rfl x, o_piece (oAt i x0 x1 x2 x3 x4) true 0 _ inb_S256x1024_S128x128_128_0 rfl rfl x, o_piece (oAt i x0 x1 x2 x3 x4) false 7 _ inb_S256x1024_S128x128_0_896 rfl rfl x, o_piece (oAt i x0 x1 x2 x3 x4) false 6 _ inb_S256x1024_S128x128_0_768 rfl rfl x, o_piece (oAt i x0 x1 x2 x3 x4) false 5 _ inb_S256x1024_S128x128_0_640 rfl rfl x, o_piece (oAt i x0 x1 x2 x3 x4) false 4 _ inb_S256x1024_S128x128_0_512 rfl rfl x, o_piece (oAt i x0 x1 x2 x3 x4) false 3 _ inb_S256x1024_S128x128_0_384 rfl rfl x, o_piece (oAt i x0 x1 x2 x3 x4) false 2 _ inb_S256x1024_S128x128_0_256 rfl rfl x, o_piece (oAt i x0 x1 x2 x3 x4) false 1 _ inb_S256x1024_S128x128_0_128 rfl rfl x, o_piece (oAt i x0 x1 x2 x3 x4) false 0 _ inb_S256x1024_S128x128_0_0 rfl rfl x]
  · exact View.cover_of_tiledL (Val := Elt F) (s := S256x1024) (e := .bf16) _ S128x128.size (by sl_kernel_rfl) y

variable (m : (ℓ : Loc nD τ sig) → Buf (Elt F) ℓ) (t : Fin cfg0.N)

theorem after5 : outsAt0 m c t
    = oBlock (oAt (grid0.coords t) (iblk m c 0 t) (iblk m c 1 t) (iblk m c 2 t) (iblk m c 3 t) (iblk m c 4 t)) := by
  unfold outsAt0
  rw [out_A_5]

end Cert.AttnFwdIdeal.Real

end
-- ==== Proof.AttnFwdBlk.lean ====
/-
  THE ATTENTION'S FORWARD KERNEL, its blocks: what each input window reads at a grid point, over real arguments.
-/
module

public import proofs.«01_k».proof.Proof.AttnFwdDist
public import proofs.«01_k».proof.Proof.AttnFwdOut
public import proofs.«01_k».proof.Proof.AttnFwdBlock
public import proofs.«01_k».proof.Proof.AttnBlk
public import proofs.«01_k».proof.Proof.Common
public import proofs.«01_k».proof.Proof.Gen.AttnFwdIdeal.Value
public import Idealize.ShloMosaic.Lib.ValueLayout

@[expose] public section

set_option maxRecDepth 16384
set_option backward.isDefEq.respectTransparency false

noncomputable section

namespace Cert.AttnFwdIdeal.Real

open Cert.AttnFwdIdeal Cert.AttnFwdIdeal.Gen Cert.Step Cert.Attn Idealize.ShloMosaic Idealize.ShloMosaic.TcCoe Idealize.SL.Sem
open Idealize.ShloMosaic.StableHlo
open Cert.AttnBwdIdeal.Real (rowsAt dist_lit)
open Idealize.ShloMosaic.ValueIdx (shapeCast_1a_a_apply)

variable (m : (ℓ : Loc nD τ sig) → Buf (Elt Ideal) ℓ) (c : Dev nD)

theorem V_v1 : V m c main_v1 = truncf (F := Ideal) .bf16 (shapeCast S8192x1024 (m ((c : Thread nD τ).loc main_arg0)) shapeCasts_S1x8192x1024_S8192x1024) bitsLt_bf16_f32 := by
  show StableHlo.after hostOps0 _ _ = _
  after_results
  rfl

theorem V_v3 : V m c main_v3 = truncf (F := Ideal) .bf16 (shapeCast S8192x256 (m ((c : Thread nD τ).loc main_arg1)) shapeCasts_S1x8192x256_S8192x256) bitsLt_bf16_f32 := by
  show StableHlo.after hostOps0 _ _ = _
  after_results
  rfl

theorem V_v4 : V m c main_v4 = shapeCast S16 (m ((c : Thread nD τ).loc main_arg2)) shapeCasts_S1x16_S16 := by
  show StableHlo.after hostOps0 _ _ = _
  after_results
  rfl

theorem V_cst : V m c main_cst = fun i => FloatOps.ofBits (F := Ideal) .f32 (lit0 (S128x128.rowMajor i)) := by
  show StableHlo.after hostOps0 _ _ = _
  after_results
  rfl

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 2 * t.val - 1 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 := by decide +kernel

/-- The first block of the first grid point is the only one without a block before it. -/
theorem first_bits : ∀ (t : Fin cfg0.N) (s : Bool), isFirst (grid0.coords t) s = bif (2 * t.val + s.toNat == 0) then 1#1 else 0#1 :=
  (by decide +kernel : ∀ (t : Fin grid0.N) (s : Bool), isFirst (grid0.coords t) s = bif (2 * t.val + s.toNat == 0) then 1#1 else 0#1)

variable (t : Fin cfg0.N)

theorem N32 : t.val < 32 := by have h : cfg0.N = 32 := N_0; have := t.isLt; omega

variable (A0 A1 : ℕ → ℕ → ℝ) (SK : ℕ → ℝ)
variable (hA0 : ∀ (r : Fin 8192) (k : Fin 1024), m ((c : Thread nD τ).loc main_arg0) (ix3 0 r k) = ((A0 r.val k.val : ℝ) : EReal))
variable (hA1 : ∀ (r : Fin 8192) (k : Fin 256), m ((c : Thread nD τ).loc main_arg1) (ix3 0 r k) = ((A1 r.val k.val : ℝ) : EReal))
variable (hSK : ∀ k : Fin 16, m ((c : Thread nD τ).loc main_arg2) (ix2 0 k) = ((SK k.val : ℝ) : EReal))

include hA0 in
theorem blk0 (r : Fin 256) (k : Fin 1024) : (iblk m c 0 t : Vec Ideal S256x1024 .bf16) (ix2 r k) = ((A0 (t.val * 256 + r.val) k.val : ℝ) : EReal) := by
  have hN := N32 t
  unfold iblk
  rw [View.read_apply]
  show V m c main_v1 _ = _
  rw [V_v1]
  refine (congrArg _ (show _ = ix2 (⟨(t.val) * 256 + r.val, by omega⟩ : Fin 8192) k from ?_)).trans ((slab_apply _ _ _ _).trans (hA0 _ _))
  funext a
  apply Fin.ext
  match a with
  | ⟨0, _⟩ => show win0_0.index t 0 * 256 + 1 * r.val = (t.val) * 256 + r.val; rw [(idx0 t).1]; omega
  | ⟨1, _⟩ => show win0_0.index t 1 * 1024 + 1 * k.val = k.val; rw [(idx0 t).2]; omega

include hA1 in
theorem blk1 (r : Fin 256) (k : Fin 256) : (iblk m c 1 t : Vec Ideal S256x256 .bf16) (ix2 r k) = ((A1 (t.val * 256 + r.val) k.val : ℝ) : EReal) := by
  have hN := N32 t
  unfold iblk
  rw [View.read_apply]
  show V m c main_v3 _ = _
  rw [V_v3]
  refine (congrArg _ (show _ = ix2 (⟨(t.val) * 256 + r.val, by omega⟩ : Fin 8192) k from ?_)).trans ((slab_apply _ _ _ _).trans (hA1 _ _))
  funext a
  apply Fin.ext
  match a with
  | ⟨0, _⟩ => show win0_1.index t 0 * 256 + 1 * r.val = (t.val) * 256 + r.val; rw [(idx1 t).1]; omega
  | ⟨1, _⟩ => show win0_1.index t 1 * 256 + 1 * k.val = k.val; rw [(idx1 t).2]; omega

include hA1 in
theorem blk2 (r : Fin 128) (k : Fin 256) : (iblk m c 2 t : Vec Ideal S128x256 .bf16) (ix2 r k) = ((A1 ((2 * t.val - 1) * 128 + r.val) k.val : ℝ) : EReal) := by
  have hN := N32 t
  unfold iblk
  rw [View.read_apply]
  show V m c main_v3 _ = _
  rw [V_v3]
  refine (congrArg _ (show _ = ix2 (⟨(2 * t.val - 1) * 128 + r.val, by omega⟩ : Fin 8192) k from ?_)).trans ((slab_apply _ _ _ _).trans (hA1 _ _))
  funext a
  apply Fin.ext
  match a with
  | ⟨0, _⟩ => show win0_2.index t 0 * 128 + 1 * r.val = (2 * t.val - 1) * 128 + r.val; rw [(idx2 t).1]; omega
  | ⟨1, _⟩ => show win0_2.index t 1 * 256 + 1 * k.val = k.val; rw [(idx2 t).2]; omega

theorem blk3 (r j : Fin 128) : (iblk m c 3 t : Vec Ideal S128x128 .f32) (ix2 r j) = (((r.val : ℝ) + 128 - (fc r j).val : ℝ) : EReal) := by
  unfold iblk
  rw [View.read_apply]
  show V m c main_cst _ = _
  rw [V_cst]
  refine (congrArg (fun i => FloatOps.ofBits (F := Ideal) .f32 (lit0 (S128x128.rowMajor i))) (show _ = ix2 r j from ?_)).trans ?_
  · funext a
    apply Fin.ext
    match a with
    | ⟨0, _⟩ => show win0_3.index t 0 * 128 + 1 * r.val = r.val; rw [(idx3 t).1]; omega
    | ⟨1, _⟩ => show win0_3.index t 1 * 128 + 1 * j.val = j.val; rw [(idx3 t).2]; omega
  · refine Eq.trans (congrArg (Ideal.ofBits .f32) ?_) (dist_lit r j)
    show lit0t (S128x128.rowMajor (ix2 r j)).val = _
    rw [table_eq, Shape.rowMajor_val_two]
    rfl

include hSK in
theorem blk4 (h : ℕ) (hh : h < 16) : sinkAt (iblk m c 4 t : Vec Ideal S16 .f32) h = ((SK h : ℝ) : EReal) := by
  unfold sinkAt iblk
  rw [View.read_apply]
  show V m c main_v4 _ = _
  rw [V_v4]
  refine (congrArg _ (show _ = ix1 (⟨h, hh⟩ : Fin 16) from ?_)).trans ((shapeCast_1a_a_apply _ _ _).trans (hSK ⟨h, hh⟩))
  funext a
  apply Fin.ext
  match a with
  | ⟨0, _⟩ => show win0_4.index t 0 * 16 + 1 * (h % 16) = h; rw [idx4 t]; omega

end Cert.AttnFwdIdeal.Real
-- ==== Proof.AttnFwdFinal.lean ====
/-
  THE ATTENTION'S FORWARD KERNEL, its result array over real arguments: each grid point writes two blocks of rows back.
-/
module

public import proofs.«01_k».proof.Proof.AttnFwdBlk
public import Idealize.ShloMosaic.Lib.Pipeline.ValueKit.Geometry
public import Idealize.ShloMosaic.Lib.Pipeline.ValueKit.Acc

@[expose] public section

set_option maxRecDepth 16384
set_option backward.isDefEq.respectTransparency false

noncomputable section

namespace Cert.AttnFwdIdeal.Real

open Cert.AttnFwdIdeal Cert.AttnFwdIdeal.Gen Cert.Step Cert.Attn Idealize.ShloMosaic Idealize.ShloMosaic.TcCoe Idealize.SL.Sem
open Idealize.ShloMosaic.Pointwise
open Cert.AttnBwdIdeal.Real (rowsAt lane)

variable (m : (ℓ : Loc nD τ sig) → Buf (Elt Ideal) ℓ) (c : Dev nD)
variable (A0 A1 : ℕ → ℕ → ℝ) (SK : ℕ → ℝ)
variable (hA0 : ∀ (r : Fin 8192) (k : Fin 1024), m ((c : Thread nD τ).loc main_arg0) (ix3 0 r k) = ((A0 r.val k.val : ℝ) : EReal))
variable (hA1 : ∀ (r : Fin 8192) (k : Fin 256), m ((c : Thread nD τ).loc main_arg1) (ix3 0 r k) = ((A1 r.val k.val : ℝ) : EReal))
variable (hSK : ∀ k : Fin 16, m ((c : Thread nD τ).loc main_arg2) (ix2 0 k) = ((SK k.val : ℝ) : EReal))

/-- Head `h` of block `n`. -/
def bO (n h : ℕ) (r : Fin 128) (d : Fin 64) : ℝ := out (n == 0) (rowsAt A0 n) (rowsAt A1 n) (rowsAt A1 (n - 1)) SK h r d

def outArr (i : S8192x1024.Idx) : EReal :=
  ((bO A0 A1 SK ((i 0).val / 128) ((i 1).val / 64) ⟨(i 0).val % 128, Nat.mod_lt _ (by decide)⟩ ⟨(i 1).val % 64, Nat.mod_lt _ (by decide)⟩ : ℝ) : EReal)

theorem idx5 : ∀ t : Fin cfg0.N, win0_5.index t = ![t.val, 0] := (by decide +kernel : ∀ t : Fin grid0.N, win0_5.index t = ![t.val, 0])

theorem rowIn_val (s : Bool) (r : Fin 128) : (rowIn s r).val = s.toNat * 128 + r.val := by
  cases s
  · show (0 + r.val) % 256 = 0 * 128 + r.val
    omega
  · show (128 + r.val) % 256 = 1 * 128 + r.val
    omega

variable (t : Fin cfg0.N) (s : Bool)

include hA0 in
theorem own_q (r : Fin 128) (l : Fin 1024) :
    (iblk m c 0 t : Vec Ideal S256x1024 .bf16) (ix2 (rowIn s r) l) = ((rowsAt A0 (2 * t.val + s.toNat) r l.val : ℝ) : EReal) := by
  rw [blk0 m c t A0 hA0, rowIn_val]
  unfold rowsAt
  rw [show t.val * 256 + (s.toNat * 128 + r.val) = (2 * t.val + s.toNat) * 128 + r.val by omega]

include hA1 in
theorem own_kv (r : Fin 128) (l : Fin 256) :
    ownRows (iblk m c 1 t : Vec Ideal S256x256 .bf16) s (ix2 r l) = ((rowsAt A1 (2 * t.val + s.toNat) r l.val : ℝ) : EReal) := by
  refine (blk1 m c t A1 hA1 (rowIn s r) l).trans ?_
  rw [rowIn_val]
  unfold rowsAt
  rw [show t.val * 256 + (s.toNat * 128 + r.val) = (2 * t.val + s.toNat) * 128 + r.val by omega]

include hA1 in
theorem prev_kv (r : Fin 128) (l : Fin 256) :
    prevOf (iblk m c 1 t : Vec Ideal S256x256 .bf16) (iblk m c 2 t : Vec Ideal S128x256 .bf16) s (ix2 r l)
      = ((rowsAt A1 (2 * t.val + s.toNat - 1) r l.val : ℝ) : EReal) := by
  cases s
  · exact blk2 m c t A1 hA1 r l
  · refine (blk1 m c t A1 hA1 ⟨r.val, lt_trans r.isLt (by decide)⟩ l).trans ?_
    unfold rowsAt
    show ((A1 (t.val * 256 + r.val) l.val : ℝ) : EReal) = ((A1 ((2 * t.val + 1 - 1) * 128 + r.val) l.val : ℝ) : EReal)
    rw [show t.val * 256 + r.val = (2 * t.val + 1 - 1) * 128 + r.val by omega]

include hA0 hA1 hSK in
theorem o_block (h : ℕ) (hh : h < 16) (r : Fin 128) (d : Fin 64) :
    oAt (grid0.coords t) (iblk m c 0 t) (iblk m c 1 t) (iblk m c 2 t) (iblk m c 3 t) (iblk m c 4 t) s (h / 2) (ix2 r (lane (h % 2 == 1) d))
      = ((bO A0 A1 SK (2 * t.val + s.toNat) h r d : ℝ) : EReal) := by
  unfold oAt
  rw [first_bits]
  exact oOf_apply (2 * t.val + s.toNat == 0) s _ _ _ _ _ _ _ _ SK (own_q m c A0 hA0 t s) (own_kv m c A1 hA1 t s) (prev_kv m c A1 hA1 t s)
    (blk3 m c t) (blk4 m c t SK hSK) h hh r d

include hA0 hA1 hSK in
theorem rows_block (r : Fin 256) (l : Fin 1024) :
    oBlock (oAt (grid0.coords t) (iblk m c 0 t) (iblk m c 1 t) (iblk m c 2 t) (iblk m c 3 t) (iblk m c 4 t)) (ix2 r l)
      = ((bO A0 A1 SK (2 * t.val + r.val / 128) (l.val / 64) ⟨r.val % 128, Nat.mod_lt _ (by decide)⟩ ⟨l.val % 64, Nat.mod_lt _ (by decide)⟩ : ℝ) : EReal) := by
  have hl := l.isLt
  have hr := r.isLt
  have hs : (r.val / 128 == 1).toNat = r.val / 128 := by
    have : r.val / 128 = 0 ∨ r.val / 128 = 1 := by omega
    rcases this with e | e <;> rw [e] <;> rfl
  have g := o_block m c A0 A1 SK hA0 hA1 hSK t (r.val / 128 == 1) (l.val / 64) (by omega) ⟨r.val % 128, Nat.mod_lt _ (by decide)⟩
    ⟨l.val % 64, Nat.mod_lt _ (by decide)⟩
  rw [hs] at g
  refine Eq.trans ?_ g
  rw [show l.val / 64 / 2 = l.val / 128 by omega]
  unfold oBlock
  refine congrArg _ (congrArg (ix2 _) (Fin.ext ?_))
  show l.val % 128 = (bif (l.val / 64 % 2 == 1) then 64 else 0) + l.val % 64
  cases hb : (l.val / 64 % 2 == 1)
  · have : l.val / 64 % 2 ≠ 1 := by simpa using hb
    show _ = 0 + _
    omega
  · have : l.val / 64 % 2 = 1 := by simpa using hb
    show _ = 64 + _
    omega

include hA0 hA1 hSK in
theorem final5 : (dats m 0 c).arrAt 5 cfg0.N = outArr A0 A1 SK := by
  refine (dats m 0 c).arrAt_eq_of_covers 5 _ (by decide +kernel) fun t hf y => ?_
  have hN := N32 t
  obtain ⟨r, l, rfl⟩ : ∃ (r : Fin 256) (l : Fin 1024), y = ix2 r l := ⟨y 0, y 1, by blk_ext []⟩
  have e : (win0_5.blk t).view.emb (ix2 r l) = ix2 (⟨t.val * 256 + r.val, by omega⟩ : Fin 8192) l := by
    blk_ext [idx5 t]
  blk_simp
  rw [after0_5, after5, e]
  refine (rows_block m c A0 A1 SK hA0 hA1 hSK t r l).trans ?_
  unfold outArr
  refine congrArg _ ?_
  show bO A0 A1 SK (2 * t.val + r.val / 128) (l.val / 64) _ _ = bO A0 A1 SK ((t.val * 256 + r.val) / 128) (l.val / 64) ⟨(t.val * 256 + r.val) % 128, _⟩ _
  rw [show (t.val * 256 + r.val) / 128 = 2 * t.val + r.val / 128 by omega]
  exact congrArg (fun r' => bO A0 A1 SK _ (l.val / 64) r' _) (Fin.ext (by show r.val % 128 = (t.val * 256 + r.val) % 128; omega))

end Cert.AttnFwdIdeal.Real
-- ==== Proof.AttnFwdClaim.lean ====
/-
  THE FIFTH PAIR, put together: at finite arguments the attention's forward kernel and the plain banded attention both run
  and leave equal arrays.
-/
module

public import proofs.«01_k».proof.Defs
public import proofs.«01_k».proof.Proof.AttnFwdRef
public import proofs.«01_k».proof.Proof.AttnFwdFinal
public import proofs.«01_k».proof.Proof.Gen.AttnFwd.Frame
public import proofs.«01_k».proof.Proof.Gen.AttnFwdRefIdeal.Run
public import proofs.«01_k».proof.Proof.Gen.Pre_finite_attn_fwd

@[expose] public section

set_option maxRecDepth 16384

noncomputable section

namespace Cert.AttnFwdClaim

open Cert.Step Idealize.ShloMosaic Idealize.ShloMosaic.TcCoe Idealize.SL.Sem

/-- The precondition, read: the three arguments are arrays of reals. -/
theorem reals (x0 : FVec Ideal Pre_finite_attn_fwd.S1x8192x1024 .f32) (x1 : FVec Ideal Pre_finite_attn_fwd.S1x8192x256 .f32)
    (x2 : FVec Ideal Pre_finite_attn_fwd.S1x16 .f32) (h : Pre_finite_attn_fwd.fn (F := Ideal) x0 x1 x2 = fun _ => 1#1) :
    (∃ H : ℕ → ℕ → ℝ, ∀ i, x0 i = ((H (i 1).val (i 2).val : ℝ) : EReal)) ∧ (∃ W : ℕ → ℕ → ℝ, ∀ i, x1 i = ((W (i 1).val (i 2).val : ℝ) : EReal))
    ∧ (∃ G : ℕ → ℝ, ∀ i, x2 i = ((G (i 1).val : ℝ) : EReal)) := by
  have e := congrFun h (fun a => a.elim0)
  unfold Pre_finite_attn_fwd.fn at e
  dsimp only at e
  obtain ⟨e, e2⟩ := and_split _ _ _ e
  obtain ⟨e0, e1⟩ := and_split _ _ _ e
  haveI : Subsingleton Pre_finite_attn_fwd.S_.Idx := ⟨fun a b => funext fun i => i.elim0⟩
  exact ⟨exists_slab _ (real_of_all _ _ _ _ _ (fun _ => rfl) _ e0), exists_slab _ (real_of_all _ _ _ _ _ (fun _ => rfl) _ e1),
    exists_row _ (real_of_all _ _ _ _ _ (fun _ => rfl) _ e2)⟩

/-- An index of a matrix is the pair of its coordinates. -/
theorem eq_ix2 {a b : ℕ} (i : (⟨2, ![a, b]⟩ : Shape).Idx) : i = ix2 (i 0) (i 1) := by
  funext t
  fin_cases t <;> rfl

theorem algebraic : Cert.algebraic_AttnFwdIdeal_AttnFwdRefIdeal_pre_finite_attn_fwd := by
  intro m g m' g' hpre harg
  refine ⟨fun c => (Cert.AttnFwdIdeal.Gen.dats m 0 c).arrAt 5 Cert.AttnFwdIdeal.cfg0.N, Cert.AttnFwdIdeal.Value.run_blocks m g, ?_⟩
  refine (θ_run _ _ _).mono (fun r h c => ?_) (Cert.AttnFwdRefIdeal.Value.run m' g')
  obtain ⟨⟨A0, h0⟩, ⟨A1, h1⟩, ⟨SK, h2⟩⟩ := reals _ _ _ (hpre c)
  obtain ⟨a0, a1, a2⟩ := harg c
  have b0 : m' ((c.tc : Thread Cert.AttnFwdRefIdeal.nD Cert.AttnFwdRefIdeal.τ).loc Cert.AttnFwdRefIdeal.main_arg0) = _ := a0
  have b1 : m' ((c.tc : Thread Cert.AttnFwdRefIdeal.nD Cert.AttnFwdRefIdeal.τ).loc Cert.AttnFwdRefIdeal.main_arg1) = _ := a1
  have b2 : m' ((c.tc : Thread Cert.AttnFwdRefIdeal.nD Cert.AttnFwdRefIdeal.τ).loc Cert.AttnFwdRefIdeal.main_arg2) = _ := a2
  obtain ⟨r0, rest⟩ := h c
  refine ⟨r0.trans ?_, rest⟩
  rw [Cert.AttnFwdRefIdeal.Read.val_main_v105_eq, b0, b1, b2]
  refine Eq.trans ?_ (Cert.AttnFwdIdeal.Real.final5 m c A0 A1 SK (fun _ _ => h0 _) (fun _ _ => h1 _) (fun _ => h2 _)).symm
  funext i
  rw [eq_ix2 i]
  exact Cert.AttnFwdRefIdeal.Real.out_apply A0 A1 SK _ _ _ (fun _ _ => h0 _) (fun _ _ => h1 _) (fun _ => h2 _) _ _

/-- The reference runs, leaves its arguments as they were, and uses no semaphore. -/
theorem frameRef : Cert.quiescent_AttnFwdRefIdeal := fun m ρ _ =>
  (θ_run Cert.AttnFwdRefIdeal.defs _ _).mono
    (fun r h => ⟨fun c => (h c).2, Idealize.ShloMosaic.sem_eq_zero_of_no_sems (by decide) r.2⟩)
    (Cert.AttnFwdRefIdeal.Value.run (F := Ideal) m ρ)

end Cert.AttnFwdClaim
-- ==== Proof.UpSpec.lean ====
/-
  THE SIXTH PAIR, what both programs compute: the first half of a feed-forward layer, over the extended reals. The rows'
  norm, its product with the upward weights, and the gate of that product's two halves.
-/
module

public import proofs.«01_k».proof.Proof.Common

@[expose] public section

noncomputable section

namespace Cert.Up

open Idealize.ShloMosaic

variable (H W : ℕ → ℕ → EReal) (G : ℕ → EReal)

/-- The rows' norm: each entry over the root of its row's mean square, times the gain. -/
def nrm (r k : ℕ) : EReal :=
  H r k * Ideal.rsqrt (Ideal.div (∑ l : Fin 1024, H r l.val * H r l.val) (Ideal.ofBits .f32 0x44800000#32) + Ideal.ofBits .f32 0x358637BD#32) * G k

/-- The upward product. -/
def up (r j : ℕ) : EReal := ∑ k : Fin 1024, nrm H G r k.val * W k.val j

/-- The activation: the first half times its logistic, times the second half. -/
def act (r j : ℕ) : EReal := up H W G r j * Ideal.logistic (up H W G r j) * up H W G r (2816 + j)

end Cert.Up

end
-- ==== Proof.UpRef.lean ====
/-
  THE REFERENCE OF THE SIXTH PAIR: its three results at an index.
-/
module

public import proofs.«01_k».proof.Proof.UpSpec
public import proofs.«01_k».proof.Proof.Gen.UpRefIdeal.Read

@[expose] public section

set_option maxRecDepth 16384
set_option backward.isDefEq.respectTransparency false

noncomputable section

namespace Cert.UpRefIdeal.Real

open Cert.UpRefIdeal Cert.UpRefIdeal.Gen Cert.UpRefIdeal.Read Cert.Step Cert.Up Idealize.ShloMosaic

variable (H W : ℕ → ℕ → EReal) (G : ℕ → EReal)
variable (x0 : (⟨S1x8192x1024, .f32⟩ : BufTy).Contents (Elt Ideal)) (x1 : (⟨S1x1024, .f32⟩ : BufTy).Contents (Elt Ideal))
variable (x2 : (⟨S1x1024x5632, .f32⟩ : BufTy).Contents (Elt Ideal))
variable (h0 : ∀ i : S1x8192x1024.Idx, x0 i = H (i 1).val (i 2).val)
variable (h1 : ∀ i : S1x1024.Idx, x1 i = G (i 1).val)
variable (h2 : ∀ i : S1x1024x5632.Idx, x2 i = W (i 1).val (i 2).val)

include h0 in
/-- The reciprocal root of a row's mean square. -/
theorem root_apply (i : S1x8192x1.Idx) : val_main_v8 (F := Ideal) x0 i
    = Ideal.rsqrt (Ideal.div (∑ l : Fin 1024, H (i 1).val l.val * H (i 1).val l.val) (Ideal.ofBits .f32 0x44800000#32) + Ideal.ofBits .f32 0x358637BD#32) := by
  have e2 : val_main_v2 (F := Ideal) x0 (idx_main_v3 i) = ∑ k : Fin 1024, H (i 1).val k.val * H (i 1).val k.val := by
    rw [val_main_v2_apply, val_main_cst_apply, Ideal.ofBits_def, Ideal.ofBits_zero_f32, zero_add]
    refine Finset.sum_congr rfl fun k _ => ?_
    rw [val_main_v1_apply, h0, Ideal.mulf_def]
  rw [val_main_v8_apply, val_main_v7_apply, val_main_v5_apply, val_main_v6_apply, val_main_cst_1_apply, val_main_v4_apply, val_main_cst_0_apply,
    val_main_v3_apply, e2, Ideal.hostDivf_def, Ideal.ofBits_def, Ideal.ofBits_def, Ideal.addf_def, Ideal.hostUnary_rsqrt_def]

include h0 h1 in
theorem norm_apply (i : S1x8192x1024.Idx) : val_main_v13 (F := Ideal) x0 x1 i = nrm H G (i 1).val (i 2).val := by
  rw [val_main_v13_apply, val_main_v12_apply, val_main_v11_apply, val_main_v0_apply, h1, val_main_v10_apply, val_main_v9_apply, h0, root_apply H x0 h0]
  have a2 : (i 2).val < 1024 := (i 2).isLt
  simp only [Ideal.mulf_def]
  unfold nrm
  refine congrArg (_ * ·) (congrArg G ?_)
  show (i 2).val % 1024 = (i 2).val
  exact Nat.mod_eq_of_lt a2

include h2 in
theorem weights_apply (i : S1024x5632.Idx) : val_main_v14 (F := Ideal) x2 i = W (i 0).val (i 1).val := by
  rw [val_main_v14_apply, h2]
  have a0 : (i 0).val < 1024 := (i 0).isLt
  have a1 : (i 1).val < 5632 := (i 1).isLt
  show W (((i 0).val * 5632 + (i 1).val) / 5632 % 1024) (((i 0).val * 5632 + (i 1).val) % 5632) = _
  rw [show ((i 0).val * 5632 + (i 1).val) / 5632 % 1024 = (i 0).val by omega,
    show ((i 0).val * 5632 + (i 1).val) % 5632 = (i 1).val by omega]

include h0 h1 h2 in
theorem up_apply (i : S1x8192x5632.Idx) : val_main_v15 (F := Ideal) x0 x1 x2 i = up H W G (i 1).val (i 2).val := by
  rw [val_main_v15_apply]
  unfold up
  refine Finset.sum_congr rfl fun k _ => ?_
  rw [norm_apply H G x0 x1 h0 h1, weights_apply W x2 h2]

include h0 h1 h2 in
theorem act_apply (i : S1x8192x2816.Idx) : val_main_v23 (F := Ideal) x0 x1 x2 i = act H W G (i 1).val (i 2).val := by
  have e16 : val_main_v16 (F := Ideal) x0 x1 x2 i = up H W G (i 1).val (i 2).val := by
    rw [val_main_v16_apply, up_apply H W G x0 x1 x2 h0 h1 h2]
  have e17 : val_main_v17 (F := Ideal) x0 x1 x2 i = up H W G (i 1).val (2816 + (i 2).val) := by
    rw [val_main_v17_apply, up_apply H W G x0 x1 x2 h0 h1 h2]
  have e5 : val_main_call0_v5 (F := Ideal) x0 x1 x2 i = Ideal.logistic (up H W G (i 1).val (i 2).val) := by
    rw [val_main_call0_v5_apply, val_main_call0_v4_apply, val_main_call0_v3_apply, val_main_call0_v2_apply, val_main_call0_v1_apply,
      val_main_call0_v0_apply, e16, val_main_call0_cst_apply, val_main_call0_cst_0_apply, Ideal.ofBits_def, ofBits_one]
    rfl
  rw [val_main_v23_apply, val_main_v22_apply, e16, e17, e5]
  simp only [Ideal.mulf_def]
  rfl

/-! ## The results -/

include h0 h1 in
theorem norm_result (i : S8192x1024.Idx) : val_main_v19 (F := Ideal) x0 x1 i = nrm H G (i 0).val (i 1).val := by
  rw [val_main_v19_apply, Ideal.truncf_def, val_main_v18_apply, norm_apply H G x0 x1 h0 h1]
  have a0 : (i 0).val < 8192 := (i 0).isLt
  have a1 : (i 1).val < 1024 := (i 1).isLt
  show nrm H G (((i 0).val * 1024 + (i 1).val) / 1024 % 8192) (((i 0).val * 1024 + (i 1).val) % 1024) = _
  rw [show ((i 0).val * 1024 + (i 1).val) / 1024 % 8192 = (i 0).val by omega,
    show ((i 0).val * 1024 + (i 1).val) % 1024 = (i 1).val by omega]

include h0 h1 h2 in
theorem up_result (i : S8192x5632.Idx) : val_main_v21 (F := Ideal) x0 x1 x2 i = up H W G (i 0).val (i 1).val := by
  rw [val_main_v21_apply, Ideal.truncf_def, val_main_v20_apply, up_apply H W G x0 x1 x2 h0 h1 h2]
  have a0 : (i 0).val < 8192 := (i 0).isLt
  have a1 : (i 1).val < 5632 := (i 1).isLt
  show up H W G (((i 0).val * 5632 + (i 1).val) / 5632 % 8192) (((i 0).val * 5632 + (i 1).val) % 5632) = _
  rw [show ((i 0).val * 5632 + (i 1).val) / 5632 % 8192 = (i 0).val by omega,
    show ((i 0).val * 5632 + (i 1).val) % 5632 = (i 1).val by omega]

include h0 h1 h2 in
theorem act_result (i : S8192x2816.Idx) : val_main_v25 (F := Ideal) x0 x1 x2 i = act H W G (i 0).val (i 1).val := by
  rw [val_main_v25_apply, Ideal.truncf_def, val_main_v24_apply, act_apply H W G x0 x1 x2 h0 h1 h2]
  have a0 : (i 0).val < 8192 := (i 0).isLt
  have a1 : (i 1).val < 2816 := (i 1).isLt
  show act H W G (((i 0).val * 2816 + (i 1).val) / 2816 % 8192) (((i 0).val * 2816 + (i 1).val) % 2816) = _
  rw [show ((i 0).val * 2816 + (i 1).val) / 2816 % 8192 = (i 0).val by omega,
    show ((i 0).val * 2816 + (i 1).val) % 2816 = (i 1).val by omega]

end Cert.UpRefIdeal.Real

end
-- ==== Proof.UpPay.lean ====
/-
  THE KERNEL OF THE SIXTH PAIR, one block of 512 rows: the values its body stores.
-/
module

public import proofs.«01_k».proof.Proof.UpSpec
public import proofs.«01_k».proof.Proof.Gen.UpFwdIdeal.Skeleton
public import Idealize.ShloMosaic.Lib.Pointwise

@[expose] public section

set_option maxRecDepth 16384
set_option backward.isDefEq.respectTransparency false

noncomputable section

namespace Cert.UpFwdIdeal.Real

open Cert.UpFwdIdeal Cert.UpFwdIdeal.Gen Cert.Step Cert.Up Idealize.ShloMosaic Idealize.ShloMosaic.Pointwise

variable (H W : ℕ → ℕ → EReal) (G : ℕ → EReal) (q o : ℕ)
variable (v0 : Vec Ideal S512x1024 .f32) (v12 : Vec Ideal S1x1024 .f32)
variable (h0 : ∀ (r : Fin 512) (k : Fin 1024), v0 (ix2 r k) = H (q + r.val) k.val)
variable (h12 : ∀ k : Fin 1024, v12 (ix2 0 k) = G k.val)

include h0 h12 in
theorem norm_apply (r : Fin 512) (k : Fin 1024) : k0_pay1 (F := Ideal) v0 v12 (ix2 r k) = nrm H G (q + r.val) k.val := by
  pointwise [k0_pay1]
  simp only [h0, h12]
  rfl

variable (v15 : FVec Ideal S512x1024 .bf16) (wa wb : Vec Ideal S256x1024 .bf16)
variable (h15 : ∀ (r : Fin 512) (k : Fin 1024), v15 (ix2 r k) = nrm H G (q + r.val) k.val)
variable (ha : ∀ (e : Fin 256) (k : Fin 1024), wa (ix2 e k) = W k.val (o + e.val))
variable (hb : ∀ (e : Fin 256) (k : Fin 1024), wb (ix2 e k) = W k.val (2816 + (o + e.val)))

include h15 ha in
theorem first_sum (r : Fin 512) (e : Fin 256) : k0_pay7 (F := Ideal) v15 wa (ix2 r e) = up H W G (q + r.val) (o + e.val) := by
  pointwise [k0_pay7]
  simp only [h15, ha]
  rfl

include h15 hb in
theorem second_sum (r : Fin 512) (e : Fin 256) : k0_pay8 (F := Ideal) v15 wb (ix2 r e) = up H W G (q + r.val) (2816 + (o + e.val)) := by
  pointwise [k0_pay8]
  simp only [h15, hb]
  rfl

include h15 ha in
theorem first_half (r : Fin 512) (e : Fin 256) : k0_pay9 (F := Ideal) v15 wa (ix2 r e) = up H W G (q + r.val) (o + e.val) := by
  pointwise [k0_pay9]
  exact first_sum H W G q o v15 wa h15 ha r e

include h15 hb in
theorem second_half (r : Fin 512) (e : Fin 256) : k0_pay10 (F := Ideal) v15 wb (ix2 r e) = up H W G (q + r.val) (2816 + (o + e.val)) := by
  pointwise [k0_pay10]
  exact second_sum H W G q o v15 wb h15 hb r e

include h15 ha hb in
theorem gated (r : Fin 512) (e : Fin 256) : k0_pay11 (F := Ideal) v15 wa wb (ix2 r e) = act H W G (q + r.val) (o + e.val) := by
  pointwise [k0_pay11]
  rw [first_sum H W G q o v15 wa h15 ha r e, second_sum H W G q o v15 wb h15 hb r e]
  rfl

end Cert.UpFwdIdeal.Real

end
-- ==== Proof.UpVal.lean ====
/-
  THE KERNEL OF THE SIXTH PAIR: what each input window reads at a grid point, over the arguments' entries, and the two
  blocks the body writes in stretches of 256 columns, listed by recursion with the last stretch first.
-/
module

public import proofs.«01_k».proof.Proof.UpPay
public import proofs.«01_k».proof.Proof.MixVal
public import proofs.«01_k».proof.Proof.Gen.UpFwdIdeal.Value
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

set_option maxRecDepth 16384
set_option backward.isDefEq.respectTransparency false

noncomputable section

namespace Cert.UpFwdIdeal.Real

open Cert.UpFwdIdeal Cert.UpFwdIdeal.Gen Cert.Step Cert.Up Idealize.ShloMosaic Idealize.ShloMosaic.TcCoe Idealize.SL.Sem
open Idealize.ShloMosaic.Pointwise Idealize.ShloMosaic.StableHlo
open Cert.MixBwdIdeal.Real (ix2_of piece2)

variable (m : (ℓ : Loc nD τ sig) → Buf (Elt Ideal) ℓ) (c : Dev nD)

theorem V_v0 : V m c main_v0 = shapeCast S8192x1024 (m ((c : Thread nD τ).loc main_arg0)) shapeCasts_S1x8192x1024_S8192x1024 := by
  show StableHlo.after hostOps0 _ _ = _
  after_results
  rfl

theorem V_v3 : V m c main_v3 = truncf (F := Ideal) .bf16 (transpose S5632x1024 [1, 0] (shapeCast S1024x5632 (m ((c : Thread nD τ).loc main_arg2)) shapeCasts_S1x1024x5632_S1024x5632) transposes_S1024x5632_S5632x1024_1_0) bitsLt_bf16_f32 := by
  show StableHlo.after hostOps0 _ _ = _
  after_results
  rfl

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel

variable (H W : ℕ → ℕ → EReal) (G : ℕ → EReal)
variable (h0 : ∀ (r : Fin 8192) (k : Fin 1024), m ((c : Thread nD τ).loc main_arg0) (ix3 0 r k) = H r k)
variable (h1 : ∀ k : Fin 1024, m ((c : Thread nD τ).loc main_arg1) (ix2 0 k) = G k)
variable (h2 : ∀ (k : Fin 1024) (j : Fin 5632), m ((c : Thread nD τ).loc main_arg2) (ix3 0 k j) = W k j)
variable (t : Fin cfg0.N)

theorem N16 : t.val < 16 := by have h : cfg0.N = 16 := N_0; have := t.isLt; omega

include h0 in
theorem blk0 (r : Fin 512) (k : Fin 1024) : (iblk m c 0 t : Vec Ideal S512x1024 .f32) (ix2 r k) = H (t.val * 512 + r.val) k := by
  have hN := N16 t
  unfold iblk
  rw [View.read_apply]
  show V m c main_v0 _ = _
  rw [V_v0]
  refine (congrArg _ (ix2_of _ (⟨t.val * 512 + r.val, by omega⟩ : Fin 8192) k ?_ ?_)).trans ((slab_apply _ _ _ _).trans (h0 _ _))
  · show win0_0.index t 0 * 512 + 1 * r.val = t.val * 512 + r.val; rw [(idx0 t).1]; omega
  · show win0_0.index t 1 * 1024 + 1 * k.val = k.val; rw [(idx0 t).2]; omega

include h1 in
theorem blk1 (k : Fin 1024) : (iblk m c 1 t : Vec Ideal S1x1024 .f32) (ix2 0 k) = G k := by
  unfold iblk
  rw [View.read_apply]
  show V m c main_arg1 _ = _
  rw [V_main_arg1]
  refine (congrArg _ (ix2_of _ (0 : Fin 1) k ?_ ?_)).trans (h1 _)
  · show win0_1.index t 0 * 1 + 1 * 0 = 0; rw [(idx1 t).1]
  · show win0_1.index t 1 * 1024 + 1 * k.val = k.val; rw [(idx1 t).2]; omega

include h2 in
theorem blk2 (j : Fin 5632) (k : Fin 1024) : (iblk m c 2 t : Vec Ideal S5632x1024 .bf16) (ix2 j k) = W k j := by
  unfold iblk
  rw [View.read_apply]
  show V m c main_v3 _ = _
  rw [V_v3]
  refine (congrArg _ (ix2_of _ j k ?_ ?_)).trans ?_
  · show win0_2.index t 0 * 5632 + 1 * j.val = j.val; rw [(idx2 t).1]; omega
  · show win0_2.index t 1 * 1024 + 1 * k.val = k.val; rw [(idx2 t).2]; omega
  · refine Eq.trans ?_ ((slab_apply (m ((c : Thread nD τ).loc main_arg2)) shapeCasts_S1x1024x5632_S1024x5632 k j).trans (h2 k j))
    generalize shapeCast S1024x5632 (m ((c : Thread nD τ).loc main_arg2)) shapeCasts_S1x1024x5632_S1024x5632 = y
    pointwise []

/-! ## The weights' rows in stretches of 256 -/

/-- Rows `o` to `o + 255` of the upward weights. -/
theorem rows_ld (X : Vec Ideal S5632x1024 .bf16) (hX : ∀ (j : Fin 5632) (k : Fin 1024), X (ix2 j k) = W k j) (off : Fin 2 → ℕ) (inb) (o : ℕ)
    (ho : o + 256 ≤ 5632) (e0 : off 0 = o) (e1 : off 1 = 0) (e : Fin 256) (k : Fin 1024) :
    View.ld (Val := Elt Ideal) X (Rect.unit (s := S5632x1024) off S256x1024.size inb) (ix2 e k) = W k (o + e.val) := by
  refine (Cert.MixBwdIdeal.Real.ld2 X off inb e k (⟨o + e.val, by omega⟩ : Fin 5632) k ?_ ?_).trans (hX _ _)
  · show o + e.val = off 0 + e.val
    rw [e0]
  · show k.val = off 1 + k.val
    rw [e1, Nat.zero_add]

/-! ## The stretches -/

theorem inbW {o : ℕ} (h : o + 256 ≤ 5632) : ∀ x, (![o, 0] : Fin 2 → ℕ) x + S256x1024.size x ≤ S5632x1024.size x
  | ⟨0, _⟩ => h
  | ⟨1, _⟩ => le_refl _

theorem inbAct {o : ℕ} (h : o + 256 ≤ 2816) : ∀ x, (![0, o] : Fin 2 → ℕ) x + S512x256.size x ≤ S512x2816.size x
  | ⟨0, _⟩ => le_refl _
  | ⟨1, _⟩ => h

theorem inbAb {o : ℕ} (h : o + 256 ≤ 5632) : ∀ x, (![0, o] : Fin 2 → ℕ) x + S512x256.size x ≤ S512x5632.size x
  | ⟨0, _⟩ => le_refl _
  | ⟨1, _⟩ => h

/-- Rows `o` to `o + 255` of the weights. -/
def wRows (X : Vec Ideal S5632x1024 .bf16) (o : ℕ) (h : o + 256 ≤ 5632) : Vec Ideal S256x1024 .bf16 :=
  View.ld (Val := Elt Ideal) X (Rect.unit (s := S5632x1024) ![o, 0] S256x1024.size (inbW h))

/-- The first `n` stretches of the activation. -/
def actPieces (N : FVec Ideal S512x1024 .bf16) (X : Vec Ideal S5632x1024 .bf16) : (n : ℕ) → n ≤ 11 → List (View.Piece (Elt Ideal) S512x2816 .bf16)
  | 0, _ => []
  | n + 1, h => ⟨Rect.unit (s := S512x2816) ![0, n * 256] S512x256.size (inbAct (by omega)),
      k0_pay11 (F := Ideal) N (wRows X (n * 256) (by omega)) (wRows X (2816 + n * 256) (by omega))⟩ :: actPieces N X n (by omega)

/-- The first `n` stretches of the two halves of the upward product. -/
def abPieces (N : FVec Ideal S512x1024 .bf16) (X : Vec Ideal S5632x1024 .bf16) : (n : ℕ) → n ≤ 11 → List (View.Piece (Elt Ideal) S512x5632 .bf16)
  | 0, _ => []
  | n + 1, h => ⟨Rect.unit (s := S512x5632) ![0, 2816 + n * 256] S512x256.size (inbAb (by omega)), k0_pay10 (F := Ideal) N (wRows X (2816 + n * 256) (by omega))⟩
      :: ⟨Rect.unit (s := S512x5632) ![0, n * 256] S512x256.size (inbAb (by omega)), k0_pay9 (F := Ideal) N (wRows X (n * 256) (by omega))⟩
      :: abPieces N X n (by omega)

variable (q : ℕ)
variable (N : FVec Ideal S512x1024 .bf16) (X : Vec Ideal S5632x1024 .bf16)
variable (hN : ∀ (r : Fin 512) (k : Fin 1024), N (ix2 r k) = nrm H G (q + r.val) k.val)
variable (hX : ∀ (j : Fin 5632) (k : Fin 1024), X (ix2 j k) = W k j)

include hX in
theorem wRows_apply (o : ℕ) (h : o + 256 ≤ 5632) (e : Fin 256) (k : Fin 1024) : wRows X o h (ix2 e k) = W k (o + e.val) :=
  rows_ld W X hX _ _ o h rfl rfl e k

/-- The activation's block. -/
def actBlk (i : S512x2816.Idx) : EReal := act H W G (q + (i 0).val) (i 1).val

/-- The upward product's block. -/
def abBlk (i : S512x5632.Idx) : EReal := up H W G (q + (i 0).val) (i 1).val

include hN hX in
theorem actPieces_of : ∀ (n : ℕ) (h : n ≤ 11), View.PiecesOf (Val := Elt Ideal) (e := .bf16) (actBlk H W G q) (actPieces N X n h)
  | 0, _ => trivial
  | n + 1, h => by
    obtain ⟨B, hB⟩ : ∃ B, B = actBlk H W G q := ⟨_, rfl⟩
    have ih := actPieces_of n (by omega)
    rw [← hB] at ih ⊢
    refine ⟨?_, ih⟩
    refine piece2 (a := 512) (B := 2816) (b := 256) B ![0, n * 256] (inbAct (by omega)) (n * 256) (by omega) rfl rfl _ fun r e => ?_
    rw [hB]
    refine gated H W G q (n * 256) N _ _ hN (wRows_apply W X hX _ _) (fun e k => ?_) r e
    rw [← Nat.add_assoc]
    exact wRows_apply W X hX _ _ e k

include hN hX in
theorem abPieces_of : ∀ (n : ℕ) (h : n ≤ 11), View.PiecesOf (Val := Elt Ideal) (e := .bf16) (abBlk H W G q) (abPieces N X n h)
  | 0, _ => trivial
  | n + 1, h => by
    obtain ⟨B, hB⟩ : ∃ B, B = abBlk H W G q := ⟨_, rfl⟩
    have ih := abPieces_of n (by omega)
    rw [← hB] at ih ⊢
    refine ⟨?_, ?_, ih⟩
    · refine piece2 (a := 512) (B := 5632) (b := 256) B ![0, 2816 + n * 256] (inbAb (by omega)) (2816 + n * 256) (by omega) rfl rfl _ fun r e => ?_
      rw [hB]
      refine (second_half H W G q (n * 256) N _ hN (fun e k => ?_) r e).trans ?_
      · rw [← Nat.add_assoc]
        exact wRows_apply W X hX _ _ e k
      · rw [← Nat.add_assoc]
        rfl
    · refine piece2 (a := 512) (B := 5632) (b := 256) B ![0, n * 256] (inbAb (by omega)) (n * 256) (by omega) rfl rfl _ fun r e => ?_
      rw [hB]
      exact first_half H W G q (n * 256) N _ hN (wRows_apply W X hX _ _) r e

theorem act_cover : ∀ y : S512x2816.Idx, ∃ p ∈ actPieces N X 11 (le_refl _), y ∈ p.1.set :=
  View.cover_of_tiledBy _ ![512, 256] (by sl_kernel_rfl)

theorem ab_cover : ∀ y : S512x5632.Idx, ∃ p ∈ abPieces N X 11 (le_refl _), y ∈ p.1.set :=
  View.cover_of_tiledBy _ ![512, 256] (by sl_kernel_rfl)

include hN hX in
theorem act_canon (y : S512x2816.Idx) : View.canon (actPieces N X 11 (le_refl _)) y = actBlk H W G q y := by
  have h := View.canon_append_of_piecesOf (Val := Elt Ideal) (e := .bf16) (actBlk H W G q) [] _ (actPieces_of H W G q N X hN hX 11 (le_refl _)) y (act_cover N X y)
  rw [List.append_nil] at h
  exact h

include hN hX in
theorem ab_canon (y : S512x5632.Idx) : View.canon (abPieces N X 11 (le_refl _)) y = abBlk H W G q y := by
  have h := View.canon_append_of_piecesOf (Val := Elt Ideal) (e := .bf16) (abBlk H W G q) [] _ (abPieces_of H W G q N X hN hX 11 (le_refl _)) y (ab_cover N X y)
  rw [List.append_nil] at h
  exact h

end Cert.UpFwdIdeal.Real

end
-- ==== Proof.UpFinal.lean ====
/-
  THE KERNEL OF THE SIXTH PAIR: what a grid point leaves in each output, and its three results as whole arrays.
-/
module

public import proofs.«01_k».proof.Proof.UpVal
public import Idealize.ShloMosaic.Lib.Pipeline.ValueKit.Geometry
public import Idealize.ShloMosaic.Lib.Pipeline.ValueKit.Acc

@[expose] public section

set_option maxRecDepth 16384
set_option backward.isDefEq.respectTransparency false

noncomputable section

namespace Cert.UpFwdIdeal.Real

open Cert.UpFwdIdeal Cert.UpFwdIdeal.Gen Cert.Step Cert.Up Idealize.ShloMosaic Idealize.ShloMosaic.TcCoe Idealize.SL.Sem
open Cert.MixBwdIdeal.Real (hz2)

/-! ## The blocks, over blocks read -/

section Blocks

variable (H W : ℕ → ℕ → EReal) (G : ℕ → EReal) (q : ℕ)
variable (b0 : Vec Ideal S512x1024 .f32) (b1 : Vec Ideal S1x1024 .f32) (b2 : Vec Ideal S5632x1024 .bf16)
variable (g0 : ∀ (r : Fin 512) (k : Fin 1024), b0 (ix2 r k) = H (q + r.val) k.val)
variable (g1 : ∀ k : Fin 1024, b1 (ix2 0 k) = G k.val)
variable (g2 : ∀ (j : Fin 5632) (k : Fin 1024), b2 (ix2 j k) = W k.val j.val)

/-- The rows' norm of the blocks read. -/
theorem ld_norm : k0_pay1 (F := Ideal) (View.ld b0 r0_0) (View.ld b1 r0_1) = k0_pay1 (F := Ideal) b0 b1 := by
  rw [View.ld_unit_zero (S := S512x1024) hz2, View.ld_unit_zero (S := S1x1024) hz2]

include g0 g1 in
theorem out3 (r : Fin 512) (k : Fin 1024) : out0_3 (F := Ideal) b0 b1 b2 (ix2 r k) = nrm H G (q + r.val) k.val := by
  unfold out0_3
  rw [View.canon_unit_zero hz2, ld_norm]
  exact norm_apply H G q b0 b1 g0 g1 r k

include g0 g1 g2 in
theorem out4 (r : Fin 512) (k : Fin 5632) : out0_4 (F := Ideal) b0 b1 b2 (ix2 r k) = up H W G (q + r.val) k.val := by
  have e : out0_4 (F := Ideal) b0 b1 b2 = View.canon (abPieces (k0_pay1 (F := Ideal) (View.ld b0 r0_0) (View.ld b1 r0_1)) b2 11 (le_refl _)) := rfl
  rw [e, ld_norm]
  exact ab_canon H W G q _ b2 (norm_apply H G q b0 b1 g0 g1) g2 (ix2 r k)

include g0 g1 g2 in
theorem out5 (r : Fin 512) (k : Fin 2816) : out0_5 (F := Ideal) b0 b1 b2 (ix2 r k) = act H W G (q + r.val) k.val := by
  have e : out0_5 (F := Ideal) b0 b1 b2 = View.canon (actPieces (k0_pay1 (F := Ideal) (View.ld b0 r0_0) (View.ld b1 r0_1)) b2 11 (le_refl _)) := rfl
  rw [e, ld_norm]
  exact act_canon H W G q _ b2 (norm_apply H G q b0 b1 g0 g1) g2 (ix2 r k)

end Blocks

/-! ## The arrays -/

variable (m : (ℓ : Loc nD τ sig) → Buf (Elt Ideal) ℓ) (c : Dev nD)
variable (H W : ℕ → ℕ → EReal) (G : ℕ → EReal)
variable (h0 : ∀ (r : Fin 8192) (k : Fin 1024), m ((c : Thread nD τ).loc main_arg0) (ix3 0 r k) = H r k)
variable (h1 : ∀ k : Fin 1024, m ((c : Thread nD τ).loc main_arg1) (ix2 0 k) = G k)
variable (h2 : ∀ (k : Fin 1024) (j : Fin 5632), m ((c : Thread nD τ).loc main_arg2) (ix3 0 k j) = W k j)

/-- The rows' norm. -/
def nArr (i : S8192x1024.Idx) : EReal := nrm H G (i 0).val (i 1).val

theorem idx3 : ∀ t : Fin cfg0.N, win0_3.index t = ![t.val, 0] :=
  (by decide +kernel : ∀ t : Fin grid0.N, win0_3.index t = ![t.val, 0])

include h0 h1 in
theorem final3 : (dats m 0 c).arrAt 3 cfg0.N = nArr H G := by
  refine (dats m 0 c).arrAt_eq_of_covers 3 _ (by decide +kernel) fun t hf y => ?_
  have hN := N16 t
  obtain ⟨r, l, rfl⟩ : ∃ (r : Fin 512) (l : Fin 1024), y = ix2 r l := ⟨y 0, y 1, by blk_ext []⟩
  have e : (win0_3.blk t).view.emb (ix2 r l) = ix2 (⟨t.val * 512 + r.val, by omega⟩ : Fin 8192) l := by
    blk_ext [idx3 t]
  blk_simp
  rw [after0_3, e]
  exact out3 H G (t.val * 512) _ _ _ (blk0 m c H h0 t) (blk1 m c G h1 t) r l

/-- The upward product. -/
def abArr (i : S8192x5632.Idx) : EReal := up H W G (i 0).val (i 1).val

theorem idx4 : ∀ t : Fin cfg0.N, win0_4.index t = ![t.val, 0] :=
  (by decide +kernel : ∀ t : Fin grid0.N, win0_4.index t = ![t.val, 0])

include h0 h1 h2 in
theorem final4 : (dats m 0 c).arrAt 4 cfg0.N = abArr H W G := by
  refine (dats m 0 c).arrAt_eq_of_covers 4 _ (by decide +kernel) fun t hf y => ?_
  have hN := N16 t
  obtain ⟨r, l, rfl⟩ : ∃ (r : Fin 512) (l : Fin 5632), y = ix2 r l := ⟨y 0, y 1, by blk_ext []⟩
  have e : (win0_4.blk t).view.emb (ix2 r l) = ix2 (⟨t.val * 512 + r.val, by omega⟩ : Fin 8192) l := by
    blk_ext [idx4 t]
  blk_simp
  rw [after0_4, e]
  exact out4 H W G (t.val * 512) _ _ _ (blk0 m c H h0 t) (blk1 m c G h1 t) (blk2 m c W h2 t) r l

/-- The activation. -/
def actArr (i : S8192x2816.Idx) : EReal := act H W G (i 0).val (i 1).val

theorem idx5 : ∀ t : Fin cfg0.N, win0_5.index t = ![t.val, 0] :=
  (by decide +kernel : ∀ t : Fin grid0.N, win0_5.index t = ![t.val, 0])

include h0 h1 h2 in
theorem final5 : (dats m 0 c).arrAt 5 cfg0.N = actArr H W G := by
  refine (dats m 0 c).arrAt_eq_of_covers 5 _ (by decide +kernel) fun t hf y => ?_
  have hN := N16 t
  obtain ⟨r, l, rfl⟩ : ∃ (r : Fin 512) (l : Fin 2816), y = ix2 r l := ⟨y 0, y 1, by blk_ext []⟩
  have e : (win0_5.blk t).view.emb (ix2 r l) = ix2 (⟨t.val * 512 + r.val, by omega⟩ : Fin 8192) l := by
    blk_ext [idx5 t]
  blk_simp
  rw [after0_5, e]
  exact out5 H W G (t.val * 512) _ _ _ (blk0 m c H h0 t) (blk1 m c G h1 t) (blk2 m c W h2 t) r l

end Cert.UpFwdIdeal.Real

end
-- ==== Proof.UpClaim.lean ====
/-
  THE SIXTH PAIR, put together: at any arguments at all the kernel and the plain lines both run and leave equal arrays.
-/
module

public import proofs.«01_k».proof.Defs
public import proofs.«01_k».proof.Proof.UpRef
public import proofs.«01_k».proof.Proof.UpFinal
public import proofs.«01_k».proof.Proof.Gen.UpFwd.Frame
public import proofs.«01_k».proof.Proof.Gen.UpRefIdeal.Run

@[expose] public section

set_option maxRecDepth 16384

noncomputable section

namespace Cert.UpClaim

open Cert.Step Idealize.ShloMosaic Idealize.ShloMosaic.TcCoe Idealize.SL.Sem

/-- A matrix behind a leading axis of one, numbered by all natural numbers. -/
theorem numbered3 {a b : ℕ} (x : (⟨3, ![1, a, b]⟩ : Shape).Idx → EReal) :
    ∃ T : ℕ → ℕ → EReal, ∀ i : (⟨3, ![1, a, b]⟩ : Shape).Idx, x i = T (i 1).val (i 2).val := by
  refine ⟨fun r k => if h : r < a ∧ k < b then x (ix3 0 ⟨r, h.1⟩ ⟨k, h.2⟩) else 0, fun i => ?_⟩
  refine Eq.trans ?_ (dif_pos (show (i 1).val < a ∧ (i 2).val < b from ⟨(i 1).isLt, (i 2).isLt⟩)).symm
  refine congrArg x (funext fun t => Fin.ext ?_)
  match t with
  | ⟨0, _⟩ => exact Nat.lt_one_iff.mp (i 0).isLt
  | ⟨1, _⟩ => rfl
  | ⟨2, _⟩ => rfl

/-- A single row, the same. -/
theorem numbered2 {b : ℕ} (x : (⟨2, ![1, b]⟩ : Shape).Idx → EReal) :
    ∃ T : ℕ → EReal, ∀ i : (⟨2, ![1, b]⟩ : Shape).Idx, x i = T (i 1).val := by
  refine ⟨fun k => if h : k < b then x (ix2 0 ⟨k, h⟩) else 0, fun i => ?_⟩
  refine Eq.trans ?_ (dif_pos (show (i 1).val < b from (i 1).isLt)).symm
  refine congrArg x (funext fun t => Fin.ext ?_)
  match t with
  | ⟨0, _⟩ => exact Nat.lt_one_iff.mp (i 0).isLt
  | ⟨1, _⟩ => rfl

variable (m : (ℓ : Loc Cert.UpFwdIdeal.nD Cert.UpFwdIdeal.τ Cert.UpFwdIdeal.sig) → Buf (Elt Ideal) ℓ) (c : Dev Cert.UpFwdIdeal.nD)
variable (x0 : (⟨Cert.UpRefIdeal.S1x8192x1024, .f32⟩ : BufTy).Contents (Elt Ideal)) (x1 : (⟨Cert.UpRefIdeal.S1x1024, .f32⟩ : BufTy).Contents (Elt Ideal))
variable (x2 : (⟨Cert.UpRefIdeal.S1x1024x5632, .f32⟩ : BufTy).Contents (Elt Ideal))
variable (a0 : x0 = m ((c : Thread Cert.UpFwdIdeal.nD Cert.UpFwdIdeal.τ).loc Cert.UpFwdIdeal.main_arg0))
variable (a1 : x1 = m ((c : Thread Cert.UpFwdIdeal.nD Cert.UpFwdIdeal.τ).loc Cert.UpFwdIdeal.main_arg1))
variable (a2 : x2 = m ((c : Thread Cert.UpFwdIdeal.nD Cert.UpFwdIdeal.τ).loc Cert.UpFwdIdeal.main_arg2))

include a0 a1 in
theorem eq3 : Cert.UpRefIdeal.Read.val_main_v19 (F := Ideal) x0 x1 = (Cert.UpFwdIdeal.Gen.dats m 0 c).arrAt 3 Cert.UpFwdIdeal.cfg0.N := by
  obtain ⟨H, h0⟩ := numbered3 x0
  obtain ⟨G, h1⟩ := numbered2 x1
  subst a0 a1
  refine Eq.trans ?_ (Cert.UpFwdIdeal.Real.final3 m c H G (fun _ _ => h0 _) (fun _ => h1 _)).symm
  funext i
  exact Cert.UpRefIdeal.Real.norm_result H G _ _ h0 h1 i

include a0 a1 a2 in
theorem eq4 : Cert.UpRefIdeal.Read.val_main_v21 (F := Ideal) x0 x1 x2 = (Cert.UpFwdIdeal.Gen.dats m 0 c).arrAt 4 Cert.UpFwdIdeal.cfg0.N := by
  obtain ⟨H, h0⟩ := numbered3 x0
  obtain ⟨G, h1⟩ := numbered2 x1
  obtain ⟨W, h2⟩ := numbered3 x2
  subst a0 a1 a2
  refine Eq.trans ?_ (Cert.UpFwdIdeal.Real.final4 m c H W G (fun _ _ => h0 _) (fun _ => h1 _) (fun _ _ => h2 _)).symm
  funext i
  exact Cert.UpRefIdeal.Real.up_result H W G _ _ _ h0 h1 h2 i

include a0 a1 a2 in
theorem eq5 : Cert.UpRefIdeal.Read.val_main_v25 (F := Ideal) x0 x1 x2 = (Cert.UpFwdIdeal.Gen.dats m 0 c).arrAt 5 Cert.UpFwdIdeal.cfg0.N := by
  obtain ⟨H, h0⟩ := numbered3 x0
  obtain ⟨G, h1⟩ := numbered2 x1
  obtain ⟨W, h2⟩ := numbered3 x2
  subst a0 a1 a2
  refine Eq.trans ?_ (Cert.UpFwdIdeal.Real.final5 m c H W G (fun _ _ => h0 _) (fun _ => h1 _) (fun _ _ => h2 _)).symm
  funext i
  exact Cert.UpRefIdeal.Real.act_result H W G _ _ _ h0 h1 h2 i

set_option maxHeartbeats 4000000 in
theorem algebraic : Cert.algebraic_UpFwdIdeal_UpRefIdeal := by
  intro m g m' g' hpre harg
  refine ⟨fun c => (Cert.UpFwdIdeal.Gen.dats m 0 c).arrAt 3 Cert.UpFwdIdeal.cfg0.N,
    fun c => (Cert.UpFwdIdeal.Gen.dats m 0 c).arrAt 4 Cert.UpFwdIdeal.cfg0.N,
    fun c => (Cert.UpFwdIdeal.Gen.dats m 0 c).arrAt 5 Cert.UpFwdIdeal.cfg0.N, Cert.UpFwdIdeal.Value.run_blocks m g, ?_⟩
  refine (θ_run _ _ _).mono (fun r h c => ?_) (Cert.UpRefIdeal.Value.run m' g')
  obtain ⟨a0, a1, a2⟩ := harg c
  obtain ⟨r0, r1, r2, rest⟩ := h c
  refine ⟨r0.trans ?_, r1.trans ?_, r2.trans ?_, rest⟩
  · exact (Cert.UpRefIdeal.Read.val_main_v19_eq _ _).trans (eq3 m c _ _ a0 a1)
  · exact (Cert.UpRefIdeal.Read.val_main_v21_eq _ _ _).trans (eq4 m c _ _ _ a0 a1 a2)
  · exact (Cert.UpRefIdeal.Read.val_main_v25_eq _ _ _).trans (eq5 m c _ _ _ a0 a1 a2)

/-- The reference runs, leaves its arguments as they were, and uses no semaphore. -/
theorem frameRef : Cert.quiescent_UpRefIdeal := fun m ρ _ =>
  (θ_run Cert.UpRefIdeal.defs _ _).mono
    (fun r h => ⟨fun c => (h c).2.2.2, Idealize.ShloMosaic.sem_eq_zero_of_no_sems (by decide) r.2⟩)
    (Cert.UpRefIdeal.Value.run (F := Ideal) m ρ)

end Cert.UpClaim

end
-- ==== Proof.ProjSpec.lean ====
/-
  THE SEVENTH PAIR over the real numbers: the derivative of the joint projection, of its norm's input and of the gain.
  The pool's part of the projection's derivative at row `r` is the sum, over the `w` windows that hold the row, of the
  pooled row's cotangent divided by that window's number of rows, less the cotangent of the row itself.
-/
module

public import proofs.«01_k».proof.Proof.Common
public import Idealize.ShloMosaic.Lib.WordArith

@[expose] public section

noncomputable section

namespace Cert.Proj

open Cert.Step Idealize.ShloMosaic

/-- A row of an array. -/
abbrev row (H : ℕ → ℕ → ℝ) (r : ℕ) : Fin 1024 → ℝ := fun k => H r k.val

/-- A pooled row's cotangent divided by the number of rows in its window; nothing past the last row. -/
def share (D : ℕ → ℕ → ℝ) (w r c : ℕ) : ℝ := if r < 8192 then D r c / ((min (r + 1) w : ℕ) : ℝ) else 0

/-- The pool's part for the window `w`. -/
def pool (D : ℕ → ℕ → ℝ) (w r c : ℕ) : ℝ := ∑ i ∈ Finset.range w, share D w (r + i) c - D r c

/-- The keys' and values' part: a row's own block and the band of the block after it. -/
def band (O P : ℕ → ℕ → ℝ) (r c : ℕ) : ℝ := O r c + if r + 128 < 8192 then P (r + 128) c else 0

/-- The rows' own blocks of the keys' and values' cotangents, a row's heads side by side. -/
def own (K V : ℕ → ℕ → ℕ → ℕ → ℝ) (r c : ℕ) : ℝ :=
  if c < 128 then K (r / 128) (128 + r % 128) (c / 64) (c % 64) else V (r / 128) (128 + r % 128) ((c - 128) / 64) ((c - 128) % 64)

/-- The rows' bands, which hold the cotangents of the rows of the block before. -/
def prev (K V : ℕ → ℕ → ℕ → ℕ → ℝ) (r c : ℕ) : ℝ :=
  if c < 128 then K (r / 128) (r % 128) (c / 64) (c % 64) else V (r / 128) (r % 128) ((c - 128) / 64) ((c - 128) % 64)

/-- The window of a column of the pooled rows. -/
def win (c : ℕ) : ℕ := if c < 128 then 2 else if c < 256 then 4 else if c < 384 then 8 else 16

variable (Q O P D A B H W : ℕ → ℕ → ℝ) (G : ℕ → ℝ)

/-- The derivative by the joint projection, its parts side by side. -/
def proj (r j : ℕ) : ℝ :=
  if j < 1024 then Q r j else if j < 1280 then band O P r (j - 1024)
  else if j < 1408 then pool D 2 r (j - 1280) else if j < 1536 then pool D 4 r (j - 1280)
  else if j < 1664 then pool D 8 r (j - 1280) else if j < 1792 then pool D 16 r (j - 1280)
  else if j < 2816 then A r (j - 1792) else B r (j - 2816)

/-- The cotangent of the normalised row. -/
def dn (X : ℕ → ℕ → ℝ) (r c : ℕ) : ℝ := ∑ j : Fin 3840, X r j.val * W c j.val

/-- The cotangent of the row before its gain. -/
abbrev dnG (X : ℕ → ℕ → ℝ) (r : ℕ) : Fin 1024 → ℝ := fun k => dn W X r k.val * G k.val

/-! ## Window counts -/

/-- A row's number plus one, at most the window, as a word. -/
theorem count_word {x w : BitVec 32} {a n : ℕ} (hx : x.toNat = a) (hw : w.toNat = n) (ha : a < 2 ^ 31) (hn : n < 2 ^ 31) :
    (((IntOp.minsi x w).toInt : ℝ) : EReal) = (((min a n : ℕ) : ℝ) : EReal) := by
  have h := WordArith.toNat_minsi_of_lt x w (by omega) (by omega)
  rw [BitVec.toInt_eq_toNat_of_lt (by rw [h]; omega), h, hx, hw]
  norm_cast

theorem count_ne (r w : ℕ) (hw : 0 < w) : ((min (r + 1) w : ℕ) : ℝ) ≠ 0 := by
  have : 0 < min (r + 1) w := by omega
  exact_mod_cast this.ne'

/-! ## A sum of the rows from a row on, less the same sum further on -/

/-- The difference of a running sum from the end and of itself `w` rows on. -/
theorem telescope (y : ℕ → ℝ) (n w r : ℕ) (hr : r ≤ n) (hy : ∀ s, n ≤ s → y s = 0) :
    ∑ i ∈ Finset.range (n - r), (y (r + i) - y (r + i + w)) = ∑ i ∈ Finset.range w, y (r + i) := by
  rw [Finset.sum_sub_distrib]
  have h1 : ∑ i ∈ Finset.range (n - r), y (r + i) = ∑ i ∈ Finset.range (w + (n - r)), y (r + i) := by
    refine Finset.sum_subset (fun i hi => Finset.mem_range.2 (by have := Finset.mem_range.1 hi; omega)) fun i _ hi => hy _ ?_
    rw [Finset.mem_range, not_lt] at hi
    omega
  rw [h1, Finset.sum_range_add]
  have h2 : ∀ i, y (r + i + w) = y (r + (w + i)) := fun i => by congr 1; omega
  simp only [h2]
  ring

end Cert.Proj

end
-- ==== Proof.ProjRun.lean ====
/-
  A RUNNING SUM FROM THE END, as the host computes it by a window of the whole length padded high, over the reals.
-/
module

public import proofs.«01_k».proof.Proof.ProjSpec
public import proofs.«01_k».proof.Proof.Gen.ProjRefIdeal.Read
public import Idealize.ShloMosaic.Lib.Routing.Ops

@[expose] public section

set_option maxRecDepth 16384
set_option backward.isDefEq.respectTransparency false

noncomputable section

namespace Cert.ProjRefIdeal.Real

open Cert.ProjRefIdeal Cert.ProjRefIdeal.Gen Cert.ProjRefIdeal.Read Cert.Step Cert.Proj Idealize.ShloMosaic

theorem foldl_add_real {α : Type} (l : List α) (f : ℝ → α → ℝ) (F : EReal → α → EReal) (g : α → ℝ)
    (hF : ∀ x a, F x a = x + ((g a : ℝ) : EReal)) (x : ℝ) :
    l.foldl F ((x : ℝ) : EReal) = ((x + (l.map g).sum : ℝ) : EReal) := by
  induction l generalizing x with
  | nil => simp
  | cons a l ih => rw [List.foldl_cons, hF, ← EReal.coe_add, ih, List.map_cons, List.sum_cons, add_assoc]

/-- An array of rows, and the window of all its rows. -/
abbrev shR (N C : ℕ) : Shape := ⟨3, ![1, N, C]⟩

theorem symmW {N : ℕ} (n : Fin (shR N 1).numel) :
    ((shR N 1).rowMajor.symm n 0).val = 0 ∧ ((shR N 1).rowMajor.symm n 1).val = n.val ∧ ((shR N 1).rowMajor.symm n 2).val = 0 := by
  have h := Shape.rowMajor_val_three ((shR N 1).rowMajor.symm n)
  rw [Equiv.apply_symm_apply] at h
  have a0 : ((shR N 1).rowMajor.symm n 0).val < 1 := ((shR N 1).rowMajor.symm n 0).isLt
  have a2 : ((shR N 1).rowMajor.symm n 2).val < 1 := ((shR N 1).rowMajor.symm n 2).isLt
  have h' : n.val = (((shR N 1).rowMajor.symm n 0).val * N + ((shR N 1).rowMajor.symm n 1).val) * 1 + ((shR N 1).rowMajor.symm n 2).val := h
  have e0 : ((shR N 1).rowMajor.symm n 0).val = 0 := by omega
  rw [e0, Nat.zero_mul] at h'
  omega

theorem numelW (N : ℕ) : (shR N 1).numel = N := by
  unfold Shape.numel
  show ∏ a : Fin 3, (![1, N, 1] : Fin 3 → ℕ) a = N
  simp [Fin.prod_univ_three]

theorem runSum {N M C : ℕ} (hN : M + 1 = N) (x : (shR N C).Idx → EReal) (X : ℕ → ℕ → ℝ)
    (hx : ∀ (r : Fin N) (c : Fin C), x (ix3 0 r c) = ((X r.val c.val : ℝ) : EReal)) {u : Shape} (init : u.Idx → EReal)
    (h : (shR N C).ReduceWindows (![1, N, 1] : Fin 3 → ℕ) ![1, 1, 1] ![0, 0, 0] ![0, M, 0] (shR N C)) (hu : 0 < u.numel)
    (hinit : init (Shape.Idx.first hu) = 0) (r : Fin N) (c : Fin C) :
    Host.reduceWindow (· + ·) ![1, N, 1] ![1, 1, 1] ![0, 0, 0] ![0, M, 0] x init h hu (ix3 0 r c)
      = ((∑ s ∈ Finset.range (N - r.val), X (r.val + s) c.val : ℝ) : EReal) := by
  have hr := r.isLt
  have hc := c.isLt
  unfold Host.reduceWindow
  dsimp only
  rw [hinit]
  refine (foldl_add_real _ (fun a _ => a) _ (fun n => if r.val + n.val < N then X (r.val + n.val) c.val else 0) (fun y n => ?_) 0).trans ?_
  · congr 1
    obtain ⟨e0, e1, e2⟩ := symmW n
    by_cases h : r.val + n.val < N
    · rw [if_pos h]
      refine Eq.trans (dif_pos (show _ from fun a => ?_)) ((congrArg x ?_).trans (hx ⟨r.val + n.val, h⟩ c))
      · match a with
        | ⟨0, _⟩ => show 0 ≤ 0 * 1 + ((shR N 1).rowMajor.symm n 0).val ∧ 0 * 1 + ((shR N 1).rowMajor.symm n 0).val - 0 < 1; omega
        | ⟨1, _⟩ => show 0 ≤ r.val * 1 + ((shR N 1).rowMajor.symm n 1).val ∧ r.val * 1 + ((shR N 1).rowMajor.symm n 1).val - 0 < N; omega
        | ⟨2, _⟩ => show 0 ≤ c.val * 1 + ((shR N 1).rowMajor.symm n 2).val ∧ c.val * 1 + ((shR N 1).rowMajor.symm n 2).val - 0 < C; omega
      · funext a
        apply Fin.ext
        match a with
        | ⟨0, _⟩ => show 0 * 1 + ((shR N 1).rowMajor.symm n 0).val - 0 = 0; omega
        | ⟨1, _⟩ => show r.val * 1 + ((shR N 1).rowMajor.symm n 1).val - 0 = r.val + n.val; omega
        | ⟨2, _⟩ => show c.val * 1 + ((shR N 1).rowMajor.symm n 2).val - 0 = c.val; omega
    · rw [if_neg h]
      refine (dif_neg (show _ from fun H => ?_)).trans EReal.coe_zero.symm
      have h1 : 0 ≤ r.val * 1 + ((shR N 1).rowMajor.symm n 1).val ∧ r.val * 1 + ((shR N 1).rowMajor.symm n 1).val - 0 < N := H 1
      omega
  · congr 1
    rw [zero_add, ← Fin.sum_univ_def]
    have e : ∑ n : Fin (shR N 1).numel, (if r.val + n.val < N then X (r.val + n.val) c.val else 0)
        = ∑ n ∈ Finset.range (shR N 1).numel, (if r.val + n < N then X (r.val + n) c.val else 0) :=
      (Finset.sum_range fun n => if r.val + n < N then X (r.val + n) c.val else 0).symm
    refine e.trans ?_
    rw [numelW, ← Finset.sum_filter]
    refine Finset.sum_congr (Finset.ext fun s => ?_) fun _ _ => rfl
    simp only [Finset.mem_filter, Finset.mem_range]
    omega

theorem runSumF {N M C : ℕ} (hN : M + 1 = N) (x : FVec Ideal (shR N C) .f32) (X : ℕ → ℕ → ℝ)
    (hx : ∀ (r : Fin N) (c : Fin C), x (ix3 0 r c) = ((X r.val c.val : ℝ) : EReal)) {u : Shape} (init : u.Idx → Ideal .f32)
    (h : (shR N C).ReduceWindows (![1, N, 1] : Fin 3 → ℕ) ![1, 1, 1] ![0, 0, 0] ![0, M, 0] (shR N C)) (hu : 0 < u.numel)
    (hinit : init (Shape.Idx.first hu) = (0 : EReal)) (r : Fin N) (c : Fin C) :
    Host.reduceWindowAdd (F := Ideal) ![1, N, 1] ![1, 1, 1] ![0, 0, 0] ![0, M, 0] x init h hu (ix3 0 r c)
      = ((∑ s ∈ Finset.range (N - r.val), X (r.val + s) c.val : ℝ) : EReal) :=
  runSum hN x X hx (fun _ : (⟨0, ![]⟩ : Shape).Idx => init (Shape.Idx.first hu)) h (by decide) hinit r c

variable (x6 : (⟨S1x8192x512, .f32⟩ : BufTy).Contents (Elt Ideal))

/-- The host's running sum from the last row. -/
theorem v155 (X : ℕ → ℕ → ℝ) (hx : ∀ (r : Fin 8192) (c : Fin 512), val_main_v154 (F := Ideal) x6 (ix3 0 r c) = ((X r.val c.val : ℝ) : EReal)) (r : Fin 8192) (c : Fin 512) :
    val_main_v155 (F := Ideal) x6 (ix3 0 r c) = ((∑ s ∈ Finset.range (8192 - r.val), X (r.val + s) c.val : ℝ) : EReal) := by
  have hz : val_main_call1_call0_v0 (F := Ideal) (Shape.Idx.first h_S_) = (0 : EReal) := by
    rw [val_main_call1_call0_v0_apply, val_main_call1_call0_cst_apply, Ideal.ofBits_def, Ideal.ofBits_zero_f32]
  unfold val_main_v155
  exact runSumF (N := 8192) (M := 8191) (C := 512) (by norm_num) (val_main_v154 (F := Ideal) x6) X hx (val_main_call1_call0_v0 (F := Ideal))
    reduceWindows_S1x8192x512_S1x8192x512_w1s1p0_0_w8192s1p0_8191_w1s1p0_0 h_S_ hz r c

end Cert.ProjRefIdeal.Real

end
-- ==== Proof.ProjPool.lean ====
/-
  THE REFERENCE OF THE SEVENTH PAIR, the derivative through the pooled means, over the real numbers.
-/
module

public import proofs.«01_k».proof.Proof.ProjRun
public import Idealize.ShloMosaic.Lib.Pointwise

@[expose] public section

set_option maxRecDepth 16384
set_option backward.isDefEq.respectTransparency false

noncomputable section

namespace Cert.ProjRefIdeal.Real

open Cert.ProjRefIdeal Cert.ProjRefIdeal.Gen Cert.ProjRefIdeal.Read Cert.Step Cert.Proj Idealize.ShloMosaic Idealize.ShloMosaic.Pointwise

variable (x6 : (⟨S1x8192x512, .f32⟩ : BufTy).Contents (Elt Ideal)) (D : ℕ → ℕ → ℝ)
variable (h6 : ∀ (r : Fin 8192) (k : Fin 512), x6 (ix3 0 r k) = ((D r.val k.val : ℝ) : EReal))

/-- The number of rows in the window of a row, as a word. -/
theorem cnt (r : Fin 8192) (b : BitVec 32) (w : ℕ) (hb : b.toNat = w) (hw : w < 2 ^ 31) :
    FloatOps.sitofp (F := Ideal) FTy.f32 (IntOp.minsi (IntOp.addi (BitVec.ofNat 32 r.val) 1#32) b) = ((((min (r.val + 1) w : ℕ) : ℝ) : EReal)) := by
  have := r.isLt
  refine count_word (a := r.val + 1) (n := w) ?_ hb (by omega) hw
  show ((BitVec.ofNat 32 r.val) + 1#32).toNat = _
  rw [BitVec.toNat_add, BitVec.toNat_ofNat]
  show (r.val % 2 ^ 32 + 1) % 2 ^ 32 = _
  omega

theorem ref_share (r : Fin 8192) (w c : ℕ) (hw : 0 < w) :
    Ideal.div ((D r.val c : ℝ) : EReal) (((min (r.val + 1) w : ℕ) : ℝ) : EReal) = ((share D w r.val c : ℝ) : EReal) := by
  rw [div_real _ (count_ne _ _ hw)]
  unfold share
  rw [if_pos r.isLt]

/-- A row's share, less the share `w` rows on. -/
theorem two_rows (u : S1x8192x128.Idx → EReal) (w m n o : ℕ) (hm : m + 1 = w) (hn : n + w = 8193)
    (hu : ∀ (r : Fin 8192) (k : Fin 128), u (ix3 0 r k) = ((share D w r.val (o + k.val) : ℝ) : EReal)) (r : Fin 8192) (k : Fin 128) :
    (u (ix3 0 r k)
      + if h : 1 + r.val < n then -u (ix3 0 ⟨m + (1 + r.val), by omega⟩ k) else 0)
      = ((share D w r.val (o + k.val) - share D w (r.val + w) (o + k.val) : ℝ) : EReal) := by
  have := r.isLt
  rw [hu, EReal.coe_sub, sub_eq_add_neg]
  refine congrArg₂ (· + ·) rfl ?_
  by_cases h : 1 + r.val < n
  · rw [dif_pos h, hu]
    show -((share D w (m + (1 + r.val)) _ : ℝ) : EReal) = _
    rw [show m + (1 + r.val) = r.val + w by omega]
  · rw [dif_neg h]
    unfold share
    rw [if_neg (by omega)]
    simp

include h6 in
theorem v115 (r : Fin 8192) (k : Fin 128) : val_main_v115 (F := Ideal) x6 (ix3 0 r k) = ((share D 16 r.val (384 + k.val) : ℝ) : EReal) := by
  have e : val_main_v115 (F := Ideal) x6 (ix3 0 r k) = Ideal.div (x6 (ix3 0 r ⟨384 + k.val, by omega⟩)) (val_main_v100 (F := Ideal) (ix1 r)) := by
    unfold val_main_v115 val_main_v113 val_main_v114 val_main_v108 val_main_v101
    generalize val_main_v100 (F := Ideal) = u
    pointwise []
  have e2 : val_main_v100 (F := Ideal) (ix1 r) = ((((min (r.val + 1) 16 : ℕ) : ℝ) : EReal)) := by
    unfold val_main_v100 val_main_v99 val_main_v98 val_main_c_23 val_main_v97 val_main_v96 val_main_c_22 val_main_v45
    pointwise []
    exact cnt r 16#32 16 rfl (by norm_num)
  rw [e, e2, h6]
  exact ref_share D r 16 _ (by norm_num)

include h6 in
theorem v121 (r : Fin 8192) (k : Fin 128) : val_main_v121 (F := Ideal) x6 (ix3 0 ⟨1 + r.val, by omega⟩ k)
    = ((share D 16 r.val (384 + k.val) - share D 16 (r.val + 16) (384 + k.val) : ℝ) : EReal) := by
  have h := v115 x6 D h6
  revert h
  unfold val_main_v121 val_main_v117 val_main_v120 val_main_v119 val_main_v116 val_main_cst_24 val_main_cst_25
  generalize val_main_v115 (F := Ideal) x6 = u
  intro h
  pointwise []
  exact two_rows D u 16 15 8177 384 rfl rfl h r k

include h6 in
theorem v124 (r : Fin 8192) (k : Fin 128) : val_main_v124 (F := Ideal) x6 (ix3 0 r k) = ((share D 8 r.val (256 + k.val) : ℝ) : EReal) := by
  have e : val_main_v124 (F := Ideal) x6 (ix3 0 r k) = Ideal.div (x6 (ix3 0 r ⟨256 + k.val, by omega⟩)) (val_main_v85 (F := Ideal) (ix1 r)) := by
    unfold val_main_v124 val_main_v112 val_main_v123 val_main_v108 val_main_v86
    generalize val_main_v85 (F := Ideal) = u
    pointwise []
  have e2 : val_main_v85 (F := Ideal) (ix1 r) = ((((min (r.val + 1) 8 : ℕ) : ℝ) : EReal)) := by
    unfold val_main_v85 val_main_v84 val_main_v83 val_main_c_19 val_main_v82 val_main_v81 val_main_c_18 val_main_v45
    pointwise []
    exact cnt r 8#32 8 rfl (by norm_num)
  rw [e, e2, h6]
  exact ref_share D r 8 _ (by norm_num)

include h6 in
theorem v130 (r : Fin 8192) (k : Fin 128) : val_main_v130 (F := Ideal) x6 (ix3 0 ⟨1 + r.val, by omega⟩ k)
    = ((share D 8 r.val (256 + k.val) - share D 8 (r.val + 8) (256 + k.val) : ℝ) : EReal) := by
  have h := v124 x6 D h6
  revert h
  unfold val_main_v130 val_main_v126 val_main_v129 val_main_v128 val_main_v125 val_main_cst_27 val_main_cst_28
  generalize val_main_v124 (F := Ideal) x6 = u
  intro h
  pointwise []
  exact two_rows D u 8 7 8185 256 rfl rfl h r k

include h6 in
theorem v134 (r : Fin 8192) (k : Fin 128) : val_main_v134 (F := Ideal) x6 (ix3 0 r k) = ((share D 4 r.val (128 + k.val) : ℝ) : EReal) := by
  have e : val_main_v134 (F := Ideal) x6 (ix3 0 r k) = Ideal.div (x6 (ix3 0 r ⟨128 + k.val, by omega⟩)) (val_main_v70 (F := Ideal) (ix1 r)) := by
    unfold val_main_v134 val_main_v111 val_main_v133 val_main_v108 val_main_v71
    generalize val_main_v70 (F := Ideal) = u
    pointwise []
  have e2 : val_main_v70 (F := Ideal) (ix1 r) = ((((min (r.val + 1) 4 : ℕ) : ℝ) : EReal)) := by
    unfold val_main_v70 val_main_v69 val_main_v68 val_main_c_15 val_main_v67 val_main_v66 val_main_c_14 val_main_v45
    pointwise []
    exact cnt r 4#32 4 rfl (by norm_num)
  rw [e, e2, h6]
  exact ref_share D r 4 _ (by norm_num)

include h6 in
theorem v140 (r : Fin 8192) (k : Fin 128) : val_main_v140 (F := Ideal) x6 (ix3 0 ⟨1 + r.val, by omega⟩ k)
    = ((share D 4 r.val (128 + k.val) - share D 4 (r.val + 4) (128 + k.val) : ℝ) : EReal) := by
  have h := v134 x6 D h6
  revert h
  unfold val_main_v140 val_main_v136 val_main_v139 val_main_v138 val_main_v135 val_main_cst_30 val_main_cst_31
  generalize val_main_v134 (F := Ideal) x6 = u
  intro h
  pointwise []
  exact two_rows D u 4 3 8189 128 rfl rfl h r k

include h6 in
theorem v144 (r : Fin 8192) (k : Fin 128) : val_main_v144 (F := Ideal) x6 (ix3 0 r k) = ((share D 2 r.val (0 + k.val) : ℝ) : EReal) := by
  have e : val_main_v144 (F := Ideal) x6 (ix3 0 r k) = Ideal.div (x6 (ix3 0 r ⟨0 + k.val, by omega⟩)) (val_main_v55 (F := Ideal) (ix1 r)) := by
    unfold val_main_v144 val_main_v110 val_main_v143 val_main_v108 val_main_v56
    generalize val_main_v55 (F := Ideal) = u
    pointwise []
  have e2 : val_main_v55 (F := Ideal) (ix1 r) = ((((min (r.val + 1) 2 : ℕ) : ℝ) : EReal)) := by
    unfold val_main_v55 val_main_v54 val_main_v53 val_main_c_11 val_main_v52 val_main_v51 val_main_c val_main_v45
    pointwise []
    exact cnt r 2#32 2 rfl (by norm_num)
  rw [e, e2, h6]
  exact ref_share D r 2 _ (by norm_num)

include h6 in
theorem v150 (r : Fin 8192) (k : Fin 128) : val_main_v150 (F := Ideal) x6 (ix3 0 ⟨1 + r.val, by omega⟩ k)
    = ((share D 2 r.val (0 + k.val) - share D 2 (r.val + 2) (0 + k.val) : ℝ) : EReal) := by
  have h := v144 x6 D h6
  revert h
  unfold val_main_v150 val_main_v146 val_main_v149 val_main_v148 val_main_v145 val_main_cst_33 val_main_cst_34
  generalize val_main_v144 (F := Ideal) x6 = u
  intro h
  pointwise []
  have e := two_rows D u 2 1 8191 0 rfl rfl h r k
  simp only [Nat.zero_add] at e
  exact e

include h6 in
theorem v154 (r : Fin 8192) (k : Fin 512) : val_main_v154 (F := Ideal) x6 (ix3 0 r k)
    = ((share D (win k.val) r.val k.val - share D (win k.val) (r.val + win k.val) k.val : ℝ) : EReal) := by
  have := r.isLt
  have := k.isLt
  have e0 := v121 x6 D h6
  have e1 := v130 x6 D h6
  have e2 := v140 x6 D h6
  have e3 := v150 x6 D h6
  revert e0 e1 e2 e3
  unfold val_main_v154 val_main_v152 val_main_v151 val_main_v142 val_main_v141 val_main_v132 val_main_v131 val_main_v122 val_main_cst_26 val_main_cst_29 val_main_cst_32 val_main_cst_35
  generalize val_main_v121 (F := Ideal) x6 = u0
  generalize val_main_v130 (F := Ideal) x6 = u1
  generalize val_main_v140 (F := Ideal) x6 = u2
  generalize val_main_v150 (F := Ideal) x6 = u3
  intro e0 e1 e2 e3
  pointwise []
  unfold win
  by_cases h1 : k.val < 128
  · rw [dif_neg (by omega), dif_neg (by omega), dif_neg (by omega), dif_pos (by omega), if_pos h1, zero_add, zero_add, zero_add, e3]
    simp only [Nat.zero_add]
  by_cases h2 : k.val < 256
  · rw [dif_neg (by omega), dif_neg (by omega), dif_pos (by omega), dif_neg (by omega), if_neg h1, if_pos h2, zero_add, zero_add, add_zero, e2]
    simp only [show 128 + (k.val - 128) = k.val by omega]
  by_cases h3 : k.val < 384
  · rw [dif_neg (by omega), dif_pos (by omega), dif_neg (by omega), dif_neg (by omega), if_neg h1, if_neg h2, if_pos h3, zero_add, add_zero, add_zero, e1]
    simp only [show 256 + (k.val - 256) = k.val by omega]
  · rw [dif_pos (by omega), dif_neg (by omega), dif_neg (by omega), dif_neg (by omega), if_neg h1, if_neg h2, if_neg h3, add_zero, add_zero, add_zero, e0]
    simp only [show 384 + (k.val - 384) = k.val by omega]

include h6 in
/-- The derivative by the pooled mean's input. -/
theorem v156 (r : Fin 8192) (k : Fin 512) : val_main_v156 (F := Ideal) x6 (ix3 0 r k) = ((Proj.pool D (win k.val) r.val k.val : ℝ) : EReal) := by
  have h := v155 x6 (fun r c => share D (win c) r c - share D (win c) (r + win c) c) (v154 x6 D h6) r k
  rw [val_main_v156_apply, h, val_main_v109_apply, h6]
  show -((D r.val k.val : ℝ) : EReal) + _ = _
  rw [telescope (fun s => share D (win k.val) s k.val) 8192 (win k.val) r.val r.isLt.le fun s hs => by unfold share; rw [if_neg (by omega)],
    ← EReal.coe_neg, ← EReal.coe_add]
  unfold Proj.pool
  exact congrArg _ (by ring)

end Cert.ProjRefIdeal.Real

end
-- ==== Proof.ProjBand.lean ====
/-
  THE REFERENCE OF THE SEVENTH PAIR, the keys' and values' cotangents put back on their rows.
-/
module

public import proofs.«01_k».proof.Proof.ProjSpec
public import proofs.«01_k».proof.Proof.Gen.ProjRefIdeal.Read
public import Idealize.ShloMosaic.Lib.Pointwise

@[expose] public section

set_option maxRecDepth 16384
set_option backward.isDefEq.respectTransparency false

noncomputable section

namespace Cert.ProjRefIdeal.Real

open Cert.ProjRefIdeal Cert.ProjRefIdeal.Gen Cert.ProjRefIdeal.Read Cert.Step Cert.Proj Idealize.ShloMosaic Idealize.ShloMosaic.Pointwise

variable (x4 x5 : (⟨S1x64x256x2x64, .f32⟩ : BufTy).Contents (Elt Ideal)) (K V : ℕ → ℕ → ℕ → ℕ → ℝ)
variable (h4 : ∀ (a : Fin 64) (b : Fin 256) (d : Fin 2) (e : Fin 64), x4 (ix5 0 a b d e) = ((K a.val b.val d.val e.val : ℝ) : EReal))
variable (h5 : ∀ (a : Fin 64) (b : Fin 256) (d : Fin 2) (e : Fin 64), x5 (ix5 0 a b d e) = ((V a.val b.val d.val e.val : ℝ) : EReal))

/-- A row's own entry and the entry of the block after it. -/
theorem two_bands (x : S1x64x256x2x64.Idx → EReal) (Y : ℕ → ℕ → ℕ → ℕ → ℝ)
    (hx : ∀ (a : Fin 64) (b : Fin 256) (d : Fin 2) (e : Fin 64), x (ix5 0 a b d e) = ((Y a.val b.val d.val e.val : ℝ) : EReal)) (r : Fin 8192) (k : Fin 128) :
    (if h : r.val < 8064 ∧ k.val / 64 < 2 ∧ k.val % 64 < 64 then
        x (ix5 0 ⟨(128 + r.val) / 128, by omega⟩ ⟨(128 + r.val) % 128, by omega⟩ ⟨k.val / 64, by omega⟩ ⟨k.val % 64, by omega⟩) else 0)
      + x (ix5 0 ⟨r.val / 128, by omega⟩ ⟨128 + r.val % 128, by omega⟩ ⟨k.val / 64, by omega⟩ ⟨k.val % 64, by omega⟩)
    = ((Y (r.val / 128) (128 + r.val % 128) (k.val / 64) (k.val % 64)
        + if r.val + 128 < 8192 then Y ((r.val + 128) / 128) ((r.val + 128) % 128) (k.val / 64) (k.val % 64) else 0 : ℝ) : EReal) := by
  have := k.isLt
  rw [hx, add_comm, EReal.coe_add]
  refine congrArg₂ (· + ·) rfl ?_
  by_cases h : r.val < 8064
  · rw [dif_pos (by omega), if_pos (by omega), hx]
    simp only [Nat.add_comm 128 r.val]
  · rw [dif_neg (by omega), if_neg (by omega)]
    rfl

include h5 in
theorem v165 (r : Fin 8192) (k : Fin 128) : val_main_v165 (F := Ideal) x5 (ix3 0 r k) = ((band (own K V) (prev K V) r.val (128 + k.val) : ℝ) : EReal) := by
  have e : val_main_v165 (F := Ideal) x5 (ix3 0 r k) = ((V (r.val / 128) (128 + r.val % 128) (k.val / 64) (k.val % 64)
      + if r.val + 128 < 8192 then V ((r.val + 128) / 128) ((r.val + 128) % 128) (k.val / 64) (k.val % 64) else 0 : ℝ) : EReal) := by
    unfold val_main_v165 val_main_v164 val_main_v163 val_main_v162 val_main_v161 val_main_v159 val_main_v158 val_main_v157 val_main_cst_36
    pointwise []
    exact two_bands x5 V h5 r k
  rw [e]
  unfold band own prev
  simp only [show ¬ (128 + k.val < 128) by omega, if_false, show 128 + k.val - 128 = k.val by omega]

include h4 in
theorem v174 (r : Fin 8192) (k : Fin 128) : val_main_v174 (F := Ideal) x4 (ix3 0 r k) = ((band (own K V) (prev K V) r.val k.val : ℝ) : EReal) := by
  have e : val_main_v174 (F := Ideal) x4 (ix3 0 r k) = ((K (r.val / 128) (128 + r.val % 128) (k.val / 64) (k.val % 64)
      + if r.val + 128 < 8192 then K ((r.val + 128) / 128) ((r.val + 128) % 128) (k.val / 64) (k.val % 64) else 0 : ℝ) : EReal) := by
    unfold val_main_v174 val_main_v173 val_main_v172 val_main_v171 val_main_v170 val_main_v168 val_main_v167 val_main_v166 val_main_cst_37
    pointwise []
    exact two_bands x4 K h4 r k
  rw [e]
  unfold band own prev
  simp only [k.isLt, if_true]

end Cert.ProjRefIdeal.Real

end
-- ==== Proof.ProjRef.lean ====
/-
  THE REFERENCE OF THE SEVENTH PAIR: the joint projection's derivative put together, and from it the derivative by the
  norm's input and by its gain.
-/
module

public import proofs.«01_k».proof.Proof.ProjPool
public import proofs.«01_k».proof.Proof.ProjBand

@[expose] public section

set_option maxRecDepth 16384
set_option backward.isDefEq.respectTransparency false

noncomputable section

namespace Cert.ProjRefIdeal.Real

open Cert.ProjRefIdeal Cert.ProjRefIdeal.Gen Cert.ProjRefIdeal.Read Cert.Step Cert.Proj Idealize.ShloMosaic Idealize.ShloMosaic.Pointwise

variable (H W X Q D A B : ℕ → ℕ → ℝ) (G : ℕ → ℝ) (K V : ℕ → ℕ → ℕ → ℕ → ℝ)
variable (x0 : (⟨S1x8192x1024, .f32⟩ : BufTy).Contents (Elt Ideal)) (x1 : (⟨S1x1024, .f32⟩ : BufTy).Contents (Elt Ideal))
variable (x2 : (⟨S1x1024x3840, .f32⟩ : BufTy).Contents (Elt Ideal)) (x3 : (⟨S1x8192x1024, .f32⟩ : BufTy).Contents (Elt Ideal))
variable (x4 x5 : (⟨S1x64x256x2x64, .f32⟩ : BufTy).Contents (Elt Ideal)) (x6 : (⟨S1x8192x512, .f32⟩ : BufTy).Contents (Elt Ideal))
variable (x7 x8 x9 : (⟨S1x8192x1024, .f32⟩ : BufTy).Contents (Elt Ideal))

section
variable (h3 : ∀ (r : Fin 8192) (k : Fin 1024), x3 (ix3 0 r k) = ((Q r.val k.val : ℝ) : EReal))
variable (h4 : ∀ (a : Fin 64) (b : Fin 256) (d : Fin 2) (e : Fin 64), x4 (ix5 0 a b d e) = ((K a.val b.val d.val e.val : ℝ) : EReal))
variable (h5 : ∀ (a : Fin 64) (b : Fin 256) (d : Fin 2) (e : Fin 64), x5 (ix5 0 a b d e) = ((V a.val b.val d.val e.val : ℝ) : EReal))
variable (h6 : ∀ (r : Fin 8192) (k : Fin 512), x6 (ix3 0 r k) = ((D r.val k.val : ℝ) : EReal))
variable (h7 : ∀ (r : Fin 8192) (k : Fin 1024), x7 (ix3 0 r k) = ((A r.val k.val : ℝ) : EReal))
variable (h8 : ∀ (r : Fin 8192) (k : Fin 1024), x8 (ix3 0 r k) = ((B r.val k.val : ℝ) : EReal))

/-- The pool's part by its windows. -/
theorem proj_pool (r j : ℕ) (h : j < 1792) : Proj.pool D (win (j - 1280)) r (j - 1280)
    = if j < 1408 then Proj.pool D 2 r (j - 1280) else if j < 1536 then Proj.pool D 4 r (j - 1280)
      else if j < 1664 then Proj.pool D 8 r (j - 1280) else if j < 1792 then Proj.pool D 16 r (j - 1280)
      else if j < 2816 then A r (j - 1792) else B r (j - 2816) := by
  unfold win
  by_cases c1 : j < 1408
  · rw [if_pos c1, if_pos (by omega)]
  by_cases c2 : j < 1536
  · rw [if_neg c1, if_pos c2, if_neg (by omega), if_pos (by omega)]
  by_cases c3 : j < 1664
  · rw [if_neg c1, if_neg c2, if_pos c3, if_neg (by omega), if_neg (by omega), if_pos (by omega)]
  · rw [if_neg c1, if_neg c2, if_neg c3, if_pos h, if_neg (by omega), if_neg (by omega), if_neg (by omega)]

include h3 h4 h5 h6 h7 h8 in
/-- The parts side by side. -/
theorem v175 (r : Fin 8192) (j : Fin 3840) : val_main_v175 (F := Ideal) x3 x4 x5 x6 x7 x8 (ix3 0 r j)
    = ((proj Q (own K V) (prev K V) D A B r.val j.val : ℝ) : EReal) := by
  have e4 := v174 x4 K V h4
  have e5 := v165 x5 K V h5
  have e6 := v156 x6 D h6
  revert e4 e5 e6
  unfold val_main_v175
  generalize val_main_v174 (F := Ideal) x4 = u4
  generalize val_main_v165 (F := Ideal) x5 = u5
  generalize val_main_v156 (F := Ideal) x6 = u6
  intro e4 e5 e6
  pointwise []
  have := j.isLt
  unfold proj
  by_cases c0 : j.val < 1024
  · rw [dif_pos c0, if_pos c0, h3]
  rw [dif_neg c0, if_neg c0]
  by_cases c1 : j.val < 1280
  · rw [if_pos c1]
    by_cases c2 : j.val - 1024 < 128
    · rw [dif_pos c2, e4]
    · rw [dif_neg c2, dif_pos (by omega), e5]
      simp only [show 128 + (j.val - 1024 - 128) = j.val - 1024 by omega]
  rw [if_neg c1, dif_neg (by omega), dif_neg (by omega)]
  by_cases c3 : j.val < 1792
  · rw [dif_pos (by omega), e6, ← proj_pool D A B r.val j.val c3]
    simp only [show j.val - 1024 - 128 - 128 = j.val - 1280 by omega]
  rw [dif_neg (by omega), if_neg (show ¬ j.val < 1408 by omega), if_neg (show ¬ j.val < 1536 by omega), if_neg (show ¬ j.val < 1664 by omega), if_neg c3]
  by_cases c4 : j.val < 2816
  · rw [dif_pos (by omega), if_pos c4, h7]
    simp only [show j.val - 1024 - 128 - 128 - 512 = j.val - 1792 by omega]
  · rw [dif_neg (by omega), if_neg c4, h8]
    simp only [show j.val - 1024 - 128 - 128 - 512 - 1024 = j.val - 2816 by omega]

end

variable (h0 : ∀ i : S1x8192x1024.Idx, x0 i = ((H (i 1).val (i 2).val : ℝ) : EReal))
variable (h1 : ∀ i : S1x1024.Idx, x1 i = ((G (i 1).val : ℝ) : EReal))
variable (h2 : ∀ i : S1x1024x3840.Idx, x2 i = ((W (i 1).val (i 2).val : ℝ) : EReal))
variable (hX : ∀ i : S1x8192x3840.Idx, val_main_v175 (F := Ideal) x3 x4 x5 x6 x7 x8 i = ((X (i 1).val (i 2).val : ℝ) : EReal))

include h0 in
theorem v7 (i : S1x8192x1.Idx) : val_main_v7 (F := Ideal) x0 i = ((meanSq (row H (i 1).val) : ℝ) : EReal) := by
  have e2 : val_main_v2 (F := Ideal) x0 (idx_main_v3 i) = ((∑ k : Fin 1024, H (i 1).val k.val * H (i 1).val k.val : ℝ) : EReal) := by
    rw [val_main_v2_apply, val_main_cst_apply, Ideal.ofBits_def, Ideal.ofBits_zero_f32, zero_add, ← coe_sum]
    refine Finset.sum_congr rfl fun k _ => ?_
    rw [val_main_v1_apply, h0, Ideal.mulf_def, ← EReal.coe_mul]
  rw [val_main_v7_apply, val_main_v5_apply, val_main_v6_apply, val_main_cst_1_apply, val_main_v4_apply, val_main_cst_0_apply,
    val_main_v3_apply, e2, Ideal.hostDivf_def, Ideal.ofBits_def, Ideal.ofBits_def, div_1024, ofBits_eps, Ideal.addf_def, ← EReal.coe_add]
  rfl

include h0 in
theorem v8 (i : S1x8192x1.Idx) : val_main_v8 (F := Ideal) x0 i = ((invRms (row H (i 1).val) : ℝ) : EReal) := by
  rw [val_main_v8_apply, v7 H x0 h0, Ideal.hostUnary_rsqrt_def, rsqrt_meanSq]

include h0 in
theorem v11 (i : S1x8192x1.Idx) : val_main_v11 (F := Ideal) x0 i
    = ((-(1 / 2) * (invRms (row H (i 1).val) / meanSq (row H (i 1).val)) : ℝ) : EReal) := by
  rw [val_main_v11_apply, val_main_v10_apply, val_main_cst_2_apply, val_main_v9_apply, v7 H x0 h0, v8 H x0 h0, Ideal.hostDivf_def,
    div_real _ (meanSq_pos _).ne', Ideal.ofBits_def, ofBits_neg_half, Ideal.mulf_def, ← EReal.coe_mul]

include h2 in
theorem v17 (i : S1024x3840.Idx) : val_main_v17 (F := Ideal) x2 i = ((W (i 0).val (i 1).val : ℝ) : EReal) := by
  rw [val_main_v17_apply, h2]
  have a0 : (i 0).val < 1024 := (i 0).isLt
  have a1 : (i 1).val < 3840 := (i 1).isLt
  show ((W (((i 0).val * 3840 + (i 1).val) / 3840 % 1024) (((i 0).val * 3840 + (i 1).val) % 3840) : ℝ) : EReal) = _
  rw [show ((i 0).val * 3840 + (i 1).val) / 3840 % 1024 = (i 0).val by omega,
    show ((i 0).val * 3840 + (i 1).val) % 3840 = (i 1).val by omega]

include h2 hX in
theorem v176 (i : S1x8192x1024.Idx) : val_main_v176 (F := Ideal) x2 x3 x4 x5 x6 x7 x8 i = ((dn W X (i 1).val (i 2).val : ℝ) : EReal) := by
  rw [val_main_v176_apply]
  unfold dn
  rw [← coe_sum]
  refine Finset.sum_congr rfl fun k _ => ?_
  rw [hX, v17 W x2 h2, ← EReal.coe_mul]

include h0 h2 hX in
theorem v177 (i : S1x8192x1024.Idx) : val_main_v177 (F := Ideal) x0 x2 x3 x4 x5 x6 x7 x8 i
    = ((H (i 1).val (i 2).val * invRms (row H (i 1).val) * dn W X (i 1).val (i 2).val : ℝ) : EReal) := by
  rw [val_main_v177_apply, v176 W X x2 x3 x4 x5 x6 x7 x8 h2 hX, val_main_v13_apply, h0, val_main_v12_apply, v8 H x0 h0]
  simp only [Ideal.mulf_def, EReal.coe_mul]

include h1 in
theorem v180 (i : S1x8192x1024.Idx) : val_main_v180 (F := Ideal) x1 i = ((G (i 2).val : ℝ) : EReal) := by
  rw [val_main_v180_apply, val_main_v14_apply, val_main_v0_apply, h1]
  have a2 : (i 2).val < 1024 := (i 2).isLt
  show ((G ((i 2).val % 1024) : ℝ) : EReal) = _
  rw [Nat.mod_eq_of_lt a2]

include h1 h2 hX in
theorem v181 (i : S1x8192x1024.Idx) : val_main_v181 (F := Ideal) x1 x2 x3 x4 x5 x6 x7 x8 i
    = ((dn W X (i 1).val (i 2).val * G (i 2).val : ℝ) : EReal) := by
  rw [val_main_v181_apply, v176 W X x2 x3 x4 x5 x6 x7 x8 h2 hX, v180 G x1 h1, Ideal.mulf_def, ← EReal.coe_mul]

/-- The row's share of the derivative through the mean square, spread evenly. -/
def spread (r : ℕ) : ℝ :=
  ((∑ j, row H r j * dnG W G X r j) * (-(1 / 2) * (invRms (row H r) / meanSq (row H r)))) / 1024

include h0 h1 h2 hX in
theorem v191 (i : S1x8192x1.Idx) : val_main_v191 (F := Ideal) x0 x1 x2 x3 x4 x5 x6 x7 x8 i = ((spread H W X G (i 1).val : ℝ) : EReal) := by
  have e27 : ∀ j : S1x8192.Idx, val_main_v184 (F := Ideal) x0 x1 x2 x3 x4 x5 x6 x7 x8 j
      = ((∑ k : Fin 1024, row H (j 1).val k * dnG W G X (j 1).val k : ℝ) : EReal) := fun j => by
    rw [val_main_v184_apply, val_main_cst_40_apply, Ideal.ofBits_def, Ideal.ofBits_zero_f32, zero_add, ← coe_sum]
    refine Finset.sum_congr rfl fun k _ => ?_
    rw [val_main_v183_apply, h0, v181 W X G x1 x2 x3 x4 x5 x6 x7 x8 h1 h2 hX, Ideal.mulf_def, ← EReal.coe_mul]
  have a1 : (i 1).val < 8192 := (i 1).isLt
  rw [val_main_v191_apply, val_main_v190_apply, val_main_cst_41_apply, val_main_v189_apply, v11 H x0 h0, val_main_v185_apply, e27,
    Ideal.mulf_def, ← EReal.coe_mul, Ideal.hostDivf_def, Ideal.ofBits_def, div_1024]
  have e1 : (idx_main_v185 i 1).val = (i 1).val := by
    have a0 : (i 0).val < 1 := (i 0).isLt
    have a2 : (i 2).val < 1 := (i 2).isLt
    show (((i 0).val * 8192 + (i 1).val) * 1 + (i 2).val) % 8192 = (i 1).val
    omega
  rw [e1]
  rfl

include h0 h1 h2 hX in
theorem v192 (i : S8192.Idx) : val_main_v192 (F := Ideal) x0 x1 x2 x3 x4 x5 x6 x7 x8 i = ((spread H W X G (i 0).val : ℝ) : EReal) := by
  unfold val_main_v192
  show Ideal.hostReduceAdd _ _ (val_main_cst_42 (F := Ideal) _) i = _
  refine (hostReduceAdd_of_unique _ _ _ i (ix3 0 (i 0) 0) ?_ fun q hq => ?_).trans ?_
  · funext b
    match b with
    | ⟨0, _⟩ => rfl
  · have e1 : q 1 = i 0 := congrFun hq 0
    have b0 : (q 0).val < 1 := (q 0).isLt
    have b2 : (q 2).val < 1 := (q 2).isLt
    funext a
    match a with
    | ⟨0, _⟩ => exact Fin.ext (by show 0 = (q 0).val; omega)
    | ⟨1, _⟩ => exact e1.symm
    | ⟨2, _⟩ => exact Fin.ext (by show 0 = (q 2).val; omega)
  · rw [val_main_cst_42_apply, Ideal.ofBits_def, Ideal.ofBits_zero_f32, zero_add]
    exact v191 H W X G x0 x1 x2 x3 x4 x5 x6 x7 x8 h0 h1 h2 hX _

include h0 h1 h2 hX in
theorem v194 (i : S1x8192x1024.Idx) : val_main_v194 (F := Ideal) x0 x1 x2 x3 x4 x5 x6 x7 x8 i = ((spread H W X G (i 1).val : ℝ) : EReal) := by
  rw [val_main_v194_apply, val_main_v193_apply, v192 H W X G x0 x1 x2 x3 x4 x5 x6 x7 x8 h0 h1 h2 hX]

include h0 h1 h2 hX in
/-- The derivative by the input at row `r`, column `c`. -/
theorem dx_apply (i : S8192x1024.Idx) : val_main_v202 (F := Ideal) x0 x1 x2 x3 x4 x5 x6 x7 x8 x9 i
    = x9 (ix3 0 (i 0) (i 1)) + ((normGrad (row H (i 0).val) (dnG W G X (i 0).val) (i 1) : ℝ) : EReal) := by
  have a0 : (i 0).val < 8192 := (i 0).isLt
  have a1 : (i 1).val < 1024 := (i 1).isLt
  have e : idx_main_v202 i = ix3 0 (i 0) (i 1) := by
    funext a
    match a with
    | ⟨0, _⟩ => rfl
    | ⟨1, _⟩ => exact Fin.ext (by show ((i 0).val * 1024 + (i 1).val) / 1024 % 8192 = (i 0).val; omega)
    | ⟨2, _⟩ => exact Fin.ext (by show ((i 0).val * 1024 + (i 1).val) % 1024 = (i 1).val; omega)
  rw [val_main_v202_apply, e, val_main_v198_apply, val_main_v196_apply, val_main_v197_apply, val_main_v195_apply, val_main_v188_apply,
    val_main_v187_apply, val_main_v186_apply, v194 H W X G x0 x1 x2 x3 x4 x5 x6 x7 x8 h0 h1 h2 hX, v181 W X G x1 x2 x3 x4 x5 x6 x7 x8 h1 h2 hX, v8 H x0 h0, h0]
  simp only [Ideal.mulf_def, Ideal.addf_def, ← EReal.coe_mul]
  rw [add_assoc, add_assoc, ← EReal.coe_add, ← EReal.coe_add, ← normGrad_eq, ← add_assoc]
  rfl

include h0 h2 hX in
/-- The derivative by the gain at column `c`. -/
theorem dg_apply (i : S1x1024.Idx) : val_main_v199 (F := Ideal) x0 x2 x3 x4 x5 x6 x7 x8 i
    = ((∑ r : Fin 8192, H r.val (i 1).val * invRms (row H r.val) * dn W X r.val (i 1).val : ℝ) : EReal) := by
  have a1 : (i 1).val < 1024 := (i 1).isLt
  rw [val_main_v199_apply]
  unfold val_main_v182
  show Ideal.hostReduceAdd _ _ (val_main_cst_39 (F := Ideal) _) _ = _
  refine (hostReduceAdd_of_unique _ _ _ _ (ix3 0 0 (i 1)) ?_ fun q hq => ?_).trans ?_
  · funext b
    match b with
    | ⟨0, _⟩ => rfl
  · have e1 : q 2 = i 1 := congrFun hq 0
    have b0 : (q 0).val < 1 := (q 0).isLt
    have b1 : (q 1).val < 1 := (q 1).isLt
    funext a
    match a with
    | ⟨0, _⟩ => exact Fin.ext (by show 0 = (q 0).val; omega)
    | ⟨1, _⟩ => exact Fin.ext (by show 0 = (q 1).val; omega)
    | ⟨2, _⟩ => exact e1.symm
  · rw [val_main_cst_39_apply, Ideal.ofBits_def, Ideal.ofBits_zero_f32, zero_add, val_main_v179_apply, val_main_v178_apply,
      val_main_cst_38_apply, Ideal.ofBits_def, Ideal.ofBits_zero_f32, zero_add, ← coe_sum]
    refine Finset.sum_congr rfl fun k _ => ?_
    rw [v177 H W X x0 x2 x3 x4 x5 x6 x7 x8 h0 h2 hX]
    have e1 : (idx_main_v178 (idx_main_v179 (ix3 0 0 (i 1))) k 2).val = (i 1).val := by
      show ((0 * 1 + 0) * 1024 + (i 1).val) % 1024 = (i 1).val
      omega
    rw [e1]

include h0 h1 h2 hX in
/-- The derivative by the input at row `r`, column `c`, in the narrow type. -/
theorem dxb_apply (i : S8192x1024.Idx) : val_main_v204 (F := Ideal) x0 x1 x2 x3 x4 x5 x6 x7 x8 x9 i
    = x9 (ix3 0 (i 0) (i 1)) + ((normGrad (row H (i 0).val) (dnG W G X (i 0).val) (i 1) : ℝ) : EReal) := by
  have a0 : (i 0).val < 8192 := (i 0).isLt
  have a1 : (i 1).val < 1024 := (i 1).isLt
  have e : idx_main_v203 i = ix3 0 (i 0) (i 1) := by
    funext a
    match a with
    | ⟨0, _⟩ => rfl
    | ⟨1, _⟩ => exact Fin.ext (by show ((i 0).val * 1024 + (i 1).val) / 1024 % 8192 = (i 0).val; omega)
    | ⟨2, _⟩ => exact Fin.ext (by show ((i 0).val * 1024 + (i 1).val) % 1024 = (i 1).val; omega)
  rw [val_main_v204_apply, val_main_v203_apply, e, val_main_v198_apply, val_main_v196_apply, val_main_v197_apply, val_main_v195_apply, val_main_v188_apply,
    val_main_v187_apply, val_main_v186_apply, v194 H W X G x0 x1 x2 x3 x4 x5 x6 x7 x8 h0 h1 h2 hX, v181 W X G x1 x2 x3 x4 x5 x6 x7 x8 h1 h2 hX, v8 H x0 h0, h0]
  simp only [Ideal.truncf_def, Ideal.mulf_def, Ideal.addf_def, ← EReal.coe_mul]
  rw [add_assoc, add_assoc, ← EReal.coe_add, ← EReal.coe_add, ← normGrad_eq, ← add_assoc]
  rfl

include hX in
/-- The derivative by the joint projection, in the narrow type. -/
theorem dproj_apply (i : S8192x3840.Idx) : val_main_v201 (F := Ideal) x3 x4 x5 x6 x7 x8 i = ((X (i 0).val (i 1).val : ℝ) : EReal) := by
  have a0 : (i 0).val < 8192 := (i 0).isLt
  have a1 : (i 1).val < 3840 := (i 1).isLt
  have e1 : (idx_main_v200 i 1).val = (i 0).val := by
    show ((i 0).val * 3840 + (i 1).val) / 3840 % 8192 = (i 0).val
    omega
  have e2 : (idx_main_v200 i 2).val = (i 1).val := by
    show ((i 0).val * 3840 + (i 1).val) % 3840 = (i 1).val
    omega
  rw [val_main_v201_apply, val_main_v200_apply, hX, e1, e2]
  rfl

end Cert.ProjRefIdeal.Real

end
-- ==== Proof.ProjPay.lean ====
/-
  THE KERNEL OF THE SEVENTH PAIR, one block of 512 rows: the values its body stores, read over the real numbers. The
  pool's sums are made by doubling: a window of `2 n` rows is one of `n` rows and the one `n` rows further on.
-/
module

public import proofs.«01_k».proof.Proof.ProjSpec
public import proofs.«01_k».proof.Proof.Gen.ProjBwdIdeal.Skeleton
public import Idealize.ShloMosaic.Lib.Pointwise
public import Idealize.ShloMosaic.Lib.KernelVsHost

@[expose] public section

set_option maxRecDepth 16384
set_option backward.isDefEq.respectTransparency false

noncomputable section

namespace Cert.ProjBwdIdeal.Real

open Cert.ProjBwdIdeal Cert.ProjBwdIdeal.Gen Cert.Step Cert.Proj Idealize.ShloMosaic Idealize.ShloMosaic.Pointwise

/-! ## Sums of the rows from a row on -/

/-- The rows of a block and the sixteen after it, summed `n` at a time from each row on. -/
def Leads (g : ℕ → ℕ → ℝ) (n : ℕ) (z : FVec Ideal S528x128 .f32) : Prop :=
  ∀ (r : Fin 528) (k : Fin 128), r.val + n ≤ 528 → z (ix2 r k) = ((∑ i ∈ Finset.range n, g (r.val + i) k.val : ℝ) : EReal)

theorem leads_double (g : ℕ → ℕ → ℝ) (n : ℕ) (b : BitVec 32) (hb : b.toNat = 528 - n) (hn : 0 < n) (z : FVec Ideal S528x128 .f32)
    (hz : Leads g n z) : Leads g (2 * n) (addf z (dynamicRotate 0 b none z rotates_S528x128_d0)) := by
  intro r k hr
  have e : dynamicRotate 0 b none z rotates_S528x128_d0 (ix2 r k) = z (ix2 (⟨r.val + n, by omega⟩ : Fin 528) k) := by
    refine Idealize.ShloMosaic.dynamicRotate_apply _ _ _ _ _ _ fun x => ?_
    match x with
    | ⟨0, _⟩ =>
      show r.val + n = if (0 : Fin 2) = 0 then (r.val + 528 - b.toNat % 528) % 528 else r.val
      rw [if_pos rfl, hb]
      omega
    | ⟨1, _⟩ => rfl
  show z (ix2 r k) + _ = _
  rw [e, hz r k (by omega), hz ⟨r.val + n, by omega⟩ k (by show r.val + n + n ≤ 528; omega), ← EReal.coe_add, two_mul, Finset.sum_range_add]
  simp only [Nat.add_assoc]

theorem leads_one (g : ℕ → ℕ → ℝ) (z : FVec Ideal S528x128 .f32) (hz : ∀ (r : Fin 528) (k : Fin 128), z (ix2 r k) = ((g r.val k.val : ℝ) : EReal)) :
    Leads g 1 z := fun r k _ => by
  rw [hz, Finset.sum_range_one, Nat.add_zero]

/-! ## The pool's windows -/

variable (D : ℕ → ℕ → ℝ) (i : grid0.Coords) (t : ℕ) (ht : t < 16) (hi : (i 0).val = t)
variable (v16 : Vec Ideal S16x512 .f32)
variable (h16 : t < 15 → ∀ (r : Fin 16) (k : Fin 512), v16 (ix2 r k) = ((D (t * 512 + 512 + r.val) k.val : ℝ) : EReal))

include ht hi h16 in
/-- The rows after the block: nothing after the last one. -/
theorem pay7 (r : Fin 16) (k : Fin 512) : k0_pay7 (F := Ideal) i v16 (ix2 r k)
    = ((if t < 15 then D (t * 512 + 512 + r.val) k.val else 0 : ℝ) : EReal) := by
  have hc : Scalar.cmpi .eq (BitVec.ofNat 32 (i 0).val) 15#32 = if t < 15 then 0#1 else 1#1 := by
    rw [hi]
    interval_cases t <;> rfl
  pointwise [k0_pay7]
  rw [hc]
  by_cases h : t < 15
  · rw [if_pos h, if_pos h, ← h16 h r k]
    rfl
  · rw [if_neg h, if_neg h]
    rfl

theorem pay8 (v : Vec Ideal S512x128 .f32) : k0_pay8 (F := Ideal) v = v := by
  funext j
  obtain ⟨r, k, rfl⟩ : ∃ r k, j = ix2 r k := ⟨j 0, j 1, by funext a; match a with | ⟨0, _⟩ => rfl | ⟨1, _⟩ => rfl⟩
  pointwise [k0_pay8]

variable (o : ℕ) (v : Vec Ideal S512x128 .f32)
variable (hv : ∀ (r : Fin 512) (k : Fin 128), v (ix2 r k) = ((D (t * 512 + r.val) (o + k.val) : ℝ) : EReal))

/-- A block row's number plus one, at most the window, as it is computed in words. -/
def cw (t : ℕ) (r : ℕ) (w : BitVec 32) : BitVec 32 :=
  IntOp.minsi (IntOp.addi (IntOp.addi (Scalar.muli (BitVec.ofNat 32 t) 512#32) (BitVec.ofNat 32 r)) 1#32) w

include ht in
theorem cw_apply (r : Fin 512) (w : BitVec 32) (n : ℕ) (hw : w.toNat = n) (hn : n < 2 ^ 31) :
    (FloatOps.sitofp (F := Ideal) FTy.f32 (cw t r.val w) : EReal) = (((min (t * 512 + r.val + 1) n : ℕ) : ℝ) : EReal) := by
  refine count_word ?_ hw (by have := r.isLt; omega) hn
  have := r.isLt
  show (BitVec.ofNat 32 t * 512#32 + BitVec.ofNat 32 r.val + 1#32).toNat = _
  simp only [BitVec.toNat_add, BitVec.toNat_mul, BitVec.toNat_ofNat]
  omega

include ht in
theorem share_div (w : ℕ) (hw : 0 < w) (r : Fin 512) (c : ℕ) :
    Ideal.div ((D (t * 512 + r.val) c : ℝ) : EReal) (((min (t * 512 + r.val + 1) w : ℕ) : ℝ) : EReal) = ((share D w (t * 512 + r.val) c : ℝ) : EReal) := by
  have := r.isLt
  rw [div_real _ (count_ne _ w hw)]
  unfold share
  rw [if_pos (by omega)]

include ht in
theorem share_halo (w : ℕ) (hw : 0 < w) (hw' : w ≤ 16) (r : Fin 16) (c : ℕ) :
    Ideal.div ((if t < 15 then D (t * 512 + 512 + r.val) c else 0 : ℝ) : EReal) ((w : ℝ) : EReal) = ((share D w (t * 512 + 512 + r.val) c : ℝ) : EReal) := by
  have := r.isLt
  rw [div_real _ (by exact_mod_cast hw.ne')]
  unfold share
  by_cases h : t < 15
  · rw [if_pos h, if_pos (by omega), show min (t * 512 + 512 + r.val + 1) w = w by omega]
  · rw [if_neg h, if_neg (by omega), zero_div]

/-- The block's rows and the sixteen after it, each divided by its window's count. -/
theorem scaled_apply (w : ℕ) (a : FVec Ideal S512x128 .f32) (b : FVec Ideal S16x128 .f32) (q : ℕ)
    (ha : ∀ (r : Fin 512) (k : Fin 128), a (ix2 r k) = ((share D w (q + r.val) (o + k.val) : ℝ) : EReal))
    (hb : ∀ (r : Fin 16) (k : Fin 128), b (ix2 r k) = ((share D w (q + 512 + r.val) (o + k.val) : ℝ) : EReal)) (r : Fin 528) (k : Fin 128) :
    concatenate S528x128 0 [⟨S512x128, a⟩, ⟨S16x128, b⟩] concatenates_S512x128_S16x128_S528x128_d0 (ix2 r k) = ((share D w (q + r.val) (o + k.val) : ℝ) : EReal) := by
  pointwise []
  by_cases h : r.val < 512
  · rw [dif_pos h, ha]
  · rw [dif_neg h, hb]
    show ((share D w (q + 512 + (r.val - 512)) (o + k.val) : ℝ) : EReal) = _
    rw [show q + 512 + (r.val - 512) = q + r.val by omega]

include ht hi hv in
theorem pay9 (r : Fin 512) (k : Fin 128) : k0_pay9 (F := Ideal) i v (ix2 r k) = ((share D 2 (t * 512 + r.val) (o + k.val) : ℝ) : EReal) := by
  pointwise [k0_pay9, k0_pay8]
  rw [hv, hi]
  exact (congrArg _ (cw_apply t ht r 2#32 2 rfl (by norm_num))).trans (share_div D t ht 2 (by norm_num) r _)

/-- The pool's part from the sums of its window. -/
theorem pool_out (w q : ℕ) (hw : w ≤ 16) (z : FVec Ideal S528x128 .f32) (hz : Leads (fun r k => share D w (q + r) (o + k)) w z)
    (v : FVec Ideal S512x128 .f32) (hv : ∀ (r : Fin 512) (k : Fin 128), v (ix2 r k) = ((D (q + r.val) (o + k.val) : ℝ) : EReal)) (r : Fin 512) (k : Fin 128) :
    subf (extractStridedSlice S512x128 ![0, 0] z slices_S528x128_o0_0_S512x128) v (ix2 r k) = ((Proj.pool D w (q + r.val) (o + k.val) : ℝ) : EReal) := by
  have := r.isLt
  have e := hz ⟨r.val, by omega⟩ k (by show r.val + w ≤ 528; omega)
  pointwise []
  rw [hv]
  refine (congrArg (· - _) e).trans ?_
  rw [← EReal.coe_sub]
  unfold Proj.pool
  simp only [Nat.add_assoc]

/-- The rows after the block for one window, divided by it. -/
theorem halo_apply (w : ℕ) (hw : 0 < w) (hw' : w ≤ 16) (ht : t < 16) (x : Ideal .f32) (hx : (x : EReal) = ((w : ℝ) : EReal)) (y : FVec Ideal S16x512 .f32)
    (hy : ∀ (r : Fin 16) (k : Fin 512), y (ix2 r k) = ((if t < 15 then D (t * 512 + 512 + r.val) k.val else 0 : ℝ) : EReal)) (off : Fin 2 → ℕ)
    (h0 : off 0 = 0) (h1 : off 1 = o) (ho : o + 128 ≤ 512) (hs : S16x512.Slices off S16x128) (r : Fin 16) (k : Fin 128) :
    divf (extractStridedSlice S16x128 off y hs) (broadcast S16x128 x) (ix2 r k) = ((share D w (t * 512 + 512 + r.val) (o + k.val) : ℝ) : EReal) := by
  have e : extractStridedSlice S16x128 off y hs (ix2 r k) = y (ix2 r ⟨o + k.val, by omega⟩) :=
    extractStridedSlice_apply off y hs (ix2 r k) (ix2 r ⟨o + k.val, by omega⟩) (fun a => match a with
      | ⟨0, _⟩ => by show r.val = off 0 + r.val; omega
      | ⟨1, _⟩ => by show o + k.val = off 1 + k.val; omega)
  show Ideal.div (extractStridedSlice S16x128 off y hs (ix2 r k)) x = _
  rw [e, hy, hx]
  exact share_halo D t ht w hw hw' r _

theorem ofBits_2 : (FloatOps.ofBits (F := Ideal) .f32 0x40000000#32 : EReal) = (((2 : ℕ) : ℝ) : EReal) := by
  show Ideal.ofBits .f32 _ = _
  simp [Ideal.ofBits, Ideal.ieee, -EReal.coe_mul]; norm_num

theorem ofBits_4 : (FloatOps.ofBits (F := Ideal) .f32 0x40800000#32 : EReal) = (((4 : ℕ) : ℝ) : EReal) := by
  show Ideal.ofBits .f32 _ = _
  simp [Ideal.ofBits, Ideal.ieee, -EReal.coe_mul]; norm_num

theorem ofBits_8 : (FloatOps.ofBits (F := Ideal) .f32 0x41000000#32 : EReal) = (((8 : ℕ) : ℝ) : EReal) := by
  show Ideal.ofBits .f32 _ = _
  simp [Ideal.ofBits, Ideal.ieee, -EReal.coe_mul]; norm_num

theorem ofBits_16 : (FloatOps.ofBits (F := Ideal) .f32 0x41800000#32 : EReal) = (((16 : ℕ) : ℝ) : EReal) := by
  show Ideal.ofBits .f32 _ = _
  simp [Ideal.ofBits, Ideal.ieee, -EReal.coe_mul]; norm_num

variable (y : FVec Ideal S16x512 .f32)
variable (hy : ∀ (r : Fin 16) (k : Fin 512), y (ix2 r k) = ((if t < 15 then D (t * 512 + 512 + r.val) k.val else 0 : ℝ) : EReal))

include ht hi hv hy in
/-- The window of two rows. -/
theorem pay11 (ho : o = 0) (r : Fin 512) (k : Fin 128) :
    k0_pay11 (F := Ideal) (k0_pay8 v) (k0_pay9 i v) (extractStridedSlice S16x128 ![0, 0] y slices_S16x512_o0_0_S16x128) (Scalar.ofBits .f32 0x40000000#32) (ix2 r k)
      = ((Proj.pool D 2 (t * 512 + r.val) (o + k.val) : ℝ) : EReal) := by
  unfold k0_pay11
  dsimp only
  rw [pay8]
  refine pool_out D o 2 (t * 512) (by norm_num) _ ?_ v hv r k
  refine leads_double _ 1 527#32 rfl (by norm_num) _ (leads_one _ _ fun r k => ?_)
  exact scaled_apply D o 2 _ _ (t * 512) (pay9 D i t ht hi o v hv)
    (halo_apply D t o 2 (by norm_num) (by norm_num) ht _ ofBits_2 y hy ![0, 0] rfl ho.symm (by omega) _) r k

include ht hv in
/-- The block's rows divided by their counts. -/
theorem own_apply (w : ℕ) (hw : 0 < w) (b : BitVec 32) (hb : b.toNat = w) (hw' : w < 2 ^ 31) (a : FVec Ideal S512x128 .f32)
    (ha : ∀ (r : Fin 512) (k : Fin 128), a (ix2 r k) = Ideal.div (v (ix2 r k)) (FloatOps.sitofp (F := Ideal) FTy.f32 (cw t r.val b))) (r : Fin 512) (k : Fin 128) :
    a (ix2 r k) = ((share D w (t * 512 + r.val) (o + k.val) : ℝ) : EReal) := by
  rw [ha, hv]
  exact (congrArg _ (cw_apply t ht r b w hb hw')).trans (share_div D t ht w hw r _)

include ht hi hv hy in
/-- The window of four rows. -/
theorem pay12 (ho : o = 128) (r : Fin 512) (k : Fin 128) :
    k0_pay12 (F := Ideal) (BitVec.ofNat 32 (i 0).val) y v (ix2 r k) = ((Proj.pool D 4 (t * 512 + r.val) (o + k.val) : ℝ) : EReal) := by
  unfold k0_pay12
  dsimp only
  have e8 : shapeCast S512x128 v shapeCasts_S512x128_S512x128 = v := pay8 v
  rw [e8, hi]
  refine pool_out D o 4 (t * 512) (by norm_num) _ ?_ v hv r k
  refine leads_double _ 2 526#32 rfl (by norm_num) _ (leads_double _ 1 527#32 rfl (by norm_num) _ (leads_one _ _ fun r k => ?_))
  refine scaled_apply D o 4 _ _ (t * 512) (own_apply D t ht o v hv 4 (by norm_num) 4#32 rfl (by norm_num) _ fun r k => ?_)
    (halo_apply D t o 4 (by norm_num) (by norm_num) ht _ ofBits_4 y hy ![0, 128] rfl ho.symm (by omega) _) r k
  pointwise [cw]

include ht hi hv hy in
/-- The window of eight rows. -/
theorem pay16 (ho : o = 256) (r : Fin 512) (k : Fin 128) :
    k0_pay16 (F := Ideal) y (k0_pay13 v) (k0_pay14 (BitVec.ofNat 32 (i 0).val)) k0_pay15 (ix2 r k) = ((Proj.pool D 8 (t * 512 + r.val) (o + k.val) : ℝ) : EReal) := by
  have e8 : k0_pay13 (F := Ideal) v = v := pay8 v
  rw [e8, hi]
  unfold k0_pay16 k0_pay14 k0_pay15
  dsimp only
  refine pool_out D o 8 (t * 512) (by norm_num) _ ?_ v hv r k
  refine leads_double _ 4 524#32 rfl (by norm_num) _ (leads_double _ 2 526#32 rfl (by norm_num) _ (leads_double _ 1 527#32 rfl (by norm_num) _ (leads_one _ _ fun r k => ?_)))
  refine scaled_apply D o 8 _ _ (t * 512) (own_apply D t ht o v hv 8 (by norm_num) 8#32 rfl (by norm_num) _ fun r k => ?_)
    (halo_apply D t o 8 (by norm_num) (by norm_num) ht _ ofBits_8 y hy ![0, 256] rfl ho.symm (by omega) _) r k
  pointwise [cw]

include ht hi hv hy in
/-- The window of sixteen rows. -/
theorem pay19 (ho : o = 384) (r : Fin 512) (k : Fin 128) :
    k0_pay19 (F := Ideal) (k0_pay17 v) (k0_pay18 (BitVec.ofNat 32 (i 0).val) y v) (ix2 r k) = ((Proj.pool D 16 (t * 512 + r.val) (o + k.val) : ℝ) : EReal) := by
  have e8 : k0_pay17 (F := Ideal) v = v := pay8 v
  unfold k0_pay19 k0_pay18
  rw [e8, hi]
  dsimp only
  refine pool_out D o 16 (t * 512) (by norm_num) _ ?_ v hv r k
  refine leads_double _ 8 520#32 rfl (by norm_num) _ (leads_double _ 4 524#32 rfl (by norm_num) _ (leads_double _ 2 526#32 rfl (by norm_num) _ (leads_double _ 1 527#32 rfl (by norm_num) _ (leads_one _ _ fun r k => ?_))))
  refine scaled_apply D o 16 _ _ (t * 512) (own_apply D t ht o v hv 16 (by norm_num) 16#32 rfl (by norm_num) _ fun r k => ?_)
    (halo_apply D t o 16 (by norm_num) (by norm_num) ht _ ofBits_16 y hy ![0, 384] rfl ho.symm (by omega) _) r k
  pointwise [cw]

end Cert.ProjBwdIdeal.Real

end
-- ==== Proof.ProjPay2.lean ====
/-
  THE KERNEL OF THE SEVENTH PAIR, one block of 512 rows: the band, and the norm's gradient from the joint projection's.
-/
module

public import proofs.«01_k».proof.Proof.ProjPay

@[expose] public section

set_option maxRecDepth 16384
set_option backward.isDefEq.respectTransparency false

noncomputable section

namespace Cert.ProjBwdIdeal.Real

open Cert.ProjBwdIdeal Cert.ProjBwdIdeal.Gen Cert.Step Cert.Proj Idealize.ShloMosaic Idealize.ShloMosaic.Pointwise

section
variable (O P : ℕ → ℕ → ℝ) (i : grid0.Coords) (t : ℕ) (ht : t < 16) (hi : (i 0).val = t)
variable (v4 : Vec Ideal S128x256 .f32) (v8 : Vec Ideal S384x256 .f32) (v11 : Vec Ideal S512x256 .f32)
variable (h4 : t < 15 → ∀ (r : Fin 128) (k : Fin 256), v4 (ix2 r k) = ((P (t * 512 + 512 + r.val) k.val : ℝ) : EReal))
variable (h8 : ∀ (r : Fin 384) (k : Fin 256), v8 (ix2 r k) = ((P (t * 512 + 128 + r.val) k.val : ℝ) : EReal))
variable (h11 : ∀ (r : Fin 512) (k : Fin 256), v11 (ix2 r k) = ((O (t * 512 + r.val) k.val : ℝ) : EReal))

include ht hi h4 h8 h11 in
/-- The band: a row's own block and the rows of the block after it, of which the last row block has none. -/
theorem pay6 (r : Fin 512) (k : Fin 256) : k0_pay6 (F := Ideal) i v4 v8 v11 (ix2 r k) = ((band O P (t * 512 + r.val) k.val : ℝ) : EReal) := by
  have hc : Scalar.cmpi .eq (BitVec.ofNat 32 (i 0).val) 15#32 = if t < 15 then 0#1 else 1#1 := by
    rw [hi]
    interval_cases t <;> rfl
  have := r.isLt
  pointwise [k0_pay6]
  rw [hc, h11]
  unfold band
  by_cases h : r.val < 384
  · rw [dif_pos h, h8, if_pos (show t * 512 + r.val + 128 < 8192 by omega), ← EReal.coe_add,
      show t * 512 + 128 + r.val = t * 512 + r.val + 128 by omega]
  · rw [dif_neg h]
    by_cases hl : t < 15
    · rw [if_pos hl, h4 hl, if_pos (show t * 512 + r.val + 128 < 8192 by omega), show (⟨r.val - 384, by omega⟩ : Fin 128).val = r.val - 384 from rfl,
        show t * 512 + 512 + (r.val - 384) = t * 512 + r.val + 128 by omega, EReal.coe_add]
      rfl
    · rw [if_neg hl, if_neg (show ¬ t * 512 + r.val + 128 < 8192 by omega), add_zero]
      exact add_zero _

end

variable (X W H : ℕ → ℕ → ℝ) (G : ℕ → ℝ) (q : ℕ)
variable (v127 : Vec Ideal S512x3840 .bf16) (v129 : Vec Ideal S3840x1024 .bf16) (v132 v160 : Vec Ideal S512x1024 .f32) (v144 : Vec Ideal S1x1024 .f32)
variable (h127 : ∀ (r : Fin 512) (j : Fin 3840), v127 (ix2 r j) = ((X (q + r.val) j.val : ℝ) : EReal))
variable (h129 : ∀ (j : Fin 3840) (c : Fin 1024), v129 (ix2 j c) = ((W c.val j.val : ℝ) : EReal))
variable (h132 : ∀ (r : Fin 512) (k : Fin 1024), v132 (ix2 r k) = ((H (q + r.val) k.val : ℝ) : EReal))
variable (h144 : ∀ (c : Fin 1024), v144 (ix2 0 c) = ((G c.val : ℝ) : EReal))

theorem pay5 (v : Vec Ideal S512x1024 .bf16) (r : Fin 512) (k : Fin 1024) : k0_pay5 (F := Ideal) v (ix2 r k) = v (ix2 r k) := by
  pointwise [k0_pay5]

theorem pay20 (v : Vec Ideal S512x2048 .bf16) (r : Fin 512) (k : Fin 2048) : k0_pay20 (F := Ideal) v (ix2 r k) = v (ix2 r k) := by
  pointwise [k0_pay20]

theorem pay3 (c : Fin 1024) : k0_pay3 (F := Ideal) (ix2 0 c) = 0 := by
  pointwise [k0_pay3]

include h127 h129 in
theorem pay21 (r : Fin 512) (c : Fin 1024) : k0_pay21 (F := Ideal) v127 v129 (ix2 r c) = ((dn W X (q + r.val) c.val : ℝ) : EReal) := by
  pointwise [k0_pay21]
  simp only [h127, h129, ← EReal.coe_mul, coe_sum]
  rfl

include h132 in
theorem pay23 (r : Fin 512) : k0_pay23 (F := Ideal) v132 (ix2 r 0) = ((invRms (row H (q + r.val)) : ℝ) : EReal) := by
  pointwise [k0_pay23, k0_pay22]
  simp only [h132, ← EReal.coe_mul, coe_sum, div_1024, ofBits_eps, ← EReal.coe_add]
  exact rsqrt_meanSq _

include h132 in
theorem pay24 (r : Fin 512) (c : Fin 1024) : k0_pay24 (F := Ideal) v132 (ix2 r c)
    = ((H (q + r.val) c.val * invRms (row H (q + r.val)) : ℝ) : EReal) := by
  pointwise [k0_pay24, k0_pay22]
  rw [h132, pay23 H q v132 h132, ← EReal.coe_mul]

include h127 h129 h132 h144 in
theorem pay1 (r : Fin 512) (c : Fin 1024) : k0_pay1 (F := Ideal) (k0_pay23 v132) (k0_pay25 v127 v129 v132 v144) v160 (ix2 r c)
    = v160 (ix2 r c) + ((normGrad (row H (q + r.val)) (dnG W G X (q + r.val)) c : ℝ) : EReal) := by
  pointwise [k0_pay1, k0_pay25]
  simp only [pay21 X W q v127 v129 h127 h129, pay24 H q v132 h132, pay23 H q v132 h132, h144, ← EReal.coe_mul, coe_sum, div_1024, ← EReal.coe_sub]
  rfl

include h127 h129 h132 h144 in
theorem pay2 (r : Fin 512) (c : Fin 1024) : k0_pay2 (F := Ideal) (k0_pay23 v132) (k0_pay25 v127 v129 v132 v144) v160 (ix2 r c)
    = v160 (ix2 r c) + ((normGrad (row H (q + r.val)) (dnG W G X (q + r.val)) c : ℝ) : EReal) := by
  refine Eq.trans ?_ (pay1 X W H G q v127 v129 v132 v160 v144 h127 h129 h132 h144 r c)
  rfl

include h127 h129 h132 in
theorem pay4 (v169 : Vec Ideal S1x1024 .f32) (c : Fin 1024) : k0_pay4 (F := Ideal) (k0_pay21 v127 v129) (k0_pay24 v132) v169 (ix2 0 c)
    = v169 (ix2 0 c) + ((∑ r : Fin 512, dn W X (q + r.val) c.val * (H (q + r.val) c.val * invRms (row H (q + r.val))) : ℝ) : EReal) := by
  pointwise [k0_pay4]
  simp only [pay21 X W q v127 v129 h127 h129, pay24 H q v132 h132, ← EReal.coe_mul, coe_sum]

end Cert.ProjBwdIdeal.Real

end
-- ==== Proof.ProjBlk.lean ====
/-
  THE KERNEL OF THE SEVENTH PAIR, its blocks: what each input window reads at a grid point, over the arguments' entries.
-/
module

public import proofs.«01_k».proof.Proof.ProjPay2
public import proofs.«01_k».proof.Proof.MixVal
public import proofs.«01_k».proof.Proof.Gen.ProjBwdIdeal.Value

@[expose] public section

set_option maxRecDepth 16384
set_option backward.isDefEq.respectTransparency false

noncomputable section

namespace Cert.ProjBwdIdeal.Real

open Cert.ProjBwdIdeal Cert.ProjBwdIdeal.Gen Cert.Step Cert.Proj Idealize.ShloMosaic Idealize.ShloMosaic.TcCoe Idealize.SL.Sem
open Idealize.ShloMosaic.Pointwise Idealize.ShloMosaic.StableHlo
open Cert.MixBwdIdeal.Real (ix2_of)

variable (m : (ℓ : Loc nD τ sig) → Buf (Elt Ideal) ℓ) (c : Dev nD)

/-- The keys' and the values' cotangents side by side, a row's heads in one line. -/
def kvCat (x4 x5 : FVec Ideal S1x64x256x2x64 .f32) : FVec Ideal S64x256x256 .f32 :=
  concatenate S64x256x256 2 [⟨S64x256x128, shapeCast S64x256x128 x4 shapeCasts_S1x64x256x2x64_S64x256x128⟩,
    ⟨S64x256x128, shapeCast S64x256x128 x5 shapeCasts_S1x64x256x2x64_S64x256x128⟩] concatenates_S64x256x128_S64x256x128_S64x256x256_d2

/-- The rows' own blocks. -/
def ownArr (x4 x5 : FVec Ideal S1x64x256x2x64 .f32) : FVec Ideal S8192x256 .f32 :=
  shapeCast S8192x256 (extractStridedSlice S64x128x256 ![0, 128, 0] (kvCat x4 x5) slices_S64x256x256_S64x128x256_0_128_0) shapeCasts_S64x128x256_S8192x256

/-- The rows' bands. -/
def prevArr (x4 x5 : FVec Ideal S1x64x256x2x64 .f32) : FVec Ideal S8192x256 .f32 :=
  shapeCast S8192x256 (extractStridedSlice S64x128x256 ![0, 0, 0] (kvCat x4 x5) slices_S64x256x256_S64x128x256_0_0_0) shapeCasts_S64x128x256_S8192x256

/-- The two gates' cotangents side by side. -/
def gateArr (x7 x8 : FVec Ideal S1x8192x1024 .f32) : FVec Ideal S8192x2048 .bf16 :=
  truncf .bf16 (concatenate S8192x2048 1 [⟨S8192x1024, shapeCast S8192x1024 x7 shapeCasts_S1x8192x1024_S8192x1024⟩,
    ⟨S8192x1024, shapeCast S8192x1024 x8 shapeCasts_S1x8192x1024_S8192x1024⟩] concatenates_S8192x1024_S8192x1024_S8192x2048_d1) bitsLt_bf16_f32

/-- The weights, transposed. -/
def wArr (x2 : FVec Ideal S1x1024x3840 .f32) : FVec Ideal S3840x1024 .bf16 :=
  truncf .bf16 (transpose S3840x1024 [1, 0] (shapeCast S1024x3840 x2 shapeCasts_S1x1024x3840_S1024x3840) transposes_S1024x3840_S3840x1024_1_0) bitsLt_bf16_f32

section
variable (K Y : ℕ → ℕ → ℕ → ℕ → ℝ) (x4 x5 : FVec Ideal S1x64x256x2x64 .f32)
variable (h4 : ∀ (a : Fin 64) (b : Fin 256) (d : Fin 2) (e : Fin 64), x4 (ix5 0 a b d e) = ((K a.val b.val d.val e.val : ℝ) : EReal))
variable (h5 : ∀ (a : Fin 64) (b : Fin 256) (d : Fin 2) (e : Fin 64), x5 (ix5 0 a b d e) = ((Y a.val b.val d.val e.val : ℝ) : EReal))

include h4 h5 in
theorem ownArr_apply (r : Fin 8192) (k : Fin 256) : ownArr x4 x5 (ix2 r k) = ((own K Y r.val k.val : ℝ) : EReal) := by
  have := k.isLt
  unfold ownArr kvCat own
  pointwise []
  by_cases h : k.val < 128
  · rw [dif_pos h, if_pos h, h4]
  · rw [dif_neg h, if_neg h, h5]

include h4 h5 in
theorem prevArr_apply (r : Fin 8192) (k : Fin 256) : prevArr x4 x5 (ix2 r k) = ((prev K Y r.val k.val : ℝ) : EReal) := by
  have := k.isLt
  unfold prevArr kvCat prev
  pointwise []
  by_cases h : k.val < 128
  · rw [dif_pos h, if_pos h, h4]
  · rw [dif_neg h, if_neg h, h5]

end

theorem gateArr_apply (A B : ℕ → ℕ → ℝ) (x7 x8 : FVec Ideal S1x8192x1024 .f32)
    (h7 : ∀ (r : Fin 8192) (k : Fin 1024), x7 (ix3 0 r k) = ((A r.val k.val : ℝ) : EReal))
    (h8 : ∀ (r : Fin 8192) (k : Fin 1024), x8 (ix3 0 r k) = ((B r.val k.val : ℝ) : EReal)) (r : Fin 8192) (k : Fin 2048) :
    gateArr x7 x8 (ix2 r k) = ((if k.val < 1024 then A r.val k.val else B r.val (k.val - 1024) : ℝ) : EReal) := by
  unfold gateArr
  pointwise []
  by_cases h : k.val < 1024
  · rw [dif_pos h, if_pos h, h7]
  · rw [dif_neg h, if_neg h, h8]

theorem wArr_apply (W : ℕ → ℕ → ℝ) (x2 : FVec Ideal S1x1024x3840 .f32)
    (h2 : ∀ (k : Fin 1024) (j : Fin 3840), x2 (ix3 0 k j) = ((W k.val j.val : ℝ) : EReal)) (j : Fin 3840) (k : Fin 1024) :
    wArr x2 (ix2 j k) = ((W k.val j.val : ℝ) : EReal) := by
  unfold wArr
  pointwise []
  rw [h2]

theorem V_v4 : V m c main_v4 = ownArr (m ((c : Thread nD τ).loc main_arg4)) (m ((c : Thread nD τ).loc main_arg5)) := by
  show StableHlo.after hostOps0 _ _ = _
  after_results
  rfl

theorem V_v6 : V m c main_v6 = prevArr (m ((c : Thread nD τ).loc main_arg4)) (m ((c : Thread nD τ).loc main_arg5)) := by
  show StableHlo.after hostOps0 _ _ = _
  after_results
  rfl

theorem V_v8 : V m c main_v8 = truncf (F := Ideal) .bf16 (shapeCast S8192x1024 (m ((c : Thread nD τ).loc main_arg3)) shapeCasts_S1x8192x1024_S8192x1024) bitsLt_bf16_f32 := by
  show StableHlo.after hostOps0 _ _ = _
  after_results
  rfl

theorem V_v9 : V m c main_v9 = shapeCast S8192x512 (m ((c : Thread nD τ).loc main_arg6)) shapeCasts_S1x8192x512_S8192x512 := by
  show StableHlo.after hostOps0 _ _ = _
  after_results
  rfl

theorem V_v13 : V m c main_v13 = gateArr (m ((c : Thread nD τ).loc main_arg7)) (m ((c : Thread nD τ).loc main_arg8)) := by
  show StableHlo.after hostOps0 _ _ = _
  after_results
  rfl

theorem V_v14 : V m c main_v14 = shapeCast S8192x1024 (m ((c : Thread nD τ).loc main_arg0)) shapeCasts_S1x8192x1024_S8192x1024 := by
  show StableHlo.after hostOps0 _ _ = _
  after_results
  rfl

theorem V_v17 : V m c main_v17 = wArr (m ((c : Thread nD τ).loc main_arg2)) := by
  show StableHlo.after hostOps0 _ _ = _
  after_results
  rfl

theorem V_v18 : V m c main_v18 = shapeCast S8192x1024 (m ((c : Thread nD τ).loc main_arg9)) shapeCasts_S1x8192x1024_S8192x1024 := by
  show StableHlo.after hostOps0 _ _ = _
  after_results
  rfl

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = t.val ∧ win0_2.index t 1 = 0 := by decide +kernel
theorem idx4 : ∀ t : Fin cfg0.N, win0_4.index t 0 = t.val ∧ win0_4.index t 1 = 0 := by decide +kernel
theorem idx6 : ∀ t : Fin cfg0.N, win0_6.index t 0 = t.val ∧ win0_6.index t 1 = 0 := by decide +kernel
theorem idx7 : ∀ t : Fin cfg0.N, win0_7.index t 0 = t.val ∧ win0_7.index t 1 = 0 := by decide +kernel
theorem idx10 : ∀ t : Fin cfg0.N, win0_10.index t 0 = t.val ∧ win0_10.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem idx3 : ∀ t : Fin cfg0.N, (t.val < 15 → win0_3.index t 0 = t.val * 4 + 4) ∧ win0_3.index t 1 = 0 := by decide +kernel
theorem idx5 : ∀ t : Fin cfg0.N, (t.val < 15 → win0_5.index t 0 = t.val * 32 + 32) ∧ win0_5.index t 1 = 0 := by decide +kernel

variable (H W Q D A B : ℕ → ℕ → ℝ) (G : ℕ → ℝ) (K Y : ℕ → ℕ → ℕ → ℕ → ℝ)
variable (h0 : ∀ (r : Fin 8192) (k : Fin 1024), m ((c : Thread nD τ).loc main_arg0) (ix3 0 r k) = ((H r.val k.val : ℝ) : EReal))
variable (h1 : ∀ k : Fin 1024, m ((c : Thread nD τ).loc main_arg1) (ix2 0 k) = ((G k.val : ℝ) : EReal))
variable (h2 : ∀ (k : Fin 1024) (j : Fin 3840), m ((c : Thread nD τ).loc main_arg2) (ix3 0 k j) = ((W k.val j.val : ℝ) : EReal))
variable (h3 : ∀ (r : Fin 8192) (k : Fin 1024), m ((c : Thread nD τ).loc main_arg3) (ix3 0 r k) = ((Q r.val k.val : ℝ) : EReal))
variable (h4 : ∀ (a : Fin 64) (b : Fin 256) (d : Fin 2) (e : Fin 64), m ((c : Thread nD τ).loc main_arg4) (ix5 0 a b d e) = ((K a.val b.val d.val e.val : ℝ) : EReal))
variable (h5 : ∀ (a : Fin 64) (b : Fin 256) (d : Fin 2) (e : Fin 64), m ((c : Thread nD τ).loc main_arg5) (ix5 0 a b d e) = ((Y a.val b.val d.val e.val : ℝ) : EReal))
variable (h6 : ∀ (r : Fin 8192) (k : Fin 512), m ((c : Thread nD τ).loc main_arg6) (ix3 0 r k) = ((D r.val k.val : ℝ) : EReal))
variable (h7 : ∀ (r : Fin 8192) (k : Fin 1024), m ((c : Thread nD τ).loc main_arg7) (ix3 0 r k) = ((A r.val k.val : ℝ) : EReal))
variable (h8 : ∀ (r : Fin 8192) (k : Fin 1024), m ((c : Thread nD τ).loc main_arg8) (ix3 0 r k) = ((B r.val k.val : ℝ) : EReal))
variable (t : Fin cfg0.N)

theorem N16 : t.val < 16 := by have h : cfg0.N = 16 := N_0; have := t.isLt; omega

theorem coord : (grid0.coords t 0).val = t.val := (by decide +kernel : ∀ t : Fin cfg0.N, (grid0.coords t 0).val = t.val) t

include h3 in
theorem blk0 (r : Fin 512) (k : Fin 1024) : (iblk m c 0 t : Vec Ideal S512x1024 .bf16) (ix2 r k) = ((Q (t.val * 512 + r.val) k.val : ℝ) : EReal) := by
  have hN := N16 t
  unfold iblk
  rw [View.read_apply]
  show V m c main_v8 _ = _
  rw [V_v8]
  refine (congrArg _ (ix2_of _ (⟨t.val * 512 + r.val, by omega⟩ : Fin 8192) k ?_ ?_)).trans ((slab_apply _ _ _ _).trans (h3 _ _))
  · show win0_0.index t 0 * 512 + 1 * r.val = t.val * 512 + r.val; rw [(idx0 t).1]; omega
  · show win0_0.index t 1 * 1024 + 1 * k.val = k.val; rw [(idx0 t).2]; omega

include h4 h5 in
theorem blk1 (r : Fin 512) (k : Fin 256) : (iblk m c 1 t : Vec Ideal S512x256 .f32) (ix2 r k) = ((own K Y (t.val * 512 + r.val) k.val : ℝ) : EReal) := by
  have hN := N16 t
  unfold iblk
  rw [View.read_apply]
  show V m c main_v4 _ = _
  rw [V_v4]
  refine (congrArg _ (ix2_of _ (⟨t.val * 512 + r.val, by omega⟩ : Fin 8192) k ?_ ?_)).trans (ownArr_apply K Y _ _ h4 h5 _ _)
  · show win0_1.index t 0 * 512 + 1 * r.val = t.val * 512 + r.val; rw [(idx1 t).1]; omega
  · show win0_1.index t 1 * 256 + 1 * k.val = k.val; rw [(idx1 t).2]; omega

include h4 h5 in
theorem blk2 (r : Fin 512) (k : Fin 256) : (iblk m c 2 t : Vec Ideal S512x256 .f32) (ix2 r k) = ((prev K Y (t.val * 512 + r.val) k.val : ℝ) : EReal) := by
  have hN := N16 t
  unfold iblk
  rw [View.read_apply]
  show V m c main_v6 _ = _
  rw [V_v6]
  refine (congrArg _ (ix2_of _ (⟨t.val * 512 + r.val, by omega⟩ : Fin 8192) k ?_ ?_)).trans (prevArr_apply K Y _ _ h4 h5 _ _)
  · show win0_2.index t 0 * 512 + 1 * r.val = t.val * 512 + r.val; rw [(idx2 t).1]; omega
  · show win0_2.index t 1 * 256 + 1 * k.val = k.val; rw [(idx2 t).2]; omega

include h4 h5 in
theorem blk3 (hl : t.val < 15) (r : Fin 128) (k : Fin 256) : (iblk m c 3 t : Vec Ideal S128x256 .f32) (ix2 r k) = ((prev K Y (t.val * 512 + 512 + r.val) k.val : ℝ) : EReal) := by
  have hN := N16 t
  unfold iblk
  rw [View.read_apply]
  show V m c main_v6 _ = _
  rw [V_v6]
  refine (congrArg _ (ix2_of _ (⟨t.val * 512 + 512 + r.val, by omega⟩ : Fin 8192) k ?_ ?_)).trans (prevArr_apply K Y _ _ h4 h5 _ _)
  · show win0_3.index t 0 * 128 + 1 * r.val = t.val * 512 + 512 + r.val; rw [(idx3 t).1 hl]; omega
  · show win0_3.index t 1 * 256 + 1 * k.val = k.val; rw [(idx3 t).2]; omega

include h6 in
theorem blk4 (r : Fin 512) (k : Fin 512) : (iblk m c 4 t : Vec Ideal S512x512 .f32) (ix2 r k) = ((D (t.val * 512 + r.val) k.val : ℝ) : EReal) := by
  have hN := N16 t
  unfold iblk
  rw [View.read_apply]
  show V m c main_v9 _ = _
  rw [V_v9]
  refine (congrArg _ (ix2_of _ (⟨t.val * 512 + r.val, by omega⟩ : Fin 8192) k ?_ ?_)).trans ((slab_apply _ _ _ _).trans (h6 _ _))
  · show win0_4.index t 0 * 512 + 1 * r.val = t.val * 512 + r.val; rw [(idx4 t).1]; omega
  · show win0_4.index t 1 * 512 + 1 * k.val = k.val; rw [(idx4 t).2]; omega

include h6 in
theorem blk5 (hl : t.val < 15) (r : Fin 16) (k : Fin 512) : (iblk m c 5 t : Vec Ideal S16x512 .f32) (ix2 r k) = ((D (t.val * 512 + 512 + r.val) k.val : ℝ) : EReal) := by
  have hN := N16 t
  unfold iblk
  rw [View.read_apply]
  show V m c main_v9 _ = _
  rw [V_v9]
  refine (congrArg _ (ix2_of _ (⟨t.val * 512 + 512 + r.val, by omega⟩ : Fin 8192) k ?_ ?_)).trans ((slab_apply _ _ _ _).trans (h6 _ _))
  · show win0_5.index t 0 * 16 + 1 * r.val = t.val * 512 + 512 + r.val; rw [(idx5 t).1 hl]; omega
  · show win0_5.index t 1 * 512 + 1 * k.val = k.val; rw [(idx5 t).2]; omega

include h7 h8 in
theorem blk6 (r : Fin 512) (k : Fin 2048) : (iblk m c 6 t : Vec Ideal S512x2048 .bf16) (ix2 r k) = ((if k.val < 1024 then A (t.val * 512 + r.val) k.val else B (t.val * 512 + r.val) (k.val - 1024) : ℝ) : EReal) := by
  have hN := N16 t
  unfold iblk
  rw [View.read_apply]
  show V m c main_v13 _ = _
  rw [V_v13]
  refine (congrArg _ (ix2_of _ (⟨t.val * 512 + r.val, by omega⟩ : Fin 8192) k ?_ ?_)).trans (gateArr_apply A B _ _ h7 h8 _ _)
  · show win0_6.index t 0 * 512 + 1 * r.val = t.val * 512 + r.val; rw [(idx6 t).1]; omega
  · show win0_6.index t 1 * 2048 + 1 * k.val = k.val; rw [(idx6 t).2]; omega

include h0 in
theorem blk7 (r : Fin 512) (k : Fin 1024) : (iblk m c 7 t : Vec Ideal S512x1024 .f32) (ix2 r k) = ((H (t.val * 512 + r.val) k.val : ℝ) : EReal) := by
  have hN := N16 t
  unfold iblk
  rw [View.read_apply]
  show V m c main_v14 _ = _
  rw [V_v14]
  refine (congrArg _ (ix2_of _ (⟨t.val * 512 + r.val, by omega⟩ : Fin 8192) k ?_ ?_)).trans ((slab_apply _ _ _ _).trans (h0 _ _))
  · show win0_7.index t 0 * 512 + 1 * r.val = t.val * 512 + r.val; rw [(idx7 t).1]; omega
  · show win0_7.index t 1 * 1024 + 1 * k.val = k.val; rw [(idx7 t).2]; omega

theorem blk10 (r : Fin 512) (k : Fin 1024) : (iblk m c 10 t : Vec Ideal S512x1024 .f32) (ix2 r k) = m ((c : Thread nD τ).loc main_arg9) (ix3 0 (⟨t.val * 512 + r.val, by have := N16 t; omega⟩ : Fin 8192) k) := by
  have hN := N16 t
  unfold iblk
  rw [View.read_apply]
  show V m c main_v18 _ = _
  rw [V_v18]
  refine (congrArg _ (ix2_of _ (⟨t.val * 512 + r.val, by omega⟩ : Fin 8192) k ?_ ?_)).trans (slab_apply _ _ _ _)
  · show win0_10.index t 0 * 512 + 1 * r.val = t.val * 512 + r.val; rw [(idx10 t).1]; omega
  · show win0_10.index t 1 * 1024 + 1 * k.val = k.val; rw [(idx10 t).2]; omega

include h1 in
theorem blk8 (k : Fin 1024) : (iblk m c 8 t : Vec Ideal S1x1024 .f32) (ix2 0 k) = ((G k.val : ℝ) : EReal) := by
  unfold iblk
  rw [View.read_apply]
  show V m c main_arg1 _ = _
  rw [V_main_arg1]
  refine (congrArg _ (ix2_of _ (0 : Fin 1) k ?_ ?_)).trans (h1 _)
  · show win0_8.index t 0 * 1 + 1 * 0 = 0; rw [(idx8 t).1]
  · show win0_8.index t 1 * 1024 + 1 * k.val = k.val; rw [(idx8 t).2]; omega

include h2 in
theorem blk9 (j : Fin 3840) (k : Fin 1024) : (iblk m c 9 t : Vec Ideal S3840x1024 .bf16) (ix2 j k) = ((W k.val j.val : ℝ) : EReal) := by
  unfold iblk
  rw [View.read_apply]
  show V m c main_v17 _ = _
  rw [V_v17]
  refine (congrArg _ (ix2_of _ j k ?_ ?_)).trans (wArr_apply W _ h2 _ _)
  · show win0_9.index t 0 * 3840 + 1 * j.val = j.val; rw [(idx9 t).1]; omega
  · show win0_9.index t 1 * 1024 + 1 * k.val = k.val; rw [(idx9 t).2]; omega

end Cert.ProjBwdIdeal.Real

end
-- ==== Proof.ProjVal.lean ====
/-
  THE KERNEL OF THE SEVENTH PAIR, the block it writes in seven stretches of columns: the derivative by the joint projection.
-/
module

public import proofs.«01_k».proof.Proof.ProjBlk
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

set_option maxRecDepth 16384
set_option backward.isDefEq.respectTransparency false

noncomputable section

namespace Cert.ProjBwdIdeal.Real

open Cert.ProjBwdIdeal Cert.ProjBwdIdeal.Gen Cert.Step Cert.Proj Idealize.ShloMosaic Idealize.ShloMosaic.TcCoe Idealize.SL.Sem
open Cert.MixBwdIdeal.Real (hz2 piece2 ld2)

/-- Columns `o` to `o + b - 1` lie inside the block. -/
theorem inbP (b : ℕ) {o : ℕ} (h : o + b ≤ 3840) : ∀ x, (![0, o] : Fin 2 → ℕ) x + (⟨2, ![512, b]⟩ : Shape).size x ≤ S512x3840.size x
  | ⟨0, _⟩ => le_refl _
  | ⟨1, _⟩ => h

theorem inbD {o : ℕ} (h : o + 128 ≤ 512) : ∀ x, (![0, o] : Fin 2 → ℕ) x + S512x128.size x ≤ S512x512.size x
  | ⟨0, _⟩ => le_refl _
  | ⟨1, _⟩ => h

theorem inbPrev : ∀ x, (![128, 0] : Fin 2 → ℕ) x + S384x256.size x ≤ S512x256.size x
  | ⟨0, _⟩ => le_refl _
  | ⟨1, _⟩ => le_refl _

/-- Columns `o` to `o + 127` of the pooled rows' cotangents. -/
def dCols (x4 : Vec Ideal S512x512 .f32) (o : ℕ) (h : o + 128 ≤ 512) : Vec Ideal S512x128 .f32 :=
  View.ld (Val := Elt Ideal) x4 (Rect.unit (s := S512x512) ![0, o] S512x128.size (inbD h))

/-- The bands of the block's rows but the first 128. -/
def prevRows (x2 : Vec Ideal S512x256 .f32) : Vec Ideal S384x256 .f32 :=
  View.ld (Val := Elt Ideal) x2 (Rect.unit (s := S512x256) ![128, 0] S384x256.size inbPrev)

variable (i : grid0.Coords) (x0 : Vec Ideal S512x1024 .bf16) (x1 x2 : Vec Ideal S512x256 .f32) (x3 : Vec Ideal S128x256 .f32)
variable (x4 : Vec Ideal S512x512 .f32) (x5 : Vec Ideal S16x512 .f32) (x6 : Vec Ideal S512x2048 .bf16)

/-- The seven stretches, the last one first. -/
def projPieces : List (View.Piece (Elt Ideal) S512x3840 .bf16) :=
  [⟨Rect.unit (s := S512x3840) ![0, 1792] S512x2048.size (inbP 2048 (by omega)), k0_pay20 (F := Ideal) x6⟩,
   ⟨Rect.unit (s := S512x3840) ![0, 1664] S512x128.size (inbP 128 (by omega)), k0_pay19 (F := Ideal) (k0_pay17 (dCols x4 384 (by omega))) (k0_pay18 (BitVec.ofNat 32 (i 0).val) (k0_pay7 i x5) (dCols x4 384 (by omega)))⟩,
   ⟨Rect.unit (s := S512x3840) ![0, 1536] S512x128.size (inbP 128 (by omega)), k0_pay16 (F := Ideal) (k0_pay7 i x5) (k0_pay13 (dCols x4 256 (by omega))) (k0_pay14 (BitVec.ofNat 32 (i 0).val)) k0_pay15⟩,
   ⟨Rect.unit (s := S512x3840) ![0, 1408] S512x128.size (inbP 128 (by omega)), k0_pay12 (F := Ideal) (BitVec.ofNat 32 (i 0).val) (k0_pay7 i x5) (dCols x4 128 (by omega))⟩,
   ⟨Rect.unit (s := S512x3840) ![0, 1280] S512x128.size (inbP 128 (by omega)), k0_pay11 (F := Ideal) (k0_pay8 (dCols x4 0 (by omega))) (k0_pay9 i (dCols x4 0 (by omega))) (k0_pay10 i x5) (Scalar.ofBits .f32 0x40000000#32)⟩,
   ⟨Rect.unit (s := S512x3840) ![0, 1024] S512x256.size (inbP 256 (by omega)), k0_pay6 (F := Ideal) i x3 (prevRows x2) x1⟩,
   ⟨Rect.unit (s := S512x3840) ![0, 0] S512x1024.size (inbP 1024 (by omega)), k0_pay5 (F := Ideal) x0⟩]

variable (Q O P D A B : ℕ → ℕ → ℝ) (t : ℕ) (ht : t < 16) (hi : (i 0).val = t)
variable (h0 : ∀ (r : Fin 512) (k : Fin 1024), x0 (ix2 r k) = ((Q (t * 512 + r.val) k.val : ℝ) : EReal))
variable (h1 : ∀ (r : Fin 512) (k : Fin 256), x1 (ix2 r k) = ((O (t * 512 + r.val) k.val : ℝ) : EReal))
variable (h2 : ∀ (r : Fin 512) (k : Fin 256), x2 (ix2 r k) = ((P (t * 512 + r.val) k.val : ℝ) : EReal))
variable (h3 : t < 15 → ∀ (r : Fin 128) (k : Fin 256), x3 (ix2 r k) = ((P (t * 512 + 512 + r.val) k.val : ℝ) : EReal))
variable (h4 : ∀ (r : Fin 512) (k : Fin 512), x4 (ix2 r k) = ((D (t * 512 + r.val) k.val : ℝ) : EReal))
variable (h5 : t < 15 → ∀ (r : Fin 16) (k : Fin 512), x5 (ix2 r k) = ((D (t * 512 + 512 + r.val) k.val : ℝ) : EReal))
variable (h6 : ∀ (r : Fin 512) (k : Fin 2048), x6 (ix2 r k)
  = ((if k.val < 1024 then A (t * 512 + r.val) k.val else B (t * 512 + r.val) (k.val - 1024) : ℝ) : EReal))

include h4 in
theorem dCols_apply (o : ℕ) (h : o + 128 ≤ 512) (r : Fin 512) (k : Fin 128) :
    dCols x4 o h (ix2 r k) = ((D (t * 512 + r.val) (o + k.val) : ℝ) : EReal) :=
  (ld2 (e := .f32) x4 _ _ r k r ⟨o + k.val, by omega⟩ (by show r.val = 0 + r.val; omega) rfl).trans (h4 _ _)

include h2 in
theorem prevRows_apply (r : Fin 384) (k : Fin 256) : prevRows x2 (ix2 r k) = ((P (t * 512 + 128 + r.val) k.val : ℝ) : EReal) := by
  refine (ld2 (e := .f32) x2 _ _ r k ⟨128 + r.val, by omega⟩ k rfl (by show k.val = 0 + k.val; omega)).trans ((h2 _ _).trans ?_)
  show ((P (t * 512 + (128 + r.val)) k.val : ℝ) : EReal) = _
  rw [← Nat.add_assoc]

/-- The block. -/
def projBlk (y : S512x3840.Idx) : EReal := ((proj Q O P D A B (t * 512 + (y 0).val) (y 1).val : ℝ) : EReal)

include ht hi h0 h1 h2 h3 h4 h5 h6 in
theorem projPieces_of : View.PiecesOf (Val := Elt Ideal) (e := .bf16) (projBlk Q O P D A B t) (projPieces i x0 x1 x2 x3 x4 x5 x6) := by
  have hy := pay7 D i t ht hi x5 h5
  obtain ⟨Z, hZ⟩ : ∃ Z, Z = projBlk Q O P D A B t := ⟨_, rfl⟩
  have hZ' : ∀ (r : Fin 512) (j : Fin 3840), Z (ix2 r j) = ((proj Q O P D A B (t * 512 + r.val) j.val : ℝ) : EReal) := fun r j => by
    rw [hZ]; rfl
  rw [← hZ]
  clear hZ
  refine ⟨?_, ?_, ?_, ?_, ?_, ?_, ?_, trivial⟩
  · refine piece2 (a := 512) (B := 3840) (b := 2048) Z ![0, 1792] (inbP 2048 (by omega)) 1792 (by omega) rfl rfl _ fun r e => ?_
    rw [hZ']
    refine ((pay20 x6 r e).trans (h6 r e)).trans ?_
    show _ = ((proj Q O P D A B (t * 512 + r.val) (1792 + e.val) : ℝ) : EReal)
    unfold proj
    rw [if_neg (show ¬ 1792 + e.val < 1024 by omega), if_neg (show ¬ 1792 + e.val < 1280 by omega), if_neg (show ¬ 1792 + e.val < 1408 by omega),
      if_neg (show ¬ 1792 + e.val < 1536 by omega), if_neg (show ¬ 1792 + e.val < 1664 by omega), if_neg (show ¬ 1792 + e.val < 1792 by omega)]
    by_cases he : e.val < 1024
    · rw [if_pos he, if_pos (show 1792 + e.val < 2816 by omega), show 1792 + e.val - 1792 = e.val by omega]
    · rw [if_neg he, if_neg (show ¬ 1792 + e.val < 2816 by omega), show 1792 + e.val - 2816 = e.val - 1024 by omega]
  · refine piece2 (a := 512) (B := 3840) (b := 128) Z ![0, 1664] (inbP 128 (by omega)) 1664 (by omega) rfl rfl _ fun r e => ?_
    rw [hZ']
    refine (pay19 D i t ht hi 384 _ (dCols_apply x4 D t h4 384 (by omega)) _ hy rfl r e).trans ?_
    show _ = ((proj Q O P D A B (t * 512 + r.val) (1664 + e.val) : ℝ) : EReal)
    unfold proj
    rw [if_neg (show ¬ 1664 + e.val < 1024 by omega), if_neg (show ¬ 1664 + e.val < 1280 by omega), if_neg (show ¬ 1664 + e.val < 1408 by omega), if_neg (show ¬ 1664 + e.val < 1536 by omega), if_neg (show ¬ 1664 + e.val < 1664 by omega), if_pos (show 1664 + e.val < 1792 by omega), show 1664 + e.val - 1280 = 384 + e.val by omega]
  · refine piece2 (a := 512) (B := 3840) (b := 128) Z ![0, 1536] (inbP 128 (by omega)) 1536 (by omega) rfl rfl _ fun r e => ?_
    rw [hZ']
    refine (pay16 D i t ht hi 256 _ (dCols_apply x4 D t h4 256 (by omega)) _ hy rfl r e).trans ?_
    show _ = ((proj Q O P D A B (t * 512 + r.val) (1536 + e.val) : ℝ) : EReal)
    unfold proj
    rw [if_neg (show ¬ 1536 + e.val < 1024 by omega), if_neg (show ¬ 1536 + e.val < 1280 by omega), if_neg (show ¬ 1536 + e.val < 1408 by omega), if_neg (show ¬ 1536 + e.val < 1536 by omega), if_pos (show 1536 + e.val < 1664 by omega), show 1536 + e.val - 1280 = 256 + e.val by omega]
  · refine piece2 (a := 512) (B := 3840) (b := 128) Z ![0, 1408] (inbP 128 (by omega)) 1408 (by omega) rfl rfl _ fun r e => ?_
    rw [hZ']
    refine (pay12 D i t ht hi 128 _ (dCols_apply x4 D t h4 128 (by omega)) _ hy rfl r e).trans ?_
    show _ = ((proj Q O P D A B (t * 512 + r.val) (1408 + e.val) : ℝ) : EReal)
    unfold proj
    rw [if_neg (show ¬ 1408 + e.val < 1024 by omega), if_neg (show ¬ 1408 + e.val < 1280 by omega), if_neg (show ¬ 1408 + e.val < 1408 by omega), if_pos (show 1408 + e.val < 1536 by omega), show 1408 + e.val - 1280 = 128 + e.val by omega]
  · refine piece2 (a := 512) (B := 3840) (b := 128) Z ![0, 1280] (inbP 128 (by omega)) 1280 (by omega) rfl rfl _ fun r e => ?_
    rw [hZ']
    refine (pay11 D i t ht hi 0 _ (dCols_apply x4 D t h4 0 (by omega)) _ hy rfl r e).trans ?_
    show _ = ((proj Q O P D A B (t * 512 + r.val) (1280 + e.val) : ℝ) : EReal)
    unfold proj
    rw [if_neg (show ¬ 1280 + e.val < 1024 by omega), if_neg (show ¬ 1280 + e.val < 1280 by omega), if_pos (show 1280 + e.val < 1408 by omega), show 1280 + e.val - 1280 = 0 + e.val by omega]
  · refine piece2 (a := 512) (B := 3840) (b := 256) Z ![0, 1024] (inbP 256 (by omega)) 1024 (by omega) rfl rfl _ fun r e => ?_
    rw [hZ']
    refine (pay6 O P i t ht hi _ _ _ h3 (prevRows_apply x2 P t h2) h1 r e).trans ?_
    show _ = ((proj Q O P D A B (t * 512 + r.val) (1024 + e.val) : ℝ) : EReal)
    unfold proj
    rw [if_neg (show ¬ 1024 + e.val < 1024 by omega), if_pos (show 1024 + e.val < 1280 by omega), show 1024 + e.val - 1024 = e.val by omega]
  · refine piece2 (a := 512) (B := 3840) (b := 1024) Z ![0, 0] (inbP 1024 (by omega)) 0 (by omega) rfl rfl _ fun r e => ?_
    rw [hZ']
    refine ((pay5 x0 r e).trans (h0 r e)).trans ?_
    show _ = ((proj Q O P D A B (t * 512 + r.val) (0 + e.val) : ℝ) : EReal)
    unfold proj
    rw [if_pos (show 0 + e.val < 1024 by omega), show 0 + e.val = e.val by omega]

theorem proj_cover : ∀ y : S512x3840.Idx, ∃ p ∈ projPieces i x0 x1 x2 x3 x4 x5 x6, y ∈ p.1.set :=
  View.cover_of_tiledBy _ ![512, 128] (by sl_kernel_rfl)

include ht hi h0 h1 h2 h3 h4 h5 h6 in
theorem proj_canon (y : S512x3840.Idx) : View.canon (projPieces i x0 x1 x2 x3 x4 x5 x6) y = projBlk Q O P D A B t y := by
  have h := View.canon_append_of_piecesOf (Val := Elt Ideal) (e := .bf16) (projBlk Q O P D A B t) [] _
    (projPieces_of i x0 x1 x2 x3 x4 x5 x6 Q O P D A B t ht hi h0 h1 h2 h3 h4 h5 h6) y (proj_cover i x0 x1 x2 x3 x4 x5 x6 y)
  rw [List.append_nil] at h
  exact h

/-- The block read back as a whole. -/
theorem proj_readCov {sig : RefSig} {κ : Kind} {sp : Space} (v : View sig κ sp S512x3840 .bf16) (L : List (View.Piece (Elt Ideal) S512x3840 .bf16))
    (inb : ∀ x, (![0, 0] : Fin 2 → ℕ) x + S512x3840.size x ≤ S512x3840.size x)
    (hL : ∀ y, View.canon (Val := Elt Ideal) L y = projBlk Q O P D A B t y) (r : Fin 512) (j : Fin 3840) :
    v.readCov L (Rect.unit (s := S512x3840) ![0, 0] S512x3840.size inb).toLoadRect (ix2 r j) = ((proj Q O P D A B (t * 512 + r.val) j.val : ℝ) : EReal) := by
  rw [View.readCov_eq_canon']
  refine (hL _).trans ?_
  show ((proj Q O P D A B (t * 512 + (0 + 1 * r.val)) (0 + 1 * j.val) : ℝ) : EReal) = _
  rw [one_mul, one_mul, zero_add, zero_add]

end Cert.ProjBwdIdeal.Real

end
-- ==== Proof.ProjAfter.lean ====
/-
  THE KERNEL OF THE SEVENTH PAIR, what a grid point leaves in each of its outputs, over the arguments' entries.
-/
module

public import proofs.«01_k».proof.Proof.ProjVal
public import Idealize.ShloMosaic.Lib.Pipeline.Value
public import Idealize.ShloMosaic.Lib.Pipeline.ReadBack
public import Idealize.ShloMosaic.Lib.Pipeline.ValueKit.Tiles
public import Idealize.ShloMosaic.Lib.Tactic

@[expose] public section

set_option maxRecDepth 16384
set_option backward.isDefEq.respectTransparency false

noncomputable section

namespace Cert.ProjBwdIdeal.Real

open Cert.ProjBwdIdeal Cert.ProjBwdIdeal.Gen Cert.Step Cert.Proj Idealize.ShloMosaic Idealize.ShloMosaic.TcCoe Idealize.SL.Sem
open Cert.MixBwdIdeal.Real (hz2 piece2 ld2)

variable (m : (ℓ : Loc nD τ sig) → Buf (Elt Ideal) ℓ) (c : Dev nD)
variable (H W Q D A B : ℕ → ℕ → ℝ) (G : ℕ → ℝ) (K Y : ℕ → ℕ → ℕ → ℕ → ℝ)
variable (h0 : ∀ (r : Fin 8192) (k : Fin 1024), m ((c : Thread nD τ).loc main_arg0) (ix3 0 r k) = ((H r.val k.val : ℝ) : EReal))
variable (h1 : ∀ k : Fin 1024, m ((c : Thread nD τ).loc main_arg1) (ix2 0 k) = ((G k.val : ℝ) : EReal))
variable (h2 : ∀ (k : Fin 1024) (j : Fin 3840), m ((c : Thread nD τ).loc main_arg2) (ix3 0 k j) = ((W k.val j.val : ℝ) : EReal))
variable (h3 : ∀ (r : Fin 8192) (k : Fin 1024), m ((c : Thread nD τ).loc main_arg3) (ix3 0 r k) = ((Q r.val k.val : ℝ) : EReal))
variable (h4 : ∀ (a : Fin 64) (b : Fin 256) (d : Fin 2) (e : Fin 64), m ((c : Thread nD τ).loc main_arg4) (ix5 0 a b d e) = ((K a.val b.val d.val e.val : ℝ) : EReal))
variable (h5 : ∀ (a : Fin 64) (b : Fin 256) (d : Fin 2) (e : Fin 64), m ((c : Thread nD τ).loc main_arg5) (ix5 0 a b d e) = ((Y a.val b.val d.val e.val : ℝ) : EReal))
variable (h6 : ∀ (r : Fin 8192) (k : Fin 512), m ((c : Thread nD τ).loc main_arg6) (ix3 0 r k) = ((D r.val k.val : ℝ) : EReal))
variable (h7 : ∀ (r : Fin 8192) (k : Fin 1024), m ((c : Thread nD τ).loc main_arg7) (ix3 0 r k) = ((A r.val k.val : ℝ) : EReal))
variable (h8 : ∀ (r : Fin 8192) (k : Fin 1024), m ((c : Thread nD τ).loc main_arg8) (ix3 0 r k) = ((B r.val k.val : ℝ) : EReal))
variable (t : Fin cfg0.N)

/-- The derivative by the joint projection. -/
abbrev dproj : ℕ → ℕ → ℝ := proj Q (own K Y) (prev K Y) D A B

/-- The stretches a grid point writes. -/
abbrev ptPieces : List (View.Piece (Elt Ideal) S512x3840 .bf16) :=
  projPieces (grid0.coords t) (iblk m c 0 t) (iblk m c 1 t) (iblk m c 2 t) (iblk m c 3 t) (iblk m c 4 t) (iblk m c 5 t) (iblk m c 6 t)

/-- The derivative by the layer's input, at row `r` and column `k`: what reaches it directly and what comes through the norm. -/
def dhVal (x9 : S1x8192x1024.Idx → EReal) (r : Fin 8192) (k : Fin 1024) : EReal :=
  x9 (ix3 0 r k) + ((normGrad (row H r.val) (dnG W G (dproj Q D A B K Y) r.val) k : ℝ) : EReal)

include h3 h4 h5 h6 h7 h8 in
theorem pt_canon (y : S512x3840.Idx) : View.canon (ptPieces m c t) y = projBlk Q (own K Y) (prev K Y) D A B t.val y :=
  proj_canon (grid0.coords t) _ _ _ _ _ _ _ Q (own K Y) (prev K Y) D A B t.val (N16 t) (coord t) (blk0 m c Q h3 t) (blk1 m c K Y h4 h5 t)
    (blk2 m c K Y h4 h5 t) (blk3 m c K Y h4 h5 t) (blk4 m c D h6 t) (blk5 m c D h6 t) (blk6 m c A B h7 h8 t) y

include h3 h4 h5 h6 h7 h8 in
theorem after11 (r : Fin 512) (j : Fin 3840) : (outsAt0 m c t.val t.isLt).1 (ix2 r j) = ((dproj Q D A B K Y (t.val * 512 + r.val) j.val : ℝ) : EReal) := by
  by_cases ht : t.val % 16 = 0
  · rw [outsAt0_A m c t ht]
    dsimp only
    unfold out0_A_11
    rw [View.read_writes_eq_canon]
    swap
    · exact fun _ => cover0_A_11 ..
    unfold kernelRun0_A
    dsimp only
    sl_unfold_words
    simp only [View.readAt_eq_ld, Memref.IsWhole.read_unread, View.ld_unit_zero (S := S512x1024) hz2, View.ld_unit_zero (S := S1x1024) hz2, View.ld_unit_zero (S := S512x256) hz2, View.ld_unit_zero (S := S128x256) hz2, View.ld_unit_zero (S := S16x512) hz2, View.ld_unit_zero (S := S512x2048) hz2, View.ld_unit_zero (S := S3840x1024) hz2]
    exact pt_canon m c Q D A B K Y h3 h4 h5 h6 h7 h8 t (ix2 r j)
  · rw [outsAt0_B m c t ht]
    dsimp only
    unfold out0_B_11
    rw [View.read_writes_eq_canon]
    swap
    · exact fun _ => cover0_B_11 ..
    unfold kernelRun0_B
    dsimp only
    sl_unfold_words
    simp only [View.readAt_eq_ld, Memref.IsWhole.read_unread, View.ld_unit_zero (S := S512x1024) hz2, View.ld_unit_zero (S := S1x1024) hz2, View.ld_unit_zero (S := S512x256) hz2, View.ld_unit_zero (S := S128x256) hz2, View.ld_unit_zero (S := S16x512) hz2, View.ld_unit_zero (S := S512x2048) hz2, View.ld_unit_zero (S := S3840x1024) hz2]
    exact pt_canon m c Q D A B K Y h3 h4 h5 h6 h7 h8 t (ix2 r j)

include h0 h1 h2 h3 h4 h5 h6 h7 h8 in
theorem after12 (r : Fin 512) (k : Fin 1024) : (outsAt0 m c t.val t.isLt).2.1 (ix2 r k)
    = dhVal H W Q D A B G K Y (m ((c : Thread nD τ).loc main_arg9)) ⟨t.val * 512 + r.val, by have := N16 t; omega⟩ k := by
  have hL := pt_canon m c Q D A B K Y h3 h4 h5 h6 h7 h8 t
  by_cases ht : t.val % 16 = 0
  · rw [outsAt0_A m c t ht]
    dsimp only
    unfold out0_A_12
    rw [View.read_writes_eq_canon]
    swap
    · exact fun _ => cover0_A_12 ..
    unfold kernelRun0_A
    dsimp only
    sl_unfold_words
    simp only [View.readAt_eq_ld, Memref.IsWhole.read_unread, View.ld_unit_zero (S := S512x1024) hz2, View.ld_unit_zero (S := S1x1024) hz2, View.ld_unit_zero (S := S512x256) hz2, View.ld_unit_zero (S := S128x256) hz2, View.ld_unit_zero (S := S16x512) hz2, View.ld_unit_zero (S := S512x2048) hz2, View.ld_unit_zero (S := S3840x1024) hz2]
    rw [View.canon_unit_zero hz2]
    refine (pay1 (dproj Q D A B K Y) W H G (t.val * 512) _ _ _ _ _ (proj_readCov Q (own K Y) (prev K Y) D A B t.val _ _ _ hL) (blk9 m c W h2 t) (blk7 m c H h0 t) (blk8 m c G h1 t) r k).trans ?_
    exact congrArg (· + _) (blk10 m c t r k)
  · rw [outsAt0_B m c t ht]
    dsimp only
    unfold out0_B_12
    rw [View.read_writes_eq_canon]
    swap
    · exact fun _ => cover0_B_12 ..
    unfold kernelRun0_B
    dsimp only
    sl_unfold_words
    simp only [View.readAt_eq_ld, Memref.IsWhole.read_unread, View.ld_unit_zero (S := S512x1024) hz2, View.ld_unit_zero (S := S1x1024) hz2, View.ld_unit_zero (S := S512x256) hz2, View.ld_unit_zero (S := S128x256) hz2, View.ld_unit_zero (S := S16x512) hz2, View.ld_unit_zero (S := S512x2048) hz2, View.ld_unit_zero (S := S3840x1024) hz2]
    rw [View.canon_unit_zero hz2]
    refine (pay1 (dproj Q D A B K Y) W H G (t.val * 512) _ _ _ _ _ (proj_readCov Q (own K Y) (prev K Y) D A B t.val _ _ _ hL) (blk9 m c W h2 t) (blk7 m c H h0 t) (blk8 m c G h1 t) r k).trans ?_
    exact congrArg (· + _) (blk10 m c t r k)

include h0 h1 h2 h3 h4 h5 h6 h7 h8 in
theorem after13 (r : Fin 512) (k : Fin 1024) : (outsAt0 m c t.val t.isLt).2.2.1 (ix2 r k)
    = dhVal H W Q D A B G K Y (m ((c : Thread nD τ).loc main_arg9)) ⟨t.val * 512 + r.val, by have := N16 t; omega⟩ k := by
  have hL := pt_canon m c Q D A B K Y h3 h4 h5 h6 h7 h8 t
  by_cases ht : t.val % 16 = 0
  · rw [outsAt0_A m c t ht]
    dsimp only
    unfold out0_A_13
    rw [View.read_writes_eq_canon]
    swap
    · exact fun _ => cover0_A_13 ..
    unfold kernelRun0_A
    dsimp only
    sl_unfold_words
    simp only [View.readAt_eq_ld, Memref.IsWhole.read_unread, View.ld_unit_zero (S := S512x1024) hz2, View.ld_unit_zero (S := S1x1024) hz2, View.ld_unit_zero (S := S512x256) hz2, View.ld_unit_zero (S := S128x256) hz2, View.ld_unit_zero (S := S16x512) hz2, View.ld_unit_zero (S := S512x2048) hz2, View.ld_unit_zero (S := S3840x1024) hz2]
    rw [View.canon_unit_zero hz2]
    refine (pay2 (dproj Q D A B K Y) W H G (t.val * 512) _ _ _ _ _ (proj_readCov Q (own K Y) (prev K Y) D A B t.val _ _ _ hL) (blk9 m c W h2 t) (blk7 m c H h0 t) (blk8 m c G h1 t) r k).trans ?_
    exact congrArg (· + _) (blk10 m c t r k)
  · rw [outsAt0_B m c t ht]
    dsimp only
    unfold out0_B_13
    rw [View.read_writes_eq_canon]
    swap
    · exact fun _ => cover0_B_13 ..
    unfold kernelRun0_B
    dsimp only
    sl_unfold_words
    simp only [View.readAt_eq_ld, Memref.IsWhole.read_unread, View.ld_unit_zero (S := S512x1024) hz2, View.ld_unit_zero (S := S1x1024) hz2, View.ld_unit_zero (S := S512x256) hz2, View.ld_unit_zero (S := S128x256) hz2, View.ld_unit_zero (S := S16x512) hz2, View.ld_unit_zero (S := S512x2048) hz2, View.ld_unit_zero (S := S3840x1024) hz2]
    rw [View.canon_unit_zero hz2]
    refine (pay2 (dproj Q D A B K Y) W H G (t.val * 512) _ _ _ _ _ (proj_readCov Q (own K Y) (prev K Y) D A B t.val _ _ _ hL) (blk9 m c W h2 t) (blk7 m c H h0 t) (blk8 m c G h1 t) r k).trans ?_
    exact congrArg (· + _) (blk10 m c t r k)

/-- A block's part of the gain's derivative. -/
def blkGain (q j : ℕ) : ℝ := ∑ r : Fin 512, dn W (dproj Q D A B K Y) (q + r.val) j * (H (q + r.val) j * invRms (row H (q + r.val)))

include h0 h2 h3 h4 h5 h6 h7 h8 in
theorem after14 (j : Fin 1024) : (outsAt0 m c t.val t.isLt).2.2.2 (ix2 0 j)
    = (if t.val % 16 = 0 then 0 else (outsAt0 m c (t.val - 1) (Nat.lt_of_le_of_lt (Nat.sub_le _ _) t.isLt)).2.2.2 (ix2 0 j))
      + ((blkGain H W Q D A B K Y (t.val * 512) j.val : ℝ) : EReal) := by
  have hL := pt_canon m c Q D A B K Y h3 h4 h5 h6 h7 h8 t
  by_cases ht : t.val % 16 = 0
  · rw [if_pos ht, outsAt0_A m c t ht]
    dsimp only
    unfold out0_A_14
    rw [View.read_writes_eq_canon]
    swap
    · exact fun _ => cover0_A_14 ..
    unfold kernelRun0_A
    dsimp only
    sl_unfold_words
    simp only [View.readAt_eq_ld, Memref.IsWhole.read_unread, View.ld_unit_zero (S := S512x1024) hz2, View.ld_unit_zero (S := S1x1024) hz2, View.ld_unit_zero (S := S512x256) hz2, View.ld_unit_zero (S := S128x256) hz2, View.ld_unit_zero (S := S16x512) hz2, View.ld_unit_zero (S := S512x2048) hz2, View.ld_unit_zero (S := S3840x1024) hz2]
    simp (disch := decide) only [View.readCov_skip, View.readCov_fill]
    rw [View.canon_cons_unit_zero hz2]
    refine (pay4 (dproj Q D A B K Y) W H (t.val * 512) _ _ _ (proj_readCov Q (own K Y) (prev K Y) D A B t.val _ _ _ hL) (blk9 m c W h2 t) (blk7 m c H h0 t) _ j).trans ?_
    rw [View.ld_unit_zero (S := S1x1024) hz2, pay3]
    rfl
  · rw [if_neg ht, outsAt0_B m c t ht]
    dsimp only
    unfold out0_B_14
    rw [View.read_writes_eq_canon]
    swap
    · exact fun _ => cover0_B_14 ..
    unfold kernelRun0_B
    dsimp only
    sl_unfold_words
    simp only [View.readAt_eq_ld, Memref.IsWhole.read_unread, View.ld_unit_zero (S := S512x1024) hz2, View.ld_unit_zero (S := S1x1024) hz2, View.ld_unit_zero (S := S512x256) hz2, View.ld_unit_zero (S := S128x256) hz2, View.ld_unit_zero (S := S16x512) hz2, View.ld_unit_zero (S := S512x2048) hz2, View.ld_unit_zero (S := S3840x1024) hz2]
    rw [View.canon_unit_zero hz2]
    exact pay4 (dproj Q D A B K Y) W H (t.val * 512) _ _ _ (proj_readCov Q (own K Y) (prev K Y) D A B t.val _ _ _ hL) (blk9 m c W h2 t) (blk7 m c H h0 t) _ j

end Cert.ProjBwdIdeal.Real

end
-- ==== Proof.ProjFinal.lean ====
/-
  THE KERNEL OF THE SEVENTH PAIR, its four results as whole arrays.
-/
module

public import proofs.«01_k».proof.Proof.ProjAfter
public import Idealize.ShloMosaic.Lib.Pipeline.ValueKit.Geometry
public import Idealize.ShloMosaic.Lib.Pipeline.ValueKit.Acc

@[expose] public section

set_option maxRecDepth 16384
set_option backward.isDefEq.respectTransparency false

noncomputable section

namespace Cert.ProjBwdIdeal.Real

open Cert.ProjBwdIdeal Cert.ProjBwdIdeal.Gen Cert.Step Cert.Proj Idealize.ShloMosaic Idealize.ShloMosaic.TcCoe Idealize.SL.Sem
open Cert.MixBwdIdeal.Real (hz2 piece2 ld2)

variable (m : (ℓ : Loc nD τ sig) → Buf (Elt Ideal) ℓ) (c : Dev nD)
variable (H W Q D A B : ℕ → ℕ → ℝ) (G : ℕ → ℝ) (K Y : ℕ → ℕ → ℕ → ℕ → ℝ)
variable (h0 : ∀ (r : Fin 8192) (k : Fin 1024), m ((c : Thread nD τ).loc main_arg0) (ix3 0 r k) = ((H r.val k.val : ℝ) : EReal))
variable (h1 : ∀ k : Fin 1024, m ((c : Thread nD τ).loc main_arg1) (ix2 0 k) = ((G k.val : ℝ) : EReal))
variable (h2 : ∀ (k : Fin 1024) (j : Fin 3840), m ((c : Thread nD τ).loc main_arg2) (ix3 0 k j) = ((W k.val j.val : ℝ) : EReal))
variable (h3 : ∀ (r : Fin 8192) (k : Fin 1024), m ((c : Thread nD τ).loc main_arg3) (ix3 0 r k) = ((Q r.val k.val : ℝ) : EReal))
variable (h4 : ∀ (a : Fin 64) (b : Fin 256) (d : Fin 2) (e : Fin 64), m ((c : Thread nD τ).loc main_arg4) (ix5 0 a b d e) = ((K a.val b.val d.val e.val : ℝ) : EReal))
variable (h5 : ∀ (a : Fin 64) (b : Fin 256) (d : Fin 2) (e : Fin 64), m ((c : Thread nD τ).loc main_arg5) (ix5 0 a b d e) = ((Y a.val b.val d.val e.val : ℝ) : EReal))
variable (h6 : ∀ (r : Fin 8192) (k : Fin 512), m ((c : Thread nD τ).loc main_arg6) (ix3 0 r k) = ((D r.val k.val : ℝ) : EReal))
variable (h7 : ∀ (r : Fin 8192) (k : Fin 1024), m ((c : Thread nD τ).loc main_arg7) (ix3 0 r k) = ((A r.val k.val : ℝ) : EReal))
variable (h8 : ∀ (r : Fin 8192) (k : Fin 1024), m ((c : Thread nD τ).loc main_arg8) (ix3 0 r k) = ((B r.val k.val : ℝ) : EReal))

/-- The derivative by the joint projection. -/
def dprojArr (i : S8192x3840.Idx) : EReal := ((dproj Q D A B K Y (i 0).val (i 1).val : ℝ) : EReal)

/-- The derivative by the layer's input. -/
def dhArr (x9 : S1x8192x1024.Idx → EReal) (i : S8192x1024.Idx) : EReal :=
  dhVal H W Q D A B G K Y x9 (i 0) (i 1)

/-- The derivative by the norm's gain. -/
def dgArr (i : S1x1024.Idx) : EReal :=
  ((∑ r : Fin 8192, dn W (dproj Q D A B K Y) r.val (i 1).val * (H r.val (i 1).val * invRms (row H r.val)) : ℝ) : EReal)

theorem idx11 : ∀ t : Fin cfg0.N, win0_11.index t = ![t.val, 0] :=
  (by decide +kernel : ∀ t : Fin grid0.N, win0_11.index t = ![t.val, 0])

include h3 h4 h5 h6 h7 h8 in
theorem final11 : (dats m 0 c).arrAt 11 cfg0.N = dprojArr Q D A B K Y := by
  refine (dats m 0 c).arrAt_eq_of_covers 11 _ (by decide +kernel) fun t hf y => ?_
  have hN := N16 t
  obtain ⟨r, l, rfl⟩ : ∃ (r : Fin 512) (l : Fin 3840), y = ix2 r l := ⟨y 0, y 1, by blk_ext []⟩
  have e : (win0_11.blk t).view.emb (ix2 r l) = ix2 (⟨t.val * 512 + r.val, by omega⟩ : Fin 8192) l := by
    blk_ext [idx11 t]
  blk_simp
  rw [after0_11, e]
  exact after11 m c Q D A B K Y h3 h4 h5 h6 h7 h8 t r l

theorem idx12 : ∀ t : Fin cfg0.N, win0_12.index t = ![t.val, 0] :=
  (by decide +kernel : ∀ t : Fin grid0.N, win0_12.index t = ![t.val, 0])

include h0 h1 h2 h3 h4 h5 h6 h7 h8 in
theorem final12 : (dats m 0 c).arrAt 12 cfg0.N = dhArr H W Q D A B G K Y (m ((c : Thread nD τ).loc main_arg9)) := by
  refine (dats m 0 c).arrAt_eq_of_covers 12 _ (by decide +kernel) fun t hf y => ?_
  have hN := N16 t
  obtain ⟨r, l, rfl⟩ : ∃ (r : Fin 512) (l : Fin 1024), y = ix2 r l := ⟨y 0, y 1, by blk_ext []⟩
  have e : (win0_12.blk t).view.emb (ix2 r l) = ix2 (⟨t.val * 512 + r.val, by omega⟩ : Fin 8192) l := by
    blk_ext [idx12 t]
  blk_simp
  rw [after0_12, e]
  exact after12 m c H W Q D A B G K Y h0 h1 h2 h3 h4 h5 h6 h7 h8 t r l

theorem idx13 : ∀ t : Fin cfg0.N, win0_13.index t = ![t.val, 0] :=
  (by decide +kernel : ∀ t : Fin grid0.N, win0_13.index t = ![t.val, 0])

include h0 h1 h2 h3 h4 h5 h6 h7 h8 in
theorem final13 : (dats m 0 c).arrAt 13 cfg0.N = dhArr H W Q D A B G K Y (m ((c : Thread nD τ).loc main_arg9)) := by
  refine (dats m 0 c).arrAt_eq_of_covers 13 _ (by decide +kernel) fun t hf y => ?_
  have hN := N16 t
  obtain ⟨r, l, rfl⟩ : ∃ (r : Fin 512) (l : Fin 1024), y = ix2 r l := ⟨y 0, y 1, by blk_ext []⟩
  have e : (win0_13.blk t).view.emb (ix2 r l) = ix2 (⟨t.val * 512 + r.val, by omega⟩ : Fin 8192) l := by
    blk_ext [idx13 t]
  blk_simp
  rw [after0_13, e]
  exact after13 m c H W Q D A B G K Y h0 h1 h2 h3 h4 h5 h6 h7 h8 t r l

include h0 h2 h3 h4 h5 h6 h7 h8 in
theorem final14 : (dats m 0 c).arrAt 14 cfg0.N = dgArr H W Q D A B K Y := by
  refine (dats m 0 c).arrAt_eq_of_after_last 14 t0_15 (by decide +kernel) _ fun i => ?_
  obtain ⟨j, rfl⟩ : ∃ j : Fin 1024, i = ix2 0 j := ⟨i 1, by blk_ext []⟩
  blk_simp
  rw [after0_14]
  refine (Pipeline.eq_sum_fin_of_reset_step_apply_last (fun n h => (outsAt0 m c n h).2.2.2) 16 (fun _ => (0 : EReal))
    (fun t i => ((blkGain H W Q D A B K Y (t * 512) (i 1).val : ℝ) : EReal)) (fun t h i => ?_) (fun t h i => ?_) (le_of_eq N_0) t0_15 rfl (ix2 0 j)).trans ?_
  · obtain ⟨j, rfl⟩ : ∃ j : Fin 1024, i = ix2 0 j := ⟨i 1, by blk_ext []⟩
    refine (after14 m c H W Q D A B K Y h0 h2 h3 h4 h5 h6 h7 h8 t j).trans ?_
    rw [if_pos h]
    rfl
  · obtain ⟨j, rfl⟩ : ∃ j : Fin 1024, i = ix2 0 j := ⟨i 1, by blk_ext []⟩
    refine (after14 m c H W Q D A B K Y h0 h2 h3 h4 h5 h6 h7 h8 t j).trans ?_
    rw [if_neg h]
    rfl
  · rw [zero_add, coe_sum]
    refine congrArg (fun x : ℝ => (x : EReal)) ?_
    exact Fin.sum_mul_add_congr fun t r hl => rfl

end Cert.ProjBwdIdeal.Real

end
-- ==== Proof.ProjClaim.lean ====
/-
  THE SEVENTH PAIR, put together: at arguments whose finiteness the precondition states, the kernel and the derivative
  of the plain lines both run and leave equal arrays.
-/
module

public import proofs.«01_k».proof.Defs
public import proofs.«01_k».proof.Proof.ProjRef
public import proofs.«01_k».proof.Proof.ProjFinal
public import proofs.«01_k».proof.Proof.Gen.ProjBwd.Frame
public import proofs.«01_k».proof.Proof.Gen.ProjRefIdeal.Run
public import proofs.«01_k».proof.Proof.Gen.Pre_finite_proj

@[expose] public section

set_option maxRecDepth 16384

noncomputable section

namespace Cert.ProjClaim

open Cert.Step Cert.Proj Idealize.ShloMosaic Idealize.ShloMosaic.TcCoe Idealize.SL.Sem

/-- A [1, b, c, d, e] array by its last four coordinates. -/
theorem exists_blocks {b c d e : ℕ} (x : (⟨5, ![1, b, c, d, e]⟩ : Shape).Idx → EReal)
    (hx : ∃ X : (⟨5, ![1, b, c, d, e]⟩ : Shape).Idx → ℝ, ∀ i, x i = ((X i : ℝ) : EReal)) :
    ∃ K : ℕ → ℕ → ℕ → ℕ → ℝ, ∀ i : (⟨5, ![1, b, c, d, e]⟩ : Shape).Idx, x i = ((K (i 1).val (i 2).val (i 3).val (i 4).val : ℝ) : EReal) := by
  obtain ⟨H, hH⟩ := exists_of_injective x hx (fun i => ((i 1).val, (i 2).val, (i 3).val, (i 4).val)) fun i i' h => by
    funext a
    apply Fin.ext
    match a with
    | ⟨0, _⟩ => exact (Nat.lt_one_iff.mp (i 0).isLt).trans (Nat.lt_one_iff.mp (i' 0).isLt).symm
    | ⟨1, _⟩ => exact congrArg (fun z => z.1) h
    | ⟨2, _⟩ => exact congrArg (fun z => z.2.1) h
    | ⟨3, _⟩ => exact congrArg (fun z => z.2.2.1) h
    | ⟨4, _⟩ => exact congrArg (fun z => z.2.2.2) h
  exact ⟨fun p q r s => H (p, q, r, s), hH⟩

/-- The precondition, read: all arguments but the last are arrays of reals. -/
theorem reals (x0 : FVec Ideal Pre_finite_proj.S1x8192x1024 .f32)
    (x1 : FVec Ideal Pre_finite_proj.S1x1024 .f32)
    (x2 : FVec Ideal Pre_finite_proj.S1x1024x3840 .f32)
    (x3 : FVec Ideal Pre_finite_proj.S1x8192x1024 .f32)
    (x4 : FVec Ideal Pre_finite_proj.S1x64x256x2x64 .f32)
    (x5 : FVec Ideal Pre_finite_proj.S1x64x256x2x64 .f32)
    (x6 : FVec Ideal Pre_finite_proj.S1x8192x512 .f32)
    (x7 : FVec Ideal Pre_finite_proj.S1x8192x1024 .f32)
    (x8 : FVec Ideal Pre_finite_proj.S1x8192x1024 .f32)
    (x9 : FVec Ideal Pre_finite_proj.S1x8192x1024 .f32)
    (h : Pre_finite_proj.fn (F := Ideal) x0 x1 x2 x3 x4 x5 x6 x7 x8 x9 = fun _ => 1#1) :
    (∃ H : ℕ → ℕ → ℝ, ∀ i, x0 i = ((H (i 1).val (i 2).val : ℝ) : EReal))
    ∧ (∃ G : ℕ → ℝ, ∀ i, x1 i = ((G (i 1).val : ℝ) : EReal))
    ∧ (∃ W : ℕ → ℕ → ℝ, ∀ i, x2 i = ((W (i 1).val (i 2).val : ℝ) : EReal))
    ∧ (∃ Q : ℕ → ℕ → ℝ, ∀ i, x3 i = ((Q (i 1).val (i 2).val : ℝ) : EReal))
    ∧ (∃ K : ℕ → ℕ → ℕ → ℕ → ℝ, ∀ i, x4 i = ((K (i 1).val (i 2).val (i 3).val (i 4).val : ℝ) : EReal))
    ∧ (∃ Y : ℕ → ℕ → ℕ → ℕ → ℝ, ∀ i, x5 i = ((Y (i 1).val (i 2).val (i 3).val (i 4).val : ℝ) : EReal))
    ∧ (∃ D : ℕ → ℕ → ℝ, ∀ i, x6 i = ((D (i 1).val (i 2).val : ℝ) : EReal))
    ∧ (∃ A : ℕ → ℕ → ℝ, ∀ i, x7 i = ((A (i 1).val (i 2).val : ℝ) : EReal))
    ∧ (∃ B : ℕ → ℕ → ℝ, ∀ i, x8 i = ((B (i 1).val (i 2).val : ℝ) : EReal)) := by
  have e := congrFun h (fun a => a.elim0)
  unfold Pre_finite_proj.fn Pre_finite_proj.fn_part1 Pre_finite_proj.fn_part2 at e
  dsimp only at e
  obtain ⟨e, e8⟩ := and_split _ _ _ e
  obtain ⟨e, e7⟩ := and_split _ _ _ e
  obtain ⟨e, e6⟩ := and_split _ _ _ e
  obtain ⟨e, e5⟩ := and_split _ _ _ e
  obtain ⟨e, e4⟩ := and_split _ _ _ e
  obtain ⟨e, e3⟩ := and_split _ _ _ e
  obtain ⟨e, e2⟩ := and_split _ _ _ e
  obtain ⟨e0, e1⟩ := and_split _ _ _ e
  haveI : Subsingleton Pre_finite_proj.S_.Idx := ⟨fun a b => funext fun i => i.elim0⟩
  exact ⟨exists_slab _ (real_of_all _ _ _ _ _ (fun _ => rfl) _ e0),
    exists_row _ (real_of_all _ _ _ _ _ (fun _ => rfl) _ e1),
    exists_slab _ (real_of_all _ _ _ _ _ (fun _ => rfl) _ e2),
    exists_slab _ (real_of_all _ _ _ _ _ (fun _ => rfl) _ e3),
    exists_blocks _ (real_of_all _ _ _ _ _ (fun _ => rfl) _ e4),
    exists_blocks _ (real_of_all _ _ _ _ _ (fun _ => rfl) _ e5),
    exists_slab _ (real_of_all _ _ _ _ _ (fun _ => rfl) _ e6),
    exists_slab _ (real_of_all _ _ _ _ _ (fun _ => rfl) _ e7),
    exists_slab _ (real_of_all _ _ _ _ _ (fun _ => rfl) _ e8)⟩

variable (m : (ℓ : Loc Cert.ProjBwdIdeal.nD Cert.ProjBwdIdeal.τ Cert.ProjBwdIdeal.sig) → Buf (Elt Ideal) ℓ) (c : Dev Cert.ProjBwdIdeal.nD)
variable (x0 : (⟨Cert.ProjRefIdeal.S1x8192x1024, .f32⟩ : BufTy).Contents (Elt Ideal))
variable (x1 : (⟨Cert.ProjRefIdeal.S1x1024, .f32⟩ : BufTy).Contents (Elt Ideal))
variable (x2 : (⟨Cert.ProjRefIdeal.S1x1024x3840, .f32⟩ : BufTy).Contents (Elt Ideal))
variable (x3 : (⟨Cert.ProjRefIdeal.S1x8192x1024, .f32⟩ : BufTy).Contents (Elt Ideal))
variable (x4 : (⟨Cert.ProjRefIdeal.S1x64x256x2x64, .f32⟩ : BufTy).Contents (Elt Ideal))
variable (x5 : (⟨Cert.ProjRefIdeal.S1x64x256x2x64, .f32⟩ : BufTy).Contents (Elt Ideal))
variable (x6 : (⟨Cert.ProjRefIdeal.S1x8192x512, .f32⟩ : BufTy).Contents (Elt Ideal))
variable (x7 : (⟨Cert.ProjRefIdeal.S1x8192x1024, .f32⟩ : BufTy).Contents (Elt Ideal))
variable (x8 : (⟨Cert.ProjRefIdeal.S1x8192x1024, .f32⟩ : BufTy).Contents (Elt Ideal))
variable (x9 : (⟨Cert.ProjRefIdeal.S1x8192x1024, .f32⟩ : BufTy).Contents (Elt Ideal))
variable (a0 : x0 = m ((c : Thread Cert.ProjBwdIdeal.nD Cert.ProjBwdIdeal.τ).loc Cert.ProjBwdIdeal.main_arg0))
variable (a1 : x1 = m ((c : Thread Cert.ProjBwdIdeal.nD Cert.ProjBwdIdeal.τ).loc Cert.ProjBwdIdeal.main_arg1))
variable (a2 : x2 = m ((c : Thread Cert.ProjBwdIdeal.nD Cert.ProjBwdIdeal.τ).loc Cert.ProjBwdIdeal.main_arg2))
variable (a3 : x3 = m ((c : Thread Cert.ProjBwdIdeal.nD Cert.ProjBwdIdeal.τ).loc Cert.ProjBwdIdeal.main_arg3))
variable (a4 : x4 = m ((c : Thread Cert.ProjBwdIdeal.nD Cert.ProjBwdIdeal.τ).loc Cert.ProjBwdIdeal.main_arg4))
variable (a5 : x5 = m ((c : Thread Cert.ProjBwdIdeal.nD Cert.ProjBwdIdeal.τ).loc Cert.ProjBwdIdeal.main_arg5))
variable (a6 : x6 = m ((c : Thread Cert.ProjBwdIdeal.nD Cert.ProjBwdIdeal.τ).loc Cert.ProjBwdIdeal.main_arg6))
variable (a7 : x7 = m ((c : Thread Cert.ProjBwdIdeal.nD Cert.ProjBwdIdeal.τ).loc Cert.ProjBwdIdeal.main_arg7))
variable (a8 : x8 = m ((c : Thread Cert.ProjBwdIdeal.nD Cert.ProjBwdIdeal.τ).loc Cert.ProjBwdIdeal.main_arg8))
variable (a9 : x9 = m ((c : Thread Cert.ProjBwdIdeal.nD Cert.ProjBwdIdeal.τ).loc Cert.ProjBwdIdeal.main_arg9))
variable (H W Q D A B : ℕ → ℕ → ℝ) (G : ℕ → ℝ) (K Y : ℕ → ℕ → ℕ → ℕ → ℝ)
variable (h0 : ∀ i, (m ((c : Thread Cert.ProjBwdIdeal.nD Cert.ProjBwdIdeal.τ).loc Cert.ProjBwdIdeal.main_arg0) : Cert.ProjRefIdeal.S1x8192x1024.Idx → EReal) i = ((H (i 1).val (i 2).val : ℝ) : EReal))
variable (h1 : ∀ i, (m ((c : Thread Cert.ProjBwdIdeal.nD Cert.ProjBwdIdeal.τ).loc Cert.ProjBwdIdeal.main_arg1) : Cert.ProjRefIdeal.S1x1024.Idx → EReal) i = ((G (i 1).val : ℝ) : EReal))
variable (h2 : ∀ i, (m ((c : Thread Cert.ProjBwdIdeal.nD Cert.ProjBwdIdeal.τ).loc Cert.ProjBwdIdeal.main_arg2) : Cert.ProjRefIdeal.S1x1024x3840.Idx → EReal) i = ((W (i 1).val (i 2).val : ℝ) : EReal))
variable (h3 : ∀ i, (m ((c : Thread Cert.ProjBwdIdeal.nD Cert.ProjBwdIdeal.τ).loc Cert.ProjBwdIdeal.main_arg3) : Cert.ProjRefIdeal.S1x8192x1024.Idx → EReal) i = ((Q (i 1).val (i 2).val : ℝ) : EReal))
variable (h4 : ∀ i, (m ((c : Thread Cert.ProjBwdIdeal.nD Cert.ProjBwdIdeal.τ).loc Cert.ProjBwdIdeal.main_arg4) : Cert.ProjRefIdeal.S1x64x256x2x64.Idx → EReal) i = ((K (i 1).val (i 2).val (i 3).val (i 4).val : ℝ) : EReal))
variable (h5 : ∀ i, (m ((c : Thread Cert.ProjBwdIdeal.nD Cert.ProjBwdIdeal.τ).loc Cert.ProjBwdIdeal.main_arg5) : Cert.ProjRefIdeal.S1x64x256x2x64.Idx → EReal) i = ((Y (i 1).val (i 2).val (i 3).val (i 4).val : ℝ) : EReal))
variable (h6 : ∀ i, (m ((c : Thread Cert.ProjBwdIdeal.nD Cert.ProjBwdIdeal.τ).loc Cert.ProjBwdIdeal.main_arg6) : Cert.ProjRefIdeal.S1x8192x512.Idx → EReal) i = ((D (i 1).val (i 2).val : ℝ) : EReal))
variable (h7 : ∀ i, (m ((c : Thread Cert.ProjBwdIdeal.nD Cert.ProjBwdIdeal.τ).loc Cert.ProjBwdIdeal.main_arg7) : Cert.ProjRefIdeal.S1x8192x1024.Idx → EReal) i = ((A (i 1).val (i 2).val : ℝ) : EReal))
variable (h8 : ∀ i, (m ((c : Thread Cert.ProjBwdIdeal.nD Cert.ProjBwdIdeal.τ).loc Cert.ProjBwdIdeal.main_arg8) : Cert.ProjRefIdeal.S1x8192x1024.Idx → EReal) i = ((B (i 1).val (i 2).val : ℝ) : EReal))

include h3 h4 h5 h6 h7 h8 in
/-- The reference's derivative by the joint projection, entry by entry. -/
theorem hX (i : Cert.ProjRefIdeal.S1x8192x3840.Idx) : Cert.ProjRefIdeal.Read.val_main_v175 (F := Ideal) (m ((c : Thread Cert.ProjBwdIdeal.nD Cert.ProjBwdIdeal.τ).loc Cert.ProjBwdIdeal.main_arg3)) (m ((c : Thread Cert.ProjBwdIdeal.nD Cert.ProjBwdIdeal.τ).loc Cert.ProjBwdIdeal.main_arg4)) (m ((c : Thread Cert.ProjBwdIdeal.nD Cert.ProjBwdIdeal.τ).loc Cert.ProjBwdIdeal.main_arg5)) (m ((c : Thread Cert.ProjBwdIdeal.nD Cert.ProjBwdIdeal.τ).loc Cert.ProjBwdIdeal.main_arg6)) (m ((c : Thread Cert.ProjBwdIdeal.nD Cert.ProjBwdIdeal.τ).loc Cert.ProjBwdIdeal.main_arg7)) (m ((c : Thread Cert.ProjBwdIdeal.nD Cert.ProjBwdIdeal.τ).loc Cert.ProjBwdIdeal.main_arg8)) i
    = (((proj Q (own K Y) (prev K Y) D A B) (i 1).val (i 2).val : ℝ) : EReal) := by
  have e : i = ix3 0 (i 1) (i 2) := by
    funext a
    match a with
    | ⟨0, _⟩ => exact Fin.ext (Nat.lt_one_iff.mp (i 0).isLt)
    | ⟨1, _⟩ => rfl
    | ⟨2, _⟩ => rfl
  refine (congrArg _ e).trans ?_
  exact Cert.ProjRefIdeal.Real.v175 Q D A B K Y _ _ _ _ _ _ (fun _ _ => h3 _) (fun _ _ _ _ => h4 _) (fun _ _ _ _ => h5 _) (fun _ _ => h6 _) (fun _ _ => h7 _) (fun _ _ => h8 _) (i 1) (i 2)

include a3 a4 a5 a6 a7 a8 h3 h4 h5 h6 h7 h8 in
theorem eq11 : Cert.ProjRefIdeal.Read.val_main_v201 (F := Ideal) x3 x4 x5 x6 x7 x8 = (Cert.ProjBwdIdeal.Gen.dats m 0 c).arrAt 11 Cert.ProjBwdIdeal.cfg0.N := by
  subst a3 a4 a5 a6 a7 a8
  have e := hX m c Q D A B K Y h3 h4 h5 h6 h7 h8
  refine Eq.trans ?_ (Cert.ProjBwdIdeal.Real.final11 m c Q D A B K Y (fun _ _ => h3 _) (fun _ _ _ _ => h4 _) (fun _ _ _ _ => h5 _) (fun _ _ => h6 _) (fun _ _ => h7 _) (fun _ _ => h8 _)).symm
  funext i
  exact Cert.ProjRefIdeal.Real.dproj_apply (proj Q (own K Y) (prev K Y) D A B) _ _ _ _ _ _ e i

include a0 a1 a2 a3 a4 a5 a6 a7 a8 a9 h0 h1 h2 h3 h4 h5 h6 h7 h8 in
theorem eq12 : Cert.ProjRefIdeal.Read.val_main_v202 (F := Ideal) x0 x1 x2 x3 x4 x5 x6 x7 x8 x9 = (Cert.ProjBwdIdeal.Gen.dats m 0 c).arrAt 12 Cert.ProjBwdIdeal.cfg0.N := by
  subst a0 a1 a2 a3 a4 a5 a6 a7 a8 a9
  have e := hX m c Q D A B K Y h3 h4 h5 h6 h7 h8
  refine Eq.trans ?_ (Cert.ProjBwdIdeal.Real.final12 m c H W Q D A B G K Y (fun _ _ => h0 _) (fun _ => h1 _) (fun _ _ => h2 _) (fun _ _ => h3 _) (fun _ _ _ _ => h4 _) (fun _ _ _ _ => h5 _) (fun _ _ => h6 _) (fun _ _ => h7 _) (fun _ _ => h8 _)).symm
  funext i
  exact Cert.ProjRefIdeal.Real.dx_apply H W (proj Q (own K Y) (prev K Y) D A B) G _ _ _ _ _ _ _ _ _ _ h0 h1 h2 e i

include a0 a1 a2 a3 a4 a5 a6 a7 a8 a9 h0 h1 h2 h3 h4 h5 h6 h7 h8 in
theorem eq13 : Cert.ProjRefIdeal.Read.val_main_v204 (F := Ideal) x0 x1 x2 x3 x4 x5 x6 x7 x8 x9 = (Cert.ProjBwdIdeal.Gen.dats m 0 c).arrAt 13 Cert.ProjBwdIdeal.cfg0.N := by
  subst a0 a1 a2 a3 a4 a5 a6 a7 a8 a9
  have e := hX m c Q D A B K Y h3 h4 h5 h6 h7 h8
  refine Eq.trans ?_ (Cert.ProjBwdIdeal.Real.final13 m c H W Q D A B G K Y (fun _ _ => h0 _) (fun _ => h1 _) (fun _ _ => h2 _) (fun _ _ => h3 _) (fun _ _ _ _ => h4 _) (fun _ _ _ _ => h5 _) (fun _ _ => h6 _) (fun _ _ => h7 _) (fun _ _ => h8 _)).symm
  funext i
  exact Cert.ProjRefIdeal.Real.dxb_apply H W (proj Q (own K Y) (prev K Y) D A B) G _ _ _ _ _ _ _ _ _ _ h0 h1 h2 e i

include a0 a2 a3 a4 a5 a6 a7 a8 h0 h2 h3 h4 h5 h6 h7 h8 in
theorem eq14 : Cert.ProjRefIdeal.Read.val_main_v199 (F := Ideal) x0 x2 x3 x4 x5 x6 x7 x8 = (Cert.ProjBwdIdeal.Gen.dats m 0 c).arrAt 14 Cert.ProjBwdIdeal.cfg0.N := by
  subst a0 a2 a3 a4 a5 a6 a7 a8
  have e := hX m c Q D A B K Y h3 h4 h5 h6 h7 h8
  refine Eq.trans ?_ (Cert.ProjBwdIdeal.Real.final14 m c H W Q D A B K Y (fun _ _ => h0 _) (fun _ _ => h2 _) (fun _ _ => h3 _) (fun _ _ _ _ => h4 _) (fun _ _ _ _ => h5 _) (fun _ _ => h6 _) (fun _ _ => h7 _) (fun _ _ => h8 _)).symm
  funext i
  refine (Cert.ProjRefIdeal.Real.dg_apply H W (proj Q (own K Y) (prev K Y) D A B) _ _ _ _ _ _ _ _ h0 h2 e i).trans ?_
  refine congrArg (fun z : ℝ => (z : EReal)) (Finset.sum_congr rfl fun r _ => ?_)
  exact mul_comm _ _

set_option maxHeartbeats 4000000 in
theorem algebraic : Cert.algebraic_ProjBwdIdeal_ProjRefIdeal_pre_finite_proj := by
  intro m g m' g' hpre harg
  refine ⟨fun c => (Cert.ProjBwdIdeal.Gen.dats m 0 c).arrAt 11 Cert.ProjBwdIdeal.cfg0.N,
    fun c => (Cert.ProjBwdIdeal.Gen.dats m 0 c).arrAt 12 Cert.ProjBwdIdeal.cfg0.N,
    fun c => (Cert.ProjBwdIdeal.Gen.dats m 0 c).arrAt 13 Cert.ProjBwdIdeal.cfg0.N,
    fun c => (Cert.ProjBwdIdeal.Gen.dats m 0 c).arrAt 14 Cert.ProjBwdIdeal.cfg0.N, Cert.ProjBwdIdeal.Value.run_blocks m g, ?_⟩
  refine (θ_run _ _ _).mono (fun r h c => ?_) (Cert.ProjRefIdeal.Value.run m' g')
  obtain ⟨⟨H, h0⟩, ⟨G, h1⟩, ⟨W, h2⟩, ⟨Q, h3⟩, ⟨K, h4⟩, ⟨Y, h5⟩, ⟨D, h6⟩, ⟨A, h7⟩, ⟨B, h8⟩⟩ := reals _ _ _ _ _ _ _ _ _ _ (hpre c)
  obtain ⟨a0, a1, a2, a3, a4, a5, a6, a7, a8, a9⟩ := harg c
  obtain ⟨r0, r1, r2, r3, rest⟩ := h c
  refine ⟨r0.trans ?_, r1.trans ?_, r2.trans ?_, r3.trans ?_, rest⟩
  · exact (Cert.ProjRefIdeal.Read.val_main_v201_eq _).trans (eq11 m c _ _ _ _ _ _ a3 a4 a5 a6 a7 a8 Q D A B K Y h3 h4 h5 h6 h7 h8)
  · exact (Cert.ProjRefIdeal.Read.val_main_v202_eq _).trans (eq12 m c _ _ _ _ _ _ _ _ _ _ a0 a1 a2 a3 a4 a5 a6 a7 a8 a9 H W Q D A B G K Y h0 h1 h2 h3 h4 h5 h6 h7 h8)
  · exact (Cert.ProjRefIdeal.Read.val_main_v204_eq _).trans (eq13 m c _ _ _ _ _ _ _ _ _ _ a0 a1 a2 a3 a4 a5 a6 a7 a8 a9 H W Q D A B G K Y h0 h1 h2 h3 h4 h5 h6 h7 h8)
  · exact (Cert.ProjRefIdeal.Read.val_main_v199_eq _).trans (eq14 m c _ _ _ _ _ _ _ _ a0 a2 a3 a4 a5 a6 a7 a8 H W Q D A B K Y h0 h2 h3 h4 h5 h6 h7 h8)

/-- The reference runs, leaves its arguments as they were, and uses no semaphore. -/
theorem frameRef : Cert.quiescent_ProjRefIdeal := fun m ρ _ =>
  (θ_run Cert.ProjRefIdeal.defs _ _).mono
    (fun r h => ⟨fun c => (h c).2.2.2.2, Idealize.ShloMosaic.sem_eq_zero_of_no_sems (by decide) r.2⟩)
    (Cert.ProjRefIdeal.Value.run (F := Ideal) m ρ)

end Cert.ProjClaim

end
-- ==== Proof.InRef.lean ====
/-
  THE REFERENCE OF THE EIGHTH PAIR: its five results at an index. The norm before the projection is the sixth pair's.
-/
module

public import proofs.«01_k».proof.Proof.UpRef
public import proofs.«01_k».proof.Proof.Gen.InRefIdeal.Read

@[expose] public section

set_option maxRecDepth 16384
set_option backward.isDefEq.respectTransparency false

noncomputable section

namespace Cert.InRefIdeal.Real

open Cert.InRefIdeal Cert.InRefIdeal.Gen Cert.InRefIdeal.Read Cert.Step Cert.Up Idealize.ShloMosaic

variable (H W : ℕ → ℕ → EReal) (G : ℕ → EReal)
variable (x0 : (⟨S1x8192x1024, .f32⟩ : BufTy).Contents (Elt Ideal)) (x1 : (⟨S1x1024, .f32⟩ : BufTy).Contents (Elt Ideal))
variable (x2 : (⟨S1x1024x3840, .f32⟩ : BufTy).Contents (Elt Ideal))
variable (h0 : ∀ i : S1x8192x1024.Idx, x0 i = H (i 1).val (i 2).val)
variable (h1 : ∀ i : S1x1024.Idx, x1 i = G (i 1).val)
variable (h2 : ∀ i : S1x1024x3840.Idx, x2 i = W (i 1).val (i 2).val)

/-- The norm is the sixth pair's. -/
theorem norm_same : val_main_v13 (F := Ideal) x0 x1 = Cert.UpRefIdeal.Read.val_main_v13 (F := Ideal) x0 x1 := rfl

theorem norm_result_same : val_main_v21 (F := Ideal) x0 x1 = Cert.UpRefIdeal.Read.val_main_v19 (F := Ideal) x0 x1 := rfl

theorem flat {b r k : ℕ} (hr : r < 8192) (hk : k < b) : (r * b + k) / b % 8192 = r ∧ (r * b + k) % b = k := by
  rw [Nat.mul_comm, Nat.mul_add_div (by omega), Nat.div_eq_of_lt hk, Nat.mul_add_mod, Nat.mod_eq_of_lt hk]
  exact ⟨Nat.mod_eq_of_lt hr, rfl⟩

include h2 in
theorem weights_apply (i : S1024x3840.Idx) : val_main_v14 (F := Ideal) x2 i = W (i 0).val (i 1).val := by
  rw [val_main_v14_apply, h2]
  have a0 : (i 0).val < 1024 := (i 0).isLt
  have a1 : (i 1).val < 3840 := (i 1).isLt
  show W (((i 0).val * 3840 + (i 1).val) / 3840 % 1024) (((i 0).val * 3840 + (i 1).val) % 3840) = _
  rw [show ((i 0).val * 3840 + (i 1).val) / 3840 % 1024 = (i 0).val by omega,
    show ((i 0).val * 3840 + (i 1).val) % 3840 = (i 1).val by omega]

include h0 h1 h2 in
theorem proj_apply (i : S1x8192x3840.Idx) : val_main_v15 (F := Ideal) x0 x1 x2 i = up H W G (i 1).val (i 2).val := by
  rw [val_main_v15_apply]
  unfold up
  refine Finset.sum_congr rfl fun k _ => ?_
  rw [norm_same, Cert.UpRefIdeal.Real.norm_apply H G x0 x1 h0 h1, weights_apply W x2 h2]

include h0 h1 in
theorem norm_result (i : S8192x1024.Idx) : val_main_v21 (F := Ideal) x0 x1 i = nrm H G (i 0).val (i 1).val := by
  rw [norm_result_same]
  exact Cert.UpRefIdeal.Real.norm_result H G x0 x1 h0 h1 i

include h0 h1 h2 in
/-- The queries columns. -/
theorem v23 (i : S8192x1024.Idx) : val_main_v23 (F := Ideal) x0 x1 x2 i = up H W G (i 0).val (0 + (i 1).val) := by
  rw [val_main_v23_apply, Ideal.truncf_def, val_main_v22_apply, val_main_v16_apply, proj_apply H W G x0 x1 x2 h0 h1 h2]
  exact congrArg₂ (up H W G) (flat (i 0).isLt (i 1).isLt).1 ((flat (i 0).isLt (i 1).isLt).2.trans (Nat.zero_add _).symm)

include h0 h1 h2 in
/-- The keys' and values' columns. -/
theorem v25 (i : S8192x256.Idx) : val_main_v25 (F := Ideal) x0 x1 x2 i = up H W G (i 0).val (1024 + (i 1).val) := by
  rw [val_main_v25_apply, Ideal.truncf_def, val_main_v24_apply, val_main_v17_apply, proj_apply H W G x0 x1 x2 h0 h1 h2]
  exact congrArg₂ (up H W G) (flat (i 0).isLt (i 1).isLt).1 (congrArg (1024 + ·) (flat (i 0).isLt (i 1).isLt).2)

include h0 h1 h2 in
/-- The pool's columns. -/
theorem v26 (i : S8192x512.Idx) : val_main_v26 (F := Ideal) x0 x1 x2 i = up H W G (i 0).val (1280 + (i 1).val) := by
  rw [val_main_v26_apply, val_main_v18_apply, proj_apply H W G x0 x1 x2 h0 h1 h2]
  exact congrArg₂ (up H W G) (flat (i 0).isLt (i 1).isLt).1 (congrArg (1280 + ·) (flat (i 0).isLt (i 1).isLt).2)

include h0 h1 h2 in
/-- The gates' columns. -/
theorem v28 (i : S8192x2048.Idx) : val_main_v28 (F := Ideal) x0 x1 x2 i = up H W G (i 0).val (1792 + (i 1).val) := by
  rw [val_main_v28_apply, Ideal.truncf_def, val_main_v27_apply, val_main_v19_apply, proj_apply H W G x0 x1 x2 h0 h1 h2]
  exact congrArg₂ (up H W G) (flat (i 0).isLt (i 1).isLt).1 (congrArg (1792 + ·) (flat (i 0).isLt (i 1).isLt).2)

end Cert.InRefIdeal.Real

end
-- ==== Proof.InFinal.lean ====
/-
  THE KERNEL OF THE EIGHTH PAIR: what its body stores, a block of 512 rows at a time, and its five results as whole arrays.
-/
module

public import proofs.«01_k».proof.Proof.UpPay
public import proofs.«01_k».proof.Proof.MixVal
public import proofs.«01_k».proof.Proof.Gen.InFwdIdeal.Value
public import Idealize.ShloMosaic.Lib.Pipeline.ReadBack
public import Idealize.ShloMosaic.Lib.Pipeline.ValueKit.Tiles
public import Idealize.ShloMosaic.Lib.Pipeline.ValueKit.Geometry
public import Idealize.ShloMosaic.Lib.Pipeline.ValueKit.Acc
public import Idealize.ShloMosaic.Lib.Tactic

@[expose] public section

set_option maxRecDepth 16384
set_option backward.isDefEq.respectTransparency false

noncomputable section

namespace Cert.InFwdIdeal.Real

open Cert.InFwdIdeal Cert.InFwdIdeal.Gen Cert.Step Cert.Up Idealize.ShloMosaic Idealize.ShloMosaic.TcCoe Idealize.SL.Sem
open Idealize.ShloMosaic.Pointwise Idealize.ShloMosaic.StableHlo
open Cert.MixBwdIdeal.Real (ix2_of ld2 hz2)

/-! ## The blocks, over blocks read -/

section Blocks

variable (H W : ℕ → ℕ → EReal) (G : ℕ → EReal) (q : ℕ)
variable (b0 : Vec Ideal S512x1024 .f32) (b1 : Vec Ideal S1x1024 .f32) (b2 : Vec Ideal S3840x1024 .bf16)
variable (g0 : ∀ (r : Fin 512) (k : Fin 1024), b0 (ix2 r k) = H (q + r.val) k.val)
variable (g1 : ∀ k : Fin 1024, b1 (ix2 0 k) = G k.val)
variable (g2 : ∀ (j : Fin 3840) (k : Fin 1024), b2 (ix2 j k) = W k.val j.val)

/-- Rows of the weights. -/
theorem rows {n : ℕ} (off : Fin 2 → ℕ) (inb) (o : ℕ) (ho : o + n ≤ 3840) (e0 : off 0 = o) (e1 : off 1 = 0) (e : Fin n) (k : Fin 1024)
    (X : Vec Ideal S3840x1024 .bf16) :
    View.ld (Val := Elt Ideal) X (Rect.unit (s := S3840x1024) off ![n, 1024] inb) (ix2 e k) = X (ix2 (⟨o + e.val, by omega⟩ : Fin 3840) k) :=
  ld2 X off inb e k _ k (by rw [e0]) (by rw [e1, Nat.zero_add])

include g0 g1 in
/-- The norm. -/
theorem norm_apply (r : Fin 512) (k : Fin 1024) : k0_pay2 (F := Ideal) b0 b1 (ix2 r k) = nrm H G (q + r.val) k.val :=
  Cert.UpFwdIdeal.Real.norm_apply H G q b0 b1 g0 g1 r k

include g0 g1 in
theorem out3 (r : Fin 512) (k : Fin 1024) : out0_3 (F := Ideal) b0 b1 b2 (ix2 r k) = nrm H G (q + r.val) k.val := by
  unfold out0_3
  rw [View.canon_unit_zero hz2, View.ld_unit_zero (S := S512x1024) hz2, View.ld_unit_zero (S := S1x1024) hz2]
  exact norm_apply H G q b0 b1 g0 g1 r k

include g0 g1 g2 in
theorem out4 (r : Fin 512) (e : Fin 1024) : out0_4 (F := Ideal) b0 b1 b2 (ix2 r e) = up H W G (q + r.val) (0 + e.val) := by
  unfold out0_4
  rw [View.canon_unit_zero hz2, View.ld_unit_zero (S := S512x1024) hz2, View.ld_unit_zero (S := S1x1024) hz2]
  have hw : ∀ (e : Fin 1024) (k : Fin 1024), View.ld (Val := Elt Ideal) b2 r0_2 (ix2 e k) = W k.val (0 + e.val) := fun e k =>
    (rows _ _ 0 (by omega) rfl rfl e k b2).trans (g2 _ _)
  revert hw
  generalize View.ld (Val := Elt Ideal) b2 r0_2 = w
  intro hw
  pointwise [k0_pay3]
  simp only [norm_apply H G q b0 b1 g0 g1, hw, Nat.zero_add]
  rfl

include g0 g1 g2 in
theorem out5 (r : Fin 512) (e : Fin 256) : out0_5 (F := Ideal) b0 b1 b2 (ix2 r e) = up H W G (q + r.val) (1024 + e.val) := by
  unfold out0_5
  rw [View.canon_unit_zero hz2, View.ld_unit_zero (S := S512x1024) hz2, View.ld_unit_zero (S := S1x1024) hz2]
  have hw : ∀ (e : Fin 256) (k : Fin 1024), View.ld (Val := Elt Ideal) b2 r0_3 (ix2 e k) = W k.val (1024 + e.val) := fun e k =>
    (rows _ _ 1024 (by omega) rfl rfl e k b2).trans (g2 _ _)
  revert hw
  generalize View.ld (Val := Elt Ideal) b2 r0_3 = w
  intro hw
  pointwise [k0_pay4]
  simp only [norm_apply H G q b0 b1 g0 g1, hw]
  rfl

include g0 g1 g2 in
theorem out6 (r : Fin 512) (e : Fin 512) : out0_6 (F := Ideal) b0 b1 b2 (ix2 r e) = up H W G (q + r.val) (1280 + e.val) := by
  unfold out0_6
  rw [View.canon_unit_zero hz2, View.ld_unit_zero (S := S512x1024) hz2, View.ld_unit_zero (S := S1x1024) hz2]
  have hw : ∀ (e : Fin 512) (k : Fin 1024), View.ld (Val := Elt Ideal) b2 r0_5 (ix2 e k) = W k.val (1280 + e.val) := fun e k =>
    (rows _ _ 1280 (by omega) rfl rfl e k b2).trans (g2 _ _)
  revert hw
  generalize View.ld (Val := Elt Ideal) b2 r0_5 = w
  intro hw
  pointwise [k0_pay5]
  simp only [norm_apply H G q b0 b1 g0 g1, hw]
  rfl

include g0 g1 g2 in
theorem out7 (r : Fin 512) (e : Fin 2048) : out0_7 (F := Ideal) b0 b1 b2 (ix2 r e) = up H W G (q + r.val) (1792 + e.val) := by
  unfold out0_7
  rw [View.canon_unit_zero hz2, View.ld_unit_zero (S := S512x1024) hz2, View.ld_unit_zero (S := S1x1024) hz2]
  have hw : ∀ (e : Fin 2048) (k : Fin 1024), View.ld (Val := Elt Ideal) b2 r0_7 (ix2 e k) = W k.val (1792 + e.val) := fun e k =>
    (rows _ _ 1792 (by omega) rfl rfl e k b2).trans (g2 _ _)
  revert hw
  generalize View.ld (Val := Elt Ideal) b2 r0_7 = w
  intro hw
  pointwise [k0_pay1]
  simp only [norm_apply H G q b0 b1 g0 g1, hw]
  rfl

end Blocks

/-! ## The blocks read -/

variable (m : (ℓ : Loc nD τ sig) → Buf (Elt Ideal) ℓ) (c : Dev nD)

theorem V_v0 : V m c main_v0 = shapeCast S8192x1024 (m ((c : Thread nD τ).loc main_arg0)) shapeCasts_S1x8192x1024_S8192x1024 := by
  show StableHlo.after hostOps0 _ _ = _
  after_results
  rfl

theorem V_v3 : V m c main_v3 = truncf (F := Ideal) .bf16 (transpose S3840x1024 [1, 0] (shapeCast S1024x3840 (m ((c : Thread nD τ).loc main_arg2)) shapeCasts_S1x1024x3840_S1024x3840) transposes_S1024x3840_S3840x1024_1_0) bitsLt_bf16_f32 := by
  show StableHlo.after hostOps0 _ _ = _
  after_results
  rfl

theorem idx : ∀ t : Fin cfg0.N, (win0_0.index t 0 = t.val ∧ win0_0.index t 1 = 0) ∧ (win0_1.index t 0 = 0 ∧ win0_1.index t 1 = 0)
    ∧ win0_2.index t 0 = 0 ∧ win0_2.index t 1 = 0 := by decide +kernel

variable (H W : ℕ → ℕ → EReal) (G : ℕ → EReal)
variable (h0 : ∀ (r : Fin 8192) (k : Fin 1024), m ((c : Thread nD τ).loc main_arg0) (ix3 0 r k) = H r k)
variable (h1 : ∀ k : Fin 1024, m ((c : Thread nD τ).loc main_arg1) (ix2 0 k) = G k)
variable (h2 : ∀ (k : Fin 1024) (j : Fin 3840), m ((c : Thread nD τ).loc main_arg2) (ix3 0 k j) = W k j)
variable (t : Fin cfg0.N)

theorem N16 : t.val < 16 := by have h : cfg0.N = 16 := N_0; have := t.isLt; omega

include h0 in
theorem blk0 (r : Fin 512) (k : Fin 1024) : (iblk m c 0 t : Vec Ideal S512x1024 .f32) (ix2 r k) = H (t.val * 512 + r.val) k.val := by
  have hN := N16 t
  unfold iblk
  rw [View.read_apply]
  show V m c main_v0 _ = _
  rw [V_v0]
  refine (congrArg _ (ix2_of _ (⟨t.val * 512 + r.val, by omega⟩ : Fin 8192) k ?_ ?_)).trans ((slab_apply _ _ _ _).trans (h0 _ _))
  · show win0_0.index t 0 * 512 + 1 * r.val = t.val * 512 + r.val; rw [(idx t).1.1]; omega
  · show win0_0.index t 1 * 1024 + 1 * k.val = k.val; rw [(idx t).1.2]; omega

include h1 in
theorem blk1 (k : Fin 1024) : (iblk m c 1 t : Vec Ideal S1x1024 .f32) (ix2 0 k) = G k.val := by
  unfold iblk
  rw [View.read_apply]
  show V m c main_arg1 _ = _
  rw [V_main_arg1]
  refine (congrArg _ (ix2_of _ (0 : Fin 1) k ?_ ?_)).trans (h1 _)
  · show win0_1.index t 0 * 1 + 1 * 0 = 0; rw [(idx t).2.1.1]
  · show win0_1.index t 1 * 1024 + 1 * k.val = k.val; rw [(idx t).2.1.2]; omega

include h2 in
theorem blk2 (j : Fin 3840) (k : Fin 1024) : (iblk m c 2 t : Vec Ideal S3840x1024 .bf16) (ix2 j k) = W k.val j.val := by
  unfold iblk
  rw [View.read_apply]
  show V m c main_v3 _ = _
  rw [V_v3]
  refine (congrArg _ (ix2_of _ j k ?_ ?_)).trans ?_
  · show win0_2.index t 0 * 3840 + 1 * j.val = j.val; rw [(idx t).2.2.1]; omega
  · show win0_2.index t 1 * 1024 + 1 * k.val = k.val; rw [(idx t).2.2.2]; omega
  · refine Eq.trans ?_ ((slab_apply (m ((c : Thread nD τ).loc main_arg2)) shapeCasts_S1x1024x3840_S1024x3840 k j).trans (h2 k j))
    generalize shapeCast S1024x3840 (m ((c : Thread nD τ).loc main_arg2)) shapeCasts_S1x1024x3840_S1024x3840 = y
    pointwise []

/-! ## The arrays -/

/-- The rows' norm. -/
def nArr (i : S8192x1024.Idx) : EReal := nrm H G (i 0).val (i 1).val

/-- The projection's columns from `o` on. -/
def cols (o : ℕ) {n : ℕ} (i : (⟨2, ![8192, n]⟩ : Shape).Idx) : EReal := up H W G (i 0).val (o + (i 1).val)

theorem idx3 : ∀ t : Fin cfg0.N, win0_3.index t = ![t.val, 0] :=
  (by decide +kernel : ∀ t : Fin grid0.N, win0_3.index t = ![t.val, 0])

include h0 h1 in
theorem final3 : (dats m 0 c).arrAt 3 cfg0.N = nArr H G := by
  refine (dats m 0 c).arrAt_eq_of_covers 3 _ (by decide +kernel) fun t hf y => ?_
  have hN := N16 t
  obtain ⟨r, l, rfl⟩ : ∃ (r : Fin 512) (l : Fin 1024), y = ix2 r l := ⟨y 0, y 1, by blk_ext []⟩
  have e : (win0_3.blk t).view.emb (ix2 r l) = ix2 (⟨t.val * 512 + r.val, by omega⟩ : Fin 8192) l := by
    blk_ext [idx3 t]
  blk_simp
  rw [after0_3, e]
  exact out3 H G (t.val * 512) _ _ _ (blk0 m c H h0 t) (blk1 m c G h1 t) r l

theorem idx4 : ∀ t : Fin cfg0.N, win0_4.index t = ![t.val, 0] :=
  (by decide +kernel : ∀ t : Fin grid0.N, win0_4.index t = ![t.val, 0])

include h0 h1 h2 in
theorem final4 : (dats m 0 c).arrAt 4 cfg0.N = (cols H W G 0 : S8192x1024.Idx → EReal) := by
  refine (dats m 0 c).arrAt_eq_of_covers 4 _ (by decide +kernel) fun t hf y => ?_
  have hN := N16 t
  obtain ⟨r, l, rfl⟩ : ∃ (r : Fin 512) (l : Fin 1024), y = ix2 r l := ⟨y 0, y 1, by blk_ext []⟩
  have e : (win0_4.blk t).view.emb (ix2 r l) = ix2 (⟨t.val * 512 + r.val, by omega⟩ : Fin 8192) l := by
    blk_ext [idx4 t]
  blk_simp
  rw [after0_4, e]
  exact out4 H W G (t.val * 512) _ _ _ (blk0 m c H h0 t) (blk1 m c G h1 t) (blk2 m c W h2 t) r l

theorem idx5 : ∀ t : Fin cfg0.N, win0_5.index t = ![t.val, 0] :=
  (by decide +kernel : ∀ t : Fin grid0.N, win0_5.index t = ![t.val, 0])

include h0 h1 h2 in
theorem final5 : (dats m 0 c).arrAt 5 cfg0.N = (cols H W G 1024 : S8192x256.Idx → EReal) := by
  refine (dats m 0 c).arrAt_eq_of_covers 5 _ (by decide +kernel) fun t hf y => ?_
  have hN := N16 t
  obtain ⟨r, l, rfl⟩ : ∃ (r : Fin 512) (l : Fin 256), y = ix2 r l := ⟨y 0, y 1, by blk_ext []⟩
  have e : (win0_5.blk t).view.emb (ix2 r l) = ix2 (⟨t.val * 512 + r.val, by omega⟩ : Fin 8192) l := by
    blk_ext [idx5 t]
  blk_simp
  rw [after0_5, e]
  exact out5 H W G (t.val * 512) _ _ _ (blk0 m c H h0 t) (blk1 m c G h1 t) (blk2 m c W h2 t) r l

theorem idx6 : ∀ t : Fin cfg0.N, win0_6.index t = ![t.val, 0] :=
  (by decide +kernel : ∀ t : Fin grid0.N, win0_6.index t = ![t.val, 0])

include h0 h1 h2 in
theorem final6 : (dats m 0 c).arrAt 6 cfg0.N = (cols H W G 1280 : S8192x512.Idx → EReal) := by
  refine (dats m 0 c).arrAt_eq_of_covers 6 _ (by decide +kernel) fun t hf y => ?_
  have hN := N16 t
  obtain ⟨r, l, rfl⟩ : ∃ (r : Fin 512) (l : Fin 512), y = ix2 r l := ⟨y 0, y 1, by blk_ext []⟩
  have e : (win0_6.blk t).view.emb (ix2 r l) = ix2 (⟨t.val * 512 + r.val, by omega⟩ : Fin 8192) l := by
    blk_ext [idx6 t]
  blk_simp
  rw [after0_6, e]
  exact out6 H W G (t.val * 512) _ _ _ (blk0 m c H h0 t) (blk1 m c G h1 t) (blk2 m c W h2 t) r l

theorem idx7 : ∀ t : Fin cfg0.N, win0_7.index t = ![t.val, 0] :=
  (by decide +kernel : ∀ t : Fin grid0.N, win0_7.index t = ![t.val, 0])

include h0 h1 h2 in
theorem final7 : (dats m 0 c).arrAt 7 cfg0.N = (cols H W G 1792 : S8192x2048.Idx → EReal) := by
  refine (dats m 0 c).arrAt_eq_of_covers 7 _ (by decide +kernel) fun t hf y => ?_
  have hN := N16 t
  obtain ⟨r, l, rfl⟩ : ∃ (r : Fin 512) (l : Fin 2048), y = ix2 r l := ⟨y 0, y 1, by blk_ext []⟩
  have e : (win0_7.blk t).view.emb (ix2 r l) = ix2 (⟨t.val * 512 + r.val, by omega⟩ : Fin 8192) l := by
    blk_ext [idx7 t]
  blk_simp
  rw [after0_7, e]
  exact out7 H W G (t.val * 512) _ _ _ (blk0 m c H h0 t) (blk1 m c G h1 t) (blk2 m c W h2 t) r l

end Cert.InFwdIdeal.Real

end
-- ==== Proof.InClaim.lean ====
/-
  THE EIGHTH PAIR, put together: at any arguments at all the kernel and the plain lines both run and leave equal arrays.
-/
module

public import proofs.«01_k».proof.Defs
public import proofs.«01_k».proof.Proof.InRef
public import proofs.«01_k».proof.Proof.InFinal
public import proofs.«01_k».proof.Proof.UpClaim
public import proofs.«01_k».proof.Proof.Gen.InFwd.Frame
public import proofs.«01_k».proof.Proof.Gen.InRefIdeal.Run

@[expose] public section

set_option maxRecDepth 16384
set_option backward.isDefEq.respectTransparency false

noncomputable section

namespace Cert.InClaim

open Cert.Step Idealize.ShloMosaic Idealize.ShloMosaic.TcCoe Idealize.SL.Sem
open Cert.InRefIdeal.Read Cert.InFwdIdeal.Gen
open Cert.UpClaim (numbered3 numbered2)

variable (m : (ℓ : Loc Cert.InFwdIdeal.nD Cert.InFwdIdeal.τ Cert.InFwdIdeal.sig) → Buf (Elt Ideal) ℓ) (c : Dev Cert.InFwdIdeal.nD)
variable (x0 : (⟨Cert.InRefIdeal.S1x8192x1024, .f32⟩ : BufTy).Contents (Elt Ideal)) (x1 : (⟨Cert.InRefIdeal.S1x1024, .f32⟩ : BufTy).Contents (Elt Ideal))
variable (x2 : (⟨Cert.InRefIdeal.S1x1024x3840, .f32⟩ : BufTy).Contents (Elt Ideal))
variable (a0 : x0 = m ((c : Thread Cert.InFwdIdeal.nD Cert.InFwdIdeal.τ).loc Cert.InFwdIdeal.main_arg0))
variable (a1 : x1 = m ((c : Thread Cert.InFwdIdeal.nD Cert.InFwdIdeal.τ).loc Cert.InFwdIdeal.main_arg1))
variable (a2 : x2 = m ((c : Thread Cert.InFwdIdeal.nD Cert.InFwdIdeal.τ).loc Cert.InFwdIdeal.main_arg2))

include a0 a1 a2 in
/-- The reference's five results are the kernel's. -/
theorem same : val_main_v21 (F := Ideal) x0 x1 = (dats m 0 c).arrAt 3 Cert.InFwdIdeal.cfg0.N
    ∧ val_main_v23 (F := Ideal) x0 x1 x2 = (dats m 0 c).arrAt 4 Cert.InFwdIdeal.cfg0.N
    ∧ val_main_v25 (F := Ideal) x0 x1 x2 = (dats m 0 c).arrAt 5 Cert.InFwdIdeal.cfg0.N
    ∧ val_main_v26 (F := Ideal) x0 x1 x2 = (dats m 0 c).arrAt 6 Cert.InFwdIdeal.cfg0.N
    ∧ val_main_v28 (F := Ideal) x0 x1 x2 = (dats m 0 c).arrAt 7 Cert.InFwdIdeal.cfg0.N := by
  obtain ⟨H, h0⟩ := numbered3 x0
  obtain ⟨G, h1⟩ := numbered2 x1
  obtain ⟨W, h2⟩ := numbered3 x2
  subst a0 a1 a2
  refine ⟨Eq.trans ?_ (Cert.InFwdIdeal.Real.final3 m c H G (fun _ _ => h0 _) (fun _ => h1 _)).symm,
    Eq.trans ?_ (Cert.InFwdIdeal.Real.final4 m c H W G (fun _ _ => h0 _) (fun _ => h1 _) (fun _ _ => h2 _)).symm,
    Eq.trans ?_ (Cert.InFwdIdeal.Real.final5 m c H W G (fun _ _ => h0 _) (fun _ => h1 _) (fun _ _ => h2 _)).symm,
    Eq.trans ?_ (Cert.InFwdIdeal.Real.final6 m c H W G (fun _ _ => h0 _) (fun _ => h1 _) (fun _ _ => h2 _)).symm,
    Eq.trans ?_ (Cert.InFwdIdeal.Real.final7 m c H W G (fun _ _ => h0 _) (fun _ => h1 _) (fun _ _ => h2 _)).symm⟩
  · funext i
    exact Cert.InRefIdeal.Real.norm_result H G _ _ h0 h1 i
  · funext i
    exact Cert.InRefIdeal.Real.v23 H W G _ _ _ h0 h1 h2 i
  · funext i
    exact Cert.InRefIdeal.Real.v25 H W G _ _ _ h0 h1 h2 i
  · funext i
    exact Cert.InRefIdeal.Real.v26 H W G _ _ _ h0 h1 h2 i
  · funext i
    exact Cert.InRefIdeal.Real.v28 H W G _ _ _ h0 h1 h2 i

set_option maxHeartbeats 4000000 in
theorem algebraic : Cert.algebraic_InFwdIdeal_InRefIdeal := by
  intro m g m' g' hpre harg
  refine ⟨fun c => (dats m 0 c).arrAt 3 Cert.InFwdIdeal.cfg0.N, fun c => (dats m 0 c).arrAt 4 Cert.InFwdIdeal.cfg0.N,
    fun c => (dats m 0 c).arrAt 5 Cert.InFwdIdeal.cfg0.N, fun c => (dats m 0 c).arrAt 6 Cert.InFwdIdeal.cfg0.N,
    fun c => (dats m 0 c).arrAt 7 Cert.InFwdIdeal.cfg0.N, Cert.InFwdIdeal.Value.run_blocks m g, ?_⟩
  refine (θ_run _ _ _).mono (fun r h c => ?_) (Cert.InRefIdeal.Value.run m' g')
  obtain ⟨a0, a1, a2⟩ := harg c
  obtain ⟨e3, e4, e5, e6, e7⟩ := same m c _ _ _ a0 a1 a2
  obtain ⟨r0, r1, r2, r3, r4, rest⟩ := h c
  exact ⟨r0.trans ((val_main_v21_eq _ _).trans e3), r1.trans ((val_main_v23_eq _ _ _).trans e4), r2.trans ((val_main_v25_eq _ _ _).trans e5),
    r3.trans ((val_main_v26_eq _ _ _).trans e6), r4.trans ((val_main_v28_eq _ _ _).trans e7), rest⟩

/-- The reference runs, leaves its arguments as they were, and uses no semaphore. -/
theorem frameRef : Cert.quiescent_InRefIdeal := fun m ρ _ =>
  (θ_run Cert.InRefIdeal.defs _ _).mono
    (fun r h => ⟨fun c => (h c).2.2.2.2.2, Idealize.ShloMosaic.sem_eq_zero_of_no_sems (by decide) r.2⟩)
    (Cert.InRefIdeal.Value.run (F := Ideal) m ρ)

end Cert.InClaim

end
-- ==== Proof.GateSpec.lean ====
/-
  THE NINTH PAIR, over the real numbers: the gradient of the SwiGLU gate behind the product with the downward weights.
-/
module

public import proofs.«01_k».proof.Proof.LossSpec

@[expose] public section

noncomputable section

namespace Cert.Gate

open Cert.Loss

variable (H W P D : ℕ → ℕ → ℝ) (G : ℕ → ℝ)

/-- The cotangent of the gated unit. -/
def dct (r j : ℕ) : ℝ := ∑ k : Fin 1024, 1 / 2 * D r k * P j k

/-- The cotangent of the gate's half. -/
def da (r j : ℕ) : ℝ :=
  dct P D r j * lgs (up H W G r j) * up H W G r (2816 + j) * (1 + up H W G r j * (1 - lgs (up H W G r j)))

/-- The cotangent of the other half. -/
def db (r j : ℕ) : ℝ := dct P D r j * lgs (up H W G r j) * up H W G r j

/-- Both. -/
def dab (r k : ℕ) : ℝ := if k < 2816 then da H W P D G r k else db H W P D G r (k - 2816)

end Cert.Gate

end
-- ==== Proof.GateRef.lean ====
/-
  THE REFERENCE OF THE NINTH PAIR, read over the real numbers: its result at an index.
-/
module

public import proofs.«01_k».proof.Proof.LossRef
public import proofs.«01_k».proof.Proof.GateSpec
public import proofs.«01_k».proof.Proof.Gen.GateRefIdeal.Read
public import Idealize.ShloMosaic.Lib.Pipeline.Value

@[expose] public section

set_option maxRecDepth 16384
set_option backward.isDefEq.respectTransparency false

noncomputable section

namespace Cert.GateRefIdeal.Real

open Cert.GateRefIdeal Cert.GateRefIdeal.Gen Cert.GateRefIdeal.Read Cert.Step Cert.Loss Cert.Gate Idealize.ShloMosaic

variable (H W P D : ℕ → ℕ → ℝ) (G : ℕ → ℝ)
variable (x0 : (⟨S1x8192x1024, .f32⟩ : BufTy).Contents (Elt Ideal)) (x1 : (⟨S1x1024, .f32⟩ : BufTy).Contents (Elt Ideal))
variable (x2 : (⟨S1x1024x5632, .f32⟩ : BufTy).Contents (Elt Ideal)) (x3 : (⟨S1x2816x1024, .f32⟩ : BufTy).Contents (Elt Ideal))
variable (x4 : (⟨S1x8192x1024, .f32⟩ : BufTy).Contents (Elt Ideal))
variable (h0 : ∀ i : S1x8192x1024.Idx, x0 i = ((H (i 1).val (i 2).val : ℝ) : EReal))
variable (h1 : ∀ i : S1x1024.Idx, x1 i = ((G (i 1).val : ℝ) : EReal))
variable (h2 : ∀ i : S1x1024x5632.Idx, x2 i = ((W (i 1).val (i 2).val : ℝ) : EReal))
variable (h3 : ∀ i : S1x2816x1024.Idx, x3 i = ((P (i 1).val (i 2).val : ℝ) : EReal))
variable (h4 : ∀ i : S1x8192x1024.Idx, x4 i = ((D (i 1).val (i 2).val : ℝ) : EReal))

/-- The upward product and the weights are the fourth pair's. -/
theorem up_same : val_main_v15 (F := Ideal) x0 x1 x2 = Cert.LossRefIdeal.Read.val_main_v15 (F := Ideal) x0 x1 x2 := rfl

theorem down_same : val_main_v20 (F := Ideal) x3 = Cert.LossRefIdeal.Read.val_main_v20 (F := Ideal) x3 := rfl

include h0 h1 h2 in
theorem v16 (i : S1x8192x2816.Idx) : val_main_v16 (F := Ideal) x0 x1 x2 i = ((up H W G (i 1).val (i 2).val : ℝ) : EReal) := by
  rw [val_main_v16_apply, up_same, Cert.LossRefIdeal.Real.v15 H W G x0 x1 x2 h0 h1 h2]

include h0 h1 h2 in
theorem v17 (i : S1x8192x2816.Idx) : val_main_v17 (F := Ideal) x0 x1 x2 i = ((up H W G (i 1).val (2816 + (i 2).val) : ℝ) : EReal) := by
  rw [val_main_v17_apply, up_same, Cert.LossRefIdeal.Real.v15 H W G x0 x1 x2 h0 h1 h2]

include h0 h1 h2 in
theorem c5 (i : S1x8192x2816.Idx) : val_main_v18_2 (F := Ideal) x0 x1 x2 i = ((lgs (up H W G (i 1).val (i 2).val) : ℝ) : EReal) := by
  rw [val_main_v18_2_apply, val_main_call0_v4_apply, val_main_call0_v3_apply, val_main_call0_v2_apply, val_main_call0_v1_apply,
    val_main_call0_v0_apply, v16 H W G x0 x1 x2 h0 h1 h2, val_main_call0_cst_apply, val_main_call0_cst_0_apply, Ideal.ofBits_def, ofBits_one, ← logistic_real]
  rfl

include h3 h4 in
theorem v26 (i : S1x8192x2816.Idx) : val_main_v26 (F := Ideal) x3 x4 i = ((dct P D (i 1).val (i 2).val : ℝ) : EReal) := by
  rw [val_main_v26_apply]
  unfold dct
  rw [← coe_sum]
  refine Finset.sum_congr rfl fun k _ => ?_
  rw [down_same, Cert.LossRefIdeal.Real.v20 P x3 h3, val_main_v25_apply, val_main_v24_apply, val_main_cst_3_apply, h4, Ideal.ofBits_def, ofBits_half]
  simp only [Ideal.mulf_def, ← EReal.coe_mul]

include h0 h1 h2 h3 h4 in
theorem v27 (i : S1x8192x2816.Idx) : val_main_v27 (F := Ideal) x0 x1 x2 x3 x4 i = ((db H W P D G (i 1).val (i 2).val : ℝ) : EReal) := by
  rw [val_main_v27_apply, val_main_v18_0_apply, v26 P D x3 x4 h3 h4, v16 H W G x0 x1 x2 h0 h1 h2, c5 H W G x0 x1 x2 h0 h1 h2]
  simp only [Ideal.mulf_def, ← EReal.coe_mul]
  unfold db
  refine congrArg _ ?_
  ring

include h0 h1 h2 h3 h4 in
theorem v29 (i : S1x8192x2816.Idx) : val_main_v29 (F := Ideal) x0 x1 x2 x3 x4 i = ((da H W P D G (i 1).val (i 2).val : ℝ) : EReal) := by
  rw [val_main_v29_apply, val_main_call1_v2_apply, val_main_call1_v1_apply, val_main_call1_v0_apply, val_main_v28_apply, val_main_v18_1_apply,
    val_main_call0_v7_apply, val_main_call0_v6_apply, val_main_call0_cst_1_apply, v26 P D x3 x4 h3 h4, v16 H W G x0 x1 x2 h0 h1 h2,
    v17 H W G x0 x1 x2 h0 h1 h2, c5 H W G x0 x1 x2 h0 h1 h2, Ideal.ofBits_def, ofBits_one]
  simp only [Ideal.mulf_def, Ideal.addf_def, Ideal.subf_def, ← EReal.coe_mul, ← EReal.coe_add, ← EReal.coe_sub]
  unfold da
  refine congrArg _ ?_
  ring

include h0 h1 h2 h3 h4 in
/-- The joined gradient: the gate's half, then the value's. -/
theorem v30 (r : Fin 8192) (k : Fin 5632) : val_main_v30 (F := Ideal) x0 x1 x2 x3 x4 (ix3 0 r k) = ((dab H W P D G r.val k.val : ℝ) : EReal) := by
  unfold val_main_v30 dab
  by_cases hk : k.val < 2816
  · rw [if_pos hk]
    exact (concatenate_pair_apply_left (t := S1x8192x5632) (s₁ := S1x8192x2816) (s₂ := S1x8192x2816) 2 _ _ concatenates_S1x8192x2816_S1x8192x2816_S1x8192x5632_d2 (ix3 0 r k) rfl (ix3 0 r (⟨k.val, hk⟩ : Fin 2816)) (fun b => by
      match b with
      | ⟨0, _⟩ => rfl
      | ⟨1, _⟩ => rfl
      | ⟨2, _⟩ => rfl)).trans (v29 H W P D G x0 x1 x2 x3 x4 h0 h1 h2 h3 h4 _)
  · rw [if_neg hk]
    refine (concatenate_pair_apply_right (t := S1x8192x5632) (s₁ := S1x8192x2816) (s₂ := S1x8192x2816) 2 _ _ concatenates_S1x8192x2816_S1x8192x2816_S1x8192x5632_d2 (ix3 0 r k) rfl rfl (ix3 0 r (⟨k.val - 2816, by omega⟩ : Fin 2816)) (fun b hb => ?_) ?_).trans
      (v27 H W P D G x0 x1 x2 x3 x4 h0 h1 h2 h3 h4 _)
    · match b with
      | ⟨0, _⟩ => rfl
      | ⟨1, _⟩ => rfl
      | ⟨2, _⟩ => exact absurd rfl hb
    · show k.val - 2816 + 2816 = k.val
      omega

include h0 h1 h2 h3 h4 in
theorem dab_apply (i : S8192x5632.Idx) : val_main_v32 (F := Ideal) x0 x1 x2 x3 x4 i = ((dab H W P D G (i 0).val (i 1).val : ℝ) : EReal) := by
  have l0 : (i 0).val < 8192 := (i 0).isLt
  have l1 : (i 1).val < 5632 := (i 1).isLt
  obtain ⟨e1, e2⟩ := Cert.LossRefIdeal.Real.slab_idx (i 0).val (i 1).val l0 l1
  rw [val_main_v32_apply, val_main_v31_apply]
  refine Eq.trans (congrArg (val_main_v30 (F := Ideal) x0 x1 x2 x3 x4) ?_) (v30 H W P D G x0 x1 x2 x3 x4 h0 h1 h2 h3 h4 ⟨(i 0).val, l0⟩ ⟨(i 1).val, l1⟩)
  funext a
  apply Fin.ext
  match a with
  | ⟨0, _⟩ => rfl
  | ⟨1, _⟩ => exact e1
  | ⟨2, _⟩ => exact e2

end Cert.GateRefIdeal.Real

end
-- ==== Proof.GateVal.lean ====
/-
  THE KERNEL OF THE NINTH PAIR, the block it writes: 11 stretches of 256 columns, each in 16 slabs of 32 rows and two
  halves. The pieces are listed by recursion, the last one first.
-/
module

public import proofs.«01_k».proof.Proof.GateSpec
public import proofs.«01_k».proof.Proof.Gen.GateBwdIdeal.Frame
public import Idealize.ShloMosaic.Lib.Pointwise
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Tiles
public import Idealize.ShloMosaic.Lib.Tactic

@[expose] public section

set_option maxRecDepth 65536
set_option backward.isDefEq.respectTransparency false

noncomputable section

namespace Cert.GateBwdIdeal.Real

open Cert.GateBwdIdeal Cert.GateBwdIdeal.Gen Cert.Step Cert.Loss Cert.Gate Idealize.ShloMosaic Idealize.ShloMosaic.TcCoe Idealize.SL.Sem
open Idealize.ShloMosaic.Pointwise

theorem hz2 : (![0, 0] : Fin 2 → Nat) = fun _ => 0 := funext fun a => by fin_cases a <;> rfl

theorem ix2_of {a b : ℕ} (i : (⟨2, ![a, b]⟩ : Shape).Idx) (p : Fin a) (k : Fin b) (h0 : (i 0).val = p.val) (h1 : (i 1).val = k.val) : i = ix2 p k := by
  funext x
  apply Fin.ext
  match x with
  | ⟨0, _⟩ => exact h0
  | ⟨1, _⟩ => exact h1

theorem ld2 {e : EltTy} {A B a b : ℕ} (X : (⟨2, ![A, B]⟩ : Shape).Idx → Elt Ideal e) (off : Fin 2 → ℕ) (inb) (r : Fin a) (k : Fin b) (r' : Fin A) (k' : Fin B)
    (hr : r'.val = off 0 + r.val) (hk : k'.val = off 1 + k.val) :
    View.ld (Val := Elt Ideal) X (Rect.unit (s := ⟨2, ![A, B]⟩) off ![a, b] inb) (ix2 r k) = X (ix2 r' k') :=
  View.ld_unit_apply_of (Val := Elt Ideal) X off _ inb _ _ fun x => by
    match x with
    | ⟨0, _⟩ => exact hr
    | ⟨1, _⟩ => exact hk

theorem ofBits_half_bf16 : Ideal.ofBits .bf16 0x3F00#16 = ((1 / 2 : ℝ) : EReal) := by
  simp [Ideal.ofBits, Ideal.ieee, -EReal.coe_mul]; norm_num

/-! ## The values stored -/

variable (H W P D : ℕ → ℕ → ℝ) (G : ℕ → ℝ) (q o : ℕ)

theorem pay9 (v0 : Vec Ideal S512x1024 .bf16) (v4 : Vec Ideal S256x1024 .bf16)
    (h0 : ∀ (r : Fin 512) (k : Fin 1024), v0 (ix2 r k) = ((D (q + r.val) k.val : ℝ) : EReal))
    (h4 : ∀ (e : Fin 256) (k : Fin 1024), v4 (ix2 e k) = ((P (o + e.val) k.val : ℝ) : EReal)) (r : Fin 512) (e : Fin 256) :
    k0_pay9 (F := Ideal) v0 v4 (ix2 r e) = ((dct P D (q + r.val) (o + e.val) : ℝ) : EReal) := by
  pointwise [k0_pay9, k0_pay8]
  simp only [h0, h4, ofBits_half_bf16, ← EReal.coe_mul, coe_sum]
  unfold dct
  refine congrArg _ (Finset.sum_congr rfl fun k _ => ?_)
  ring

theorem pay13 (a b : Vec Ideal S32x256 .bf16) (d : Vec Ideal S32x256 .f32) (x y z : ℝ) (r : Fin 32) (e : Fin 256)
    (ha : a (ix2 r e) = ((x : ℝ) : EReal)) (hb : b (ix2 r e) = ((y : ℝ) : EReal)) (hd : d (ix2 r e) = ((z : ℝ) : EReal)) :
    k0_pay13 (F := Ideal) a b d (ix2 r e) = ((z * lgs x * y * (1 + x * (1 - lgs x)) : ℝ) : EReal) := by
  pointwise [k0_pay13, k0_pay12, k0_pay11, k0_pay10]
  simp only [ha, hb, hd, logistic_real, ofBits_one, ← EReal.coe_mul, ← EReal.coe_sub, ← EReal.coe_add, ← EReal.coe_one]

theorem pay14 (a : Vec Ideal S32x256 .bf16) (d : Vec Ideal S32x256 .f32) (x z : ℝ) (r : Fin 32) (e : Fin 256)
    (ha : a (ix2 r e) = ((x : ℝ) : EReal)) (hd : d (ix2 r e) = ((z : ℝ) : EReal)) :
    k0_pay14 (F := Ideal) a d (ix2 r e) = ((z * lgs x * x : ℝ) : EReal) := by
  pointwise [k0_pay14, k0_pay12, k0_pay11, k0_pay10]
  simp only [ha, hd, logistic_real, ← EReal.coe_mul]

/-! ## The pieces -/

theorem inbR {p o : ℕ} (hp : p + 32 ≤ 512) (h : o + 256 ≤ 5632) : ∀ x, (![p, o] : Fin 2 → ℕ) x + S32x256.size x ≤ S512x5632.size x
  | ⟨0, _⟩ => hp
  | ⟨1, _⟩ => h

theorem inbS {p : ℕ} (hp : p + 32 ≤ 512) : ∀ x, (![p, 0] : Fin 2 → ℕ) x + S32x256.size x ≤ S512x256.size x
  | ⟨0, _⟩ => hp
  | ⟨1, _⟩ => le_refl _

theorem inbW {o : ℕ} (h : o + 256 ≤ 2816) : ∀ x, (![o, 0] : Fin 2 → ℕ) x + S256x1024.size x ≤ S2816x1024.size x
  | ⟨0, _⟩ => h
  | ⟨1, _⟩ => le_refl _

theorem inbZ : ∀ x, (![0, 0] : Fin 2 → ℕ) x + S512x256.size x ≤ S512x256.size x
  | ⟨0, _⟩ => le_refl _
  | ⟨1, _⟩ => le_refl _

variable (c : Dev nD) (i : grid0.Coords) (arg1 : Memref sig .tc .vmem S512x1024 .bf16) (harg1 : arg1.IsWhole) (arg2 : Memref sig .tc .vmem S512x5632 .bf16) (harg2 : arg2.IsWhole)
variable (arg3 : Memref sig .tc .vmem S2816x1024 .bf16) (harg3 : arg3.IsWhole) (arg4 : Memref sig .tc .vmem S512x5632 .bf16) (harg4 : arg4.IsWhole)
variable (arg5 : Memref sig .tc .vmem S512x256 .f32) (harg5 : arg5.IsWhole)
variable (x0 : Vec Ideal S512x1024 .bf16) (x1 : Vec Ideal S512x5632 .bf16) (x2 : Vec Ideal S2816x1024 .bf16)

/-- The cotangent's block as it is read. -/
def rdD : Vec Ideal S512x1024 .bf16 :=
  View.readAt (Elt Ideal) arg1.view (Rect.unit (s := S512x1024) ![0, 0] S512x1024.size inb_S512x1024_S512x1024_0_0).toLoadRect (harg1.unread x0)

/-- A slab of the upward product. -/
def rdA (p o : ℕ) (hp : p + 32 ≤ 512) (ho : o + 256 ≤ 5632) : Vec Ideal S32x256 .bf16 :=
  View.readAt (Elt Ideal) arg2.view (Rect.unit (s := S512x5632) ![p, o] S32x256.size (inbR hp ho)).toLoadRect (harg2.unread x1)

/-- A stretch of the downward weights. -/
def rdW (o : ℕ) (ho : o + 256 ≤ 2816) : Vec Ideal S256x1024 .bf16 :=
  View.readAt (Elt Ideal) arg3.view (Rect.unit (s := S2816x1024) ![o, 0] S256x1024.size (inbW ho)).toLoadRect (harg3.unread x2)

/-- What the scratch has been written with after `n` stretches. -/
def scr : (n : ℕ) → n ≤ 11 → List (View.Piece (Elt Ideal) S512x256 .f32)
  | 0, _ => []
  | n + 1, h => ⟨Rect.unit (s := S512x256) ![0, 0] S512x256.size inbZ, k0_pay9 (F := Ideal) (rdD arg1 harg1 x0) (rdW arg3 harg3 x2 (n * 256) (by omega))⟩ :: scr n (by omega)

/-- A slab of the scratch in stretch `n`. -/
def rdS (n : ℕ) (h : n + 1 ≤ 11) (p : ℕ) (hp : p + 32 ≤ 512) : Vec Ideal S32x256 .f32 :=
  arg5.view.readCov (scr arg1 harg1 arg3 harg3 x0 x2 (n + 1) h) (Rect.unit (s := S512x256) ![p, 0] S32x256.size (inbS hp)).toLoadRect

/-- The first `s` slabs of stretch `n`, over what was written before. -/
def slabs (n : ℕ) (h : n + 1 ≤ 11) (L : List (View.Piece (Elt Ideal) S512x5632 .bf16)) : (s : ℕ) → s ≤ 16 → List (View.Piece (Elt Ideal) S512x5632 .bf16)
  | 0, _ => L
  | s + 1, hs =>
      ⟨Rect.unit (s := S512x5632) ![s * 32, 2816 + n * 256] S32x256.size (inbR (by omega) (by omega)),
        k0_pay14 (F := Ideal) (rdA arg2 harg2 x1 (s * 32) (n * 256) (by omega) (by omega)) (rdS arg1 harg1 arg3 harg3 arg5 x0 x2 n h (s * 32) (by omega))⟩
      :: ⟨Rect.unit (s := S512x5632) ![s * 32, n * 256] S32x256.size (inbR (by omega) (by omega)),
        k0_pay13 (F := Ideal) (rdA arg2 harg2 x1 (s * 32) (n * 256) (by omega) (by omega)) (rdA arg2 harg2 x1 (s * 32) (2816 + n * 256) (by omega) (by omega))
          (rdS arg1 harg1 arg3 harg3 arg5 x0 x2 n h (s * 32) (by omega))⟩
      :: slabs n h L s (by omega)

/-- The first `n` stretches. -/
def pieces : (n : ℕ) → n ≤ 11 → List (View.Piece (Elt Ideal) S512x5632 .bf16)
  | 0, _ => []
  | n + 1, h => slabs arg1 harg1 arg2 harg2 arg3 harg3 arg5 x0 x1 x2 n h (pieces n (by omega)) 16 (le_refl _)

/-- The run's pieces are these. -/
theorem run_pieces : (kernelRun0_A (F := Ideal) c i arg1 harg1 arg2 harg2 arg3 harg3 arg4 harg4 arg5 harg5 x0 x1 x2).1
    = pieces arg1 harg1 arg2 harg2 arg3 harg3 arg5 x0 x1 x2 11 (le_refl _) := by
  unfold kernelRun0_A
  dsimp only
  sl_unfold_words
  sl_kernel_rfl

/-! ## What they hold -/

variable (hx0 : ∀ (r : Fin 512) (k : Fin 1024), x0 (ix2 r k) = ((D (q + r.val) k.val : ℝ) : EReal))
variable (hx1 : ∀ (r : Fin 512) (k : Fin 5632), x1 (ix2 r k) = ((up H W G (q + r.val) k.val : ℝ) : EReal))
variable (hx2 : ∀ (j : Fin 2816) (k : Fin 1024), x2 (ix2 j k) = ((P j.val k.val : ℝ) : EReal))

include hx0 in
theorem rdD_apply (r : Fin 512) (k : Fin 1024) : rdD arg1 harg1 x0 (ix2 r k) = ((D (q + r.val) k.val : ℝ) : EReal) := by
  unfold rdD
  rw [View.readAt_eq_ld, harg1.read_unread, View.ld_unit_zero (S := S512x1024) hz2]
  exact hx0 r k

include hx1 in
theorem rdA_apply (p o : ℕ) (hp : p + 32 ≤ 512) (ho : o + 256 ≤ 5632) (r : Fin 32) (e : Fin 256) :
    rdA arg2 harg2 x1 p o hp ho (ix2 r e) = ((up H W G (q + (p + r.val)) (o + e.val) : ℝ) : EReal) := by
  unfold rdA
  rw [View.readAt_eq_ld, harg2.read_unread]
  exact (ld2 x1 _ _ r e (⟨p + r.val, by omega⟩ : Fin 512) (⟨o + e.val, by omega⟩ : Fin 5632) rfl rfl).trans (hx1 _ _)

include hx2 in
theorem rdW_apply (o : ℕ) (ho : o + 256 ≤ 2816) (e : Fin 256) (k : Fin 1024) :
    rdW arg3 harg3 x2 o ho (ix2 e k) = ((P (o + e.val) k.val : ℝ) : EReal) := by
  unfold rdW
  rw [View.readAt_eq_ld, harg3.read_unread]
  exact (ld2 x2 _ _ e k (⟨o + e.val, by omega⟩ : Fin 2816) k rfl (Nat.zero_add _).symm).trans (hx2 _ _)

include hx0 hx2 in
theorem rdS_apply (n : ℕ) (h : n + 1 ≤ 11) (p : ℕ) (hp : p + 32 ≤ 512) (r : Fin 32) (e : Fin 256) :
    rdS arg1 harg1 arg3 harg3 arg5 x0 x2 n h p hp (ix2 r e) = ((dct P D (q + (p + r.val)) (n * 256 + e.val) : ℝ) : EReal) := by
  unfold rdS scr
  rw [View.readCov_eq_canon', View.canon_cons_unit_lit (S := S512x256) _ _ _ (fun a => by fin_cases a <;> rfl)]
  refine (congrArg _ (ix2_of _ (⟨p + r.val, by omega⟩ : Fin 512) e ?_ ?_)).trans
    (pay9 P D q (n * 256) _ _ (rdD_apply D q arg1 harg1 x0 hx0) (rdW_apply P arg3 harg3 x2 hx2 _ _) _ _)
  · show p + 1 * r.val = p + r.val
    omega
  · show 0 + 1 * e.val = e.val
    omega

/-- The block that is written. -/
def dabBlk (i : S512x5632.Idx) : EReal := ((dab H W P D G (q + (i 0).val) (i 1).val : ℝ) : EReal)

/-- A slab agrees with a block when its entries do. -/
theorem pieceS (B : S512x5632.Idx → EReal) (p o : ℕ) (hp : p + 32 ≤ 512) (ho : o + 256 ≤ 5632) (w : S32x256.Idx → EReal)
    (hw : ∀ (r : Fin 32) (e : Fin 256), w (ix2 r e) = B (ix2 ⟨p + r.val, by omega⟩ ⟨o + e.val, by omega⟩)) (x : S32x256.Idx) :
    w x = B ((Rect.unit (s := S512x5632) ![p, o] S32x256.size (inbR hp ho)).emb x) := by
  obtain ⟨r, e, rfl⟩ : ∃ (r : Fin 32) (e : Fin 256), x = ix2 r e := ⟨x 0, x 1, ix2_of _ _ _ rfl rfl⟩
  rw [hw]
  refine congrArg B (ix2_of _ _ _ ?_ ?_).symm
  · show p + 1 * r.val = p + r.val
    omega
  · show o + 1 * e.val = o + e.val
    omega

include hx0 hx1 hx2 in
theorem slabs_of (n : ℕ) (h : n + 1 ≤ 11) (L : List (View.Piece (Elt Ideal) S512x5632 .bf16)) (hL : View.PiecesOf (Val := Elt Ideal) (e := .bf16) (dabBlk H W P D G q) L) :
    ∀ (s : ℕ) (hs : s ≤ 16), View.PiecesOf (Val := Elt Ideal) (e := .bf16) (dabBlk H W P D G q) (slabs arg1 harg1 arg2 harg2 arg3 harg3 arg5 x0 x1 x2 n h L s hs)
  | 0, _ => hL
  | s + 1, hs => by
    refine ⟨?_, ?_, slabs_of n h L hL s (by omega)⟩
    · refine pieceS (dabBlk H W P D G q) (s * 32) (2816 + n * 256) (by omega) (by omega) _ fun r e => ?_
      refine (pay14 _ _ _ _ r e (rdA_apply H W G q arg2 harg2 x1 hx1 _ _ _ _ r e) (rdS_apply P D q arg1 harg1 arg3 harg3 arg5 x0 x2 hx0 hx2 n h _ _ r e)).trans ?_
      refine congrArg (fun x : ℝ => (x : EReal)) ?_
      show _ = dab H W P D G (q + (s * 32 + r.val)) (2816 + n * 256 + e.val)
      unfold dab
      rw [if_neg (by omega), show 2816 + n * 256 + e.val - 2816 = n * 256 + e.val by omega]
      rfl
    · refine pieceS (dabBlk H W P D G q) (s * 32) (n * 256) (by omega) (by omega) _ fun r e => ?_
      refine (pay13 _ _ _ _ _ _ r e (rdA_apply H W G q arg2 harg2 x1 hx1 _ _ _ _ r e) (rdA_apply H W G q arg2 harg2 x1 hx1 _ _ _ _ r e)
        (rdS_apply P D q arg1 harg1 arg3 harg3 arg5 x0 x2 hx0 hx2 n h _ _ r e)).trans ?_
      refine congrArg (fun x : ℝ => (x : EReal)) ?_
      show _ = dab H W P D G (q + (s * 32 + r.val)) (n * 256 + e.val)
      unfold dab
      have he := e.isLt
      rw [if_pos (by omega)]
      unfold da
      rw [Nat.add_assoc 2816]

include hx0 hx1 hx2 in
theorem pieces_of : ∀ (n : ℕ) (h : n ≤ 11), View.PiecesOf (Val := Elt Ideal) (e := .bf16) (dabBlk H W P D G q) (pieces arg1 harg1 arg2 harg2 arg3 harg3 arg5 x0 x1 x2 n h)
  | 0, _ => trivial
  | n + 1, h => slabs_of H W P D G q arg1 harg1 arg2 harg2 arg3 harg3 arg5 x0 x1 x2 hx0 hx1 hx2 n h _ (pieces_of n (by omega)) 16 (le_refl _)

include hx0 hx1 hx2 in
/-- What the run leaves in its output. -/
theorem out_apply (y : S512x5632.Idx) : out0_A_3 (F := Ideal) c i arg1 harg1 arg2 harg2 arg3 harg3 arg4 harg4 arg5 harg5 x0 x1 x2 y = dabBlk H W P D G q y := by
  have hc := cover0_A_3 (F := Ideal) c i arg1 harg1 arg2 harg2 arg3 harg3 arg4 harg4 arg5 harg5 x0 x1 x2
  unfold out0_A_3
  rw [View.read_writes_eq_canon _ _ _ hc]
  rw [run_pieces] at hc ⊢
  have h := View.canon_append_of_piecesOf (Val := Elt Ideal) (e := .bf16) (dabBlk H W P D G q) [] _
    (pieces_of H W P D G q arg1 harg1 arg2 harg2 arg3 harg3 arg5 x0 x1 x2 hx0 hx1 hx2 11 (le_refl _)) y (hc y)
  rw [List.append_nil] at h
  exact h

end Cert.GateBwdIdeal.Real

end
-- ==== Proof.GateFinal.lean ====
/-
  THE KERNEL OF THE NINTH PAIR, its result as a whole array: what each input window reads at a grid point, then the blocks joined.
-/
module

public import proofs.«01_k».proof.Proof.GateVal
public import proofs.«01_k».proof.Proof.LossRef
public import proofs.«01_k».proof.Proof.Gen.GateBwdIdeal.Value
public import Idealize.ShloMosaic.Lib.Pipeline.ValueKit.Geometry
public import Idealize.ShloMosaic.Lib.Pipeline.ValueKit.Acc

@[expose] public section

set_option maxRecDepth 16384
set_option backward.isDefEq.respectTransparency false

noncomputable section

namespace Cert.GateBwdIdeal.Real

open Cert.GateBwdIdeal Cert.GateBwdIdeal.Gen Cert.Step Cert.Loss Cert.Gate Idealize.ShloMosaic Idealize.ShloMosaic.TcCoe Idealize.SL.Sem
open Idealize.ShloMosaic.Pointwise Idealize.ShloMosaic.StableHlo

variable (m : (ℓ : Loc nD τ sig) → Buf (Elt Ideal) ℓ) (c : Dev nD)

theorem V_v18 : V m c main_v18 = truncf (F := Ideal) .bf16 (shapeCast S8192x1024 (m ((c : Thread nD τ).loc main_arg4)) shapeCasts_S1x8192x1024_S8192x1024) bitsLt_bf16_f32 := by
  show StableHlo.after hostOps0 _ _ = _
  after_results
  rfl

theorem V_v19 : V m c main_v19 = truncf (F := Ideal) .bf16 (shapeCast S8192x5632 (Cert.LossRefIdeal.Read.val_main_v15 (F := Ideal) (m ((c : Thread nD τ).loc main_arg0)) (m ((c : Thread nD τ).loc main_arg1)) (m ((c : Thread nD τ).loc main_arg2))) shapeCasts_S1x8192x5632_S8192x5632) bitsLt_bf16_f32 := by
  show StableHlo.after hostOps0 _ _ = _
  after_results
  rfl

theorem V_v21 : V m c main_v21 = truncf (F := Ideal) .bf16 (shapeCast S2816x1024 (m ((c : Thread nD τ).loc main_arg3)) shapeCasts_S1x2816x1024_S2816x1024) bitsLt_bf16_f32 := by
  show StableHlo.after hostOps0 _ _ = _
  after_results
  rfl

theorem idx0 : ∀ t : Fin cfg0.N, win0_0.index t 0 = t.val ∧ win0_0.index t 1 = 0 := by decide +kernel
theorem idx1 : ∀ t : Fin cfg0.N, win0_1.index t 0 = t.val ∧ win0_1.index t 1 = 0 := by decide +kernel
theorem idx2 : ∀ t : Fin cfg0.N, win0_2.index t 0 = 0 ∧ win0_2.index t 1 = 0 := by decide +kernel
theorem idx3 : ∀ t : Fin cfg0.N, win0_3.index t = ![t.val, 0] :=
  (by decide +kernel : ∀ t : Fin grid0.N, win0_3.index t = ![t.val, 0])

variable (H W P D : ℕ → ℕ → ℝ) (G : ℕ → ℝ)
variable (h0 : ∀ i, (m ((c : Thread nD τ).loc main_arg0) : S1x8192x1024.Idx → EReal) i = ((H (i 1).val (i 2).val : ℝ) : EReal))
variable (h1 : ∀ i, (m ((c : Thread nD τ).loc main_arg1) : S1x1024.Idx → EReal) i = ((G (i 1).val : ℝ) : EReal))
variable (h2 : ∀ i, (m ((c : Thread nD τ).loc main_arg2) : S1x1024x5632.Idx → EReal) i = ((W (i 1).val (i 2).val : ℝ) : EReal))
variable (h3 : ∀ i, (m ((c : Thread nD τ).loc main_arg3) : S1x2816x1024.Idx → EReal) i = ((P (i 1).val (i 2).val : ℝ) : EReal))
variable (h4 : ∀ i, (m ((c : Thread nD τ).loc main_arg4) : S1x8192x1024.Idx → EReal) i = ((D (i 1).val (i 2).val : ℝ) : EReal))
variable (t : Fin cfg0.N)

theorem N16 : t.val < 16 := by have h : cfg0.N = 16 := N_0; have := t.isLt; omega

include h4 in
theorem blk0 (r : Fin 512) (k : Fin 1024) : (iblk m c 0 t : Vec Ideal S512x1024 .bf16) (ix2 r k) = ((D (t.val * 512 + r.val) k.val : ℝ) : EReal) := by
  have hN := N16 t
  unfold iblk
  rw [View.read_apply]
  show V m c main_v18 _ = _
  rw [V_v18]
  refine (congrArg _ (ix2_of _ (⟨t.val * 512 + r.val, by omega⟩ : Fin 8192) k ?_ ?_)).trans ((slab_apply _ _ _ _).trans (h4 _))
  · show win0_0.index t 0 * 512 + 1 * r.val = t.val * 512 + r.val; rw [(idx0 t).1]; omega
  · show win0_0.index t 1 * 1024 + 1 * k.val = k.val; rw [(idx0 t).2]; omega

include h0 h1 h2 in
theorem blk1 (r : Fin 512) (k : Fin 5632) : (iblk m c 1 t : Vec Ideal S512x5632 .bf16) (ix2 r k) = ((up H W G (t.val * 512 + r.val) k.val : ℝ) : EReal) := by
  have hN := N16 t
  unfold iblk
  rw [View.read_apply]
  show V m c main_v19 _ = _
  rw [V_v19]
  refine (congrArg _ (ix2_of _ (⟨t.val * 512 + r.val, by omega⟩ : Fin 8192) k ?_ ?_)).trans
    ((slab_apply _ _ _ _).trans (Cert.LossRefIdeal.Real.v15 H W G _ _ _ h0 h1 h2 _))
  · show win0_1.index t 0 * 512 + 1 * r.val = t.val * 512 + r.val; rw [(idx1 t).1]; omega
  · show win0_1.index t 1 * 5632 + 1 * k.val = k.val; rw [(idx1 t).2]; omega

include h3 in
theorem blk2 (j : Fin 2816) (k : Fin 1024) : (iblk m c 2 t : Vec Ideal S2816x1024 .bf16) (ix2 j k) = ((P j.val k.val : ℝ) : EReal) := by
  unfold iblk
  rw [View.read_apply]
  show V m c main_v21 _ = _
  rw [V_v21]
  refine (congrArg _ (ix2_of _ j k ?_ ?_)).trans ((slab_apply _ _ _ _).trans (h3 _))
  · show win0_2.index t 0 * 2816 + 1 * j.val = j.val; rw [(idx2 t).1]; omega
  · show win0_2.index t 1 * 1024 + 1 * k.val = k.val; rw [(idx2 t).2]; omega

/-- The gradient of the upward product. -/
def dabArr (i : S8192x5632.Idx) : EReal := ((dab H W P D G (i 0).val (i 1).val : ℝ) : EReal)

include h0 h1 h2 h3 h4 in
theorem after3 (r : Fin 512) (l : Fin 5632) : outsAt0 m c t (ix2 r l) = ((dab H W P D G (t.val * 512 + r.val) l.val : ℝ) : EReal) := by
  unfold outsAt0
  exact out_apply H W P D G (t.val * 512) _ _ _ _ _ _ _ _ _ _ _ _ _ _ _ (blk0 m c D h4 t) (blk1 m c H W G h0 h1 h2 t) (blk2 m c P h3 t) (ix2 r l)

include h0 h1 h2 h3 h4 in
theorem final3 : (dats m 0 c).arrAt 3 cfg0.N = dabArr H W P D G := by
  refine (dats m 0 c).arrAt_eq_of_covers 3 _ (by decide +kernel) fun t hf y => ?_
  have hN := N16 t
  obtain ⟨r, l, rfl⟩ : ∃ (r : Fin 512) (l : Fin 5632), y = ix2 r l := ⟨y 0, y 1, by blk_ext []⟩
  have e : (win0_3.blk t).view.emb (ix2 r l) = ix2 (⟨t.val * 512 + r.val, by omega⟩ : Fin 8192) l := by
    blk_ext [idx3 t]
  blk_simp
  rw [after0_3, e]
  exact after3 m c H W P D G h0 h1 h2 h3 h4 t r l

end Cert.GateBwdIdeal.Real

end
-- ==== Proof.GateClaim.lean ====
/-
  THE NINTH PAIR, put together: at arguments whose finiteness the precondition states, the kernel and the derivative
  of the plain lines both run and leave equal arrays.
-/
module

public import proofs.«01_k».proof.Defs
public import proofs.«01_k».proof.Proof.GateRef
public import proofs.«01_k».proof.Proof.GateFinal
public import proofs.«01_k».proof.Proof.Gen.GateBwd.Frame
public import proofs.«01_k».proof.Proof.Gen.GateRefIdeal.Run
public import proofs.«01_k».proof.Proof.Gen.Pre_finite_gate

@[expose] public section

set_option maxRecDepth 16384

noncomputable section

namespace Cert.GateClaim

open Cert.Step Cert.Loss Cert.Gate Idealize.ShloMosaic Idealize.ShloMosaic.TcCoe Idealize.SL.Sem

/-- The precondition, read: all five arguments are arrays of reals. -/
theorem reals (x0 : FVec Ideal Pre_finite_gate.S1x8192x1024 .f32) (x1 : FVec Ideal Pre_finite_gate.S1x1024 .f32)
    (x2 : FVec Ideal Pre_finite_gate.S1x1024x5632 .f32) (x3 : FVec Ideal Pre_finite_gate.S1x2816x1024 .f32)
    (x4 : FVec Ideal Pre_finite_gate.S1x8192x1024 .f32)
    (h : Pre_finite_gate.fn (F := Ideal) x0 x1 x2 x3 x4 = fun _ => 1#1) :
    (∃ H : ℕ → ℕ → ℝ, ∀ i, x0 i = ((H (i 1).val (i 2).val : ℝ) : EReal)) ∧ (∃ G : ℕ → ℝ, ∀ i, x1 i = ((G (i 1).val : ℝ) : EReal))
    ∧ (∃ W : ℕ → ℕ → ℝ, ∀ i, x2 i = ((W (i 1).val (i 2).val : ℝ) : EReal))
    ∧ (∃ P : ℕ → ℕ → ℝ, ∀ i, x3 i = ((P (i 1).val (i 2).val : ℝ) : EReal))
    ∧ (∃ D : ℕ → ℕ → ℝ, ∀ i, x4 i = ((D (i 1).val (i 2).val : ℝ) : EReal)) := by
  have e := congrFun h (fun a => a.elim0)
  unfold Pre_finite_gate.fn Pre_finite_gate.fn_part1 at e
  dsimp only at e
  obtain ⟨e, e4⟩ := and_split _ _ _ e
  obtain ⟨e, e3⟩ := and_split _ _ _ e
  obtain ⟨e, e2⟩ := and_split _ _ _ e
  obtain ⟨e0, e1⟩ := and_split _ _ _ e
  haveI : Subsingleton Pre_finite_gate.S_.Idx := ⟨fun a b => funext fun i => i.elim0⟩
  exact ⟨exists_slab _ (real_of_all _ _ _ _ _ (fun _ => rfl) _ e0), exists_row _ (real_of_all _ _ _ _ _ (fun _ => rfl) _ e1),
    exists_slab _ (real_of_all _ _ _ _ _ (fun _ => rfl) _ e2), exists_slab _ (real_of_all _ _ _ _ _ (fun _ => rfl) _ e3),
    exists_slab _ (real_of_all _ _ _ _ _ (fun _ => rfl) _ e4)⟩

variable (m : (ℓ : Loc Cert.GateBwdIdeal.nD Cert.GateBwdIdeal.τ Cert.GateBwdIdeal.sig) → Buf (Elt Ideal) ℓ) (c : Dev Cert.GateBwdIdeal.nD)
variable (x0 x4 : (⟨Cert.GateRefIdeal.S1x8192x1024, .f32⟩ : BufTy).Contents (Elt Ideal)) (x1 : (⟨Cert.GateRefIdeal.S1x1024, .f32⟩ : BufTy).Contents (Elt Ideal))
variable (x2 : (⟨Cert.GateRefIdeal.S1x1024x5632, .f32⟩ : BufTy).Contents (Elt Ideal)) (x3 : (⟨Cert.GateRefIdeal.S1x2816x1024, .f32⟩ : BufTy).Contents (Elt Ideal))
variable (a0 : x0 = m ((c : Thread Cert.GateBwdIdeal.nD Cert.GateBwdIdeal.τ).loc Cert.GateBwdIdeal.main_arg0))
variable (a1 : x1 = m ((c : Thread Cert.GateBwdIdeal.nD Cert.GateBwdIdeal.τ).loc Cert.GateBwdIdeal.main_arg1))
variable (a2 : x2 = m ((c : Thread Cert.GateBwdIdeal.nD Cert.GateBwdIdeal.τ).loc Cert.GateBwdIdeal.main_arg2))
variable (a3 : x3 = m ((c : Thread Cert.GateBwdIdeal.nD Cert.GateBwdIdeal.τ).loc Cert.GateBwdIdeal.main_arg3))
variable (a4 : x4 = m ((c : Thread Cert.GateBwdIdeal.nD Cert.GateBwdIdeal.τ).loc Cert.GateBwdIdeal.main_arg4))
variable (H W P D : ℕ → ℕ → ℝ) (G : ℕ → ℝ)
variable (h0 : ∀ i, (m ((c : Thread Cert.GateBwdIdeal.nD Cert.GateBwdIdeal.τ).loc Cert.GateBwdIdeal.main_arg0) : Cert.GateRefIdeal.S1x8192x1024.Idx → EReal) i = ((H (i 1).val (i 2).val : ℝ) : EReal))
variable (h1 : ∀ i, (m ((c : Thread Cert.GateBwdIdeal.nD Cert.GateBwdIdeal.τ).loc Cert.GateBwdIdeal.main_arg1) : Cert.GateRefIdeal.S1x1024.Idx → EReal) i = ((G (i 1).val : ℝ) : EReal))
variable (h2 : ∀ i, (m ((c : Thread Cert.GateBwdIdeal.nD Cert.GateBwdIdeal.τ).loc Cert.GateBwdIdeal.main_arg2) : Cert.GateRefIdeal.S1x1024x5632.Idx → EReal) i = ((W (i 1).val (i 2).val : ℝ) : EReal))
variable (h3 : ∀ i, (m ((c : Thread Cert.GateBwdIdeal.nD Cert.GateBwdIdeal.τ).loc Cert.GateBwdIdeal.main_arg3) : Cert.GateRefIdeal.S1x2816x1024.Idx → EReal) i = ((P (i 1).val (i 2).val : ℝ) : EReal))
variable (h4 : ∀ i, (m ((c : Thread Cert.GateBwdIdeal.nD Cert.GateBwdIdeal.τ).loc Cert.GateBwdIdeal.main_arg4) : Cert.GateRefIdeal.S1x8192x1024.Idx → EReal) i = ((D (i 1).val (i 2).val : ℝ) : EReal))

include a0 a1 a2 a3 a4 h0 h1 h2 h3 h4 in
theorem eq3 : Cert.GateRefIdeal.Read.val_main_v32 (F := Ideal) x0 x1 x2 x3 x4 = (Cert.GateBwdIdeal.Gen.dats m 0 c).arrAt 3 Cert.GateBwdIdeal.cfg0.N := by
  subst a0 a1 a2 a3 a4
  refine Eq.trans ?_ (Cert.GateBwdIdeal.Real.final3 m c H W P D G h0 h1 h2 h3 h4).symm
  funext i
  exact Cert.GateRefIdeal.Real.dab_apply H W P D G _ _ _ _ _ h0 h1 h2 h3 h4 i

set_option maxHeartbeats 4000000 in
theorem algebraic : Cert.algebraic_GateBwdIdeal_GateRefIdeal_pre_finite_gate := by
  intro m g m' g' hpre harg
  refine ⟨fun c => (Cert.GateBwdIdeal.Gen.dats m 0 c).arrAt 3 Cert.GateBwdIdeal.cfg0.N, Cert.GateBwdIdeal.Value.run_blocks m g, ?_⟩
  refine (θ_run _ _ _).mono (fun r h c => ?_) (Cert.GateRefIdeal.Value.run m' g')
  obtain ⟨⟨H, h0⟩, ⟨G, h1⟩, ⟨W, h2⟩, ⟨P, h3⟩, ⟨D, h4⟩⟩ := reals _ _ _ _ _ (hpre c)
  obtain ⟨a0, a1, a2, a3, a4⟩ := harg c
  obtain ⟨r0, rest⟩ := h c
  refine ⟨r0.trans ?_, rest⟩
  exact (Cert.GateRefIdeal.Read.val_main_v32_eq m' c).trans (eq3 m c _ _ _ _ _ a0 a1 a2 a3 a4 H W P D G h0 h1 h2 h3 h4)

/-- The reference runs, leaves its arguments as they were, and uses no semaphore. -/
theorem frameRef : Cert.quiescent_GateRefIdeal := fun m ρ _ =>
  (θ_run Cert.GateRefIdeal.defs _ _).mono
    (fun r h => ⟨fun c => (h c).2, Idealize.ShloMosaic.sem_eq_zero_of_no_sems (by decide) r.2⟩)
    (Cert.GateRefIdeal.Value.run (F := Ideal) m ρ)

end Cert.GateClaim

end
-- ==== Proof.lean ====
/- The claims about the kernel's calls, put together: the frames are the generated ones, no rewrite was made by the
   idealizations, and the values are proved in the modules `Proof.<Pair>Claim`. -/
module

public import proofs.«01_k».proof.Defs
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormRefIdeal
public import proofs.«01_k».proof.Proof.Gen.NormRefIdeal.Run
public import proofs.«01_k».proof.Proof.Gen.AttnBwd
public import proofs.«01_k».proof.Proof.Gen.AttnBwd.Frame
public import proofs.«01_k».proof.Proof.Gen.AttnBwdIdeal
public import proofs.«01_k».proof.Proof.Gen.AttnBwdIdeal.Frame
public import proofs.«01_k».proof.Proof.Gen.AttnRefIdeal
public import proofs.«01_k».proof.Proof.Gen.AttnRefIdeal.Run
public import proofs.«01_k».proof.Proof.Gen.MixBwd
public import proofs.«01_k».proof.Proof.Gen.MixBwd.Frame
public import proofs.«01_k».proof.Proof.Gen.MixBwdIdeal
public import proofs.«01_k».proof.Proof.Gen.MixBwdIdeal.Frame
public import proofs.«01_k».proof.Proof.Gen.MixRefIdeal
public import proofs.«01_k».proof.Proof.Gen.MixRefIdeal.Run
public import proofs.«01_k».proof.Proof.Gen.LossBwd
public import proofs.«01_k».proof.Proof.Gen.LossBwd.Frame
public import proofs.«01_k».proof.Proof.Gen.LossBwdIdeal
public import proofs.«01_k».proof.Proof.Gen.LossBwdIdeal.Frame
public import proofs.«01_k».proof.Proof.Gen.LossRefIdeal
public import proofs.«01_k».proof.Proof.Gen.LossRefIdeal.Run
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdRefIdeal
public import proofs.«01_k».proof.Proof.Gen.AttnFwdRefIdeal.Run
public import proofs.«01_k».proof.Proof.Gen.UpFwd
public import proofs.«01_k».proof.Proof.Gen.UpFwd.Frame
public import proofs.«01_k».proof.Proof.Gen.UpFwdIdeal
public import proofs.«01_k».proof.Proof.Gen.UpFwdIdeal.Frame
public import proofs.«01_k».proof.Proof.Gen.UpRefIdeal
public import proofs.«01_k».proof.Proof.Gen.UpRefIdeal.Run
public import proofs.«01_k».proof.Proof.Gen.ProjBwd
public import proofs.«01_k».proof.Proof.Gen.ProjBwd.Frame
public import proofs.«01_k».proof.Proof.Gen.ProjBwdIdeal
public import proofs.«01_k».proof.Proof.Gen.ProjBwdIdeal.Frame
public import proofs.«01_k».proof.Proof.Gen.ProjRefIdeal
public import proofs.«01_k».proof.Proof.Gen.ProjRefIdeal.Run
public import proofs.«01_k».proof.Proof.Gen.InFwd
public import proofs.«01_k».proof.Proof.Gen.InFwd.Frame
public import proofs.«01_k».proof.Proof.Gen.InFwdIdeal
public import proofs.«01_k».proof.Proof.Gen.InFwdIdeal.Frame
public import proofs.«01_k».proof.Proof.Gen.InRefIdeal
public import proofs.«01_k».proof.Proof.Gen.InRefIdeal.Run
public import proofs.«01_k».proof.Proof.Gen.GateBwd
public import proofs.«01_k».proof.Proof.Gen.GateBwd.Frame
public import proofs.«01_k».proof.Proof.Gen.GateBwdIdeal
public import proofs.«01_k».proof.Proof.Gen.GateBwdIdeal.Frame
public import proofs.«01_k».proof.Proof.Gen.GateRefIdeal
public import proofs.«01_k».proof.Proof.Gen.GateRefIdeal.Run
public import proofs.«01_k».proof.Proof.Gen.Pre_finite_norm
public import proofs.«01_k».proof.Proof.Gen.Pre_finite_attn
public import proofs.«01_k».proof.Proof.Gen.Pre_finite_loss
public import proofs.«01_k».proof.Proof.Gen.Pre_finite_attn_fwd
public import proofs.«01_k».proof.Proof.Gen.Pre_finite_proj
public import proofs.«01_k».proof.Proof.Gen.Pre_finite_gate
public import proofs.«01_k».proof.Proof.NormClaim
public import proofs.«01_k».proof.Proof.AttnClaim
public import proofs.«01_k».proof.Proof.MixClaim
public import proofs.«01_k».proof.Proof.LossClaim
public import proofs.«01_k».proof.Proof.AttnFwdClaim
public import proofs.«01_k».proof.Proof.UpClaim
public import proofs.«01_k».proof.Proof.ProjClaim
public import proofs.«01_k».proof.Proof.InClaim
public import proofs.«01_k».proof.Proof.GateClaim

@[expose] public section

noncomputable section

namespace Cert.Proof

open Idealize.ShloMosaic Idealize.SL.Sem

/-- Every claim of the certificate. -/
theorem claim : Cert.Claim := ⟨Cert.NormBwd.Gen.facts,
  Cert.NormBwdIdeal.Gen.facts,
  Cert.NormRefIdeal.Gen.facts,
  Cert.AttnBwd.Gen.facts,
  Cert.AttnBwdIdeal.Gen.facts,
  Cert.AttnRefIdeal.Gen.facts,
  Cert.MixBwd.Gen.facts,
  Cert.MixBwdIdeal.Gen.facts,
  Cert.MixRefIdeal.Gen.facts,
  Cert.LossBwd.Gen.facts,
  Cert.LossBwdIdeal.Gen.facts,
  Cert.LossRefIdeal.Gen.facts,
  Cert.AttnFwd.Gen.facts,
  Cert.AttnFwdIdeal.Gen.facts,
  Cert.AttnFwdRefIdeal.Gen.facts,
  Cert.UpFwd.Gen.facts,
  Cert.UpFwdIdeal.Gen.facts,
  Cert.UpRefIdeal.Gen.facts,
  Cert.ProjBwd.Gen.facts,
  Cert.ProjBwdIdeal.Gen.facts,
  Cert.ProjRefIdeal.Gen.facts,
  Cert.InFwd.Gen.facts,
  Cert.InFwdIdeal.Gen.facts,
  Cert.InRefIdeal.Gen.facts,
  Cert.GateBwd.Gen.facts,
  Cert.GateBwdIdeal.Gen.facts,
  Cert.GateRefIdeal.Gen.facts,
  Cert.Pre_finite_norm.Gen.facts,
  Cert.Pre_finite_attn.Gen.facts,
  Cert.Pre_finite_loss.Gen.facts,
  Cert.Pre_finite_attn_fwd.Gen.facts,
  Cert.Pre_finite_proj.Gen.facts,
  Cert.Pre_finite_gate.Gen.facts,
  fun m ρ _ => Cert.NormBwd.Gen.frame m ρ,
  fun m ρ _ => Cert.NormBwdIdeal.Gen.frame m ρ,
  fun m ρ _ => Cert.NormBwdIdeal.Gen.frame m ρ,
  fun m ρ _ => Cert.NormClaim.frameRef m ρ trivial,
  fun m ρ _ => Cert.NormClaim.frameRef m ρ trivial,
  fun m ρ _ => Cert.AttnBwd.Gen.frame m ρ,
  fun m ρ _ => Cert.AttnBwdIdeal.Gen.frame m ρ,
  fun m ρ _ => Cert.AttnBwdIdeal.Gen.frame m ρ,
  fun m ρ _ => Cert.AttnClaim.frameRef m ρ trivial,
  fun m ρ _ => Cert.AttnClaim.frameRef m ρ trivial,
  fun m ρ _ => Cert.MixBwd.Gen.frame m ρ,
  fun m ρ _ => Cert.MixBwdIdeal.Gen.frame m ρ,
  fun m ρ _ => Cert.MixClaim.frameRef m ρ trivial,
  fun m ρ _ => Cert.LossBwd.Gen.frame m ρ,
  fun m ρ _ => Cert.LossBwdIdeal.Gen.frame m ρ,
  fun m ρ _ => Cert.LossBwdIdeal.Gen.frame m ρ,
  fun m ρ _ => Cert.LossClaim.frameRef m ρ trivial,
  fun m ρ _ => Cert.LossClaim.frameRef m ρ trivial,
  fun m ρ _ => Cert.AttnFwd.Gen.frame m ρ,
  fun m ρ _ => Cert.AttnFwdIdeal.Gen.frame m ρ,
  fun m ρ _ => Cert.AttnFwdIdeal.Gen.frame m ρ,
  fun m ρ _ => Cert.AttnFwdClaim.frameRef m ρ trivial,
  fun m ρ _ => Cert.AttnFwdClaim.frameRef m ρ trivial,
  fun m ρ _ => Cert.UpFwd.Gen.frame m ρ,
  fun m ρ _ => Cert.UpFwdIdeal.Gen.frame m ρ,
  fun m ρ _ => Cert.UpClaim.frameRef m ρ trivial,
  fun m ρ _ => Cert.ProjBwd.Gen.frame m ρ,
  fun m ρ _ => Cert.ProjBwdIdeal.Gen.frame m ρ,
  fun m ρ _ => Cert.ProjBwdIdeal.Gen.frame m ρ,
  fun m ρ _ => Cert.ProjClaim.frameRef m ρ trivial,
  fun m ρ _ => Cert.ProjClaim.frameRef m ρ trivial,
  fun m ρ _ => Cert.InFwd.Gen.frame m ρ,
  fun m ρ _ => Cert.InFwdIdeal.Gen.frame m ρ,
  fun m ρ _ => Cert.InClaim.frameRef m ρ trivial,
  fun m ρ _ => Cert.GateBwd.Gen.frame m ρ,
  fun m ρ _ => Cert.GateBwdIdeal.Gen.frame m ρ,
  fun m ρ _ => Cert.GateBwdIdeal.Gen.frame m ρ,
  fun m ρ _ => Cert.GateClaim.frameRef m ρ trivial,
  fun m ρ _ => Cert.GateClaim.frameRef m ρ trivial,
  trivial,
  Cert.NormClaim.algebraic,
  trivial,
  Cert.AttnClaim.algebraic,
  trivial,
  Cert.MixClaim.algebraic,
  trivial,
  Cert.LossClaim.algebraic,
  trivial,
  Cert.AttnFwdClaim.algebraic,
  trivial,
  Cert.UpClaim.algebraic,
  trivial,
  Cert.ProjClaim.algebraic,
  trivial,
  Cert.InClaim.algebraic,
  trivial,
  Cert.GateClaim.algebraic⟩

end Cert.Proof

end
